-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDv (m : (ℓ : Loc Cert.KernelDv.nD Cert.KernelDv.τ Cert.KernelDv.sig) → Buf (Elt Bits) ℓ) : Prop :=
  True

def Pre_KernelDvIdeal (m : (ℓ : Loc Cert.KernelDvIdeal.nD Cert.KernelDvIdeal.τ Cert.KernelDvIdeal.sig) → Buf (Elt Ideal) ℓ) : Prop :=
  True

def Pre_ReferenceDvIdeal (m : (ℓ : Loc Cert.ReferenceDvIdeal.nD Cert.ReferenceDvIdeal.τ Cert.ReferenceDvIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_KernelDnIdeal_finite_norm [hPre_finite_norm : Cert.Pre_finite_norm.Facts] (m : (ℓ : Loc Cert.KernelDnIdeal.nD Cert.KernelDnIdeal.τ Cert.KernelDnIdeal.sig) → Buf (Elt Ideal) ℓ) : Prop :=
  ∀ c : Dev Cert.KernelDnIdeal.nD,
    (Cert.Pre_finite_norm.fn (F := Ideal) (m ((c.tc : Thread Cert.KernelDnIdeal.nD Cert.KernelDnIdeal.τ).loc Cert.KernelDnIdeal.main_arg0)) (m ((c.tc : Thread Cert.KernelDnIdeal.nD Cert.KernelDnIdeal.τ).loc Cert.KernelDnIdeal.main_arg1)) (m ((c.tc : Thread Cert.KernelDnIdeal.nD Cert.KernelDnIdeal.τ).loc Cert.KernelDnIdeal.main_arg2)) (m ((c.tc : Thread Cert.KernelDnIdeal.nD Cert.KernelDnIdeal.τ).loc Cert.KernelDnIdeal.main_arg3)) (m ((c.tc : Thread Cert.KernelDnIdeal.nD Cert.KernelDnIdeal.τ).loc Cert.KernelDnIdeal.main_arg4))) = (fun _ => 1#1)

def Pre_ReferenceDnIdeal (m : (ℓ : Loc Cert.ReferenceDnIdeal.nD Cert.ReferenceDnIdeal.τ Cert.ReferenceDnIdeal.sig) → Buf (Elt Ideal) ℓ) : Prop :=
  True

def Pre_ReferenceDnIdeal_finite_norm [hPre_finite_norm : Cert.Pre_finite_norm.Facts] (m : (ℓ : Loc Cert.ReferenceDnIdeal.nD Cert.ReferenceDnIdeal.τ Cert.ReferenceDnIdeal.sig) → Buf (Elt Ideal) ℓ) : Prop :=
  ∀ c : Dev Cert.ReferenceDnIdeal.nD,
    (Cert.Pre_finite_norm.fn (F := Ideal) (m ((c.tc : Thread Cert.ReferenceDnIdeal.nD Cert.ReferenceDnIdeal.τ).loc Cert.ReferenceDnIdeal.main_arg0)) (m ((c.tc : Thread Cert.ReferenceDnIdeal.nD Cert.ReferenceDnIdeal.τ).loc Cert.ReferenceDnIdeal.main_arg1)) (m ((c.tc : Thread Cert.ReferenceDnIdeal.nD Cert.ReferenceDnIdeal.τ).loc Cert.ReferenceDnIdeal.main_arg2)) (m ((c.tc : Thread Cert.ReferenceDnIdeal.nD Cert.ReferenceDnIdeal.τ).loc Cert.ReferenceDnIdeal.main_arg3)) (m ((c.tc : Thread Cert.ReferenceDnIdeal.nD Cert.ReferenceDnIdeal.τ).loc Cert.ReferenceDnIdeal.main_arg4))) = (fun _ => 1#1)

def Pre_KernelDq (m : (ℓ : Loc Cert.KernelDq.nD Cert.KernelDq.τ Cert.KernelDq.sig) → Buf (Elt Bits) ℓ) : Prop :=
  True

def Pre_KernelDqIdeal (m : (ℓ : Loc Cert.KernelDqIdeal.nD Cert.KernelDqIdeal.τ Cert.KernelDqIdeal.sig) → Buf (Elt Ideal) ℓ) : Prop :=
  True

def Pre_KernelDqIdeal_finite_norm_mix [hPre_finite_norm_mix : Cert.Pre_finite_norm_mix.Facts] (m : (ℓ : Loc Cert.KernelDqIdeal.nD Cert.KernelDqIdeal.τ Cert.KernelDqIdeal.sig) → Buf (Elt Ideal) ℓ) : Prop :=
  ∀ c : Dev Cert.KernelDqIdeal.nD,
    (Cert.Pre_finite_norm_mix.fn (F := Ideal) (m ((c.tc : Thread Cert.KernelDqIdeal.nD Cert.KernelDqIdeal.τ).loc Cert.KernelDqIdeal.main_arg0)) (m ((c.tc : Thread Cert.KernelDqIdeal.nD Cert.KernelDqIdeal.τ).loc Cert.KernelDqIdeal.main_arg1)) (m ((c.tc : Thread Cert.KernelDqIdeal.nD Cert.KernelDqIdeal.τ).loc Cert.KernelDqIdeal.main_arg2)) (m ((c.tc : Thread Cert.KernelDqIdeal.nD Cert.KernelDqIdeal.τ).loc Cert.KernelDqIdeal.main_arg3)) (m ((c.tc : Thread Cert.KernelDqIdeal.nD Cert.KernelDqIdeal.τ).loc Cert.KernelDqIdeal.main_arg4)) (m ((c.tc : Thread Cert.KernelDqIdeal.nD Cert.KernelDqIdeal.τ).loc Cert.KernelDqIdeal.main_arg5)) (m ((c.tc : Thread Cert.KernelDqIdeal.nD Cert.KernelDqIdeal.τ).loc Cert.KernelDqIdeal.main_arg6))) = (fun _ => 1#1)

def Pre_ReferenceDqIdeal (m : (ℓ : Loc Cert.ReferenceDqIdeal.nD Cert.ReferenceDqIdeal.τ Cert.ReferenceDqIdeal.sig) → Buf (Elt Ideal) ℓ) : Prop :=
  True

def Pre_ReferenceDqIdeal_finite_norm_mix [hPre_finite_norm_mix : Cert.Pre_finite_norm_mix.Facts] (m : (ℓ : Loc Cert.ReferenceDqIdeal.nD Cert.ReferenceDqIdeal.τ Cert.ReferenceDqIdeal.sig) → Buf (Elt Ideal) ℓ) : Prop :=
  ∀ c : Dev Cert.ReferenceDqIdeal.nD,
    (Cert.Pre_finite_norm_mix.fn (F := Ideal) (m ((c.tc : Thread Cert.ReferenceDqIdeal.nD Cert.ReferenceDqIdeal.τ).loc Cert.ReferenceDqIdeal.main_arg0)) (m ((c.tc : Thread Cert.ReferenceDqIdeal.nD Cert.ReferenceDqIdeal.τ).loc Cert.ReferenceDqIdeal.main_arg1)) (m ((c.tc : Thread Cert.ReferenceDqIdeal.nD Cert.ReferenceDqIdeal.τ).loc Cert.ReferenceDqIdeal.main_arg2)) (m ((c.tc : Thread Cert.ReferenceDqIdeal.nD Cert.ReferenceDqIdeal.τ).loc Cert.ReferenceDqIdeal.main_arg3)) (m ((c.tc : Thread Cert.ReferenceDqIdeal.nD Cert.ReferenceDqIdeal.τ).loc Cert.ReferenceDqIdeal.main_arg4)) (m ((c.tc : Thread Cert.ReferenceDqIdeal.nD Cert.ReferenceDqIdeal.τ).loc Cert.ReferenceDqIdeal.main_arg5)) (m ((c.tc : Thread Cert.ReferenceDqIdeal.nD Cert.ReferenceDqIdeal.τ).loc Cert.ReferenceDqIdeal.main_arg6))) = (fun _ => 1#1)

def Pre_KernelDp (m : (ℓ : Loc Cert.KernelDp.nD Cert.KernelDp.τ Cert.KernelDp.sig) → Buf (Elt Bits) ℓ) : Prop :=
  True

def Pre_KernelDpIdeal (m : (ℓ : Loc Cert.KernelDpIdeal.nD Cert.KernelDpIdeal.τ Cert.KernelDpIdeal.sig) → Buf (Elt Ideal) ℓ) : Prop :=
  True

def Pre_KernelDpIdeal_finite_norm_out [hPre_finite_norm_out : Cert.Pre_finite_norm_out.Facts] (m : (ℓ : Loc Cert.KernelDpIdeal.nD Cert.KernelDpIdeal.τ Cert.KernelDpIdeal.sig) → Buf (Elt Ideal) ℓ) : Prop :=
  ∀ c : Dev Cert.KernelDpIdeal.nD,
    (Cert.Pre_finite_norm_out.fn (F := Ideal) (m ((c.tc : Thread Cert.KernelDpIdeal.nD Cert.KernelDpIdeal.τ).loc Cert.KernelDpIdeal.main_arg0)) (m ((c.tc : Thread Cert.KernelDpIdeal.nD Cert.KernelDpIdeal.τ).loc Cert.KernelDpIdeal.main_arg1)) (m ((c.tc : Thread Cert.KernelDpIdeal.nD Cert.KernelDpIdeal.τ).loc Cert.KernelDpIdeal.main_arg2)) (m ((c.tc : Thread Cert.KernelDpIdeal.nD Cert.KernelDpIdeal.τ).loc Cert.KernelDpIdeal.main_arg3)) (m ((c.tc : Thread Cert.KernelDpIdeal.nD Cert.KernelDpIdeal.τ).loc Cert.KernelDpIdeal.main_arg4)) (m ((c.tc : Thread Cert.KernelDpIdeal.nD Cert.KernelDpIdeal.τ).loc Cert.KernelDpIdeal.main_arg5))) = (fun _ => 1#1)

def Pre_ReferenceDpIdeal (m : (ℓ : Loc Cert.ReferenceDpIdeal.nD Cert.ReferenceDpIdeal.τ Cert.ReferenceDpIdeal.sig) → Buf (Elt Ideal) ℓ) : Prop :=
  True

def Pre_ReferenceDpIdeal_finite_norm_out [hPre_finite_norm_out : Cert.Pre_finite_norm_out.Facts] (m : (ℓ : Loc Cert.ReferenceDpIdeal.nD Cert.ReferenceDpIdeal.τ Cert.ReferenceDpIdeal.sig) → Buf (Elt Ideal) ℓ) : Prop :=
  ∀ c : Dev Cert.ReferenceDpIdeal.nD,
    (Cert.Pre_finite_norm_out.fn (F := Ideal) (m ((c.tc : Thread Cert.ReferenceDpIdeal.nD Cert.ReferenceDpIdeal.τ).loc Cert.ReferenceDpIdeal.main_arg0)) (m ((c.tc : Thread Cert.ReferenceDpIdeal.nD Cert.ReferenceDpIdeal.τ).loc Cert.ReferenceDpIdeal.main_arg1)) (m ((c.tc : Thread Cert.ReferenceDpIdeal.nD Cert.ReferenceDpIdeal.τ).loc Cert.ReferenceDpIdeal.main_arg2)) (m ((c.tc : Thread Cert.ReferenceDpIdeal.nD Cert.ReferenceDpIdeal.τ).loc Cert.ReferenceDpIdeal.main_arg3)) (m ((c.tc : Thread Cert.ReferenceDpIdeal.nD Cert.ReferenceDpIdeal.τ).loc Cert.ReferenceDpIdeal.main_arg4)) (m ((c.tc : Thread Cert.ReferenceDpIdeal.nD Cert.ReferenceDpIdeal.τ).loc Cert.ReferenceDpIdeal.main_arg5))) = (fun _ => 1#1)

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelLs (m : (ℓ : Loc Cert.KernelLs.nD Cert.KernelLs.τ Cert.KernelLs.sig) → Buf (Elt Bits) ℓ) : Prop :=
  True

def Pre_KernelLsIdeal (m : (ℓ : Loc Cert.KernelLsIdeal.nD Cert.KernelLsIdeal.τ Cert.KernelLsIdeal.sig) → Buf (Elt Ideal) ℓ) : Prop :=
  True

def Pre_KernelLsIdeal_finite_loss [hPre_finite_loss : Cert.Pre_finite_loss.Facts] (m : (ℓ : Loc Cert.KernelLsIdeal.nD Cert.KernelLsIdeal.τ Cert.KernelLsIdeal.sig) → Buf (Elt Ideal) ℓ) : Prop :=
  ∀ c : Dev Cert.KernelLsIdeal.nD,
    (Cert.Pre_finite_loss.fn (F := Ideal) (m ((c.tc : Thread Cert.KernelLsIdeal.nD Cert.KernelLsIdeal.τ).loc Cert.KernelLsIdeal.main_arg0)) (m ((c.tc : Thread Cert.KernelLsIdeal.nD Cert.KernelLsIdeal.τ).loc Cert.KernelLsIdeal.main_arg1)) (m ((c.tc : Thread Cert.KernelLsIdeal.nD Cert.KernelLsIdeal.τ).loc Cert.KernelLsIdeal.main_arg2)) (m ((c.tc : Thread Cert.KernelLsIdeal.nD Cert.KernelLsIdeal.τ).loc Cert.KernelLsIdeal.main_arg3)) (m ((c.tc : Thread Cert.KernelLsIdeal.nD Cert.KernelLsIdeal.τ).loc Cert.KernelLsIdeal.main_arg4)) (m ((c.tc : Thread Cert.KernelLsIdeal.nD Cert.KernelLsIdeal.τ).loc Cert.KernelLsIdeal.main_arg5))) = (fun _ => 1#1)

def Pre_ReferenceLsIdeal (m : (ℓ : Loc Cert.ReferenceLsIdeal.nD Cert.ReferenceLsIdeal.τ Cert.ReferenceLsIdeal.sig) → Buf (Elt Ideal) ℓ) : Prop :=
  True

def Pre_ReferenceLsIdeal_finite_loss [hPre_finite_loss : Cert.Pre_finite_loss.Facts] (m : (ℓ : Loc Cert.ReferenceLsIdeal.nD Cert.ReferenceLsIdeal.τ Cert.ReferenceLsIdeal.sig) → Buf (Elt Ideal) ℓ) : Prop :=
  ∀ c : Dev Cert.ReferenceLsIdeal.nD,
    (Cert.Pre_finite_loss.fn (F := Ideal) (m ((c.tc : Thread Cert.ReferenceLsIdeal.nD Cert.ReferenceLsIdeal.τ).loc Cert.ReferenceLsIdeal.main_arg0)) (m ((c.tc : Thread Cert.ReferenceLsIdeal.nD Cert.ReferenceLsIdeal.τ).loc Cert.ReferenceLsIdeal.main_arg1)) (m ((c.tc : Thread Cert.ReferenceLsIdeal.nD Cert.ReferenceLsIdeal.τ).loc Cert.ReferenceLsIdeal.main_arg2)) (m ((c.tc : Thread Cert.ReferenceLsIdeal.nD Cert.ReferenceLsIdeal.τ).loc Cert.ReferenceLsIdeal.main_arg3)) (m ((c.tc : Thread Cert.ReferenceLsIdeal.nD Cert.ReferenceLsIdeal.τ).loc Cert.ReferenceLsIdeal.main_arg4)) (m ((c.tc : Thread Cert.ReferenceLsIdeal.nD Cert.ReferenceLsIdeal.τ).loc Cert.ReferenceLsIdeal.main_arg5))) = (fun _ => 1#1)

def Pre_KernelLp (m : (ℓ : Loc Cert.KernelLp.nD Cert.KernelLp.τ Cert.KernelLp.sig) → Buf (Elt Bits) ℓ) : Prop :=
  True

def Pre_KernelLpIdeal (m : (ℓ : Loc Cert.KernelLpIdeal.nD Cert.KernelLpIdeal.τ Cert.KernelLpIdeal.sig) → Buf (Elt Ideal) ℓ) : Prop :=
  True

def Pre_ReferenceLpIdeal (m : (ℓ : Loc Cert.ReferenceLpIdeal.nD Cert.ReferenceLpIdeal.τ Cert.ReferenceLpIdeal.sig) → Buf (Elt Ideal) ℓ) : Prop :=
  True

def Pre_KernelLm (m : (ℓ : Loc Cert.KernelLm.nD Cert.KernelLm.τ Cert.KernelLm.sig) → Buf (Elt Bits) ℓ) : Prop :=
  True

def Pre_KernelLmIdeal (m : (ℓ : Loc Cert.KernelLmIdeal.nD Cert.KernelLmIdeal.τ Cert.KernelLmIdeal.sig) → Buf (Elt Ideal) ℓ) : Prop :=
  True

def Pre_ReferenceLmIdeal (m : (ℓ : Loc Cert.ReferenceLmIdeal.nD Cert.ReferenceLmIdeal.τ Cert.ReferenceLmIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelDm (m : (ℓ : Loc Cert.KernelDm.nD Cert.KernelDm.τ Cert.KernelDm.sig) → Buf (Elt Bits) ℓ) : Prop :=
  True

def Pre_KernelDmIdeal (m : (ℓ : Loc Cert.KernelDmIdeal.nD Cert.KernelDmIdeal.τ Cert.KernelDmIdeal.sig) → Buf (Elt Ideal) ℓ) : Prop :=
  True

def Pre_ReferenceDmIdeal (m : (ℓ : Loc Cert.ReferenceDmIdeal.nD Cert.ReferenceDmIdeal.τ Cert.ReferenceDmIdeal.sig) → Buf (Elt Ideal) ℓ) : Prop :=
  True

def Pre_KernelIb (m : (ℓ : Loc Cert.KernelIb.nD Cert.KernelIb.τ Cert.KernelIb.sig) → Buf (Elt Bits) ℓ) : Prop :=
  True

def Pre_KernelIbIdeal (m : (ℓ : Loc Cert.KernelIbIdeal.nD Cert.KernelIbIdeal.τ Cert.KernelIbIdeal.sig) → Buf (Elt Ideal) ℓ) : Prop :=
  True

def Pre_ReferenceIbIdeal (m : (ℓ : Loc Cert.ReferenceIbIdeal.nD Cert.ReferenceIbIdeal.τ Cert.ReferenceIbIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDv [hKernelDv : Cert.KernelDv.Facts] : Prop :=
  ∀ (m : (ℓ : Loc Cert.KernelDv.nD Cert.KernelDv.τ Cert.KernelDv.sig) → Buf (Elt Bits) ℓ) (g : Dev Cert.KernelDv.nD → PrngReg), Pre_KernelDv m →
    θ_run (Cert.KernelDv.defs (F := Bits)) (onTc (τ := Cert.KernelDv.τ) (Cert.KernelDv.main (F := Bits))) ⟨m, fun _ => 0, g⟩ (fun r => (∀ c : Dev Cert.KernelDv.nD,
      r.2.mem ((c.tc : Thread Cert.KernelDv.nD Cert.KernelDv.τ).loc Cert.KernelDv.main_arg0) = m ((c.tc : Thread Cert.KernelDv.nD Cert.KernelDv.τ).loc Cert.KernelDv.main_arg0)
      ∧ r.2.mem ((c.tc : Thread Cert.KernelDv.nD Cert.KernelDv.τ).loc Cert.KernelDv.main_arg1) = m ((c.tc : Thread Cert.KernelDv.nD Cert.KernelDv.τ).loc Cert.KernelDv.main_arg1))
      ∧ r.2.sem = fun _ => 0)

def quiescent_KernelDvIdeal [hKernelDvIdeal : Cert.KernelDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg), Pre_KernelDvIdeal m →
    θ_run (Cert.KernelDvIdeal.defs (F := Ideal)) (onTc (τ := Cert.KernelDvIdeal.τ) (Cert.KernelDvIdeal.main (F := Ideal))) ⟨m, fun _ => 0, g⟩ (fun r => (∀ c : Dev Cert.KernelDvIdeal.nD,
      r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
      ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1))
      ∧ r.2.sem = fun _ => 0)

def quiescent_ReferenceDvIdeal [hReferenceDvIdeal : Cert.ReferenceDvIdeal.Facts] : Prop :=
  ∀ (m : (ℓ : Loc Cert.ReferenceDvIdeal.nD Cert.ReferenceDvIdeal.τ Cert.ReferenceDvIdeal.sig) → Buf (Elt Ideal) ℓ) (g : Dev Cert.ReferenceDvIdeal.nD → PrngReg), Pre_ReferenceDvIdeal m →
    θ_run (Cert.ReferenceDvIdeal.defs (F := Ideal)) (onTc (τ := Cert.ReferenceDvIdeal.τ) (Cert.ReferenceDvIdeal.main (F := Ideal))) ⟨m, fun _ => 0, g⟩ (fun r => (∀ c : Dev Cert.ReferenceDvIdeal.nD,
      r.2.mem ((c.tc : Thread Cert.ReferenceDvIdeal.nD Cert.ReferenceDvIdeal.τ).loc Cert.ReferenceDvIdeal.main_arg0) = m ((c.tc : Thread Cert.ReferenceDvIdeal.nD Cert.ReferenceDvIdeal.τ).loc Cert.ReferenceDvIdeal.main_arg0)
      ∧ r.2.mem ((c.tc : Thread Cert.ReferenceDvIdeal.nD Cert.ReferenceDvIdeal.τ).loc Cert.ReferenceDvIdeal.main_arg1) = m ((c.tc : Thread Cert.ReferenceDvIdeal.nD Cert.ReferenceDvIdeal.τ).loc Cert.ReferenceDvIdeal.main_arg1))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2)
      ∧ r.2.mem ((c.tc : Thread Cert.KernelDn.nD Cert.KernelDn.τ).loc Cert.KernelDn.main_arg3) = m ((c.tc : Thread Cert.KernelDn.nD Cert.KernelDn.τ).loc Cert.KernelDn.main_arg3)
      ∧ r.2.mem ((c.tc : Thread Cert.KernelDn.nD Cert.KernelDn.τ).loc Cert.KernelDn.main_arg4) = m ((c.tc : Thread Cert.KernelDn.nD Cert.KernelDn.τ).loc Cert.KernelDn.main_arg4))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ r.2.sem = fun _ => 0)

def quiescent_KernelDnIdeal_pre_finite_norm [hKernelDnIdeal : Cert.KernelDnIdeal.Facts] [hPre_finite_norm : Cert.Pre_finite_norm.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal_finite_norm m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4))
      ∧ r.2.sem = fun _ => 0)

def quiescent_ReferenceDnIdeal_pre_finite_norm [hReferenceDnIdeal : Cert.ReferenceDnIdeal.Facts] [hPre_finite_norm : Cert.Pre_finite_norm.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal_finite_norm m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4))
      ∧ r.2.sem = fun _ => 0)

def quiescent_KernelDq [hKernelDq : Cert.KernelDq.Facts] : Prop :=
  ∀ (m : (ℓ : Loc Cert.KernelDq.nD Cert.KernelDq.τ Cert.KernelDq.sig) → Buf (Elt Bits) ℓ) (g : Dev Cert.KernelDq.nD → PrngReg), Pre_KernelDq m →
    θ_run (Cert.KernelDq.defs (F := Bits)) (onTc (τ := Cert.KernelDq.τ) (Cert.KernelDq.main (F := Bits))) ⟨m, fun _ => 0, g⟩ (fun r => (∀ c : Dev Cert.KernelDq.nD,
      r.2.mem ((c.tc : Thread Cert.KernelDq.nD Cert.KernelDq.τ).loc Cert.KernelDq.main_arg0) = m ((c.tc : Thread Cert.KernelDq.nD Cert.KernelDq.τ).loc Cert.KernelDq.main_arg0)
      ∧ r.2.mem ((c.tc : Thread Cert.KernelDq.nD Cert.KernelDq.τ).loc Cert.KernelDq.main_arg1) = m ((c.tc : Thread Cert.KernelDq.nD Cert.KernelDq.τ).loc Cert.KernelDq.main_arg1)
      ∧ r.2.mem ((c.tc : Thread Cert.KernelDq.nD Cert.KernelDq.τ).loc Cert.KernelDq.main_arg2) = m ((c.tc : Thread Cert.KernelDq.nD Cert.KernelDq.τ).loc Cert.KernelDq.main_arg2)
      ∧ r.2.mem ((c.tc : Thread Cert.KernelDq.nD Cert.KernelDq.τ).loc Cert.KernelDq.main_arg3) = m ((c.tc : Thread Cert.KernelDq.nD Cert.KernelDq.τ).loc Cert.KernelDq.main_arg3)
      ∧ r.2.mem ((c.tc : Thread Cert.KernelDq.nD Cert.KernelDq.τ).loc Cert.KernelDq.main_arg4) = m ((c.tc : Thread Cert.KernelDq.nD Cert.KernelDq.τ).loc Cert.KernelDq.main_arg4)
      ∧ r.2.mem ((c.tc : Thread Cert.KernelDq.nD Cert.KernelDq.τ).loc Cert.KernelDq.main_arg5) = m ((c.tc : Thread Cert.KernelDq.nD Cert.KernelDq.τ).loc Cert.KernelDq.main_arg5)
      ∧ r.2.mem ((c.tc : Thread Cert.KernelDq.nD Cert.KernelDq.τ).loc Cert.KernelDq.main_arg6) = m ((c.tc : Thread Cert.KernelDq.nD Cert.KernelDq.τ).loc Cert.KernelDq.main_arg6))
      ∧ r.2.sem = fun _ => 0)

def quiescent_KernelDqIdeal [hKernelDqIdeal : Cert.KernelDqIdeal.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5)
      ∧ r.2.mem ((c.tc : Thread Cert.KernelDqIdeal.nD Cert.KernelDqIdeal.τ).loc Cert.KernelDqIdeal.main_arg6) = m ((c.tc : Thread Cert.KernelDqIdeal.nD Cert.KernelDqIdeal.τ).loc Cert.KernelDqIdeal.main_arg6))
      ∧ r.2.sem = fun _ => 0)

def quiescent_KernelDqIdeal_pre_finite_norm_mix [hKernelDqIdeal : Cert.KernelDqIdeal.Facts] [hPre_finite_norm_mix : Cert.Pre_finite_norm_mix.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal_finite_norm_mix m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5)
      ∧ r.2.mem ((c.tc : Thread Cert.KernelDqIdeal.nD Cert.KernelDqIdeal.τ).loc Cert.KernelDqIdeal.main_arg6) = m ((c.tc : Thread Cert.KernelDqIdeal.nD Cert.KernelDqIdeal.τ).loc Cert.KernelDqIdeal.main_arg6))
      ∧ r.2.sem = fun _ => 0)

def quiescent_ReferenceDqIdeal [hReferenceDqIdeal : Cert.ReferenceDqIdeal.Facts] : Prop :=
  ∀ (m : (ℓ : Loc Cert.ReferenceDqIdeal.nD Cert.ReferenceDqIdeal.τ Cert.ReferenceDqIdeal.sig) → Buf (Elt Ideal) ℓ) (g : Dev Cert.ReferenceDqIdeal.nD → PrngReg), Pre_ReferenceDqIdeal m →
    θ_run (Cert.ReferenceDqIdeal.defs (F := Ideal)) (onTc (τ := Cert.ReferenceDqIdeal.τ) (Cert.ReferenceDqIdeal.main (F := Ideal))) ⟨m, fun _ => 0, g⟩ (fun r => (∀ c : Dev Cert.ReferenceDqIdeal.nD,
      r.2.mem ((c.tc : Thread Cert.ReferenceDqIdeal.nD Cert.ReferenceDqIdeal.τ).loc Cert.ReferenceDqIdeal.main_arg0) = m ((c.tc : Thread Cert.ReferenceDqIdeal.nD Cert.ReferenceDqIdeal.τ).loc Cert.ReferenceDqIdeal.main_arg0)
      ∧ r.2.mem ((c.tc : Thread Cert.ReferenceDqIdeal.nD Cert.ReferenceDqIdeal.τ).loc Cert.ReferenceDqIdeal.main_arg1) = m ((c.tc : Thread Cert.ReferenceDqIdeal.nD Cert.ReferenceDqIdeal.τ).loc Cert.ReferenceDqIdeal.main_arg1)
      ∧ r.2.mem ((c.tc : Thread Cert.ReferenceDqIdeal.nD Cert.ReferenceDqIdeal.τ).loc Cert.ReferenceDqIdeal.main_arg2) = m ((c.tc : Thread Cert.ReferenceDqIdeal.nD Cert.ReferenceDqIdeal.τ).loc Cert.ReferenceDqIdeal.main_arg2)
      ∧ r.2.mem ((c.tc : Thread Cert.ReferenceDqIdeal.nD Cert.ReferenceDqIdeal.τ).loc Cert.ReferenceDqIdeal.main_arg3) = m ((c.tc : Thread Cert.ReferenceDqIdeal.nD Cert.ReferenceDqIdeal.τ).loc Cert.ReferenceDqIdeal.main_arg3)
      ∧ r.2.mem ((c.tc : Thread Cert.ReferenceDqIdeal.nD Cert.ReferenceDqIdeal.τ).loc Cert.ReferenceDqIdeal.main_arg4) = m ((c.tc : Thread Cert.ReferenceDqIdeal.nD Cert.ReferenceDqIdeal.τ).loc Cert.ReferenceDqIdeal.main_arg4)
      ∧ r.2.mem ((c.tc : Thread Cert.ReferenceDqIdeal.nD Cert.ReferenceDqIdeal.τ).loc Cert.ReferenceDqIdeal.main_arg5) = m ((c.tc : Thread Cert.ReferenceDqIdeal.nD Cert.ReferenceDqIdeal.τ).loc Cert.ReferenceDqIdeal.main_arg5)
      ∧ r.2.mem ((c.tc : Thread Cert.ReferenceDqIdeal.nD Cert.ReferenceDqIdeal.τ).loc Cert.ReferenceDqIdeal.main_arg6) = m ((c.tc : Thread Cert.ReferenceDqIdeal.nD Cert.ReferenceDqIdeal.τ).loc Cert.ReferenceDqIdeal.main_arg6))
      ∧ r.2.sem = fun _ => 0)

def quiescent_ReferenceDqIdeal_pre_finite_norm_mix [hReferenceDqIdeal : Cert.ReferenceDqIdeal.Facts] [hPre_finite_norm_mix : Cert.Pre_finite_norm_mix.Facts] : Prop :=
  ∀ (m : (ℓ : Loc Cert.ReferenceDqIdeal.nD Cert.ReferenceDqIdeal.τ Cert.ReferenceDqIdeal.sig) → Buf (Elt Ideal) ℓ) (g : Dev Cert.ReferenceDqIdeal.nD → PrngReg), Pre_ReferenceDqIdeal_finite_norm_mix m →
    θ_run (Cert.ReferenceDqIdeal.defs (F := Ideal)) (onTc (τ := Cert.ReferenceDqIdeal.τ) (Cert.ReferenceDqIdeal.main (F := Ideal))) ⟨m, fun _ => 0, g⟩ (fun r => (∀ c : Dev Cert.ReferenceDqIdeal.nD,
      r.2.mem ((c.tc : Thread Cert.ReferenceDqIdeal.nD Cert.ReferenceDqIdeal.τ).loc Cert.ReferenceDqIdeal.main_arg0) = m ((c.tc : Thread Cert.ReferenceDqIdeal.nD Cert.ReferenceDqIdeal.τ).loc Cert.ReferenceDqIdeal.main_arg0)
      ∧ r.2.mem ((c.tc : Thread Cert.ReferenceDqIdeal.nD Cert.ReferenceDqIdeal.τ).loc Cert.ReferenceDqIdeal.main_arg1) = m ((c.tc : Thread Cert.ReferenceDqIdeal.nD Cert.ReferenceDqIdeal.τ).loc Cert.ReferenceDqIdeal.main_arg1)
      ∧ r.2.mem ((c.tc : Thread Cert.ReferenceDqIdeal.nD Cert.ReferenceDqIdeal.τ).loc Cert.ReferenceDqIdeal.main_arg2) = m ((c.tc : Thread Cert.ReferenceDqIdeal.nD Cert.ReferenceDqIdeal.τ).loc Cert.ReferenceDqIdeal.main_arg2)
      ∧ r.2.mem ((c.tc : Thread Cert.ReferenceDqIdeal.nD Cert.ReferenceDqIdeal.τ).loc Cert.ReferenceDqIdeal.main_arg3) = m ((c.tc : Thread Cert.ReferenceDqIdeal.nD Cert.ReferenceDqIdeal.τ).loc Cert.ReferenceDqIdeal.main_arg3)
      ∧ r.2.mem ((c.tc : Thread Cert.ReferenceDqIdeal.nD Cert.ReferenceDqIdeal.τ).loc Cert.ReferenceDqIdeal.main_arg4) = m ((c.tc : Thread Cert.ReferenceDqIdeal.nD Cert.ReferenceDqIdeal.τ).loc Cert.ReferenceDqIdeal.main_arg4)
      ∧ r.2.mem ((c.tc : Thread Cert.ReferenceDqIdeal.nD Cert.ReferenceDqIdeal.τ).loc Cert.ReferenceDqIdeal.main_arg5) = m ((c.tc : Thread Cert.ReferenceDqIdeal.nD Cert.ReferenceDqIdeal.τ).loc Cert.ReferenceDqIdeal.main_arg5)
      ∧ r.2.mem ((c.tc : Thread Cert.ReferenceDqIdeal.nD Cert.ReferenceDqIdeal.τ).loc Cert.ReferenceDqIdeal.main_arg6) = m ((c.tc : Thread Cert.ReferenceDqIdeal.nD Cert.ReferenceDqIdeal.τ).loc Cert.ReferenceDqIdeal.main_arg6))
      ∧ r.2.sem = fun _ => 0)

def quiescent_KernelDp [hKernelDp : Cert.KernelDp.Facts] : Prop :=
  ∀ (m : (ℓ : Loc Cert.KernelDp.nD Cert.KernelDp.τ Cert.KernelDp.sig) → Buf (Elt Bits) ℓ) (g : Dev Cert.KernelDp.nD → PrngReg), Pre_KernelDp m →
    θ_run (Cert.KernelDp.defs (F := Bits)) (onTc (τ := Cert.KernelDp.τ) (Cert.KernelDp.main (F := Bits))) ⟨m, fun _ => 0, g⟩ (fun r => (∀ c : Dev Cert.KernelDp.nD,
      r.2.mem ((c.tc : Thread Cert.KernelDp.nD Cert.KernelDp.τ).loc Cert.KernelDp.main_arg0) = m ((c.tc : Thread Cert.KernelDp.nD Cert.KernelDp.τ).loc Cert.KernelDp.main_arg0)
      ∧ r.2.mem ((c.tc : Thread Cert.KernelDp.nD Cert.KernelDp.τ).loc Cert.KernelDp.main_arg1) = m ((c.tc : Thread Cert.KernelDp.nD Cert.KernelDp.τ).loc Cert.KernelDp.main_arg1)
      ∧ r.2.mem ((c.tc : Thread Cert.KernelDp.nD Cert.KernelDp.τ).loc Cert.KernelDp.main_arg2) = m ((c.tc : Thread Cert.KernelDp.nD Cert.KernelDp.τ).loc Cert.KernelDp.main_arg2)
      ∧ r.2.mem ((c.tc : Thread Cert.KernelDp.nD Cert.KernelDp.τ).loc Cert.KernelDp.main_arg3) = m ((c.tc : Thread Cert.KernelDp.nD Cert.KernelDp.τ).loc Cert.KernelDp.main_arg3)
      ∧ r.2.mem ((c.tc : Thread Cert.KernelDp.nD Cert.KernelDp.τ).loc Cert.KernelDp.main_arg4) = m ((c.tc : Thread Cert.KernelDp.nD Cert.KernelDp.τ).loc Cert.KernelDp.main_arg4)
      ∧ r.2.mem ((c.tc : Thread Cert.KernelDp.nD Cert.KernelDp.τ).loc Cert.KernelDp.main_arg5) = m ((c.tc : Thread Cert.KernelDp.nD Cert.KernelDp.τ).loc Cert.KernelDp.main_arg5))
      ∧ r.2.sem = fun _ => 0)

def quiescent_KernelDpIdeal [hKernelDpIdeal : Cert.KernelDpIdeal.Facts] : Prop :=
  ∀ (m : (ℓ : Loc Cert.KernelDpIdeal.nD Cert.KernelDpIdeal.τ Cert.KernelDpIdeal.sig) → Buf (Elt Ideal) ℓ) (g : Dev Cert.KernelDpIdeal.nD → PrngReg), Pre_KernelDpIdeal m →
    θ_run (Cert.KernelDpIdeal.defs (F := Ideal)) (onTc (τ := Cert.KernelDpIdeal.τ) (Cert.KernelDpIdeal.main (F := Ideal))) ⟨m, fun _ => 0, g⟩ (fun r => (∀ c : Dev Cert.KernelDpIdeal.nD,
      r.2.mem ((c.tc : Thread Cert.KernelDpIdeal.nD Cert.KernelDpIdeal.τ).loc Cert.KernelDpIdeal.main_arg0) = m ((c.tc : Thread Cert.KernelDpIdeal.nD Cert.KernelDpIdeal.τ).loc Cert.KernelDpIdeal.main_arg0)
      ∧ r.2.mem ((c.tc : Thread Cert.KernelDpIdeal.nD Cert.KernelDpIdeal.τ).loc Cert.KernelDpIdeal.main_arg1) = m ((c.tc : Thread Cert.KernelDpIdeal.nD Cert.KernelDpIdeal.τ).loc Cert.KernelDpIdeal.main_arg1)
      ∧ r.2.mem ((c.tc : Thread Cert.KernelDpIdeal.nD Cert.KernelDpIdeal.τ).loc Cert.KernelDpIdeal.main_arg2) = m ((c.tc : Thread Cert.KernelDpIdeal.nD Cert.KernelDpIdeal.τ).loc Cert.KernelDpIdeal.main_arg2)
      ∧ r.2.mem ((c.tc : Thread Cert.KernelDpIdeal.nD Cert.KernelDpIdeal.τ).loc Cert.KernelDpIdeal.main_arg3) = m ((c.tc : Thread Cert.KernelDpIdeal.nD Cert.KernelDpIdeal.τ).loc Cert.KernelDpIdeal.main_arg3)
      ∧ r.2.mem ((c.tc : Thread Cert.KernelDpIdeal.nD Cert.KernelDpIdeal.τ).loc Cert.KernelDpIdeal.main_arg4) = m ((c.tc : Thread Cert.KernelDpIdeal.nD Cert.KernelDpIdeal.τ).loc Cert.KernelDpIdeal.main_arg4)
      ∧ r.2.mem ((c.tc : Thread Cert.KernelDpIdeal.nD Cert.KernelDpIdeal.τ).loc Cert.KernelDpIdeal.main_arg5) = m ((c.tc : Thread Cert.KernelDpIdeal.nD Cert.KernelDpIdeal.τ).loc Cert.KernelDpIdeal.main_arg5))
      ∧ r.2.sem = fun _ => 0)

def quiescent_KernelDpIdeal_pre_finite_norm_out [hKernelDpIdeal : Cert.KernelDpIdeal.Facts] [hPre_finite_norm_out : Cert.Pre_finite_norm_out.Facts] : Prop :=
  ∀ (m : (ℓ : Loc Cert.KernelDpIdeal.nD Cert.KernelDpIdeal.τ Cert.KernelDpIdeal.sig) → Buf (Elt Ideal) ℓ) (g : Dev Cert.KernelDpIdeal.nD → PrngReg), Pre_KernelDpIdeal_finite_norm_out m →
    θ_run (Cert.KernelDpIdeal.defs (F := Ideal)) (onTc (τ := Cert.KernelDpIdeal.τ) (Cert.KernelDpIdeal.main (F := Ideal))) ⟨m, fun _ => 0, g⟩ (fun r => (∀ c : Dev Cert.KernelDpIdeal.nD,
      r.2.mem ((c.tc : Thread Cert.KernelDpIdeal.nD Cert.KernelDpIdeal.τ).loc Cert.KernelDpIdeal.main_arg0) = m ((c.tc : Thread Cert.KernelDpIdeal.nD Cert.KernelDpIdeal.τ).loc Cert.KernelDpIdeal.main_arg0)
      ∧ r.2.mem ((c.tc : Thread Cert.KernelDpIdeal.nD Cert.KernelDpIdeal.τ).loc Cert.KernelDpIdeal.main_arg1) = m ((c.tc : Thread Cert.KernelDpIdeal.nD Cert.KernelDpIdeal.τ).loc Cert.KernelDpIdeal.main_arg1)
      ∧ r.2.mem ((c.tc : Thread Cert.KernelDpIdeal.nD Cert.KernelDpIdeal.τ).loc Cert.KernelDpIdeal.main_arg2) = m ((c.tc : Thread Cert.KernelDpIdeal.nD Cert.KernelDpIdeal.τ).loc Cert.KernelDpIdeal.main_arg2)
      ∧ r.2.mem ((c.tc : Thread Cert.KernelDpIdeal.nD Cert.KernelDpIdeal.τ).loc Cert.KernelDpIdeal.main_arg3) = m ((c.tc : Thread Cert.KernelDpIdeal.nD Cert.KernelDpIdeal.τ).loc Cert.KernelDpIdeal.main_arg3)
      ∧ r.2.mem ((c.tc : Thread Cert.KernelDpIdeal.nD Cert.KernelDpIdeal.τ).loc Cert.KernelDpIdeal.main_arg4) = m ((c.tc : Thread Cert.KernelDpIdeal.nD Cert.KernelDpIdeal.τ).loc Cert.KernelDpIdeal.main_arg4)
      ∧ r.2.mem ((c.tc : Thread Cert.KernelDpIdeal.nD Cert.KernelDpIdeal.τ).loc Cert.KernelDpIdeal.main_arg5) = m ((c.tc : Thread Cert.KernelDpIdeal.nD Cert.KernelDpIdeal.τ).loc Cert.KernelDpIdeal.main_arg5))
      ∧ r.2.sem = fun _ => 0)

def quiescent_ReferenceDpIdeal [hReferenceDpIdeal : Cert.ReferenceDpIdeal.Facts] : Prop :=
  ∀ (m : (ℓ : Loc Cert.ReferenceDpIdeal.nD Cert.ReferenceDpIdeal.τ Cert.ReferenceDpIdeal.sig) → Buf (Elt Ideal) ℓ) (g : Dev Cert.ReferenceDpIdeal.nD → PrngReg), Pre_ReferenceDpIdeal m →
    θ_run (Cert.ReferenceDpIdeal.defs (F := Ideal)) (onTc (τ := Cert.ReferenceDpIdeal.τ) (Cert.ReferenceDpIdeal.main (F := Ideal))) ⟨m, fun _ => 0, g⟩ (fun r => (∀ c : Dev Cert.ReferenceDpIdeal.nD,
      r.2.mem ((c.tc : Thread Cert.ReferenceDpIdeal.nD Cert.ReferenceDpIdeal.τ).loc Cert.ReferenceDpIdeal.main_arg0) = m ((c.tc : Thread Cert.ReferenceDpIdeal.nD Cert.ReferenceDpIdeal.τ).loc Cert.ReferenceDpIdeal.main_arg0)
      ∧ r.2.mem ((c.tc : Thread Cert.ReferenceDpIdeal.nD Cert.ReferenceDpIdeal.τ).loc Cert.ReferenceDpIdeal.main_arg1) = m ((c.tc : Thread Cert.ReferenceDpIdeal.nD Cert.ReferenceDpIdeal.τ).loc Cert.ReferenceDpIdeal.main_arg1)
      ∧ r.2.mem ((c.tc : Thread Cert.ReferenceDpIdeal.nD Cert.ReferenceDpIdeal.τ).loc Cert.ReferenceDpIdeal.main_arg2) = m ((c.tc : Thread Cert.ReferenceDpIdeal.nD Cert.ReferenceDpIdeal.τ).loc Cert.ReferenceDpIdeal.main_arg2)
      ∧ r.2.mem ((c.tc : Thread Cert.ReferenceDpIdeal.nD Cert.ReferenceDpIdeal.τ).loc Cert.ReferenceDpIdeal.main_arg3) = m ((c.tc : Thread Cert.ReferenceDpIdeal.nD Cert.ReferenceDpIdeal.τ).loc Cert.ReferenceDpIdeal.main_arg3)
      ∧ r.2.mem ((c.tc : Thread Cert.ReferenceDpIdeal.nD Cert.ReferenceDpIdeal.τ).loc Cert.ReferenceDpIdeal.main_arg4) = m ((c.tc : Thread Cert.ReferenceDpIdeal.nD Cert.ReferenceDpIdeal.τ).loc Cert.ReferenceDpIdeal.main_arg4)
      ∧ r.2.mem ((c.tc : Thread Cert.ReferenceDpIdeal.nD Cert.ReferenceDpIdeal.τ).loc Cert.ReferenceDpIdeal.main_arg5) = m ((c.tc : Thread Cert.ReferenceDpIdeal.nD Cert.ReferenceDpIdeal.τ).loc Cert.ReferenceDpIdeal.main_arg5))
      ∧ r.2.sem = fun _ => 0)

def quiescent_ReferenceDpIdeal_pre_finite_norm_out [hReferenceDpIdeal : Cert.ReferenceDpIdeal.Facts] [hPre_finite_norm_out : Cert.Pre_finite_norm_out.Facts] : Prop :=
  ∀ (m : (ℓ : Loc Cert.ReferenceDpIdeal.nD Cert.ReferenceDpIdeal.τ Cert.ReferenceDpIdeal.sig) → Buf (Elt Ideal) ℓ) (g : Dev Cert.ReferenceDpIdeal.nD → PrngReg), Pre_ReferenceDpIdeal_finite_norm_out m →
    θ_run (Cert.ReferenceDpIdeal.defs (F := Ideal)) (onTc (τ := Cert.ReferenceDpIdeal.τ) (Cert.ReferenceDpIdeal.main (F := Ideal))) ⟨m, fun _ => 0, g⟩ (fun r => (∀ c : Dev Cert.ReferenceDpIdeal.nD,
      r.2.mem ((c.tc : Thread Cert.ReferenceDpIdeal.nD Cert.ReferenceDpIdeal.τ).loc Cert.ReferenceDpIdeal.main_arg0) = m ((c.tc : Thread Cert.ReferenceDpIdeal.nD Cert.ReferenceDpIdeal.τ).loc Cert.ReferenceDpIdeal.main_arg0)
      ∧ r.2.mem ((c.tc : Thread Cert.ReferenceDpIdeal.nD Cert.ReferenceDpIdeal.τ).loc Cert.ReferenceDpIdeal.main_arg1) = m ((c.tc : Thread Cert.ReferenceDpIdeal.nD Cert.ReferenceDpIdeal.τ).loc Cert.ReferenceDpIdeal.main_arg1)
      ∧ r.2.mem ((c.tc : Thread Cert.ReferenceDpIdeal.nD Cert.ReferenceDpIdeal.τ).loc Cert.ReferenceDpIdeal.main_arg2) = m ((c.tc : Thread Cert.ReferenceDpIdeal.nD Cert.ReferenceDpIdeal.τ).loc Cert.ReferenceDpIdeal.main_arg2)
      ∧ r.2.mem ((c.tc : Thread Cert.ReferenceDpIdeal.nD Cert.ReferenceDpIdeal.τ).loc Cert.ReferenceDpIdeal.main_arg3) = m ((c.tc : Thread Cert.ReferenceDpIdeal.nD Cert.ReferenceDpIdeal.τ).loc Cert.ReferenceDpIdeal.main_arg3)
      ∧ r.2.mem ((c.tc : Thread Cert.ReferenceDpIdeal.nD Cert.ReferenceDpIdeal.τ).loc Cert.ReferenceDpIdeal.main_arg4) = m ((c.tc : Thread Cert.ReferenceDpIdeal.nD Cert.ReferenceDpIdeal.τ).loc Cert.ReferenceDpIdeal.main_arg4)
      ∧ r.2.mem ((c.tc : Thread Cert.ReferenceDpIdeal.nD Cert.ReferenceDpIdeal.τ).loc Cert.ReferenceDpIdeal.main_arg5) = m ((c.tc : Thread Cert.ReferenceDpIdeal.nD Cert.ReferenceDpIdeal.τ).loc Cert.ReferenceDpIdeal.main_arg5))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3)
      ∧ r.2.mem ((c.tc : Thread Cert.KernelLn.nD Cert.KernelLn.τ).loc Cert.KernelLn.main_arg4) = m ((c.tc : Thread Cert.KernelLn.nD Cert.KernelLn.τ).loc Cert.KernelLn.main_arg4))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
      ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3)
      ∧ r.2.mem ((c.tc : Thread Cert.ReferenceLnIdeal.nD Cert.ReferenceLnIdeal.τ).loc Cert.ReferenceLnIdeal.main_arg4) = m ((c.tc : Thread Cert.ReferenceLnIdeal.nD Cert.ReferenceLnIdeal.τ).loc Cert.ReferenceLnIdeal.main_arg4))
      ∧ r.2.sem = fun _ => 0)

def quiescent_KernelLs [hKernelLs : Cert.KernelLs.Facts] : Prop :=
  ∀ (m : (ℓ : Loc Cert.KernelLs.nD Cert.KernelLs.τ Cert.KernelLs.sig) → Buf (Elt Bits) ℓ) (g : Dev Cert.KernelLs.nD → PrngReg), Pre_KernelLs m →
    θ_run (Cert.KernelLs.defs (F := Bits)) (onTc (τ := Cert.KernelLs.τ) (Cert.KernelLs.main (F := Bits))) ⟨m, fun _ => 0, g⟩ (fun r => (∀ c : Dev Cert.KernelLs.nD,
      r.2.mem ((c.tc : Thread Cert.KernelLs.nD Cert.KernelLs.τ).loc Cert.KernelLs.main_arg0) = m ((c.tc : Thread Cert.KernelLs.nD Cert.KernelLs.τ).loc Cert.KernelLs.main_arg0)
      ∧ r.2.mem ((c.tc : Thread Cert.KernelLs.nD Cert.KernelLs.τ).loc Cert.KernelLs.main_arg1) = m ((c.tc : Thread Cert.KernelLs.nD Cert.KernelLs.τ).loc Cert.KernelLs.main_arg1)
      ∧ r.2.mem ((c.tc : Thread Cert.KernelLs.nD Cert.KernelLs.τ).loc Cert.KernelLs.main_arg2) = m ((c.tc : Thread Cert.KernelLs.nD Cert.KernelLs.τ).loc Cert.KernelLs.main_arg2)
      ∧ r.2.mem ((c.tc : Thread Cert.KernelLs.nD Cert.KernelLs.τ).loc Cert.KernelLs.main_arg3) = m ((c.tc : Thread Cert.KernelLs.nD Cert.KernelLs.τ).loc Cert.KernelLs.main_arg3)
      ∧ r.2.mem ((c.tc : Thread Cert.KernelLs.nD Cert.KernelLs.τ).loc Cert.KernelLs.main_arg4) = m ((c.tc : Thread Cert.KernelLs.nD Cert.KernelLs.τ).loc Cert.KernelLs.main_arg4)
      ∧ r.2.mem ((c.tc : Thread Cert.KernelLs.nD Cert.KernelLs.τ).loc Cert.KernelLs.main_arg5) = m ((c.tc : Thread Cert.KernelLs.nD Cert.KernelLs.τ).loc Cert.KernelLs.main_arg5))
      ∧ r.2.sem = fun _ => 0)

def quiescent_KernelLsIdeal [hKernelLsIdeal : Cert.KernelLsIdeal.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ r.2.sem = fun _ => 0)

def quiescent_KernelLsIdeal_pre_finite_loss [hKernelLsIdeal : Cert.KernelLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal_finite_loss m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ r.2.sem = fun _ => 0)

def quiescent_ReferenceLsIdeal [hReferenceLsIdeal : Cert.ReferenceLsIdeal.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5))
      ∧ r.2.sem = fun _ => 0)

def quiescent_ReferenceLsIdeal_pre_finite_loss [hReferenceLsIdeal : Cert.ReferenceLsIdeal.Facts] [hPre_finite_loss : Cert.Pre_finite_loss.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal_finite_loss m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5))
      ∧ r.2.sem = fun _ => 0)

def quiescent_KernelLp [hKernelLp : Cert.KernelLp.Facts] : Prop :=
  ∀ (m : (ℓ : Loc Cert.KernelLp.nD Cert.KernelLp.τ Cert.KernelLp.sig) → Buf (Elt Bits) ℓ) (g : Dev Cert.KernelLp.nD → PrngReg), Pre_KernelLp m →
    θ_run (Cert.KernelLp.defs (F := Bits)) (onTc (τ := Cert.KernelLp.τ) (Cert.KernelLp.main (F := Bits))) ⟨m, fun _ => 0, g⟩ (fun r => (∀ c : Dev Cert.KernelLp.nD,
      r.2.mem ((c.tc : Thread Cert.KernelLp.nD Cert.KernelLp.τ).loc Cert.KernelLp.main_arg0) = m ((c.tc : Thread Cert.KernelLp.nD Cert.KernelLp.τ).loc Cert.KernelLp.main_arg0)
      ∧ r.2.mem ((c.tc : Thread Cert.KernelLp.nD Cert.KernelLp.τ).loc Cert.KernelLp.main_arg1) = m ((c.tc : Thread Cert.KernelLp.nD Cert.KernelLp.τ).loc Cert.KernelLp.main_arg1)
      ∧ r.2.mem ((c.tc : Thread Cert.KernelLp.nD Cert.KernelLp.τ).loc Cert.KernelLp.main_arg2) = m ((c.tc : Thread Cert.KernelLp.nD Cert.KernelLp.τ).loc Cert.KernelLp.main_arg2)
      ∧ r.2.mem ((c.tc : Thread Cert.KernelLp.nD Cert.KernelLp.τ).loc Cert.KernelLp.main_arg3) = m ((c.tc : Thread Cert.KernelLp.nD Cert.KernelLp.τ).loc Cert.KernelLp.main_arg3)
      ∧ r.2.mem ((c.tc : Thread Cert.KernelLp.nD Cert.KernelLp.τ).loc Cert.KernelLp.main_arg4) = m ((c.tc : Thread Cert.KernelLp.nD Cert.KernelLp.τ).loc Cert.KernelLp.main_arg4)
      ∧ r.2.mem ((c.tc : Thread Cert.KernelLp.nD Cert.KernelLp.τ).loc Cert.KernelLp.main_arg5) = m ((c.tc : Thread Cert.KernelLp.nD Cert.KernelLp.τ).loc Cert.KernelLp.main_arg5)
      ∧ r.2.mem ((c.tc : Thread Cert.KernelLp.nD Cert.KernelLp.τ).loc Cert.KernelLp.main_arg6) = m ((c.tc : Thread Cert.KernelLp.nD Cert.KernelLp.τ).loc Cert.KernelLp.main_arg6))
      ∧ r.2.sem = fun _ => 0)

def quiescent_KernelLpIdeal [hKernelLpIdeal : Cert.KernelLpIdeal.Facts] : Prop :=
  ∀ (m : (ℓ : Loc Cert.KernelLpIdeal.nD Cert.KernelLpIdeal.τ Cert.KernelLpIdeal.sig) → Buf (Elt Ideal) ℓ) (g : Dev Cert.KernelLpIdeal.nD → PrngReg), Pre_KernelLpIdeal m →
    θ_run (Cert.KernelLpIdeal.defs (F := Ideal)) (onTc (τ := Cert.KernelLpIdeal.τ) (Cert.KernelLpIdeal.main (F := Ideal))) ⟨m, fun _ => 0, g⟩ (fun r => (∀ c : Dev Cert.KernelLpIdeal.nD,
      r.2.mem ((c.tc : Thread Cert.KernelLpIdeal.nD Cert.KernelLpIdeal.τ).loc Cert.KernelLpIdeal.main_arg0) = m ((c.tc : Thread Cert.KernelLpIdeal.nD Cert.KernelLpIdeal.τ).loc Cert.KernelLpIdeal.main_arg0)
      ∧ r.2.mem ((c.tc : Thread Cert.KernelLpIdeal.nD Cert.KernelLpIdeal.τ).loc Cert.KernelLpIdeal.main_arg1) = m ((c.tc : Thread Cert.KernelLpIdeal.nD Cert.KernelLpIdeal.τ).loc Cert.KernelLpIdeal.main_arg1)
      ∧ r.2.mem ((c.tc : Thread Cert.KernelLpIdeal.nD Cert.KernelLpIdeal.τ).loc Cert.KernelLpIdeal.main_arg2) = m ((c.tc : Thread Cert.KernelLpIdeal.nD Cert.KernelLpIdeal.τ).loc Cert.KernelLpIdeal.main_arg2)
      ∧ r.2.mem ((c.tc : Thread Cert.KernelLpIdeal.nD Cert.KernelLpIdeal.τ).loc Cert.KernelLpIdeal.main_arg3) = m ((c.tc : Thread Cert.KernelLpIdeal.nD Cert.KernelLpIdeal.τ).loc Cert.KernelLpIdeal.main_arg3)
      ∧ r.2.mem ((c.tc : Thread Cert.KernelLpIdeal.nD Cert.KernelLpIdeal.τ).loc Cert.KernelLpIdeal.main_arg4) = m ((c.tc : Thread Cert.KernelLpIdeal.nD Cert.KernelLpIdeal.τ).loc Cert.KernelLpIdeal.main_arg4)
      ∧ r.2.mem ((c.tc : Thread Cert.KernelLpIdeal.nD Cert.KernelLpIdeal.τ).loc Cert.KernelLpIdeal.main_arg5) = m ((c.tc : Thread Cert.KernelLpIdeal.nD Cert.KernelLpIdeal.τ).loc Cert.KernelLpIdeal.main_arg5)
      ∧ r.2.mem ((c.tc : Thread Cert.KernelLpIdeal.nD Cert.KernelLpIdeal.τ).loc Cert.KernelLpIdeal.main_arg6) = m ((c.tc : Thread Cert.KernelLpIdeal.nD Cert.KernelLpIdeal.τ).loc Cert.KernelLpIdeal.main_arg6))
      ∧ r.2.sem = fun _ => 0)

def quiescent_ReferenceLpIdeal [hReferenceLpIdeal : Cert.ReferenceLpIdeal.Facts] : Prop :=
  ∀ (m : (ℓ : Loc Cert.ReferenceLpIdeal.nD Cert.ReferenceLpIdeal.τ Cert.ReferenceLpIdeal.sig) → Buf (Elt Ideal) ℓ) (g : Dev Cert.ReferenceLpIdeal.nD → PrngReg), Pre_ReferenceLpIdeal m →
    θ_run (Cert.ReferenceLpIdeal.defs (F := Ideal)) (onTc (τ := Cert.ReferenceLpIdeal.τ) (Cert.ReferenceLpIdeal.main (F := Ideal))) ⟨m, fun _ => 0, g⟩ (fun r => (∀ c : Dev Cert.ReferenceLpIdeal.nD,
      r.2.mem ((c.tc : Thread Cert.ReferenceLpIdeal.nD Cert.ReferenceLpIdeal.τ).loc Cert.ReferenceLpIdeal.main_arg0) = m ((c.tc : Thread Cert.ReferenceLpIdeal.nD Cert.ReferenceLpIdeal.τ).loc Cert.ReferenceLpIdeal.main_arg0)
      ∧ r.2.mem ((c.tc : Thread Cert.ReferenceLpIdeal.nD Cert.ReferenceLpIdeal.τ).loc Cert.ReferenceLpIdeal.main_arg1) = m ((c.tc : Thread Cert.ReferenceLpIdeal.nD Cert.ReferenceLpIdeal.τ).loc Cert.ReferenceLpIdeal.main_arg1)
      ∧ r.2.mem ((c.tc : Thread Cert.ReferenceLpIdeal.nD Cert.ReferenceLpIdeal.τ).loc Cert.ReferenceLpIdeal.main_arg2) = m ((c.tc : Thread Cert.ReferenceLpIdeal.nD Cert.ReferenceLpIdeal.τ).loc Cert.ReferenceLpIdeal.main_arg2)
      ∧ r.2.mem ((c.tc : Thread Cert.ReferenceLpIdeal.nD Cert.ReferenceLpIdeal.τ).loc Cert.ReferenceLpIdeal.main_arg3) = m ((c.tc : Thread Cert.ReferenceLpIdeal.nD Cert.ReferenceLpIdeal.τ).loc Cert.ReferenceLpIdeal.main_arg3)
      ∧ r.2.mem ((c.tc : Thread Cert.ReferenceLpIdeal.nD Cert.ReferenceLpIdeal.τ).loc Cert.ReferenceLpIdeal.main_arg4) = m ((c.tc : Thread Cert.ReferenceLpIdeal.nD Cert.ReferenceLpIdeal.τ).loc Cert.ReferenceLpIdeal.main_arg4)
      ∧ r.2.mem ((c.tc : Thread Cert.ReferenceLpIdeal.nD Cert.ReferenceLpIdeal.τ).loc Cert.ReferenceLpIdeal.main_arg5) = m ((c.tc : Thread Cert.ReferenceLpIdeal.nD Cert.ReferenceLpIdeal.τ).loc Cert.ReferenceLpIdeal.main_arg5)
      ∧ r.2.mem ((c.tc : Thread Cert.ReferenceLpIdeal.nD Cert.ReferenceLpIdeal.τ).loc Cert.ReferenceLpIdeal.main_arg6) = m ((c.tc : Thread Cert.ReferenceLpIdeal.nD Cert.ReferenceLpIdeal.τ).loc Cert.ReferenceLpIdeal.main_arg6))
      ∧ r.2.sem = fun _ => 0)

def quiescent_KernelLm [hKernelLm : Cert.KernelLm.Facts] : Prop :=
  ∀ (m : (ℓ : Loc Cert.KernelLm.nD Cert.KernelLm.τ Cert.KernelLm.sig) → Buf (Elt Bits) ℓ) (g : Dev Cert.KernelLm.nD → PrngReg), Pre_KernelLm m →
    θ_run (Cert.KernelLm.defs (F := Bits)) (onTc (τ := Cert.KernelLm.τ) (Cert.KernelLm.main (F := Bits))) ⟨m, fun _ => 0, g⟩ (fun r => (∀ c : Dev Cert.KernelLm.nD,
      r.2.mem ((c.tc : Thread Cert.KernelLm.nD Cert.KernelLm.τ).loc Cert.KernelLm.main_arg0) = m ((c.tc : Thread Cert.KernelLm.nD Cert.KernelLm.τ).loc Cert.KernelLm.main_arg0)
      ∧ r.2.mem ((c.tc : Thread Cert.KernelLm.nD Cert.KernelLm.τ).loc Cert.KernelLm.main_arg1) = m ((c.tc : Thread Cert.KernelLm.nD Cert.KernelLm.τ).loc Cert.KernelLm.main_arg1)
      ∧ r.2.mem ((c.tc : Thread Cert.KernelLm.nD Cert.KernelLm.τ).loc Cert.KernelLm.main_arg2) = m ((c.tc : Thread Cert.KernelLm.nD Cert.KernelLm.τ).loc Cert.KernelLm.main_arg2)
      ∧ r.2.mem ((c.tc : Thread Cert.KernelLm.nD Cert.KernelLm.τ).loc Cert.KernelLm.main_arg3) = m ((c.tc : Thread Cert.KernelLm.nD Cert.KernelLm.τ).loc Cert.KernelLm.main_arg3)
      ∧ r.2.mem ((c.tc : Thread Cert.KernelLm.nD Cert.KernelLm.τ).loc Cert.KernelLm.main_arg4) = m ((c.tc : Thread Cert.KernelLm.nD Cert.KernelLm.τ).loc Cert.KernelLm.main_arg4))
      ∧ r.2.sem = fun _ => 0)

def quiescent_KernelLmIdeal [hKernelLmIdeal : Cert.KernelLmIdeal.Facts] : Prop :=
  ∀ (m : (ℓ : Loc Cert.KernelLmIdeal.nD Cert.KernelLmIdeal.τ Cert.KernelLmIdeal.sig) → Buf (Elt Ideal) ℓ) (g : Dev Cert.KernelLmIdeal.nD → PrngReg), Pre_KernelLmIdeal m →
    θ_run (Cert.KernelLmIdeal.defs (F := Ideal)) (onTc (τ := Cert.KernelLmIdeal.τ) (Cert.KernelLmIdeal.main (F := Ideal))) ⟨m, fun _ => 0, g⟩ (fun r => (∀ c : Dev Cert.KernelLmIdeal.nD,
      r.2.mem ((c.tc : Thread Cert.KernelLmIdeal.nD Cert.KernelLmIdeal.τ).loc Cert.KernelLmIdeal.main_arg0) = m ((c.tc : Thread Cert.KernelLmIdeal.nD Cert.KernelLmIdeal.τ).loc Cert.KernelLmIdeal.main_arg0)
      ∧ r.2.mem ((c.tc : Thread Cert.KernelLmIdeal.nD Cert.KernelLmIdeal.τ).loc Cert.KernelLmIdeal.main_arg1) = m ((c.tc : Thread Cert.KernelLmIdeal.nD Cert.KernelLmIdeal.τ).loc Cert.KernelLmIdeal.main_arg1)
      ∧ r.2.mem ((c.tc : Thread Cert.KernelLmIdeal.nD Cert.KernelLmIdeal.τ).loc Cert.KernelLmIdeal.main_arg2) = m ((c.tc : Thread Cert.KernelLmIdeal.nD Cert.KernelLmIdeal.τ).loc Cert.KernelLmIdeal.main_arg2)
      ∧ r.2.mem ((c.tc : Thread Cert.KernelLmIdeal.nD Cert.KernelLmIdeal.τ).loc Cert.KernelLmIdeal.main_arg3) = m ((c.tc : Thread Cert.KernelLmIdeal.nD Cert.KernelLmIdeal.τ).loc Cert.KernelLmIdeal.main_arg3)
      ∧ r.2.mem ((c.tc : Thread Cert.KernelLmIdeal.nD Cert.KernelLmIdeal.τ).loc Cert.KernelLmIdeal.main_arg4) = m ((c.tc : Thread Cert.KernelLmIdeal.nD Cert.KernelLmIdeal.τ).loc Cert.KernelLmIdeal.main_arg4))
      ∧ r.2.sem = fun _ => 0)

def quiescent_ReferenceLmIdeal [hReferenceLmIdeal : Cert.ReferenceLmIdeal.Facts] : Prop :=
  ∀ (m : (ℓ : Loc Cert.ReferenceLmIdeal.nD Cert.ReferenceLmIdeal.τ Cert.ReferenceLmIdeal.sig) → Buf (Elt Ideal) ℓ) (g : Dev Cert.ReferenceLmIdeal.nD → PrngReg), Pre_ReferenceLmIdeal m →
    θ_run (Cert.ReferenceLmIdeal.defs (F := Ideal)) (onTc (τ := Cert.ReferenceLmIdeal.τ) (Cert.ReferenceLmIdeal.main (F := Ideal))) ⟨m, fun _ => 0, g⟩ (fun r => (∀ c : Dev Cert.ReferenceLmIdeal.nD,
      r.2.mem ((c.tc : Thread Cert.ReferenceLmIdeal.nD Cert.ReferenceLmIdeal.τ).loc Cert.ReferenceLmIdeal.main_arg0) = m ((c.tc : Thread Cert.ReferenceLmIdeal.nD Cert.ReferenceLmIdeal.τ).loc Cert.ReferenceLmIdeal.main_arg0)
      ∧ r.2.mem ((c.tc : Thread Cert.ReferenceLmIdeal.nD Cert.ReferenceLmIdeal.τ).loc Cert.ReferenceLmIdeal.main_arg1) = m ((c.tc : Thread Cert.ReferenceLmIdeal.nD Cert.ReferenceLmIdeal.τ).loc Cert.ReferenceLmIdeal.main_arg1)
      ∧ r.2.mem ((c.tc : Thread Cert.ReferenceLmIdeal.nD Cert.ReferenceLmIdeal.τ).loc Cert.ReferenceLmIdeal.main_arg2) = m ((c.tc : Thread Cert.ReferenceLmIdeal.nD Cert.ReferenceLmIdeal.τ).loc Cert.ReferenceLmIdeal.main_arg2)
      ∧ r.2.mem ((c.tc : Thread Cert.ReferenceLmIdeal.nD Cert.ReferenceLmIdeal.τ).loc Cert.ReferenceLmIdeal.main_arg3) = m ((c.tc : Thread Cert.ReferenceLmIdeal.nD Cert.ReferenceLmIdeal.τ).loc Cert.ReferenceLmIdeal.main_arg3)
      ∧ r.2.mem ((c.tc : Thread Cert.ReferenceLmIdeal.nD Cert.ReferenceLmIdeal.τ).loc Cert.ReferenceLmIdeal.main_arg4) = m ((c.tc : Thread Cert.ReferenceLmIdeal.nD Cert.ReferenceLmIdeal.τ).loc Cert.ReferenceLmIdeal.main_arg4))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelDm [hKernelDm : Cert.KernelDm.Facts] : Prop :=
  ∀ (m : (ℓ : Loc Cert.KernelDm.nD Cert.KernelDm.τ Cert.KernelDm.sig) → Buf (Elt Bits) ℓ) (g : Dev Cert.KernelDm.nD → PrngReg), Pre_KernelDm m →
    θ_run (Cert.KernelDm.defs (F := Bits)) (onTc (τ := Cert.KernelDm.τ) (Cert.KernelDm.main (F := Bits))) ⟨m, fun _ => 0, g⟩ (fun r => (∀ c : Dev Cert.KernelDm.nD,
      r.2.mem ((c.tc : Thread Cert.KernelDm.nD Cert.KernelDm.τ).loc Cert.KernelDm.main_arg0) = m ((c.tc : Thread Cert.KernelDm.nD Cert.KernelDm.τ).loc Cert.KernelDm.main_arg0)
      ∧ r.2.mem ((c.tc : Thread Cert.KernelDm.nD Cert.KernelDm.τ).loc Cert.KernelDm.main_arg1) = m ((c.tc : Thread Cert.KernelDm.nD Cert.KernelDm.τ).loc Cert.KernelDm.main_arg1)
      ∧ r.2.mem ((c.tc : Thread Cert.KernelDm.nD Cert.KernelDm.τ).loc Cert.KernelDm.main_arg2) = m ((c.tc : Thread Cert.KernelDm.nD Cert.KernelDm.τ).loc Cert.KernelDm.main_arg2))
      ∧ r.2.sem = fun _ => 0)

def quiescent_KernelDmIdeal [hKernelDmIdeal : Cert.KernelDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg), Pre_KernelDmIdeal m →
    θ_run (Cert.KernelDmIdeal.defs (F := Ideal)) (onTc (τ := Cert.KernelDmIdeal.τ) (Cert.KernelDmIdeal.main (F := Ideal))) ⟨m, fun _ => 0, g⟩ (fun r => (∀ c : Dev Cert.KernelDmIdeal.nD,
      r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
      ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1)
      ∧ r.2.mem ((c.tc : Thread Cert.KernelDmIdeal.nD Cert.KernelDmIdeal.τ).loc Cert.KernelDmIdeal.main_arg2) = m ((c.tc : Thread Cert.KernelDmIdeal.nD Cert.KernelDmIdeal.τ).loc Cert.KernelDmIdeal.main_arg2))
      ∧ r.2.sem = fun _ => 0)

def quiescent_ReferenceDmIdeal [hReferenceDmIdeal : Cert.ReferenceDmIdeal.Facts] : Prop :=
  ∀ (m : (ℓ : Loc Cert.ReferenceDmIdeal.nD Cert.ReferenceDmIdeal.τ Cert.ReferenceDmIdeal.sig) → Buf (Elt Ideal) ℓ) (g : Dev Cert.ReferenceDmIdeal.nD → PrngReg), Pre_ReferenceDmIdeal m →
    θ_run (Cert.ReferenceDmIdeal.defs (F := Ideal)) (onTc (τ := Cert.ReferenceDmIdeal.τ) (Cert.ReferenceDmIdeal.main (F := Ideal))) ⟨m, fun _ => 0, g⟩ (fun r => (∀ c : Dev Cert.ReferenceDmIdeal.nD,
      r.2.mem ((c.tc : Thread Cert.ReferenceDmIdeal.nD Cert.ReferenceDmIdeal.τ).loc Cert.ReferenceDmIdeal.main_arg0) = m ((c.tc : Thread Cert.ReferenceDmIdeal.nD Cert.ReferenceDmIdeal.τ).loc Cert.ReferenceDmIdeal.main_arg0)
      ∧ r.2.mem ((c.tc : Thread Cert.ReferenceDmIdeal.nD Cert.ReferenceDmIdeal.τ).loc Cert.ReferenceDmIdeal.main_arg1) = m ((c.tc : Thread Cert.ReferenceDmIdeal.nD Cert.ReferenceDmIdeal.τ).loc Cert.ReferenceDmIdeal.main_arg1)
      ∧ r.2.mem ((c.tc : Thread Cert.ReferenceDmIdeal.nD Cert.ReferenceDmIdeal.τ).loc Cert.ReferenceDmIdeal.main_arg2) = m ((c.tc : Thread Cert.ReferenceDmIdeal.nD Cert.ReferenceDmIdeal.τ).loc Cert.ReferenceDmIdeal.main_arg2))
      ∧ r.2.sem = fun _ => 0)

def quiescent_KernelIb [hKernelIb : Cert.KernelIb.Facts] : Prop :=
  ∀ (m : (ℓ : Loc Cert.KernelIb.nD Cert.KernelIb.τ Cert.KernelIb.sig) → Buf (Elt Bits) ℓ) (g : Dev Cert.KernelIb.nD → PrngReg), Pre_KernelIb m →
    θ_run (Cert.KernelIb.defs (F := Bits)) (onTc (τ := Cert.KernelIb.τ) (Cert.KernelIb.main (F := Bits))) ⟨m, fun _ => 0, g⟩ (fun r => (∀ c : Dev Cert.KernelIb.nD,
      r.2.mem ((c.tc : Thread Cert.KernelIb.nD Cert.KernelIb.τ).loc Cert.KernelIb.main_arg0) = m ((c.tc : Thread Cert.KernelIb.nD Cert.KernelIb.τ).loc Cert.KernelIb.main_arg0)
      ∧ r.2.mem ((c.tc : Thread Cert.KernelIb.nD Cert.KernelIb.τ).loc Cert.KernelIb.main_arg1) = m ((c.tc : Thread Cert.KernelIb.nD Cert.KernelIb.τ).loc Cert.KernelIb.main_arg1)
      ∧ r.2.mem ((c.tc : Thread Cert.KernelIb.nD Cert.KernelIb.τ).loc Cert.KernelIb.main_arg2) = m ((c.tc : Thread Cert.KernelIb.nD Cert.KernelIb.τ).loc Cert.KernelIb.main_arg2)
      ∧ r.2.mem ((c.tc : Thread Cert.KernelIb.nD Cert.KernelIb.τ).loc Cert.KernelIb.main_arg3) = m ((c.tc : Thread Cert.KernelIb.nD Cert.KernelIb.τ).loc Cert.KernelIb.main_arg3)
      ∧ r.2.mem ((c.tc : Thread Cert.KernelIb.nD Cert.KernelIb.τ).loc Cert.KernelIb.main_arg4) = m ((c.tc : Thread Cert.KernelIb.nD Cert.KernelIb.τ).loc Cert.KernelIb.main_arg4))
      ∧ r.2.sem = fun _ => 0)

def quiescent_KernelIbIdeal [hKernelIbIdeal : Cert.KernelIbIdeal.Facts] : Prop :=
  ∀ (m : (ℓ : Loc Cert.KernelIbIdeal.nD Cert.KernelIbIdeal.τ Cert.KernelIbIdeal.sig) → Buf (Elt Ideal) ℓ) (g : Dev Cert.KernelIbIdeal.nD → PrngReg), Pre_KernelIbIdeal m →
    θ_run (Cert.KernelIbIdeal.defs (F := Ideal)) (onTc (τ := Cert.KernelIbIdeal.τ) (Cert.KernelIbIdeal.main (F := Ideal))) ⟨m, fun _ => 0, g⟩ (fun r => (∀ c : Dev Cert.KernelIbIdeal.nD,
      r.2.mem ((c.tc : Thread Cert.KernelIbIdeal.nD Cert.KernelIbIdeal.τ).loc Cert.KernelIbIdeal.main_arg0) = m ((c.tc : Thread Cert.KernelIbIdeal.nD Cert.KernelIbIdeal.τ).loc Cert.KernelIbIdeal.main_arg0)
      ∧ r.2.mem ((c.tc : Thread Cert.KernelIbIdeal.nD Cert.KernelIbIdeal.τ).loc Cert.KernelIbIdeal.main_arg1) = m ((c.tc : Thread Cert.KernelIbIdeal.nD Cert.KernelIbIdeal.τ).loc Cert.KernelIbIdeal.main_arg1)
      ∧ r.2.mem ((c.tc : Thread Cert.KernelIbIdeal.nD Cert.KernelIbIdeal.τ).loc Cert.KernelIbIdeal.main_arg2) = m ((c.tc : Thread Cert.KernelIbIdeal.nD Cert.KernelIbIdeal.τ).loc Cert.KernelIbIdeal.main_arg2)
      ∧ r.2.mem ((c.tc : Thread Cert.KernelIbIdeal.nD Cert.KernelIbIdeal.τ).loc Cert.KernelIbIdeal.main_arg3) = m ((c.tc : Thread Cert.KernelIbIdeal.nD Cert.KernelIbIdeal.τ).loc Cert.KernelIbIdeal.main_arg3)
      ∧ r.2.mem ((c.tc : Thread Cert.KernelIbIdeal.nD Cert.KernelIbIdeal.τ).loc Cert.KernelIbIdeal.main_arg4) = m ((c.tc : Thread Cert.KernelIbIdeal.nD Cert.KernelIbIdeal.τ).loc Cert.KernelIbIdeal.main_arg4))
      ∧ r.2.sem = fun _ => 0)

def quiescent_ReferenceIbIdeal [hReferenceIbIdeal : Cert.ReferenceIbIdeal.Facts] : Prop :=
  ∀ (m : (ℓ : Loc Cert.ReferenceIbIdeal.nD Cert.ReferenceIbIdeal.τ Cert.ReferenceIbIdeal.sig) → Buf (Elt Ideal) ℓ) (g : Dev Cert.ReferenceIbIdeal.nD → PrngReg), Pre_ReferenceIbIdeal m →
    θ_run (Cert.ReferenceIbIdeal.defs (F := Ideal)) (onTc (τ := Cert.ReferenceIbIdeal.τ) (Cert.ReferenceIbIdeal.main (F := Ideal))) ⟨m, fun _ => 0, g⟩ (fun r => (∀ c : Dev Cert.ReferenceIbIdeal.nD,
      r.2.mem ((c.tc : Thread Cert.ReferenceIbIdeal.nD Cert.ReferenceIbIdeal.τ).loc Cert.ReferenceIbIdeal.main_arg0) = m ((c.tc : Thread Cert.ReferenceIbIdeal.nD Cert.ReferenceIbIdeal.τ).loc Cert.ReferenceIbIdeal.main_arg0)
      ∧ r.2.mem ((c.tc : Thread Cert.ReferenceIbIdeal.nD Cert.ReferenceIbIdeal.τ).loc Cert.ReferenceIbIdeal.main_arg1) = m ((c.tc : Thread Cert.ReferenceIbIdeal.nD Cert.ReferenceIbIdeal.τ).loc Cert.ReferenceIbIdeal.main_arg1)
      ∧ r.2.mem ((c.tc : Thread Cert.ReferenceIbIdeal.nD Cert.ReferenceIbIdeal.τ).loc Cert.ReferenceIbIdeal.main_arg2) = m ((c.tc : Thread Cert.ReferenceIbIdeal.nD Cert.ReferenceIbIdeal.τ).loc Cert.ReferenceIbIdeal.main_arg2)
      ∧ r.2.mem ((c.tc : Thread Cert.ReferenceIbIdeal.nD Cert.ReferenceIbIdeal.τ).loc Cert.ReferenceIbIdeal.main_arg3) = m ((c.tc : Thread Cert.ReferenceIbIdeal.nD Cert.ReferenceIbIdeal.τ).loc Cert.ReferenceIbIdeal.main_arg3)
      ∧ r.2.mem ((c.tc : Thread Cert.ReferenceIbIdeal.nD Cert.ReferenceIbIdeal.τ).loc Cert.ReferenceIbIdeal.main_arg4) = m ((c.tc : Thread Cert.ReferenceIbIdeal.nD Cert.ReferenceIbIdeal.τ).loc Cert.ReferenceIbIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0_0)) (v1 : (c : Dev Cert.KernelDwIdeal.nD) → Buf (Elt Ideal) ((c.tc : Thread Cert.KernelDwIdeal.nD Cert.KernelDwIdeal.τ).loc Cert.KernelDwIdeal.main_v0_1)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0_0) = v0 c
          ∧ r.2.mem ((c.tc : Thread Cert.KernelDwIdeal.nD Cert.KernelDwIdeal.τ).loc Cert.KernelDwIdeal.main_v0_1) = v1 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v7) = v0 c
          ∧ r.2.mem ((c.tc : Thread Cert.ReferenceDwIdeal.nD Cert.ReferenceDwIdeal.τ).loc Cert.ReferenceDwIdeal.main_v10) = v1 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDv_KernelDvIdeal : Prop :=
  True

def algebraic_KernelDvIdeal_ReferenceDvIdeal [hKernelDvIdeal : Cert.KernelDvIdeal.Facts] [hReferenceDvIdeal : Cert.ReferenceDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg)
    (m' : (ℓ : Loc Cert.ReferenceDvIdeal.nD Cert.ReferenceDvIdeal.τ Cert.ReferenceDvIdeal.sig) → Buf (Elt Ideal) ℓ) (g' : Dev Cert.ReferenceDvIdeal.nD → PrngReg), Pre_KernelDvIdeal m →
    (∀ c : Dev Cert.KernelDvIdeal.nD,
      m' ((c.tc : Thread Cert.ReferenceDvIdeal.nD Cert.ReferenceDvIdeal.τ).loc Cert.ReferenceDvIdeal.main_arg0) = m ((c.tc : Thread Cert.KernelDvIdeal.nD Cert.KernelDvIdeal.τ).loc Cert.KernelDvIdeal.main_arg0)
      ∧ m' ((c.tc : Thread Cert.ReferenceDvIdeal.nD Cert.ReferenceDvIdeal.τ).loc Cert.ReferenceDvIdeal.main_arg1) = m ((c.tc : Thread Cert.KernelDvIdeal.nD Cert.KernelDvIdeal.τ).loc Cert.KernelDvIdeal.main_arg1)) →
    ∃ (v0 : (c : Dev Cert.KernelDvIdeal.nD) → Buf (Elt Ideal) ((c.tc : Thread Cert.KernelDvIdeal.nD Cert.KernelDvIdeal.τ).loc Cert.KernelDvIdeal.main_v4_0)) (v1 : (c : Dev Cert.KernelDvIdeal.nD) → Buf (Elt Ideal) ((c.tc : Thread Cert.KernelDvIdeal.nD Cert.KernelDvIdeal.τ).loc Cert.KernelDvIdeal.main_v4_1)),
      θ_run (Cert.KernelDvIdeal.defs (F := Ideal)) (onTc (τ := Cert.KernelDvIdeal.τ) (Cert.KernelDvIdeal.main (F := Ideal))) ⟨m, fun _ => 0, g⟩ (fun r => ∀ c : Dev Cert.KernelDvIdeal.nD,
          r.2.mem ((c.tc : Thread Cert.KernelDvIdeal.nD Cert.KernelDvIdeal.τ).loc Cert.KernelDvIdeal.main_v4_0) = v0 c
          ∧ r.2.mem ((c.tc : Thread Cert.KernelDvIdeal.nD Cert.KernelDvIdeal.τ).loc Cert.KernelDvIdeal.main_v4_1) = v1 c
          ∧ r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
          ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1))
      ∧ θ_run (Cert.ReferenceDvIdeal.defs (F := Ideal)) (onTc (τ := Cert.ReferenceDvIdeal.τ) (Cert.ReferenceDvIdeal.main (F := Ideal))) ⟨m', fun _ => 0, g'⟩ (fun r => ∀ c : Dev Cert.ReferenceDvIdeal.nD,
          r.2.mem ((c.tc : Thread Cert.ReferenceDvIdeal.nD Cert.ReferenceDvIdeal.τ).loc Cert.ReferenceDvIdeal.main_v7) = v0 c
          ∧ r.2.mem ((c.tc : Thread Cert.ReferenceDvIdeal.nD Cert.ReferenceDvIdeal.τ).loc Cert.ReferenceDvIdeal.main_v8) = v1 c
          ∧ r.2.mem ((c.tc : Thread Cert.ReferenceDvIdeal.nD Cert.ReferenceDvIdeal.τ).loc Cert.ReferenceDvIdeal.main_arg0) = m' ((c.tc : Thread Cert.ReferenceDvIdeal.nD Cert.ReferenceDvIdeal.τ).loc Cert.ReferenceDvIdeal.main_arg0)
          ∧ r.2.mem ((c.tc : Thread Cert.ReferenceDvIdeal.nD Cert.ReferenceDvIdeal.τ).loc Cert.ReferenceDvIdeal.main_arg1) = m' ((c.tc : Thread Cert.ReferenceDvIdeal.nD Cert.ReferenceDvIdeal.τ).loc Cert.ReferenceDvIdeal.main_arg1))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)) →
    ∃ (v0 : (c : Dev Cert.KernelDaIdeal.nD) → Buf (Elt Ideal) ((c.tc : Thread Cert.KernelDaIdeal.nD Cert.KernelDaIdeal.τ).loc Cert.KernelDaIdeal.main_v0)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v0) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v16) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_v8) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelDn_KernelDnIdeal : Prop :=
  True

def algebraic_KernelDnIdeal_ReferenceDnIdeal_pre_finite_norm [hKernelDnIdeal : Cert.KernelDnIdeal.Facts] [hReferenceDnIdeal : Cert.ReferenceDnIdeal.Facts] [hPre_finite_norm : Cert.Pre_finite_norm.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal_finite_norm m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)
      ∧ m' ((c.tc : Thread Cert.ReferenceDnIdeal.nD Cert.ReferenceDnIdeal.τ).loc Cert.ReferenceDnIdeal.main_arg3) = m ((c.tc : Thread Cert.KernelDnIdeal.nD Cert.KernelDnIdeal.τ).loc Cert.KernelDnIdeal.main_arg3)
      ∧ m' ((c.tc : Thread Cert.ReferenceDnIdeal.nD Cert.ReferenceDnIdeal.τ).loc Cert.ReferenceDnIdeal.main_arg4) = m ((c.tc : Thread Cert.KernelDnIdeal.nD Cert.KernelDnIdeal.τ).loc Cert.KernelDnIdeal.main_arg4)) →
    ∃ (v0 : (c : Dev Cert.KernelDnIdeal.nD) → Buf (Elt Ideal) ((c.tc : Thread Cert.KernelDnIdeal.nD Cert.KernelDnIdeal.τ).loc Cert.KernelDnIdeal.main_v0_0)) (v1 : (c : Dev Cert.KernelDnIdeal.nD) → Buf (Elt Ideal) ((c.tc : Thread Cert.KernelDnIdeal.nD Cert.KernelDnIdeal.τ).loc Cert.KernelDnIdeal.main_v0_1)) (v2 : (c : Dev Cert.KernelDnIdeal.nD) → Buf (Elt Ideal) ((c.tc : Thread Cert.KernelDnIdeal.nD Cert.KernelDnIdeal.τ).loc Cert.KernelDnIdeal.main_v0_2)) (v3 : (c : Dev Cert.KernelDnIdeal.nD) → Buf (Elt Ideal) ((c.tc : Thread Cert.KernelDnIdeal.nD Cert.KernelDnIdeal.τ).loc Cert.KernelDnIdeal.main_v0_3)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v0_0) = v0 c
          ∧ r.2.mem ((c.tc : Thread Cert.KernelDnIdeal.nD Cert.KernelDnIdeal.τ).loc Cert.KernelDnIdeal.main_v0_1) = v1 c
          ∧ r.2.mem ((c.tc : Thread Cert.KernelDnIdeal.nD Cert.KernelDnIdeal.τ).loc Cert.KernelDnIdeal.main_v0_2) = v2 c
          ∧ r.2.mem ((c.tc : Thread Cert.KernelDnIdeal.nD Cert.KernelDnIdeal.τ).loc Cert.KernelDnIdeal.main_v0_3) = v3 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
          ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
          ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v77) = v0 c
          ∧ r.2.mem ((c.tc : Thread Cert.ReferenceDnIdeal.nD Cert.ReferenceDnIdeal.τ).loc Cert.ReferenceDnIdeal.main_v78) = v1 c
          ∧ r.2.mem ((c.tc : Thread Cert.ReferenceDnIdeal.nD Cert.ReferenceDnIdeal.τ).loc Cert.ReferenceDnIdeal.main_v79) = v2 c
          ∧ r.2.mem ((c.tc : Thread Cert.ReferenceDnIdeal.nD Cert.ReferenceDnIdeal.τ).loc Cert.ReferenceDnIdeal.main_v80) = v3 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2)
          ∧ r.2.mem ((c.tc : Thread Cert.ReferenceDnIdeal.nD Cert.ReferenceDnIdeal.τ).loc Cert.ReferenceDnIdeal.main_arg3) = m' ((c.tc : Thread Cert.ReferenceDnIdeal.nD Cert.ReferenceDnIdeal.τ).loc Cert.ReferenceDnIdeal.main_arg3)
          ∧ r.2.mem ((c.tc : Thread Cert.ReferenceDnIdeal.nD Cert.ReferenceDnIdeal.τ).loc Cert.ReferenceDnIdeal.main_arg4) = m' ((c.tc : Thread Cert.ReferenceDnIdeal.nD Cert.ReferenceDnIdeal.τ).loc Cert.ReferenceDnIdeal.main_arg4))

def preserves_KernelDq_KernelDqIdeal : Prop :=
  True

def algebraic_KernelDqIdeal_ReferenceDqIdeal_pre_finite_norm_mix [hKernelDqIdeal : Cert.KernelDqIdeal.Facts] [hReferenceDqIdeal : Cert.ReferenceDqIdeal.Facts] [hPre_finite_norm_mix : Cert.Pre_finite_norm_mix.Facts] : Prop :=
  ∀ (m : (ℓ : Loc Cert.KernelDqIdeal.nD Cert.KernelDqIdeal.τ Cert.KernelDqIdeal.sig) → Buf (Elt Ideal) ℓ) (g : Dev Cert.KernelDqIdeal.nD → PrngReg)
    (m' : (ℓ : Loc Cert.ReferenceDqIdeal.nD Cert.ReferenceDqIdeal.τ Cert.ReferenceDqIdeal.sig) → Buf (Elt Ideal) ℓ) (g' : Dev Cert.ReferenceDqIdeal.nD → PrngReg), Pre_KernelDqIdeal_finite_norm_mix m →
    (∀ c : Dev Cert.KernelDqIdeal.nD,
      m' ((c.tc : Thread Cert.ReferenceDqIdeal.nD Cert.ReferenceDqIdeal.τ).loc Cert.ReferenceDqIdeal.main_arg0) = m ((c.tc : Thread Cert.KernelDqIdeal.nD Cert.KernelDqIdeal.τ).loc Cert.KernelDqIdeal.main_arg0)
      ∧ m' ((c.tc : Thread Cert.ReferenceDqIdeal.nD Cert.ReferenceDqIdeal.τ).loc Cert.ReferenceDqIdeal.main_arg1) = m ((c.tc : Thread Cert.KernelDqIdeal.nD Cert.KernelDqIdeal.τ).loc Cert.KernelDqIdeal.main_arg1)
      ∧ m' ((c.tc : Thread Cert.ReferenceDqIdeal.nD Cert.ReferenceDqIdeal.τ).loc Cert.ReferenceDqIdeal.main_arg2) = m ((c.tc : Thread Cert.KernelDqIdeal.nD Cert.KernelDqIdeal.τ).loc Cert.KernelDqIdeal.main_arg2)
      ∧ m' ((c.tc : Thread Cert.ReferenceDqIdeal.nD Cert.ReferenceDqIdeal.τ).loc Cert.ReferenceDqIdeal.main_arg3) = m ((c.tc : Thread Cert.KernelDqIdeal.nD Cert.KernelDqIdeal.τ).loc Cert.KernelDqIdeal.main_arg3)
      ∧ m' ((c.tc : Thread Cert.ReferenceDqIdeal.nD Cert.ReferenceDqIdeal.τ).loc Cert.ReferenceDqIdeal.main_arg4) = m ((c.tc : Thread Cert.KernelDqIdeal.nD Cert.KernelDqIdeal.τ).loc Cert.KernelDqIdeal.main_arg4)
      ∧ m' ((c.tc : Thread Cert.ReferenceDqIdeal.nD Cert.ReferenceDqIdeal.τ).loc Cert.ReferenceDqIdeal.main_arg5) = m ((c.tc : Thread Cert.KernelDqIdeal.nD Cert.KernelDqIdeal.τ).loc Cert.KernelDqIdeal.main_arg5)
      ∧ m' ((c.tc : Thread Cert.ReferenceDqIdeal.nD Cert.ReferenceDqIdeal.τ).loc Cert.ReferenceDqIdeal.main_arg6) = m ((c.tc : Thread Cert.KernelDqIdeal.nD Cert.KernelDqIdeal.τ).loc Cert.KernelDqIdeal.main_arg6)) →
    ∃ (v0 : (c : Dev Cert.KernelDqIdeal.nD) → Buf (Elt Ideal) ((c.tc : Thread Cert.KernelDqIdeal.nD Cert.KernelDqIdeal.τ).loc Cert.KernelDqIdeal.main_v0_0)) (v1 : (c : Dev Cert.KernelDqIdeal.nD) → Buf (Elt Ideal) ((c.tc : Thread Cert.KernelDqIdeal.nD Cert.KernelDqIdeal.τ).loc Cert.KernelDqIdeal.main_v0_1)) (v2 : (c : Dev Cert.KernelDqIdeal.nD) → Buf (Elt Ideal) ((c.tc : Thread Cert.KernelDqIdeal.nD Cert.KernelDqIdeal.τ).loc Cert.KernelDqIdeal.main_v0_2)) (v3 : (c : Dev Cert.KernelDqIdeal.nD) → Buf (Elt Ideal) ((c.tc : Thread Cert.KernelDqIdeal.nD Cert.KernelDqIdeal.τ).loc Cert.KernelDqIdeal.main_v0_3)) (v4 : (c : Dev Cert.KernelDqIdeal.nD) → Buf (Elt Ideal) ((c.tc : Thread Cert.KernelDqIdeal.nD Cert.KernelDqIdeal.τ).loc Cert.KernelDqIdeal.main_v0_4)),
      θ_run (Cert.KernelDqIdeal.defs (F := Ideal)) (onTc (τ := Cert.KernelDqIdeal.τ) (Cert.KernelDqIdeal.main (F := Ideal))) ⟨m, fun _ => 0, g⟩ (fun r => ∀ c : Dev Cert.KernelDqIdeal.nD,
          r.2.mem ((c.tc : Thread Cert.KernelDqIdeal.nD Cert.KernelDqIdeal.τ).loc Cert.KernelDqIdeal.main_v0_0) = v0 c
          ∧ r.2.mem ((c.tc : Thread Cert.KernelDqIdeal.nD Cert.KernelDqIdeal.τ).loc Cert.KernelDqIdeal.main_v0_1) = v1 c
          ∧ r.2.mem ((c.tc : Thread Cert.KernelDqIdeal.nD Cert.KernelDqIdeal.τ).loc Cert.KernelDqIdeal.main_v0_2) = v2 c
          ∧ r.2.mem ((c.tc : Thread Cert.KernelDqIdeal.nD Cert.KernelDqIdeal.τ).loc Cert.KernelDqIdeal.main_v0_3) = v3 c
          ∧ r.2.mem ((c.tc : Thread Cert.KernelDqIdeal.nD Cert.KernelDqIdeal.τ).loc Cert.KernelDqIdeal.main_v0_4) = v4 c
          ∧ r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
          ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
          ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
          ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
          ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
          ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5)
          ∧ r.2.mem ((c.tc : Thread Cert.KernelDqIdeal.nD Cert.KernelDqIdeal.τ).loc Cert.KernelDqIdeal.main_arg6) = m ((c.tc : Thread Cert.KernelDqIdeal.nD Cert.KernelDqIdeal.τ).loc Cert.KernelDqIdeal.main_arg6))
      ∧ θ_run (Cert.ReferenceDqIdeal.defs (F := Ideal)) (onTc (τ := Cert.ReferenceDqIdeal.τ) (Cert.ReferenceDqIdeal.main (F := Ideal))) ⟨m', fun _ => 0, g'⟩ (fun r => ∀ c : Dev Cert.ReferenceDqIdeal.nD,
          r.2.mem ((c.tc : Thread Cert.ReferenceDqIdeal.nD Cert.ReferenceDqIdeal.τ).loc Cert.ReferenceDqIdeal.main_v77) = v0 c
          ∧ r.2.mem ((c.tc : Thread Cert.ReferenceDqIdeal.nD Cert.ReferenceDqIdeal.τ).loc Cert.ReferenceDqIdeal.main_v78) = v1 c
          ∧ r.2.mem ((c.tc : Thread Cert.ReferenceDqIdeal.nD Cert.ReferenceDqIdeal.τ).loc Cert.ReferenceDqIdeal.main_v91) = v2 c
          ∧ r.2.mem ((c.tc : Thread Cert.ReferenceDqIdeal.nD Cert.ReferenceDqIdeal.τ).loc Cert.ReferenceDqIdeal.main_v79) = v3 c
          ∧ r.2.mem ((c.tc : Thread Cert.ReferenceDqIdeal.nD Cert.ReferenceDqIdeal.τ).loc Cert.ReferenceDqIdeal.main_v80) = v4 c
          ∧ r.2.mem ((c.tc : Thread Cert.ReferenceDqIdeal.nD Cert.ReferenceDqIdeal.τ).loc Cert.ReferenceDqIdeal.main_arg0) = m' ((c.tc : Thread Cert.ReferenceDqIdeal.nD Cert.ReferenceDqIdeal.τ).loc Cert.ReferenceDqIdeal.main_arg0)
          ∧ r.2.mem ((c.tc : Thread Cert.ReferenceDqIdeal.nD Cert.ReferenceDqIdeal.τ).loc Cert.ReferenceDqIdeal.main_arg1) = m' ((c.tc : Thread Cert.ReferenceDqIdeal.nD Cert.ReferenceDqIdeal.τ).loc Cert.ReferenceDqIdeal.main_arg1)
          ∧ r.2.mem ((c.tc : Thread Cert.ReferenceDqIdeal.nD Cert.ReferenceDqIdeal.τ).loc Cert.ReferenceDqIdeal.main_arg2) = m' ((c.tc : Thread Cert.ReferenceDqIdeal.nD Cert.ReferenceDqIdeal.τ).loc Cert.ReferenceDqIdeal.main_arg2)
          ∧ r.2.mem ((c.tc : Thread Cert.ReferenceDqIdeal.nD Cert.ReferenceDqIdeal.τ).loc Cert.ReferenceDqIdeal.main_arg3) = m' ((c.tc : Thread Cert.ReferenceDqIdeal.nD Cert.ReferenceDqIdeal.τ).loc Cert.ReferenceDqIdeal.main_arg3)
          ∧ r.2.mem ((c.tc : Thread Cert.ReferenceDqIdeal.nD Cert.ReferenceDqIdeal.τ).loc Cert.ReferenceDqIdeal.main_arg4) = m' ((c.tc : Thread Cert.ReferenceDqIdeal.nD Cert.ReferenceDqIdeal.τ).loc Cert.ReferenceDqIdeal.main_arg4)
          ∧ r.2.mem ((c.tc : Thread Cert.ReferenceDqIdeal.nD Cert.ReferenceDqIdeal.τ).loc Cert.ReferenceDqIdeal.main_arg5) = m' ((c.tc : Thread Cert.ReferenceDqIdeal.nD Cert.ReferenceDqIdeal.τ).loc Cert.ReferenceDqIdeal.main_arg5)
          ∧ r.2.mem ((c.tc : Thread Cert.ReferenceDqIdeal.nD Cert.ReferenceDqIdeal.τ).loc Cert.ReferenceDqIdeal.main_arg6) = m' ((c.tc : Thread Cert.ReferenceDqIdeal.nD Cert.ReferenceDqIdeal.τ).loc Cert.ReferenceDqIdeal.main_arg6))

def preserves_KernelDp_KernelDpIdeal : Prop :=
  True

def algebraic_KernelDpIdeal_ReferenceDpIdeal_pre_finite_norm_out [hKernelDpIdeal : Cert.KernelDpIdeal.Facts] [hReferenceDpIdeal : Cert.ReferenceDpIdeal.Facts] [hPre_finite_norm_out : Cert.Pre_finite_norm_out.Facts] : Prop :=
  ∀ (m : (ℓ : Loc Cert.KernelDpIdeal.nD Cert.KernelDpIdeal.τ Cert.KernelDpIdeal.sig) → Buf (Elt Ideal) ℓ) (g : Dev Cert.KernelDpIdeal.nD → PrngReg)
    (m' : (ℓ : Loc Cert.ReferenceDpIdeal.nD Cert.ReferenceDpIdeal.τ Cert.ReferenceDpIdeal.sig) → Buf (Elt Ideal) ℓ) (g' : Dev Cert.ReferenceDpIdeal.nD → PrngReg), Pre_KernelDpIdeal_finite_norm_out m →
    (∀ c : Dev Cert.KernelDpIdeal.nD,
      m' ((c.tc : Thread Cert.ReferenceDpIdeal.nD Cert.ReferenceDpIdeal.τ).loc Cert.ReferenceDpIdeal.main_arg0) = m ((c.tc : Thread Cert.KernelDpIdeal.nD Cert.KernelDpIdeal.τ).loc Cert.KernelDpIdeal.main_arg0)
      ∧ m' ((c.tc : Thread Cert.ReferenceDpIdeal.nD Cert.ReferenceDpIdeal.τ).loc Cert.ReferenceDpIdeal.main_arg1) = m ((c.tc : Thread Cert.KernelDpIdeal.nD Cert.KernelDpIdeal.τ).loc Cert.KernelDpIdeal.main_arg1)
      ∧ m' ((c.tc : Thread Cert.ReferenceDpIdeal.nD Cert.ReferenceDpIdeal.τ).loc Cert.ReferenceDpIdeal.main_arg2) = m ((c.tc : Thread Cert.KernelDpIdeal.nD Cert.KernelDpIdeal.τ).loc Cert.KernelDpIdeal.main_arg2)
      ∧ m' ((c.tc : Thread Cert.ReferenceDpIdeal.nD Cert.ReferenceDpIdeal.τ).loc Cert.ReferenceDpIdeal.main_arg3) = m ((c.tc : Thread Cert.KernelDpIdeal.nD Cert.KernelDpIdeal.τ).loc Cert.KernelDpIdeal.main_arg3)
      ∧ m' ((c.tc : Thread Cert.ReferenceDpIdeal.nD Cert.ReferenceDpIdeal.τ).loc Cert.ReferenceDpIdeal.main_arg4) = m ((c.tc : Thread Cert.KernelDpIdeal.nD Cert.KernelDpIdeal.τ).loc Cert.KernelDpIdeal.main_arg4)
      ∧ m' ((c.tc : Thread Cert.ReferenceDpIdeal.nD Cert.ReferenceDpIdeal.τ).loc Cert.ReferenceDpIdeal.main_arg5) = m ((c.tc : Thread Cert.KernelDpIdeal.nD Cert.KernelDpIdeal.τ).loc Cert.KernelDpIdeal.main_arg5)) →
    ∃ (v0 : (c : Dev Cert.KernelDpIdeal.nD) → Buf (Elt Ideal) ((c.tc : Thread Cert.KernelDpIdeal.nD Cert.KernelDpIdeal.τ).loc Cert.KernelDpIdeal.main_v0_0)) (v1 : (c : Dev Cert.KernelDpIdeal.nD) → Buf (Elt Ideal) ((c.tc : Thread Cert.KernelDpIdeal.nD Cert.KernelDpIdeal.τ).loc Cert.KernelDpIdeal.main_v0_1)) (v2 : (c : Dev Cert.KernelDpIdeal.nD) → Buf (Elt Ideal) ((c.tc : Thread Cert.KernelDpIdeal.nD Cert.KernelDpIdeal.τ).loc Cert.KernelDpIdeal.main_v0_2)) (v3 : (c : Dev Cert.KernelDpIdeal.nD) → Buf (Elt Ideal) ((c.tc : Thread Cert.KernelDpIdeal.nD Cert.KernelDpIdeal.τ).loc Cert.KernelDpIdeal.main_v0_3)) (v4 : (c : Dev Cert.KernelDpIdeal.nD) → Buf (Elt Ideal) ((c.tc : Thread Cert.KernelDpIdeal.nD Cert.KernelDpIdeal.τ).loc Cert.KernelDpIdeal.main_v0_4)),
      θ_run (Cert.KernelDpIdeal.defs (F := Ideal)) (onTc (τ := Cert.KernelDpIdeal.τ) (Cert.KernelDpIdeal.main (F := Ideal))) ⟨m, fun _ => 0, g⟩ (fun r => ∀ c : Dev Cert.KernelDpIdeal.nD,
          r.2.mem ((c.tc : Thread Cert.KernelDpIdeal.nD Cert.KernelDpIdeal.τ).loc Cert.KernelDpIdeal.main_v0_0) = v0 c
          ∧ r.2.mem ((c.tc : Thread Cert.KernelDpIdeal.nD Cert.KernelDpIdeal.τ).loc Cert.KernelDpIdeal.main_v0_1) = v1 c
          ∧ r.2.mem ((c.tc : Thread Cert.KernelDpIdeal.nD Cert.KernelDpIdeal.τ).loc Cert.KernelDpIdeal.main_v0_2) = v2 c
          ∧ r.2.mem ((c.tc : Thread Cert.KernelDpIdeal.nD Cert.KernelDpIdeal.τ).loc Cert.KernelDpIdeal.main_v0_3) = v3 c
          ∧ r.2.mem ((c.tc : Thread Cert.KernelDpIdeal.nD Cert.KernelDpIdeal.τ).loc Cert.KernelDpIdeal.main_v0_4) = v4 c
          ∧ r.2.mem ((c.tc : Thread Cert.KernelDpIdeal.nD Cert.KernelDpIdeal.τ).loc Cert.KernelDpIdeal.main_arg0) = m ((c.tc : Thread Cert.KernelDpIdeal.nD Cert.KernelDpIdeal.τ).loc Cert.KernelDpIdeal.main_arg0)
          ∧ r.2.mem ((c.tc : Thread Cert.KernelDpIdeal.nD Cert.KernelDpIdeal.τ).loc Cert.KernelDpIdeal.main_arg1) = m ((c.tc : Thread Cert.KernelDpIdeal.nD Cert.KernelDpIdeal.τ).loc Cert.KernelDpIdeal.main_arg1)
          ∧ r.2.mem ((c.tc : Thread Cert.KernelDpIdeal.nD Cert.KernelDpIdeal.τ).loc Cert.KernelDpIdeal.main_arg2) = m ((c.tc : Thread Cert.KernelDpIdeal.nD Cert.KernelDpIdeal.τ).loc Cert.KernelDpIdeal.main_arg2)
          ∧ r.2.mem ((c.tc : Thread Cert.KernelDpIdeal.nD Cert.KernelDpIdeal.τ).loc Cert.KernelDpIdeal.main_arg3) = m ((c.tc : Thread Cert.KernelDpIdeal.nD Cert.KernelDpIdeal.τ).loc Cert.KernelDpIdeal.main_arg3)
          ∧ r.2.mem ((c.tc : Thread Cert.KernelDpIdeal.nD Cert.KernelDpIdeal.τ).loc Cert.KernelDpIdeal.main_arg4) = m ((c.tc : Thread Cert.KernelDpIdeal.nD Cert.KernelDpIdeal.τ).loc Cert.KernelDpIdeal.main_arg4)
          ∧ r.2.mem ((c.tc : Thread Cert.KernelDpIdeal.nD Cert.KernelDpIdeal.τ).loc Cert.KernelDpIdeal.main_arg5) = m ((c.tc : Thread Cert.KernelDpIdeal.nD Cert.KernelDpIdeal.τ).loc Cert.KernelDpIdeal.main_arg5))
      ∧ θ_run (Cert.ReferenceDpIdeal.defs (F := Ideal)) (onTc (τ := Cert.ReferenceDpIdeal.τ) (Cert.ReferenceDpIdeal.main (F := Ideal))) ⟨m', fun _ => 0, g'⟩ (fun r => ∀ c : Dev Cert.ReferenceDpIdeal.nD,
          r.2.mem ((c.tc : Thread Cert.ReferenceDpIdeal.nD Cert.ReferenceDpIdeal.τ).loc Cert.ReferenceDpIdeal.main_v77) = v0 c
          ∧ r.2.mem ((c.tc : Thread Cert.ReferenceDpIdeal.nD Cert.ReferenceDpIdeal.τ).loc Cert.ReferenceDpIdeal.main_v78) = v1 c
          ∧ r.2.mem ((c.tc : Thread Cert.ReferenceDpIdeal.nD Cert.ReferenceDpIdeal.τ).loc Cert.ReferenceDpIdeal.main_v85) = v2 c
          ∧ r.2.mem ((c.tc : Thread Cert.ReferenceDpIdeal.nD Cert.ReferenceDpIdeal.τ).loc Cert.ReferenceDpIdeal.main_v79) = v3 c
          ∧ r.2.mem ((c.tc : Thread Cert.ReferenceDpIdeal.nD Cert.ReferenceDpIdeal.τ).loc Cert.ReferenceDpIdeal.main_v80) = v4 c
          ∧ r.2.mem ((c.tc : Thread Cert.ReferenceDpIdeal.nD Cert.ReferenceDpIdeal.τ).loc Cert.ReferenceDpIdeal.main_arg0) = m' ((c.tc : Thread Cert.ReferenceDpIdeal.nD Cert.ReferenceDpIdeal.τ).loc Cert.ReferenceDpIdeal.main_arg0)
          ∧ r.2.mem ((c.tc : Thread Cert.ReferenceDpIdeal.nD Cert.ReferenceDpIdeal.τ).loc Cert.ReferenceDpIdeal.main_arg1) = m' ((c.tc : Thread Cert.ReferenceDpIdeal.nD Cert.ReferenceDpIdeal.τ).loc Cert.ReferenceDpIdeal.main_arg1)
          ∧ r.2.mem ((c.tc : Thread Cert.ReferenceDpIdeal.nD Cert.ReferenceDpIdeal.τ).loc Cert.ReferenceDpIdeal.main_arg2) = m' ((c.tc : Thread Cert.ReferenceDpIdeal.nD Cert.ReferenceDpIdeal.τ).loc Cert.ReferenceDpIdeal.main_arg2)
          ∧ r.2.mem ((c.tc : Thread Cert.ReferenceDpIdeal.nD Cert.ReferenceDpIdeal.τ).loc Cert.ReferenceDpIdeal.main_arg3) = m' ((c.tc : Thread Cert.ReferenceDpIdeal.nD Cert.ReferenceDpIdeal.τ).loc Cert.ReferenceDpIdeal.main_arg3)
          ∧ r.2.mem ((c.tc : Thread Cert.ReferenceDpIdeal.nD Cert.ReferenceDpIdeal.τ).loc Cert.ReferenceDpIdeal.main_arg4) = m' ((c.tc : Thread Cert.ReferenceDpIdeal.nD Cert.ReferenceDpIdeal.τ).loc Cert.ReferenceDpIdeal.main_arg4)
          ∧ r.2.mem ((c.tc : Thread Cert.ReferenceDpIdeal.nD Cert.ReferenceDpIdeal.τ).loc Cert.ReferenceDpIdeal.main_arg5) = m' ((c.tc : Thread Cert.ReferenceDpIdeal.nD Cert.ReferenceDpIdeal.τ).loc Cert.ReferenceDpIdeal.main_arg5))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)
      ∧ m' ((c.tc : Thread Cert.ReferenceLnIdeal.nD Cert.ReferenceLnIdeal.τ).loc Cert.ReferenceLnIdeal.main_arg4) = m ((c.tc : Thread Cert.KernelLnIdeal.nD Cert.KernelLnIdeal.τ).loc Cert.KernelLnIdeal.main_arg4)) →
    ∃ (v0 : (c : Dev Cert.KernelLnIdeal.nD) → Buf (Elt Ideal) ((c.tc : Thread Cert.KernelLnIdeal.nD Cert.KernelLnIdeal.τ).loc Cert.KernelLnIdeal.main_v4_0)) (v1 : (c : Dev Cert.KernelLnIdeal.nD) → Buf (Elt Ideal) ((c.tc : Thread Cert.KernelLnIdeal.nD Cert.KernelLnIdeal.τ).loc Cert.KernelLnIdeal.main_v4_1)) (v2 : (c : Dev Cert.KernelLnIdeal.nD) → Buf (Elt Ideal) ((c.tc : Thread Cert.KernelLnIdeal.nD Cert.KernelLnIdeal.τ).loc Cert.KernelLnIdeal.main_v4_2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v4_0) = v0 c
          ∧ r.2.mem ((c.tc : Thread Cert.KernelLnIdeal.nD Cert.KernelLnIdeal.τ).loc Cert.KernelLnIdeal.main_v4_1) = v1 c
          ∧ r.2.mem ((c.tc : Thread Cert.KernelLnIdeal.nD Cert.KernelLnIdeal.τ).loc Cert.KernelLnIdeal.main_v4_2) = v2 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
          ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v7) = v0 c
          ∧ r.2.mem ((c.tc : Thread Cert.ReferenceLnIdeal.nD Cert.ReferenceLnIdeal.τ).loc Cert.ReferenceLnIdeal.main_v35) = v1 c
          ∧ r.2.mem ((c.tc : Thread Cert.ReferenceLnIdeal.nD Cert.ReferenceLnIdeal.τ).loc Cert.ReferenceLnIdeal.main_v36) = v2 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3)
          ∧ r.2.mem ((c.tc : Thread Cert.ReferenceLnIdeal.nD Cert.ReferenceLnIdeal.τ).loc Cert.ReferenceLnIdeal.main_arg4) = m' ((c.tc : Thread Cert.ReferenceLnIdeal.nD Cert.ReferenceLnIdeal.τ).loc Cert.ReferenceLnIdeal.main_arg4))

def preserves_KernelLs_KernelLsIdeal : Prop :=
  True

def algebraic_KernelLsIdeal_ReferenceLsIdeal_pre_finite_loss [hKernelLsIdeal : Cert.KernelLsIdeal.Facts] [hReferenceLsIdeal : Cert.ReferenceLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg)
    (m' : (ℓ : Loc Cert.ReferenceLsIdeal.nD Cert.ReferenceLsIdeal.τ Cert.ReferenceLsIdeal.sig) → Buf (Elt Ideal) ℓ) (g' : Dev Cert.ReferenceLsIdeal.nD → PrngReg), Pre_KernelLsIdeal_finite_loss m →
    (∀ c : Dev Cert.KernelLsIdeal.nD,
      m' ((c.tc : Thread Cert.ReferenceLsIdeal.nD Cert.ReferenceLsIdeal.τ).loc Cert.ReferenceLsIdeal.main_arg0) = m ((c.tc : Thread Cert.KernelLsIdeal.nD Cert.KernelLsIdeal.τ).loc Cert.KernelLsIdeal.main_arg0)
      ∧ m' ((c.tc : Thread Cert.ReferenceLsIdeal.nD Cert.ReferenceLsIdeal.τ).loc Cert.ReferenceLsIdeal.main_arg1) = m ((c.tc : Thread Cert.KernelLsIdeal.nD Cert.KernelLsIdeal.τ).loc Cert.KernelLsIdeal.main_arg1)
      ∧ m' ((c.tc : Thread Cert.ReferenceLsIdeal.nD Cert.ReferenceLsIdeal.τ).loc Cert.ReferenceLsIdeal.main_arg2) = m ((c.tc : Thread Cert.KernelLsIdeal.nD Cert.KernelLsIdeal.τ).loc Cert.KernelLsIdeal.main_arg2)
      ∧ m' ((c.tc : Thread Cert.ReferenceLsIdeal.nD Cert.ReferenceLsIdeal.τ).loc Cert.ReferenceLsIdeal.main_arg3) = m ((c.tc : Thread Cert.KernelLsIdeal.nD Cert.KernelLsIdeal.τ).loc Cert.KernelLsIdeal.main_arg3)
      ∧ m' ((c.tc : Thread Cert.ReferenceLsIdeal.nD Cert.ReferenceLsIdeal.τ).loc Cert.ReferenceLsIdeal.main_arg4) = m ((c.tc : Thread Cert.KernelLsIdeal.nD Cert.KernelLsIdeal.τ).loc Cert.KernelLsIdeal.main_arg4)
      ∧ m' ((c.tc : Thread Cert.ReferenceLsIdeal.nD Cert.ReferenceLsIdeal.τ).loc Cert.ReferenceLsIdeal.main_arg5) = m ((c.tc : Thread Cert.KernelLsIdeal.nD Cert.KernelLsIdeal.τ).loc Cert.KernelLsIdeal.main_arg5)) →
    ∃ (v0 : (c : Dev Cert.KernelLsIdeal.nD) → Buf (Elt Ideal) ((c.tc : Thread Cert.KernelLsIdeal.nD Cert.KernelLsIdeal.τ).loc Cert.KernelLsIdeal.main_v4_0)) (v1 : (c : Dev Cert.KernelLsIdeal.nD) → Buf (Elt Ideal) ((c.tc : Thread Cert.KernelLsIdeal.nD Cert.KernelLsIdeal.τ).loc Cert.KernelLsIdeal.main_v4_1)) (v2 : (c : Dev Cert.KernelLsIdeal.nD) → Buf (Elt Ideal) ((c.tc : Thread Cert.KernelLsIdeal.nD Cert.KernelLsIdeal.τ).loc Cert.KernelLsIdeal.main_v4_2)) (v3 : (c : Dev Cert.KernelLsIdeal.nD) → Buf (Elt Ideal) ((c.tc : Thread Cert.KernelLsIdeal.nD Cert.KernelLsIdeal.τ).loc Cert.KernelLsIdeal.main_v4_3)) (v4 : (c : Dev Cert.KernelLsIdeal.nD) → Buf (Elt Ideal) ((c.tc : Thread Cert.KernelLsIdeal.nD Cert.KernelLsIdeal.τ).loc Cert.KernelLsIdeal.main_v4_4)),
      θ_run (Cert.KernelLsIdeal.defs (F := Ideal)) (onTc (τ := Cert.KernelLsIdeal.τ) (Cert.KernelLsIdeal.main (F := Ideal))) ⟨m, fun _ => 0, g⟩ (fun r => ∀ c : Dev Cert.KernelLsIdeal.nD,
          r.2.mem ((c.tc : Thread Cert.KernelLsIdeal.nD Cert.KernelLsIdeal.τ).loc Cert.KernelLsIdeal.main_v4_0) = v0 c
          ∧ r.2.mem ((c.tc : Thread Cert.KernelLsIdeal.nD Cert.KernelLsIdeal.τ).loc Cert.KernelLsIdeal.main_v4_1) = v1 c
          ∧ r.2.mem ((c.tc : Thread Cert.KernelLsIdeal.nD Cert.KernelLsIdeal.τ).loc Cert.KernelLsIdeal.main_v4_2) = v2 c
          ∧ r.2.mem ((c.tc : Thread Cert.KernelLsIdeal.nD Cert.KernelLsIdeal.τ).loc Cert.KernelLsIdeal.main_v4_3) = v3 c
          ∧ r.2.mem ((c.tc : Thread Cert.KernelLsIdeal.nD Cert.KernelLsIdeal.τ).loc Cert.KernelLsIdeal.main_v4_4) = v4 c
          ∧ r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
          ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
          ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
          ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
          ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
          ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ θ_run (Cert.ReferenceLsIdeal.defs (F := Ideal)) (onTc (τ := Cert.ReferenceLsIdeal.τ) (Cert.ReferenceLsIdeal.main (F := Ideal))) ⟨m', fun _ => 0, g'⟩ (fun r => ∀ c : Dev Cert.ReferenceLsIdeal.nD,
          r.2.mem ((c.tc : Thread Cert.ReferenceLsIdeal.nD Cert.ReferenceLsIdeal.τ).loc Cert.ReferenceLsIdeal.main_v88) = v0 c
          ∧ r.2.mem ((c.tc : Thread Cert.ReferenceLsIdeal.nD Cert.ReferenceLsIdeal.τ).loc Cert.ReferenceLsIdeal.main_v120) = v1 c
          ∧ r.2.mem ((c.tc : Thread Cert.ReferenceLsIdeal.nD Cert.ReferenceLsIdeal.τ).loc Cert.ReferenceLsIdeal.main_v121) = v2 c
          ∧ r.2.mem ((c.tc : Thread Cert.ReferenceLsIdeal.nD Cert.ReferenceLsIdeal.τ).loc Cert.ReferenceLsIdeal.main_v122) = v3 c
          ∧ r.2.mem ((c.tc : Thread Cert.ReferenceLsIdeal.nD Cert.ReferenceLsIdeal.τ).loc Cert.ReferenceLsIdeal.main_v123) = v4 c
          ∧ r.2.mem ((c.tc : Thread Cert.ReferenceLsIdeal.nD Cert.ReferenceLsIdeal.τ).loc Cert.ReferenceLsIdeal.main_arg0) = m' ((c.tc : Thread Cert.ReferenceLsIdeal.nD Cert.ReferenceLsIdeal.τ).loc Cert.ReferenceLsIdeal.main_arg0)
          ∧ r.2.mem ((c.tc : Thread Cert.ReferenceLsIdeal.nD Cert.ReferenceLsIdeal.τ).loc Cert.ReferenceLsIdeal.main_arg1) = m' ((c.tc : Thread Cert.ReferenceLsIdeal.nD Cert.ReferenceLsIdeal.τ).loc Cert.ReferenceLsIdeal.main_arg1)
          ∧ r.2.mem ((c.tc : Thread Cert.ReferenceLsIdeal.nD Cert.ReferenceLsIdeal.τ).loc Cert.ReferenceLsIdeal.main_arg2) = m' ((c.tc : Thread Cert.ReferenceLsIdeal.nD Cert.ReferenceLsIdeal.τ).loc Cert.ReferenceLsIdeal.main_arg2)
          ∧ r.2.mem ((c.tc : Thread Cert.ReferenceLsIdeal.nD Cert.ReferenceLsIdeal.τ).loc Cert.ReferenceLsIdeal.main_arg3) = m' ((c.tc : Thread Cert.ReferenceLsIdeal.nD Cert.ReferenceLsIdeal.τ).loc Cert.ReferenceLsIdeal.main_arg3)
          ∧ r.2.mem ((c.tc : Thread Cert.ReferenceLsIdeal.nD Cert.ReferenceLsIdeal.τ).loc Cert.ReferenceLsIdeal.main_arg4) = m' ((c.tc : Thread Cert.ReferenceLsIdeal.nD Cert.ReferenceLsIdeal.τ).loc Cert.ReferenceLsIdeal.main_arg4)
          ∧ r.2.mem ((c.tc : Thread Cert.ReferenceLsIdeal.nD Cert.ReferenceLsIdeal.τ).loc Cert.ReferenceLsIdeal.main_arg5) = m' ((c.tc : Thread Cert.ReferenceLsIdeal.nD Cert.ReferenceLsIdeal.τ).loc Cert.ReferenceLsIdeal.main_arg5))

def preserves_KernelLp_KernelLpIdeal : Prop :=
  True

def algebraic_KernelLpIdeal_ReferenceLpIdeal [hKernelLpIdeal : Cert.KernelLpIdeal.Facts] [hReferenceLpIdeal : Cert.ReferenceLpIdeal.Facts] : Prop :=
  ∀ (m : (ℓ : Loc Cert.KernelLpIdeal.nD Cert.KernelLpIdeal.τ Cert.KernelLpIdeal.sig) → Buf (Elt Ideal) ℓ) (g : Dev Cert.KernelLpIdeal.nD → PrngReg)
    (m' : (ℓ : Loc Cert.ReferenceLpIdeal.nD Cert.ReferenceLpIdeal.τ Cert.ReferenceLpIdeal.sig) → Buf (Elt Ideal) ℓ) (g' : Dev Cert.ReferenceLpIdeal.nD → PrngReg), Pre_KernelLpIdeal m →
    (∀ c : Dev Cert.KernelLpIdeal.nD,
      m' ((c.tc : Thread Cert.ReferenceLpIdeal.nD Cert.ReferenceLpIdeal.τ).loc Cert.ReferenceLpIdeal.main_arg0) = m ((c.tc : Thread Cert.KernelLpIdeal.nD Cert.KernelLpIdeal.τ).loc Cert.KernelLpIdeal.main_arg0)
      ∧ m' ((c.tc : Thread Cert.ReferenceLpIdeal.nD Cert.ReferenceLpIdeal.τ).loc Cert.ReferenceLpIdeal.main_arg1) = m ((c.tc : Thread Cert.KernelLpIdeal.nD Cert.KernelLpIdeal.τ).loc Cert.KernelLpIdeal.main_arg1)
      ∧ m' ((c.tc : Thread Cert.ReferenceLpIdeal.nD Cert.ReferenceLpIdeal.τ).loc Cert.ReferenceLpIdeal.main_arg2) = m ((c.tc : Thread Cert.KernelLpIdeal.nD Cert.KernelLpIdeal.τ).loc Cert.KernelLpIdeal.main_arg2)
      ∧ m' ((c.tc : Thread Cert.ReferenceLpIdeal.nD Cert.ReferenceLpIdeal.τ).loc Cert.ReferenceLpIdeal.main_arg3) = m ((c.tc : Thread Cert.KernelLpIdeal.nD Cert.KernelLpIdeal.τ).loc Cert.KernelLpIdeal.main_arg3)
      ∧ m' ((c.tc : Thread Cert.ReferenceLpIdeal.nD Cert.ReferenceLpIdeal.τ).loc Cert.ReferenceLpIdeal.main_arg4) = m ((c.tc : Thread Cert.KernelLpIdeal.nD Cert.KernelLpIdeal.τ).loc Cert.KernelLpIdeal.main_arg4)
      ∧ m' ((c.tc : Thread Cert.ReferenceLpIdeal.nD Cert.ReferenceLpIdeal.τ).loc Cert.ReferenceLpIdeal.main_arg5) = m ((c.tc : Thread Cert.KernelLpIdeal.nD Cert.KernelLpIdeal.τ).loc Cert.KernelLpIdeal.main_arg5)
      ∧ m' ((c.tc : Thread Cert.ReferenceLpIdeal.nD Cert.ReferenceLpIdeal.τ).loc Cert.ReferenceLpIdeal.main_arg6) = m ((c.tc : Thread Cert.KernelLpIdeal.nD Cert.KernelLpIdeal.τ).loc Cert.KernelLpIdeal.main_arg6)) →
    ∃ (v0 : (c : Dev Cert.KernelLpIdeal.nD) → Buf (Elt Ideal) ((c.tc : Thread Cert.KernelLpIdeal.nD Cert.KernelLpIdeal.τ).loc Cert.KernelLpIdeal.main_v0_0)) (v1 : (c : Dev Cert.KernelLpIdeal.nD) → Buf (Elt Ideal) ((c.tc : Thread Cert.KernelLpIdeal.nD Cert.KernelLpIdeal.τ).loc Cert.KernelLpIdeal.main_v0_1)) (v2 : (c : Dev Cert.KernelLpIdeal.nD) → Buf (Elt Ideal) ((c.tc : Thread Cert.KernelLpIdeal.nD Cert.KernelLpIdeal.τ).loc Cert.KernelLpIdeal.main_v0_2)),
      θ_run (Cert.KernelLpIdeal.defs (F := Ideal)) (onTc (τ := Cert.KernelLpIdeal.τ) (Cert.KernelLpIdeal.main (F := Ideal))) ⟨m, fun _ => 0, g⟩ (fun r => ∀ c : Dev Cert.KernelLpIdeal.nD,
          r.2.mem ((c.tc : Thread Cert.KernelLpIdeal.nD Cert.KernelLpIdeal.τ).loc Cert.KernelLpIdeal.main_v0_0) = v0 c
          ∧ r.2.mem ((c.tc : Thread Cert.KernelLpIdeal.nD Cert.KernelLpIdeal.τ).loc Cert.KernelLpIdeal.main_v0_1) = v1 c
          ∧ r.2.mem ((c.tc : Thread Cert.KernelLpIdeal.nD Cert.KernelLpIdeal.τ).loc Cert.KernelLpIdeal.main_v0_2) = v2 c
          ∧ r.2.mem ((c.tc : Thread Cert.KernelLpIdeal.nD Cert.KernelLpIdeal.τ).loc Cert.KernelLpIdeal.main_arg0) = m ((c.tc : Thread Cert.KernelLpIdeal.nD Cert.KernelLpIdeal.τ).loc Cert.KernelLpIdeal.main_arg0)
          ∧ r.2.mem ((c.tc : Thread Cert.KernelLpIdeal.nD Cert.KernelLpIdeal.τ).loc Cert.KernelLpIdeal.main_arg1) = m ((c.tc : Thread Cert.KernelLpIdeal.nD Cert.KernelLpIdeal.τ).loc Cert.KernelLpIdeal.main_arg1)
          ∧ r.2.mem ((c.tc : Thread Cert.KernelLpIdeal.nD Cert.KernelLpIdeal.τ).loc Cert.KernelLpIdeal.main_arg2) = m ((c.tc : Thread Cert.KernelLpIdeal.nD Cert.KernelLpIdeal.τ).loc Cert.KernelLpIdeal.main_arg2)
          ∧ r.2.mem ((c.tc : Thread Cert.KernelLpIdeal.nD Cert.KernelLpIdeal.τ).loc Cert.KernelLpIdeal.main_arg3) = m ((c.tc : Thread Cert.KernelLpIdeal.nD Cert.KernelLpIdeal.τ).loc Cert.KernelLpIdeal.main_arg3)
          ∧ r.2.mem ((c.tc : Thread Cert.KernelLpIdeal.nD Cert.KernelLpIdeal.τ).loc Cert.KernelLpIdeal.main_arg4) = m ((c.tc : Thread Cert.KernelLpIdeal.nD Cert.KernelLpIdeal.τ).loc Cert.KernelLpIdeal.main_arg4)
          ∧ r.2.mem ((c.tc : Thread Cert.KernelLpIdeal.nD Cert.KernelLpIdeal.τ).loc Cert.KernelLpIdeal.main_arg5) = m ((c.tc : Thread Cert.KernelLpIdeal.nD Cert.KernelLpIdeal.τ).loc Cert.KernelLpIdeal.main_arg5)
          ∧ r.2.mem ((c.tc : Thread Cert.KernelLpIdeal.nD Cert.KernelLpIdeal.τ).loc Cert.KernelLpIdeal.main_arg6) = m ((c.tc : Thread Cert.KernelLpIdeal.nD Cert.KernelLpIdeal.τ).loc Cert.KernelLpIdeal.main_arg6))
      ∧ θ_run (Cert.ReferenceLpIdeal.defs (F := Ideal)) (onTc (τ := Cert.ReferenceLpIdeal.τ) (Cert.ReferenceLpIdeal.main (F := Ideal))) ⟨m', fun _ => 0, g'⟩ (fun r => ∀ c : Dev Cert.ReferenceLpIdeal.nD,
          r.2.mem ((c.tc : Thread Cert.ReferenceLpIdeal.nD Cert.ReferenceLpIdeal.τ).loc Cert.ReferenceLpIdeal.main_v8) = v0 c
          ∧ r.2.mem ((c.tc : Thread Cert.ReferenceLpIdeal.nD Cert.ReferenceLpIdeal.τ).loc Cert.ReferenceLpIdeal.main_v36) = v1 c
          ∧ r.2.mem ((c.tc : Thread Cert.ReferenceLpIdeal.nD Cert.ReferenceLpIdeal.τ).loc Cert.ReferenceLpIdeal.main_v37) = v2 c
          ∧ r.2.mem ((c.tc : Thread Cert.ReferenceLpIdeal.nD Cert.ReferenceLpIdeal.τ).loc Cert.ReferenceLpIdeal.main_arg0) = m' ((c.tc : Thread Cert.ReferenceLpIdeal.nD Cert.ReferenceLpIdeal.τ).loc Cert.ReferenceLpIdeal.main_arg0)
          ∧ r.2.mem ((c.tc : Thread Cert.ReferenceLpIdeal.nD Cert.ReferenceLpIdeal.τ).loc Cert.ReferenceLpIdeal.main_arg1) = m' ((c.tc : Thread Cert.ReferenceLpIdeal.nD Cert.ReferenceLpIdeal.τ).loc Cert.ReferenceLpIdeal.main_arg1)
          ∧ r.2.mem ((c.tc : Thread Cert.ReferenceLpIdeal.nD Cert.ReferenceLpIdeal.τ).loc Cert.ReferenceLpIdeal.main_arg2) = m' ((c.tc : Thread Cert.ReferenceLpIdeal.nD Cert.ReferenceLpIdeal.τ).loc Cert.ReferenceLpIdeal.main_arg2)
          ∧ r.2.mem ((c.tc : Thread Cert.ReferenceLpIdeal.nD Cert.ReferenceLpIdeal.τ).loc Cert.ReferenceLpIdeal.main_arg3) = m' ((c.tc : Thread Cert.ReferenceLpIdeal.nD Cert.ReferenceLpIdeal.τ).loc Cert.ReferenceLpIdeal.main_arg3)
          ∧ r.2.mem ((c.tc : Thread Cert.ReferenceLpIdeal.nD Cert.ReferenceLpIdeal.τ).loc Cert.ReferenceLpIdeal.main_arg4) = m' ((c.tc : Thread Cert.ReferenceLpIdeal.nD Cert.ReferenceLpIdeal.τ).loc Cert.ReferenceLpIdeal.main_arg4)
          ∧ r.2.mem ((c.tc : Thread Cert.ReferenceLpIdeal.nD Cert.ReferenceLpIdeal.τ).loc Cert.ReferenceLpIdeal.main_arg5) = m' ((c.tc : Thread Cert.ReferenceLpIdeal.nD Cert.ReferenceLpIdeal.τ).loc Cert.ReferenceLpIdeal.main_arg5)
          ∧ r.2.mem ((c.tc : Thread Cert.ReferenceLpIdeal.nD Cert.ReferenceLpIdeal.τ).loc Cert.ReferenceLpIdeal.main_arg6) = m' ((c.tc : Thread Cert.ReferenceLpIdeal.nD Cert.ReferenceLpIdeal.τ).loc Cert.ReferenceLpIdeal.main_arg6))

def preserves_KernelLm_KernelLmIdeal : Prop :=
  True

def algebraic_KernelLmIdeal_ReferenceLmIdeal [hKernelLmIdeal : Cert.KernelLmIdeal.Facts] [hReferenceLmIdeal : Cert.ReferenceLmIdeal.Facts] : Prop :=
  ∀ (m : (ℓ : Loc Cert.KernelLmIdeal.nD Cert.KernelLmIdeal.τ Cert.KernelLmIdeal.sig) → Buf (Elt Ideal) ℓ) (g : Dev Cert.KernelLmIdeal.nD → PrngReg)
    (m' : (ℓ : Loc Cert.ReferenceLmIdeal.nD Cert.ReferenceLmIdeal.τ Cert.ReferenceLmIdeal.sig) → Buf (Elt Ideal) ℓ) (g' : Dev Cert.ReferenceLmIdeal.nD → PrngReg), Pre_KernelLmIdeal m →
    (∀ c : Dev Cert.KernelLmIdeal.nD,
      m' ((c.tc : Thread Cert.ReferenceLmIdeal.nD Cert.ReferenceLmIdeal.τ).loc Cert.ReferenceLmIdeal.main_arg0) = m ((c.tc : Thread Cert.KernelLmIdeal.nD Cert.KernelLmIdeal.τ).loc Cert.KernelLmIdeal.main_arg0)
      ∧ m' ((c.tc : Thread Cert.ReferenceLmIdeal.nD Cert.ReferenceLmIdeal.τ).loc Cert.ReferenceLmIdeal.main_arg1) = m ((c.tc : Thread Cert.KernelLmIdeal.nD Cert.KernelLmIdeal.τ).loc Cert.KernelLmIdeal.main_arg1)
      ∧ m' ((c.tc : Thread Cert.ReferenceLmIdeal.nD Cert.ReferenceLmIdeal.τ).loc Cert.ReferenceLmIdeal.main_arg2) = m ((c.tc : Thread Cert.KernelLmIdeal.nD Cert.KernelLmIdeal.τ).loc Cert.KernelLmIdeal.main_arg2)
      ∧ m' ((c.tc : Thread Cert.ReferenceLmIdeal.nD Cert.ReferenceLmIdeal.τ).loc Cert.ReferenceLmIdeal.main_arg3) = m ((c.tc : Thread Cert.KernelLmIdeal.nD Cert.KernelLmIdeal.τ).loc Cert.KernelLmIdeal.main_arg3)
      ∧ m' ((c.tc : Thread Cert.ReferenceLmIdeal.nD Cert.ReferenceLmIdeal.τ).loc Cert.ReferenceLmIdeal.main_arg4) = m ((c.tc : Thread Cert.KernelLmIdeal.nD Cert.KernelLmIdeal.τ).loc Cert.KernelLmIdeal.main_arg4)) →
    ∃ (v0 : (c : Dev Cert.KernelLmIdeal.nD) → Buf (Elt Ideal) ((c.tc : Thread Cert.KernelLmIdeal.nD Cert.KernelLmIdeal.τ).loc Cert.KernelLmIdeal.main_v0_0)) (v1 : (c : Dev Cert.KernelLmIdeal.nD) → Buf (Elt Ideal) ((c.tc : Thread Cert.KernelLmIdeal.nD Cert.KernelLmIdeal.τ).loc Cert.KernelLmIdeal.main_v0_1)) (v2 : (c : Dev Cert.KernelLmIdeal.nD) → Buf (Elt Ideal) ((c.tc : Thread Cert.KernelLmIdeal.nD Cert.KernelLmIdeal.τ).loc Cert.KernelLmIdeal.main_v0_2)),
      θ_run (Cert.KernelLmIdeal.defs (F := Ideal)) (onTc (τ := Cert.KernelLmIdeal.τ) (Cert.KernelLmIdeal.main (F := Ideal))) ⟨m, fun _ => 0, g⟩ (fun r => ∀ c : Dev Cert.KernelLmIdeal.nD,
          r.2.mem ((c.tc : Thread Cert.KernelLmIdeal.nD Cert.KernelLmIdeal.τ).loc Cert.KernelLmIdeal.main_v0_0) = v0 c
          ∧ r.2.mem ((c.tc : Thread Cert.KernelLmIdeal.nD Cert.KernelLmIdeal.τ).loc Cert.KernelLmIdeal.main_v0_1) = v1 c
          ∧ r.2.mem ((c.tc : Thread Cert.KernelLmIdeal.nD Cert.KernelLmIdeal.τ).loc Cert.KernelLmIdeal.main_v0_2) = v2 c
          ∧ r.2.mem ((c.tc : Thread Cert.KernelLmIdeal.nD Cert.KernelLmIdeal.τ).loc Cert.KernelLmIdeal.main_arg0) = m ((c.tc : Thread Cert.KernelLmIdeal.nD Cert.KernelLmIdeal.τ).loc Cert.KernelLmIdeal.main_arg0)
          ∧ r.2.mem ((c.tc : Thread Cert.KernelLmIdeal.nD Cert.KernelLmIdeal.τ).loc Cert.KernelLmIdeal.main_arg1) = m ((c.tc : Thread Cert.KernelLmIdeal.nD Cert.KernelLmIdeal.τ).loc Cert.KernelLmIdeal.main_arg1)
          ∧ r.2.mem ((c.tc : Thread Cert.KernelLmIdeal.nD Cert.KernelLmIdeal.τ).loc Cert.KernelLmIdeal.main_arg2) = m ((c.tc : Thread Cert.KernelLmIdeal.nD Cert.KernelLmIdeal.τ).loc Cert.KernelLmIdeal.main_arg2)
          ∧ r.2.mem ((c.tc : Thread Cert.KernelLmIdeal.nD Cert.KernelLmIdeal.τ).loc Cert.KernelLmIdeal.main_arg3) = m ((c.tc : Thread Cert.KernelLmIdeal.nD Cert.KernelLmIdeal.τ).loc Cert.KernelLmIdeal.main_arg3)
          ∧ r.2.mem ((c.tc : Thread Cert.KernelLmIdeal.nD Cert.KernelLmIdeal.τ).loc Cert.KernelLmIdeal.main_arg4) = m ((c.tc : Thread Cert.KernelLmIdeal.nD Cert.KernelLmIdeal.τ).loc Cert.KernelLmIdeal.main_arg4))
      ∧ θ_run (Cert.ReferenceLmIdeal.defs (F := Ideal)) (onTc (τ := Cert.ReferenceLmIdeal.τ) (Cert.ReferenceLmIdeal.main (F := Ideal))) ⟨m', fun _ => 0, g'⟩ (fun r => ∀ c : Dev Cert.ReferenceLmIdeal.nD,
          r.2.mem ((c.tc : Thread Cert.ReferenceLmIdeal.nD Cert.ReferenceLmIdeal.τ).loc Cert.ReferenceLmIdeal.main_v5) = v0 c
          ∧ r.2.mem ((c.tc : Thread Cert.ReferenceLmIdeal.nD Cert.ReferenceLmIdeal.τ).loc Cert.ReferenceLmIdeal.main_v33) = v1 c
          ∧ r.2.mem ((c.tc : Thread Cert.ReferenceLmIdeal.nD Cert.ReferenceLmIdeal.τ).loc Cert.ReferenceLmIdeal.main_v34) = v2 c
          ∧ r.2.mem ((c.tc : Thread Cert.ReferenceLmIdeal.nD Cert.ReferenceLmIdeal.τ).loc Cert.ReferenceLmIdeal.main_arg0) = m' ((c.tc : Thread Cert.ReferenceLmIdeal.nD Cert.ReferenceLmIdeal.τ).loc Cert.ReferenceLmIdeal.main_arg0)
          ∧ r.2.mem ((c.tc : Thread Cert.ReferenceLmIdeal.nD Cert.ReferenceLmIdeal.τ).loc Cert.ReferenceLmIdeal.main_arg1) = m' ((c.tc : Thread Cert.ReferenceLmIdeal.nD Cert.ReferenceLmIdeal.τ).loc Cert.ReferenceLmIdeal.main_arg1)
          ∧ r.2.mem ((c.tc : Thread Cert.ReferenceLmIdeal.nD Cert.ReferenceLmIdeal.τ).loc Cert.ReferenceLmIdeal.main_arg2) = m' ((c.tc : Thread Cert.ReferenceLmIdeal.nD Cert.ReferenceLmIdeal.τ).loc Cert.ReferenceLmIdeal.main_arg2)
          ∧ r.2.mem ((c.tc : Thread Cert.ReferenceLmIdeal.nD Cert.ReferenceLmIdeal.τ).loc Cert.ReferenceLmIdeal.main_arg3) = m' ((c.tc : Thread Cert.ReferenceLmIdeal.nD Cert.ReferenceLmIdeal.τ).loc Cert.ReferenceLmIdeal.main_arg3)
          ∧ r.2.mem ((c.tc : Thread Cert.ReferenceLmIdeal.nD Cert.ReferenceLmIdeal.τ).loc Cert.ReferenceLmIdeal.main_arg4) = m' ((c.tc : Thread Cert.ReferenceLmIdeal.nD Cert.ReferenceLmIdeal.τ).loc Cert.ReferenceLmIdeal.main_arg4))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0_0)) (v1 : (c : Dev Cert.KernelDoIdeal.nD) → Buf (Elt Ideal) ((c.tc : Thread Cert.KernelDoIdeal.nD Cert.KernelDoIdeal.τ).loc Cert.KernelDoIdeal.main_v0_1)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0_0) = v0 c
          ∧ r.2.mem ((c.tc : Thread Cert.KernelDoIdeal.nD Cert.KernelDoIdeal.τ).loc Cert.KernelDoIdeal.main_v0_1) = v1 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v5) = v0 c
          ∧ r.2.mem ((c.tc : Thread Cert.ReferenceDoIdeal.nD Cert.ReferenceDoIdeal.τ).loc Cert.ReferenceDoIdeal.main_v6) = v1 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelDm_KernelDmIdeal : Prop :=
  True

def algebraic_KernelDmIdeal_ReferenceDmIdeal [hKernelDmIdeal : Cert.KernelDmIdeal.Facts] [hReferenceDmIdeal : Cert.ReferenceDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg)
    (m' : (ℓ : Loc Cert.ReferenceDmIdeal.nD Cert.ReferenceDmIdeal.τ Cert.ReferenceDmIdeal.sig) → Buf (Elt Ideal) ℓ) (g' : Dev Cert.ReferenceDmIdeal.nD → PrngReg), Pre_KernelDmIdeal m →
    (∀ c : Dev Cert.KernelDmIdeal.nD,
      m' ((c.tc : Thread Cert.ReferenceDmIdeal.nD Cert.ReferenceDmIdeal.τ).loc Cert.ReferenceDmIdeal.main_arg0) = m ((c.tc : Thread Cert.KernelDmIdeal.nD Cert.KernelDmIdeal.τ).loc Cert.KernelDmIdeal.main_arg0)
      ∧ m' ((c.tc : Thread Cert.ReferenceDmIdeal.nD Cert.ReferenceDmIdeal.τ).loc Cert.ReferenceDmIdeal.main_arg1) = m ((c.tc : Thread Cert.KernelDmIdeal.nD Cert.KernelDmIdeal.τ).loc Cert.KernelDmIdeal.main_arg1)
      ∧ m' ((c.tc : Thread Cert.ReferenceDmIdeal.nD Cert.ReferenceDmIdeal.τ).loc Cert.ReferenceDmIdeal.main_arg2) = m ((c.tc : Thread Cert.KernelDmIdeal.nD Cert.KernelDmIdeal.τ).loc Cert.KernelDmIdeal.main_arg2)) →
    ∃ (v0 : (c : Dev Cert.KernelDmIdeal.nD) → Buf (Elt Ideal) ((c.tc : Thread Cert.KernelDmIdeal.nD Cert.KernelDmIdeal.τ).loc Cert.KernelDmIdeal.main_v0_0)) (v1 : (c : Dev Cert.KernelDmIdeal.nD) → Buf (Elt Ideal) ((c.tc : Thread Cert.KernelDmIdeal.nD Cert.KernelDmIdeal.τ).loc Cert.KernelDmIdeal.main_v0_1)),
      θ_run (Cert.KernelDmIdeal.defs (F := Ideal)) (onTc (τ := Cert.KernelDmIdeal.τ) (Cert.KernelDmIdeal.main (F := Ideal))) ⟨m, fun _ => 0, g⟩ (fun r => ∀ c : Dev Cert.KernelDmIdeal.nD,
          r.2.mem ((c.tc : Thread Cert.KernelDmIdeal.nD Cert.KernelDmIdeal.τ).loc Cert.KernelDmIdeal.main_v0_0) = v0 c
          ∧ r.2.mem ((c.tc : Thread Cert.KernelDmIdeal.nD Cert.KernelDmIdeal.τ).loc Cert.KernelDmIdeal.main_v0_1) = v1 c
          ∧ r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
          ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1)
          ∧ r.2.mem ((c.tc : Thread Cert.KernelDmIdeal.nD Cert.KernelDmIdeal.τ).loc Cert.KernelDmIdeal.main_arg2) = m ((c.tc : Thread Cert.KernelDmIdeal.nD Cert.KernelDmIdeal.τ).loc Cert.KernelDmIdeal.main_arg2))
      ∧ θ_run (Cert.ReferenceDmIdeal.defs (F := Ideal)) (onTc (τ := Cert.ReferenceDmIdeal.τ) (Cert.ReferenceDmIdeal.main (F := Ideal))) ⟨m', fun _ => 0, g'⟩ (fun r => ∀ c : Dev Cert.ReferenceDmIdeal.nD,
          r.2.mem ((c.tc : Thread Cert.ReferenceDmIdeal.nD Cert.ReferenceDmIdeal.τ).loc Cert.ReferenceDmIdeal.main_v10) = v0 c
          ∧ r.2.mem ((c.tc : Thread Cert.ReferenceDmIdeal.nD Cert.ReferenceDmIdeal.τ).loc Cert.ReferenceDmIdeal.main_v8) = v1 c
          ∧ r.2.mem ((c.tc : Thread Cert.ReferenceDmIdeal.nD Cert.ReferenceDmIdeal.τ).loc Cert.ReferenceDmIdeal.main_arg0) = m' ((c.tc : Thread Cert.ReferenceDmIdeal.nD Cert.ReferenceDmIdeal.τ).loc Cert.ReferenceDmIdeal.main_arg0)
          ∧ r.2.mem ((c.tc : Thread Cert.ReferenceDmIdeal.nD Cert.ReferenceDmIdeal.τ).loc Cert.ReferenceDmIdeal.main_arg1) = m' ((c.tc : Thread Cert.ReferenceDmIdeal.nD Cert.ReferenceDmIdeal.τ).loc Cert.ReferenceDmIdeal.main_arg1)
          ∧ r.2.mem ((c.tc : Thread Cert.ReferenceDmIdeal.nD Cert.ReferenceDmIdeal.τ).loc Cert.ReferenceDmIdeal.main_arg2) = m' ((c.tc : Thread Cert.ReferenceDmIdeal.nD Cert.ReferenceDmIdeal.τ).loc Cert.ReferenceDmIdeal.main_arg2))

def preserves_KernelIb_KernelIbIdeal : Prop :=
  True

def algebraic_KernelIbIdeal_ReferenceIbIdeal [hKernelIbIdeal : Cert.KernelIbIdeal.Facts] [hReferenceIbIdeal : Cert.ReferenceIbIdeal.Facts] : Prop :=
  ∀ (m : (ℓ : Loc Cert.KernelIbIdeal.nD Cert.KernelIbIdeal.τ Cert.KernelIbIdeal.sig) → Buf (Elt Ideal) ℓ) (g : Dev Cert.KernelIbIdeal.nD → PrngReg)
    (m' : (ℓ : Loc Cert.ReferenceIbIdeal.nD Cert.ReferenceIbIdeal.τ Cert.ReferenceIbIdeal.sig) → Buf (Elt Ideal) ℓ) (g' : Dev Cert.ReferenceIbIdeal.nD → PrngReg), Pre_KernelIbIdeal m →
    (∀ c : Dev Cert.KernelIbIdeal.nD,
      m' ((c.tc : Thread Cert.ReferenceIbIdeal.nD Cert.ReferenceIbIdeal.τ).loc Cert.ReferenceIbIdeal.main_arg0) = m ((c.tc : Thread Cert.KernelIbIdeal.nD Cert.KernelIbIdeal.τ).loc Cert.KernelIbIdeal.main_arg0)
      ∧ m' ((c.tc : Thread Cert.ReferenceIbIdeal.nD Cert.ReferenceIbIdeal.τ).loc Cert.ReferenceIbIdeal.main_arg1) = m ((c.tc : Thread Cert.KernelIbIdeal.nD Cert.KernelIbIdeal.τ).loc Cert.KernelIbIdeal.main_arg1)
      ∧ m' ((c.tc : Thread Cert.ReferenceIbIdeal.nD Cert.ReferenceIbIdeal.τ).loc Cert.ReferenceIbIdeal.main_arg2) = m ((c.tc : Thread Cert.KernelIbIdeal.nD Cert.KernelIbIdeal.τ).loc Cert.KernelIbIdeal.main_arg2)
      ∧ m' ((c.tc : Thread Cert.ReferenceIbIdeal.nD Cert.ReferenceIbIdeal.τ).loc Cert.ReferenceIbIdeal.main_arg3) = m ((c.tc : Thread Cert.KernelIbIdeal.nD Cert.KernelIbIdeal.τ).loc Cert.KernelIbIdeal.main_arg3)
      ∧ m' ((c.tc : Thread Cert.ReferenceIbIdeal.nD Cert.ReferenceIbIdeal.τ).loc Cert.ReferenceIbIdeal.main_arg4) = m ((c.tc : Thread Cert.KernelIbIdeal.nD Cert.KernelIbIdeal.τ).loc Cert.KernelIbIdeal.main_arg4)) →
    ∃ (v0 : (c : Dev Cert.KernelIbIdeal.nD) → Buf (Elt Ideal) ((c.tc : Thread Cert.KernelIbIdeal.nD Cert.KernelIbIdeal.τ).loc Cert.KernelIbIdeal.main_v0_0)) (v1 : (c : Dev Cert.KernelIbIdeal.nD) → Buf (Elt Ideal) ((c.tc : Thread Cert.KernelIbIdeal.nD Cert.KernelIbIdeal.τ).loc Cert.KernelIbIdeal.main_v0_1)),
      θ_run (Cert.KernelIbIdeal.defs (F := Ideal)) (onTc (τ := Cert.KernelIbIdeal.τ) (Cert.KernelIbIdeal.main (F := Ideal))) ⟨m, fun _ => 0, g⟩ (fun r => ∀ c : Dev Cert.KernelIbIdeal.nD,
          r.2.mem ((c.tc : Thread Cert.KernelIbIdeal.nD Cert.KernelIbIdeal.τ).loc Cert.KernelIbIdeal.main_v0_0) = v0 c
          ∧ r.2.mem ((c.tc : Thread Cert.KernelIbIdeal.nD Cert.KernelIbIdeal.τ).loc Cert.KernelIbIdeal.main_v0_1) = v1 c
          ∧ r.2.mem ((c.tc : Thread Cert.KernelIbIdeal.nD Cert.KernelIbIdeal.τ).loc Cert.KernelIbIdeal.main_arg0) = m ((c.tc : Thread Cert.KernelIbIdeal.nD Cert.KernelIbIdeal.τ).loc Cert.KernelIbIdeal.main_arg0)
          ∧ r.2.mem ((c.tc : Thread Cert.KernelIbIdeal.nD Cert.KernelIbIdeal.τ).loc Cert.KernelIbIdeal.main_arg1) = m ((c.tc : Thread Cert.KernelIbIdeal.nD Cert.KernelIbIdeal.τ).loc Cert.KernelIbIdeal.main_arg1)
          ∧ r.2.mem ((c.tc : Thread Cert.KernelIbIdeal.nD Cert.KernelIbIdeal.τ).loc Cert.KernelIbIdeal.main_arg2) = m ((c.tc : Thread Cert.KernelIbIdeal.nD Cert.KernelIbIdeal.τ).loc Cert.KernelIbIdeal.main_arg2)
          ∧ r.2.mem ((c.tc : Thread Cert.KernelIbIdeal.nD Cert.KernelIbIdeal.τ).loc Cert.KernelIbIdeal.main_arg3) = m ((c.tc : Thread Cert.KernelIbIdeal.nD Cert.KernelIbIdeal.τ).loc Cert.KernelIbIdeal.main_arg3)
          ∧ r.2.mem ((c.tc : Thread Cert.KernelIbIdeal.nD Cert.KernelIbIdeal.τ).loc Cert.KernelIbIdeal.main_arg4) = m ((c.tc : Thread Cert.KernelIbIdeal.nD Cert.KernelIbIdeal.τ).loc Cert.KernelIbIdeal.main_arg4))
      ∧ θ_run (Cert.ReferenceIbIdeal.defs (F := Ideal)) (onTc (τ := Cert.ReferenceIbIdeal.τ) (Cert.ReferenceIbIdeal.main (F := Ideal))) ⟨m', fun _ => 0, g'⟩ (fun r => ∀ c : Dev Cert.ReferenceIbIdeal.nD,
          r.2.mem ((c.tc : Thread Cert.ReferenceIbIdeal.nD Cert.ReferenceIbIdeal.τ).loc Cert.ReferenceIbIdeal.main_v14) = v0 c
          ∧ r.2.mem ((c.tc : Thread Cert.ReferenceIbIdeal.nD Cert.ReferenceIbIdeal.τ).loc Cert.ReferenceIbIdeal.main_v15) = v1 c
          ∧ r.2.mem ((c.tc : Thread Cert.ReferenceIbIdeal.nD Cert.ReferenceIbIdeal.τ).loc Cert.ReferenceIbIdeal.main_arg0) = m' ((c.tc : Thread Cert.ReferenceIbIdeal.nD Cert.ReferenceIbIdeal.τ).loc Cert.ReferenceIbIdeal.main_arg0)
          ∧ r.2.mem ((c.tc : Thread Cert.ReferenceIbIdeal.nD Cert.ReferenceIbIdeal.τ).loc Cert.ReferenceIbIdeal.main_arg1) = m' ((c.tc : Thread Cert.ReferenceIbIdeal.nD Cert.ReferenceIbIdeal.τ).loc Cert.ReferenceIbIdeal.main_arg1)
          ∧ r.2.mem ((c.tc : Thread Cert.ReferenceIbIdeal.nD Cert.ReferenceIbIdeal.τ).loc Cert.ReferenceIbIdeal.main_arg2) = m' ((c.tc : Thread Cert.ReferenceIbIdeal.nD Cert.ReferenceIbIdeal.τ).loc Cert.ReferenceIbIdeal.main_arg2)
          ∧ r.2.mem ((c.tc : Thread Cert.ReferenceIbIdeal.nD Cert.ReferenceIbIdeal.τ).loc Cert.ReferenceIbIdeal.main_arg3) = m' ((c.tc : Thread Cert.ReferenceIbIdeal.nD Cert.ReferenceIbIdeal.τ).loc Cert.ReferenceIbIdeal.main_arg3)
          ∧ r.2.mem ((c.tc : Thread Cert.ReferenceIbIdeal.nD Cert.ReferenceIbIdeal.τ).loc Cert.ReferenceIbIdeal.main_arg4) = m' ((c.tc : Thread Cert.ReferenceIbIdeal.nD Cert.ReferenceIbIdeal.τ).loc Cert.ReferenceIbIdeal.main_arg4))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hKernelDv : Cert.KernelDv.Facts) (hKernelDvIdeal : Cert.KernelDvIdeal.Facts) (hReferenceDvIdeal : Cert.ReferenceDvIdeal.Facts) (hKernelDa : Cert.KernelDa.Facts) (hKernelDaIdeal : Cert.KernelDaIdeal.Facts) (hReferenceDaIdeal : Cert.ReferenceDaIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelDn : Cert.KernelDn.Facts) (hKernelDnIdeal : Cert.KernelDnIdeal.Facts) (hReferenceDnIdeal : Cert.ReferenceDnIdeal.Facts) (hKernelDq : Cert.KernelDq.Facts) (hKernelDqIdeal : Cert.KernelDqIdeal.Facts) (hReferenceDqIdeal : Cert.ReferenceDqIdeal.Facts) (hKernelDp : Cert.KernelDp.Facts) (hKernelDpIdeal : Cert.KernelDpIdeal.Facts) (hReferenceDpIdeal : Cert.ReferenceDpIdeal.Facts) (hKernelLn : Cert.KernelLn.Facts) (hKernelLnIdeal : Cert.KernelLnIdeal.Facts) (hReferenceLnIdeal : Cert.ReferenceLnIdeal.Facts) (hKernelLs : Cert.KernelLs.Facts) (hKernelLsIdeal : Cert.KernelLsIdeal.Facts) (hReferenceLsIdeal : Cert.ReferenceLsIdeal.Facts) (hKernelLp : Cert.KernelLp.Facts) (hKernelLpIdeal : Cert.KernelLpIdeal.Facts) (hReferenceLpIdeal : Cert.ReferenceLpIdeal.Facts) (hKernelLm : Cert.KernelLm.Facts) (hKernelLmIdeal : Cert.KernelLmIdeal.Facts) (hReferenceLmIdeal : Cert.ReferenceLmIdeal.Facts) (hKernelDo : Cert.KernelDo.Facts) (hKernelDoIdeal : Cert.KernelDoIdeal.Facts) (hReferenceDoIdeal : Cert.ReferenceDoIdeal.Facts) (hKernelDm : Cert.KernelDm.Facts) (hKernelDmIdeal : Cert.KernelDmIdeal.Facts) (hReferenceDmIdeal : Cert.ReferenceDmIdeal.Facts) (hKernelIb : Cert.KernelIb.Facts) (hKernelIbIdeal : Cert.KernelIbIdeal.Facts) (hReferenceIbIdeal : Cert.ReferenceIbIdeal.Facts) (hPre_finite : Cert.Pre_finite.Facts) (hPre_finite_norm : Cert.Pre_finite_norm.Facts) (hPre_finite_norm_mix : Cert.Pre_finite_norm_mix.Facts) (hPre_finite_norm_out : Cert.Pre_finite_norm_out.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDv (hKernelDv := hKernelDv)
    ∧ quiescent_KernelDvIdeal (hKernelDvIdeal := hKernelDvIdeal)
    ∧ quiescent_ReferenceDvIdeal (hReferenceDvIdeal := hReferenceDvIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDn (hKernelDn := hKernelDn)
    ∧ quiescent_KernelDnIdeal (hKernelDnIdeal := hKernelDnIdeal)
    ∧ quiescent_KernelDnIdeal_pre_finite_norm (hKernelDnIdeal := hKernelDnIdeal) (hPre_finite_norm := hPre_finite_norm)
    ∧ quiescent_ReferenceDnIdeal (hReferenceDnIdeal := hReferenceDnIdeal)
    ∧ quiescent_ReferenceDnIdeal_pre_finite_norm (hReferenceDnIdeal := hReferenceDnIdeal) (hPre_finite_norm := hPre_finite_norm)
    ∧ quiescent_KernelDq (hKernelDq := hKernelDq)
    ∧ quiescent_KernelDqIdeal (hKernelDqIdeal := hKernelDqIdeal)
    ∧ quiescent_KernelDqIdeal_pre_finite_norm_mix (hKernelDqIdeal := hKernelDqIdeal) (hPre_finite_norm_mix := hPre_finite_norm_mix)
    ∧ quiescent_ReferenceDqIdeal (hReferenceDqIdeal := hReferenceDqIdeal)
    ∧ quiescent_ReferenceDqIdeal_pre_finite_norm_mix (hReferenceDqIdeal := hReferenceDqIdeal) (hPre_finite_norm_mix := hPre_finite_norm_mix)
    ∧ quiescent_KernelDp (hKernelDp := hKernelDp)
    ∧ quiescent_KernelDpIdeal (hKernelDpIdeal := hKernelDpIdeal)
    ∧ quiescent_KernelDpIdeal_pre_finite_norm_out (hKernelDpIdeal := hKernelDpIdeal) (hPre_finite_norm_out := hPre_finite_norm_out)
    ∧ quiescent_ReferenceDpIdeal (hReferenceDpIdeal := hReferenceDpIdeal)
    ∧ quiescent_ReferenceDpIdeal_pre_finite_norm_out (hReferenceDpIdeal := hReferenceDpIdeal) (hPre_finite_norm_out := hPre_finite_norm_out)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelLs (hKernelLs := hKernelLs)
    ∧ quiescent_KernelLsIdeal (hKernelLsIdeal := hKernelLsIdeal)
    ∧ quiescent_KernelLsIdeal_pre_finite_loss (hKernelLsIdeal := hKernelLsIdeal) (hPre_finite_loss := hPre_finite_loss)
    ∧ quiescent_ReferenceLsIdeal (hReferenceLsIdeal := hReferenceLsIdeal)
    ∧ quiescent_ReferenceLsIdeal_pre_finite_loss (hReferenceLsIdeal := hReferenceLsIdeal) (hPre_finite_loss := hPre_finite_loss)
    ∧ quiescent_KernelLp (hKernelLp := hKernelLp)
    ∧ quiescent_KernelLpIdeal (hKernelLpIdeal := hKernelLpIdeal)
    ∧ quiescent_ReferenceLpIdeal (hReferenceLpIdeal := hReferenceLpIdeal)
    ∧ quiescent_KernelLm (hKernelLm := hKernelLm)
    ∧ quiescent_KernelLmIdeal (hKernelLmIdeal := hKernelLmIdeal)
    ∧ quiescent_ReferenceLmIdeal (hReferenceLmIdeal := hReferenceLmIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelDm (hKernelDm := hKernelDm)
    ∧ quiescent_KernelDmIdeal (hKernelDmIdeal := hKernelDmIdeal)
    ∧ quiescent_ReferenceDmIdeal (hReferenceDmIdeal := hReferenceDmIdeal)
    ∧ quiescent_KernelIb (hKernelIb := hKernelIb)
    ∧ quiescent_KernelIbIdeal (hKernelIbIdeal := hKernelIbIdeal)
    ∧ quiescent_ReferenceIbIdeal (hReferenceIbIdeal := hReferenceIbIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelDv_KernelDvIdeal
    ∧ algebraic_KernelDvIdeal_ReferenceDvIdeal (hKernelDvIdeal := hKernelDvIdeal) (hReferenceDvIdeal := hReferenceDvIdeal)
    ∧ preserves_KernelDa_KernelDaIdeal
    ∧ algebraic_KernelDaIdeal_ReferenceDaIdeal (hKernelDaIdeal := hKernelDaIdeal) (hReferenceDaIdeal := hReferenceDaIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelDn_KernelDnIdeal
    ∧ algebraic_KernelDnIdeal_ReferenceDnIdeal_pre_finite_norm (hKernelDnIdeal := hKernelDnIdeal) (hReferenceDnIdeal := hReferenceDnIdeal) (hPre_finite_norm := hPre_finite_norm)
    ∧ preserves_KernelDq_KernelDqIdeal
    ∧ algebraic_KernelDqIdeal_ReferenceDqIdeal_pre_finite_norm_mix (hKernelDqIdeal := hKernelDqIdeal) (hReferenceDqIdeal := hReferenceDqIdeal) (hPre_finite_norm_mix := hPre_finite_norm_mix)
    ∧ preserves_KernelDp_KernelDpIdeal
    ∧ algebraic_KernelDpIdeal_ReferenceDpIdeal_pre_finite_norm_out (hKernelDpIdeal := hKernelDpIdeal) (hReferenceDpIdeal := hReferenceDpIdeal) (hPre_finite_norm_out := hPre_finite_norm_out)
    ∧ preserves_KernelLn_KernelLnIdeal
    ∧ algebraic_KernelLnIdeal_ReferenceLnIdeal (hKernelLnIdeal := hKernelLnIdeal) (hReferenceLnIdeal := hReferenceLnIdeal)
    ∧ preserves_KernelLs_KernelLsIdeal
    ∧ algebraic_KernelLsIdeal_ReferenceLsIdeal_pre_finite_loss (hKernelLsIdeal := hKernelLsIdeal) (hReferenceLsIdeal := hReferenceLsIdeal) (hPre_finite_loss := hPre_finite_loss)
    ∧ preserves_KernelLp_KernelLpIdeal
    ∧ algebraic_KernelLpIdeal_ReferenceLpIdeal (hKernelLpIdeal := hKernelLpIdeal) (hReferenceLpIdeal := hReferenceLpIdeal)
    ∧ preserves_KernelLm_KernelLmIdeal
    ∧ algebraic_KernelLmIdeal_ReferenceLmIdeal (hKernelLmIdeal := hKernelLmIdeal) (hReferenceLmIdeal := hReferenceLmIdeal)
    ∧ preserves_KernelDo_KernelDoIdeal
    ∧ algebraic_KernelDoIdeal_ReferenceDoIdeal (hKernelDoIdeal := hKernelDoIdeal) (hReferenceDoIdeal := hReferenceDoIdeal)
    ∧ preserves_KernelDm_KernelDmIdeal
    ∧ algebraic_KernelDmIdeal_ReferenceDmIdeal (hKernelDmIdeal := hKernelDmIdeal) (hReferenceDmIdeal := hReferenceDmIdeal)
    ∧ preserves_KernelIb_KernelIbIdeal
    ∧ algebraic_KernelIbIdeal_ReferenceIbIdeal (hKernelIbIdeal := hKernelIbIdeal) (hReferenceIbIdeal := hReferenceIbIdeal)
-- ==== Pre_finite.lean ====
abbrev S4096x1024 : Shape := ⟨2, ![4096, 1024]⟩
abbrev S4096x1536 : Shape := ⟨2, ![4096, 1536]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_

variable [Facts]

def fn_part1 {F : FTy → Type} [FloatOps F] (main_v16 : IVec S_ 1) (main_v17 : FVec F S4096x1536 .f32) : IVec S_ 1 :=
  let main_v18 : FVec F S4096x1536 .f32 := Host.absf main_v17
  let main_cst_4 : FVec F S_ .f32 := constant S_ .f32 0x7F800000#32
  let main_v19 : FVec F S4096x1536 .f32 := broadcastInDim S4096x1536 ![] bcast_S_S4096x1536 main_cst_4
  let main_v20 : IVec S4096x1536 1 := cmpf .olt main_v18 main_v19
  let main_c_5 : IVec S_ 1 := constantI S_ 1 1#1
  let main_v21 : IVec S_ 1 := (fun x v => Host.reduce IntOp.andi x v reducesTo_S4096x1536_S_d0_1 h_S_) main_v20 main_c_5
  let main_v22 : IVec S_ 1 := andi main_v16 main_v21
  main_v22

def fn {F : FTy → Type} [FloatOps F] (main_arg0 : FVec F S4096x1024 .bf16) (main_arg1 : FVec F S4096x1024 .bf16) (main_arg2 : FVec F S4096x1024 .bf16) (main_arg3 : FVec F S4096x1536 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1536 .f32 := (extf .f32 · bitsLt_bf16_f32) main_arg3
  fn_part1 (F := F) main_v16 main_v17
-- ==== Pre_finite_loss.lean ====
abbrev S4096x4096 : Shape := ⟨2, ![4096, 4096]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x1024 .f32) (main_arg5 : FVec F S4096x1024 .f32) (main_v15 : IVec S_ 1) (main_v17 : FVec F S1024 .f32) : IVec S_ 1 :=
  let main_v18 : FVec F S1024 .f32 := Host.absf main_v17
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v15 main_v21
  let main_v23 : FVec F S1x1024 .f32 := (extractStridedSlice S1x1024 ![1, 0] · slices_S2x1024_S1x1024_1_0) main_arg4
  let main_v24 : FVec F S1024 .f32 := shapeCast S1024 main_v23 shapeCasts_S1x1024_S1024
  let main_v25 : FVec F S1024 .f32 := Host.absf main_v24
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  let main_c_7 : IVec S_ 1 := constantI S_ 1 1#1
  let main_v28 : IVec S_ 1 := (fun x v => Host.reduce IntOp.andi x v reducesTo_S1024_S_d0 h_S_) main_v27 main_c_7
  let main_v29 : IVec S_ 1 := andi main_v22 main_v28
  let main_v30 : FVec F S4096x1024 .f32 := Host.absf main_arg5
  let main_cst_8 : FVec F S_ .f32 := constant S_ .f32 0x7F800000#32
  let main_v31 : FVec F S4096x1024 .f32 := broadcastInDim S4096x1024 ![] bcast_S_S4096x1024 main_cst_8
  let main_v32 : IVec S4096x1024 1 := cmpf .olt main_v30 main_v31
  let main_c_9 : IVec S_ 1 := constantI S_ 1 1#1
  let main_v33 : IVec S_ 1 := (fun x v => Host.reduce IntOp.andi x v reducesTo_S4096x1024_S_d0_1 h_S_) main_v32 main_c_9
  let main_v34 : IVec S_ 1 := andi main_v29 main_v33
  main_v34

def fn {F : FTy → Type} [FloatOps F] (main_arg0 : FVec F S4096x4096 .bf16) (main_arg1 : FVec F S4096x1024 .bf16) (main_arg2 : FVec F S4096x1024 .f32) (main_arg3 : FVec F S2x1024 .f32) (main_arg4 : FVec F S2x1024 .f32) (main_arg5 : FVec F S4096x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := (extractStridedSlice S1x1024 ![1, 0] · slices_S2x1024_S1x1024_1_0) main_arg3
  let main_v17 : FVec F S1024 .f32 := shapeCast S1024 main_v16 shapeCasts_S1x1024_S1024
  fn_part1 (F := F) main_arg4 main_arg5 main_v15 main_v17
-- ==== Pre_finite_norm.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S4096x1024 : S_.BroadcastsInDim S4096x1024 (![] : Fin 0 → Fin S4096x1024.rank)
  reducesTo_S4096x1024_S_d0_1 : S4096x1024.ReducesTo [0, 1] S_
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1x1024 .f32 := (extractStridedSlice S1x1024 ![0, 0] · slices_S2x1024_S1x1024_0_0) main_arg4
  let main_v22 : FVec F S1024 .f32 := shapeCast S1024 main_v21 shapeCasts_S1x1024_S1024
  let main_v23 : FVec F S1024 .f32 := Host.absf main_v22
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v20 main_v26
  main_v27

def fn {F : FTy → Type} [FloatOps F] (main_arg0 : FVec F S4096x4096 .bf16) (main_arg1 : FVec F S8x1024x512 .bf16) (main_arg2 : FVec F S4096x1024 .f32) (main_arg3 : FVec F S4096x1024 .f32) (main_arg4 : FVec F S2x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S8x1024x512 .f32 := (extf .f32 · bitsLt_bf16_f32) main_arg1
  let main_v6 : FVec F S8x1024x512 .f32 := Host.absf main_v5
  let main_cst_0 : FVec F S_ .f32 := constant S_ .f32 0x7F800000#32
  let main_v7 : FVec F S8x1024x512 .f32 := broadcastInDim S8x1024x512 ![] bcast_S_S8x1024x512 main_cst_0
  let main_v8 : IVec S8x1024x512 1 := cmpf .olt main_v6 main_v7
  let main_c_1 : IVec S_ 1 := constantI S_ 1 1#1
  let main_v9 : IVec S_ 1 := (fun x v => Host.reduce IntOp.andi x v reducesTo_S8x1024x512_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_v15 main_v16 main_cst_4
-- ==== Pre_finite_norm_mix.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S512x1024 : Shape := ⟨2, ![512, 1024]⟩
abbrev S_ : Shape := ⟨0, ![]⟩
abbrev S1x1024 : Shape := ⟨2, ![1, 1024]⟩
abbrev S1024 : Shape := ⟨1, ![1024]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S4096x1024 : S_.BroadcastsInDim S4096x1024 (![] : Fin 0 → Fin S4096x1024.rank)
  reducesTo_S4096x1024_S_d0_1 : S4096x1024.ReducesTo [0, 1] S_
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1x1024 .f32 := (extractStridedSlice S1x1024 ![0, 0] · slices_S2x1024_S1x1024_0_0) main_arg4
  let main_v22 : FVec F S1024 .f32 := shapeCast S1024 main_v21 shapeCasts_S1x1024_S1024
  let main_v23 : FVec F S1024 .f32 := Host.absf main_v22
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v20 main_v26
  main_v27

def fn {F : FTy → Type} [FloatOps F] (main_arg0 : FVec F S4096x4096 .bf16) (main_arg1 : FVec F S8x1024x512 .bf16) (main_arg2 : FVec F S4096x1024 .f32) (main_arg3 : FVec F S4096x1024 .f32) (main_arg4 : FVec F S2x1024 .f32) (main_arg5 : FVec F S1024x1024 .bf16) (main_arg6 : FVec F S512x1024 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S8x1024x512 .f32 := (extf .f32 · bitsLt_bf16_f32) main_arg1
  let main_v6 : FVec F S8x1024x512 .f32 := Host.absf main_v5
  let main_cst_0 : FVec F S_ .f32 := constant S_ .f32 0x7F800000#32
  let main_v7 : FVec F S8x1024x512 .f32 := broadcastInDim S8x1024x512 ![] bcast_S_S8x1024x512 main_cst_0
  let main_v8 : IVec S8x1024x512 1 := cmpf .olt main_v6 main_v7
  let main_c_1 : IVec S_ 1 := constantI S_ 1 1#1
  let main_v9 : IVec S_ 1 := (fun x v => Host.reduce IntOp.andi x v reducesTo_S8x1024x512_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_v15 main_v16 main_cst_4
-- ==== Pre_finite_norm_out.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S4096x1024 : S_.BroadcastsInDim S4096x1024 (![] : Fin 0 → Fin S4096x1024.rank)
  reducesTo_S4096x1024_S_d0_1 : S4096x1024.ReducesTo [0, 1] S_
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1x1024 .f32 := (extractStridedSlice S1x1024 ![1, 0] · slices_S2x1024_S1x1024_1_0) main_arg4
  let main_v22 : FVec F S1024 .f32 := shapeCast S1024 main_v21 shapeCasts_S1x1024_S1024
  let main_v23 : FVec F S1024 .f32 := Host.absf main_v22
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v20 main_v26
  main_v27

def fn {F : FTy → Type} [FloatOps F] (main_arg0 : FVec F S4096x4096 .bf16) (main_arg1 : FVec F S8x1024x512 .bf16) (main_arg2 : FVec F S4096x1024 .f32) (main_arg3 : FVec F S4096x1024 .f32) (main_arg4 : FVec F S2x1024 .f32) (main_arg5 : FVec F S1024x1024 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S8x1024x512 .f32 := (extf .f32 · bitsLt_bf16_f32) main_arg1
  let main_v6 : FVec F S8x1024x512 .f32 := Host.absf main_v5
  let main_cst_0 : FVec F S_ .f32 := constant S_ .f32 0x7F800000#32
  let main_v7 : FVec F S8x1024x512 .f32 := broadcastInDim S8x1024x512 ![] bcast_S_S8x1024x512 main_cst_0
  let main_v8 : IVec S8x1024x512 1 := cmpf .olt main_v6 main_v7
  let main_c_1 : IVec S_ 1 := constantI S_ 1 1#1
  let main_v9 : IVec S_ 1 := (fun x v => Host.reduce IntOp.andi x v reducesTo_S8x1024x512_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_v15 main_v16 main_cst_4
-- ==== Kernel.lean ====
abbrev S4096x1024 : Shape := ⟨2, ![4096, 1024]⟩
abbrev S4096x1536 : Shape := ⟨2, ![4096, 1536]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x128 : Shape := ⟨2, ![4096, 128]⟩
abbrev S1x4096x1 : Shape := ⟨3, ![1, 4096, 1]⟩
abbrev S1024x128 : Shape := ⟨2, ![1024, 128]⟩
abbrev S1024 : Shape := ⟨1, ![1024]⟩
abbrev S1024x1 : Shape := ⟨2, ![1024, 1]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S1024x1024 : Shape := ⟨2, ![1024, 1024]⟩
abbrev S1x1024x1 : Shape := ⟨3, ![1, 1024, 1]⟩

abbrev nBuf : Space → Nat
  | .hbm => 45
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x128x4096, .f32⟩
  | .hbm, ⟨38, _⟩ => ⟨S4096x8x128, .f32⟩
  | .hbm, ⟨39, _⟩ => ⟨S4096x1024, .f32⟩
  | .hbm, ⟨40, _⟩ => ⟨S8x4096x1, .f32⟩
  | .hbm, ⟨41, _⟩ => ⟨S8x4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S1x4096x1, .f32⟩
  | .local _ .vmem, ⟨9, _⟩ => ⟨S1x4096x1, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v6 : BitVec 32 := Scalar.muli arg11 c1024_i32
  v6
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v6 : BitVec 32 := Scalar.muli arg11 c1024_i32
  let v7 : BitVec 32 := v6
  let v8 : Index := Scalar.indexCast v7
  let c0_6 : Index := 0#32
  ![v8.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v6 : BitVec 32 := Scalar.muli arg11 c1024_i32
  let v7 : BitVec 32 := v6
  let v17 : Index := Scalar.indexCast v7
  let c0_9 : Index := 0#32
  ![v17.toNat, 0]
@[reducible] def k0_t2_loop : Scf.Loop 32 :=
  let c0_i32_2 : BitVec 32 := 0#32
  let c4_i32_3 : BitVec 32 := 4#32
  let v5 : BitVec 32 := Scalar.addi c0_i32_2 c4_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  v6
def k0_mult3 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  v6
def k0_off3 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let v10 : BitVec 32 := v6
  let v12 : Index := Scalar.indexCast v10
  let c0_8 : Index := 0#32
  ![v12.toNat, 0]
def k0_off4 (k0_t2 : Fin k0_t2_loop.trips) : Fin 3 → Nat :=
  let c0_14 : Index := 0#32
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let v10 : BitVec 32 := v6
  let v23 : Index := Scalar.indexCast v10
  let c0_15 : Index := 0#32
  ![0, v23.toNat, 0]
def k0_off5 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let v10 : BitVec 32 := v6
  let v35 : Index := Scalar.indexCast v10
  let c0_18 : Index := 0#32
  ![v35.toNat, 0]
def k0_mult4 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32 : BitVec 32 := 512#32
  let v9 : BitVec 32 := Scalar.addi v6 c512_i32
  v9
def k0_mult5 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  v6
def k0_off6 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32 : BitVec 32 := 512#32
  let v9 : BitVec 32 := Scalar.addi v6 c512_i32
  let v56 : BitVec 32 := v9
  let v58 : Index := Scalar.indexCast v56
  let c0_25 : Index := 0#32
  ![v58.toNat, 0]
def k0_off7 (k0_t2 : Fin k0_t2_loop.trips) : Fin 3 → Nat :=
  let c0_31 : Index := 0#32
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32 : BitVec 32 := 512#32
  let v9 : BitVec 32 := Scalar.addi v6 c512_i32
  let v56 : BitVec 32 := v9
  let v69 : Index := Scalar.indexCast v56
  let c0_32 : Index := 0#32
  ![0, v69.toNat, 0]
def k0_off8 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32 : BitVec 32 := 512#32
  let v9 : BitVec 32 := Scalar.addi v6 c512_i32
  let v56 : BitVec 32 := v9
  let v76 : Index := Scalar.indexCast v56
  let c0_34 : Index := 0#32
  ![v76.toNat, 0]
def k0_mult6 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32_41 : BitVec 32 := 512#32
  let v97 : BitVec 32 := Scalar.addi v6 c512_i32_41
  v97
def k0_mult7 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let c512_i32_42 : BitVec 32 := 512#32
  let v98 : BitVec 32 := Scalar.addi v6 c512_i32_42
  v98
@[reducible] def k0_t3_loop (k0_t2 : Fin k0_t2_loop.trips) : Scf.Loop 32 :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let c1_i32_63 : BitVec 32 := 1#32
  ⟨v147, v152, c1_i32_63⟩
def k0_mult8 (k0_t2 : Fin k0_t2_loop.trips) (k0_t3 : Fin (k0_t3_loop k0_t2).trips) : BitVec 32 :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c1_i32_63 : BitVec 32 := 1#32
  let arg12 : BitVec 32 := Scf.iv v147 c1_i32_63 k0_t3
  let c1024_i32_68 : BitVec 32 := 1024#32
  let v165 : BitVec 32 := Scalar.muli arg12 c1024_i32_68
  v165
def k0_mult9 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  v6
def k0_off9 (k0_t2 : Fin k0_t2_loop.trips) (k0_t3 : Fin (k0_t3_loop k0_t2).trips) : Fin 2 → Nat :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c1_i32_63 : BitVec 32 := 1#32
  let arg12 : BitVec 32 := Scf.iv v147 c1_i32_63 k0_t3
  let c1024_i32_68 : BitVec 32 := 1024#32
  let v165 : BitVec 32 := Scalar.muli arg12 c1024_i32_68
  let v166 : BitVec 32 := v165
  let v168 : Index := Scalar.indexCast v166
  let c0_69 : Index := 0#32
  ![v168.toNat, 0]
def k0_off10 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let v167 : BitVec 32 := v6
  let v170 : Index := Scalar.indexCast v167
  let c0_70 : Index := 0#32
  ![v170.toNat, 0]
def k0_off11 (k0_t2 : Fin k0_t2_loop.trips) (k0_t3 : Fin (k0_t3_loop k0_t2).trips) : Fin 3 → Nat :=
  let c0_75 : Index := 0#32
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c1_i32_63 : BitVec 32 := 1#32
  let arg12 : BitVec 32 := Scf.iv v147 c1_i32_63 k0_t3
  let c1024_i32_68 : BitVec 32 := 1024#32
  let v165 : BitVec 32 := Scalar.muli arg12 c1024_i32_68
  let v166 : BitVec 32 := v165
  let v179 : Index := Scalar.indexCast v166
  let c0_76 : Index := 0#32
  ![0, v179.toNat, 0]
def k0_off12 (k0_t2 : Fin k0_t2_loop.trips) (k0_t3 : Fin (k0_t3_loop k0_t2).trips) : Fin 2 → Nat :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c1_i32_63 : BitVec 32 := 1#32
  let arg12 : BitVec 32 := Scf.iv v147 c1_i32_63 k0_t3
  let c1024_i32_68 : BitVec 32 := 1024#32
  let v165 : BitVec 32 := Scalar.muli arg12 c1024_i32_68
  let v166 : BitVec 32 := v165
  let v186 : Index := Scalar.indexCast v166
  let c0_78 : Index := 0#32
  ![v186.toNat, 0]
@[reducible] def k0_t4_loop (k0_t2 : Fin k0_t2_loop.trips) : Scf.Loop 32 :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let v149 : BitVec 32 := Scalar.addi v147 v148
  let c1_i32_64 : BitVec 32 := 1#32
  ⟨v152, v149, c1_i32_64⟩
def k0_mult10 (k0_t2 : Fin k0_t2_loop.trips) (k0_t4 : Fin (k0_t4_loop k0_t2).trips) : BitVec 32 :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let c1_i32_64 : BitVec 32 := 1#32
  let arg12 : BitVec 32 := Scf.iv v152 c1_i32_64 k0_t4
  let c1024_i32_68 : BitVec 32 := 1024#32
  let v165 : BitVec 32 := Scalar.muli arg12 c1024_i32_68
  v165
def k0_mult11 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  v6
def k0_off13 (k0_t2 : Fin k0_t2_loop.trips) (k0_t4 : Fin (k0_t4_loop k0_t2).trips) : Fin 2 → Nat :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let c1_i32_64 : BitVec 32 := 1#32
  let arg12 : BitVec 32 := Scf.iv v152 c1_i32_64 k0_t4
  let c1024_i32_68 : BitVec 32 := 1024#32
  let v165 : BitVec 32 := Scalar.muli arg12 c1024_i32_68
  let v166 : BitVec 32 := v165
  let v168 : Index := Scalar.indexCast v166
  let c0_69 : Index := 0#32
  ![v168.toNat, 0]
def k0_off14 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32 : BitVec 32 := 1024#32
  let v6 : BitVec 32 := Scalar.muli arg11 c1024_i32
  let v167 : BitVec 32 := v6
  let v170 : Index := Scalar.indexCast v167
  let c0_70 : Index := 0#32
  ![v170.toNat, 0]
def k0_off15 (k0_t2 : Fin k0_t2_loop.trips) (k0_t4 : Fin (k0_t4_loop k0_t2).trips) : Fin 3 → Nat :=
  let c0_75 : Index := 0#32
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let c1_i32_64 : BitVec 32 := 1#32
  let arg12 : BitVec 32 := Scf.iv v152 c1_i32_64 k0_t4
  let c1024_i32_68 : BitVec 32 := 1024#32
  let v165 : BitVec 32 := Scalar.muli arg12 c1024_i32_68
  let v166 : BitVec 32 := v165
  let v179 : Index := Scalar.indexCast v166
  let c0_76 : Index := 0#32
  ![0, v179.toNat, 0]
def k0_off16 (k0_t2 : Fin k0_t2_loop.trips) (k0_t4 : Fin (k0_t4_loop k0_t2).trips) : Fin 2 → Nat :=
  let c0_i32_2 : BitVec 32 := 0#32
  let c1_i32_4 : BitVec 32 := 1#32
  let arg11 : BitVec 32 := Scf.iv c0_i32_2 c1_i32_4 k0_t2
  let c1_i32_60 : BitVec 32 := 1#32
  let v147 : BitVec 32 := Scalar.addi arg11 c1_i32_60
  let c4_i32_61 : BitVec 32 := 4#32
  let v148 : BitVec 32 := Scalar.subi c4_i32_61 v147
  let c1_i32_62 : BitVec 32 := 1#32
  let v150 : BitVec 32 := Scalar.divsi v148 c1_i32_62
  let v151 : BitVec 32 := Scalar.muli v150 c1_i32_62
  let v152 : BitVec 32 := Scalar.addi v147 v151
  let c1_i32_64 : BitVec 32 := 1#32
  let arg12 : BitVec 32 := Scf.iv v152 c1_i32_64 k0_t4
  let c1024_i32_68 : BitVec 32 := 1024#32
  let v165 : BitVec 32 := Scalar.muli arg12 c1024_i32_68
  let v166 : BitVec 32 := v165
  let v186 : Index := Scalar.indexCast v166
  let c0_78 : Index := 0#32
  ![v186.toNat, 0]
def k0_mult12 (k0_t2 : Fin k0_t2_loop.trips) : BitVec 32 :=
  let c0_i32_2 : BitVec 32 := 0#32
  let c1_i32_4 : BitVec 32 := 1#32
  let arg11 : BitVec 32 := Scf.iv c0_i32_2 c1_i32_4 k0_t2
  let c1024_i32_65 : BitVec 32 := 1024#32
  let v155 : BitVec 32 := Scalar.muli arg11 c1024_i32_65
  v155
def k0_off17 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c1024_i32_65 : BitVec 32 := 1024#32
  let v155 : BitVec 32 := Scalar.muli arg11 c1024_i32_65
  let v156 : BitVec 32 := v155
  let v157 : Index := Scalar.indexCast v156
  let c0_66 : Index := 0#32
  ![v157.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x1024 : Shape := ⟨2, ![4096, 1024]⟩
abbrev S4096x1536 : Shape := ⟨2, ![4096, 1536]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x8x128, .f32⟩
  | .hbm, ⟨10, _⟩ => ⟨S4096x8x128, .f32⟩
  | .hbm, ⟨11, _⟩ => ⟨S4096x8x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x128x4096, .f32⟩
  | .hbm, ⟨69, _⟩ => ⟨S4096x8x128, .f32⟩
  | .hbm, ⟨70, _⟩ => ⟨S4096x1024, .f32⟩
  | .hbm, ⟨71, _⟩ => ⟨S4096x8x128, .f32⟩
  | .hbm, ⟨72, _⟩ => ⟨S8x128x4096, .f32⟩
  | .hbm, ⟨73, _⟩ => ⟨S8x4096x4096, .f32⟩
  | .hbm, ⟨74, _⟩ => ⟨S8x128x4096, .f32⟩
  | .hbm, ⟨75, _⟩ => ⟨S4096x8x128, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096x4096, .f32⟩
  | .hbm, ⟨95, _⟩ => ⟨S8x4096x4096, .f32⟩
  | .hbm, ⟨96, _⟩ => ⟨S8x4096x128, .f32⟩
  | .hbm, ⟨97, _⟩ => ⟨S4096x8x128, .f32⟩
  | .hbm, ⟨98, _⟩ => ⟨S8x4096x128, .f32⟩
  | .hbm, ⟨99, _⟩ => ⟨S4096x8x128, .f32⟩
  | .hbm, ⟨100, _⟩ => ⟨S4096x1024, .f32⟩
  | .hbm, ⟨101, _⟩ => ⟨S4096x1024, .f32⟩
  | .hbm, ⟨102, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== KernelDw.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .hbm, ⟨3, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDwIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDv.lean ====
abbrev S4096x4096 : Shape := ⟨2, ![4096, 4096]⟩
abbrev S4096x1024 : Shape := ⟨2, ![4096, 1024]⟩
abbrev S_ : Shape := ⟨0, ![]⟩
abbrev S4096x512 : Shape := ⟨2, ![4096, 512]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .f32⟩
  | .hbm, ⟨9, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDvIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelDa.lean ====
abbrev S4096x4096 : Shape := ⟨2, ![4096, 4096]⟩
abbrev S4096x1024 : Shape := ⟨2, ![4096, 1024]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x512x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDaIdeal.lean ====
abbrev S4096x4096 : Shape := ⟨2, ![4096, 4096]⟩
abbrev S4096x1024 : Shape := ⟨2, ![4096, 1024]⟩
abbrev S8x512x1024 : Shape := ⟨3, ![8, 512, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .hbm, ⟨3, _⟩ => ⟨S4096x4096, .f32⟩
  | .hbm, ⟨4, _⟩ => ⟨S4096x1024, .f32⟩
  | .hbm, ⟨5, _⟩ => ⟨S8x512x1024, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KernelUp.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelIn.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .f32⟩
  | .local _ .vmem, ⟨4, _⟩ => ⟨S512x4096, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDn.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1x1024 : Shape := ⟨2, ![1, 1024]⟩
abbrev S512x4096 : Shape := ⟨2, ![512, 4096]⟩
abbrev S512x1024 : Shape := ⟨2, ![512, 1024]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDnIdeal.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S1024x4096 : Shape := ⟨2, ![1024, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S8x1024x512, .f32⟩
  | .hbm, ⟨48, _⟩ => ⟨S1024x8x512, .f32⟩
  | .hbm, ⟨49, _⟩ => ⟨S1024x4096, .f32⟩
  | .hbm, ⟨50, _⟩ => ⟨S4096x4096, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x4096, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .bf16⟩
  | .hbm, ⟨105, _⟩ => ⟨S1x1024, .f32⟩
  | .hbm, ⟨106, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_cst_15 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_17 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_18 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== KernelDq.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S512x1024 : Shape := ⟨2, ![512, 1024]⟩
abbrev S4096x1536 : Shape := ⟨2, ![4096, 1536]⟩
abbrev S1x1024 : Shape := ⟨2, ![1, 1024]⟩
abbrev S512x4096 : Shape := ⟨2, ![512, 4096]⟩
abbrev S512x1536 : Shape := ⟨2, ![512, 1536]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024x1024, .bf16⟩
  | .hbm, ⟨6, _⟩ => ⟨S512x1024, .bf16⟩
  | .hbm, ⟨7, _⟩ => ⟨S4096x1024, .f32⟩
  | .hbm, ⟨8, _⟩ => ⟨S4096x1024, .bf16⟩
  | .hbm, ⟨9, _⟩ => ⟨S4096x1536, .bf16⟩
  | .hbm, ⟨10, _⟩ => ⟨S1x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S2x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1536, .bf16⟩
  | .local _ .vmem, ⟨15, _⟩ => ⟨S512x1536, .bf16⟩
  | .local _ .vmem, ⟨16, _⟩ => ⟨S1x1024, .f32⟩
  | .local _ .vmem, ⟨17, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceDqIdeal.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S1024x4096 : Shape := ⟨2, ![1024, 4096]⟩
abbrev S4096x512 : Shape := ⟨2, ![4096, 512]⟩
abbrev S4096x1536 : Shape := ⟨2, ![4096, 1536]⟩

abbrev nBuf : Space → Nat
  | .hbm => 122
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024x1024, .bf16⟩
  | .hbm, ⟨6, _⟩ => ⟨S512x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S8x1024x512, .f32⟩
  | .hbm, ⟨50, _⟩ => ⟨S1024x8x512, .f32⟩
  | .hbm, ⟨51, _⟩ => ⟨S1024x4096, .f32⟩
  | .hbm, ⟨52, _⟩ => ⟨S4096x4096, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x4096, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S1x1024, .f32⟩
  | .hbm, ⟨108, _⟩ => ⟨S1x1024, .f32⟩
  | .hbm, ⟨109, _⟩ => ⟨S_, .f32⟩
  | .hbm, ⟨110, _⟩ => ⟨S4096x1024, .f32⟩
  | .hbm, ⟨111, _⟩ => ⟨S_, .f32⟩
  | .hbm, ⟨112, _⟩ => ⟨S4096x512, .f32⟩
  | .hbm, ⟨113, _⟩ => ⟨S1024x1024, .f32⟩
  | .hbm, ⟨114, _⟩ => ⟨S4096x1024, .f32⟩
  | .hbm, ⟨115, _⟩ => ⟨S512x1024, .f32⟩
  | .hbm, ⟨116, _⟩ => ⟨S4096x1024, .f32⟩
  | .hbm, ⟨117, _⟩ => ⟨S4096x1024, .f32⟩
  | .hbm, ⟨118, _⟩ => ⟨S4096x512, .f32⟩
  | .hbm, ⟨119, _⟩ => ⟨S4096x1024, .f32⟩
  | .hbm, ⟨120, _⟩ => ⟨S4096x1536, .f32⟩
  | .hbm, ⟨121, _⟩ => ⟨S4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_20 : Ref sig .tc := ⟨.hbm, 109, rfl⟩
abbrev main_v81 : Ref sig .tc := ⟨.hbm, 110, rfl⟩
abbrev main_cst_21 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== KernelDp.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S1x1024 : Shape := ⟨2, ![1, 1024]⟩
abbrev S512x4096 : Shape := ⟨2, ![512, 4096]⟩
abbrev S512x1024 : Shape := ⟨2, ![512, 1024]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S2x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceDpIdeal.lean ====
abbrev S4096x4096 : Shape := ⟨2, ![4096, 4096]⟩
abbrev S8x1024x512 : Shape := ⟨3, ![8, 1024, 512]⟩
abbrev S4096x1024 : Shape := ⟨2, ![4096, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S1024x4096 : Shape := ⟨2, ![1024, 4096]⟩

abbrev nBuf : Space → Nat
  | .hbm => 114
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S8x1024x512, .f32⟩
  | .hbm, ⟨49, _⟩ => ⟨S1024x8x512, .f32⟩
  | .hbm, ⟨50, _⟩ => ⟨S1024x4096, .f32⟩
  | .hbm, ⟨51, _⟩ => ⟨S4096x4096, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x4096, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S4096x1024, .bf16⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S4096x1024, .f32⟩
  | .hbm, ⟨110, _⟩ => ⟨S1024x1024, .f32⟩
  | .hbm, ⟨111, _⟩ => ⟨S4096x1024, .f32⟩
  | .hbm, ⟨112, _⟩ => ⟨S4096x1024, .f32⟩
  | .hbm, ⟨113, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_18 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== KernelLn.lean ====
abbrev S4096x4096 : Shape := ⟨2, ![4096, 4096]⟩
abbrev S4096x1024 : Shape := ⟨2, ![4096, 1024]⟩
abbrev S2x1024 : Shape := ⟨2, ![2, 1024]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S2x1024, .f32⟩
  | .hbm, ⟨4, _⟩ => ⟨S2x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .f32⟩
  | .hbm, ⟨12, _⟩ => ⟨S4096x1024, .f32⟩
  | .hbm, ⟨13, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S2x1024, .f32⟩
  | .local _ .vmem, ⟨6, _⟩ => ⟨S2x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLnIdeal.lean ====
abbrev S4096x4096 : Shape := ⟨2, ![4096, 4096]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S4096x1024, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelLs.lean ====
abbrev S4096x4096 : Shape := ⟨2, ![4096, 4096]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S2x1024, .f32⟩
  | .hbm, ⟨4, _⟩ => ⟨S2x1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S2x1024, .f32⟩
  | .local _ .vmem, ⟨8, _⟩ => ⟨S2x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLsIdeal.lean ====
abbrev S4096x4096 : Shape := ⟨2, ![4096, 4096]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 165
  | .vmem => 0
  | .smem => 0
  | _ => 0

abbrev hbmTy0_0 (i : Nat) : BufTy := match i % 128 with
  | 0 => ⟨S4096x4096, .bf16⟩
  | 1 => ⟨S4096x1024, .bf16⟩
  | 2 => ⟨S4096x1024, .f32⟩
  | 3 => ⟨S2x1024, .f32⟩
  | 4 => ⟨S2x1024, .f32⟩
  | 5 => ⟨S4096x1024, .f32⟩
  | 6 => ⟨S_, .f32⟩
  | 7 => ⟨S4096x1024, .f32⟩
  | 8 => ⟨S4096x1024, .f32⟩
  | 9 => ⟨S4096x4096, .f32⟩
  | 10 => ⟨S4096x1024, .f32⟩
  | 11 => ⟨S_, .f32⟩
  | 12 => ⟨S4096x4096, .f32⟩
  | 13 => ⟨S4096x4096, .f32⟩
  | 14 => ⟨S4096x4096, .f32⟩
  | 15 => ⟨S4096x1024, .f32⟩
  | 16 => ⟨S4096x1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096, .f32⟩
  | 64 => ⟨S_, .f32⟩
  | 65 => ⟨S4096, .f32⟩
  | 66 => ⟨S4096, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S4096, .f32⟩
  | 96 => ⟨S4096x1, .f32⟩
  | 97 => ⟨S4096x1024, .f32⟩
  | 98 => ⟨S4096x1024, .f32⟩
  | 99 => ⟨S4096x1, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S1x1024, .f32⟩
  | 125 => ⟨S1024, .f32⟩
  | 126 => ⟨S1x1024, .f32⟩
  | 127 => ⟨S1024, .f32⟩
  | _ => ⟨S4096x4096, .bf16⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x1024, .f32⟩
  | 16 => ⟨S4096x1024, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S1024, .f32⟩
  | 33 => ⟨S4096x1024, .bf16⟩
  | 34 => ⟨S1x1024, .f32⟩
  | 35 => ⟨S1x1024, .f32⟩
  | 36 => ⟨S1x1024, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_cst_25 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_26 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_28 : Ref sig .tc := ⟨.hbm, 137, rfl⟩
abbrev main_v100 : Ref sig .tc := ⟨.hbm, 138, rfl⟩
abbrev main_v101 : Ref sig .tc := ⟨.hbm, 139, rfl⟩
abbrev main_cst_29 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_30 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_31 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== KernelLp.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S2x1024 : Shape := ⟨2, ![2, 1024]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S1024x1024, .bf16⟩
  | .hbm, ⟨3, _⟩ => ⟨S512x1024, .bf16⟩
  | .hbm, ⟨4, _⟩ => ⟨S4096x1024, .f32⟩
  | .hbm, ⟨5, _⟩ => ⟨S2x1024, .f32⟩
  | .hbm, ⟨6, _⟩ => ⟨S2x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .bf16⟩
  | .local _ .vmem, ⟨8, _⟩ => ⟨S2x1024, .f32⟩
  | .local _ .vmem, ⟨9, _⟩ => ⟨S2x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceLpIdeal.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S1024x1024, .bf16⟩
  | .hbm, ⟨3, _⟩ => ⟨S512x1024, .bf16⟩
  | .hbm, ⟨4, _⟩ => ⟨S4096x1024, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x512, .f32⟩
  | .hbm, ⟨11, _⟩ => ⟨S1024x1024, .f32⟩
  | .hbm, ⟨12, _⟩ => ⟨S512x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelLm.lean ====
abbrev S4096x1024 : Shape := ⟨2, ![4096, 1024]⟩
abbrev S1024x1024 : Shape := ⟨2, ![1024, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1024, .f32⟩
  | .hbm, ⟨4, _⟩ => ⟨S2x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S2x1024, .f32⟩
  | .local _ .vmem, ⟨6, _⟩ => ⟨S2x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLmIdeal.lean ====
abbrev S4096x1024 : Shape := ⟨2, ![4096, 1024]⟩
abbrev S1024x1024 : Shape := ⟨2, ![1024, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelDo.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDm.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x1024, .bf16⟩
  | .hbm, ⟨3, _⟩ => ⟨S1024x1024, .f32⟩
  | .hbm, ⟨4, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceDmIdeal.lean ====
abbrev S4096x1024 : Shape := ⟨2, ![4096, 1024]⟩
abbrev S4096x512 : Shape := ⟨2, ![4096, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S512x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x512, .f32⟩
  | .hbm, ⟨13, _⟩ => ⟨S512x1024, .f32⟩
  | .hbm, ⟨14, _⟩ => ⟨S1024x1024, .f32⟩
  | .hbm, ⟨15, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelIb.lean ====
abbrev S4096x1024 : Shape := ⟨2, ![4096, 1024]⟩
abbrev S4096x640 : Shape := ⟨2, ![4096, 640]⟩
abbrev S1568x1024 : Shape := ⟨2, ![1568, 1024]⟩
abbrev S512x1024 : Shape := ⟨2, ![512, 1024]⟩
abbrev S512x640 : Shape := ⟨2, ![512, 640]⟩
abbrev S512x512 : Shape := ⟨2, ![512, 512]⟩
abbrev S512x128 : Shape := ⟨2, ![512, 128]⟩
abbrev S64x1024 : Shape := ⟨2, ![64, 1024]⟩
abbrev S32x1024 : Shape := ⟨2, ![32, 1024]⟩
abbrev S128x1024 : Shape := ⟨2, ![128, 1024]⟩
abbrev S1024x1024 : Shape := ⟨2, ![1024, 1024]⟩
abbrev S640x1024 : Shape := ⟨2, ![640, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x640, .bf16⟩
  | .hbm, ⟨2, _⟩ => ⟨S4096x1024, .bf16⟩
  | .hbm, ⟨3, _⟩ => ⟨S4096x1024, .f32⟩
  | .hbm, ⟨4, _⟩ => ⟨S1568x1024, .bf16⟩
  | .hbm, ⟨5, _⟩ => ⟨S4096x1024, .f32⟩
  | .hbm, ⟨6, _⟩ => ⟨S1568x1024, .f32⟩
  | .local _ .vmem, ⟨0, _⟩ => ⟨S512x1024, .f32⟩
  | .local _ .vmem, ⟨1, _⟩ => ⟨S512x1024, .f32⟩
  | .local _ .vmem, ⟨2, _⟩ => ⟨S512x640, .bf16⟩
  | .local _ .vmem, ⟨3, _⟩ => ⟨S512x640, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1568x1024, .bf16⟩
  | .local _ .vmem, ⟨9, _⟩ => ⟨S512x1024, .f32⟩
  | .local _ .vmem, ⟨10, _⟩ => ⟨S512x1024, .f32⟩
  | .local _ .vmem, ⟨11, _⟩ => ⟨S1568x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1568x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1568x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIbIdeal.lean ====
abbrev S4096x1024 : Shape := ⟨2, ![4096, 1024]⟩
abbrev S4096x640 : Shape := ⟨2, ![4096, 640]⟩
abbrev S1568x1024 : Shape := ⟨2, ![1568, 1024]⟩
abbrev S4096x512 : Shape := ⟨2, ![4096, 512]⟩
abbrev S4096x32 : Shape := ⟨2, ![4096, 32]⟩
abbrev S4096x1568 : Shape := ⟨2, ![4096, 1568]⟩
abbrev S1024x1568 : Shape := ⟨2, ![1024, 1568]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x640, .bf16⟩
  | .hbm, ⟨2, _⟩ => ⟨S4096x1024, .bf16⟩
  | .hbm, ⟨3, _⟩ => ⟨S4096x1024, .f32⟩
  | .hbm, ⟨4, _⟩ => ⟨S1568x1024, .bf16⟩
  | .hbm, ⟨5, _⟩ => ⟨S4096x512, .bf16⟩
  | .hbm, ⟨6, _⟩ => ⟨S4096x32, .bf16⟩
  | .hbm, ⟨7, _⟩ => ⟨S4096x1568, .bf16⟩
  | .hbm, ⟨8, _⟩ => ⟨S4096x1568, .f32⟩
  | .hbm, ⟨9, _⟩ => ⟨S1568x1024, .f32⟩
  | .hbm, ⟨10, _⟩ => ⟨S1024x1568, .f32⟩
  | .hbm, ⟨11, _⟩ => ⟨S4096x1568, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1568x1024, .f32⟩
  | .hbm, ⟨19, _⟩ => ⟨S1024x1568, .f32⟩
  | .hbm, ⟨20, _⟩ => ⟨S4096x1024, .f32⟩
  | .hbm, ⟨21, _⟩ => ⟨S4096x1024, .f32⟩
  | .hbm, ⟨22, _⟩ => ⟨S1568x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.AttnLoop.lean ====
/-
  The attention gradient's loop over the key blocks, at any float type.

  One trip takes a block of 1024 keys: two half blocks against the queries of the same rows, under the causal
  mask, then every later block of queries (the two inner loops).  What a trip leaves in the three outputs is
  found by running it once, at a symbolic trip (`keyTrip`); the invariant of the loop is the list of those
  pieces (`keyPieces`), written over what the outputs held when the loop began.
-/
module

public import proofs.«01_k».proof.Proof.Gen.KernelIdeal.Loops
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one trip touches: the six arrays it reads, each at its contents, and the three outputs. -/
abbrev KeyRes (c : Dev nD) (a1 : Memref sig .tc .vmem S4096x128 .bf16) (a2 : Memref sig .tc .vmem S4096x128 .bf16)
    (a3 : Memref sig .tc .vmem S4096x128 .bf16) (a5 : Memref sig .tc .vmem S1x4096x1 .f32)
    (a6 : Memref sig .tc .vmem S4096x128 .bf16) (a10 : Memref sig .tc .vmem S4096x1 .f32)
    (a7 : Memref sig .tc .vmem S4096x128 .f32) (a8 : Memref sig .tc .vmem S4096x128 .f32)
    (a9 : Memref sig .tc .vmem S4096x128 .f32)
    (X1 : BufTy.Contents (Elt F) a1.view.ty) (X2 : BufTy.Contents (Elt F) a2.view.ty)
    (X3 : BufTy.Contents (Elt F) a3.view.ty) (X5 : BufTy.Contents (Elt F) a5.view.ty)
    (X6 : BufTy.Contents (Elt F) a6.view.ty) (X10 : BufTy.Contents (Elt F) a10.view.ty)
    (f7 : BufTy.Contents (Elt F) a7.view.ty) (f8 : BufTy.Contents (Elt F) a8.view.ty) (f9 : BufTy.Contents (Elt F) a9.view.ty) : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a5.view.loc (c : Thread nD τ) ↦[a5.view.set]{fullShare} X5) ∗ (a6.view.loc (c : Thread nD τ) ↦[a6.view.set]{fullShare} X6) ∗ (a10.view.loc (c : Thread nD τ) ↦[a10.view.set]{fullShare} X10) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9))

variable (c : Dev nD) (i : grid0.Coords) (a1 : Memref sig .tc .vmem S4096x128 .bf16) (w1 : a1.IsWhole)
    (a2 : Memref sig .tc .vmem S4096x128 .bf16) (w2 : a2.IsWhole)
    (a3 : Memref sig .tc .vmem S4096x128 .bf16) (w3 : a3.IsWhole)
    (a4 : Memref sig .tc .vmem S4096x128 .f32) (w4 : a4.IsWhole)
    (a5 : Memref sig .tc .vmem S1x4096x1 .f32) (w5 : a5.IsWhole)
    (a6 : Memref sig .tc .vmem S4096x128 .bf16) (w6 : a6.IsWhole)
    (a7 : Memref sig .tc .vmem S4096x128 .f32) (w7 : a7.IsWhole)
    (a8 : Memref sig .tc .vmem S4096x128 .f32) (w8 : a8.IsWhole)
    (a9 : Memref sig .tc .vmem S4096x128 .f32) (w9 : a9.IsWhole)
    (a10 : Memref sig .tc .vmem S4096x1 .f32) (w10 : a10.IsWhole)
  (X1 : BufTy.Contents (Elt F) a1.view.ty) (X2 : BufTy.Contents (Elt F) a2.view.ty)
    (X3 : BufTy.Contents (Elt F) a3.view.ty) (X5 : BufTy.Contents (Elt F) a5.view.ty)
    (X6 : BufTy.Contents (Elt F) a6.view.ty) (X10 : BufTy.Contents (Elt F) a10.view.ty)

set_option backward.proofsInPublic true in
set_option maxHeartbeats 1000000 in
/-- One trip of the loop over key blocks, run once at a symbolic trip `j`: the pieces it writes into each of
    the outputs, as functions of what the first of them held when the trip began. -/
@[irreducible] def keyTrip (j : Fin k0_t2_loop.trips) :
    Σ' (L7 : BufTy.Contents (Elt F) a7.view.ty → List (View.Piece (Elt F) S4096x128 .f32)), Σ' (L8 : BufTy.Contents (Elt F) a7.view.ty → List (View.Piece (Elt F) S4096x128 .f32)), { L9 : BufTy.Contents (Elt F) a7.view.ty → List (View.Piece (Elt F) S4096x128 .f32) //
      ∀ (E : Set ℕ) (f7 : BufTy.Contents (Elt F) a7.view.ty) (f8 : BufTy.Contents (Elt F) a8.view.ty) (f9 : BufTy.Contents (Elt F) a9.view.ty),
        KeyRes (F := F) c a1 a2 a3 a5 a6 a10 a7 a8 a9 X1 X2 X3 X5 X6 X10 f7 f8 f9
        ⊢ wp frame (wpE (defs₀ (F := F)) Variants.none (c : Thread nD τ) none) E (k0_t2_body (F := F) i a1 w1 a2 w2 a3 w3 a4 w4 a5 w5 a6 w6 a7 w7 a8 w8 a9 w9 a10 w10 j PUnit.unit)
          (fun _ => KeyRes (F := F) c a1 a2 a3 a5 a6 a10 a7 a8 a9 X1 X2 X3 X5 X6 X10 (a7.view.writes (Elt F) f7 (L7 f7))
            (a8.view.writes (Elt F) f8 (L8 f7)) (a9.view.writes (Elt F) f9 (L9 f7))) } := by
  have hj : j.val < 4 := Nat.lt_of_lt_of_le j.isLt k0_t2_abs.2.1
  refine ⟨?_, ?_, ?_, fun E f7 f8 f9 => ?run⟩
  case run =>
    unfold k0_t2_body
    simp only [k0_part3_eq_skeleton, k0_part4_eq_skeleton, k0_part5_eq_skeleton]
    iintro ⟨HR1, HR2, HR3, HR5, HR6, HR10, HW7, HW8, HW9⟩
    sl_exec
    sl_step
    sl_close

/-- The pieces of trip `j`, output by output. -/
abbrev piece7 (j : Fin k0_t2_loop.trips) (f7 : BufTy.Contents (Elt F) a7.view.ty) : List (View.Piece (Elt F) S4096x128 .f32) :=
  (keyTrip (F := F) c i a1 w1 a2 w2 a3 w3 a4 w4 a5 w5 a6 w6 a7 w7 a8 w8 a9 w9 a10 w10 X1 X2 X3 X5 X6 X10 j).1 f7
abbrev piece8 (j : Fin k0_t2_loop.trips) (f7 : BufTy.Contents (Elt F) a7.view.ty) : List (View.Piece (Elt F) S4096x128 .f32) :=
  (keyTrip (F := F) c i a1 w1 a2 w2 a3 w3 a4 w4 a5 w5 a6 w6 a7 w7 a8 w8 a9 w9 a10 w10 X1 X2 X3 X5 X6 X10 j).2.1 f7
abbrev piece9 (j : Fin k0_t2_loop.trips) (f7 : BufTy.Contents (Elt F) a7.view.ty) : List (View.Piece (Elt F) S4096x128 .f32) :=
  (keyTrip (F := F) c i a1 w1 a2 w2 a3 w3 a4 w4 a5 w5 a6 w6 a7 w7 a8 w8 a9 w9 a10 w10 X1 X2 X3 X5 X6 X10 j).2.2.1 f7

/-- The pieces of the trips before `k`, the last first: the first output's contents `G7` when the loop began
    decide what the later trips read back. -/
def keyPieces (G7 : BufTy.Contents (Elt F) a7.view.ty) : ℕ → List (View.Piece (Elt F) S4096x128 .f32) × List (View.Piece (Elt F) S4096x128 .f32) × List (View.Piece (Elt F) S4096x128 .f32)
  | 0 => ([], [], [])
  | k + 1 =>
    if h : k < k0_t2_loop.trips then
      let prev := keyPieces G7 k
      let f7 := a7.view.writes (Elt F) G7 prev.1
      (piece7 (F := F) c i a1 w1 a2 w2 a3 w3 a4 w4 a5 w5 a6 w6 a7 w7 a8 w8 a9 w9 a10 w10 X1 X2 X3 X5 X6 X10 ⟨k, h⟩ f7 ++ prev.1, piece8 (F := F) c i a1 w1 a2 w2 a3 w3 a4 w4 a5 w5 a6 w6 a7 w7 a8 w8 a9 w9 a10 w10 X1 X2 X3 X5 X6 X10 ⟨k, h⟩ f7 ++ prev.2.1,
        piece9 (F := F) c i a1 w1 a2 w2 a3 w3 a4 w4 a5 w5 a6 w6 a7 w7 a8 w8 a9 w9 a10 w10 X1 X2 X3 X5 X6 X10 ⟨k, h⟩ f7 ++ prev.2.2)
    else keyPieces G7 k

theorem keyPieces_succ (G7 : BufTy.Contents (Elt F) a7.view.ty) (k : Fin k0_t2_loop.trips) :
    keyPieces (F := F) c i a1 w1 a2 w2 a3 w3 a4 w4 a5 w5 a6 w6 a7 w7 a8 w8 a9 w9 a10 w10 X1 X2 X3 X5 X6 X10 G7 (k.val + 1)
      = (piece7 (F := F) c i a1 w1 a2 w2 a3 w3 a4 w4 a5 w5 a6 w6 a7 w7 a8 w8 a9 w9 a10 w10 X1 X2 X3 X5 X6 X10 k (a7.view.writes (Elt F) G7 (keyPieces (F := F) c i a1 w1 a2 w2 a3 w3 a4 w4 a5 w5 a6 w6 a7 w7 a8 w8 a9 w9 a10 w10 X1 X2 X3 X5 X6 X10 G7 k.val).1)
            ++ (keyPieces (F := F) c i a1 w1 a2 w2 a3 w3 a4 w4 a5 w5 a6 w6 a7 w7 a8 w8 a9 w9 a10 w10 X1 X2 X3 X5 X6 X10 G7 k.val).1,
         piece8 (F := F) c i a1 w1 a2 w2 a3 w3 a4 w4 a5 w5 a6 w6 a7 w7 a8 w8 a9 w9 a10 w10 X1 X2 X3 X5 X6 X10 k (a7.view.writes (Elt F) G7 (keyPieces (F := F) c i a1 w1 a2 w2 a3 w3 a4 w4 a5 w5 a6 w6 a7 w7 a8 w8 a9 w9 a10 w10 X1 X2 X3 X5 X6 X10 G7 k.val).1)
            ++ (keyPieces (F := F) c i a1 w1 a2 w2 a3 w3 a4 w4 a5 w5 a6 w6 a7 w7 a8 w8 a9 w9 a10 w10 X1 X2 X3 X5 X6 X10 G7 k.val).2.1,
         piece9 (F := F) c i a1 w1 a2 w2 a3 w3 a4 w4 a5 w5 a6 w6 a7 w7 a8 w8 a9 w9 a10 w10 X1 X2 X3 X5 X6 X10 k (a7.view.writes (Elt F) G7 (keyPieces (F := F) c i a1 w1 a2 w2 a3 w3 a4 w4 a5 w5 a6 w6 a7 w7 a8 w8 a9 w9 a10 w10 X1 X2 X3 X5 X6 X10 G7 k.val).1)
            ++ (keyPieces (F := F) c i a1 w1 a2 w2 a3 w3 a4 w4 a5 w5 a6 w6 a7 w7 a8 w8 a9 w9 a10 w10 X1 X2 X3 X5 X6 X10 G7 k.val).2.2) := by
  rw [keyPieces.eq_2]; exact dif_pos k.isLt

/-- The loop's invariant before trip `k`. -/
abbrev keyInv (G7 : BufTy.Contents (Elt F) a7.view.ty) (G8 : BufTy.Contents (Elt F) a8.view.ty) (G9 : BufTy.Contents (Elt F) a9.view.ty)
    (k : ℕ) (_ : Unit) : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a5.view.loc (c : Thread nD τ) ↦[a5.view.set]{fullShare} X5) ∗ (a6.view.loc (c : Thread nD τ) ↦[a6.view.set]{fullShare} X6) ∗ (a10.view.loc (c : Thread nD τ) ↦[a10.view.set]{fullShare} X10)
    ∗ (∃ f, (a7.view.loc (c : Thread nD τ) ↦[a7.view.set]{fullShare} f) ∗ ⌜f = a7.view.writes (Elt F) G7 (keyPieces (F := F) c i a1 w1 a2 w2 a3 w3 a4 w4 a5 w5 a6 w6 a7 w7 a8 w8 a9 w9 a10 w10 X1 X2 X3 X5 X6 X10 G7 k).1⌝)
    ∗ (∃ f, (a8.view.loc (c : Thread nD τ) ↦[a8.view.set]{fullShare} f) ∗ ⌜f = a8.view.writes (Elt F) G8 (keyPieces (F := F) c i a1 w1 a2 w2 a3 w3 a4 w4 a5 w5 a6 w6 a7 w7 a8 w8 a9 w9 a10 w10 X1 X2 X3 X5 X6 X10 G7 k).2.1⌝)
    ∗ (∃ f, (a9.view.loc (c : Thread nD τ) ↦[a9.view.set]{fullShare} f) ∗ ⌜f = a9.view.writes (Elt F) G9 (keyPieces (F := F) c i a1 w1 a2 w2 a3 w3 a4 w4 a5 w5 a6 w6 a7 w7 a8 w8 a9 w9 a10 w10 X1 X2 X3 X5 X6 X10 G7 k).2.2⌝))

/-- One trip takes the invariant to the next. -/
theorem keyInv_step (E : Set ℕ) (G7 : BufTy.Contents (Elt F) a7.view.ty) (G8 : BufTy.Contents (Elt F) a8.view.ty)
    (G9 : BufTy.Contents (Elt F) a9.view.ty) (k : Fin (Scf.trips k0_t2_loop.lb k0_t2_loop.ub k0_t2_loop.st)) (acc : Unit) :
    keyInv (F := F) c i a1 w1 a2 w2 a3 w3 a4 w4 a5 w5 a6 w6 a7 w7 a8 w8 a9 w9 a10 w10 X1 X2 X3 X5 X6 X10 G7 G8 G9 k acc
      ⊢ wp Idealize.ShloMosaic.frame (wpE (defs₀ (F := F)) Variants.none (c : Thread nD τ) none) E (k0_t2_body (F := F) i a1 w1 a2 w2 a3 w3 a4 w4 a5 w5 a6 w6 a7 w7 a8 w8 a9 w9 a10 w10 k acc)
        (keyInv (F := F) c i a1 w1 a2 w2 a3 w3 a4 w4 a5 w5 a6 w6 a7 w7 a8 w8 a9 w9 a10 w10 X1 X2 X3 X5 X6 X10 G7 G8 G9 (k.val + 1)) := by
    iintro ⟨HR1, HR2, HR3, HR5, HR6, HR10, ⟨%f7, HW7, %h7⟩, ⟨%f8, HW8, %h8⟩, ⟨%f9, HW9, %h9⟩⟩
    iapply (wp_wand_r Idealize.ShloMosaic.frame (wpE (defs₀ (F := F)) Variants.none (c : Thread nD τ) none) E)
    isplitl [HR1 HR2 HR3 HR5 HR6 HR10 HW7 HW8 HW9]
    · iapply ((keyTrip (F := F) c i a1 w1 a2 w2 a3 w3 a4 w4 a5 w5 a6 w6 a7 w7 a8 w8 a9 w9 a10 w10 X1 X2 X3 X5 X6 X10 k).2.2.2 E f7 f8 f9)
      isplitl [HR1]; · iexact HR1
      isplitl [HR2]; · iexact HR2
      isplitl [HR3]; · iexact HR3
      isplitl [HR5]; · iexact HR5
      isplitl [HR6]; · iexact HR6
      isplitl [HR10]; · iexact HR10
      isplitl [HW7]; · iexact HW7
      isplitl [HW8]; · iexact HW8
      iexact HW9
    · iintro %_ ⟨HR1, HR2, HR3, HR5, HR6, HR10, HW7, HW8, HW9⟩
      isplitl [HR1]; · iexact HR1
      isplitl [HR2]; · iexact HR2
      isplitl [HR3]; · iexact HR3
      isplitl [HR5]; · iexact HR5
      isplitl [HR6]; · iexact HR6
      isplitl [HR10]; · iexact HR10
      simp only [keyPieces_succ]
      isplitl [HW7]
      · iexists _; isplitl [HW7]; · iexact HW7
        ipureintro; rw [h7, ← View.writes_append]
      isplitl [HW8]
      · iexists _; isplitl [HW8]; · iexact HW8
        ipureintro; rw [h7, h8, ← View.writes_append]
      · iexists _; isplitl [HW9]; · iexact HW9
        ipureintro; rw [h7, h9, ← View.writes_append]

/-- The loop's invariant before the first trip. -/
theorem keyInv_zero (G7 : BufTy.Contents (Elt F) a7.view.ty) (G8 : BufTy.Contents (Elt F) a8.view.ty) (G9 : BufTy.Contents (Elt F) a9.view.ty) :
    iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a5.view.loc (c : Thread nD τ) ↦[a5.view.set]{fullShare} X5) ∗ (a6.view.loc (c : Thread nD τ) ↦[a6.view.set]{fullShare} X6) ∗ (a10.view.loc (c : Thread nD τ) ↦[a10.view.set]{fullShare} X10) ∗ (a7.view.loc (c : Thread nD τ) ↦[a7.view.set]{fullShare} G7) ∗ (a8.view.loc (c : Thread nD τ) ↦[a8.view.set]{fullShare} G8) ∗ (a9.view.loc (c : Thread nD τ) ↦[a9.view.set]{fullShare} G9))
      ⊢ keyInv (F := F) c i a1 w1 a2 w2 a3 w3 a4 w4 a5 w5 a6 w6 a7 w7 a8 w8 a9 w9 a10 w10 X1 X2 X3 X5 X6 X10 G7 G8 G9 0 () := by
  iintro ⟨HR1, HR2, HR3, HR5, HR6, HR10, HW7, HW8, HW9⟩
  isplitl [HR1]; · iexact HR1
  isplitl [HR2]; · iexact HR2
  isplitl [HR3]; · iexact HR3
  isplitl [HR5]; · iexact HR5
  isplitl [HR6]; · iexact HR6
  isplitl [HR10]; · iexact HR10
  isplitl [HW7]
  · iexists _; isplitl [HW7]; · iexact HW7
    ipureintro; rfl
  isplitl [HW8]
  · iexists _; isplitl [HW8]; · iexact HW8
    ipureintro; rfl
  · iexists _; isplitl [HW9]; · iexact HW9
    ipureintro; rfl

/-- The loop over the key blocks, at the end of a body. -/
theorem keyRun (E : Set ℕ) (G7 : BufTy.Contents (Elt F) a7.view.ty) (G8 : BufTy.Contents (Elt F) a8.view.ty)
    (G9 : BufTy.Contents (Elt F) a9.view.ty) (K : PUnit → sProp 𝕄) :
    iprop((keyInv (F := F) c i a1 w1 a2 w2 a3 w3 a4 w4 a5 w5 a6 w6 a7 w7 a8 w8 a9 w9 a10 w10 X1 X2 X3 X5 X6 X10 G7 G8 G9 0 ())
        ∗ ((keyInv (F := F) c i a1 w1 a2 w2 a3 w3 a4 w4 a5 w5 a6 w6 a7 w7 a8 w8 a9 w9 a10 w10 X1 X2 X3 X5 X6 X10 G7 G8 G9 (Scf.trips k0_t2_loop.lb k0_t2_loop.ub k0_t2_loop.st) ()) -∗ K ⟨⟩))
      ⊢ wp Idealize.ShloMosaic.frame (wpE (defs₀ (F := F)) Variants.none (c : Thread nD τ) none) E
          (do
            Scf.Loop.for k0_t2_loop k0_t2_ok ⟨⟩ (k0_t2_body (F := F) i a1 w1 a2 w2 a3 w3 a4 w4 a5 w5 a6 w6 a7 w7 a8 w8 a9 w9 a10 w10)
            pure ⟨⟩) K := by
  iintro ⟨HI, Hk⟩
  sl_for (keyInv (F := F) c i a1 w1 a2 w2 a3 w3 a4 w4 a5 w5 a6 w6 a7 w7 a8 w8 a9 w9 a10 w10 X1 X2 X3 X5 X6 X10 G7 G8 G9) $$ [HI]
  · exact fun k acc => keyInv_step (F := F) c i a1 w1 a2 w2 a3 w3 a4 w4 a5 w5 a6 w6 a7 w7 a8 w8 a9 w9 a10 w10 X1 X2 X3 X5 X6 X10 E G7 G8 G9 k acc
  · iexact HI
  · iintro %acc HI
    sl_exec
    sl_step
    iapply Hk
    iexact HI

end Cert.KernelIdeal.Attn

end
-- ==== Proof.AttnRun.lean ====
/-
The attention gradient's body, run once from any contents of its outputs and of its scratch.

The first loop leaves the row sums of `do · o` in the scratch (`rowsum`); the loop over the key blocks then
finds them there, and zeros in the first output.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of output window 6, through which its contents are stated (`View.read_writes_of_cover`: the
    choice does not matter). -/
abbrev VO0_6 : View sig .tc .vmem S4096x128 .f32 := (Memref.whole cc0_stg6_0 : Memref sig .tc .vmem S4096x128 .f32).view
/-- One staging buffer of output window 7, through which its contents are stated (`View.read_writes_of_cover`: the
    choice does not matter). -/
abbrev VO0_7 : View sig .tc .vmem S4096x128 .f32 := (Memref.whole cc0_stg7_0 : Memref sig .tc .vmem S4096x128 .f32).view
/-- One staging buffer of output window 8, through which its contents are stated (`View.read_writes_of_cover`: the
    choice does not matter). -/
abbrev VO0_8 : View sig .tc .vmem S4096x128 .f32 := (Memref.whole cc0_stg8_0 : Memref sig .tc .vmem S4096x128 .f32).view
/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S4096x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

section Run
variable (c : Dev nD) (i : grid0.Coords) (a1 : Memref sig .tc .vmem S4096x128 .bf16) (w1 : a1.IsWhole)
    (a2 : Memref sig .tc .vmem S4096x128 .bf16) (w2 : a2.IsWhole)
    (a3 : Memref sig .tc .vmem S4096x128 .bf16) (w3 : a3.IsWhole)
    (a4 : Memref sig .tc .vmem S4096x128 .f32) (w4 : a4.IsWhole)
    (a5 : Memref sig .tc .vmem S1x4096x1 .f32) (w5 : a5.IsWhole)
    (a6 : Memref sig .tc .vmem S4096x128 .bf16) (w6 : a6.IsWhole)
    (a7 : Memref sig .tc .vmem S4096x128 .f32) (w7 : a7.IsWhole)
    (a8 : Memref sig .tc .vmem S4096x128 .f32) (w8 : a8.IsWhole)
    (a9 : Memref sig .tc .vmem S4096x128 .f32) (w9 : a9.IsWhole)
    (a10 : Memref sig .tc .vmem S4096x1 .f32) (w10 : a10.IsWhole)
  (x0 : Vec F S4096x128 .bf16) (x1 : Vec F S4096x128 .bf16) (x2 : Vec F S4096x128 .bf16) (x3 : Vec F S4096x128 .f32) (x4 : Vec F S1x4096x1 .f32) (x5 : Vec F S4096x128 .bf16)

/-- The scratch after the first loop: every row's sum, whatever it held. -/
def rowsum : BufTy.Contents (Elt F) a10.view.ty :=
  w10.unread (a10.view.read (Elt F) (a10.view.writes (Elt F) a10.view.junk (pb_k0_t1 (F := F) Variants.none c none i a1 w1 a2 w2 a3 w3 a4 w4 a5 w5 a6 w6 a7 w7 a8 w8 a9 w9 a10 w10 (w4.unread x3) (w6.unread x5) (Scf.trips k0_t1_loop.lb k0_t1_loop.ub k0_t1_loop.st))))

/-- The first output when the loop over the key blocks begins. -/
def zeroed (a7 : Memref sig .tc .vmem S4096x128 .f32) : BufTy.Contents (Elt F) a7.view.ty :=
  a7.view.writes (Elt F) a7.view.junk [⟨Rect.unit (s := S4096x128) ![0, 0] S4096x128.size inb_S4096x128_S4096x128_0_0, k0_pay1 (F := F)⟩]

set_option maxHeartbeats 400000 in
/-- The four stores of the first loop cover the scratch. -/
theorem rowsum_cover : ∀ y : S4096x1.Idx, ∃ p ∈ (pb_k0_t1 (F := F) Variants.none c none i a1 w1 a2 w2 a3 w3 a4 w4 a5 w5 a6 w6 a7 w7 a8 w8 a9 w9 a10 w10 (w4.unread x3) (w6.unread x5) (Scf.trips k0_t1_loop.lb k0_t1_loop.ub k0_t1_loop.st)), y ∈ p.1.set :=
  View.cover_of_tiledL _ S1024x1.size (by sl_kernel_rfl)

theorem rowsum_of (f : BufTy.Contents (Elt F) a10.view.ty) :
    a10.view.writes (Elt F) f (pb_k0_t1 (F := F) Variants.none c none i a1 w1 a2 w2 a3 w3 a4 w4 a5 w5 a6 w6 a7 w7 a8 w8 a9 w9 a10 w10 (w4.unread x3) (w6.unread x5) (Scf.trips k0_t1_loop.lb k0_t1_loop.ub k0_t1_loop.st)) = (rowsum (F := F) c i a1 w1 a2 w2 a3 w3 a4 w4 a5 w5 a6 w6 a7 w7 a8 w8 a9 w9 a10 w10 x3 x5) :=
  w10.eq_unread (View.read_writes_of_cover _ _ _ _ _ (rowsum_cover c i a1 w1 a2 w2 a3 w3 a4 w4 a5 w5 a6 w6 a7 w7 a8 w8 a9 w9 a10 w10 x3 x5))

/-- The lists of the stores of the whole body, into the three outputs. -/
def bodyPieces := (keyPieces (F := F) c i a1 w1 a2 w2 a3 w3 a4 w4 a5 w5 a6 w6 a7 w7 a8 w8 a9 w9 a10 w10 (w1.unread x0) (w2.unread x1) (w3.unread x2) (w5.unread x4) (w6.unread x5)  (rowsum (F := F) c i a1 w1 a2 w2 a3 w3 a4 w4 a5 w5 a6 w6 a7 w7 a8 w8 a9 w9 a10 w10 x3 x5) (zeroed (F := F) a7) (Scf.trips k0_t2_loop.lb k0_t2_loop.ub k0_t2_loop.st))

set_option backward.proofsInPublic true in
set_option maxHeartbeats 1000000 in
/-- The body's run. -/
theorem bodyRun (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
      ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ (a7.view.loc (c : Thread nD τ) ↦[a7.view.set]{fullShare} a7.view.writes (Elt F) (zeroed (F := F) a7) (bodyPieces c i a1 w1 a2 w2 a3 w3 a4 w4 a5 w5 a6 w6 a7 w7 a8 w8 a9 w9 a10 w10 x0 x1 x2 x3 x4 x5).1)
         ∗ (∃ f, a8.view.loc (c : Thread nD τ) ↦[a8.view.set]{fullShare} a8.view.writes (Elt F) f (bodyPieces c i a1 w1 a2 w2 a3 w3 a4 w4 a5 w5 a6 w6 a7 w7 a8 w8 a9 w9 a10 w10 x0 x1 x2 x3 x4 x5).2.1)
         ∗ (∃ f, a9.view.loc (c : Thread nD τ) ↦[a9.view.set]{fullShare} a9.view.writes (Elt F) f (bodyPieces c i a1 w1 a2 w2 a3 w3 a4 w4 a5 w5 a6 w6 a7 w7 a8 w8 a9 w9 a10 w10 x0 x1 x2 x3 x4 x5).2.2)
         ∗ (∃ d, owns (c : Thread nD τ) a10 fullShare d)) -∗ K ⟨⟩))
    ⊢ wp frame (wpE (defs₀ (F := F)) Variants.none c none) E (cc0_attn_bwd i a1 w1 a2 w2 a3 w3 a4 w4 a5 w5 a6 w6 a7 w7 a8 w8 a9 w9 a10 w10) K := by
  simp only [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := w1.eq_unread hf0; obtain rfl := w2.eq_unread hf1; obtain rfl := w3.eq_unread hf2; obtain rfl := w4.eq_unread hf3; obtain rfl := w5.eq_unread hf4; obtain rfl := w6.eq_unread hf5
  sl_exec
  rw [rowsum_of c i a1 w1 a2 w2 a3 w3 a4 w4 a5 w5 a6 w6 a7 w7 a8 w8 a9 w9 a10 w10 x3 x5 fs0]
  iapply (keyRun (F := F) c i a1 w1 a2 w2 a3 w3 a4 w4 a5 w5 a6 w6 a7 w7 a8 w8 a9 w9 a10 w10 (w1.unread x0) (w2.unread x1) (w3.unread x2) (w5.unread x4) (w6.unread x5)  (rowsum (F := F) c i a1 w1 a2 w2 a3 w3 a4 w4 a5 w5 a6 w6 a7 w7 a8 w8 a9 w9 a10 w10 x3 x5) E (zeroed (F := F) a7) f7 f8)
  isplitl [H0 H1 H2 H4 H5 HS0 H6 H7 H8]
  · iapply (keyInv_zero (F := F) c i a1 w1 a2 w2 a3 w3 a4 w4 a5 w5 a6 w6 a7 w7 a8 w8 a9 w9 a10 w10 (w1.unread x0) (w2.unread x1) (w3.unread x2) (w5.unread x4) (w6.unread x5)  (rowsum (F := F) c i a1 w1 a2 w2 a3 w3 a4 w4 a5 w5 a6 w6 a7 w7 a8 w8 a9 w9 a10 w10 x3 x5) (zeroed (F := F) a7) f7 f8)
    isplitl [H0]; · iexact H0
    isplitl [H1]; · iexact H1
    isplitl [H2]; · iexact H2
    isplitl [H4]; · iexact H4
    isplitl [H5]; · iexact H5
    isplitl [HS0]; · iexact HS0
    isplitl [H6]; · iexact H6
    isplitl [H7]; · iexact H7
    iexact H8
  iintro ⟨H0, H1, H2, H4, H5, HS0, ⟨%g6, H6, %h6⟩, ⟨%g7, H7, %h7⟩, ⟨%g8, H8, %h8⟩⟩
  obtain rfl := h6
  obtain rfl := h7
  obtain rfl := h8
  iapply Hk
  isplitl [H0]
  · iexists _; isplitr; · ipureintro; exact w1.read_unread _
    iexact H0
  isplitl [H1]
  · iexists _; isplitr; · ipureintro; exact w2.read_unread _
    iexact H1
  isplitl [H2]
  · iexists _; isplitr; · ipureintro; exact w3.read_unread _
    iexact H2
  isplitl [H3]
  · iexists _; isplitr; · ipureintro; exact w4.read_unread _
    iexact H3
  isplitl [H4]
  · iexists _; isplitr; · ipureintro; exact w5.read_unread _
    iexact H4
  isplitl [H5]
  · iexists _; isplitr; · ipureintro; exact w6.read_unread _
    iexact H5
  isplitl [H6]; · iexact H6
  isplitl [H7]; · iexists _; iexact H7
  isplitl [H8]; · iexists _; iexact H8
  iexists _, _; isplitr; swap; · iexact HS0
  ipureintro; rfl

end Run
end Cert.KernelIdeal.Attn

end
-- ==== Proof.AttnFrame.lean ====
/-
The attention gradient's frame, at any float type: the body's stores cover its outputs, so the pipeline's
data are determined, and the launch runs to its end with the arguments unchanged.
-/
module

public import proofs.«01_k».proof.Proof.AttnRun
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cover
variable (c : Dev nD) (i : grid0.Coords) (a1 : Memref sig .tc .vmem S4096x128 .bf16) (w1 : a1.IsWhole)
    (a2 : Memref sig .tc .vmem S4096x128 .bf16) (w2 : a2.IsWhole)
    (a3 : Memref sig .tc .vmem S4096x128 .bf16) (w3 : a3.IsWhole)
    (a4 : Memref sig .tc .vmem S4096x128 .f32) (w4 : a4.IsWhole)
    (a5 : Memref sig .tc .vmem S1x4096x1 .f32) (w5 : a5.IsWhole)
    (a6 : Memref sig .tc .vmem S4096x128 .bf16) (w6 : a6.IsWhole)
    (a7 : Memref sig .tc .vmem S4096x128 .f32) (w7 : a7.IsWhole)
    (a8 : Memref sig .tc .vmem S4096x128 .f32) (w8 : a8.IsWhole)
    (a9 : Memref sig .tc .vmem S4096x128 .f32) (w9 : a9.IsWhole)
    (a10 : Memref sig .tc .vmem S4096x1 .f32) (w10 : a10.IsWhole)
  (X1 : BufTy.Contents (Elt F) a1.view.ty) (X2 : BufTy.Contents (Elt F) a2.view.ty) (X3 : BufTy.Contents (Elt F) a3.view.ty) (X5 : BufTy.Contents (Elt F) a5.view.ty) (X6 : BufTy.Contents (Elt F) a6.view.ty) (X10 : BufTy.Contents (Elt F) a10.view.ty)

set_option maxHeartbeats 400000 in
/-- A trip over the key blocks leaves one store in output 2: its block of rows. -/
theorem piece8_eq (j : Fin (Scf.trips k0_t2_loop.lb k0_t2_loop.ub k0_t2_loop.st)) (f7 : BufTy.Contents (Elt F) a7.view.ty) :
    ∃ w, piece8 (F := F) c i a1 w1 a2 w2 a3 w3 a4 w4 a5 w5 a6 w6 a7 w7 a8 w8 a9 w9 a10 w10 X1 X2 X3 X5 X6 X10 j f7 = [⟨Rect.unit (s := S4096x128) (k0_off17 j) S1024x128.size (k0_off17_inb j), w⟩] := by
  delta piece8 keyTrip; exact ⟨_, rfl⟩

theorem keyPieces_mem8 (G7 : BufTy.Contents (Elt F) a7.view.ty) (n : ℕ) (hn : n ≤ Scf.trips k0_t2_loop.lb k0_t2_loop.ub k0_t2_loop.st)
    (j : Fin (Scf.trips k0_t2_loop.lb k0_t2_loop.ub k0_t2_loop.st)) (hj : j.val < n) :
    ∃ w, (⟨Rect.unit (s := S4096x128) (k0_off17 j) S1024x128.size (k0_off17_inb j), w⟩ : View.Piece (Elt F) S4096x128 .f32)
      ∈ (keyPieces (F := F) c i a1 w1 a2 w2 a3 w3 a4 w4 a5 w5 a6 w6 a7 w7 a8 w8 a9 w9 a10 w10 X1 X2 X3 X5 X6 X10 G7 n).2.1 := by
  induction n with
  | zero => omega
  | succ n ih =>
    have h := keyPieces_succ (F := F) c i a1 w1 a2 w2 a3 w3 a4 w4 a5 w5 a6 w6 a7 w7 a8 w8 a9 w9 a10 w10 X1 X2 X3 X5 X6 X10 G7 ⟨n, hn⟩
    simp only at h
    rw [h]
    by_cases e : j.val = n
    · obtain ⟨w, hw⟩ := piece8_eq (F := F) c i a1 w1 a2 w2 a3 w3 a4 w4 a5 w5 a6 w6 a7 w7 a8 w8 a9 w9 a10 w10 X1 X2 X3 X5 X6 X10 ⟨n, hn⟩ (a7.view.writes (Elt F) G7 (keyPieces (F := F) c i a1 w1 a2 w2 a3 w3 a4 w4 a5 w5 a6 w6 a7 w7 a8 w8 a9 w9 a10 w10 X1 X2 X3 X5 X6 X10 G7 n).1)
      obtain rfl : j = ⟨n, hn⟩ := Fin.ext e
      refine ⟨w, List.mem_append_left _ ?_⟩
      rw [hw]; exact List.mem_cons_self
    · obtain ⟨w, hw⟩ := ih (by omega) (by omega)
      exact ⟨w, List.mem_append_right _ hw⟩

set_option maxHeartbeats 400000 in
/-- A trip over the key blocks leaves one store in output 3: its block of rows. -/
theorem piece9_eq (j : Fin (Scf.trips k0_t2_loop.lb k0_t2_loop.ub k0_t2_loop.st)) (f7 : BufTy.Contents (Elt F) a7.view.ty) :
    ∃ w, piece9 (F := F) c i a1 w1 a2 w2 a3 w3 a4 w4 a5 w5 a6 w6 a7 w7 a8 w8 a9 w9 a10 w10 X1 X2 X3 X5 X6 X10 j f7 = [⟨Rect.unit (s := S4096x128) (k0_off17 j) S1024x128.size (k0_off17_inb j), w⟩] := by
  delta piece9 keyTrip; exact ⟨_, rfl⟩

theorem keyPieces_mem9 (G7 : BufTy.Contents (Elt F) a7.view.ty) (n : ℕ) (hn : n ≤ Scf.trips k0_t2_loop.lb k0_t2_loop.ub k0_t2_loop.st)
    (j : Fin (Scf.trips k0_t2_loop.lb k0_t2_loop.ub k0_t2_loop.st)) (hj : j.val < n) :
    ∃ w, (⟨Rect.unit (s := S4096x128) (k0_off17 j) S1024x128.size (k0_off17_inb j), w⟩ : View.Piece (Elt F) S4096x128 .f32)
      ∈ (keyPieces (F := F) c i a1 w1 a2 w2 a3 w3 a4 w4 a5 w5 a6 w6 a7 w7 a8 w8 a9 w9 a10 w10 X1 X2 X3 X5 X6 X10 G7 n).2.2 := by
  induction n with
  | zero => omega
  | succ n ih =>
    have h := keyPieces_succ (F := F) c i a1 w1 a2 w2 a3 w3 a4 w4 a5 w5 a6 w6 a7 w7 a8 w8 a9 w9 a10 w10 X1 X2 X3 X5 X6 X10 G7 ⟨n, hn⟩
    simp only at h
    rw [h]
    by_cases e : j.val = n
    · obtain ⟨w, hw⟩ := piece9_eq (F := F) c i a1 w1 a2 w2 a3 w3 a4 w4 a5 w5 a6 w6 a7 w7 a8 w8 a9 w9 a10 w10 X1 X2 X3 X5 X6 X10 ⟨n, hn⟩ (a7.view.writes (Elt F) G7 (keyPieces (F := F) c i a1 w1 a2 w2 a3 w3 a4 w4 a5 w5 a6 w6 a7 w7 a8 w8 a9 w9 a10 w10 X1 X2 X3 X5 X6 X10 G7 n).1)
      obtain rfl : j = ⟨n, hn⟩ := Fin.ext e
      refine ⟨w, List.mem_append_left _ ?_⟩
      rw [hw]; exact List.mem_cons_self
    · obtain ⟨w, hw⟩ := ih (by omega) (by omega)
      exact ⟨w, List.mem_append_right _ hw⟩

end Cover

section Run
variable (c : Dev nD) (i : grid0.Coords) (a1 : Memref sig .tc .vmem S4096x128 .bf16) (w1 : a1.IsWhole)
    (a2 : Memref sig .tc .vmem S4096x128 .bf16) (w2 : a2.IsWhole)
    (a3 : Memref sig .tc .vmem S4096x128 .bf16) (w3 : a3.IsWhole)
    (a4 : Memref sig .tc .vmem S4096x128 .f32) (w4 : a4.IsWhole)
    (a5 : Memref sig .tc .vmem S1x4096x1 .f32) (w5 : a5.IsWhole)
    (a6 : Memref sig .tc .vmem S4096x128 .bf16) (w6 : a6.IsWhole)
    (a7 : Memref sig .tc .vmem S4096x128 .f32) (w7 : a7.IsWhole)
    (a8 : Memref sig .tc .vmem S4096x128 .f32) (w8 : a8.IsWhole)
    (a9 : Memref sig .tc .vmem S4096x128 .f32) (w9 : a9.IsWhole)
    (a10 : Memref sig .tc .vmem S4096x1 .f32) (w10 : a10.IsWhole)
  (x0 : Vec F S4096x128 .bf16) (x1 : Vec F S4096x128 .bf16) (x2 : Vec F S4096x128 .bf16) (x3 : Vec F S4096x128 .f32) (x4 : Vec F S1x4096x1 .f32) (x5 : Vec F S4096x128 .bf16)

/-- The stores of the key blocks cover output 2. -/
theorem cover8 : ∀ y : S4096x128.Idx, ∃ p ∈ (bodyPieces (F := F) c i a1 w1 a2 w2 a3 w3 a4 w4 a5 w5 a6 w6 a7 w7 a8 w8 a9 w9 a10 w10 x0 x1 x2 x3 x4 x5).2.1, y ∈ p.1.set := by
  refine View.cover_of_blocks _ S1024x128.size (by intro a; fin_cases a <;> decide) fun ix => ?_
  have h4 : Scf.trips k0_t2_loop.lb k0_t2_loop.ub k0_t2_loop.st = 4 := by decide
  have hlt : (ix 0).val < Scf.trips k0_t2_loop.lb k0_t2_loop.ub k0_t2_loop.st := h4 ▸ (ix 0).isLt
  obtain ⟨w, hw⟩ := keyPieces_mem8 (F := F) c i a1 w1 a2 w2 a3 w3 a4 w4 a5 w5 a6 w6 a7 w7 a8 w8 a9 w9 a10 w10 (w1.unread x0) (w2.unread x1) (w3.unread x2) (w5.unread x4) (w6.unread x5)  (rowsum (F := F) c i a1 w1 a2 w2 a3 w3 a4 w4 a5 w5 a6 w6 a7 w7 a8 w8 a9 w9 a10 w10 x3 x5) (zeroed (F := F) a7) _ le_rfl ⟨(ix 0).val, hlt⟩ hlt
  refine ⟨_, hw, fun a => ?_, fun a => rfl, fun a => rfl⟩
  show k0_off17 _ a = _
  rw [k0_off17_eq]
  fin_cases a
  · exact Nat.mul_comm _ _
  · have h1 : (ix 1).val < 1 := (ix 1).isLt
    show 0 = (ix 1).val * 128
    omega

/-- The stores of the key blocks cover output 3. -/
theorem cover9 : ∀ y : S4096x128.Idx, ∃ p ∈ (bodyPieces (F := F) c i a1 w1 a2 w2 a3 w3 a4 w4 a5 w5 a6 w6 a7 w7 a8 w8 a9 w9 a10 w10 x0 x1 x2 x3 x4 x5).2.2, y ∈ p.1.set := by
  refine View.cover_of_blocks _ S1024x128.size (by intro a; fin_cases a <;> decide) fun ix => ?_
  have h4 : Scf.trips k0_t2_loop.lb k0_t2_loop.ub k0_t2_loop.st = 4 := by decide
  have hlt : (ix 0).val < Scf.trips k0_t2_loop.lb k0_t2_loop.ub k0_t2_loop.st := h4 ▸ (ix 0).isLt
  obtain ⟨w, hw⟩ := keyPieces_mem9 (F := F) c i a1 w1 a2 w2 a3 w3 a4 w4 a5 w5 a6 w6 a7 w7 a8 w8 a9 w9 a10 w10 (w1.unread x0) (w2.unread x1) (w3.unread x2) (w5.unread x4) (w6.unread x5)  (rowsum (F := F) c i a1 w1 a2 w2 a3 w3 a4 w4 a5 w5 a6 w6 a7 w7 a8 w8 a9 w9 a10 w10 x3 x5) (zeroed (F := F) a7) _ le_rfl ⟨(ix 0).val, hlt⟩ hlt
  refine ⟨_, hw, fun a => ?_, fun a => rfl, fun a => rfl⟩
  show k0_off17 _ a = _
  rw [k0_off17_eq]
  fin_cases a
  · exact Nat.mul_comm _ _
  · have h1 : (ix 1).val < 1 := (ix 1).isLt
    show 0 = (ix 1).val * 128
    omega

end Run

variable (m : (ℓ : Loc nD τ sig) → Buf (Elt F) ℓ) (ρ : Dev nD → PrngReg)

/-- What the outputs' staging buffers hold after the body at point `t` (as a tuple, in window order): the run's contents at
    the point's memrefs and input blocks. -/
def outsAt0 (c : Dev nD) (t : Fin cfg0.N) : Vec F S4096x128 .f32 × Vec F S4096x128 .f32 × Vec F S4096x128 .f32 :=
  ((ms0_6 t).view.read (Elt F) ((ms0_6 t).view.writes (Elt F) (zeroed (ms0_6 t)) (bodyPieces (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).1),
   VO0_7.read (Elt F) (VO0_7.writes (Elt F) VO0_7.junk (bodyPieces (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2.1),
   VO0_8.read (Elt F) (VO0_8.writes (Elt F) VO0_8.junk (bodyPieces (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2.2))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, H6, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; exact View.read_writes_of_cover _ _ _ _ _ (cover8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))
  unfold owns; iexists _; isplitr
  swap; · iexact H8
  ipureintro; exact View.read_writes_of_cover _ _ _ _ _ (cover9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: what `run_main` says, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.SameText.lean ====
/-
  The compiled kernel and the ideal kernel are one text: read at the bits, the body tables and the mains are equal.
-/
module

public import proofs.«01_k».proof.Defs
public import proofs.«01_k».proof.Proof.Gen.Kernel
public import proofs.«01_k».proof.Proof.Gen.KernelIdeal

@[expose] public section

set_option maxHeartbeats 4000000
set_option maxRecDepth 16384

namespace Cert.Proof

open Idealize.ShloMosaic Idealize.SL.Sem

theorem bodies_same : Cert.Kernel.defs₀ (F := Bits) = Cert.KernelIdeal.defs₀ (F := Bits) := by
  unfold Cert.Kernel.defs₀ Cert.KernelIdeal.defs₀
  congr 1
  funext l a
  match l, a with
  | 0, (t, s) => rfl

theorem defs_same : Cert.Kernel.defs (F := Bits) = Cert.KernelIdeal.defs (F := Bits) := by
  unfold Cert.Kernel.defs Cert.KernelIdeal.defs
  rw [bodies_same]; rfl

theorem main_same : Cert.Kernel.main (F := Bits) = Cert.KernelIdeal.main (F := Bits) := rfl

end Cert.Proof

end
-- ==== Proof.PreReal.lean ====
/-
  The precondition, read: where it holds, every entry of the four arguments is a real number.
-/
module

public import proofs.«01_k».proof.Defs
public import Idealize.ShloMosaic.Lib.ReduceAll
public import Idealize.ShloMosaic.Lib.Pointwise

@[expose] public section

set_option maxRecDepth 16384

noncomputable section

namespace Cert.Pre_finite

open Idealize.ShloMosaic

namespace Gen
theorem facts : Cert.Pre_finite.Facts where
  bitsLt_bf16_f32 := by decide
  bcast_S_S4096x1024 := by decide
  reducesTo_S4096x1024_S_d0_1 := by decide
  h_S_ := by decide
  bcast_S_S4096x1536 := by decide
  reducesTo_S4096x1536_S_d0_1 := by decide
end Gen

variable [Facts]
open Facts

theorem inf_word : Ideal.ofBits .f32 0x7F800000#32 = ⊤ := by simp [Ideal.ofBits, Ideal.ieee]

/-- A number whose absolute value is below infinity is real. -/
theorem real_of_abs (x : EReal) (h : BitVec.ofBool (decide (max x (-x) < Ideal.ofBits .f32 0x7F800000#32)) = 1#1) : ∃ y : ℝ, x = y := by
  rw [inf_word] at h
  have h1 : max x (-x) < ⊤ := by
    by_contra hc
    rw [decide_eq_false hc] at h
    exact absurd h (by decide)
  induction x with
  | bot => simp at h1
  | top => simp at h1
  | coe y => exact ⟨y, rfl⟩

instance : Subsingleton S_.Idx := ⟨fun a b => funext fun i => i.elim0⟩

/-- One argument's test. -/
theorem real_of_all {s : Shape} {axes : List (Fin s.rank)} (A : FVec Ideal s .bf16) (hb : FTy.bits .bf16 < FTy.bits .f32)
    (hc : S_.BroadcastsInDim s (![] : Fin 0 → Fin s.rank)) (hr : s.ReducesTo axes S_) (hu : 0 < S_.numel) (j : S_.Idx)
    (e : Host.reduce IntOp.andi (cmpf (F := Ideal) (φ := .f32) .olt (Host.absf (extf .f32 A hb)) (broadcastInDim s ![] hc (constant S_ .f32 0x7F800000#32)))
      (constantI S_ 1 1#1) hr hu j = 1#1) (i : s.Idx) : ∃ y : ℝ, (A i : EReal) = y :=
  real_of_abs (A i) (Host.reduce_andi_all _ _ hr hu j e i)

theorem real_of_fn (A B C : FVec Ideal S4096x1024 .bf16) (D : FVec Ideal S4096x1536 .bf16)
    (h : fn (F := Ideal) A B C D = fun _ => 1#1) :
    (∀ i, ∃ y : ℝ, (A i : EReal) = y) ∧ (∀ i, ∃ y : ℝ, (B i : EReal) = y) ∧ (∀ i, ∃ y : ℝ, (C i : EReal) = y) ∧ ∀ i, ∃ y : ℝ, (D i : EReal) = y := by
  have h0 := congrFun h ix0
  unfold fn fn_part1 at h0
  obtain ⟨h1, hd⟩ := IntOp.andi_eq_one.1 h0
  obtain ⟨h2, hc⟩ := IntOp.andi_eq_one.1 h1
  obtain ⟨ha, hb⟩ := IntOp.andi_eq_one.1 h2
  exact ⟨real_of_all A _ _ _ _ _ ha, real_of_all B _ _ _ _ _ hb, real_of_all C _ _ _ _ _ hc, real_of_all D _ _ _ _ _ hd⟩

end Cert.Pre_finite

end
-- ==== Proof.AttnPieces.lean ====
/-
  What one trip of the loop over the key blocks writes, spelt out.

  The two half blocks on the diagonal and the one below them give the first three stores (`tileA`, `tileB`,
  `tileC`) and the start of the two sums the later query blocks continue (`sums0`); the loop over those blocks
  (`after`) then adds its own stores and finishes the sums.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (a1 : Memref sig .tc .vmem S4096x128 .bf16) (h1 : a1.IsWhole)
    (a2 : Memref sig .tc .vmem S4096x128 .bf16) (h2 : a2.IsWhole)
    (a3 : Memref sig .tc .vmem S4096x128 .bf16) (h3 : a3.IsWhole)
    (a4 : Memref sig .tc .vmem S4096x128 .f32) (h4 : a4.IsWhole)
    (a5 : Memref sig .tc .vmem S1x4096x1 .f32) (h5 : a5.IsWhole)
    (a6 : Memref sig .tc .vmem S4096x128 .bf16) (h6 : a6.IsWhole)
    (a7 : Memref sig .tc .vmem S4096x128 .f32) (h7 : a7.IsWhole)
    (a8 : Memref sig .tc .vmem S4096x128 .f32) (h8 : a8.IsWhole)
    (a9 : Memref sig .tc .vmem S4096x128 .f32) (h9 : a9.IsWhole)
    (a10 : Memref sig .tc .vmem S4096x1 .f32) (h10 : a10.IsWhole)
  (X1 : BufTy.Contents (Elt F) a1.view.ty) (X2 : BufTy.Contents (Elt F) a2.view.ty)
    (X3 : BufTy.Contents (Elt F) a3.view.ty) (X5 : BufTy.Contents (Elt F) a5.view.ty)
    (X6 : BufTy.Contents (Elt F) a6.view.ty) (X10 : BufTy.Contents (Elt F) a10.view.ty)

section Loads
variable (j : Fin k0_t2_loop.trips)
abbrev half0 (a1 : Memref sig .tc .vmem S4096x128 .bf16) (X1 : BufTy.Contents (Elt F) a1.view.ty) : Vec F S512x128 .bf16 :=
  a1.view.readAt (Elt F) (Rect.unit (s := S4096x128) (k0_off3 j) S512x128.size (k0_off3_inb j)).toLoadRect X1
abbrev half1 (a1 : Memref sig .tc .vmem S4096x128 .bf16) (X1 : BufTy.Contents (Elt F) a1.view.ty) : Vec F S512x128 .bf16 :=
  a1.view.readAt (Elt F) (Rect.unit (s := S4096x128) (k0_off6 j) S512x128.size (k0_off6_inb j)).toLoadRect X1
abbrev lse0 (a5 : Memref sig .tc .vmem S1x4096x1 .f32) (X5 : BufTy.Contents (Elt F) a5.view.ty) : Vec F S1x512x1 .f32 :=
  a5.view.readAt (Elt F) (Rect.unit (s := S1x4096x1) (k0_off4 j) S1x512x1.size (k0_off4_inb j)).toLoadRect X5
abbrev lse1 (a5 : Memref sig .tc .vmem S1x4096x1 .f32) (X5 : BufTy.Contents (Elt F) a5.view.ty) : Vec F S1x512x1 .f32 :=
  a5.view.readAt (Elt F) (Rect.unit (s := S1x4096x1) (k0_off7 j) S1x512x1.size (k0_off7_inb j)).toLoadRect X5
abbrev dd0 (a10 : Memref sig .tc .vmem S4096x1 .f32) (X10 : BufTy.Contents (Elt F) a10.view.ty) : Vec F S512x1 .f32 :=
  a10.view.readAt (Elt F) (Rect.unit (s := S4096x1) (k0_off5 j) S512x1.size (k0_off5_inb j)).toLoadRect X10
abbrev dd1 (a10 : Memref sig .tc .vmem S4096x1 .f32) (X10 : BufTy.Contents (Elt F) a10.view.ty) : Vec F S512x1 .f32 :=
  a10.view.readAt (Elt F) (Rect.unit (s := S4096x1) (k0_off8 j) S512x1.size (k0_off8_inb j)).toLoadRect X10
end Loads

section Diag
variable (a1 : Memref sig .tc .vmem S4096x128 .bf16) (a2 : Memref sig .tc .vmem S4096x128 .bf16)
    (a3 : Memref sig .tc .vmem S4096x128 .bf16) (a5 : Memref sig .tc .vmem S1x4096x1 .f32)
    (a6 : Memref sig .tc .vmem S4096x128 .bf16) (a10 : Memref sig .tc .vmem S4096x1 .f32) (a7 : Memref sig .tc .vmem S4096x128 .f32)
  (X1 : BufTy.Contents (Elt F) a1.view.ty) (X2 : BufTy.Contents (Elt F) a2.view.ty)
    (X3 : BufTy.Contents (Elt F) a3.view.ty) (X5 : BufTy.Contents (Elt F) a5.view.ty)
    (X6 : BufTy.Contents (Elt F) a6.view.ty) (X10 : BufTy.Contents (Elt F) a10.view.ty)
  (j : Fin k0_t2_loop.trips) (f7 : BufTy.Contents (Elt F) a7.view.ty)

/-- The three stores of the diagonal's tiles, the first last. -/
def tileA : View.Piece (Elt F) S4096x128 .f32 :=
  ⟨Rect.unit (s := S4096x128) (k0_off3 j) S512x128.size (k0_off3_inb j), k0_pay24 (half0 j a2 X2) (k0_pay21 (half0 j a1 X1) (half0 j a2 X2) (half0 j a3 X3) (half0 j a6 X6) (lse0 j a5 X5) (dd0 j a10 X10)) (a7.view.readAt (Elt F) (Rect.unit (s := S4096x128) (k0_off3 j) S512x128.size (k0_off3_inb j)).toLoadRect f7)⟩
def tileB : View.Piece (Elt F) S4096x128 .f32 :=
  ⟨Rect.unit (s := S4096x128) (k0_off6 j) S512x128.size (k0_off6_inb j), k0_pay29 (half0 j a2 X2) (k0_pay26 (half1 j a1 X1) (half0 j a2 X2) (half0 j a3 X3) (half1 j a6 X6) (lse1 j a5 X5) (dd1 j a10 X10)) (a7.view.readAt (Elt F) (Rect.unit (s := S4096x128) (k0_off6 j) S512x128.size (k0_off6_inb j)).toLoadRect f7)⟩
def tileC : View.Piece (Elt F) S4096x128 .f32 :=
  ⟨Rect.unit (s := S4096x128) (k0_off6 j) S512x128.size (k0_off6_inb j), k0_pay3 (half1 j a2 X2) (k0_pay31 (half1 j a1 X1) (half1 j a2 X2) (half1 j a3 X3) (half1 j a6 X6) (lse1 j a5 X5) (dd1 j a10 X10)) (a7.view.readCov [tileB a1 a2 a3 a5 a6 a10 a7 X1 X2 X3 X5 X6 X10 j f7, tileA a1 a2 a3 a5 a6 a10 a7 X1 X2 X3 X5 X6 X10 j f7] (Rect.unit (s := S4096x128) (k0_off6 j) S512x128.size (k0_off6_inb j)).toLoadRect)⟩
def diag : List (View.Piece (Elt F) S4096x128 .f32) :=
  [tileC a1 a2 a3 a5 a6 a10 a7 X1 X2 X3 X5 X6 X10 j f7, tileB a1 a2 a3 a5 a6 a10 a7 X1 X2 X3 X5 X6 X10 j f7, tileA a1 a2 a3 a5 a6 a10 a7 X1 X2 X3 X5 X6 X10 j f7]

/-- The keys' and the values' sums over the queries of the same block. -/
def sums0 (a1 : Memref sig .tc .vmem S4096x128 .bf16) (a2 : Memref sig .tc .vmem S4096x128 .bf16)
    (a3 : Memref sig .tc .vmem S4096x128 .bf16) (a5 : Memref sig .tc .vmem S1x4096x1 .f32)
    (a6 : Memref sig .tc .vmem S4096x128 .bf16) (a10 : Memref sig .tc .vmem S4096x1 .f32)
    (X1 : BufTy.Contents (Elt F) a1.view.ty) (X2 : BufTy.Contents (Elt F) a2.view.ty)
    (X3 : BufTy.Contents (Elt F) a3.view.ty) (X5 : BufTy.Contents (Elt F) a5.view.ty)
    (X6 : BufTy.Contents (Elt F) a6.view.ty) (X10 : BufTy.Contents (Elt F) a10.view.ty) (j : Fin k0_t2_loop.trips) :
    FVec F S1024x128 .f32 × FVec F S1024x128 .f32 :=
  (k0_pay4 k0_pay18 (k0_pay28 k0_pay18 (k0_pay23 (half0 j a1 X1) (half0 j a2 X2) (half0 j a3 X3) (half0 j a6 X6) (lse0 j a5 X5) (dd0 j a10 X10)) (half1 j a1 X1) (half0 j a2 X2) (half0 j a3 X3) (half1 j a6 X6) (lse1 j a5 X5) (dd1 j a10 X10)) (half1 j a1 X1) (k0_pay31 (half1 j a1 X1) (half1 j a2 X2) (half1 j a3 X3) (half1 j a6 X6) (lse1 j a5 X5) (dd1 j a10 X10)),
   k0_pay5 k0_pay19 (k0_pay27 (k0_pay22 (half0 j a1 X1) (half0 j a2 X2) (half0 j a6 X6) (lse0 j a5 X5)) (half1 j a1 X1) (half0 j a2 X2) (half1 j a6 X6) (lse1 j a5 X5)) (half1 j a6 X6) (k0_pay30 (half1 j a1 X1) (half1 j a2 X2) (lse1 j a5 X5)))
end Diag

section Trip
variable (j : Fin k0_t2_loop.trips) (f7 : BufTy.Contents (Elt F) a7.view.ty)

/-- The later query blocks: the sums carried on and the stores made, after `n` of them. -/
def after (n : ℕ) : (FVec F S1024x128 .f32 × FVec F S1024x128 .f32) × List (View.Piece (Elt F) S4096x128 .f32) :=
  st_k0_t3 (F := F) Variants.none c none i a1 h1 a2 h2 a3 h3 a4 h4 a5 h5 a6 h6 a7 h7 a8 h8 a9 h9 a10 h10 j (Scalar.muli (Scf.iv 0#32 1#32 j.val) 1024#32) (Scalar.addi (Scf.iv 0#32 1#32 j.val) 1#32) X1 X2 X3 X5 X6 X10
    (a7.view.writes (Elt F) f7 (diag a1 a2 a3 a5 a6 a10 a7 X1 X2 X3 X5 X6 X10 j f7)) (sums0 a1 a2 a3 a5 a6 a10 X1 X2 X3 X5 X6 X10 j) n

theorem t4_trips : (k0_t4_loop j).trips = 0 := Nat.le_zero.1 (k0_t4_abs j).2.1

theorem t4_nil (v6 v152 : BitVec 32) (G : BufTy.Contents (Elt F) a7.view.ty) (init : FVec F S1024x128 .f32 × FVec F S1024x128 .f32) (n : ℕ) (h : n = 0) :
    st_k0_t4 (F := F) Variants.none c none i a1 h1 a2 h2 a3 h3 a4 h4 a5 h5 a6 h6 a7 h7 a8 h8 a9 h9 a10 h10 j v6 v152 X1 X2 X3 X5 X6 X10 G init n = (init, []) := by
  subst h; rfl

set_option maxHeartbeats 1000000 in
theorem piece7_after : piece7 (F := F) c i a1 h1 a2 h2 a3 h3 a4 h4 a5 h5 a6 h6 a7 h7 a8 h8 a9 h9 a10 h10 X1 X2 X3 X5 X6 X10 j f7
    = (after c i a1 h1 a2 h2 a3 h3 a4 h4 a5 h5 a6 h6 a7 h7 a8 h8 a9 h9 a10 h10 X1 X2 X3 X5 X6 X10 j f7 (k0_t3_loop j).trips).2 ++ diag a1 a2 a3 a5 a6 a10 a7 X1 X2 X3 X5 X6 X10 j f7 := by
  delta piece7 keyTrip
  dsimp only
  rw [t4_nil (h := t4_trips j)]
  rfl

set_option maxHeartbeats 1000000 in
theorem piece8_after : piece8 (F := F) c i a1 h1 a2 h2 a3 h3 a4 h4 a5 h5 a6 h6 a7 h7 a8 h8 a9 h9 a10 h10 X1 X2 X3 X5 X6 X10 j f7
    = [⟨Rect.unit (s := S4096x128) (k0_off17 j) S1024x128.size (k0_off17_inb j), k0_pay6 (after c i a1 h1 a2 h2 a3 h3 a4 h4 a5 h5 a6 h6 a7 h7 a8 h8 a9 h9 a10 h10 X1 X2 X3 X5 X6 X10 j f7 (k0_t3_loop j).trips).1.1⟩] := by
  delta piece8 keyTrip
  dsimp only
  rw [t4_nil (h := t4_trips j)]
  rfl

set_option maxHeartbeats 1000000 in
theorem piece9_after : piece9 (F := F) c i a1 h1 a2 h2 a3 h3 a4 h4 a5 h5 a6 h6 a7 h7 a8 h8 a9 h9 a10 h10 X1 X2 X3 X5 X6 X10 j f7
    = [⟨Rect.unit (s := S4096x128) (k0_off17 j) S1024x128.size (k0_off17_inb j), k0_pay7 (after c i a1 h1 a2 h2 a3 h3 a4 h4 a5 h5 a6 h6 a7 h7 a8 h8 a9 h9 a10 h10 X1 X2 X3 X5 X6 X10 j f7 (k0_t3_loop j).trips).1.2⟩] := by
  delta piece9 keyTrip
  dsimp only
  rw [t4_nil (h := t4_trips j)]
  rfl
end Trip

section Rest
variable (j : Fin k0_t2_loop.trips) (v6 v147 : BitVec 32) (kk : Fin (k0_t3_loop j).trips) (acc : FVec F S1024x128 .f32 × FVec F S1024x128 .f32) (f7 : BufTy.Contents (Elt F) a7.view.ty)

set_option maxHeartbeats 1000000 in
/-- One later query block: the two sums. -/
theorem tripR_rest : tripR_k0_t3 (F := F) Variants.none c none i a1 h1 a2 h2 a3 h3 a4 h4 a5 h5 a6 h6 a7 h7 a8 h8 a9 h9 a10 h10 j v6 v147 X1 X2 X3 X5 X6 X10 kk acc f7
    = (k0_pay11 acc.1 (a1.view.readAt (Elt F) (Rect.unit (s := S4096x128) (k0_off9 j kk) S1024x128.size (k0_off9_inb j kk)).toLoadRect X1) (a2.view.readAt (Elt F) (Rect.unit (s := S4096x128) (k0_off10 j) S1024x128.size (k0_off10_inb j)).toLoadRect X2) (a3.view.readAt (Elt F) (Rect.unit (s := S4096x128) (k0_off10 j) S1024x128.size (k0_off10_inb j)).toLoadRect X3) (a6.view.readAt (Elt F) (Rect.unit (s := S4096x128) (k0_off9 j kk) S1024x128.size (k0_off9_inb j kk)).toLoadRect X6) (a5.view.readAt (Elt F) (Rect.unit (s := S1x4096x1) (k0_off11 j kk) S1x1024x1.size (k0_off11_inb j kk)).toLoadRect X5) (a10.view.readAt (Elt F) (Rect.unit (s := S4096x1) (k0_off12 j kk) S1024x1.size (k0_off12_inb j kk)).toLoadRect X10), k0_pay10 acc.2 (a1.view.readAt (Elt F) (Rect.unit (s := S4096x128) (k0_off9 j kk) S1024x128.size (k0_off9_inb j kk)).toLoadRect X1) (a2.view.readAt (Elt F) (Rect.unit (s := S4096x128) (k0_off10 j) S1024x128.size (k0_off10_inb j)).toLoadRect X2) (a6.view.readAt (Elt F) (Rect.unit (s := S4096x128) (k0_off9 j kk) S1024x128.size (k0_off9_inb j kk)).toLoadRect X6) (a5.view.readAt (Elt F) (Rect.unit (s := S1x4096x1) (k0_off11 j kk) S1x1024x1.size (k0_off11_inb j kk)).toLoadRect X5)) := by
  delta tripR_k0_t3 trip_k0_t3
  rfl

set_option maxHeartbeats 1000000 in
/-- One later query block: its store. -/
theorem tripL_rest : tripL_k0_t3 (F := F) Variants.none c none i a1 h1 a2 h2 a3 h3 a4 h4 a5 h5 a6 h6 a7 h7 a8 h8 a9 h9 a10 h10 j v6 v147 X1 X2 X3 X5 X6 X10 kk acc f7
    = [⟨Rect.unit (s := S4096x128) (k0_off9 j kk) S1024x128.size (k0_off9_inb j kk), k0_pay12 (a1.view.readAt (Elt F) (Rect.unit (s := S4096x128) (k0_off9 j kk) S1024x128.size (k0_off9_inb j kk)).toLoadRect X1) (a2.view.readAt (Elt F) (Rect.unit (s := S4096x128) (k0_off10 j) S1024x128.size (k0_off10_inb j)).toLoadRect X2) (a3.view.readAt (Elt F) (Rect.unit (s := S4096x128) (k0_off10 j) S1024x128.size (k0_off10_inb j)).toLoadRect X3) (a6.view.readAt (Elt F) (Rect.unit (s := S4096x128) (k0_off9 j kk) S1024x128.size (k0_off9_inb j kk)).toLoadRect X6) (a5.view.readAt (Elt F) (Rect.unit (s := S1x4096x1) (k0_off11 j kk) S1x1024x1.size (k0_off11_inb j kk)).toLoadRect X5) (a10.view.readAt (Elt F) (Rect.unit (s := S4096x1) (k0_off12 j kk) S1024x1.size (k0_off12_inb j kk)).toLoadRect X10) (a7.view.readAt (Elt F) (Rect.unit (s := S4096x128) (k0_off9 j kk) S1024x128.size (k0_off9_inb j kk)).toLoadRect f7)⟩] := by
  delta tripL_k0_t3 trip_k0_t3
  rfl
end Rest

end Cert.KernelIdeal.Attn

end
-- ==== Proof.AttnTile.lean ====
/-
  The attention gradient's tiles, read at an index over the extended reals.

  A head's arrays are read by row number: `q`, `k`, `v`, `w` (the incoming gradient) by row and column, `ls`
  (the logarithm of a row's sum of exponentials) and `dd` (a row's sum of `w · o`) by row.  `P r c` is the
  probability of key `c` for query `r`, zero above the diagonal, and `DS r c` the gradient of their score.
  Each tile of the kernel is a block of these, whichever rows it was loaded from.
-/
module

public import proofs.«01_k».proof.Proof.Gen.KernelIdeal.Skeleton
public import Idealize.ShloMosaic.Lib.Pointwise

@[expose] public section

noncomputable section

namespace Cert.KernelIdeal.Attn

open Cert.KernelIdeal Cert.KernelIdeal.Gen
open Idealize.ShloMosaic

/-- The scale of the scores. -/
def kap : EReal := Ideal.ofBits .f32 0x3DD105EC#32

variable (q k v w : ℕ → Fin 128 → EReal) (ls dd : ℕ → EReal)

/-- The probability of key `c` for query `r`. -/
def P (r c : ℕ) : EReal := if c ≤ r then Ideal.exp ((∑ d, q r d * k c d) * kap - ls r) else 0

/-- The gradient of the score of key `c` for query `r`. -/
def DS (r c : ℕ) : EReal := P q k ls r c * ((∑ d, w r d * v c d) - dd r) * kap

theorem DS_zero {r c : ℕ} (h : r < c) : DS q k v w ls dd r c = 0 := by
  simp [DS, P, Nat.not_le.2 h]

theorem P_zero {r c : ℕ} (h : r < c) : P q k ls r c = 0 := by
  simp [P, Nat.not_le.2 h]

/-- A sum over a block's rows is a sum over the array's. -/
theorem sum_block (n a : ℕ) (f : ℕ → EReal) : (∑ c : Fin n, f (a + c.val)) = ∑ c ∈ Finset.Ico a (a + n), f c := by
  rw [Finset.sum_Ico_eq_sum_range, Nat.add_sub_cancel_left, Finset.sum_range]

/-- The causal mask inside a tile compares the two counters as words. -/
theorem mask_select (c r : ℕ) (hc : c < 2 ^ 31) (hr : r < 2 ^ 31) (x y : EReal) :
    Scalar.select (IntOp.cmpi CmpIPredicate.sle (BitVec.ofNat 32 c) (BitVec.ofNat 32 r)) x y = if c ≤ r then x else y := by
  have e : IntOp.cmpi CmpIPredicate.sle (BitVec.ofNat 32 c) (BitVec.ofNat 32 r)
      = BitVec.ofBool ((BitVec.ofNat 32 c).sle (BitVec.ofNat 32 r)) := rfl
  have t : ∀ n : ℕ, n < 2 ^ 31 → (BitVec.ofNat 32 n).toInt = n := fun n hn => by
    rw [BitVec.toInt_eq_toNat_of_lt (by rw [BitVec.toNat_ofNat]; omega), BitVec.toNat_ofNat]; omega
  rw [e, BitVec.sle_eq_decide, t c hc, t r hr]
  by_cases h : c ≤ r
  · simp [Scalar.select, h]
  · simp [Scalar.select, h]

/-- A half block on the diagonal: the probabilities. -/
theorem diagA_p (a b : ℕ) (hab : a = b) (x : Vec Ideal S512x128 .bf16) (y : Vec Ideal S512x128 .bf16) (l : Vec Ideal S1x512x1 .f32)
    (h_x : ∀ r d, x (ix2 r d) = q (a + r.val) d) (h_y : ∀ r d, y (ix2 r d) = k (b + r.val) d) (h_l : ∀ r, l (ix3 0 r 0) = ls (a + r.val)) (r c : Fin 512) :
    k0_pay20 (F := Ideal) x y l (ix2 r c) = P q k ls (a + r.val) (b + c.val) := by
  pointwise [k0_pay20]
  simp only [h_x, h_y, h_l, P, kap]
  subst hab
  simp only [Nat.add_le_add_iff_left]
  exact mask_select c.val r.val (by omega) (by omega) _ _

/-- A half block on the diagonal: the gradients of the scores. -/
theorem diagA_ds (a b : ℕ) (hab : a = b) (x : Vec Ideal S512x128 .bf16) (y : Vec Ideal S512x128 .bf16) (z : Vec Ideal S512x128 .bf16) (u : Vec Ideal S512x128 .bf16) (l : Vec Ideal S1x512x1 .f32) (e : Vec Ideal S512x1 .f32)
    (h_x : ∀ r d, x (ix2 r d) = q (a + r.val) d) (h_y : ∀ r d, y (ix2 r d) = k (b + r.val) d) (h_z : ∀ r d, z (ix2 r d) = v (b + r.val) d) (h_u : ∀ r d, u (ix2 r d) = w (a + r.val) d) (h_l : ∀ r, l (ix3 0 r 0) = ls (a + r.val)) (h_e : ∀ r, e (ix2 r 0) = dd (a + r.val)) (r c : Fin 512) :
    k0_pay21 (F := Ideal) x y z u l e (ix2 r c) = DS q k v w ls dd (a + r.val) (b + c.val) := by
  unfold k0_pay21
  pointwise
  rw [diagA_p q k ls a b hab x y l h_x h_y h_l]
  simp only [h_u, h_z, h_e, DS, kap]

/-- The other half block on the diagonal: the probabilities. -/
theorem diagC_p (a b : ℕ) (hab : a = b) (x : Vec Ideal S512x128 .bf16) (y : Vec Ideal S512x128 .bf16) (l : Vec Ideal S1x512x1 .f32)
    (h_x : ∀ r d, x (ix2 r d) = q (a + r.val) d) (h_y : ∀ r d, y (ix2 r d) = k (b + r.val) d) (h_l : ∀ r, l (ix3 0 r 0) = ls (a + r.val)) (r c : Fin 512) :
    k0_pay30 (F := Ideal) x y l (ix2 r c) = P q k ls (a + r.val) (b + c.val) := by
  pointwise [k0_pay30]
  simp only [h_x, h_y, h_l, P, kap]
  subst hab
  simp only [Nat.add_le_add_iff_left]
  exact mask_select c.val r.val (by omega) (by omega) _ _

/-- The other half block on the diagonal: the gradients of the scores. -/
theorem diagC_ds (a b : ℕ) (hab : a = b) (x : Vec Ideal S512x128 .bf16) (y : Vec Ideal S512x128 .bf16) (z : Vec Ideal S512x128 .bf16) (u : Vec Ideal S512x128 .bf16) (l : Vec Ideal S1x512x1 .f32) (e : Vec Ideal S512x1 .f32)
    (h_x : ∀ r d, x (ix2 r d) = q (a + r.val) d) (h_y : ∀ r d, y (ix2 r d) = k (b + r.val) d) (h_z : ∀ r d, z (ix2 r d) = v (b + r.val) d) (h_u : ∀ r d, u (ix2 r d) = w (a + r.val) d) (h_l : ∀ r, l (ix3 0 r 0) = ls (a + r.val)) (h_e : ∀ r, e (ix2 r 0) = dd (a + r.val)) (r c : Fin 512) :
    k0_pay31 (F := Ideal) x y z u l e (ix2 r c) = DS q k v w ls dd (a + r.val) (b + c.val) := by
  unfold k0_pay31
  pointwise
  rw [diagC_p q k ls a b hab x y l h_x h_y h_l]
  simp only [h_u, h_z, h_e, DS, kap]

/-- A half block below the diagonal: the probabilities. -/
theorem below_p (a b : ℕ) (hab : b + 512 ≤ a) (x : Vec Ideal S512x128 .bf16) (y : Vec Ideal S512x128 .bf16) (l : Vec Ideal S1x512x1 .f32)
    (h_x : ∀ r d, x (ix2 r d) = q (a + r.val) d) (h_y : ∀ r d, y (ix2 r d) = k (b + r.val) d) (h_l : ∀ r, l (ix3 0 r 0) = ls (a + r.val)) (r c : Fin 512) :
    k0_pay25 (F := Ideal) x y l (ix2 r c) = P q k ls (a + r.val) (b + c.val) := by
  pointwise [k0_pay25]
  simp only [h_x, h_y, h_l, P, kap]
  rw [if_pos (by omega)]

/-- A half block below the diagonal: the gradients of the scores. -/
theorem below_ds (a b : ℕ) (hab : b + 512 ≤ a) (x : Vec Ideal S512x128 .bf16) (y : Vec Ideal S512x128 .bf16) (z : Vec Ideal S512x128 .bf16) (u : Vec Ideal S512x128 .bf16) (l : Vec Ideal S1x512x1 .f32) (e : Vec Ideal S512x1 .f32)
    (h_x : ∀ r d, x (ix2 r d) = q (a + r.val) d) (h_y : ∀ r d, y (ix2 r d) = k (b + r.val) d) (h_z : ∀ r d, z (ix2 r d) = v (b + r.val) d) (h_u : ∀ r d, u (ix2 r d) = w (a + r.val) d) (h_l : ∀ r, l (ix3 0 r 0) = ls (a + r.val)) (h_e : ∀ r, e (ix2 r 0) = dd (a + r.val)) (r c : Fin 512) :
    k0_pay26 (F := Ideal) x y z u l e (ix2 r c) = DS q k v w ls dd (a + r.val) (b + c.val) := by
  unfold k0_pay26
  pointwise
  rw [below_p q k ls a b hab x y l h_x h_y h_l]
  simp only [h_u, h_z, h_e, DS, kap]

/-- A block below the diagonal: the probabilities. -/
theorem rest_p (a b : ℕ) (hab : b + 1024 ≤ a) (x : Vec Ideal S1024x128 .bf16) (y : Vec Ideal S1024x128 .bf16) (l : Vec Ideal S1x1024x1 .f32)
    (h_x : ∀ r d, x (ix2 r d) = q (a + r.val) d) (h_y : ∀ r d, y (ix2 r d) = k (b + r.val) d) (h_l : ∀ r, l (ix3 0 r 0) = ls (a + r.val)) (r c : Fin 1024) :
    k0_pay8 (F := Ideal) x y l (ix2 r c) = P q k ls (a + r.val) (b + c.val) := by
  pointwise [k0_pay8]
  simp only [h_x, h_y, h_l, P, kap]
  rw [if_pos (by omega)]

/-- A block below the diagonal: the gradients of the scores. -/
theorem rest_ds (a b : ℕ) (hab : b + 1024 ≤ a) (x : Vec Ideal S1024x128 .bf16) (y : Vec Ideal S1024x128 .bf16) (z : Vec Ideal S1024x128 .bf16) (u : Vec Ideal S1024x128 .bf16) (l : Vec Ideal S1x1024x1 .f32) (e : Vec Ideal S1024x1 .f32)
    (h_x : ∀ r d, x (ix2 r d) = q (a + r.val) d) (h_y : ∀ r d, y (ix2 r d) = k (b + r.val) d) (h_z : ∀ r d, z (ix2 r d) = v (b + r.val) d) (h_u : ∀ r d, u (ix2 r d) = w (a + r.val) d) (h_l : ∀ r, l (ix3 0 r 0) = ls (a + r.val)) (h_e : ∀ r, e (ix2 r 0) = dd (a + r.val)) (r c : Fin 1024) :
    k0_pay9 (F := Ideal) x y z u l e (ix2 r c) = DS q k v w ls dd (a + r.val) (b + c.val) := by
  unfold k0_pay9
  pointwise
  rw [rest_p q k ls a b hab x y l h_x h_y h_l]
  simp only [h_u, h_z, h_e, DS, kap]

end Cert.KernelIdeal.Attn

end
-- ==== Proof.AttnSums.lean ====
/-
  The attention gradient's products of tiles, read at an index over the extended reals: each is a sum over the rows of
  the block it was loaded from.
-/
module

public import proofs.«01_k».proof.Proof.AttnTile
public import Idealize.ShloMosaic.Lib.Pointwise

@[expose] public section

noncomputable section

namespace Cert.KernelIdeal.Attn

open Cert.KernelIdeal Cert.KernelIdeal.Gen
open Idealize.ShloMosaic

variable (q k v w : ℕ → Fin 128 → EReal) (ls dd : ℕ → EReal) (D E : ℕ → ℕ → EReal)

theorem diagA_dq (a b : ℕ) (y : Vec Ideal S512x128 .bf16) (g : FVec Ideal S512x512 .bf16) (old : Vec Ideal S512x128 .f32)
    (h_y : ∀ r d, y (ix2 r d) = k (b + r.val) d) (h_g : ∀ r c, g (ix2 r c) = D (a + r.val) (b + c.val)) (r : Fin 512) (d : Fin 128) :
    k0_pay24 (F := Ideal) y g old (ix2 r d) = old (ix2 r d) + ∑ c ∈ Finset.Ico b (b + 512), D (a + r.val) c * k c d := by
  pointwise [k0_pay24]
  simp only [h_y, h_g]
  rw [← sum_block 512 b fun c => D (a + r.val) c * k c d]

theorem below_dq (a b : ℕ) (y : Vec Ideal S512x128 .bf16) (g : FVec Ideal S512x512 .bf16) (old : Vec Ideal S512x128 .f32)
    (h_y : ∀ r d, y (ix2 r d) = k (b + r.val) d) (h_g : ∀ r c, g (ix2 r c) = D (a + r.val) (b + c.val)) (r : Fin 512) (d : Fin 128) :
    k0_pay29 (F := Ideal) y g old (ix2 r d) = old (ix2 r d) + ∑ c ∈ Finset.Ico b (b + 512), D (a + r.val) c * k c d := by
  pointwise [k0_pay29]
  simp only [h_y, h_g]
  rw [← sum_block 512 b fun c => D (a + r.val) c * k c d]

theorem diagC_dq (a b : ℕ) (y : Vec Ideal S512x128 .bf16) (g : FVec Ideal S512x512 .bf16) (old : Vec Ideal S512x128 .f32)
    (h_y : ∀ r d, y (ix2 r d) = k (b + r.val) d) (h_g : ∀ r c, g (ix2 r c) = D (a + r.val) (b + c.val)) (r : Fin 512) (d : Fin 128) :
    k0_pay3 (F := Ideal) y g old (ix2 r d) = old (ix2 r d) + ∑ c ∈ Finset.Ico b (b + 512), D (a + r.val) c * k c d := by
  pointwise [k0_pay3]
  simp only [h_y, h_g]
  rw [← sum_block 512 b fun c => D (a + r.val) c * k c d]

theorem rest_dq (a b : ℕ) (x : Vec Ideal S1024x128 .bf16) (y : Vec Ideal S1024x128 .bf16) (z : Vec Ideal S1024x128 .bf16) (u : Vec Ideal S1024x128 .bf16) (l : Vec Ideal S1x1024x1 .f32) (e : Vec Ideal S1024x1 .f32) (old : Vec Ideal S1024x128 .f32)
    (h_y : ∀ r d, y (ix2 r d) = k (b + r.val) d) (h_g : ∀ r c, k0_pay9 x y z u l e (ix2 r c) = D (a + r.val) (b + c.val))
    (r : Fin 1024) (d : Fin 128) :
    k0_pay12 (F := Ideal) x y z u l e old (ix2 r d) = old (ix2 r d) + ∑ c ∈ Finset.Ico b (b + 1024), D (a + r.val) c * k c d := by
  unfold k0_pay12
  pointwise
  simp only [h_y, h_g]
  rw [← sum_block 1024 b fun c => D (a + r.val) c * k c d]

theorem rest_dk (a b : ℕ) (x : Vec Ideal S1024x128 .bf16) (y : Vec Ideal S1024x128 .bf16) (z : Vec Ideal S1024x128 .bf16) (u : Vec Ideal S1024x128 .bf16) (l : Vec Ideal S1x1024x1 .f32) (e : Vec Ideal S1024x1 .f32) (acc : FVec Ideal S1024x128 .f32)
    (h_x : ∀ r d, x (ix2 r d) = q (a + r.val) d) (h_g : ∀ r c, k0_pay9 x y z u l e (ix2 r c) = D (a + r.val) (b + c.val))
    (c : Fin 1024) (d : Fin 128) :
    k0_pay11 (F := Ideal) acc x y z u l e (ix2 c d) = acc (ix2 c d) + ∑ r ∈ Finset.Ico a (a + 1024), D r (b + c.val) * q r d := by
  unfold k0_pay11
  pointwise
  simp only [h_x, h_g]
  rw [← sum_block 1024 a fun r => D r (b + c.val) * q r d]

theorem rest_dv (a b : ℕ) (x : Vec Ideal S1024x128 .bf16) (y : Vec Ideal S1024x128 .bf16) (u : Vec Ideal S1024x128 .bf16)
    (l : Vec Ideal S1x1024x1 .f32) (acc : FVec Ideal S1024x128 .f32)
    (h_u : ∀ r d, u (ix2 r d) = w (a + r.val) d) (h_p : ∀ r c, k0_pay8 x y l (ix2 r c) = E (a + r.val) (b + c.val))
    (c : Fin 1024) (d : Fin 128) :
    k0_pay10 (F := Ideal) acc x y u l (ix2 c d) = acc (ix2 c d) + ∑ r ∈ Finset.Ico a (a + 1024), E r (b + c.val) * w r d := by
  unfold k0_pay10
  pointwise
  simp only [h_u, h_p]
  rw [← sum_block 1024 a fun r => E r (b + c.val) * w r d]

/-- The two ways a block's rows are cut on the diagonal are one sum: what lies above the diagonal is zero. -/
theorem diag_sum (D : ℕ → ℕ → EReal) (q : ℕ → Fin 128 → EReal) (a : ℕ) (hD : ∀ r c, r < c → D r c = 0) (c : ℕ) (d : Fin 128) :
    (if h : c < 512 then ∑ x : Fin 512, D (a + x.val) (a + c) * q (a + x.val) d
          + ∑ x : Fin 512, D (a + 512 + x.val) (a + c) * q (a + 512 + x.val) d
        else ∑ x : Fin 512, D (a + 512 + x.val) (a + 512 + (c - 512)) * q (a + 512 + x.val) d)
      = ∑ r ∈ Finset.Ico a (a + 1024), D r (a + c) * q r d := by
  rw [← Finset.sum_Ico_consecutive _ (show a ≤ a + 512 by omega) (show a + 512 ≤ a + 1024 by omega),
    sum_block 512 a fun r => D r (a + c) * q r d, sum_block 512 (a + 512) fun r => D r (a + c) * q r d]
  split_ifs with h
  · rfl
  · rw [show a + 512 + (c - 512) = a + c by omega, sum_block 512 (a + 512) fun r => D r (a + c) * q r d,
      Finset.sum_eq_zero (s := Finset.Ico a (a + 512)), zero_add]
    intro r hr
    rw [Finset.mem_Ico] at hr
    rw [hD _ _ (by omega), zero_mul]

/-- The keys' gradient after the three tiles on the diagonal: the queries of the same block. -/
theorem diag_dk (a : ℕ) (xA : Vec Ideal S512x128 .bf16) (yA : Vec Ideal S512x128 .bf16) (zA : Vec Ideal S512x128 .bf16) (uA : Vec Ideal S512x128 .bf16) (lA : Vec Ideal S1x512x1 .f32) (eA : Vec Ideal S512x1 .f32)
    (x : Vec Ideal S512x128 .bf16) (y : Vec Ideal S512x128 .bf16) (z : Vec Ideal S512x128 .bf16) (u : Vec Ideal S512x128 .bf16) (l : Vec Ideal S1x512x1 .f32) (e : Vec Ideal S512x1 .f32)
    (xC : Vec Ideal S512x128 .bf16) (g : FVec Ideal S512x512 .bf16)
    (hD : ∀ r c, r < c → D r c = 0)
    (h_xA : ∀ r d, xA (ix2 r d) = q (a + r.val) d) (h_A : ∀ r c, k0_pay21 xA yA zA uA lA eA (ix2 r c) = D (a + r.val) (a + c.val))
    (h_x : ∀ r d, x (ix2 r d) = q (a + 512 + r.val) d) (h_B : ∀ r c, k0_pay26 x y z u l e (ix2 r c) = D (a + 512 + r.val) (a + c.val))
    (h_xC : ∀ r d, xC (ix2 r d) = q (a + 512 + r.val) d) (h_g : ∀ r c, g (ix2 r c) = D (a + 512 + r.val) (a + 512 + c.val))
    (c : Fin 1024) (d : Fin 128) :
    k0_pay4 (F := Ideal) k0_pay18 (k0_pay28 k0_pay18 (k0_pay23 xA yA zA uA lA eA) x y z u l e) xC g (ix2 c d)
      = ∑ r ∈ Finset.Ico a (a + 1024), D r (a + c.val) * q r d := by
  unfold k0_pay4 k0_pay28 k0_pay23 k0_pay18
  pointwise
  simp only [h_xA, h_A, h_x, h_B, h_xC, h_g]
  exact diag_sum D q a hD c.val d

/-- The values' gradient after the three tiles on the diagonal. -/
theorem diag_dv (a : ℕ) (xA yA uA : Vec Ideal S512x128 .bf16) (lA : Vec Ideal S1x512x1 .f32)
    (x y u : Vec Ideal S512x128 .bf16) (l : Vec Ideal S1x512x1 .f32)
    (uC : Vec Ideal S512x128 .bf16) (g : FVec Ideal S512x512 .f32)
    (hE : ∀ r c, r < c → E r c = 0)
    (h_uA : ∀ r d, uA (ix2 r d) = w (a + r.val) d) (h_A : ∀ r c, k0_pay20 xA yA lA (ix2 r c) = E (a + r.val) (a + c.val))
    (h_u : ∀ r d, u (ix2 r d) = w (a + 512 + r.val) d) (h_B : ∀ r c, k0_pay25 x y l (ix2 r c) = E (a + 512 + r.val) (a + c.val))
    (h_uC : ∀ r d, uC (ix2 r d) = w (a + 512 + r.val) d) (h_g : ∀ r c, g (ix2 r c) = E (a + 512 + r.val) (a + 512 + c.val))
    (c : Fin 1024) (d : Fin 128) :
    k0_pay5 (F := Ideal) k0_pay19 (k0_pay27 (k0_pay22 xA yA uA lA) x y u l) uC g (ix2 c d)
      = ∑ r ∈ Finset.Ico a (a + 1024), E r (a + c.val) * w r d := by
  unfold k0_pay5 k0_pay27 k0_pay22 k0_pay19
  pointwise
  simp only [h_uA, h_A, h_u, h_B, h_uC, h_g]
  exact diag_sum E w a hE c.val d

/-- The row sums of `w · o`. -/
theorem rows_dd (x : Vec Ideal S1024x128 .bf16) (o : Vec Ideal S1024x128 .f32) (r : Fin 1024) :
    k0_pay2 (F := Ideal) x o (ix2 r 0) = ∑ d : Fin 128, x (ix2 r d) * o (ix2 r d) := by
  pointwise [k0_pay2]

end Cert.KernelIdeal.Attn

end
-- ==== Proof.AttnTrip.lean ====
/-
  One trip of the loop over the key blocks, over the extended reals: what its stores leave in the queries' gradient,
  and the keys' and the values' sums it ends with.
-/
module

public import proofs.«01_k».proof.Proof.AttnPieces
public import proofs.«01_k».proof.Proof.AttnSums

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A load of `n` rows from row `o` on. -/
theorem ld_rows {φ : EltTy} {n : ℕ} (o : ℕ) {off : Fin 2 → ℕ} (ho : off = ![o, 0])
    (inb : ∀ a, off a + (⟨2, ![n, 128]⟩ : Shape).size a ≤ S4096x128.size a) (f : S4096x128.Idx → Elt Ideal φ)
    (g : ℕ → Fin 128 → Elt Ideal φ) (hf : ∀ r d, f (ix2 r d) = g r.val d) (r : Fin n) (d : Fin 128) :
    View.ld (Val := Elt Ideal) (e' := φ) f (Rect.unit (s := S4096x128) off (⟨2, ![n, 128]⟩ : Shape).size inb) (ix2 r d) = g (o + r.val) d := by
  subst ho
  have hr : o + r.val < 4096 := by
    have h := inb 0
    change o + n ≤ 4096 at h
    omega
  have e : View.ld (Val := Elt Ideal) (e' := φ) f (Rect.unit (s := S4096x128) ![o, 0] (⟨2, ![n, 128]⟩ : Shape).size inb) (ix2 r d)
      = f (ix2 ⟨o + r.val, hr⟩ d) := by
    pointwise
  rw [e, hf]

/-- A load of `n` entries of a column from row `o` on. -/
theorem ld_col {n : ℕ} (o : ℕ) {off : Fin 2 → ℕ} (ho : off = ![o, 0])
    (inb : ∀ a, off a + (⟨2, ![n, 1]⟩ : Shape).size a ≤ S4096x1.size a) (f : S4096x1.Idx → Elt Ideal .f32)
    (g : ℕ → EReal) (hf : ∀ r, f (ix2 r 0) = g r.val) (r : Fin n) :
    View.ld (Val := Elt Ideal) (e' := .f32) f (Rect.unit (s := S4096x1) off (⟨2, ![n, 1]⟩ : Shape).size inb) (ix2 r 0) = g (o + r.val) := by
  subst ho
  have hr : o + r.val < 4096 := by
    have h := inb 0
    change o + n ≤ 4096 at h
    omega
  have e : View.ld (Val := Elt Ideal) (e' := .f32) f (Rect.unit (s := S4096x1) ![o, 0] (⟨2, ![n, 1]⟩ : Shape).size inb) (ix2 r 0)
      = f (ix2 ⟨o + r.val, hr⟩ 0) := by
    pointwise
  rw [e, hf]

/-- A load of `n` entries of the only row of columns from row `o` on. -/
theorem ld_lse {n : ℕ} (o : ℕ) {off : Fin 3 → ℕ} (ho : off = ![0, o, 0])
    (inb : ∀ a, off a + (⟨3, ![1, n, 1]⟩ : Shape).size a ≤ S1x4096x1.size a) (f : S1x4096x1.Idx → Elt Ideal .f32)
    (g : ℕ → EReal) (hf : ∀ r, f (ix3 0 r 0) = g r.val) (r : Fin n) :
    View.ld (Val := Elt Ideal) (e' := .f32) f (Rect.unit (s := S1x4096x1) off (⟨3, ![1, n, 1]⟩ : Shape).size inb) (ix3 0 r 0) = g (o + r.val) := by
  subst ho
  have hr : o + r.val < 4096 := by
    have h := inb 1
    change o + n ≤ 4096 at h
    omega
  have e : View.ld (Val := Elt Ideal) (e' := .f32) f (Rect.unit (s := S1x4096x1) ![0, o, 0] (⟨3, ![1, n, 1]⟩ : Shape).size inb) (ix3 0 r 0)
      = f (ix3 0 ⟨o + r.val, hr⟩ 0) := by
    pointwise
  rw [e, hf]

/-- A store of `n` rows from row `o` on, read back at a row. -/
theorem rd_store {sp : Space} (V : View sig .tc sp S4096x128 .f32) (G : V.ty.Contents (Elt Ideal)) {n : ℕ} (o : ℕ)
    {off : Fin 2 → ℕ} (ho : off = ![o, 0])
    (inb : ∀ a, off a + (⟨2, ![n, 128]⟩ : Shape).size a ≤ S4096x128.size a)
    (u : (⟨2, ![n, 128]⟩ : Shape).Idx → Elt Ideal .f32) (L : List (View.Piece (Elt Ideal) S4096x128 .f32)) (R : Fin 4096) (d : Fin 128) :
    V.read (Elt Ideal) (V.writes (Elt Ideal) G
        (⟨Rect.unit (s := S4096x128) off (⟨2, ![n, 128]⟩ : Shape).size inb, u⟩ :: L)) (ix2 R d)
      = if h : o ≤ R.val ∧ R.val < o + n then u (ix2 ⟨R.val - o, by omega⟩ d)
        else V.read (Elt Ideal) (V.writes (Elt Ideal) G L) (ix2 R d) := by
  subst ho
  split_ifs with h
  · refine View.read_writes_cons_hit_of_coords (v := V) (f := G) _ _ L _ _ fun a => ?_
    match a with
    | ⟨0, _⟩ => show R.val = o + 1 * (R.val - o); omega
    | ⟨1, _⟩ => show d.val = 0 + 1 * d.val; omega
  · exact View.read_writes_cons_miss_of_axis V G _ L _ 0 o n rfl rfl rfl (by
      show R.val < o ∨ o + n ≤ R.val
      omega)

variable (c : Dev nD) (i : grid0.Coords) (arg1 : Memref sig .tc .vmem S4096x128 .bf16) (harg1 : arg1.IsWhole)
    (arg2 : Memref sig .tc .vmem S4096x128 .bf16) (harg2 : arg2.IsWhole)
    (arg3 : Memref sig .tc .vmem S4096x128 .bf16) (harg3 : arg3.IsWhole)
    (arg4 : Memref sig .tc .vmem S4096x128 .f32) (harg4 : arg4.IsWhole)
    (arg5 : Memref sig .tc .vmem S1x4096x1 .f32) (harg5 : arg5.IsWhole)
    (arg6 : Memref sig .tc .vmem S4096x128 .bf16) (harg6 : arg6.IsWhole)
    (arg7 : Memref sig .tc .vmem S4096x128 .f32) (harg7 : arg7.IsWhole)
    (arg8 : Memref sig .tc .vmem S4096x128 .f32) (harg8 : arg8.IsWhole)
    (arg9 : Memref sig .tc .vmem S4096x128 .f32) (harg9 : arg9.IsWhole)
    (arg10 : Memref sig .tc .vmem S4096x1 .f32) (harg10 : arg10.IsWhole)
  (X1 : BufTy.Contents (Elt Ideal) arg1.view.ty) (X2 : BufTy.Contents (Elt Ideal) arg2.view.ty)
    (X3 : BufTy.Contents (Elt Ideal) arg3.view.ty) (X5 : BufTy.Contents (Elt Ideal) arg5.view.ty)
    (X6 : BufTy.Contents (Elt Ideal) arg6.view.ty) (X10 : BufTy.Contents (Elt Ideal) arg10.view.ty)
  (q k v w : ℕ → Fin 128 → EReal) (ls dd : ℕ → EReal)
  (H1 : ∀ (r : Fin 4096) d, arg1.view.read (Elt Ideal) X1 (ix2 r d) = q r.val d)
  (H2 : ∀ (r : Fin 4096) d, arg2.view.read (Elt Ideal) X2 (ix2 r d) = k r.val d)
  (H3 : ∀ (r : Fin 4096) d, arg3.view.read (Elt Ideal) X3 (ix2 r d) = v r.val d)
  (H6 : ∀ (r : Fin 4096) d, arg6.view.read (Elt Ideal) X6 (ix2 r d) = w r.val d)
  (H5 : ∀ r : Fin 4096, arg5.view.read (Elt Ideal) X5 (ix3 0 r 0) = ls r.val)
  (H10 : ∀ r : Fin 4096, arg10.view.read (Elt Ideal) X10 (ix2 r 0) = dd r.val)

section Diagonal
variable (j : Fin k0_t2_loop.trips)

include H1 in
theorem half0_at (r : Fin 512) (d : Fin 128) : half0 (F := Ideal) j arg1 X1 (ix2 r d) = q (1024 * j.val + r.val) d :=
  ld_rows (φ := .bf16) (n := 512) (1024 * j.val) (k0_off3_eq j) (k0_off3_inb j) _ q H1 r d
include H1 in
theorem half1_at (r : Fin 512) (d : Fin 128) : half1 (F := Ideal) j arg1 X1 (ix2 r d) = q (1024 * j.val + 512 + r.val) d :=
  ld_rows (φ := .bf16) (n := 512) (1024 * j.val + 512) (k0_off6_eq j) (k0_off6_inb j) _ q H1 r d
include H5 in
theorem lse0_at (r : Fin 512) : lse0 (F := Ideal) j arg5 X5 (ix3 0 r 0) = ls (1024 * j.val + r.val) :=
  ld_lse (n := 512) (1024 * j.val) (k0_off4_eq j) (k0_off4_inb j) _ ls H5 r
include H5 in
theorem lse1_at (r : Fin 512) : lse1 (F := Ideal) j arg5 X5 (ix3 0 r 0) = ls (1024 * j.val + 512 + r.val) :=
  ld_lse (n := 512) (1024 * j.val + 512) (k0_off7_eq j) (k0_off7_inb j) _ ls H5 r
include H10 in
theorem dd0_at (r : Fin 512) : dd0 (F := Ideal) j arg10 X10 (ix2 r 0) = dd (1024 * j.val + r.val) :=
  ld_col (n := 512) (1024 * j.val) (k0_off5_eq j) (k0_off5_inb j) _ dd H10 r
include H10 in
theorem dd1_at (r : Fin 512) : dd1 (F := Ideal) j arg10 X10 (ix2 r 0) = dd (1024 * j.val + 512 + r.val) :=
  ld_col (n := 512) (1024 * j.val + 512) (k0_off8_eq j) (k0_off8_inb j) _ dd H10 r
end Diagonal

section Start
variable (j : Fin k0_t2_loop.trips)

include H1 H2 H3 H6 H5 H10 in
/-- The keys' sum over the queries of the same block. -/
theorem sums0_dk (r : Fin 1024) (d : Fin 128) : (sums0 (F := Ideal) arg1 arg2 arg3 arg5 arg6 arg10 X1 X2 X3 X5 X6 X10 j).1 (ix2 r d)
    = ∑ x ∈ Finset.Ico (1024 * j.val) (1024 * j.val + 1024), DS q k v w ls dd x (1024 * j.val + r.val) * q x d :=
  diag_dk q (DS q k v w ls dd) (1024 * j.val) (half0 j arg1 X1) (half0 j arg2 X2) (half0 j arg3 X3) (half0 j arg6 X6) (lse0 j arg5 X5) (dd0 j arg10 X10) (half1 j arg1 X1) (half0 j arg2 X2) (half0 j arg3 X3) (half1 j arg6 X6) (lse1 j arg5 X5) (dd1 j arg10 X10) (half1 j arg1 X1) (k0_pay31 (half1 j arg1 X1) (half1 j arg2 X2) (half1 j arg3 X3) (half1 j arg6 X6) (lse1 j arg5 X5) (dd1 j arg10 X10)) (fun _ _ h => DS_zero q k v w ls dd h)
    (half0_at arg1 X1 q H1 j) (diagA_ds q k v w ls dd (1024 * j.val) (1024 * j.val) rfl (half0 j arg1 X1) (half0 j arg2 X2) (half0 j arg3 X3) (half0 j arg6 X6) (lse0 j arg5 X5) (dd0 j arg10 X10) (half0_at arg1 X1 q H1 j) (half0_at arg2 X2 k H2 j) (half0_at arg3 X3 v H3 j) (half0_at arg6 X6 w H6 j) (lse0_at arg5 X5 ls H5 j) (dd0_at arg10 X10 dd H10 j)) (half1_at arg1 X1 q H1 j) (below_ds q k v w ls dd (1024 * j.val + 512) (1024 * j.val) le_rfl (half1 j arg1 X1) (half0 j arg2 X2) (half0 j arg3 X3) (half1 j arg6 X6) (lse1 j arg5 X5) (dd1 j arg10 X10) (half1_at arg1 X1 q H1 j) (half0_at arg2 X2 k H2 j) (half0_at arg3 X3 v H3 j) (half1_at arg6 X6 w H6 j) (lse1_at arg5 X5 ls H5 j) (dd1_at arg10 X10 dd H10 j)) (half1_at arg1 X1 q H1 j) (diagC_ds q k v w ls dd (1024 * j.val + 512) (1024 * j.val + 512) rfl (half1 j arg1 X1) (half1 j arg2 X2) (half1 j arg3 X3) (half1 j arg6 X6) (lse1 j arg5 X5) (dd1 j arg10 X10) (half1_at arg1 X1 q H1 j) (half1_at arg2 X2 k H2 j) (half1_at arg3 X3 v H3 j) (half1_at arg6 X6 w H6 j) (lse1_at arg5 X5 ls H5 j) (dd1_at arg10 X10 dd H10 j)) r d

include H1 H2 H6 H5 in
/-- The values' sum over the queries of the same block. -/
theorem sums0_dv (r : Fin 1024) (d : Fin 128) : (sums0 (F := Ideal) arg1 arg2 arg3 arg5 arg6 arg10 X1 X2 X3 X5 X6 X10 j).2 (ix2 r d)
    = ∑ x ∈ Finset.Ico (1024 * j.val) (1024 * j.val + 1024), P q k ls x (1024 * j.val + r.val) * w x d :=
  diag_dv w (P q k ls) (1024 * j.val) (half0 j arg1 X1) (half0 j arg2 X2) (half0 j arg6 X6) (lse0 j arg5 X5) (half1 j arg1 X1) (half0 j arg2 X2) (half1 j arg6 X6) (lse1 j arg5 X5) (half1 j arg6 X6) (k0_pay30 (half1 j arg1 X1) (half1 j arg2 X2) (lse1 j arg5 X5))
    (fun _ _ h => P_zero q k ls h) (half0_at arg6 X6 w H6 j) (diagA_p q k ls (1024 * j.val) (1024 * j.val) rfl (half0 j arg1 X1) (half0 j arg2 X2) (lse0 j arg5 X5) (half0_at arg1 X1 q H1 j) (half0_at arg2 X2 k H2 j) (lse0_at arg5 X5 ls H5 j)) (half1_at arg6 X6 w H6 j) (below_p q k ls (1024 * j.val + 512) (1024 * j.val) le_rfl (half1 j arg1 X1) (half0 j arg2 X2) (lse1 j arg5 X5) (half1_at arg1 X1 q H1 j) (half0_at arg2 X2 k H2 j) (lse1_at arg5 X5 ls H5 j)) (half1_at arg6 X6 w H6 j) (diagC_p q k ls (1024 * j.val + 512) (1024 * j.val + 512) rfl (half1 j arg1 X1) (half1 j arg2 X2) (lse1 j arg5 X5) (half1_at arg1 X1 q H1 j) (half1_at arg2 X2 k H2 j) (lse1_at arg5 X5 ls H5 j)) r d

variable (f7 : BufTy.Contents (Elt Ideal) arg7.view.ty) (g : ℕ → Fin 128 → EReal)
  (hg : ∀ (r : Fin 4096) d, arg7.view.read (Elt Ideal) f7 (ix2 r d) = g r.val d)

include H1 H2 H3 H6 H5 H10 hg in
/-- The queries' gradient after the diagonal's three stores. -/
theorem diag_at (R : Fin 4096) (d : Fin 128) :
    arg7.view.read (Elt Ideal) (arg7.view.writes (Elt Ideal) f7 (diag (F := Ideal) arg1 arg2 arg3 arg5 arg6 arg10 arg7 X1 X2 X3 X5 X6 X10 j f7)) (ix2 R d)
      = if 1024 * j.val ≤ R.val ∧ R.val < 1024 * j.val + 1024 then
          g R.val d + ∑ x ∈ Finset.Ico (1024 * j.val) (1024 * j.val + 1024), DS q k v w ls dd R.val x * k x d
        else g R.val d := by
  unfold diag
  have eC : tileC (F := Ideal) arg1 arg2 arg3 arg5 arg6 arg10 arg7 X1 X2 X3 X5 X6 X10 j f7 = ⟨Rect.unit (s := S4096x128) (k0_off6 j) S512x128.size (k0_off6_inb j),
      k0_pay3 (half1 j arg2 X2) (k0_pay31 (half1 j arg1 X1) (half1 j arg2 X2) (half1 j arg3 X3) (half1 j arg6 X6) (lse1 j arg5 X5) (dd1 j arg10 X10)) (k0_pay29 (half0 j arg2 X2) (k0_pay26 (half1 j arg1 X1) (half0 j arg2 X2) (half0 j arg3 X3) (half1 j arg6 X6) (lse1 j arg5 X5) (dd1 j arg10 X10)) (arg7.view.readAt (Elt Ideal) (Rect.unit (s := S4096x128) (k0_off6 j) S512x128.size (k0_off6_inb j)).toLoadRect f7))⟩ := by
    unfold tileC tileB
    rw [View.readCov_cons_toLoadRect]
  rw [eC]
  unfold tileB tileA
  rw [rd_store (n := 512) arg7.view f7 (1024 * j.val + 512) (k0_off6_eq j) (k0_off6_inb j)]
  split_ifs with h1 h2 h2
  · have e := diagC_dq k (DS q k v w ls dd) (1024 * j.val + 512) (1024 * j.val + 512) (half1 j arg2 X2) (k0_pay31 (half1 j arg1 X1) (half1 j arg2 X2) (half1 j arg3 X3) (half1 j arg6 X6) (lse1 j arg5 X5) (dd1 j arg10 X10)) (k0_pay29 (half0 j arg2 X2) (k0_pay26 (half1 j arg1 X1) (half0 j arg2 X2) (half0 j arg3 X3) (half1 j arg6 X6) (lse1 j arg5 X5) (dd1 j arg10 X10)) (arg7.view.readAt (Elt Ideal) (Rect.unit (s := S4096x128) (k0_off6 j) S512x128.size (k0_off6_inb j)).toLoadRect f7)) (half1_at arg2 X2 k H2 j) (diagC_ds q k v w ls dd (1024 * j.val + 512) (1024 * j.val + 512) rfl (half1 j arg1 X1) (half1 j arg2 X2) (half1 j arg3 X3) (half1 j arg6 X6) (lse1 j arg5 X5) (dd1 j arg10 X10) (half1_at arg1 X1 q H1 j) (half1_at arg2 X2 k H2 j) (half1_at arg3 X3 v H3 j) (half1_at arg6 X6 w H6 j) (lse1_at arg5 X5 ls H5 j) (dd1_at arg10 X10 dd H10 j)) ⟨R.val - (1024 * j.val + 512), by omega⟩ d
    refine e.trans ?_
    rw [below_dq k (DS q k v w ls dd) (1024 * j.val + 512) (1024 * j.val) (half0 j arg2 X2) (k0_pay26 (half1 j arg1 X1) (half0 j arg2 X2) (half0 j arg3 X3) (half1 j arg6 X6) (lse1 j arg5 X5) (dd1 j arg10 X10)) _ (half0_at arg2 X2 k H2 j) (below_ds q k v w ls dd (1024 * j.val + 512) (1024 * j.val) le_rfl (half1 j arg1 X1) (half0 j arg2 X2) (half0 j arg3 X3) (half1 j arg6 X6) (lse1 j arg5 X5) (dd1 j arg10 X10) (half1_at arg1 X1 q H1 j) (half0_at arg2 X2 k H2 j) (half0_at arg3 X3 v H3 j) (half1_at arg6 X6 w H6 j) (lse1_at arg5 X5 ls H5 j) (dd1_at arg10 X10 dd H10 j))]
    have e7 := ld_rows (φ := .f32) (n := 512) (1024 * j.val + 512) (k0_off6_eq j) (k0_off6_inb j) (arg7.view.read (Elt Ideal) f7) g hg ⟨R.val - (1024 * j.val + 512), by omega⟩ d
    rw [View.readAt_eq_ld, e7]
    simp only [Nat.add_sub_cancel' h1.1]
    rw [add_assoc, Finset.sum_Ico_consecutive _ (by omega) (by omega)]
  · omega
  · rw [rd_store (n := 512) arg7.view f7 (1024 * j.val + 512) (k0_off6_eq j) (k0_off6_inb j), dif_neg h1,
      rd_store (n := 512) arg7.view f7 (1024 * j.val) (k0_off3_eq j) (k0_off3_inb j), dif_pos (by omega)]
    rw [diagA_dq k (DS q k v w ls dd) (1024 * j.val) (1024 * j.val) (half0 j arg2 X2) (k0_pay21 (half0 j arg1 X1) (half0 j arg2 X2) (half0 j arg3 X3) (half0 j arg6 X6) (lse0 j arg5 X5) (dd0 j arg10 X10)) _ (half0_at arg2 X2 k H2 j) (diagA_ds q k v w ls dd (1024 * j.val) (1024 * j.val) rfl (half0 j arg1 X1) (half0 j arg2 X2) (half0 j arg3 X3) (half0 j arg6 X6) (lse0 j arg5 X5) (dd0 j arg10 X10) (half0_at arg1 X1 q H1 j) (half0_at arg2 X2 k H2 j) (half0_at arg3 X3 v H3 j) (half0_at arg6 X6 w H6 j) (lse0_at arg5 X5 ls H5 j) (dd0_at arg10 X10 dd H10 j))]
    have e7 := ld_rows (φ := .f32) (n := 512) (1024 * j.val) (k0_off3_eq j) (k0_off3_inb j) (arg7.view.read (Elt Ideal) f7) g hg ⟨R.val - 1024 * j.val, by omega⟩ d
    rw [View.readAt_eq_ld, e7]
    simp only [Nat.add_sub_cancel' h2.1]
    rw [← Finset.sum_Ico_consecutive _ (show 1024 * j.val ≤ 1024 * j.val + 512 by omega) (show 1024 * j.val + 512 ≤ 1024 * j.val + 1024 by omega),
      Finset.sum_eq_zero (s := Finset.Ico (1024 * j.val + 512) (1024 * j.val + 1024)), add_zero]
    intro x hx
    rw [Finset.mem_Ico] at hx
    rw [DS_zero _ _ _ _ _ _ (by omega), zero_mul]
  · rw [rd_store (n := 512) arg7.view f7 (1024 * j.val + 512) (k0_off6_eq j) (k0_off6_inb j), dif_neg h1,
      rd_store (n := 512) arg7.view f7 (1024 * j.val) (k0_off3_eq j) (k0_off3_inb j), dif_neg (by omega)]
    exact hg R d
end Start

end Cert.KernelIdeal.Attn

end
-- ==== Proof.AttnSweep.lean ====
/-
  The loop over the key blocks, over the extended reals: the later query blocks of one trip, the trip as a whole,
  and after all trips the three sums over all the rows.
-/
module

public import proofs.«01_k».proof.Proof.AttnTrip
public import proofs.«01_k».proof.Proof.AttnRun

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords) (a1 : Memref sig .tc .vmem S4096x128 .bf16) (w1 : a1.IsWhole)
    (a2 : Memref sig .tc .vmem S4096x128 .bf16) (w2 : a2.IsWhole)
    (a3 : Memref sig .tc .vmem S4096x128 .bf16) (w3 : a3.IsWhole)
    (a4 : Memref sig .tc .vmem S4096x128 .f32) (w4 : a4.IsWhole)
    (a5 : Memref sig .tc .vmem S1x4096x1 .f32) (w5 : a5.IsWhole)
    (a6 : Memref sig .tc .vmem S4096x128 .bf16) (w6 : a6.IsWhole)
    (a7 : Memref sig .tc .vmem S4096x128 .f32) (w7 : a7.IsWhole)
    (a8 : Memref sig .tc .vmem S4096x128 .f32) (w8 : a8.IsWhole)
    (a9 : Memref sig .tc .vmem S4096x128 .f32) (w9 : a9.IsWhole)
    (a10 : Memref sig .tc .vmem S4096x1 .f32) (w10 : a10.IsWhole)
  (X1 : BufTy.Contents (Elt Ideal) a1.view.ty) (X2 : BufTy.Contents (Elt Ideal) a2.view.ty)
    (X3 : BufTy.Contents (Elt Ideal) a3.view.ty) (X5 : BufTy.Contents (Elt Ideal) a5.view.ty)
    (X6 : BufTy.Contents (Elt Ideal) a6.view.ty) (X10 : BufTy.Contents (Elt Ideal) a10.view.ty)
  (q k v w : ℕ → Fin 128 → EReal) (ls dd : ℕ → EReal)
  (H1 : ∀ (r : Fin 4096) d, a1.view.read (Elt Ideal) X1 (ix2 r d) = q r.val d)
  (H2 : ∀ (r : Fin 4096) d, a2.view.read (Elt Ideal) X2 (ix2 r d) = k r.val d)
  (H3 : ∀ (r : Fin 4096) d, a3.view.read (Elt Ideal) X3 (ix2 r d) = v r.val d)
  (H6 : ∀ (r : Fin 4096) d, a6.view.read (Elt Ideal) X6 (ix2 r d) = w r.val d)
  (H5 : ∀ r : Fin 4096, a5.view.read (Elt Ideal) X5 (ix3 0 r 0) = ls r.val)
  (H10 : ∀ r : Fin 4096, a10.view.read (Elt Ideal) X10 (ix2 r 0) = dd r.val)

theorem t3_trips : ∀ j : Fin k0_t2_loop.trips, (k0_t3_loop j).trips = 3 - j.val := by decide +kernel

section Later
variable (j : Fin k0_t2_loop.trips) (f7 : BufTy.Contents (Elt Ideal) a7.view.ty) (g : ℕ → Fin 128 → EReal)
  (hg : ∀ (r : Fin 4096) d, a7.view.read (Elt Ideal) f7 (ix2 r d) = g r.val d)

set_option maxHeartbeats 2000000 in
include H1 H2 H3 H6 H5 H10 hg in
/-- After `n` of the later query blocks: the two sums run over the rows so far, and these rows have had this
    key block's part added. -/
theorem after_at : ∀ n, n ≤ (k0_t3_loop j).trips →
    (∀ (r : Fin 1024) d, (after (F := Ideal) c i a1 w1 a2 w2 a3 w3 a4 w4 a5 w5 a6 w6 a7 w7 a8 w8 a9 w9 a10 w10 X1 X2 X3 X5 X6 X10 j f7 n).1.1 (ix2 r d)
        = ∑ x ∈ Finset.Ico (1024 * j.val) (1024 * j.val + 1024 + 1024 * n), DS q k v w ls dd x (1024 * j.val + r.val) * q x d)
    ∧ (∀ (r : Fin 1024) d, (after (F := Ideal) c i a1 w1 a2 w2 a3 w3 a4 w4 a5 w5 a6 w6 a7 w7 a8 w8 a9 w9 a10 w10 X1 X2 X3 X5 X6 X10 j f7 n).1.2 (ix2 r d)
        = ∑ x ∈ Finset.Ico (1024 * j.val) (1024 * j.val + 1024 + 1024 * n), P q k ls x (1024 * j.val + r.val) * w x d)
    ∧ ∀ (R : Fin 4096) d, a7.view.read (Elt Ideal) (a7.view.writes (Elt Ideal) (a7.view.writes (Elt Ideal) f7 (diag (F := Ideal) a1 a2 a3 a5 a6 a10 a7 X1 X2 X3 X5 X6 X10 j f7)) (after (F := Ideal) c i a1 w1 a2 w2 a3 w3 a4 w4 a5 w5 a6 w6 a7 w7 a8 w8 a9 w9 a10 w10 X1 X2 X3 X5 X6 X10 j f7 n).2) (ix2 R d)
        = if 1024 * j.val ≤ R.val ∧ R.val < 1024 * j.val + 1024 + 1024 * n then
            g R.val d + ∑ x ∈ Finset.Ico (1024 * j.val) (1024 * j.val + 1024), DS q k v w ls dd R.val x * k x d
          else g R.val d
  | 0, _ => ⟨sums0_dk a1 a2 a3 a5 a6 a10 X1 X2 X3 X5 X6 X10 q k v w ls dd H1 H2 H3 H6 H5 H10 j, sums0_dv a1 a2 a3 a5 a6 a10 X1 X2 X3 X5 X6 X10 q k w ls H1 H2 H6 H5 j,
      diag_at a1 a2 a3 a5 a6 a7 a10 X1 X2 X3 X5 X6 X10 q k v w ls dd H1 H2 H3 H6 H5 H10 j f7 g hg⟩
  | n + 1, hn => by
    have hn' : n < (k0_t3_loop j).trips := hn
    have ih := after_at n hn'.le
    obtain ⟨i1, i2, i3⟩ := ih
    have e := st_k0_t3_succ (F := Ideal) Variants.none c none i a1 w1 a2 w2 a3 w3 a4 w4 a5 w5 a6 w6 a7 w7 a8 w8 a9 w9 a10 w10 j (Scalar.muli (Scf.iv 0#32 1#32 j.val) 1024#32) (Scalar.addi (Scf.iv 0#32 1#32 j.val) 1#32) X1 X2 X3 X5 X6 X10
      (a7.view.writes (Elt Ideal) f7 (diag (F := Ideal) a1 a2 a3 a5 a6 a10 a7 X1 X2 X3 X5 X6 X10 j f7)) (sums0 a1 a2 a3 a5 a6 a10 X1 X2 X3 X5 X6 X10 j) ⟨n, hn'⟩
    change after (F := Ideal) c i a1 w1 a2 w2 a3 w3 a4 w4 a5 w5 a6 w6 a7 w7 a8 w8 a9 w9 a10 w10 X1 X2 X3 X5 X6 X10 j f7 (n + 1) = _ at e
    rw [tripR_rest, tripL_rest] at e
    change _ = ((k0_pay11 (after (F := Ideal) c i a1 w1 a2 w2 a3 w3 a4 w4 a5 w5 a6 w6 a7 w7 a8 w8 a9 w9 a10 w10 X1 X2 X3 X5 X6 X10 j f7 n).1.1 _ _ _ _ _ _, k0_pay10 (after (F := Ideal) c i a1 w1 a2 w2 a3 w3 a4 w4 a5 w5 a6 w6 a7 w7 a8 w8 a9 w9 a10 w10 X1 X2 X3 X5 X6 X10 j f7 n).1.2 _ _ _ _), _ ++ (after (F := Ideal) c i a1 w1 a2 w2 a3 w3 a4 w4 a5 w5 a6 w6 a7 w7 a8 w8 a9 w9 a10 w10 X1 X2 X3 X5 X6 X10 j f7 n).2) at e
    have hds := rest_ds q k v w ls dd (1024 * j.val + 1024 * n + 1024) (1024 * j.val) (by omega) _ _ _ _ _ _ (ld_rows (φ := .bf16) (n := 1024) (1024 * j.val + 1024 * n + 1024) (k0_off9_eq j ⟨n, hn'⟩) (k0_off9_inb j ⟨n, hn'⟩) _ q H1) (ld_rows (φ := .bf16) (n := 1024) (1024 * j.val) (k0_off10_eq j) (k0_off10_inb j) _ k H2) (ld_rows (φ := .bf16) (n := 1024) (1024 * j.val) (k0_off10_eq j) (k0_off10_inb j) _ v H3) (ld_rows (φ := .bf16) (n := 1024) (1024 * j.val + 1024 * n + 1024) (k0_off9_eq j ⟨n, hn'⟩) (k0_off9_inb j ⟨n, hn'⟩) _ w H6) (ld_lse (n := 1024) (1024 * j.val + 1024 * n + 1024) (k0_off11_eq j ⟨n, hn'⟩) (k0_off11_inb j ⟨n, hn'⟩) _ ls H5) (ld_col (n := 1024) (1024 * j.val + 1024 * n + 1024) (k0_off12_eq j ⟨n, hn'⟩) (k0_off12_inb j ⟨n, hn'⟩) _ dd H10)
    have hp := rest_p q k ls (1024 * j.val + 1024 * n + 1024) (1024 * j.val) (by omega) _ _ _ (ld_rows (φ := .bf16) (n := 1024) (1024 * j.val + 1024 * n + 1024) (k0_off9_eq j ⟨n, hn'⟩) (k0_off9_inb j ⟨n, hn'⟩) _ q H1) (ld_rows (φ := .bf16) (n := 1024) (1024 * j.val) (k0_off10_eq j) (k0_off10_inb j) _ k H2) (ld_lse (n := 1024) (1024 * j.val + 1024 * n + 1024) (k0_off11_eq j ⟨n, hn'⟩) (k0_off11_inb j ⟨n, hn'⟩) _ ls H5)
    rw [e]
    refine ⟨fun r d => ?_, fun r d => ?_, fun R d => ?_⟩
    · refine (rest_dk q (DS q k v w ls dd) (1024 * j.val + 1024 * n + 1024) (1024 * j.val) _ _ _ _ _ _ _ (ld_rows (φ := .bf16) (n := 1024) (1024 * j.val + 1024 * n + 1024) (k0_off9_eq j ⟨n, hn'⟩) (k0_off9_inb j ⟨n, hn'⟩) _ q H1) hds r d).trans ?_
      rw [i1, show 1024 * j.val + 1024 * n + 1024 = 1024 * j.val + 1024 + 1024 * n by omega,
        Finset.sum_Ico_consecutive _ (by omega) (by omega)]
      rfl
    · refine (rest_dv w (P q k ls) (1024 * j.val + 1024 * n + 1024) (1024 * j.val) _ _ _ _ _ (ld_rows (φ := .bf16) (n := 1024) (1024 * j.val + 1024 * n + 1024) (k0_off9_eq j ⟨n, hn'⟩) (k0_off9_inb j ⟨n, hn'⟩) _ w H6) hp r d).trans ?_
      rw [i2, show 1024 * j.val + 1024 * n + 1024 = 1024 * j.val + 1024 + 1024 * n by omega,
        Finset.sum_Ico_consecutive _ (by omega) (by omega)]
      rfl
    · rw [List.cons_append, List.nil_append, rd_store (n := 1024) a7.view _ (1024 * j.val + 1024 * n + 1024) (k0_off9_eq j ⟨n, hn'⟩) (k0_off9_inb j ⟨n, hn'⟩)]
      split_ifs with h1 h2 h2
      · refine (rest_dq k (DS q k v w ls dd) (1024 * j.val + 1024 * n + 1024) (1024 * j.val) _ _ _ _ _ _ _ (ld_rows (φ := .bf16) (n := 1024) (1024 * j.val) (k0_off10_eq j) (k0_off10_inb j) _ k H2) hds _ d).trans ?_
        have e7 := ld_rows (φ := .f32) (n := 1024) (1024 * j.val + 1024 * n + 1024) (k0_off9_eq j ⟨n, hn'⟩) (k0_off9_inb j ⟨n, hn'⟩) _
          (fun r d => if 1024 * j.val ≤ r ∧ r < 1024 * j.val + 1024 + 1024 * n then
            g r d + ∑ x ∈ Finset.Ico (1024 * j.val) (1024 * j.val + 1024), DS q k v w ls dd r x * k x d
          else g r d) i3 ⟨R.val - (1024 * j.val + 1024 * n + 1024), by omega⟩ d
        rw [View.readAt_eq_ld]
        refine (congrArg (· + _) e7).trans ?_
        simp only [Nat.add_sub_cancel' h1.1]
        rw [if_neg (by omega)]
      · omega
      · rw [i3, if_pos (by omega)]
      · rw [i3, if_neg (by omega)]
end Later

end Cert.KernelIdeal.Attn

end
-- ==== Proof.AttnWhole.lean ====
/-
  The body of the attention gradient, over the extended reals: one trip as a whole, all the trips, the row sums
  before them, and what the three outputs hold in the end.
-/
module

public import proofs.«01_k».proof.Proof.AttnSweep

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords) (b1 : Memref sig .tc .vmem S4096x128 .bf16) (w1 : b1.IsWhole)
    (b2 : Memref sig .tc .vmem S4096x128 .bf16) (w2 : b2.IsWhole)
    (b3 : Memref sig .tc .vmem S4096x128 .bf16) (w3 : b3.IsWhole)
    (b4 : Memref sig .tc .vmem S4096x128 .f32) (w4 : b4.IsWhole)
    (b5 : Memref sig .tc .vmem S1x4096x1 .f32) (w5 : b5.IsWhole)
    (b6 : Memref sig .tc .vmem S4096x128 .bf16) (w6 : b6.IsWhole)
    (b7 : Memref sig .tc .vmem S4096x128 .f32) (w7 : b7.IsWhole)
    (b8 : Memref sig .tc .vmem S4096x128 .f32) (w8 : b8.IsWhole)
    (b9 : Memref sig .tc .vmem S4096x128 .f32) (w9 : b9.IsWhole)
    (b10 : Memref sig .tc .vmem S4096x1 .f32) (w10 : b10.IsWhole)
  (X1 : BufTy.Contents (Elt Ideal) b1.view.ty) (X2 : BufTy.Contents (Elt Ideal) b2.view.ty)
    (X3 : BufTy.Contents (Elt Ideal) b3.view.ty) (X5 : BufTy.Contents (Elt Ideal) b5.view.ty)
    (X6 : BufTy.Contents (Elt Ideal) b6.view.ty) (X10 : BufTy.Contents (Elt Ideal) b10.view.ty)
  (q k v w : ℕ → Fin 128 → EReal) (ls dd : ℕ → EReal)
  (H1 : ∀ (r : Fin 4096) d, b1.view.read (Elt Ideal) X1 (ix2 r d) = q r.val d)
  (H2 : ∀ (r : Fin 4096) d, b2.view.read (Elt Ideal) X2 (ix2 r d) = k r.val d)
  (H3 : ∀ (r : Fin 4096) d, b3.view.read (Elt Ideal) X3 (ix2 r d) = v r.val d)
  (H6 : ∀ (r : Fin 4096) d, b6.view.read (Elt Ideal) X6 (ix2 r d) = w r.val d)
  (H5 : ∀ r : Fin 4096, b5.view.read (Elt Ideal) X5 (ix3 0 r 0) = ls r.val)
  (H10 : ∀ r : Fin 4096, b10.view.read (Elt Ideal) X10 (ix2 r 0) = dd r.val)

/-- Reading back at the rows of the newest store. -/
theorem pay6_at (x : FVec Ideal S1024x128 .f32) (r : Fin 1024) (d : Fin 128) : k0_pay6 x (ix2 r d) = x (ix2 r d) := by
  pointwise [k0_pay6]
theorem pay7_at (x : FVec Ideal S1024x128 .f32) (r : Fin 1024) (d : Fin 128) : k0_pay7 x (ix2 r d) = x (ix2 r d) := by
  pointwise [k0_pay7]

section Loop
variable (G7 : BufTy.Contents (Elt Ideal) b7.view.ty) (G8 : BufTy.Contents (Elt Ideal) b8.view.ty) (G9 : BufTy.Contents (Elt Ideal) b9.view.ty)
  (hG : ∀ (r : Fin 4096) d, b7.view.read (Elt Ideal) G7 (ix2 r d) = 0)

include H1 H2 H3 H6 H5 H10 hG in
/-- After `n` key blocks: the queries' gradient is the sum over the keys so far, and the keys' and the values'
    gradients of these blocks are whole. -/
theorem keyPieces_at : ∀ n, n ≤ k0_t2_loop.trips →
    (∀ (R : Fin 4096) d, b7.view.read (Elt Ideal) (b7.view.writes (Elt Ideal) G7 (keyPieces (F := Ideal) c i b1 w1 b2 w2 b3 w3 b4 w4 b5 w5 b6 w6 b7 w7 b8 w8 b9 w9 b10 w10 X1 X2 X3 X5 X6 X10 G7 n).1) (ix2 R d)
        = ∑ x ∈ Finset.Ico 0 (1024 * n), DS q k v w ls dd R.val x * k x d)
    ∧ (∀ (R : Fin 4096) d, R.val < 1024 * n → b8.view.read (Elt Ideal) (b8.view.writes (Elt Ideal) G8 (keyPieces (F := Ideal) c i b1 w1 b2 w2 b3 w3 b4 w4 b5 w5 b6 w6 b7 w7 b8 w8 b9 w9 b10 w10 X1 X2 X3 X5 X6 X10 G7 n).2.1) (ix2 R d)
        = ∑ x ∈ Finset.Ico 0 4096, DS q k v w ls dd x R.val * q x d)
    ∧ (∀ (R : Fin 4096) d, R.val < 1024 * n → b9.view.read (Elt Ideal) (b9.view.writes (Elt Ideal) G9 (keyPieces (F := Ideal) c i b1 w1 b2 w2 b3 w3 b4 w4 b5 w5 b6 w6 b7 w7 b8 w8 b9 w9 b10 w10 X1 X2 X3 X5 X6 X10 G7 n).2.2) (ix2 R d)
        = ∑ x ∈ Finset.Ico 0 4096, P q k ls x R.val * w x d)
  | 0, _ => ⟨fun R d => by
        rw [Nat.mul_zero, Finset.Ico_self, Finset.sum_empty]; exact hG R d,
      fun R d h => absurd h (by omega), fun R d h => absurd h (by omega)⟩
  | n + 1, hn => by
    have hn' : n < k0_t2_loop.trips := hn
    have hn4 : n < 4 := Nat.lt_of_lt_of_le hn' k0_t2_abs.2.1
    have ih := keyPieces_at n hn'.le
    obtain ⟨i1, i2, i3⟩ := ih
    have e := keyPieces_succ (F := Ideal) c i b1 w1 b2 w2 b3 w3 b4 w4 b5 w5 b6 w6 b7 w7 b8 w8 b9 w9 b10 w10 X1 X2 X3 X5 X6 X10 G7 ⟨n, hn'⟩
    have ha := after_at c i b1 w1 b2 w2 b3 w3 b4 w4 b5 w5 b6 w6 b7 w7 b8 w8 b9 w9 b10 w10 X1 X2 X3 X5 X6 X10 q k v w ls dd H1 H2 H3 H6 H5 H10 ⟨n, hn'⟩ (b7.view.writes (Elt Ideal) G7 (keyPieces (F := Ideal) c i b1 w1 b2 w2 b3 w3 b4 w4 b5 w5 b6 w6 b7 w7 b8 w8 b9 w9 b10 w10 X1 X2 X3 X5 X6 X10 G7 n).1)
      (fun r d => ∑ x ∈ Finset.Ico 0 (1024 * n), DS q k v w ls dd r x * k x d) i1 (k0_t3_loop ⟨n, hn'⟩).trips le_rfl
    rw [piece7_after, piece8_after, piece9_after] at e
    obtain ⟨a1, a2, a3⟩ := ha
    have h4 : 1024 * n + 1024 + 1024 * (k0_t3_loop ⟨n, hn'⟩).trips = 4096 := by
      rw [t3_trips]
      show 1024 * n + 1024 + 1024 * (3 - n) = 4096
      omega
    change keyPieces (F := Ideal) c i b1 w1 b2 w2 b3 w3 b4 w4 b5 w5 b6 w6 b7 w7 b8 w8 b9 w9 b10 w10 X1 X2 X3 X5 X6 X10 G7 (n + 1) = _ at e
    rw [e]
    simp only [h4] at a1 a2 a3
    refine ⟨fun R d => ?_, fun R d hR => ?_, fun R d hR => ?_⟩
    · dsimp only
      rw [View.writes_append, View.writes_append]
      refine (a3 R d).trans ?_
      rw [← Finset.sum_Ico_consecutive _ (Nat.zero_le (1024 * n)) (show 1024 * n ≤ 1024 * (n + 1) by omega)]
      split_ifs with h
      · rfl
      · rw [Finset.sum_eq_zero (s := Finset.Ico (1024 * n) (1024 * (n + 1))), add_zero]
        intro x hx
        rw [Finset.mem_Ico] at hx
        rw [DS_zero _ _ _ _ _ _ (by have := R.isLt; omega), zero_mul]
    · dsimp only
      rw [List.cons_append, List.nil_append, rd_store (n := 1024) b8.view _ (1024 * n) (k0_off17_eq ⟨n, hn'⟩) (k0_off17_inb ⟨n, hn'⟩)]
      split_ifs with h
      · rw [pay6_at, a1]
        dsimp only
        rw [Nat.add_sub_cancel' h.1, ← Finset.sum_Ico_consecutive _ (Nat.zero_le (1024 * n)) (show 1024 * n ≤ 4096 by omega),
          Finset.sum_eq_zero (s := Finset.Ico 0 (1024 * n)), zero_add]
        intro x hx
        rw [Finset.mem_Ico] at hx
        rw [DS_zero _ _ _ _ _ _ (by omega), zero_mul]
      · exact i2 R d (by omega)
    · dsimp only
      rw [List.cons_append, List.nil_append, rd_store (n := 1024) b9.view _ (1024 * n) (k0_off17_eq ⟨n, hn'⟩) (k0_off17_inb ⟨n, hn'⟩)]
      split_ifs with h
      · rw [pay7_at, a2]
        dsimp only
        rw [Nat.add_sub_cancel' h.1, ← Finset.sum_Ico_consecutive _ (Nat.zero_le (1024 * n)) (show 1024 * n ≤ 4096 by omega),
          Finset.sum_eq_zero (s := Finset.Ico 0 (1024 * n)), zero_add]
        intro x hx
        rw [Finset.mem_Ico] at hx
        rw [P_zero _ _ _ (by omega), zero_mul]
      · exact i3 R d (by omega)
end Loop

section Sums
variable (X4 : BufTy.Contents (Elt Ideal) b4.view.ty) (o : ℕ → Fin 128 → EReal)
  (H4 : ∀ (r : Fin 4096) d, b4.view.read (Elt Ideal) X4 (ix2 r d) = o r.val d) (G10 : BufTy.Contents (Elt Ideal) b10.view.ty)

/-- A store of `n` entries of a column from row `o` on, read back at a row. -/
theorem rd_col {sp : Space} (V : View sig .tc sp S4096x1 .f32) (G : V.ty.Contents (Elt Ideal)) {n : ℕ} (o : ℕ)
    {off : Fin 2 → ℕ} (ho : off = ![o, 0])
    (inb : ∀ a, off a + (⟨2, ![n, 1]⟩ : Shape).size a ≤ S4096x1.size a)
    (u : (⟨2, ![n, 1]⟩ : Shape).Idx → Elt Ideal .f32) (L : List (View.Piece (Elt Ideal) S4096x1 .f32)) (R : Fin 4096) :
    V.read (Elt Ideal) (V.writes (Elt Ideal) G
        (⟨Rect.unit (s := S4096x1) off (⟨2, ![n, 1]⟩ : Shape).size inb, u⟩ :: L)) (ix2 R 0)
      = if h : o ≤ R.val ∧ R.val < o + n then u (ix2 ⟨R.val - o, by omega⟩ 0)
        else V.read (Elt Ideal) (V.writes (Elt Ideal) G L) (ix2 R 0) := by
  subst ho
  split_ifs with h
  · refine View.read_writes_cons_hit_of_coords (v := V) (f := G) _ _ L _ _ fun a => ?_
    match a with
    | ⟨0, _⟩ => show R.val = o + 1 * (R.val - o); omega
    | ⟨1, _⟩ => rfl
  · exact View.read_writes_cons_miss_of_axis V G _ L _ 0 o n rfl rfl rfl (by
      show R.val < o ∨ o + n ≤ R.val
      omega)

/-- One block of the row sums: its store. -/
theorem tripL_sums (kk : Fin k0_t1_loop.trips) : tripL_k0_t1 (F := Ideal) Variants.none c none i b1 w1 b2 w2 b3 w3 b4 w4 b5 w5 b6 w6 b7 w7 b8 w8 b9 w9 b10 w10 X4 X6 kk
    = [⟨Rect.unit (s := S4096x1) (k0_off2 kk) S1024x1.size (k0_off2_inb kk),
        k0_pay2 (b6.view.readAt (Elt Ideal) (Rect.unit (s := S4096x128) (k0_off1 kk) S1024x128.size (k0_off1_inb kk)).toLoadRect X6)
          (b4.view.readAt (Elt Ideal) (Rect.unit (s := S4096x128) (k0_off1 kk) S1024x128.size (k0_off1_inb kk)).toLoadRect X4)⟩] := by
  delta tripL_k0_t1 trip_k0_t1
  rfl

include H4 H6 in
/-- The row sums after `n` blocks. -/
theorem sums_at : ∀ n, n ≤ k0_t1_loop.trips → ∀ R : Fin 4096, R.val < 1024 * n →
    b10.view.read (Elt Ideal) (b10.view.writes (Elt Ideal) G10 (pb_k0_t1 (F := Ideal) Variants.none c none i b1 w1 b2 w2 b3 w3 b4 w4 b5 w5 b6 w6 b7 w7 b8 w8 b9 w9 b10 w10 X4 X6 n)) (ix2 R 0)
      = ∑ d : Fin 128, w R.val d * o R.val d
  | 0, _, R, h => absurd h (by omega)
  | n + 1, hn, R, hR => by
    have hn' : n < k0_t1_loop.trips := hn
    have e := pb_k0_t1_succ (F := Ideal) Variants.none c none i b1 w1 b2 w2 b3 w3 b4 w4 b5 w5 b6 w6 b7 w7 b8 w8 b9 w9 b10 w10 X4 X6 ⟨n, hn'⟩
    change pb_k0_t1 (F := Ideal) Variants.none c none i b1 w1 b2 w2 b3 w3 b4 w4 b5 w5 b6 w6 b7 w7 b8 w8 b9 w9 b10 w10 X4 X6 (n + 1) = _ at e
    rw [e, tripL_sums, List.cons_append, List.nil_append,
      rd_col (n := 1024) b10.view _ (1024 * n) (k0_off2_eq ⟨n, hn'⟩) (k0_off2_inb ⟨n, hn'⟩)]
    split_ifs with h
    · rw [rows_dd]
      refine Finset.sum_congr rfl fun d _ => ?_
      have e1 := ld_rows (φ := .bf16) (n := 1024) (1024 * n) (k0_off1_eq ⟨n, hn'⟩) (k0_off1_inb ⟨n, hn'⟩) _ w H6 ⟨R.val - 1024 * n, by omega⟩ d
      have e2 := ld_rows (φ := .f32) (n := 1024) (1024 * n) (k0_off1_eq ⟨n, hn'⟩) (k0_off1_inb ⟨n, hn'⟩) _ o H4 ⟨R.val - 1024 * n, by omega⟩ d
      rw [View.readAt_eq_ld, View.readAt_eq_ld, e1, e2]
      simp only [Nat.add_sub_cancel' h.1]
    · exact sums_at n hn'.le R (by omega)
end Sums

section Body
variable (x0 x1 x2 x5 : Vec Ideal S4096x128 .bf16) (x3 : Vec Ideal S4096x128 .f32) (x4 : Vec Ideal S1x4096x1 .f32)
  (o : ℕ → Fin 128 → EReal)
  (h0 : ∀ (r : Fin 4096) d, x0 (ix2 r d) = q r.val d) (h1 : ∀ (r : Fin 4096) d, x1 (ix2 r d) = k r.val d)
  (h2 : ∀ (r : Fin 4096) d, x2 (ix2 r d) = v r.val d) (h3 : ∀ (r : Fin 4096) d, x3 (ix2 r d) = o r.val d)
  (h4 : ∀ r : Fin 4096, x4 (ix3 0 r 0) = ls r.val) (h5 : ∀ (r : Fin 4096) d, x5 (ix2 r d) = w r.val d)

include h3 h5 in
theorem rowsum_at (R : Fin 4096) : b10.view.read (Elt Ideal) (rowsum (F := Ideal) c i b1 w1 b2 w2 b3 w3 b4 w4 b5 w5 b6 w6 b7 w7 b8 w8 b9 w9 b10 w10 x3 x5) (ix2 R 0)
    = ∑ d : Fin 128, w R.val d * o R.val d := by
  unfold rowsum
  rw [w10.read_unread]
  exact sums_at c i b1 w1 b2 w2 b3 w3 b4 w4 b5 w5 b6 w6 b7 w7 b8 w8 b9 w9 b10 w10 (w6.unread x5) w (fun r d => by rw [w6.read_unread]; exact h5 r d) (w4.unread x3) o
    (fun r d => by rw [w4.read_unread]; exact h3 r d) _ 4 (by decide +kernel) R R.isLt

theorem zeroed_at (r : Fin 4096) (d : Fin 128) : b7.view.read (Elt Ideal) (zeroed (F := Ideal) b7) (ix2 r d) = 0 := by
  unfold zeroed
  rw [rd_store (n := 4096) b7.view _ 0 rfl inb_S4096x128_S4096x128_0_0, dif_pos ⟨Nat.zero_le _, by omega⟩]
  have e : ∀ (a : Fin 4096) (b : Fin 128), k0_pay1 (F := Ideal) (ix2 a b) = 0 := fun a b => by
    pointwise [k0_pay1]
  exact e _ _

include h0 h1 h2 h3 h4 h5 in
/-- What the body leaves in the three outputs. -/
theorem body_at (G8 : BufTy.Contents (Elt Ideal) b8.view.ty) (G9 : BufTy.Contents (Elt Ideal) b9.view.ty) :
    (∀ (R : Fin 4096) d, b7.view.read (Elt Ideal) (b7.view.writes (Elt Ideal) (zeroed (F := Ideal) b7) (bodyPieces c i b1 w1 b2 w2 b3 w3 b4 w4 b5 w5 b6 w6 b7 w7 b8 w8 b9 w9 b10 w10 x0 x1 x2 x3 x4 x5).1) (ix2 R d)
        = ∑ x ∈ Finset.Ico 0 4096, DS q k v w ls (fun r => ∑ e : Fin 128, w r e * o r e) R.val x * k x d)
    ∧ (∀ (R : Fin 4096) d, b8.view.read (Elt Ideal) (b8.view.writes (Elt Ideal) G8 (bodyPieces c i b1 w1 b2 w2 b3 w3 b4 w4 b5 w5 b6 w6 b7 w7 b8 w8 b9 w9 b10 w10 x0 x1 x2 x3 x4 x5).2.1) (ix2 R d)
        = ∑ x ∈ Finset.Ico 0 4096, DS q k v w ls (fun r => ∑ e : Fin 128, w r e * o r e) x R.val * q x d)
    ∧ (∀ (R : Fin 4096) d, b9.view.read (Elt Ideal) (b9.view.writes (Elt Ideal) G9 (bodyPieces c i b1 w1 b2 w2 b3 w3 b4 w4 b5 w5 b6 w6 b7 w7 b8 w8 b9 w9 b10 w10 x0 x1 x2 x3 x4 x5).2.2) (ix2 R d)
        = ∑ x ∈ Finset.Ico 0 4096, P q k ls x R.val * w x d) := by
  have h := keyPieces_at c i b1 w1 b2 w2 b3 w3 b4 w4 b5 w5 b6 w6 b7 w7 b8 w8 b9 w9 b10 w10 (w1.unread x0) (w2.unread x1) (w3.unread x2) (w5.unread x4) (w6.unread x5) (rowsum (F := Ideal) c i b1 w1 b2 w2 b3 w3 b4 w4 b5 w5 b6 w6 b7 w7 b8 w8 b9 w9 b10 w10 x3 x5)
    q k v w ls (fun r => ∑ e : Fin 128, w r e * o r e)
    (fun r d => by rw [w1.read_unread]; exact h0 r d) (fun r d => by rw [w2.read_unread]; exact h1 r d)
    (fun r d => by rw [w3.read_unread]; exact h2 r d) (fun r d => by rw [w6.read_unread]; exact h5 r d)
    (fun r => by rw [w5.read_unread]; exact h4 r) (rowsum_at c i b1 w1 b2 w2 b3 w3 b4 w4 b5 w5 b6 w6 b7 w7 b8 w8 b9 w9 b10 w10 w x5 x3 o h3 h5)
    (zeroed (F := Ideal) b7) G8 G9 (zeroed_at b7) 4 (by decide +kernel)
  exact ⟨h.1, fun R d => h.2.1 R d R.isLt, fun R d => h.2.2 R d R.isLt⟩
end Body

end Cert.KernelIdeal.Attn

end
-- ==== Proof.SoftMath.lean ====
/-
  The softmax of causal attention and its gradient over the extended reals, where the queries, the keys, the values and
  the output's gradient are real numbers.

  The kernel recomputes a weight as the exponential of a score less the saved logarithm of its row's sum, and takes from
  the weights' gradient the row's product of the output and its gradient.  The gradient as the chain rule writes it
  divides the exponentials by the row's sum, and subtracts the row's sum over the squared sum.  The two are equal
  (`weight_eq`, `grad_eq`): every number met is real, the row sum positive.
-/
module

public import Idealize.ShloMosaic.Lib.Pointwise
public import Idealize.ShloMosaic.Lib.IdealHost

@[expose] public section

noncomputable section

namespace Cert.Soft

open Idealize.ShloMosaic

/-- The scale of the scores. -/
abbrev kap : EReal := Ideal.ofBits .f32 0x3DD105EC#32

section Defs
variable {n p : ℕ} (q k v w : Fin n → Fin p → EReal)

/-- A masked score. -/
def score (r c : Fin n) : EReal := if c ≤ r then (∑ d, q r d * k c d) * kap else ⊥
/-- The largest score of a row. -/
def top (r : Fin n) : EReal := Finset.fold max ⊥ (fun c => score q k r c) Finset.univ
/-- The exponentials, -/
def expo (r c : Fin n) : EReal := Ideal.exp (score q k r c - top q k r)
/-- their row sums, -/
def rowSum (r : Fin n) : EReal := ∑ c, expo q k r c
/-- and the weights. -/
def weight (r c : Fin n) : EReal := Ideal.div (expo q k r c) (rowSum q k r)
/-- What is saved of a row: the logarithm of its sum, -/
def lse (r : Fin n) : EReal := top q k r + Ideal.log (rowSum q k r)
/-- and its output. -/
def out (r : Fin n) (d : Fin p) : EReal := ∑ c, v c d * weight q k r c
/-- The weights' gradient. -/
def dweight (r c : Fin n) : EReal := ∑ d, w r d * v c d
/-- The scores' gradient, as the chain rule writes it. -/
def dscore (r c : Fin n) : EReal :=
  (if c ≤ r then (Ideal.div (dweight v w r c) (rowSum q k r)
      + -∑ x, dweight v w r x * Ideal.div 1 (rowSum q k r * rowSum q k r) * expo q k r x) * expo q k r c else 0) * kap
end Defs

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = (Real.exp x : EReal) := rfl
theorem exp_bot : Ideal.exp ⊥ = 0 := rfl
theorem log_coe {x : ℝ} (h : 0 < x) : Ideal.log (x : EReal) = (Real.log x : EReal) := by
  show (if x ≤ 0 then (⊥ : EReal) else (Real.log x : EReal)) = _
  rw [if_neg (not_le.2 h)]
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem kap_real : ∃ x : ℝ, kap = (x : EReal) := by
  unfold kap
  simp only [Ideal.ofBits, Ideal.ieee]
  rw [if_neg (by decide), if_neg (by decide)]
  exact ⟨_, rfl⟩

section Real
variable {n p : ℕ} {q k v w : Fin n → Fin p → EReal}
  (hq : ∀ r d, ∃ x : ℝ, q r d = x) (hk : ∀ r d, ∃ x : ℝ, k r d = x)
  (hv : ∀ r d, ∃ x : ℝ, v r d = x) (hw : ∀ r d, ∃ x : ℝ, w r d = x)

include hq hk in
theorem dot_real : ∃ t : Fin n → Fin n → ℝ, ∀ r c, (∑ d, q r d * k c d) = (t r c : EReal) := by
  choose qr hqr using hq
  choose kr hkr using hk
  refine ⟨fun r c => ∑ d, qr r d * kr c d, fun r c => ?_⟩
  rw [← coe_sum]
  exact Finset.sum_congr rfl fun d _ => by rw [hqr, hkr, EReal.coe_mul]

include hq hk in
/-- A row's numbers: the scores `t`, the exponentials `e`, the sum `l` of these and the largest score `u`. -/
theorem row_real : ∃ (t e : Fin n → Fin n → ℝ) (u l : Fin n → ℝ),
    (∀ r c, (∑ d, q r d * k c d) * kap = (t r c : EReal)) ∧ (∀ r, top q k r = (u r : EReal))
    ∧ (∀ r c, expo q k r c = (e r c : EReal)) ∧ (∀ r, rowSum q k r = (l r : EReal)) ∧ (∀ r, 0 < l r)
    ∧ ∀ r c, e r c = if c ≤ r then Real.exp (t r c - u r) else 0 := by
  obtain ⟨t0, ht0⟩ := dot_real hq hk
  obtain ⟨κ, hκ⟩ := kap_real
  have ht : ∀ r c, (∑ d, q r d * k c d) * kap = ((t0 r c * κ : ℝ) : EReal) := fun r c => by
    rw [ht0, hκ, EReal.coe_mul]
  have hs : ∀ r c, score q k r c = if c ≤ r then ((t0 r c * κ : ℝ) : EReal) else ⊥ := fun r c => by
    unfold score; rw [ht]
  have hm : ∀ r, ∃ u : ℝ, top q k r = (u : EReal) := fun r => by
    have h1 : top q k r ≠ ⊤ := by
      refine ne_of_lt ?_
      unfold top
      rw [Finset.fold_max_lt]
      refine ⟨bot_lt_top, fun c _ => ?_⟩
      rw [hs]
      split_ifs
      · exact EReal.coe_lt_top _
      · exact bot_lt_top
    have h2 : top q k r ≠ ⊥ := by
      have : ((t0 r r * κ : ℝ) : EReal) ≤ top q k r := by
        unfold top
        rw [Finset.le_fold_max]
        exact Or.inr ⟨r, Finset.mem_univ _, by rw [hs, if_pos le_rfl]⟩
      intro h
      rw [h, le_bot_iff] at this
      exact EReal.coe_ne_bot _ this
    exact ⟨(top q k r).toReal, (EReal.coe_toReal h1 h2).symm⟩
  choose u hu using hm
  have he : ∀ r c, expo q k r c = ((if c ≤ r then Real.exp (t0 r c * κ - u r) else 0 : ℝ) : EReal) := fun r c => by
    unfold expo
    rw [hs, hu]
    split_ifs
    · rw [← EReal.coe_sub, exp_coe]
    · rw [EReal.bot_sub, exp_bot]; rfl
  refine ⟨fun r c => t0 r c * κ, fun r c => if c ≤ r then Real.exp (t0 r c * κ - u r) else 0, u,
    fun r => ∑ c, if c ≤ r then Real.exp (t0 r c * κ - u r) else 0, ht, hu, he, fun r => ?_, fun r => ?_, fun r c => rfl⟩
  · unfold rowSum
    rw [← coe_sum]
    exact Finset.sum_congr rfl fun c _ => he r c
  · refine Finset.sum_pos' (fun c _ => ?_) ⟨r, Finset.mem_univ _, ?_⟩
    · split_ifs
      · exact (Real.exp_pos _).le
      · exact le_rfl
    · rw [if_pos le_rfl]; exact Real.exp_pos _

include hq hk in
/-- The weight recomputed from what was saved is the weight. -/
theorem weight_eq (r c : Fin n) :
    (if c ≤ r then Ideal.exp ((∑ d, q r d * k c d) * kap - lse q k r) else 0) = weight q k r c := by
  obtain ⟨t, e, u, l, ht, hu, he, hl, hl0, hd⟩ := row_real hq hk
  unfold weight lse
  rw [ht, hu, hl, he, log_coe (hl0 r), div_coe _ (hl0 r).ne', ← EReal.coe_add, ← EReal.coe_sub, exp_coe, hd]
  split_ifs
  · rw [← sub_sub, Real.exp_sub (t r c - u r), Real.exp_log (hl0 r)]
  · rw [zero_div]; rfl

include hq hk hv hw in
/-- The scores' gradient from the recomputed weight and the row's product of the output and its gradient. -/
theorem grad_eq (r c : Fin n) :
    (if c ≤ r then Ideal.exp ((∑ d, q r d * k c d) * kap - lse q k r) else 0)
        * ((∑ d, w r d * v c d) - ∑ d, w r d * out q k v r d) * kap = dscore q k v w r c := by
  rw [weight_eq hq hk]
  obtain ⟨t, e, u, l, ht, hu, he, hl, hl0, hd⟩ := row_real hq hk
  obtain ⟨g, hg⟩ := dot_real hw hv
  have hl1 := (hl0 r).ne'
  have hY : ∀ c, weight q k r c = ((e r c / l r : ℝ) : EReal) := fun c => by
    unfold weight; rw [he, hl, div_coe _ hl1]
  have hO : ∑ d, w r d * out q k v r d = ((∑ x, g r x * (e r x / l r) : ℝ) : EReal) := by
    have : ∀ d, w r d * out q k v r d = ∑ x, w r d * v x d * weight q k r x := fun d => by
      choose wr hwr using hw
      choose vr hvr using hv
      unfold out
      rw [hwr]
      have h1 : ∀ x, v x d * weight q k r x = ((vr x d * (e r x / l r) : ℝ) : EReal) := fun x => by
        rw [hvr, hY, EReal.coe_mul]
      have h2 : ∀ x, (wr r d : EReal) * v x d * weight q k r x = ((wr r d * (vr x d * (e r x / l r)) : ℝ) : EReal) := fun x => by
        rw [mul_assoc, h1, EReal.coe_mul (wr r d)]
      simp only [h1, h2]
      rw [coe_sum, coe_sum, ← EReal.coe_mul, Finset.mul_sum]
    simp only [this]
    rw [Finset.sum_comm, ← coe_sum]
    refine Finset.sum_congr rfl fun x _ => ?_
    choose wr hwr using hw
    choose vr hvr using hv
    have h3 : ∀ d, w r d * v x d * weight q k r x = ((wr r d * vr x d * (e r x / l r) : ℝ) : EReal) := fun d => by
      rw [hwr, hvr, hY, EReal.coe_mul, EReal.coe_mul]
    have h4 : ((∑ d, wr r d * vr x d : ℝ) : EReal) = (g r x : EReal) := by
      rw [← hg, ← coe_sum]
      exact Finset.sum_congr rfl fun d _ => by rw [hwr, hvr, EReal.coe_mul]
    simp only [h3]
    rw [coe_sum, ← Finset.sum_mul, EReal.coe_mul, h4, ← EReal.coe_mul]
  unfold dscore dweight
  rw [hO, hY]
  simp only [hg, he, hl]
  rw [← EReal.coe_mul, ← EReal.coe_one, div_coe _ (mul_ne_zero hl1 hl1), div_coe _ hl1]
  simp only [← EReal.coe_mul]
  rw [coe_sum, ← EReal.coe_neg, ← EReal.coe_add, ← EReal.coe_mul, ← EReal.coe_sub, ← EReal.coe_mul]
  congr 1
  split_ifs with h
  · rw [EReal.coe_eq_coe_iff]
    have : ∑ x, g r x * (1 / (l r * l r)) * e r x = (∑ x, g r x * (e r x / l r)) / l r := by
      rw [Finset.sum_div]
      exact Finset.sum_congr rfl fun x _ => by field_simp
    rw [this]
    field_simp
    ring
  · rw [hd, if_neg h, zero_div, zero_mul]; rfl
end Real

end Cert.Soft

end
-- ==== Proof.HostRead.lean ====
/-
  What the host hands the attention gradient of the forward pass, at an index: the logarithm of a row's sum and a row's
  output, in the words of `Cert.Soft`.
-/
module

public import proofs.«01_k».proof.Proof.Gen.KernelIdeal.Frame
public import proofs.«01_k».proof.Proof.AttnTile
public import proofs.«01_k».proof.Proof.SoftMath
public import Idealize.ShloMosaic.Lib.Pointwise
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments: queries, keys, values, the output's gradient. -/
abbrev aQ : FVec Ideal S4096x1024 .bf16 := m ((c.tc : Thread nD τ).loc main_arg0)
abbrev aK : FVec Ideal S4096x1024 .bf16 := m ((c.tc : Thread nD τ).loc main_arg1)
abbrev aV : FVec Ideal S4096x1024 .bf16 := m ((c.tc : Thread nD τ).loc main_arg2)
abbrev aC : FVec Ideal S4096x1536 .bf16 := m ((c.tc : Thread nD τ).loc main_arg3)

/-! ## The host's lines, stage by stage -/

abbrev Arr (s : Shape) := FVec Ideal s .f32

section Stages
/-- The heads of an argument. -/
def hd (A : FVec Ideal S4096x1024 .bf16) : Arr S4096x8x128 :=
  shapeCast S4096x8x128 (extf .f32 A bitsLt_bf16_f32) shapeCasts_S4096x1024_S4096x8x128
/-- The causal mask. -/
def mk : IVec S8x4096x4096 1 :=
  broadcastInDim S8x4096x4096 ![0, 1, 2] bcast_S1x4096x4096_S8x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
/-- The masked scores. -/
def sc (Q K : Arr S4096x8x128) : Arr S8x4096x4096 :=
  select mk (mulf (Host.dotGeneral dot_S4096x8x128_S4096x8x128_S8x4096x4096_2_2_0_0_1_1 none Q K)
      (broadcastInDim S8x4096x4096 ![] bcast_S_S8x4096x4096 (constant S_ .f32 0x3DD105EC#32)))
    (broadcastInDim S8x4096x4096 ![] bcast_S_S8x4096x4096 (id (constant S_ .f32 0xFF800000#32)))
/-- Their row maximum. -/
def mx (S : Arr S8x4096x4096) : Arr S8x4096x1 :=
  broadcastInDim S8x4096x1 ![0, 1] bcast_S8x4096_S8x4096x1_0_1
    (Host.reduce FloatOps.maximumf S (constant S_ .f32 0xFF800000#32) reducesTo_S8x4096x4096_S8x4096_d2 h_S_)
/-- The exponentials. -/
def ex (S : Arr S8x4096x4096) (M : Arr S8x4096x1) : Arr S8x4096x4096 :=
  Host.exp (subf S (broadcastInDim S8x4096x4096 ![0, 1, 2] bcast_S8x4096x1_S8x4096x4096_0_1_2 M))
/-- The row sums. -/
def sm (E : Arr S8x4096x4096) : Arr S8x4096x1 :=
  broadcastInDim S8x4096x1 ![0, 1] bcast_S8x4096_S8x4096x1_0_1 (Host.reduceAdd E (constant S_ .f32 0x00000000#32) reducesTo_S8x4096x4096_S8x4096_d2 h_S_)
/-- The weights. -/
def pr (E : Arr S8x4096x4096) (L : Arr S8x4096x1) : Arr S8x4096x4096 :=
  Host.divf E (broadcastInDim S8x4096x4096 ![0, 1, 2] bcast_S8x4096x1_S8x4096x4096_0_1_2 L)
/-- The output. -/
def ot (V : Arr S4096x8x128) (Y : Arr S8x4096x4096) : Arr S4096x1024 :=
  shapeCast S4096x1024 (transpose S4096x8x128 [2, 0, 1] (Host.dotGeneral dot_S4096x8x128_S8x4096x4096_S8x128x4096_0_2_2_1_1_0 none V Y) transposes_S8x128x4096_S4096x8x128_2_0_1) shapeCasts_S4096x8x128_S4096x1024
/-- The logarithm of the row sums. -/
def lg (M L : Arr S8x4096x1) : Arr S8x4096x1 := addf M (Host.log L)

def rS : Arr S8x4096x4096 := sc (hd (aQ m c)) (hd (aK m c))
def rM : Arr S8x4096x1 := mx (rS m c)
def rE : Arr S8x4096x4096 := ex (rS m c) (rM m c)
def rL : Arr S8x4096x1 := sm (rE m c)

theorem v30_eq : (V m c main_v30 : Arr S8x4096x1) = lg (rM m c) (rL m c) := by
  unfold V
  after_reads_simp
  all_goals try simp -implicitDefEqProofs only [StableHlo.TRef.toBuf, StableHlo.TRef.ofBuf, cast_cast, cast_eq]
  rfl
theorem v28_eq : (V m c main_v28 : Arr S4096x1024) = ot (hd (aV m c)) (pr (rE m c) (rL m c)) := by
  unfold V
  after_reads_simp
  all_goals try simp -implicitDefEqProofs only [StableHlo.TRef.toBuf, StableHlo.TRef.ofBuf, cast_cast, cast_eq]
  rfl
end Stages

/-! ## The stages at an index -/

theorem hd_at (A : FVec Ideal S4096x1024 .bf16) (r : Fin 4096) (h : Fin 8) (d : Fin 128) :
    hd A (ix3 r h d) = A (ix2 r ⟨h.val * 128 + d.val, by omega⟩) := by
  pointwise [hd]
theorem mk_word (h : Fin 8) (r c : Fin 4096) : mk (ix3 h r c) = IntOp.cmpi .sle (BitVec.ofNat 32 c.val) (BitVec.ofNat 32 r.val) := by
  pointwise [mk]
theorem mk_at (h : Fin 8) (r c : Fin 4096) (x y : EReal) : Scalar.select (mk (ix3 h r c)) x y = if c ≤ r then x else y := by
  rw [mk_word]
  have := mask_select c.val r.val (by omega) (by omega) x y
  rw [this]
  simp only [Fin.le_def]
theorem neg_inf : Ideal.ofBits .f32 0xFF800000#32 = ⊥ := by simp [Ideal.ofBits, Ideal.ieee]
theorem masked_word : (id (constant (F := Ideal) S_ .f32 0xFF800000#32) ix0 : EReal) = Ideal.ofBits .f32 0xFF800000#32 := by
  simp only [id]
  pointwise

theorem sc_word (Q K : Arr S4096x8x128) (h : Fin 8) (r c : Fin 4096) :
    sc Q K (ix3 h r c) = Scalar.select (mk (ix3 h r c)) ((∑ d : Fin 128, Q (ix3 r h d) * K (ix3 c h d)) * Soft.kap)
      (id (constant (F := Ideal) S_ .f32 0xFF800000#32) ix0 : EReal) := by
  pointwise [sc]
theorem sc_at (Q K : Arr S4096x8x128) (h : Fin 8) (r c : Fin 4096) :
    sc Q K (ix3 h r c) = if c ≤ r then (∑ d : Fin 128, Q (ix3 r h d) * K (ix3 c h d)) * Soft.kap else ⊥ := by
  rw [sc_word, mk_at, masked_word, neg_inf]
theorem mx_row (S : Arr S8x4096x4096) (h : Fin 8) (r : Fin 4096) :
    Host.reduce (α := Ideal .f32) FloatOps.maximumf S (constant S_ .f32 0xFF800000#32) reducesTo_S8x4096x4096_S8x4096_d2 h_S_ (ix2 h r)
      = Finset.fold max (Ideal.ofBits .f32 0xFF800000#32) (fun c : Fin 4096 => S (ix3 h r c)) Finset.univ := by
  pointwise
theorem mx_word (X : Arr S8x4096) (h : Fin 8) (r : Fin 4096) :
    broadcastInDim S8x4096x1 ![0, 1] bcast_S8x4096_S8x4096x1_0_1 X (ix3 h r 0) = X (ix2 h r) := by
  pointwise
theorem mx_at (S : Arr S8x4096x4096) (h : Fin 8) (r : Fin 4096) :
    mx S (ix3 h r 0) = Finset.fold max ⊥ (fun c : Fin 4096 => S (ix3 h r c)) Finset.univ := by
  unfold mx
  rw [mx_word, mx_row, neg_inf]
theorem ex_at (S : Arr S8x4096x4096) (M : Arr S8x4096x1) (h : Fin 8) (r c : Fin 4096) :
    ex S M (ix3 h r c) = Ideal.exp (S (ix3 h r c) - M (ix3 h r 0)) := by
  pointwise [ex]
theorem sm_at (E : Arr S8x4096x4096) (h : Fin 8) (r : Fin 4096) :
    sm E (ix3 h r 0) = ∑ c : Fin 4096, E (ix3 h r c) := by
  pointwise [sm]
theorem pr_at (E : Arr S8x4096x4096) (L : Arr S8x4096x1) (h : Fin 8) (r c : Fin 4096) :
    pr E L (ix3 h r c) = Ideal.div (E (ix3 h r c)) (L (ix3 h r 0)) := by
  pointwise [pr]
theorem lg_at (M L : Arr S8x4096x1) (h : Fin 8) (r : Fin 4096) :
    lg M L (ix3 h r 0) = M (ix3 h r 0) + Ideal.log (L (ix3 h r 0)) := by
  pointwise [lg]
theorem ot_at (V : Arr S4096x8x128) (Y : Arr S8x4096x4096) (r : Fin 4096) (h : Fin 8) (d : Fin 128) :
    ot V Y (ix2 r ⟨h.val * 128 + d.val, by omega⟩) = ∑ x : Fin 4096, V (ix3 x h d) * Y (ix3 h r x) := by
  pointwise [ot]

section Rows
variable (h : Fin 8) (q k v : Fin 4096 → Fin 128 → EReal)
  (hq : ∀ r d, aQ m c (ix2 r ⟨h.val * 128 + d.val, by omega⟩) = q r d)
  (hk : ∀ r d, aK m c (ix2 r ⟨h.val * 128 + d.val, by omega⟩) = k r d)
  (hv : ∀ r d, aV m c (ix2 r ⟨h.val * 128 + d.val, by omega⟩) = v r d)

include hq hk in
theorem rS_at (r x : Fin 4096) : rS m c (ix3 h r x) = Soft.score q k r x := by
  unfold rS Soft.score
  rw [sc_at]
  simp only [hd_at, hq, hk]
include hq hk in
theorem rM_at (r : Fin 4096) : rM m c (ix3 h r 0) = Soft.top q k r := by
  unfold rM Soft.top
  rw [mx_at]
  simp only [rS_at m c h q k hq hk]
include hq hk in
theorem rE_at (r x : Fin 4096) : rE m c (ix3 h r x) = Soft.expo q k r x := by
  unfold rE Soft.expo
  rw [ex_at, rS_at m c h q k hq hk, rM_at m c h q k hq hk]
include hq hk in
theorem rL_at (r : Fin 4096) : rL m c (ix3 h r 0) = Soft.rowSum q k r := by
  unfold rL Soft.rowSum
  rw [sm_at]
  simp only [rE_at m c h q k hq hk]
include hq hk in
/-- The saved logarithm. -/
theorem lse_at (r : Fin 4096) : (V m c main_v30 : Arr S8x4096x1) (ix3 h r 0) = Soft.lse q k r := by
  rw [v30_eq, lg_at, rM_at m c h q k hq hk, rL_at m c h q k hq hk]
  rfl
include hq hk hv in
/-- The saved output. -/
theorem out_at (r : Fin 4096) (d : Fin 128) :
    (V m c main_v28 : Arr S4096x1024) (ix2 r ⟨h.val * 128 + d.val, by omega⟩) = Soft.out q k v r d := by
  rw [v28_eq, ot_at]
  simp only [pr_at, hd_at, hv, rE_at m c h q k hq hk, rL_at m c h q k hq hk]
  rfl
end Rows

end Cert.KernelIdeal.Attn

end
-- ==== Proof.AttnFinal.lean ====
/-
  The attention gradient's three arrays after the launch, over the extended reals and for arguments that are real
  numbers: at each head, the sums over rows of the scores' gradient and of the weights, in the words of `Cert.Soft`.
-/
module

public import proofs.«01_k».proof.Proof.AttnWhole
public import proofs.«01_k».proof.Proof.AttnFrame
public import proofs.«01_k».proof.Proof.HostRead
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## Rows counted by naturals -/

/-- A family over the rows, at any natural. -/
def up {α : Type} [Zero α] (f : Fin 4096 → α) (n : ℕ) : α := if h : n < 4096 then f ⟨n, h⟩ else 0
theorem up_val {α : Type} [Zero α] (f : Fin 4096 → α) (r : Fin 4096) : up f r.val = f r := by
  unfold up; rw [dif_pos r.isLt]

theorem sum_rows (f : ℕ → EReal) : ∑ x ∈ Finset.Ico 0 4096, f x = ∑ x : Fin 4096, f x.val := by
  have := sum_block 4096 0 f
  simp only [Nat.zero_add] at this
  exact this.symm

section Math
variable (q k v w : Fin 4096 → Fin 128 → EReal)
  (hq : ∀ r d, ∃ x : ℝ, q r d = x) (hk : ∀ r d, ∃ x : ℝ, k r d = x)
  (hv : ∀ r d, ∃ x : ℝ, v r d = x) (hw : ∀ r d, ∃ x : ℝ, w r d = x)

include hq hk in
theorem P_weight (r c : Fin 4096) : P (up q) (up k) (up (Soft.lse q k)) r.val c.val = Soft.weight q k r c := by
  unfold P
  simp only [up_val]
  exact Soft.weight_eq hq hk r c
include hq hk hv hw in
theorem DS_dscore (r c : Fin 4096) :
    DS (up q) (up k) (up v) (up w) (up (Soft.lse q k)) (fun r => ∑ e : Fin 128, up w r e * up (Soft.out q k v) r e) r.val c.val = Soft.dscore q k v w r c := by
  unfold DS P
  simp only [up_val]
  exact Soft.grad_eq hq hk hv hw r c
end Math

/-! ## The blocks -/

variable (m : (ℓ : Loc nD τ sig) → Buf (Elt Ideal) ℓ) (c : Dev nD)

theorem idx : ∀ t : Fin cfg0.N, win0_0.index t = ![0, t.val] ∧ win0_1.index t = ![0, t.val] ∧ win0_2.index t = ![0, t.val]
    ∧ win0_3.index t = ![0, t.val] ∧ win0_4.index t = ![t.val, 0, 0] ∧ win0_5.index t = ![0, t.val]
    ∧ win0_6.index t = ![0, t.val] ∧ win0_7.index t = ![0, t.val] ∧ win0_8.index t = ![0, t.val] := by decide +kernel

theorem lt8 (t : Fin cfg0.N) : t.val < 8 := lt_of_lt_of_eq t.isLt N_0

theorem blkQ (t : Fin cfg0.N) (r : Fin 4096) (d : Fin 128) : iblk m c 0 t (ix2 r d) = aQ m c (ix2 r ⟨t.val * 128 + d.val, by have := lt8 t; omega⟩) := by
  blk_ext [iblk, V_main_arg0 m c, idx t]
theorem blkK (t : Fin cfg0.N) (r : Fin 4096) (d : Fin 128) : iblk m c 1 t (ix2 r d) = aK m c (ix2 r ⟨t.val * 128 + d.val, by have := lt8 t; omega⟩) := by
  blk_ext [iblk, V_main_arg1 m c, idx t]
theorem blkV (t : Fin cfg0.N) (r : Fin 4096) (d : Fin 128) : iblk m c 2 t (ix2 r d) = aV m c (ix2 r ⟨t.val * 128 + d.val, by have := lt8 t; omega⟩) := by
  blk_ext [iblk, V_main_arg2 m c, idx t]
theorem rdO (X : BufTy.Contents (Elt Ideal) (Pipeline.arrRef spec0 3).ty) (t : Fin cfg0.N) (r : Fin 4096) (d : Fin 128) :
    ((cfg0.win 3).blk t).view.read (Elt Ideal) X (ix2 r d) = (X : Arr S4096x1024) (ix2 r ⟨t.val * 128 + d.val, by have := lt8 t; omega⟩) := by
  blk_ext [idx t]
theorem blkO (t : Fin cfg0.N) (r : Fin 4096) (d : Fin 128) : iblk m c 3 t (ix2 r d) = (V m c main_v28 : Arr S4096x1024) (ix2 r ⟨t.val * 128 + d.val, by have := lt8 t; omega⟩) :=
  rdO (V m c (Pipeline.arrRef spec0 3)) t r d
theorem rdL (X : BufTy.Contents (Elt Ideal) (Pipeline.arrRef spec0 4).ty) (t : Fin cfg0.N) (r : Fin 4096) :
    ((cfg0.win 4).blk t).view.read (Elt Ideal) X (ix3 0 r 0) = (X : Arr S8x4096x1) (ix3 ⟨t.val, lt8 t⟩ r 0) := by
  blk_ext [idx t]
theorem blkL (t : Fin cfg0.N) (r : Fin 4096) : iblk m c 4 t (ix3 0 r 0) = (V m c main_v30 : Arr S8x4096x1) (ix3 ⟨t.val, lt8 t⟩ r 0) :=
  rdL (V m c (Pipeline.arrRef spec0 4)) t r
theorem blkC (t : Fin cfg0.N) (r : Fin 4096) (d : Fin 128) : iblk m c 5 t (ix2 r d) = aC m c (ix2 r ⟨t.val * 128 + d.val, by have := lt8 t; omega⟩) := by
  blk_ext [iblk, V_main_arg3 m c, idx t]

/-! ## The arguments of one head -/

def qh (h : Fin 8) (r : Fin 4096) (d : Fin 128) : EReal := aQ m c (ix2 r ⟨h.val * 128 + d.val, by omega⟩)
def kh (h : Fin 8) (r : Fin 4096) (d : Fin 128) : EReal := aK m c (ix2 r ⟨h.val * 128 + d.val, by omega⟩)
def vh (h : Fin 8) (r : Fin 4096) (d : Fin 128) : EReal := aV m c (ix2 r ⟨h.val * 128 + d.val, by omega⟩)
def wh (h : Fin 8) (r : Fin 4096) (d : Fin 128) : EReal := aC m c (ix2 r ⟨h.val * 128 + d.val, by omega⟩)

section Real
variable (hq : ∀ r d, ∃ x : ℝ, aQ m c (ix2 r d) = x) (hk : ∀ r d, ∃ x : ℝ, aK m c (ix2 r d) = x)
  (hv : ∀ r d, ∃ x : ℝ, aV m c (ix2 r d) = x) (hw : ∀ r d, ∃ x : ℝ, aC m c (ix2 r d) = x)

include hq hk hv hw in
/-- What the body leaves at a head: the three gradients' block. -/
theorem outs_at (t : Fin cfg0.N) (h : Fin 8) (ht : h.val = t.val) :
    (∀ (R : Fin 4096) d, (outsAt0 m c t).1 (ix2 R d) = ∑ x, Soft.dscore (qh m c h) (kh m c h) (vh m c h) (wh m c h) R x * kh m c h x d)
    ∧ (∀ (R : Fin 4096) d, (outsAt0 m c t).2.1 (ix2 R d) = ∑ x, Soft.dscore (qh m c h) (kh m c h) (vh m c h) (wh m c h) x R * qh m c h x d)
    ∧ (∀ (R : Fin 4096) d, (outsAt0 m c t).2.2 (ix2 R d) = ∑ x, Soft.weight (qh m c h) (kh m c h) x R * wh m c h x d) := by
  obtain rfl : h = ⟨t.val, lt8 t⟩ := Fin.ext ht
  have fq : ∀ r d, ∃ x : ℝ, qh m c ⟨t.val, lt8 t⟩ r d = x := fun r d => hq _ _
  have fk : ∀ r d, ∃ x : ℝ, kh m c ⟨t.val, lt8 t⟩ r d = x := fun r d => hk _ _
  have fv : ∀ r d, ∃ x : ℝ, vh m c ⟨t.val, lt8 t⟩ r d = x := fun r d => hv _ _
  have fw : ∀ r d, ∃ x : ℝ, wh m c ⟨t.val, lt8 t⟩ r d = x := fun r d => hw _ _
  obtain ⟨b1, b2, b3⟩ := body_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (up (qh m c ⟨t.val, lt8 t⟩)) (up (kh m c ⟨t.val, lt8 t⟩)) (up (vh m c ⟨t.val, lt8 t⟩)) (up (wh m c ⟨t.val, lt8 t⟩))
    (up (Soft.lse (qh m c ⟨t.val, lt8 t⟩) (kh m c ⟨t.val, lt8 t⟩))) (iblk m c 0 t) (iblk m c 1 t) (iblk m c 2 t) (iblk m c 5 t) (iblk m c 3 t) (iblk m c 4 t)
    (up (Soft.out (qh m c ⟨t.val, lt8 t⟩) (kh m c ⟨t.val, lt8 t⟩) (vh m c ⟨t.val, lt8 t⟩)))
    (fun r d => (blkQ m c t r d).trans (congrFun (up_val (qh m c ⟨t.val, lt8 t⟩) r) d).symm)
    (fun r d => (blkK m c t r d).trans (congrFun (up_val (kh m c ⟨t.val, lt8 t⟩) r) d).symm)
    (fun r d => (blkV m c t r d).trans (congrFun (up_val (vh m c ⟨t.val, lt8 t⟩) r) d).symm)
    (fun r d => ((blkO m c t r d).trans (out_at m c ⟨t.val, lt8 t⟩ _ _ _ (fun _ _ => rfl) (fun _ _ => rfl) (fun _ _ => rfl) r d)).trans (congrFun (up_val (Soft.out (qh m c ⟨t.val, lt8 t⟩) (kh m c ⟨t.val, lt8 t⟩) (vh m c ⟨t.val, lt8 t⟩)) r) d).symm)
    (fun r => ((blkL m c t r).trans (lse_at m c ⟨t.val, lt8 t⟩ _ _ (fun _ _ => rfl) (fun _ _ => rfl) r)).trans (up_val (Soft.lse (qh m c ⟨t.val, lt8 t⟩) (kh m c ⟨t.val, lt8 t⟩)) r).symm)
    (fun r d => (blkC m c t r d).trans (congrFun (up_val (wh m c ⟨t.val, lt8 t⟩) r) d).symm)
    (ms0_7 t).view.junk (ms0_8 t).view.junk
  refine ⟨fun R d => ?_, fun R d => ?_, fun R d => ?_⟩
  · refine (b1 R d).trans ?_
    rw [sum_rows]
    refine Finset.sum_congr rfl fun x _ => ?_
    rw [DS_dscore _ _ _ _ fq fk fv fw, up_val]
  · have e : (outsAt0 m c t).2.1 = (ms0_7 t).view.read (Elt Ideal) ((ms0_7 t).view.writes (Elt Ideal) (ms0_7 t).view.junk (bodyPieces (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2.1) := by
      unfold outsAt0
      dsimp only
      rw [View.read_writes_eq_canon _ _ _ (cover8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)), View.read_writes_eq_canon _ _ _ (cover8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))]
    rw [e]
    refine (b2 R d).trans ?_
    rw [sum_rows]
    refine Finset.sum_congr rfl fun x _ => ?_
    rw [DS_dscore _ _ _ _ fq fk fv fw, up_val]
  · have e : (outsAt0 m c t).2.2 = (ms0_8 t).view.read (Elt Ideal) ((ms0_8 t).view.writes (Elt Ideal) (ms0_8 t).view.junk (bodyPieces (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2.2) := by
      unfold outsAt0
      dsimp only
      rw [View.read_writes_eq_canon _ _ _ (cover9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)), View.read_writes_eq_canon _ _ _ (cover9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))]
    rw [e]
    refine (b3 R d).trans ?_
    rw [sum_rows]
    refine Finset.sum_congr rfl fun x _ => ?_
    rw [P_weight _ _ fq fk, up_val]

/-- The head and the lane of a column. -/
def hcol (x : Fin 1024) : Fin 8 := ⟨x.val / 128, by omega⟩
def lcol (x : Fin 1024) : Fin 128 := ⟨x.val % 128, by omega⟩

/-- The gradients of the queries, the keys and the values, over all heads. -/
def gQ : Arr S4096x1024 := fun ix => ∑ x, Soft.dscore (qh m c (hcol (ix 1))) (kh m c (hcol (ix 1))) (vh m c (hcol (ix 1))) (wh m c (hcol (ix 1))) (ix 0) x * kh m c (hcol (ix 1)) x (lcol (ix 1))
def gK : Arr S4096x1024 := fun ix => ∑ x, Soft.dscore (qh m c (hcol (ix 1))) (kh m c (hcol (ix 1))) (vh m c (hcol (ix 1))) (wh m c (hcol (ix 1))) x (ix 0) * qh m c (hcol (ix 1)) x (lcol (ix 1))
def gV : Arr S4096x1024 := fun ix => ∑ x, Soft.weight (qh m c (hcol (ix 1))) (kh m c (hcol (ix 1))) x (ix 0) * wh m c (hcol (ix 1)) x (lcol (ix 1))

include hq hk hv hw in
theorem final_Q : (dats m 0 c).arrAt 6 cfg0.N = gQ m c := by
  refine (dats m 0 c).arrAt_eq_of_covers 6 _ (by decide +kernel) fun t hf y => ?_
  blk_simp
  rw [after0_6]
  have h0 : ((((cfg0.win 6).blk t).view.emb y) 0 : Fin 4096) = (y 0 : Fin 4096) := by
    refine Fin.ext ?_
    blk_simp [idx t]
  have h1 : (((((cfg0.win 6).blk t).view.emb y) 1 : Fin 1024) : ℕ) = t.val * 128 + (y 1 : Fin 128).val := by
    blk_simp [idx t]
  have hl : (y 1 : Fin 128).val < 128 := (y 1 : Fin 128).isLt
  have e1 : (hcol ((((cfg0.win 6).blk t).view.emb y) 1)).val = t.val := by
    show (((((cfg0.win 6).blk t).view.emb y) 1 : Fin 1024) : ℕ) / 128 = _
    omega
  have e2 : lcol ((((cfg0.win 6).blk t).view.emb y) 1) = (y 1 : Fin 128) := by
    refine Fin.ext ?_
    show (((((cfg0.win 6).blk t).view.emb y) 1 : Fin 1024) : ℕ) % 128 = _
    omega
  have ey : (y : S4096x128.Idx) = ix2 (y 0 : Fin 4096) (y 1 : Fin 128) := by
    funext a; fin_cases a <;> rfl
  have hh := (outs_at m c hq hk hv hw t _ e1).1 (y 0) (y 1)
  refine (congrArg (outsAt0 m c t).1 ey).trans (hh.trans ?_)
  show _ = gQ m c (((cfg0.win 6).blk t).view.emb y)
  unfold gQ
  rw [h0, e2]

include hq hk hv hw in
theorem final_K : (dats m 0 c).arrAt 7 cfg0.N = gK m c := by
  refine (dats m 0 c).arrAt_eq_of_covers 7 _ (by decide +kernel) fun t hf y => ?_
  blk_simp
  rw [after0_7]
  have h0 : ((((cfg0.win 7).blk t).view.emb y) 0 : Fin 4096) = (y 0 : Fin 4096) := by
    refine Fin.ext ?_
    blk_simp [idx t]
  have h1 : (((((cfg0.win 7).blk t).view.emb y) 1 : Fin 1024) : ℕ) = t.val * 128 + (y 1 : Fin 128).val := by
    blk_simp [idx t]
  have hl : (y 1 : Fin 128).val < 128 := (y 1 : Fin 128).isLt
  have e1 : (hcol ((((cfg0.win 7).blk t).view.emb y) 1)).val = t.val := by
    show (((((cfg0.win 7).blk t).view.emb y) 1 : Fin 1024) : ℕ) / 128 = _
    omega
  have e2 : lcol ((((cfg0.win 7).blk t).view.emb y) 1) = (y 1 : Fin 128) := by
    refine Fin.ext ?_
    show (((((cfg0.win 7).blk t).view.emb y) 1 : Fin 1024) : ℕ) % 128 = _
    omega
  have ey : (y : S4096x128.Idx) = ix2 (y 0 : Fin 4096) (y 1 : Fin 128) := by
    funext a; fin_cases a <;> rfl
  have hh := (outs_at m c hq hk hv hw t _ e1).2.1 (y 0) (y 1)
  refine (congrArg (outsAt0 m c t).2.1 ey).trans (hh.trans ?_)
  show _ = gK m c (((cfg0.win 7).blk t).view.emb y)
  unfold gK
  rw [h0, e2]

include hq hk hv hw in
theorem final_V : (dats m 0 c).arrAt 8 cfg0.N = gV m c := by
  refine (dats m 0 c).arrAt_eq_of_covers 8 _ (by decide +kernel) fun t hf y => ?_
  blk_simp
  rw [after0_8]
  have h0 : ((((cfg0.win 8).blk t).view.emb y) 0 : Fin 4096) = (y 0 : Fin 4096) := by
    refine Fin.ext ?_
    blk_simp [idx t]
  have h1 : (((((cfg0.win 8).blk t).view.emb y) 1 : Fin 1024) : ℕ) = t.val * 128 + (y 1 : Fin 128).val := by
    blk_simp [idx t]
  have hl : (y 1 : Fin 128).val < 128 := (y 1 : Fin 128).isLt
  have e1 : (hcol ((((cfg0.win 8).blk t).view.emb y) 1)).val = t.val := by
    show (((((cfg0.win 8).blk t).view.emb y) 1 : Fin 1024) : ℕ) / 128 = _
    omega
  have e2 : lcol ((((cfg0.win 8).blk t).view.emb y) 1) = (y 1 : Fin 128) := by
    refine Fin.ext ?_
    show (((((cfg0.win 8).blk t).view.emb y) 1 : Fin 1024) : ℕ) % 128 = _
    omega
  have ey : (y : S4096x128.Idx) = ix2 (y 0 : Fin 4096) (y 1 : Fin 128) := by
    funext a; fin_cases a <;> rfl
  have hh := (outs_at m c hq hk hv hw t _ e1).2.2 (y 0) (y 1)
  refine (congrArg (outsAt0 m c t).2.2 ey).trans (hh.trans ?_)
  show _ = gV m c (((cfg0.win 8).blk t).view.emb y)
  unfold gV
  rw [h0, e2]
end Real

/-- The launch, read: the three gradients, the arguments unchanged. -/
theorem run (ρ : Dev nD → PrngReg)
    (hq : ∀ c r d, ∃ x : ℝ, aQ m c (ix2 r d) = x) (hk : ∀ c r d, ∃ x : ℝ, aK m c (ix2 r d) = x)
    (hv : ∀ c r d, ∃ x : ℝ, aV m c (ix2 r d) = x) (hw : ∀ c r d, ∃ x : ℝ, aC m c (ix2 r d) = x) :
    θ_run defs (onTc (τ := τ) (main (F := Ideal))) ⟨m, fun _ => 0, ρ⟩ fun r => ∀ c : Dev nD,
      (r.2.mem ((c.tc : Thread nD τ).loc main_v31_0) = gQ m c ∧ r.2.mem ((c.tc : Thread nD τ).loc main_v31_1) = gK m c
        ∧ r.2.mem ((c.tc : Thread nD τ).loc main_v31_2) = gV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨⟨((h c).1 6).trans (final_Q m c (hq c) (hk c) (hv c) (hw c)), ((h c).1 7).trans (final_K m c (hq c) (hk c) (hv c) (hw c)),
        ((h c).1 8).trans (final_V m c (hq c) (hk c) (hv c) (hw c))⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 5).trans (((dats m 0 c).arrAt_in 5 rfl _).trans ((A_eq m c 5).trans (V_main_arg3 m c)))⟩)
    (run_main m ρ)

end Cert.KernelIdeal.Attn

end
-- ==== Proof.RefStages.lean ====
/-
  The reference's gradient, stage by stage: the scores under the mask, their row maximum, the exponentials, the row
  sums, and from these and the output's gradient the gradient of the scores and the three results; each stage read at an
  index of it.
-/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

abbrev Arr (s : Shape) := FVec Ideal s .f32

/-- An argument's heads. -/
def hd (A : FVec Ideal S4096x1024 .bf16) : Arr S4096x8x128 :=
  shapeCast S4096x8x128 (extf .f32 A bitsLt_bf16_f32) shapeCasts_S4096x1024_S4096x8x128
/-- The causal mask. -/
def mk : IVec S8x4096x4096 1 :=
  broadcastInDim S8x4096x4096 ![0, 1, 2] bcast_S1x4096x4096_S8x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
/-- The masked scores. -/
def sc (Q K : Arr S4096x8x128) : Arr S8x4096x4096 :=
  select mk (mulf (Host.dotGeneral dot_S4096x8x128_S4096x8x128_S8x4096x4096_2_2_0_0_1_1 none Q K)
      (broadcastInDim S8x4096x4096 ![] bcast_S_S8x4096x4096 (constant S_ .f32 0x3DD105EC#32)))
    (broadcastInDim S8x4096x4096 ![] bcast_S_S8x4096x4096 (id (constant S_ .f32 0xFF800000#32)))
/-- Their row maximum. -/
def mx (S : Arr S8x4096x4096) : Arr S8x4096 :=
  maximumf (broadcastInDim S8x4096 ![] bcast_S_S8x4096 (constant S_ .f32 0xFF800000#32))
    (Host.reduce FloatOps.maximumf S (constant S_ .f32 0xFF800000#32) reducesTo_S8x4096x4096_S8x4096_d2 h_S_)
/-- The exponentials. -/
def ex (S : Arr S8x4096x4096) (M : Arr S8x4096) : Arr S8x4096x4096 :=
  Host.exp (subf S (broadcastInDim S8x4096x4096 ![0, 1, 2] bcast_S8x4096x1_S8x4096x4096_0_1_2 (broadcastInDim S8x4096x1 ![0, 1] bcast_S8x4096_S8x4096x1_0_1 M)))
/-- The row sums. -/
def sm (E : Arr S8x4096x4096) : Arr S8x4096x1 :=
  broadcastInDim S8x4096x1 ![0, 1] bcast_S8x4096_S8x4096x1_0_1 (Host.reduceAdd E (constant S_ .f32 0x00000000#32) reducesTo_S8x4096x4096_S8x4096_d2 h_S_)
/-- The weights. -/
def pr (E : Arr S8x4096x4096) (L : Arr S8x4096x1) : Arr S8x4096x4096 :=
  Host.divf E (broadcastInDim S8x4096x4096 ![0, 1, 2] bcast_S8x4096x1_S8x4096x4096_0_1_2 L)
/-- One over the squared row sums. -/
def inv2 (L : Arr S8x4096x1) : Arr S8x4096x1 :=
  Host.divf (broadcastInDim S8x4096x1 ![] bcast_S_S8x4096x1 (constant S_ .f32 0x3F800000#32)) (mulf L L)
/-- The output's gradient, head by head. -/
def ct (A : FVec Ideal S4096x1536 .bf16) : Arr S8x128x4096 :=
  transpose S8x128x4096 [1, 2, 0] (shapeCast S4096x8x128 (extf .f32 (extractStridedSlice S4096x1024 ![0, 0] A slices_S4096x1536_S4096x1024_0_0) bitsLt_bf16_f32) shapeCasts_S4096x1024_S4096x8x128) transposes_S4096x8x128_S8x128x4096_1_2_0
/-- The weights' gradient. -/
def dp (C : Arr S8x128x4096) (V : Arr S4096x8x128) : Arr S8x4096x4096 :=
  Host.dotGeneral dot_S8x128x4096_S4096x8x128_S8x4096x4096_1_2_2_0_0_1 none C V
/-- Minus the row sums of the weights' gradient against the weights. -/
def neg (D E : Arr S8x4096x4096) (I : Arr S8x4096x1) : Arr S8x4096x1 :=
  Host.negf (shapeCast S8x4096x1 (Host.reduceAdd (mulf (mulf D (broadcastInDim S8x4096x4096 ![0, 1, 2] bcast_S8x4096x1_S8x4096x4096_0_1_2 I)) E)
    (constant S_ .f32 0x00000000#32) reducesTo_S8x4096x4096_S8x4096_d2 h_S_) shapeCasts_S8x4096_S8x4096x1)
/-- The scores' gradient before the mask. -/
def dr (D E : Arr S8x4096x4096) (L N : Arr S8x4096x1) : Arr S8x4096x4096 :=
  mulf (addf (Host.divf D (broadcastInDim S8x4096x4096 ![0, 1, 2] bcast_S8x4096x1_S8x4096x4096_0_1_2 L))
    (broadcastInDim S8x4096x4096 ![0, 1] bcast_S8x4096_S8x4096x4096_0_1 (Host.reduceAdd N (constant S_ .f32 0x00000000#32) reducesTo_S8x4096x1_S8x4096_d2 h_S_))) E
/-- The scores' gradient. -/
def ds (R : Arr S8x4096x4096) : Arr S8x4096x4096 :=
  mulf (select mk R (broadcastInDim S8x4096x4096 ![] bcast_S_S8x4096x4096 (constant S_ .f32 0x00000000#32)))
    (broadcastInDim S8x4096x4096 ![] bcast_S_S8x4096x4096 (constant S_ .f32 0x3DD105EC#32))
/-- The three results. -/
def outQ (G : Arr S8x4096x4096) (K : Arr S4096x8x128) : Arr S4096x1024 :=
  shapeCast S4096x1024 (transpose S4096x8x128 [1, 0, 2] (Host.dotGeneral dot_S8x4096x4096_S4096x8x128_S8x4096x128_2_0_1_2_0_1 none G K) transposes_S8x4096x128_S4096x8x128_1_0_2) shapeCasts_S4096x8x128_S4096x1024
def outK (G : Arr S8x4096x4096) (Q : Arr S4096x8x128) : Arr S4096x1024 :=
  shapeCast S4096x1024 (transpose S4096x8x128 [1, 0, 2] (Host.dotGeneral dot_S8x4096x4096_S4096x8x128_S8x4096x128_1_0_2_2_0_1 none G Q) transposes_S8x4096x128_S4096x8x128_1_0_2) shapeCasts_S4096x8x128_S4096x1024
def outV (C : Arr S8x128x4096) (Y : Arr S8x4096x4096) : Arr S4096x1024 :=
  shapeCast S4096x1024 (transpose S4096x8x128 [2, 0, 1] (Host.dotGeneral dot_S8x128x4096_S8x4096x4096_S8x128x4096_2_1_1_2_0_0 none C Y) transposes_S8x128x4096_S4096x8x128_2_0_1) shapeCasts_S4096x8x128_S4096x1024

section Whole
variable (m : (ℓ : Loc nD τ sig) → Buf (Elt Ideal) ℓ) (c : Dev nD)

/-- The stages at the arguments. -/
abbrev aQ : FVec Ideal S4096x1024 .bf16 := m ((c.tc : Thread nD τ).loc main_arg0)
abbrev aK : FVec Ideal S4096x1024 .bf16 := m ((c.tc : Thread nD τ).loc main_arg1)
abbrev aV : FVec Ideal S4096x1024 .bf16 := m ((c.tc : Thread nD τ).loc main_arg2)
abbrev aC : FVec Ideal S4096x1536 .bf16 := m ((c.tc : Thread nD τ).loc main_arg3)
def rS : Arr S8x4096x4096 := sc (hd (aQ m c)) (hd (aK m c))
def rE : Arr S8x4096x4096 := ex (rS m c) (mx (rS m c))
def rL : Arr S8x4096x1 := sm (rE m c)
def rD : Arr S8x4096x4096 := dp (ct (aC m c)) (hd (aV m c))
def rG : Arr S8x4096x4096 := ds (dr (rD m c) (rE m c) (rL m c) (neg (rD m c) (rE m c) (inv2 (rL m c))))

theorem v74_eq : res_main_v74 m c = outV (ct (aC m c)) (pr (rE m c) (rL m c)) := by
  unfold res_main_v74; rfl
theorem v75_eq : res_main_v75 m c = outK (rG m c) (hd (aQ m c)) := by
  unfold res_main_v75; rfl
theorem v76_eq : res_main_v76 m c = outQ (rG m c) (hd (aK m c)) := by
  unfold res_main_v76; rfl
end Whole

end Cert.ReferenceIdeal.Value

end
-- ==== Proof.RefRead.lean ====
/-
  The reference's results at an index, over the extended reals: for the head of a column, the sums over rows of the
  scores' gradient, and of the weights, in the words of `Cert.Soft`.
-/
module

public import proofs.«01_k».proof.Proof.RefStages
public import proofs.«01_k».proof.Proof.AttnTile
public import proofs.«01_k».proof.Proof.SoftMath

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

open Cert.Soft (kap)

theorem neg_inf : Ideal.ofBits .f32 0xFF800000#32 = ⊥ := by simp [Ideal.ofBits, Ideal.ieee]

section Stages
theorem hd_at (A : FVec Ideal S4096x1024 .bf16) (r : Fin 4096) (h : Fin 8) (d : Fin 128) :
    hd A (ix3 r h d) = A (ix2 r ⟨h.val * 128 + d.val, by omega⟩) := by
  pointwise [hd]
theorem mk_word (h : Fin 8) (r c : Fin 4096) : mk (ix3 h r c) = IntOp.cmpi .sle (BitVec.ofNat 32 c.val) (BitVec.ofNat 32 r.val) := by
  pointwise [mk]
theorem mk_at (h : Fin 8) (r c : Fin 4096) (x y : EReal) : Scalar.select (mk (ix3 h r c)) x y = if c ≤ r then x else y := by
  rw [mk_word]
  have := Cert.KernelIdeal.Attn.mask_select c.val r.val (by omega) (by omega) x y
  rw [this]
  simp only [Fin.le_def]
theorem masked_word : (id (constant (F := Ideal) S_ .f32 0xFF800000#32) ix0 : EReal) = Ideal.ofBits .f32 0xFF800000#32 := by
  simp only [id]
  pointwise
theorem sc_word (Q K : Arr S4096x8x128) (h : Fin 8) (r c : Fin 4096) :
    sc Q K (ix3 h r c) = Scalar.select (mk (ix3 h r c)) ((∑ d : Fin 128, Q (ix3 r h d) * K (ix3 c h d)) * kap)
      (id (constant (F := Ideal) S_ .f32 0xFF800000#32) ix0 : EReal) := by
  pointwise [sc]
theorem sc_at (Q K : Arr S4096x8x128) (h : Fin 8) (r c : Fin 4096) :
    sc Q K (ix3 h r c) = if c ≤ r then (∑ d : Fin 128, Q (ix3 r h d) * K (ix3 c h d)) * kap else ⊥ := by
  rw [sc_word, mk_at, masked_word, neg_inf]
theorem mx_row (S : Arr S8x4096x4096) (h : Fin 8) (r : Fin 4096) :
    Host.reduce (α := Ideal .f32) FloatOps.maximumf S (constant S_ .f32 0xFF800000#32) reducesTo_S8x4096x4096_S8x4096_d2 h_S_ (ix2 h r)
      = Finset.fold max (Ideal.ofBits .f32 0xFF800000#32) (fun c : Fin 4096 => S (ix3 h r c)) Finset.univ := by
  pointwise
theorem mx_word (X : Arr S8x4096) (h : Fin 8) (r : Fin 4096) :
    maximumf (broadcastInDim S8x4096 ![] bcast_S_S8x4096 (constant S_ .f32 0xFF800000#32)) X (ix2 h r) = max (Ideal.ofBits .f32 0xFF800000#32) (X (ix2 h r)) := by
  pointwise
theorem mx_at (S : Arr S8x4096x4096) (h : Fin 8) (r : Fin 4096) :
    mx S (ix2 h r) = Finset.fold max ⊥ (fun c : Fin 4096 => S (ix3 h r c)) Finset.univ := by
  unfold mx
  rw [mx_word, mx_row, neg_inf]
  exact max_eq_right bot_le
theorem ex_at (S : Arr S8x4096x4096) (M : Arr S8x4096) (h : Fin 8) (r c : Fin 4096) :
    ex S M (ix3 h r c) = Ideal.exp (S (ix3 h r c) - M (ix2 h r)) := by
  pointwise [ex]
theorem sm_at (E : Arr S8x4096x4096) (h : Fin 8) (r : Fin 4096) :
    sm E (ix3 h r 0) = ∑ c : Fin 4096, E (ix3 h r c) := by
  pointwise [sm]
theorem pr_at (E : Arr S8x4096x4096) (L : Arr S8x4096x1) (h : Fin 8) (r c : Fin 4096) :
    pr E L (ix3 h r c) = Ideal.div (E (ix3 h r c)) (L (ix3 h r 0)) := by
  pointwise [pr]
theorem inv2_at (L : Arr S8x4096x1) (h : Fin 8) (r : Fin 4096) :
    inv2 L (ix3 h r 0) = Ideal.div 1 (L (ix3 h r 0) * L (ix3 h r 0)) := by
  pointwise [inv2]
theorem ct_at (A : FVec Ideal S4096x1536 .bf16) (h : Fin 8) (d : Fin 128) (r : Fin 4096) :
    ct A (ix3 h d r) = A (ix2 r ⟨h.val * 128 + d.val, by omega⟩) := by
  pointwise [ct]
theorem dp_at (C : Arr S8x128x4096) (V : Arr S4096x8x128) (h : Fin 8) (r c : Fin 4096) :
    dp C V (ix3 h r c) = ∑ d : Fin 128, C (ix3 h d r) * V (ix3 c h d) := by
  pointwise [dp]
theorem neg_at (D E : Arr S8x4096x4096) (I : Arr S8x4096x1) (h : Fin 8) (r : Fin 4096) :
    neg D E I (ix3 h r 0) = -∑ x : Fin 4096, D (ix3 h r x) * I (ix3 h r 0) * E (ix3 h r x) := by
  pointwise [neg]
theorem dr_at (D E : Arr S8x4096x4096) (L N : Arr S8x4096x1) (h : Fin 8) (r c : Fin 4096) :
    dr D E L N (ix3 h r c) = (Ideal.div (D (ix3 h r c)) (L (ix3 h r 0)) + N (ix3 h r 0)) * E (ix3 h r c) := by
  pointwise [dr]
  simp only [Fin.sum_univ_one, Fin.isValue]
theorem ds_at (R : Arr S8x4096x4096) (h : Fin 8) (r c : Fin 4096) :
    ds R (ix3 h r c) = (if c ≤ r then R (ix3 h r c) else 0) * kap := by
  rw [← mk_at h]
  pointwise [ds]
theorem outQ_at (G : Arr S8x4096x4096) (K : Arr S4096x8x128) (r : Fin 4096) (h : Fin 8) (d : Fin 128) :
    outQ G K (ix2 r ⟨h.val * 128 + d.val, by omega⟩) = ∑ x : Fin 4096, G (ix3 h r x) * K (ix3 x h d) := by
  pointwise [outQ]
theorem outK_at (G : Arr S8x4096x4096) (Q : Arr S4096x8x128) (c : Fin 4096) (h : Fin 8) (d : Fin 128) :
    outK G Q (ix2 c ⟨h.val * 128 + d.val, by omega⟩) = ∑ x : Fin 4096, G (ix3 h x c) * Q (ix3 x h d) := by
  pointwise [outK]
theorem outV_at (C : Arr S8x128x4096) (Y : Arr S8x4096x4096) (c : Fin 4096) (h : Fin 8) (d : Fin 128) :
    outV C Y (ix2 c ⟨h.val * 128 + d.val, by omega⟩) = ∑ x : Fin 4096, C (ix3 h d x) * Y (ix3 h x c) := by
  pointwise [outV]
end Stages

section Results
variable (m : (ℓ : Loc nD τ sig) → Buf (Elt Ideal) ℓ) (c : Dev nD) (h : Fin 8)
  (q k v w : Fin 4096 → Fin 128 → EReal)
  (hq : ∀ r d, aQ m c (ix2 r ⟨h.val * 128 + d.val, by omega⟩) = q r d)
  (hk : ∀ r d, aK m c (ix2 r ⟨h.val * 128 + d.val, by omega⟩) = k r d)
  (hv : ∀ r d, aV m c (ix2 r ⟨h.val * 128 + d.val, by omega⟩) = v r d)
  (hw : ∀ r d, aC m c (ix2 r ⟨h.val * 128 + d.val, by omega⟩) = w r d)

include hq hk in
theorem rS_at (r x : Fin 4096) : rS m c (ix3 h r x) = Soft.score q k r x := by
  unfold rS Soft.score
  rw [sc_at]
  simp only [hd_at, hq, hk]
include hq hk in
theorem rE_at (r x : Fin 4096) : rE m c (ix3 h r x) = Soft.expo q k r x := by
  unfold rE Soft.expo Soft.top
  rw [ex_at, mx_at]
  simp only [rS_at m c h q k hq hk]
include hq hk in
theorem rL_at (r : Fin 4096) : rL m c (ix3 h r 0) = Soft.rowSum q k r := by
  unfold rL Soft.rowSum
  rw [sm_at]
  simp only [rE_at m c h q k hq hk]
include hv hw in
theorem rD_at (r x : Fin 4096) : rD m c (ix3 h r x) = Soft.dweight v w r x := by
  unfold rD Soft.dweight
  rw [dp_at]
  simp only [hd_at, ct_at, hv, hw]
include hq hk hv hw in
theorem rG_at (r x : Fin 4096) : rG m c (ix3 h r x) = Soft.dscore q k v w r x := by
  unfold rG Soft.dscore
  rw [ds_at, dr_at, neg_at, inv2_at]
  simp only [rD_at m c h v w hv hw, rE_at m c h q k hq hk, rL_at m c h q k hq hk]

include hq hk hv hw in
/-- The gradient of the queries. -/
theorem dq_at (r : Fin 4096) (d : Fin 128) :
    res_main_v76 m c (ix2 r ⟨h.val * 128 + d.val, by omega⟩) = ∑ x, Soft.dscore q k v w r x * k x d := by
  rw [v76_eq, outQ_at]
  simp only [rG_at m c h q k v w hq hk hv hw, hd_at, hk]
include hq hk hv hw in
/-- The gradient of the keys. -/
theorem dk_at (r : Fin 4096) (d : Fin 128) :
    res_main_v75 m c (ix2 r ⟨h.val * 128 + d.val, by omega⟩) = ∑ x, Soft.dscore q k v w x r * q x d := by
  rw [v75_eq, outK_at]
  simp only [rG_at m c h q k v w hq hk hv hw, hd_at, hq]
include hq hk hw in
/-- The gradient of the values. -/
theorem dv_at (r : Fin 4096) (d : Fin 128) :
    res_main_v74 m c (ix2 r ⟨h.val * 128 + d.val, by omega⟩) = ∑ x, w x d * Soft.weight q k x r := by
  rw [v74_eq, outV_at]
  simp only [pr_at, ct_at, hw, rE_at m c h q k hq hk, rL_at m c h q k hq hk]
  rfl
end Results

end Cert.ReferenceIdeal.Value

end
-- ==== Proof.AttnMeet.lean ====
/-
  The attention gradient and its reference meet: where the arguments are equal, the reference's three results are the
  kernel's three arrays.
-/
module

public import proofs.«01_k».proof.Proof.AttnFinal
public import proofs.«01_k».proof.Proof.RefRead

@[expose] public section

set_option maxRecDepth 16384

noncomputable section

namespace Cert.Meet

open Idealize.ShloMosaic Idealize.ShloMosaic.TcCoe
open Cert.KernelIdeal.Attn (qh kh vh wh hcol lcol gQ gK gV)

abbrev Res := FVec Ideal Cert.KernelIdeal.S4096x1024 .f32

/-- A column is its head's first column and its lane. -/
theorem col (x : Fin 1024) : x = ⟨(hcol x).val * 128 + (lcol x).val, by have := (hcol x).isLt; have := (lcol x).isLt; omega⟩ := by
  refine Fin.ext ?_
  show x.val = x.val / 128 * 128 + x.val % 128
  omega

theorem ix_eq (ix : Cert.KernelIdeal.S4096x1024.Idx) :
    ix = ix2 (ix 0 : Fin 4096) (⟨(hcol (ix 1)).val * 128 + (lcol (ix 1)).val, by have := (hcol (ix 1)).isLt; have := (lcol (ix 1)).isLt; omega⟩ : Fin 1024) := by
  refine Eq.trans ?_ (congrArg (fun z : Fin 1024 => (ix2 (ix 0 : Fin 4096) z : Cert.KernelIdeal.S4096x1024.Idx)) (col (ix 1)))
  funext a; fin_cases a <;> rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : Cert.ReferenceIdeal.Value.aQ m' c = Cert.KernelIdeal.Attn.aQ m c)
  (h1 : Cert.ReferenceIdeal.Value.aK m' c = Cert.KernelIdeal.Attn.aK m c)
  (h2 : Cert.ReferenceIdeal.Value.aV m' c = Cert.KernelIdeal.Attn.aV m c)
  (h3 : Cert.ReferenceIdeal.Value.aC m' c = Cert.KernelIdeal.Attn.aC m c)

include h0 h1 h2 h3 in
theorem meet_Q : (Cert.ReferenceIdeal.Value.res_main_v76 m' c : Res) = gQ m c := by
  funext ix
  refine (congrArg (Cert.ReferenceIdeal.Value.res_main_v76 m' c : Res) (ix_eq ix)).trans ?_
  exact Cert.ReferenceIdeal.Value.dq_at m' c (hcol (ix 1)) (qh m c (hcol (ix 1))) (kh m c (hcol (ix 1))) (vh m c (hcol (ix 1))) (wh m c (hcol (ix 1)))
    (fun r d => congrFun h0 _) (fun r d => congrFun h1 _) (fun r d => congrFun h2 _) (fun r d => congrFun h3 _) (ix 0) (lcol (ix 1))

include h0 h1 h2 h3 in
theorem meet_K : (Cert.ReferenceIdeal.Value.res_main_v75 m' c : Res) = gK m c := by
  funext ix
  refine (congrArg (Cert.ReferenceIdeal.Value.res_main_v75 m' c : Res) (ix_eq ix)).trans ?_
  exact Cert.ReferenceIdeal.Value.dk_at m' c (hcol (ix 1)) (qh m c (hcol (ix 1))) (kh m c (hcol (ix 1))) (vh m c (hcol (ix 1))) (wh m c (hcol (ix 1)))
    (fun r d => congrFun h0 _) (fun r d => congrFun h1 _) (fun r d => congrFun h2 _) (fun r d => congrFun h3 _) (ix 0) (lcol (ix 1))

include h0 h1 h3 in
theorem meet_V : (Cert.ReferenceIdeal.Value.res_main_v74 m' c : Res) = gV m c := by
  funext ix
  refine (congrArg (Cert.ReferenceIdeal.Value.res_main_v74 m' c : Res) (ix_eq ix)).trans ?_
  refine (Cert.ReferenceIdeal.Value.dv_at m' c (hcol (ix 1)) (qh m c (hcol (ix 1))) (kh m c (hcol (ix 1))) (wh m c (hcol (ix 1)))
    (fun r d => congrFun h0 _) (fun r d => congrFun h1 _) (fun r d => congrFun h3 _) (ix 0) (lcol (ix 1))).trans ?_
  exact Finset.sum_congr (M := EReal) rfl fun x _ => mul_comm (G := EReal) _ _

end Cert.Meet

end
-- ==== Proof.FfCols.lean ====
/-
  A matrix's 4096 columns as eight runs of 512: column `n` of run `d`, a column's run and place in it; a tile of rows
  multiplied with the runs one by one.
-/
module

public import Idealize.ShloMosaic.PureOps.Ideal
public import Idealize.ShloMosaic.Lib.Pipeline.ValueKit

@[expose] public section

noncomputable section

namespace Cert.Cols

open Idealize.ShloMosaic Idealize.ShloMosaic.TcCoe Idealize.ShloMosaic.Tactic

/-- Equal terms, equal sums; equal factors or summands. -/
theorem sums {ι : Type} [Fintype ι] {f g : ι → EReal} (h : ∀ k, f k = g k) : ∑ k, f k = ∑ k, g k := Finset.sum_congr rfl fun k _ => h k
theorem muls {a b c d : EReal} (h : a = c) (k : b = d) : a * b = c * d := congrArg₂ _ h k
theorem adds {a b c d : EReal} (h : a = c) (k : b = d) : a + b = c + d := congrArg₂ _ h k

/-- Column `n` of run `d`. -/
def col (d : Fin 8) (n : Fin 512) : Fin 4096 := ⟨d.val * 512 + n.val, by omega⟩
/-- The run of a column. -/
def run (j : Fin 4096) : Fin 8 := ⟨j.val / 512, by omega⟩
/-- Its place in the run. -/
def inn (j : Fin 4096) : Fin 512 := ⟨j.val % 512, by omega⟩

theorem run_col (d : Fin 8) (n : Fin 512) : run (col d n) = d := Fin.ext (by simp only [run, col]; omega)
theorem inn_col (d : Fin 8) (n : Fin 512) : inn (col d n) = n := Fin.ext (by simp only [inn, col]; omega)
theorem col_run (j : Fin 4096) : col (run j) (inn j) = j := Fin.ext (by simp only [run, inn, col]; omega)

theorem z2 : (![0, 0] : Fin 2 → Nat) = fun _ => 0 := by funext a; fin_cases a <;> rfl
theorem z3 : (![0, 0, 0] : Fin 3 → Nat) = fun _ => 0 := by funext a; fin_cases a <;> rfl

abbrev Rows : Shape := ⟨2, ![512, 1024]⟩
abbrev Tile : Shape := ⟨2, ![512, 4096]⟩
abbrev Sq : Shape := ⟨2, ![512, 512]⟩

/-- One run of a stack of eight, read. -/
theorem ld_run {a b : ℕ} (w : (⟨3, ![8, a, b]⟩ : Shape).Idx → Elt Ideal .bf16) (d : Fin 8) (off : Fin 3 → Nat) (h0 : off = ![d.val, 0, 0]) (inb) (k : Fin a) (n : Fin b) :
    View.ld (Val := Elt Ideal) (e' := .bf16) w (Rect.unit (s := ⟨3, ![8, a, b]⟩) off (⟨3, ![1, a, b]⟩ : Shape).size inb) (ix3 0 k n) = w (ix3 d k n) := by
  subst h0
  refine View.ld_unit_apply_of _ _ _ _ _ _ fun a => ?_
  fin_cases a
  · exact (Nat.add_zero _).symm
  · exact (Nat.zero_add _).symm
  · exact (Nat.zero_add _).symm

/-- Where run `d` of a tile lies in the tile. -/
theorem emb_run (d : Fin 8) (off : Fin 2 → Nat) (h0 : off = ![0, d.val * 512]) (inb : ∀ a, off a + Sq.size a ≤ Tile.size a) (z : Sq.Idx) :
    (Rect.unit (s := Tile) off Sq.size inb).emb z = (ix2 (z 0 : Fin 512) (col d (z 1)) : Tile.Idx) := by
  subst h0
  funext a
  refine Fin.ext ((ValueKit.rect_emb_unit_val _ _ _ _ _).trans ?_)
  fin_cases a
  · exact Nat.zero_add _
  · rfl

/-- A piece whose entries are run `d` of a tile is the tile read at the piece's place. -/
theorem piece {φ : EltTy} (G : Fin 512 → Fin 4096 → Elt Ideal φ) (d : Fin 8) (P : Sq.Idx → Elt Ideal φ) (off : Fin 2 → Nat) (h0 : off = ![0, d.val * 512])
    (inb : ∀ a, off a + Sq.size a ≤ Tile.size a) (hP : ∀ p q : Fin 512, P (ix2 p q) = G p (col d q)) (z : Sq.Idx) :
    P z = (fun ix : Tile.Idx => G (ix 0) (ix 1)) ((Rect.unit (s := Tile) off Sq.size inb).emb z) :=
  (congrArg P (eq_ix2 z)).trans ((hP _ _).trans (congrArg (fun ix : Tile.Idx => G (ix 0) (ix 1)) (emb_run d off h0 inb z)).symm)

/-- A run `d` of a stack's row is read in place. -/
theorem ld_cols {φ : EltTy} (x : Tile.Idx → Elt Ideal φ) (d : Fin 8) (off : Fin 2 → Nat) (h0 : off = ![0, d.val * 512]) (inb) (p q : Fin 512) :
    View.ld (Val := Elt Ideal) (e' := φ) x (Rect.unit (s := Tile) off Sq.size inb) (ix2 p q) = x (ix2 p (col d q)) := by
  subst h0
  refine View.ld_unit_apply_of _ _ _ _ _ _ fun a => ?_
  fin_cases a
  · exact (Nat.zero_add _).symm
  · rfl

/-! ## Rows times a matrix whose columns are kept in runs -/

/-- One entry of a tile's product with one run of columns. -/
def sE (x : FVec Ideal Rows .bf16) (y : FVec Ideal ⟨3, ![1, 1024, 512]⟩ .bf16) (p q : Fin 512) : EReal :=
  ∑ k : Fin 1024, x (ix2 p k) * y (ix3 0 k q)

/-- One entry of a product of `n` rows with the whole matrix. -/
def gE {n : ℕ} (H : FVec Ideal ⟨2, ![n, 1024]⟩ .bf16) (W : FVec Ideal ⟨3, ![8, 1024, 512]⟩ .bf16) (r : Fin n) (j : Fin 4096) : EReal :=
  ∑ k : Fin 1024, H (ix2 r k) * W (ix3 (run j) k (inn j))

/-- A tile's product with run `d` is run `d` of the tile of the whole product. -/
theorem sE_run (x : FVec Ideal Rows .bf16) (w : FVec Ideal ⟨3, ![8, 1024, 512]⟩ .bf16) (p q : Fin 512) (d : Fin 8) (off : Fin 3 → Nat) (h0 : off = ![d.val, 0, 0]) (inb) :
    sE x (View.ld (Val := Elt Ideal) (e' := .bf16) w (Rect.unit (s := ⟨3, ![8, 1024, 512]⟩) off (⟨3, ![1, 1024, 512]⟩ : Shape).size inb)) p q = gE x w p (col d q) := by
  unfold sE gE
  refine sums fun k => ?_
  rw [ld_run w d off h0 inb k q, run_col, inn_col]

/-- A tile's entry of the product is the whole product's. -/
theorem tile_eq (H : FVec Ideal ⟨2, ![4096, 1024]⟩ .bf16) (W : FVec Ideal ⟨3, ![8, 1024, 512]⟩ .bf16) (x : FVec Ideal Rows .bf16)
    (w : FVec Ideal ⟨3, ![8, 1024, 512]⟩ .bf16) (d : Fin 8)
    (hx : ∀ (r : Fin 512) (k : Fin 1024), x (ix2 r k) = H (ix2 (col d r) k))
    (hw : ∀ (e : Fin 8) (k : Fin 1024) (n : Fin 512), w (ix3 e k n) = W (ix3 e k n)) (p : Fin 512) (j : Fin 4096) :
    gE x w p j = gE H W (col d p) j := by
  unfold gE
  exact sums fun k => muls (hx p k) (hw _ k _)

end Cert.Cols

end
-- ==== Proof.FfDw.lean ====
/-
  The gradient of a matrix kept in eight runs of columns (the call `l1_dw1`): every run is the product of the
  transposed rows with the run's columns of the output's gradient, which is the whole product's columns.
-/
module

public import proofs.«01_k».proof.Proof.Gen.KernelDwIdeal.Frame
public import proofs.«01_k».proof.Proof.Gen.ReferenceDwIdeal.Run
public import proofs.«01_k».proof.Defs
public import proofs.«01_k».proof.Proof.FfCols
public import Idealize.ShloMosaic.Lib.Pipeline.ValueKit

@[expose] public section

set_option maxRecDepth 16384

noncomputable section

namespace Cert.KernelDwIdeal.Val

open Cert.KernelDwIdeal Cert.KernelDwIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The rows and the output's gradient. -/
abbrev aH : FVec Ideal S4096x1024 .bf16 := m ((c : Thread nD τ).loc main_arg0)
abbrev aD : FVec Ideal S4096x4096 .bf16 := m ((c : Thread nD τ).loc main_arg1)

theorem idx : ∀ t : Fin cfg0.N, win0_0.index t = ![0, 0] ∧ win0_1.index t = ![0, t.val] ∧ win0_2.index t = ![t.val, 0, 0]
    ∧ win0_3.index t = ![t.val, 0, 0] := by decide +kernel

theorem lt8 (t : Fin cfg0.N) : t.val < 8 := lt_of_lt_of_eq t.isLt N_0

theorem pay1_at (x : Vec Ideal S4096x1024 .bf16) (y : Vec Ideal S4096x512 .bf16) (k : Fin 1024) (n : Fin 512) :
    k0_pay1 (F := Ideal) x y (ix2 k n) = ∑ r : Fin 4096, x (ix2 r k) * y (ix2 r n) := by
  pointwise [k0_pay1]

theorem pay2_at (x : Vec Ideal S4096x1024 .bf16) (y : Vec Ideal S4096x512 .bf16) (k : Fin 1024) (n : Fin 512) :
    k0_pay2 (F := Ideal) x y (ix3 0 k n) = ∑ r : Fin 4096, x (ix2 r k) * y (ix2 r n) := by
  pointwise [k0_pay2, k0_pay1]

theorem pay3_at (x : Vec Ideal S4096x1024 .bf16) (y : Vec Ideal S4096x512 .bf16) (k : Fin 1024) (n : Fin 512) :
    k0_pay3 (F := Ideal) x y (ix3 0 k n) = ∑ r : Fin 4096, x (ix2 r k) * y (ix2 r n) := by
  pointwise [k0_pay3, k0_pay1]

theorem blkH (t : Fin cfg0.N) (r : Fin 4096) (k : Fin 1024) : iblk m c 0 t (ix2 r k) = aH m c (ix2 r k) := by
  blk_ext [iblk, idx t]
theorem blkD (t : Fin cfg0.N) (r : Fin 4096) (n : Fin 512) :
    iblk m c 1 t (ix2 r n) = aD m c (ix2 r ⟨t.val * 512 + n.val, by have := lt8 t; omega⟩) := by
  blk_ext [iblk, idx t]

/-- One entry of the gradient: run `d`, row `k`, column `n` of the run. -/
def gD (H : FVec Ideal S4096x1024 .bf16) (D : FVec Ideal S4096x4096 .bf16) (d : Fin 8) (k : Fin 1024) (n : Fin 512) : EReal :=
  ∑ r : Fin 4096, H (ix2 r k) * D (ix2 r (col d n))

/-- The gradient. -/
def gW : FVec Ideal S8x1024x512 .f32 := fun ix => gD (aH m c) (aD m c) (ix 0) (ix 1) (ix 2)

theorem sum_eq (x : Vec Ideal S4096x1024 .bf16) (y : Vec Ideal S4096x512 .bf16) (d : Fin 8)
    (hx : ∀ (r : Fin 4096) (k : Fin 1024), x (ix2 r k) = aH m c (ix2 r k))
    (hy : ∀ (r : Fin 4096) (n : Fin 512), y (ix2 r n) = aD m c (ix2 r (col d n))) (k : Fin 1024) (n : Fin 512) :
    ∑ r : Fin 4096, x (ix2 r k) * y (ix2 r n) = gW m c (ix3 d k n) := by
  refine Eq.trans (b := gD (aH m c) (aD m c) d k n) ?_ rfl
  unfold gD
  exact Cols.sums fun r => Cols.muls (hx r k) (hy r n)

theorem out2_at (t : Fin cfg0.N) (k : Fin 1024) (n : Fin 512) :
    out0_2 (iblk m c 0 t) (iblk m c 1 t) (ix3 0 k n) = gW m c (ix3 ⟨t.val, lt8 t⟩ k n) := by
  unfold out0_2
  rw [View.canon_unit_zero z3, View.ld_unit_zero z2, View.ld_unit_zero z2, pay2_at]
  exact sum_eq m c _ _ ⟨t.val, lt8 t⟩ (blkH m c t) (blkD m c t) k n

theorem out3_at (t : Fin cfg0.N) (k : Fin 1024) (n : Fin 512) :
    out0_3 (iblk m c 0 t) (iblk m c 1 t) (ix3 0 k n) = gW m c (ix3 ⟨t.val, lt8 t⟩ k n) := by
  unfold out0_3
  rw [View.canon_unit_zero z3, View.ld_unit_zero z2, View.ld_unit_zero z2, pay3_at]
  exact sum_eq m c _ _ ⟨t.val, lt8 t⟩ (blkH m c t) (blkD m c t) k n

theorem final2 : (dats m 0 c).arrAt 2 cfg0.N = gW m c := by
  refine (dats m 0 c).arrAt_eq_of_covers 2 _ (by decide +kernel) fun t hf y => ?_
  blk_simp
  rw [after0_2]
  have ey : (y : S1x1024x512.Idx) = ix3 (0 : Fin 1) (y 1 : Fin 1024) (y 2 : Fin 512) := by
    funext a; fin_cases a
    · exact Subsingleton.elim (α := Fin 1) _ _
    · rfl
    · rfl
  have ee : ((((cfg0.win 2).blk t).view.emb y) : S8x1024x512.Idx) = ix3 (⟨t.val, lt8 t⟩ : Fin 8) (y 1 : Fin 1024) (y 2 : Fin 512) := by
    blk_ext [idx t]
  refine (congrArg (out0_2 (iblk m c 0 t) (iblk m c 1 t)) ey).trans ((out2_at m c t (y 1) (y 2)).trans ?_)
  exact (congrArg (gW m c) ee).symm

theorem final3 : (dats m 0 c).arrAt 3 cfg0.N = gW m c := by
  refine (dats m 0 c).arrAt_eq_of_covers 3 _ (by decide +kernel) fun t hf y => ?_
  blk_simp
  rw [after0_3]
  have ey : (y : S1x1024x512.Idx) = ix3 (0 : Fin 1) (y 1 : Fin 1024) (y 2 : Fin 512) := by
    funext a; fin_cases a
    · exact Subsingleton.elim (α := Fin 1) _ _
    · rfl
    · rfl
  have ee : ((((cfg0.win 3).blk t).view.emb y) : S8x1024x512.Idx) = ix3 (⟨t.val, lt8 t⟩ : Fin 8) (y 1 : Fin 1024) (y 2 : Fin 512) := by
    blk_ext [idx t]
  refine (congrArg (out0_3 (iblk m c 0 t) (iblk m c 1 t)) ey).trans ((out3_at m c t (y 1) (y 2)).trans ?_)
  exact (congrArg (gW m c) ee).symm

/-- The launch, read: both copies of the gradient, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = gW m c ∧ r.2.mem ((c.tc : Thread nD τ).loc main_v0_1) = gW m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelDwIdeal.Val

namespace Cert.ReferenceDwIdeal.Val

open Cert.ReferenceDwIdeal Cert.ReferenceDwIdeal.Gen Idealize.ShloMosaic Idealize.ShloMosaic.TcCoe Idealize.SL.Sem Idealize.ShloMosaic.StableHlo

/-- The reference's result of the rows and the output's gradient, read at an index. -/
theorem res_at (H : FVec Ideal S4096x1024 .bf16) (D : FVec Ideal S4096x4096 .bf16) (d : Fin 8) (k : Fin 1024) (n : Fin 512) :
    (transpose S8x1024x512 [1, 0, 2] (shapeCast S1024x8x512 (transpose S1024x4096 [1, 0] (Host.dotGeneral dot_S4096x4096_S4096x1024_S4096x1024_0_0_1_1_n_n none
      (extf .f32 D bitsLt_bf16_f32) (extf .f32 H bitsLt_bf16_f32)) transposes_S4096x1024_S1024x4096_1_0) shapeCasts_S1024x4096_S1024x8x512)
      transposes_S1024x8x512_S8x1024x512_1_0_2 : FVec Ideal S8x1024x512 .f32) (ix3 d k n)
      = ∑ r : Fin 4096, D (ix2 r ⟨d.val * 512 + n.val, by omega⟩) * H (ix2 r k) := by
  pointwise

end Cert.ReferenceDwIdeal.Val

namespace Cert.Proof

open Idealize.ShloMosaic Idealize.SL.Sem

theorem values_Dw : Cert.algebraic_KernelDwIdeal_ReferenceDwIdeal := by
  intro m g m' g' _ hargs
  have meet : ∀ c : Dev Cert.KernelDwIdeal.nD, ∀ ix, _ = Cert.KernelDwIdeal.Val.gW m c ix := fun c ix =>
    (congrArg _ (eq_ix3 ix)).trans ((Cert.ReferenceDwIdeal.Val.res_at (Cert.KernelDwIdeal.Val.aH m c) (Cert.KernelDwIdeal.Val.aD m c) (ix 0) (ix 1) (ix 2)).trans
      (Cols.sums fun r => mul_comm (G := EReal) _ _))
  refine ⟨Cert.KernelDwIdeal.Val.gW m, Cert.KernelDwIdeal.Val.gW m,
    Cert.KernelDwIdeal.Val.run m g,
    (θ_run Cert.ReferenceDwIdeal.defs _ _).mono
      (fun r h c => ⟨(h c).1.trans ?_, (h c).2.1.trans ?_, (h c).2.2⟩)
      (Cert.ReferenceDwIdeal.Value.run m' g')⟩
  · rw [(hargs c).1, (hargs c).2]
    exact funext (meet c)
  · rw [(hargs c).1, (hargs c).2]
    exact funext (meet c)

end Cert.Proof

end
-- ==== Proof.FfDv.lean ====
/-
  The gradient of the feed-forward's second matrix (the call `dw2`): every run of rows is the product of the
  transposed run of the hidden values with the output's gradient.
-/
module

public import proofs.«01_k».proof.Proof.Gen.KernelDvIdeal.Frame
public import proofs.«01_k».proof.Proof.Gen.ReferenceDvIdeal.Run
public import Idealize.ShloMosaic.Lib.StableHlo.ReadAt
public import proofs.«01_k».proof.Defs
public import proofs.«01_k».proof.Proof.FfCols
public import Idealize.ShloMosaic.Lib.Pipeline.ValueKit

@[expose] public section

set_option maxRecDepth 16384

noncomputable section

namespace Cert.KernelDvIdeal.Val

open Cert.KernelDvIdeal Cert.KernelDvIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The first product and the output's gradient. -/
abbrev aA : FVec Ideal S4096x4096 .bf16 := m ((c : Thread nD τ).loc main_arg0)
abbrev aD : FVec Ideal S4096x1024 .bf16 := m ((c : Thread nD τ).loc main_arg1)

/-- The square of a number's positive part. -/
def psq (a : EReal) : EReal := max a 0 * max a 0

/-- The host's positive part of the first product. -/
def pos : FVec Ideal S4096x4096 .f32 :=
  maximumf (extf .f32 (aA m c) bitsLt_bf16_f32) (broadcastInDim S4096x4096 ![] bcast_S_S4096x4096 (constant S_ .f32 0x00000000#32))
/-- Its square, which the launch is given. -/
def act : FVec Ideal S4096x4096 .bf16 := truncf .bf16 (mulf (pos m c) (pos m c)) bitsLt_bf16_f32

theorem act_at (r j : Fin 4096) : act m c (ix2 r j) = psq (aA m c (ix2 r j)) := by
  unfold psq
  pointwise [act, pos]

theorem v3_eq : (V m c main_v3 : FVec Ideal S4096x4096 .bf16) = act m c := by
  unfold V
  after_reads_simp
  all_goals try simp -implicitDefEqProofs only [StableHlo.TRef.toBuf, StableHlo.TRef.ofBuf, cast_cast, cast_eq]
  rfl

theorem idx : ∀ t : Fin cfg0.N, win0_0.index t = ![0, t.val] ∧ win0_1.index t = ![0, 0] ∧ win0_2.index t = ![t.val, 0]
    ∧ win0_3.index t = ![t.val, 0] := by decide +kernel

theorem lt8 (t : Fin cfg0.N) : t.val < 8 := lt_of_lt_of_eq t.isLt N_0

theorem pay2_at (x : Vec Ideal S4096x512 .bf16) (y : Vec Ideal S4096x1024 .bf16) (n : Fin 512) (k : Fin 1024) :
    k0_pay2 (F := Ideal) x y (ix2 n k) = ∑ r : Fin 4096, x (ix2 r n) * y (ix2 r k) := by
  pointwise [k0_pay2, k0_pay1]

theorem pay3_at (x : Vec Ideal S4096x512 .bf16) (y : Vec Ideal S4096x1024 .bf16) (n : Fin 512) (k : Fin 1024) :
    k0_pay3 (F := Ideal) x y (ix2 n k) = ∑ r : Fin 4096, x (ix2 r n) * y (ix2 r k) := by
  pointwise [k0_pay3, k0_pay1]

theorem blkA (t : Fin cfg0.N) (r : Fin 4096) (n : Fin 512) :
    iblk m c 0 t (ix2 r n) = (V m c main_v3 : FVec Ideal S4096x4096 .bf16) (ix2 r ⟨t.val * 512 + n.val, by have := lt8 t; omega⟩) := by
  blk_ext [iblk, idx t]
theorem blkD (t : Fin cfg0.N) (r : Fin 4096) (k : Fin 1024) :
    iblk m c 1 t (ix2 r k) = (V m c main_arg1 : FVec Ideal S4096x1024 .bf16) (ix2 r k) := by
  blk_ext [iblk, idx t]

/-- One entry of the gradient. -/
def gE (A : FVec Ideal S4096x4096 .bf16) (D : FVec Ideal S4096x1024 .bf16) (j : Fin 4096) (k : Fin 1024) : EReal :=
  ∑ r : Fin 4096, psq (A (ix2 r j)) * D (ix2 r k)

/-- The gradient. -/
def gW : FVec Ideal S4096x1024 .f32 := fun ix => gE (aA m c) (aD m c) (ix 0) (ix 1)

theorem sum_eq (x : Vec Ideal S4096x512 .bf16) (y : Vec Ideal S4096x1024 .bf16) (d : Fin 8)
    (hx : ∀ (r : Fin 4096) (n : Fin 512), x (ix2 r n) = psq (aA m c (ix2 r (col d n))))
    (hy : ∀ (r : Fin 4096) (k : Fin 1024), y (ix2 r k) = aD m c (ix2 r k)) (n : Fin 512) (k : Fin 1024) :
    ∑ r : Fin 4096, x (ix2 r n) * y (ix2 r k) = gW m c (ix2 (col d n) k) := by
  refine Eq.trans (b := gE (aA m c) (aD m c) (col d n) k) ?_ rfl
  unfold gE
  exact Cols.sums fun r => Cols.muls (hx r n) (hy r k)

theorem inA (t : Fin cfg0.N) (r : Fin 4096) (n : Fin 512) : iblk m c 0 t (ix2 r n) = psq (aA m c (ix2 r (col ⟨t.val, lt8 t⟩ n))) :=
  (blkA m c t r n).trans ((congrFun (v3_eq m c) _).trans (act_at m c r _))
theorem inD (t : Fin cfg0.N) (r : Fin 4096) (k : Fin 1024) : iblk m c 1 t (ix2 r k) = aD m c (ix2 r k) :=
  (blkD m c t r k).trans (congrFun (V_main_arg1 m c) _)

theorem out2_at (t : Fin cfg0.N) (n : Fin 512) (k : Fin 1024) :
    out0_2 (iblk m c 0 t) (iblk m c 1 t) (ix2 n k) = gW m c (ix2 (col ⟨t.val, lt8 t⟩ n) k) := by
  unfold out0_2
  rw [View.canon_unit_zero z2, View.ld_unit_zero z2, View.ld_unit_zero z2, pay2_at]
  exact sum_eq m c _ _ ⟨t.val, lt8 t⟩ (inA m c t) (inD m c t) n k

theorem final2 : (dats m 0 c).arrAt 2 cfg0.N = gW m c := by
  refine (dats m 0 c).arrAt_eq_of_covers 2 _ (by decide +kernel) fun t hf y => ?_
  blk_simp
  rw [after0_2]
  have ey : (y : S512x1024.Idx) = ix2 (y 0 : Fin 512) (y 1 : Fin 1024) := by
    funext a; fin_cases a <;> rfl
  have ee : ((((cfg0.win 2).blk t).view.emb y) : S4096x1024.Idx) = ix2 (col ⟨t.val, lt8 t⟩ (y 0 : Fin 512)) (y 1 : Fin 1024) := by
    unfold col
    blk_ext [idx t]
  refine (congrArg (out0_2 (iblk m c 0 t) (iblk m c 1 t)) ey).trans ((out2_at m c t (y 0) (y 1)).trans ?_)
  exact (congrArg (gW m c) ee).symm

theorem out3_at (t : Fin cfg0.N) (n : Fin 512) (k : Fin 1024) :
    out0_3 (iblk m c 0 t) (iblk m c 1 t) (ix2 n k) = gW m c (ix2 (col ⟨t.val, lt8 t⟩ n) k) := by
  unfold out0_3
  rw [View.canon_unit_zero z2, View.ld_unit_zero z2, View.ld_unit_zero z2, pay3_at]
  exact sum_eq m c _ _ ⟨t.val, lt8 t⟩ (inA m c t) (inD m c t) n k

theorem final3 : (dats m 0 c).arrAt 3 cfg0.N = gW m c := by
  refine (dats m 0 c).arrAt_eq_of_covers 3 _ (by decide +kernel) fun t hf y => ?_
  blk_simp
  rw [after0_3]
  have ey : (y : S512x1024.Idx) = ix2 (y 0 : Fin 512) (y 1 : Fin 1024) := by
    funext a; fin_cases a <;> rfl
  have ee : ((((cfg0.win 3).blk t).view.emb y) : S4096x1024.Idx) = ix2 (col ⟨t.val, lt8 t⟩ (y 0 : Fin 512)) (y 1 : Fin 1024) := by
    unfold col
    blk_ext [idx t]
  refine (congrArg (out0_3 (iblk m c 0 t) (iblk m c 1 t)) ey).trans ((out3_at m c t (y 0) (y 1)).trans ?_)
  exact (congrArg (gW m c) ee).symm

/-- The launch, read: both copies of the gradient, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v4_0) = gW m c ∧ r.2.mem ((c.tc : Thread nD τ).loc main_v4_1) = gW m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final2 m c), ((h c).1 3).trans (final3 m c),
      (h c).2 main_arg0 (by decide),
      ((h c).1 1).trans (((dats m 0 c).arrAt_in 1 rfl _).trans ((A_eq m c 1).trans (V_main_arg1 m c)))⟩)
    (run_main m ρ)

end Cert.KernelDvIdeal.Val

namespace Cert.ReferenceDvIdeal.Val

open Cert.ReferenceDvIdeal Cert.ReferenceDvIdeal.Gen Idealize.ShloMosaic Idealize.ShloMosaic.TcCoe Idealize.SL.Sem Idealize.ShloMosaic.StableHlo
open Cert.KernelDvIdeal.Val (psq gE)

/-- The reference's hidden values. -/
def hid (A : FVec Ideal S4096x4096 .bf16) : FVec Ideal S4096x4096 .f32 :=
  mulf (maximumf (extf .f32 A bitsLt_bf16_f32) (broadcastInDim S4096x4096 ![] bcast_S_S4096x4096 (constant S_ .f32 0x00000000#32)))
    (maximumf (extf .f32 A bitsLt_bf16_f32) (broadcastInDim S4096x4096 ![] bcast_S_S4096x4096 (constant S_ .f32 0x00000000#32)))

theorem hid_at (A : FVec Ideal S4096x4096 .bf16) (r j : Fin 4096) : hid A (ix2 r j) = psq (A (ix2 r j)) := by
  unfold psq
  pointwise [hid]

/-- The reference's result. -/
def res (A : FVec Ideal S4096x4096 .bf16) (D : FVec Ideal S4096x1024 .bf16) : FVec Ideal S4096x1024 .f32 :=
  transpose S4096x1024 [1, 0] (Host.dotGeneral dot_S4096x1024_S4096x4096_S1024x4096_0_0_1_1_n_n none (extf .f32 D bitsLt_bf16_f32) (hid A))
    transposes_S1024x4096_S4096x1024_1_0

theorem res_at (A : FVec Ideal S4096x4096 .bf16) (D : FVec Ideal S4096x1024 .bf16) (j : Fin 4096) (k : Fin 1024) :
    res A D (ix2 j k) = gE A D j k := by
  refine Eq.trans (b := ∑ r : Fin 4096, D (ix2 r k) * hid A (ix2 r j)) ?_ ?_
  · unfold res; pointwise
  · refine Cols.sums fun r => ?_
    rw [hid_at]
    exact mul_comm (G := EReal) _ _

end Cert.ReferenceDvIdeal.Val

namespace Cert.Proof

open Idealize.ShloMosaic Idealize.SL.Sem

theorem values_Dv : Cert.algebraic_KernelDvIdeal_ReferenceDvIdeal := by
  intro m g m' g' _ hargs
  have meet : ∀ c : Dev Cert.KernelDvIdeal.nD, ∀ ix, Cert.ReferenceDvIdeal.Val.res (Cert.KernelDvIdeal.Val.aA m c) (Cert.KernelDvIdeal.Val.aD m c) ix
      = Cert.KernelDvIdeal.Val.gW m c ix := fun c ix =>
    (congrArg _ (eq_ix2 ix)).trans (Cert.ReferenceDvIdeal.Val.res_at (Cert.KernelDvIdeal.Val.aA m c) (Cert.KernelDvIdeal.Val.aD m c) (ix 0) (ix 1))
  refine ⟨Cert.KernelDvIdeal.Val.gW m, Cert.KernelDvIdeal.Val.gW m,
    Cert.KernelDvIdeal.Val.run_eq m g,
    (θ_run Cert.ReferenceDvIdeal.defs _ _).mono
      (fun r h c => ⟨(h c).1.trans ?_, (h c).2.1.trans ?_, (h c).2.2⟩)
      (Cert.ReferenceDvIdeal.Value.run m' g')⟩
  · rw [(hargs c).1, (hargs c).2]
    exact funext (meet c)
  · rw [(hargs c).1, (hargs c).2]
    exact funext (meet c)

end Cert.Proof

end
-- ==== Proof.FfDa.lean ====
/-
  The gradient of the feed-forward's hidden values (the call `dact`): a tile of rows of the output's gradient is
  multiplied with the transposed runs of the second matrix, times twice the positive part of the hidden value; where the
  hidden value is not positive both sides are nought.
-/
module

public import proofs.«01_k».proof.Proof.Gen.KernelDaIdeal.Frame
public import proofs.«01_k».proof.Proof.Gen.ReferenceDaIdeal.Run
public import proofs.«01_k».proof.Defs
public import proofs.«01_k».proof.Proof.FfCols
public import Idealize.ShloMosaic.Lib.Pipeline.ValueKit

@[expose] public section

set_option maxRecDepth 16384

noncomputable section

namespace Cert.KernelDaIdeal.Val

open Cert.KernelDaIdeal Cert.KernelDaIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The hidden values, the output's gradient, the matrix. -/
abbrev aA : FVec Ideal S4096x4096 .bf16 := m ((c : Thread nD τ).loc main_arg0)
abbrev aD : FVec Ideal S4096x1024 .bf16 := m ((c : Thread nD τ).loc main_arg1)
abbrev aW : FVec Ideal S8x512x1024 .bf16 := m ((c : Thread nD τ).loc main_arg2)

theorem idx : ∀ t : Fin cfg0.N, win0_0.index t = ![t.val, 0] ∧ win0_1.index t = ![0, 0, 0] ∧ win0_2.index t = ![t.val, 0]
    ∧ win0_3.index t = ![t.val, 0] := by
  decide +kernel

theorem lt8 (t : Fin cfg0.N) : t.val < 8 := lt_of_lt_of_eq t.isLt N_0

/-- The factor of the square's derivative. -/
def two : EReal := (Scalar.ofBits .f32 0x40000000#32 : Ideal .f32)
/-- A product's entry times the derivative of the positive part's square. -/
def dr (s a : EReal) : EReal := s * two * max a 0

/-! ## A tile's stores -/

section Stores

variable (x : Vec Ideal S512x1024 .bf16) (y : Vec Ideal S1x512x1024 .bf16) (a : Vec Ideal S512x512 .bf16) (p q : Fin 512)

/-- One entry of a tile's product with one transposed run. -/
def sT : EReal := ∑ k : Fin 1024, x (ix2 p k) * y (ix3 0 q k)

theorem pay1_at : k0_pay1 (F := Ideal) x y a (ix2 p q) = dr (sT x y p q) (a (ix2 p q)) := by
  unfold dr sT two; pointwise [k0_pay1]
theorem pay11_at : k0_pay11 (F := Ideal) x y a (ix2 p q) = dr (sT x y p q) (a (ix2 p q)) := by
  unfold dr sT two; pointwise [k0_pay11]
theorem pay10_at : k0_pay10 (F := Ideal) x y a (ix2 p q) = dr (sT x y p q) (a (ix2 p q)) := by
  unfold dr sT two; pointwise [k0_pay10]
theorem pay9_at : k0_pay9 (F := Ideal) (k0_pay7 (F := Ideal) x y) (k0_pay8 (F := Ideal) a) (Scalar.ofBits .f32 0x00000000#32) (ix2 p q) = dr (sT x y p q) (a (ix2 p q)) := by
  unfold dr sT two; pointwise [k0_pay9, k0_pay7, k0_pay8]
theorem pay6_at : k0_pay6 (F := Ideal) x y a (ix2 p q) = dr (sT x y p q) (a (ix2 p q)) := by
  unfold dr sT two; pointwise [k0_pay6]
theorem pay5_at : k0_pay5 (F := Ideal) x (k0_pay4 (F := Ideal) y) a (ix2 p q) = dr (sT x y p q) (a (ix2 p q)) := by
  unfold dr sT two; pointwise [k0_pay5, k0_pay4]
theorem pay3_at : k0_pay3 (F := Ideal) x y a (ix2 p q) = dr (sT x y p q) (a (ix2 p q)) := by
  unfold dr sT two; pointwise [k0_pay3]
theorem pay2_at : k0_pay2 (F := Ideal) x y a (ix2 p q) = dr (sT x y p q) (a (ix2 p q)) := by
  unfold dr sT two; pointwise [k0_pay2]

end Stores

/-- One entry of a product of `n` rows with the whole transposed matrix. -/
def gT {n : ℕ} (D : FVec Ideal ⟨2, ![n, 1024]⟩ .bf16) (W : FVec Ideal S8x512x1024 .bf16) (r : Fin n) (j : Fin 4096) : EReal :=
  ∑ k : Fin 1024, D (ix2 r k) * W (ix3 (run j) (inn j) k)

section Tile

variable (x : Vec Ideal S512x1024 .bf16) (w : Vec Ideal S8x512x1024 .bf16) (b : Vec Ideal S512x4096 .bf16) (p q : Fin 512)

theorem sT_run (d : Fin 8) (off : Fin 3 → Nat) (h0 : off = ![d.val, 0, 0]) (inb) :
    sT x (View.ld (Val := Elt Ideal) (e' := .bf16) w (Rect.unit (s := S8x512x1024) off S1x512x1024.size inb)) p q = gT x w p (col d q) := by
  unfold sT gT
  refine Cols.sums fun k => ?_
  rw [ld_run w d off h0 inb q k, run_col, inn_col]

theorem out3_eq : out0_3 x w b = fun ix : S512x4096.Idx => (fun p j => dr (gT x w p j) (b (ix2 p j)) : Fin 512 → Fin 4096 → Elt Ideal .bf16) (ix 0) (ix 1) := by
  unfold out0_3
  rw [View.ld_unit_zero z2]
  funext y
  refine View.canon_apply_of_pieces (Val := Elt Ideal) (e := .bf16) (fun ix : S512x4096.Idx => (fun p j => dr (gT x w p j) (b (ix2 p j)) : Fin 512 → Fin 4096 → Elt Ideal .bf16) (ix 0) (ix 1)) _ ?_ y (cover0_3 _ _ _ _ _ _ _ _ y)
  intro P hP z
  simp only [List.mem_cons, List.not_mem_nil, or_false] at hP
  rcases hP with h | h | h | h | h | h | h | h <;> subst h
  · exact piece (φ := .bf16) (fun p j => dr (gT x w p j) (b (ix2 p j))) 7 _ _ rfl inb_S512x4096_S512x512_0_3584 (fun p q => (pay1_at x _ _ p q).trans
      (congrArg₂ dr (sT_run x w p q 7 _ rfl _) (ld_cols (φ := .bf16) b 7 _ rfl inb_S512x4096_S512x512_0_3584 p q))) z
  · exact piece (φ := .bf16) (fun p j => dr (gT x w p j) (b (ix2 p j))) 6 _ _ rfl inb_S512x4096_S512x512_0_3072 (fun p q => (pay11_at x _ _ p q).trans
      (congrArg₂ dr (sT_run x w p q 6 _ rfl _) (ld_cols (φ := .bf16) b 6 _ rfl inb_S512x4096_S512x512_0_3072 p q))) z
  · exact piece (φ := .bf16) (fun p j => dr (gT x w p j) (b (ix2 p j))) 5 _ _ rfl inb_S512x4096_S512x512_0_2560 (fun p q => (pay10_at x _ _ p q).trans
      (congrArg₂ dr (sT_run x w p q 5 _ rfl _) (ld_cols (φ := .bf16) b 5 _ rfl inb_S512x4096_S512x512_0_2560 p q))) z
  · exact piece (φ := .bf16) (fun p j => dr (gT x w p j) (b (ix2 p j))) 4 _ _ rfl inb_S512x4096_S512x512_0_2048 (fun p q => (pay9_at x _ _ p q).trans
      (congrArg₂ dr (sT_run x w p q 4 _ rfl _) (ld_cols (φ := .bf16) b 4 _ rfl inb_S512x4096_S512x512_0_2048 p q))) z
  · exact piece (φ := .bf16) (fun p j => dr (gT x w p j) (b (ix2 p j))) 3 _ _ rfl inb_S512x4096_S512x512_0_1536 (fun p q => (pay6_at x _ _ p q).trans
      (congrArg₂ dr (sT_run x w p q 3 _ rfl _) (ld_cols (φ := .bf16) b 3 _ rfl inb_S512x4096_S512x512_0_1536 p q))) z
  · exact piece (φ := .bf16) (fun p j => dr (gT x w p j) (b (ix2 p j))) 2 _ _ rfl inb_S512x4096_S512x512_0_1024 (fun p q => (pay5_at x _ _ p q).trans
      (congrArg₂ dr (sT_run x w p q 2 _ rfl _) (ld_cols (φ := .bf16) b 2 _ rfl inb_S512x4096_S512x512_0_1024 p q))) z
  · exact piece (φ := .bf16) (fun p j => dr (gT x w p j) (b (ix2 p j))) 1 _ _ rfl inb_S512x4096_S512x512_0_512 (fun p q => (pay3_at x _ _ p q).trans
      (congrArg₂ dr (sT_run x w p q 1 _ rfl _) (ld_cols (φ := .bf16) b 1 _ rfl inb_S512x4096_S512x512_0_512 p q))) z
  · exact piece (φ := .bf16) (fun p j => dr (gT x w p j) (b (ix2 p j))) 0 _ _ rfl inb_S512x4096_S512x512_0_0 (fun p q => (pay2_at x _ _ p q).trans
      (congrArg₂ dr (sT_run x w p q 0 _ rfl _) (ld_cols (φ := .bf16) b 0 _ rfl inb_S512x4096_S512x512_0_0 p q))) z

end Tile

/-! ## The launch -/

theorem blkD (t : Fin cfg0.N) (r : Fin 512) (k : Fin 1024) :
    iblk m c 0 t (ix2 r k) = aD m c (ix2 ⟨t.val * 512 + r.val, by have := lt8 t; omega⟩ k) := by
  blk_ext [iblk, idx t]
theorem blkW (t : Fin cfg0.N) (d : Fin 8) (n : Fin 512) (k : Fin 1024) : iblk m c 1 t (ix3 d n k) = aW m c (ix3 d n k) := by
  blk_ext [iblk, idx t]
theorem blkA (t : Fin cfg0.N) (r : Fin 512) (j : Fin 4096) :
    iblk m c 2 t (ix2 r j) = aA m c (ix2 ⟨t.val * 512 + r.val, by have := lt8 t; omega⟩ j) := by
  blk_ext [iblk, idx t]

/-- The gradient. -/
def gW : FVec Ideal S4096x4096 .bf16 := fun ix => dr (gT (aD m c) (aW m c) (ix 0) (ix 1)) (aA m c (ix2 (ix 0) (ix 1)))

theorem tileT_eq (x : Vec Ideal S512x1024 .bf16) (w : Vec Ideal S8x512x1024 .bf16) (d : Fin 8)
    (hx : ∀ (r : Fin 512) (k : Fin 1024), x (ix2 r k) = aD m c (ix2 (col d r) k))
    (hw : ∀ (e : Fin 8) (n : Fin 512) (k : Fin 1024), w (ix3 e n k) = aW m c (ix3 e n k)) (p : Fin 512) (j : Fin 4096) :
    gT x w p j = gT (aD m c) (aW m c) (col d p) j := by
  unfold gT
  exact Cols.sums fun k => Cols.muls (hx p k) (hw _ _ k)

theorem out3_at (t : Fin cfg0.N) (p : Fin 512) (j : Fin 4096) :
    out0_3 (iblk m c 0 t) (iblk m c 1 t) (iblk m c 2 t) (ix2 p j) = gW m c (ix2 (col ⟨t.val, lt8 t⟩ p) j) :=
  (congrFun (out3_eq _ _ _) (ix2 p j)).trans
    (congrArg₂ dr (tileT_eq m c _ _ ⟨t.val, lt8 t⟩ (blkD m c t) (blkW m c t) p j) (blkA m c t p j))

theorem final : (dats m 0 c).arrAt 3 cfg0.N = gW m c := by
  refine (dats m 0 c).arrAt_eq_of_covers 3 _ (by decide +kernel) fun t hf y => ?_
  blk_simp
  rw [after0_3]
  have ey : (y : S512x4096.Idx) = ix2 (y 0 : Fin 512) (y 1 : Fin 4096) := by
    funext a; fin_cases a <;> rfl
  have ee : ((((cfg0.win 3).blk t).view.emb y) : S4096x4096.Idx) = ix2 (col ⟨t.val, lt8 t⟩ (y 0 : Fin 512)) (y 1 : Fin 4096) := by
    unfold col
    blk_ext [idx t]
  refine (congrArg (out0_3 (iblk m c 0 t) (iblk m c 1 t) (iblk m c 2 t)) ey).trans ((out3_at m c t (y 0) (y 1)).trans ?_)
  exact (congrArg (gW m c) ee).symm

/-- The launch, read: the gradient, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0) = gW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelDaIdeal.Val

namespace Cert.ReferenceDaIdeal.Val

open Cert.ReferenceDaIdeal Cert.ReferenceDaIdeal.Gen Idealize.ShloMosaic Idealize.ShloMosaic.TcCoe Idealize.SL.Sem Idealize.ShloMosaic.StableHlo Cert.Cols
open Cert.KernelDaIdeal.Val (dr gT two)

/-- The matrix whose rows are kept in runs. -/
def whole (W : FVec Ideal S8x512x1024 .bf16) : FVec Ideal S4096x1024 .f32 :=
  shapeCast _ (extf .f32 W bitsLt_bf16_f32) shapeCasts_S8x512x1024_S4096x1024

theorem whole_at (W : FVec Ideal S8x512x1024 .bf16) (j : Fin 4096) (k : Fin 1024) :
    whole W (ix2 j k) = W (ix3 (run j) (inn j) k) := by
  unfold run inn
  pointwise [whole]

/-- The product with the transposed matrix. -/
def prod (D : FVec Ideal S4096x1024 .bf16) (W : FVec Ideal S8x512x1024 .bf16) : FVec Ideal S4096x4096 .f32 :=
  Host.dotGeneral dot_S4096x1024_S4096x1024_S4096x4096_1_1_0_0_n_n none (extf .f32 D bitsLt_bf16_f32) (whole W)

theorem prod_at (D : FVec Ideal S4096x1024 .bf16) (W : FVec Ideal S8x512x1024 .bf16) (r j : Fin 4096) : prod D W (ix2 r j) = gT D W r j := by
  refine Eq.trans (b := ∑ k : Fin 1024, D (ix2 r k) * whole W (ix2 j k)) ?_ ?_
  · unfold prod; pointwise
  · exact Cols.sums fun k => congrArg (fun b : EReal => D (ix2 r k) * b) (whole_at W j k)

/-- The reference's derivative of the positive part's square. -/
def deriv (A : FVec Ideal S4096x4096 .bf16) (P : FVec Ideal S4096x4096 .f32) : FVec Ideal S4096x4096 .bf16 :=
  truncf .bf16 (select (cmpf .ogt (extf .f32 A bitsLt_bf16_f32) (broadcastInDim S4096x4096 ![] bcast_S_S4096x4096 (constant S_ .f32 0x00000000#32)))
    (mulf P (mulf (broadcastInDim S4096x4096 ![] bcast_S_S4096x4096 (constant S_ .f32 0x40000000#32))
      (maximumf (extf .f32 A bitsLt_bf16_f32) (broadcastInDim S4096x4096 ![] bcast_S_S4096x4096 (constant S_ .f32 0x00000000#32)))))
    (broadcastInDim S4096x4096 ![] bcast_S_S4096x4096 (constant S_ .f32 0x00000000#32))) bitsLt_bf16_f32

theorem deriv_read (A : FVec Ideal S4096x4096 .bf16) (P : FVec Ideal S4096x4096 .f32) (r j : Fin 4096) :
    deriv A P (ix2 r j) = if (0 : EReal) < A (ix2 r j) then P (ix2 r j) * (two * max (A (ix2 r j)) 0) else (0 : EReal) := by
  unfold two
  pointwise [deriv]

theorem deriv_at (A : FVec Ideal S4096x4096 .bf16) (P : FVec Ideal S4096x4096 .f32) (r j : Fin 4096) :
    deriv A P (ix2 r j) = dr (P (ix2 r j)) (A (ix2 r j)) := by
  rw [deriv_read]
  unfold dr
  by_cases h : (0 : EReal) < A (ix2 r j)
  · rw [if_pos h]
    exact (mul_assoc (G := EReal) _ _ _).symm
  · have e : max (A (ix2 r j) : EReal) 0 = 0 := max_eq_right (not_lt.mp h)
    rw [if_neg h, e]
    exact (mul_zero (M₀ := EReal) _).symm

end Cert.ReferenceDaIdeal.Val

namespace Cert.Proof

open Idealize.ShloMosaic Idealize.SL.Sem

theorem values_Da : Cert.algebraic_KernelDaIdeal_ReferenceDaIdeal := by
  intro m g m' g' _ hargs
  have meet : ∀ c : Dev Cert.KernelDaIdeal.nD, ∀ ix,
      Cert.ReferenceDaIdeal.Val.deriv (Cert.KernelDaIdeal.Val.aA m c) (Cert.ReferenceDaIdeal.Val.prod (Cert.KernelDaIdeal.Val.aD m c) (Cert.KernelDaIdeal.Val.aW m c)) ix
        = Cert.KernelDaIdeal.Val.gW m c ix := fun c ix =>
    (congrArg _ (eq_ix2 ix)).trans ((Cert.ReferenceDaIdeal.Val.deriv_at _ _ (ix 0) (ix 1)).trans
      (congrArg (fun s : EReal => Cert.KernelDaIdeal.Val.dr s (Cert.KernelDaIdeal.Val.aA m c (ix2 (ix 0) (ix 1))))
        (Cert.ReferenceDaIdeal.Val.prod_at (Cert.KernelDaIdeal.Val.aD m c) (Cert.KernelDaIdeal.Val.aW m c) (ix 0) (ix 1))))
  refine ⟨Cert.KernelDaIdeal.Val.gW m,
    Cert.KernelDaIdeal.Val.run_eq m g,
    (θ_run Cert.ReferenceDaIdeal.defs _ _).mono
      (fun r h c => ⟨(h c).1.trans ?_, (h c).2⟩)
      (Cert.ReferenceDaIdeal.Value.run m' g')⟩
  rw [(hargs c).1, (hargs c).2.1, (hargs c).2.2]
  exact funext (meet c)

end Cert.Proof

end
-- ==== Proof.FfUp.lean ====
/-
  The feed-forward's first product and the square of its positive part (the call `ff1`): a tile of rows is multiplied
  with every run of the matrix's columns in turn.
-/
module

public import proofs.«01_k».proof.Proof.Gen.KernelUpIdeal.Frame
public import proofs.«01_k».proof.Proof.Gen.ReferenceUpIdeal.Run
public import proofs.«01_k».proof.Defs
public import proofs.«01_k».proof.Proof.FfCols
public import Idealize.ShloMosaic.Lib.Pipeline.ValueKit

@[expose] public section

set_option maxRecDepth 16384

noncomputable section

namespace Cert.KernelUpIdeal.Val

open Cert.KernelUpIdeal Cert.KernelUpIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The rows and the matrix. -/
abbrev aH : FVec Ideal S4096x1024 .bf16 := m ((c : Thread nD τ).loc main_arg0)
abbrev aW : FVec Ideal S8x1024x512 .bf16 := m ((c : Thread nD τ).loc main_arg1)

theorem idx : ∀ t : Fin cfg0.N, win0_0.index t = ![t.val, 0] ∧ win0_1.index t = ![0, 0, 0] ∧ win0_2.index t = ![t.val, 0] ∧ win0_3.index t = ![t.val, 0] := by
  decide +kernel

theorem lt8 (t : Fin cfg0.N) : t.val < 8 := lt_of_lt_of_eq t.isLt N_0

/-! ## A tile's stores -/

section Stores

variable (x : Vec Ideal S512x1024 .bf16) (y : Vec Ideal S1x1024x512 .bf16) (p q : Fin 512)

theorem pay1_at : k0_pay1 (F := Ideal) x y (ix2 p q) = sE x y p q := by
  unfold sE; pointwise [k0_pay1]
theorem pay25_at : k0_pay25 (F := Ideal) x y (ix2 p q) = sE x y p q := by
  unfold sE; pointwise [k0_pay25]
theorem pay22_at : k0_pay22 (F := Ideal) x y (ix2 p q) = sE x y p q := by
  unfold sE; pointwise [k0_pay22]
theorem pay17_at : k0_pay17 (F := Ideal) x y (ix2 p q) = sE x y p q := by
  unfold sE; pointwise [k0_pay17]
theorem pay14_at : k0_pay14 (F := Ideal) x y (ix2 p q) = sE x y p q := by
  unfold sE; pointwise [k0_pay14]
theorem pay7_at : k0_pay7 (F := Ideal) x y (ix2 p q) = sE x y p q := by
  unfold sE; pointwise [k0_pay7]
theorem pay4_at : k0_pay4 (F := Ideal) x y (ix2 p q) = sE x y p q := by
  unfold sE; pointwise [k0_pay4]
theorem pay11_at : k0_pay11 (F := Ideal) x (k0_pay10 (F := Ideal) y) (ix2 p q) = sE x y p q := by
  unfold sE; pointwise [k0_pay11, k0_pay10]
theorem pay2_at : k0_pay2 (F := Ideal) x y (ix2 p q) = sE x y p q := by
  rw [← pay1_at]; pointwise [k0_pay2]
theorem pay26_at : k0_pay26 (F := Ideal) x y (ix2 p q) = sE x y p q := by
  rw [← pay25_at]; pointwise [k0_pay26]
theorem pay23_at : k0_pay23 (F := Ideal) x y (ix2 p q) = sE x y p q := by
  rw [← pay22_at]; pointwise [k0_pay23]
theorem pay20_at : k0_pay20 (F := Ideal) (k0_pay19 (F := Ideal) x y) (ix2 p q) = sE x y p q := by
  rw [← pay17_at]; pointwise [k0_pay20, k0_pay19]
theorem pay15_at : k0_pay15 (F := Ideal) x y (ix2 p q) = sE x y p q := by
  rw [← pay14_at]; pointwise [k0_pay15]
theorem pay12_at : k0_pay12 (F := Ideal) x (k0_pay10 (F := Ideal) y) (ix2 p q) = sE x y p q := by
  rw [← pay11_at]; pointwise [k0_pay12]
theorem pay8_at : k0_pay8 (F := Ideal) x y (ix2 p q) = sE x y p q := by
  rw [← pay7_at]; pointwise [k0_pay8]
theorem pay5_at : k0_pay5 (F := Ideal) x y (ix2 p q) = sE x y p q := by
  rw [← pay4_at]; pointwise [k0_pay5]

/-- The square of a number's positive part. -/
def sq (a : EReal) : EReal := max a 0 * max a 0

theorem pay3_at : k0_pay3 (F := Ideal) x y (ix2 p q) = sq (sE x y p q) := by
  rw [← pay1_at]; unfold sq; pointwise [k0_pay3]
theorem pay27_at : k0_pay27 (F := Ideal) x y (ix2 p q) = sq (sE x y p q) := by
  rw [← pay25_at]; unfold sq; pointwise [k0_pay27]
theorem pay24_at : k0_pay24 (F := Ideal) x y (ix2 p q) = sq (sE x y p q) := by
  rw [← pay22_at]; unfold sq; pointwise [k0_pay24]
theorem pay21_at : k0_pay21 (F := Ideal) (k0_pay18 (F := Ideal) x y) (ix2 p q) = sq (sE x y p q) := by
  rw [← pay17_at]; unfold sq; pointwise [k0_pay21, k0_pay18]
theorem pay16_at : k0_pay16 (F := Ideal) x y (ix2 p q) = sq (sE x y p q) := by
  rw [← pay14_at]; unfold sq; pointwise [k0_pay16]
theorem pay13_at : k0_pay13 (F := Ideal) x (k0_pay10 (F := Ideal) y) (ix2 p q) = sq (sE x y p q) := by
  rw [← pay11_at]; unfold sq; pointwise [k0_pay13]
theorem pay9_at : k0_pay9 (F := Ideal) x y (ix2 p q) = sq (sE x y p q) := by
  rw [← pay7_at]; unfold sq; pointwise [k0_pay9]
theorem pay6_at : k0_pay6 (F := Ideal) x y (ix2 p q) = sq (sE x y p q) := by
  rw [← pay4_at]; unfold sq; pointwise [k0_pay6]

variable (w : Vec Ideal S8x1024x512 .bf16)

theorem out2_eq : out0_2 x w = fun ix : S512x4096.Idx => (fun p j => gE x w p j : Fin 512 → Fin 4096 → Elt Ideal .bf16) (ix 0) (ix 1) := by
  unfold out0_2 k0_pay28
  rw [View.ld_unit_zero z2]
  funext y
  refine View.canon_apply_of_pieces (Val := Elt Ideal) (e := .bf16) (fun ix : S512x4096.Idx => (fun p j => gE x w p j : Fin 512 → Fin 4096 → Elt Ideal .bf16) (ix 0) (ix 1)) _ ?_ y (cover0_2 _ _ _ _ _ _ _ _ y)
  intro P hP z
  simp only [List.mem_cons, List.not_mem_nil, or_false] at hP
  rcases hP with h | h | h | h | h | h | h | h <;> subst h
  · exact piece (φ := .bf16) (fun p j => gE x w p j) 7 _ _ rfl inb_S512x4096_S512x512_0_3584 (fun p q => (pay2_at x _ p q).trans (sE_run x w p q 7 _ rfl _)) z
  · exact piece (φ := .bf16) (fun p j => gE x w p j) 6 _ _ rfl inb_S512x4096_S512x512_0_3072 (fun p q => (pay26_at x _ p q).trans (sE_run x w p q 6 _ rfl _)) z
  · exact piece (φ := .bf16) (fun p j => gE x w p j) 5 _ _ rfl inb_S512x4096_S512x512_0_2560 (fun p q => (pay23_at x _ p q).trans (sE_run x w p q 5 _ rfl _)) z
  · exact piece (φ := .bf16) (fun p j => gE x w p j) 4 _ _ rfl inb_S512x4096_S512x512_0_2048 (fun p q => (pay20_at x _ p q).trans (sE_run x w p q 4 _ rfl _)) z
  · exact piece (φ := .bf16) (fun p j => gE x w p j) 3 _ _ rfl inb_S512x4096_S512x512_0_1536 (fun p q => (pay15_at x _ p q).trans (sE_run x w p q 3 _ rfl _)) z
  · exact piece (φ := .bf16) (fun p j => gE x w p j) 2 _ _ rfl inb_S512x4096_S512x512_0_1024 (fun p q => (pay12_at x _ p q).trans (sE_run x w p q 2 _ rfl _)) z
  · exact piece (φ := .bf16) (fun p j => gE x w p j) 1 _ _ rfl inb_S512x4096_S512x512_0_512 (fun p q => (pay8_at x _ p q).trans (sE_run x w p q 1 _ rfl _)) z
  · exact piece (φ := .bf16) (fun p j => gE x w p j) 0 _ _ rfl inb_S512x4096_S512x512_0_0 (fun p q => (pay5_at x _ p q).trans (sE_run x w p q 0 _ rfl _)) z

theorem out3_eq : out0_3 x w = fun ix : S512x4096.Idx => (fun p j => sq (gE x w p j) : Fin 512 → Fin 4096 → Elt Ideal .bf16) (ix 0) (ix 1) := by
  unfold out0_3 k0_pay28
  rw [View.ld_unit_zero z2]
  funext y
  refine View.canon_apply_of_pieces (Val := Elt Ideal) (e := .bf16) (fun ix : S512x4096.Idx => (fun p j => sq (gE x w p j) : Fin 512 → Fin 4096 → Elt Ideal .bf16) (ix 0) (ix 1)) _ ?_ y (cover0_3 _ _ _ _ _ _ _ _ y)
  intro P hP z
  simp only [List.mem_cons, List.not_mem_nil, or_false] at hP
  rcases hP with h | h | h | h | h | h | h | h <;> subst h
  · exact piece (φ := .bf16) (fun p j => sq (gE x w p j)) 7 _ _ rfl inb_S512x4096_S512x512_0_3584 (fun p q => (pay3_at x _ p q).trans (congrArg sq (sE_run x w p q 7 _ rfl _))) z
  · exact piece (φ := .bf16) (fun p j => sq (gE x w p j)) 6 _ _ rfl inb_S512x4096_S512x512_0_3072 (fun p q => (pay27_at x _ p q).trans (congrArg sq (sE_run x w p q 6 _ rfl _))) z
  · exact piece (φ := .bf16) (fun p j => sq (gE x w p j)) 5 _ _ rfl inb_S512x4096_S512x512_0_2560 (fun p q => (pay24_at x _ p q).trans (congrArg sq (sE_run x w p q 5 _ rfl _))) z
  · exact piece (φ := .bf16) (fun p j => sq (gE x w p j)) 4 _ _ rfl inb_S512x4096_S512x512_0_2048 (fun p q => (pay21_at x _ p q).trans (congrArg sq (sE_run x w p q 4 _ rfl _))) z
  · exact piece (φ := .bf16) (fun p j => sq (gE x w p j)) 3 _ _ rfl inb_S512x4096_S512x512_0_1536 (fun p q => (pay16_at x _ p q).trans (congrArg sq (sE_run x w p q 3 _ rfl _))) z
  · exact piece (φ := .bf16) (fun p j => sq (gE x w p j)) 2 _ _ rfl inb_S512x4096_S512x512_0_1024 (fun p q => (pay13_at x _ p q).trans (congrArg sq (sE_run x w p q 2 _ rfl _))) z
  · exact piece (φ := .bf16) (fun p j => sq (gE x w p j)) 1 _ _ rfl inb_S512x4096_S512x512_0_512 (fun p q => (pay9_at x _ p q).trans (congrArg sq (sE_run x w p q 1 _ rfl _))) z
  · exact piece (φ := .bf16) (fun p j => sq (gE x w p j)) 0 _ _ rfl inb_S512x4096_S512x512_0_0 (fun p q => (pay6_at x _ p q).trans (congrArg sq (sE_run x w p q 0 _ rfl _))) z

end Stores

/-! ## The launch -/

theorem blkH (t : Fin cfg0.N) (r : Fin 512) (k : Fin 1024) :
    iblk m c 0 t (ix2 r k) = aH m c (ix2 ⟨t.val * 512 + r.val, by have := lt8 t; omega⟩ k) := by
  blk_ext [iblk, idx t]
theorem blkW (t : Fin cfg0.N) (d : Fin 8) (k : Fin 1024) (n : Fin 512) : iblk m c 1 t (ix3 d k n) = aW m c (ix3 d k n) := by
  blk_ext [iblk, idx t]

/-- The product. -/
def gW2 : FVec Ideal S4096x4096 .bf16 := fun ix => gE (aH m c) (aW m c) (ix 0) (ix 1)

theorem out2_at (t : Fin cfg0.N) (p : Fin 512) (j : Fin 4096) :
    out0_2 (iblk m c 0 t) (iblk m c 1 t) (ix2 p j) = gW2 m c (ix2 (col ⟨t.val, lt8 t⟩ p) j) :=
  (congrFun (out2_eq _ _) (ix2 p j)).trans (tile_eq (aH m c) (aW m c) _ _ ⟨t.val, lt8 t⟩ (blkH m c t) (blkW m c t) p j)

theorem final2 : (dats m 0 c).arrAt 2 cfg0.N = gW2 m c := by
  refine (dats m 0 c).arrAt_eq_of_covers 2 _ (by decide +kernel) fun t hf y => ?_
  blk_simp
  rw [after0_2]
  have ey : (y : S512x4096.Idx) = ix2 (y 0 : Fin 512) (y 1 : Fin 4096) := by
    funext a; fin_cases a <;> rfl
  have ee : ((((cfg0.win 2).blk t).view.emb y) : S4096x4096.Idx) = ix2 (col ⟨t.val, lt8 t⟩ (y 0 : Fin 512)) (y 1 : Fin 4096) := by
    unfold col
    blk_ext [idx t]
  refine (congrArg (out0_2 (iblk m c 0 t) (iblk m c 1 t)) ey).trans ((out2_at m c t (y 0) (y 1)).trans ?_)
  exact (congrArg (gW2 m c) ee).symm

/-- The square of its positive part. -/
def gW3 : FVec Ideal S4096x4096 .bf16 := fun ix => sq (gE (aH m c) (aW m c) (ix 0) (ix 1))

theorem out3_at (t : Fin cfg0.N) (p : Fin 512) (j : Fin 4096) :
    out0_3 (iblk m c 0 t) (iblk m c 1 t) (ix2 p j) = gW3 m c (ix2 (col ⟨t.val, lt8 t⟩ p) j) :=
  (congrFun (out3_eq _ _) (ix2 p j)).trans (congrArg sq (tile_eq (aH m c) (aW m c) _ _ ⟨t.val, lt8 t⟩ (blkH m c t) (blkW m c t) p j))

theorem final3 : (dats m 0 c).arrAt 3 cfg0.N = gW3 m c := by
  refine (dats m 0 c).arrAt_eq_of_covers 3 _ (by decide +kernel) fun t hf y => ?_
  blk_simp
  rw [after0_3]
  have ey : (y : S512x4096.Idx) = ix2 (y 0 : Fin 512) (y 1 : Fin 4096) := by
    funext a; fin_cases a <;> rfl
  have ee : ((((cfg0.win 3).blk t).view.emb y) : S4096x4096.Idx) = ix2 (col ⟨t.val, lt8 t⟩ (y 0 : Fin 512)) (y 1 : Fin 4096) := by
    unfold col
    blk_ext [idx t]
  refine (congrArg (out0_3 (iblk m c 0 t) (iblk m c 1 t)) ey).trans ((out3_at m c t (y 0) (y 1)).trans ?_)
  exact (congrArg (gW3 m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gW2 m c ∧ r.2.mem ((c.tc : Thread nD τ).loc main_v0_1) = gW3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelUpIdeal.Val

namespace Cert.ReferenceUpIdeal.Val

open Cert.ReferenceUpIdeal Cert.ReferenceUpIdeal.Gen Idealize.ShloMosaic Idealize.ShloMosaic.TcCoe Idealize.SL.Sem Idealize.ShloMosaic.StableHlo Cert.Cols

/-- The matrix whose columns are kept in runs. -/
def whole (W : FVec Ideal S8x1024x512 .bf16) : FVec Ideal S1024x4096 .f32 :=
  shapeCast _ (transpose S1024x8x512 [1, 0, 2] (extf .f32 W bitsLt_bf16_f32) transposes_S8x1024x512_S1024x8x512_1_0_2) shapeCasts_S1024x8x512_S1024x4096

theorem whole_at (W : FVec Ideal S8x1024x512 .bf16) (k : Fin 1024) (j : Fin 4096) :
    whole W (ix2 k j) = W (ix3 (run j) k (inn j)) := by
  unfold run inn
  pointwise [whole]

/-- The reference's product, read at an index. -/
theorem res_at (H : FVec Ideal S4096x1024 .bf16) (W : FVec Ideal S8x1024x512 .bf16) (r j : Fin 4096) :
    (Host.dotGeneral dot_S4096x1024_S1024x4096_S4096x4096_1_0_0_1_n_n none (extf .f32 H bitsLt_bf16_f32) (whole W) : FVec Ideal S4096x4096 .f32) (ix2 r j)
      = gE H W r j := by
  refine Eq.trans (b := ∑ k : Fin 1024, H (ix2 r k) * whole W (ix2 k j)) ?_ ?_
  · pointwise
  · exact Cols.sums fun k => congrArg (fun b : EReal => H (ix2 r k) * b) (whole_at W k j)

/-- Its square of the positive part. -/
theorem sq_at (P : FVec Ideal S4096x4096 .f32) (r j : Fin 4096) :
    (truncf .bf16 (mulf (maximumf P (broadcastInDim S4096x4096 ![] bcast_S_S4096x4096 (constant S_ .f32 0x00000000#32)))
      (maximumf P (broadcastInDim S4096x4096 ![] bcast_S_S4096x4096 (constant S_ .f32 0x00000000#32)))) bitsLt_bf16_f32 : FVec Ideal S4096x4096 .bf16) (ix2 r j)
      = Cert.KernelUpIdeal.Val.sq (P (ix2 r j)) := by
  unfold Cert.KernelUpIdeal.Val.sq
  pointwise

end Cert.ReferenceUpIdeal.Val

namespace Cert.Proof

open Idealize.ShloMosaic Idealize.SL.Sem

theorem values_Up : Cert.algebraic_KernelUpIdeal_ReferenceUpIdeal := by
  intro m g m' g' _ hargs
  have meet : ∀ c : Dev Cert.KernelUpIdeal.nD, ∀ ix, _ = Cert.KernelUpIdeal.Val.gW2 m c ix := fun c ix =>
    (congrArg _ (eq_ix2 ix)).trans (Cert.ReferenceUpIdeal.Val.res_at (Cert.KernelUpIdeal.Val.aH m c) (Cert.KernelUpIdeal.Val.aW m c) (ix 0) (ix 1))
  have meet3 : ∀ c : Dev Cert.KernelUpIdeal.nD, ∀ ix, _ = Cert.KernelUpIdeal.Val.gW3 m c ix := fun c ix =>
    (congrArg _ (eq_ix2 ix)).trans ((Cert.ReferenceUpIdeal.Val.sq_at _ (ix 0) (ix 1)).trans
      (congrArg Cert.KernelUpIdeal.Val.sq (Cert.ReferenceUpIdeal.Val.res_at (Cert.KernelUpIdeal.Val.aH m c) (Cert.KernelUpIdeal.Val.aW m c) (ix 0) (ix 1))))
  refine ⟨Cert.KernelUpIdeal.Val.gW2 m, Cert.KernelUpIdeal.Val.gW3 m,
    Cert.KernelUpIdeal.Val.run_eq m g,
    (θ_run Cert.ReferenceUpIdeal.defs _ _).mono
      (fun r h c => ⟨(h c).1.trans ?_, (h c).2.1.trans ?_, (h c).2.2⟩)
      (Cert.ReferenceUpIdeal.Value.run m' g')⟩
  · rw [(hargs c).1, (hargs c).2]
    exact funext (meet c)
  · rw [(hargs c).1, (hargs c).2]
    exact funext (meet3 c)

end Cert.Proof

end
-- ==== Proof.FfIn.lean ====
/-
  A product of rows with a matrix kept in eight runs of columns (the call `l1_in`): a tile of rows is multiplied with
  every run in turn, which is the whole product's tile.
-/
module

public import proofs.«01_k».proof.Proof.Gen.KernelInIdeal.Frame
public import proofs.«01_k».proof.Proof.Gen.ReferenceInIdeal.Run
public import proofs.«01_k».proof.Defs
public import proofs.«01_k».proof.Proof.FfCols
public import Idealize.ShloMosaic.Lib.Pipeline.ValueKit

@[expose] public section

set_option maxRecDepth 16384

noncomputable section

namespace Cert.KernelInIdeal.Val

open Cert.KernelInIdeal Cert.KernelInIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The rows and the matrix. -/
abbrev aH : FVec Ideal S4096x1024 .bf16 := m ((c : Thread nD τ).loc main_arg0)
abbrev aW : FVec Ideal S8x1024x512 .bf16 := m ((c : Thread nD τ).loc main_arg1)

theorem idx : ∀ t : Fin cfg0.N, win0_0.index t = ![t.val, 0] ∧ win0_1.index t = ![0, 0, 0] ∧ win0_2.index t = ![t.val, 0] := by
  decide +kernel

theorem lt8 (t : Fin cfg0.N) : t.val < 8 := lt_of_lt_of_eq t.isLt N_0

/-! ## A tile's stores -/

section Stores

variable (x : Vec Ideal S512x1024 .bf16) (y : Vec Ideal S1x1024x512 .bf16) (p q : Fin 512)

theorem pay1_at : k0_pay1 (F := Ideal) x y (ix2 p q) = sE x y p q := by
  unfold sE; pointwise [k0_pay1]
theorem pay2_at : k0_pay2 (F := Ideal) x y (ix2 p q) = sE x y p q := by
  unfold sE; pointwise [k0_pay2]
theorem pay3_at : k0_pay3 (F := Ideal) x y (ix2 p q) = sE x y p q := by
  unfold sE; pointwise [k0_pay3]
theorem pay4_at : k0_pay4 (F := Ideal) x y (ix2 p q) = sE x y p q := by
  unfold sE; pointwise [k0_pay4]
theorem pay5_at : k0_pay5 (F := Ideal) x y (ix2 p q) = sE x y p q := by
  unfold sE; pointwise [k0_pay5]
theorem pay6_at : k0_pay6 (F := Ideal) x y (ix2 p q) = sE x y p q := by
  unfold sE; pointwise [k0_pay6]
theorem pay7_at : k0_pay7 (F := Ideal) x y (ix2 p q) = sE x y p q := by
  unfold sE; pointwise [k0_pay7]
theorem pay8_at : k0_pay8 (F := Ideal) x y (ix2 p q) = sE x y p q := by
  unfold sE; pointwise [k0_pay8]

variable (w : Vec Ideal S8x1024x512 .bf16)

theorem out2_eq : out0_2 x w = fun ix : S512x4096.Idx => (fun p j => gE x w p j : Fin 512 → Fin 4096 → Elt Ideal .f32) (ix 0) (ix 1) := by
  unfold out0_2
  rw [View.ld_unit_zero z2]
  funext y
  refine View.canon_apply_of_pieces (Val := Elt Ideal) (e := .f32) (fun ix : S512x4096.Idx => (fun p j => gE x w p j : Fin 512 → Fin 4096 → Elt Ideal .f32) (ix 0) (ix 1)) _ ?_ y (cover0_2 _ _ _ _ _ _ _ _ y)
  intro P hP z
  simp only [List.mem_cons, List.not_mem_nil, or_false] at hP
  rcases hP with h | h | h | h | h | h | h | h <;> subst h
  · exact piece (φ := .f32) (fun p j => gE x w p j) 7 _ _ rfl inb_S512x4096_S512x512_0_3584 (fun p q => (pay4_at x _ p q).trans (sE_run x w p q 7 _ rfl _)) z
  · exact piece (φ := .f32) (fun p j => gE x w p j) 6 _ _ rfl inb_S512x4096_S512x512_0_3072 (fun p q => (pay3_at x _ p q).trans (sE_run x w p q 6 _ rfl _)) z
  · exact piece (φ := .f32) (fun p j => gE x w p j) 5 _ _ rfl inb_S512x4096_S512x512_0_2560 (fun p q => (pay2_at x _ p q).trans (sE_run x w p q 5 _ rfl _)) z
  · exact piece (φ := .f32) (fun p j => gE x w p j) 4 _ _ rfl inb_S512x4096_S512x512_0_2048 (fun p q => (pay1_at x _ p q).trans (sE_run x w p q 4 _ rfl _)) z
  · exact piece (φ := .f32) (fun p j => gE x w p j) 3 _ _ rfl inb_S512x4096_S512x512_0_1536 (fun p q => (pay8_at x _ p q).trans (sE_run x w p q 3 _ rfl _)) z
  · exact piece (φ := .f32) (fun p j => gE x w p j) 2 _ _ rfl inb_S512x4096_S512x512_0_1024 (fun p q => (pay7_at x _ p q).trans (sE_run x w p q 2 _ rfl _)) z
  · exact piece (φ := .f32) (fun p j => gE x w p j) 1 _ _ rfl inb_S512x4096_S512x512_0_512 (fun p q => (pay6_at x _ p q).trans (sE_run x w p q 1 _ rfl _)) z
  · exact piece (φ := .f32) (fun p j => gE x w p j) 0 _ _ rfl inb_S512x4096_S512x512_0_0 (fun p q => (pay5_at x _ p q).trans (sE_run x w p q 0 _ rfl _)) z

end Stores

/-! ## The launch -/

theorem blkH (t : Fin cfg0.N) (r : Fin 512) (k : Fin 1024) :
    iblk m c 0 t (ix2 r k) = aH m c (ix2 ⟨t.val * 512 + r.val, by have := lt8 t; omega⟩ k) := by
  blk_ext [iblk, idx t]
theorem blkW (t : Fin cfg0.N) (d : Fin 8) (k : Fin 1024) (n : Fin 512) : iblk m c 1 t (ix3 d k n) = aW m c (ix3 d k n) := by
  blk_ext [iblk, idx t]

/-- The product. -/
def gW2 : FVec Ideal S4096x4096 .f32 := fun ix => gE (aH m c) (aW m c) (ix 0) (ix 1)

theorem out2_at (t : Fin cfg0.N) (p : Fin 512) (j : Fin 4096) :
    out0_2 (iblk m c 0 t) (iblk m c 1 t) (ix2 p j) = gW2 m c (ix2 (col ⟨t.val, lt8 t⟩ p) j) :=
  (congrFun (out2_eq _ _) (ix2 p j)).trans (tile_eq (aH m c) (aW m c) _ _ ⟨t.val, lt8 t⟩ (blkH m c t) (blkW m c t) p j)

theorem final2 : (dats m 0 c).arrAt 2 cfg0.N = gW2 m c := by
  refine (dats m 0 c).arrAt_eq_of_covers 2 _ (by decide +kernel) fun t hf y => ?_
  blk_simp
  rw [after0_2]
  have ey : (y : S512x4096.Idx) = ix2 (y 0 : Fin 512) (y 1 : Fin 4096) := by
    funext a; fin_cases a <;> rfl
  have ee : ((((cfg0.win 2).blk t).view.emb y) : S4096x4096.Idx) = ix2 (col ⟨t.val, lt8 t⟩ (y 0 : Fin 512)) (y 1 : Fin 4096) := by
    unfold col
    blk_ext [idx t]
  refine (congrArg (out0_2 (iblk m c 0 t) (iblk m c 1 t)) ey).trans ((out2_at m c t (y 0) (y 1)).trans ?_)
  exact (congrArg (gW2 m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0) = gW2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelInIdeal.Val

namespace Cert.ReferenceInIdeal.Val

open Cert.ReferenceInIdeal Cert.ReferenceInIdeal.Gen Idealize.ShloMosaic Idealize.ShloMosaic.TcCoe Idealize.SL.Sem Idealize.ShloMosaic.StableHlo Cert.Cols

/-- The matrix whose columns are kept in runs. -/
def whole (W : FVec Ideal S8x1024x512 .bf16) : FVec Ideal S1024x4096 .f32 :=
  shapeCast _ (transpose S1024x8x512 [1, 0, 2] (extf .f32 W bitsLt_bf16_f32) transposes_S8x1024x512_S1024x8x512_1_0_2) shapeCasts_S1024x8x512_S1024x4096

theorem whole_at (W : FVec Ideal S8x1024x512 .bf16) (k : Fin 1024) (j : Fin 4096) :
    whole W (ix2 k j) = W (ix3 (run j) k (inn j)) := by
  unfold run inn
  pointwise [whole]

/-- The reference's product, read at an index. -/
theorem res_at (H : FVec Ideal S4096x1024 .bf16) (W : FVec Ideal S8x1024x512 .bf16) (r j : Fin 4096) :
    (Host.dotGeneral dot_S4096x1024_S1024x4096_S4096x4096_1_0_0_1_n_n none (extf .f32 H bitsLt_bf16_f32) (whole W) : FVec Ideal S4096x4096 .f32) (ix2 r j)
      = gE H W r j := by
  refine Eq.trans (b := ∑ k : Fin 1024, H (ix2 r k) * whole W (ix2 k j)) ?_ ?_
  · pointwise
  · exact Cols.sums fun k => congrArg (fun b : EReal => H (ix2 r k) * b) (whole_at W k j)

end Cert.ReferenceInIdeal.Val

namespace Cert.Proof

open Idealize.ShloMosaic Idealize.SL.Sem

theorem values_In : Cert.algebraic_KernelInIdeal_ReferenceInIdeal := by
  intro m g m' g' _ hargs
  have meet : ∀ c : Dev Cert.KernelInIdeal.nD, ∀ ix, _ = Cert.KernelInIdeal.Val.gW2 m c ix := fun c ix =>
    (congrArg _ (eq_ix2 ix)).trans (Cert.ReferenceInIdeal.Val.res_at (Cert.KernelInIdeal.Val.aH m c) (Cert.KernelInIdeal.Val.aW m c) (ix 0) (ix 1))
  refine ⟨Cert.KernelInIdeal.Val.gW2 m,
    Cert.KernelInIdeal.Val.run_eq m g,
    (θ_run Cert.ReferenceInIdeal.defs _ _).mono
      (fun r h c => ⟨(h c).1.trans ?_, (h c).2⟩)
      (Cert.ReferenceInIdeal.Value.run m' g')⟩
  rw [(hargs c).1, (hargs c).2]
  exact funext (meet c)

end Cert.Proof

end
-- ==== Proof.NormMath.lean ====
/-
  A row's norm and its gradient over the extended reals: the norm as both texts write it, its gradient as the kernel
  writes it and as the chain rule writes it, and that for real arguments the two gradients are one.
-/
module

public import Idealize.ShloMosaic.PureOps.Ideal
public import proofs.«01_k».proof.Proof.SoftMath

@[expose] public section

noncomputable section

namespace Cert.Norm

open Idealize.ShloMosaic

/-- The length of a row, 1024, -/
abbrev kN : EReal := Ideal.ofBits .f32 0x44800000#32
/-- the number under the root that keeps it from nought, -/
abbrev kE : EReal := Ideal.ofBits .f32 0x3727C5AC#32
/-- the factor of the branch that skips a part, -/
abbrev kA : EReal := Ideal.ofBits .f32 0x3FB504F3#32
/-- two, and minus a half. -/
abbrev k2 : EReal := Ideal.ofBits .f32 0x40000000#32
abbrev kH : EReal := Ideal.ofBits .f32 0xBF000000#32

section Defs
variable {n : ℕ} (y d g : Fin n → EReal)

/-- A row's mean. -/
def mean (f : Fin n → EReal) : EReal := Ideal.div (∑ j, f j) kN
/-- A row less its mean, -/
def cen (j : Fin n) : EReal := y j - mean y
/-- its variance, -/
def vr : EReal := mean fun j => cen y j * cen y j
/-- the inverse root of it, -/
def rs : EReal := Ideal.rsqrt (vr y + kE)
/-- the normed row. -/
def hat (j : Fin n) : EReal := cen y j * rs y

/-- The gradient as the kernel writes it. -/
def back (j : Fin n) : EReal :=
  rs y * (d j * g j - mean (fun k => d k * g k) - hat y j * mean (fun k => d k * g k * hat y k))

/-- The gradient as the chain rule writes it: through the product with the inverse root, -/
def cA (j : Fin n) : EReal := d j * g j * rs y
/-- through the variance, -/
def cV : EReal := Ideal.div ((∑ k, cen y k * (d k * g k)) * (kH * Ideal.div (rs y) (vr y + kE))) kN
def cB (j : Fin n) : EReal := cV y d g * (k2 * cen y j)
/-- and through the mean. -/
def chain (j : Fin n) : EReal :=
  cA y d g j + cB y d g j + Ideal.div ((∑ k, -cA y d g k) + ∑ k, -cB y d g k) kN

end Defs

theorem kN_eq : kN = ((1024 : ℝ) : EReal) := by
  unfold kN; simp [Ideal.ofBits, Ideal.ieee, -EReal.coe_mul]; norm_num
theorem kE_eq : ∃ e : ℝ, 0 < e ∧ kE = (e : EReal) := by
  unfold kE; simp [Ideal.ofBits, Ideal.ieee, -EReal.coe_mul]
theorem kA_eq : ∃ e : ℝ, kA = (e : EReal) := by
  unfold kA; simp only [Ideal.ofBits, Ideal.ieee]; rw [if_neg (by decide), if_neg (by decide)]; exact ⟨_, rfl⟩
theorem k2_eq : k2 = ((2 : ℝ) : EReal) := by
  unfold k2; simp [Ideal.ofBits, Ideal.ieee, -EReal.coe_mul]; norm_num
theorem kH_eq : kH = ((-(1/2) : ℝ) : EReal) := by
  unfold kH; simp [Ideal.ofBits, Ideal.ieee, -EReal.coe_mul]; norm_num

theorem rsqrt_pos {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 h.le), if_neg h.ne']

theorem mean_coe {n : ℕ} (f : Fin n → ℝ) : mean (fun j => (f j : EReal)) = (((∑ j, f j) / 1024 : ℝ) : EReal) := by
  unfold mean
  rw [Soft.coe_sum, kN_eq, Soft.div_coe _ (by norm_num)]

/-- The normed row of real numbers is real. -/
theorem hat_real (y : Fin 1024 → EReal) (hy : ∀ j, ∃ x : ℝ, y j = x) (j : Fin 1024) : ∃ x : ℝ, hat y j = x := by
  choose Y hY using hy
  obtain rfl : y = fun j => (Y j : EReal) := funext hY
  obtain ⟨e, he, hE⟩ := kE_eq
  have hcen : ∀ j, cen (fun j => (Y j : EReal)) j = ((Y j - (∑ k, Y k) / 1024 : ℝ) : EReal) := fun j => by
    unfold cen; rw [mean_coe, ← EReal.coe_sub]
  have hv : vr (fun j => (Y j : EReal)) = (((∑ j, (Y j - (∑ k, Y k) / 1024) * (Y j - (∑ k, Y k) / 1024)) / 1024 : ℝ) : EReal) := by
    unfold vr; rw [← mean_coe]; simp only [hcen, EReal.coe_mul]
  have hp : 0 < (∑ j, (Y j - (∑ k, Y k) / 1024) * (Y j - (∑ k, Y k) / 1024)) / 1024 + e :=
    add_pos_of_nonneg_of_pos (div_nonneg (Finset.sum_nonneg fun j _ => mul_self_nonneg _) (by norm_num)) he
  obtain ⟨q, hq⟩ : ∃ q : ℝ, rs (fun j => (Y j : EReal)) = q := by
    unfold rs; rw [hv, hE, ← EReal.coe_add]; exact ⟨_, rsqrt_pos hp⟩
  exact ⟨_, (congrArg₂ (fun a b : EReal => a * b) (hcen j) hq).trans (EReal.coe_mul _ _).symm⟩

/-- For a row of 1024 real numbers, kernel and chain rule agree. -/
theorem back_eq (y d g : Fin 1024 → EReal) (hy : ∀ j, ∃ x : ℝ, y j = x) (hd : ∀ j, ∃ x : ℝ, d j = x) (hg : ∀ j, ∃ x : ℝ, g j = x)
    (j : Fin 1024) : back y d g j = chain y d g j := by
  choose Y hY using hy
  choose D hD using hd
  choose G hG using hg
  obtain rfl : y = fun j => (Y j : EReal) := funext hY
  obtain rfl : d = fun j => (D j : EReal) := funext hD
  obtain rfl : g = fun j => (G j : EReal) := funext hG
  obtain ⟨e, he, hE⟩ := kE_eq
  set c : Fin 1024 → ℝ := fun j => Y j - (∑ k, Y k) / 1024 with hc
  have hcen : ∀ j, cen (fun j => (Y j : EReal)) j = (c j : EReal) := fun j => by
    unfold cen; rw [mean_coe, ← EReal.coe_sub]
  have hv : vr (fun j => (Y j : EReal)) = (((∑ j, c j * c j) / 1024 : ℝ) : EReal) := by
    unfold vr; rw [← mean_coe]; simp only [hcen, EReal.coe_mul]
  set v : ℝ := (∑ j, c j * c j) / 1024 with hvd
  have hv0 : 0 ≤ v := div_nonneg (Finset.sum_nonneg fun j _ => mul_self_nonneg _) (by norm_num)
  have hp : 0 < v + e := by linarith
  set r : ℝ := (Real.sqrt (v + e))⁻¹ with hr
  have hrs : rs (fun j => (Y j : EReal)) = (r : EReal) := by
    unfold rs; rw [hv, hE, ← EReal.coe_add, rsqrt_pos hp]
  have hr2 : r * r * (v + e) = 1 := by
    have h1 : Real.sqrt (v + e) * Real.sqrt (v + e) = v + e := Real.mul_self_sqrt hp.le
    have h2 : Real.sqrt (v + e) ≠ 0 := (Real.sqrt_pos.2 hp).ne'
    rw [hr, ← mul_inv, h1, inv_mul_cancel₀ hp.ne']
  have hdiv : r / (v + e) = r * r * r := by
    rw [div_eq_iff hp.ne']; linear_combination (-r) * hr2
  have hsum : ∑ j, c j = 0 := by
    rw [hc, Finset.sum_sub_distrib, Finset.sum_const, Finset.card_univ, Fintype.card_fin]; simp; ring
  have hhat : ∀ j, hat (fun j => (Y j : EReal)) j = ((c j * r : ℝ) : EReal) := fun j => by
    unfold hat; rw [hcen, hrs, EReal.coe_mul]
  have hA : ∀ k, cA (fun j => (Y j : EReal)) (fun j => (D j : EReal)) (fun j => (G j : EReal)) k = ((D k * G k * r : ℝ) : EReal) := fun k => by
    unfold cA; rw [hrs, EReal.coe_mul, EReal.coe_mul]
  set S : ℝ := ∑ k, c k * (D k * G k) with hS
  have hV : cV (fun j => (Y j : EReal)) (fun j => (D j : EReal)) (fun j => (G j : EReal)) = ((S * (-(1/2) * (r * r * r)) / 1024 : ℝ) : EReal) := by
    unfold cV
    rw [hrs, hv, hE, ← EReal.coe_add, Soft.div_coe _ hp.ne', hdiv, kH_eq, ← EReal.coe_mul]
    simp only [hcen, ← EReal.coe_mul]
    rw [Soft.coe_sum, ← EReal.coe_mul, kN_eq, Soft.div_coe _ (by norm_num)]
  have hB : ∀ k, cB (fun j => (Y j : EReal)) (fun j => (D j : EReal)) (fun j => (G j : EReal)) k = ((S * (-(1/2) * (r * r * r)) / 1024 * (2 * c k) : ℝ) : EReal) := fun k => by
    unfold cB; rw [hV, k2_eq, hcen, ← EReal.coe_mul, ← EReal.coe_mul]
  unfold back chain
  simp only [hA, hB, hhat, hrs, ← EReal.coe_mul, ← EReal.coe_neg]
  rw [mean_coe, mean_coe, Soft.coe_sum, Soft.coe_sum, kN_eq, ← EReal.coe_add, ← EReal.coe_add, Soft.div_coe _ (by norm_num)]
  simp only [← EReal.coe_sub, ← EReal.coe_add, ← EReal.coe_mul]
  refine congrArg _ ?_
  have e1 : ∑ k, -(D k * G k * r) = -((∑ k, D k * G k) * r) := by
    rw [Finset.sum_neg_distrib, Finset.sum_mul]
  have e2 : ∑ k, -(S * (-(1/2) * (r * r * r)) / 1024 * (2 * c k)) = 0 := by
    rw [Finset.sum_neg_distrib, ← Finset.mul_sum, ← Finset.mul_sum, hsum]; ring
  have e3 : ∑ k, D k * G k * (c k * r) = S * r := by
    rw [hS, Finset.sum_mul]; exact Finset.sum_congr rfl fun k _ => by ring
  rw [e1, e2, e3]
  ring

end Cert.Norm

end
-- ==== Proof.NormTile.lean ====
/-
  The gradient at a norm's result, tile by tile: the rows of a tile in two halves of 256, the product's 4096 columns in
  eight runs of 512, and sums over all rows taken a tile and a half at a time.
-/
module

public import proofs.«01_k».proof.Proof.FfCols
public import proofs.«01_k».proof.Proof.NormMath
public import Idealize.ShloMosaic.Lib.Pipeline.ValueKit

@[expose] public section

noncomputable section

namespace Cert.Norm

open Idealize.ShloMosaic Idealize.ShloMosaic.TcCoe Idealize.ShloMosaic.Tactic Cert.Cols

/-- Row `p` of half `b` of a tile. -/
def half (b : Fin 2) (p : Fin 256) : Fin 512 := ⟨b.val * 256 + p.val, by omega⟩

/-- A sum over 4096 is a sum over eight runs. -/
theorem sum_runs (f : Fin 4096 → EReal) : ∑ k, f k = ∑ d : Fin 8, ∑ n : Fin 512, f (col d n) := by
  let e : Fin 8 × Fin 512 ≃ Fin 4096 :=
    ⟨fun x => col x.1 x.2, fun k => (run k, inn k), fun x => Prod.ext (run_col x.1 x.2) (inn_col x.1 x.2), fun k => col_run k⟩
  exact (Fintype.sum_equiv e (fun x => f (col x.1 x.2)) f (fun x => rfl)).symm.trans (Fintype.sum_prod_type _)

/-- A sum over a tile's rows is a sum over its halves. -/
theorem sum_halves (f : Fin 512 → EReal) : ∑ p, f p = ∑ q : Fin 256, f (half 0 q) + ∑ q : Fin 256, f (half 1 q) := by
  let e : Fin 2 × Fin 256 ≃ Fin 512 :=
    ⟨fun x => half x.1 x.2, fun k => (⟨k.val / 256, by omega⟩, ⟨k.val % 256, by omega⟩),
      fun x => Prod.ext (Fin.ext (by simp only [half]; omega)) (Fin.ext (by simp only [half]; omega)),
      fun k => Fin.ext (by simp only [half]; omega)⟩
  exact (Fintype.sum_equiv e (fun x => f (half x.1 x.2)) f (fun x => rfl)).symm.trans ((Fintype.sum_prod_type _).trans (Fin.sum_univ_two _))

/-- One entry of the gradient at the norm's result: through the branch that skips, and through the product. -/
def dE {n : ℕ} (A : FVec Ideal ⟨2, ![n, 4096]⟩ .bf16) (W : FVec Ideal ⟨3, ![8, 1024, 512]⟩ .bf16) (H : FVec Ideal ⟨2, ![n, 1024]⟩ .f32)
    (r : Fin n) (j : Fin 1024) : EReal :=
  kA * H (ix2 r j) + ∑ k : Fin 4096, A (ix2 r k) * W (ix3 (run k) j (inn k))

/-- One run's part of a row of the product with the matrix transposed. -/
def part (a : FVec Ideal ⟨2, ![256, 512]⟩ .bf16) (b : FVec Ideal ⟨3, ![1, 1024, 512]⟩ .bf16) (p : Fin 256) (j : Fin 1024) : EReal :=
  ∑ n : Fin 512, a (ix2 p n) * b (ix3 0 j n)

/-- A half of a tile's 1024 columns, read. -/
theorem ld_half {φ : EltTy} (x : (⟨2, ![512, 1024]⟩ : Shape).Idx → Elt Ideal φ) (b : Fin 2) (off : Fin 2 → Nat) (h0 : off = ![b.val * 256, 0]) (inb) (p : Fin 256) (j : Fin 1024) :
    View.ld (Val := Elt Ideal) (e' := φ) x (Rect.unit (s := ⟨2, ![512, 1024]⟩) off (⟨2, ![256, 1024]⟩ : Shape).size inb) (ix2 p j) = x (ix2 (half b p) j) := by
  subst h0
  refine View.ld_unit_apply_of _ _ _ _ _ _ fun a => ?_
  fin_cases a
  · rfl
  · exact (Nat.zero_add _).symm

/-- A half of one run of a tile's 4096 columns, read. -/
theorem ld_sub {φ : EltTy} (x : (⟨2, ![512, 4096]⟩ : Shape).Idx → Elt Ideal φ) (b : Fin 2) (d : Fin 8) (off : Fin 2 → Nat) (h0 : off = ![b.val * 256, d.val * 512]) (inb) (p : Fin 256) (n : Fin 512) :
    View.ld (Val := Elt Ideal) (e' := φ) x (Rect.unit (s := ⟨2, ![512, 4096]⟩) off (⟨2, ![256, 512]⟩ : Shape).size inb) (ix2 p n) = x (ix2 (half b p) (col d n)) := by
  subst h0
  refine View.ld_unit_apply_of _ _ _ _ _ _ fun a => ?_
  fin_cases a
  · rfl
  · rfl

/-- The first of two rows, read. -/
theorem ld_first {φ : EltTy} (g : (⟨2, ![2, 1024]⟩ : Shape).Idx → Elt Ideal φ) (off : Fin 2 → Nat) (h0 : off = ![0, 0]) (inb) (j : Fin 1024) :
    View.ld (Val := Elt Ideal) (e' := φ) g (Rect.unit (s := ⟨2, ![2, 1024]⟩) off (⟨2, ![1, 1024]⟩ : Shape).size inb) (ix2 0 j) = g (ix2 0 j) := by
  subst h0
  exact View.ld_unit_apply_of _ _ _ _ _ _ fun a => by fin_cases a <;> exact (Nat.zero_add _).symm

/-- The second, read. -/
theorem ld_second {φ : EltTy} (g : (⟨2, ![2, 1024]⟩ : Shape).Idx → Elt Ideal φ) (off : Fin 2 → Nat) (h0 : off = ![1, 0]) (inb) (j : Fin 1024) :
    View.ld (Val := Elt Ideal) (e' := φ) g (Rect.unit (s := ⟨2, ![2, 1024]⟩) off (⟨2, ![1, 1024]⟩ : Shape).size inb) (ix2 0 j) = g (ix2 1 j) := by
  subst h0
  exact View.ld_unit_apply_of _ _ _ _ _ _ fun a => by
    fin_cases a
    · rfl
    · exact (Nat.zero_add _).symm

/-- Where a half lies in the tile. -/
theorem emb_half {l : ℕ} (b : Fin 2) (off : Fin 2 → Nat) (h0 : off = ![b.val * 256, 0])
    (inb : ∀ a, off a + (⟨2, ![256, l]⟩ : Shape).size a ≤ (⟨2, ![512, l]⟩ : Shape).size a) (z : (⟨2, ![256, l]⟩ : Shape).Idx) :
    (Rect.unit (s := ⟨2, ![512, l]⟩) off (⟨2, ![256, l]⟩ : Shape).size inb).emb z = (ix2 (half b (z 0)) (z 1 : Fin l) : (⟨2, ![512, l]⟩ : Shape).Idx) := by
  subst h0
  funext a
  refine Fin.ext ((ValueKit.rect_emb_unit_val _ _ _ _ _).trans ?_)
  fin_cases a
  · rfl
  · exact Nat.zero_add _

/-- A piece whose entries are a half of a tile is the tile read at the piece's place. -/
theorem piece_half {φ : EltTy} {l : ℕ} (G : Fin 512 → Fin l → Elt Ideal φ) (b : Fin 2) (P : (⟨2, ![256, l]⟩ : Shape).Idx → Elt Ideal φ) (off : Fin 2 → Nat)
    (h0 : off = ![b.val * 256, 0]) (inb : ∀ a, off a + (⟨2, ![256, l]⟩ : Shape).size a ≤ (⟨2, ![512, l]⟩ : Shape).size a)
    (hP : ∀ (p : Fin 256) (q : Fin l), P (ix2 p q) = G (half b p) q) (z : (⟨2, ![256, l]⟩ : Shape).Idx) :
    P z = (fun ix : (⟨2, ![512, l]⟩ : Shape).Idx => G (ix 0) (ix 1)) ((Rect.unit (s := ⟨2, ![512, l]⟩) off (⟨2, ![256, l]⟩ : Shape).size inb).emb z) :=
  (congrArg P (eq_ix2 z)).trans ((hP _ _).trans (congrArg (fun ix : (⟨2, ![512, l]⟩ : Shape).Idx => G (ix 0) (ix 1)) (emb_half b off h0 inb z)).symm)

/-- The same of a half's columns from `o` on, in a wider tile. -/
theorem piece_cols {φ : EltTy} {L l o : ℕ} (hl : o + l ≤ L) (G : Fin 512 → Fin L → Elt Ideal φ) (b : Fin 2) (P : (⟨2, ![256, l]⟩ : Shape).Idx → Elt Ideal φ) (off : Fin 2 → Nat)
    (h0 : off = ![b.val * 256, o]) (inb : ∀ a, off a + (⟨2, ![256, l]⟩ : Shape).size a ≤ (⟨2, ![512, L]⟩ : Shape).size a)
    (hP : ∀ (p : Fin 256) (q : Fin l), P (ix2 p q) = G (half b p) ⟨o + q.val, by omega⟩) (z : (⟨2, ![256, l]⟩ : Shape).Idx) :
    P z = (fun ix : (⟨2, ![512, L]⟩ : Shape).Idx => G (ix 0) (ix 1)) ((Rect.unit (s := ⟨2, ![512, L]⟩) off (⟨2, ![256, l]⟩ : Shape).size inb).emb z) := by
  have h1 : (z 1).val < l := (z 1).isLt
  have e : (Rect.unit (s := ⟨2, ![512, L]⟩) off (⟨2, ![256, l]⟩ : Shape).size inb).emb z = (ix2 (half b (z 0)) (⟨o + (z 1).val, by omega⟩ : Fin L) : (⟨2, ![512, L]⟩ : Shape).Idx) := by
    subst h0
    funext a
    refine Fin.ext ((ValueKit.rect_emb_unit_val _ _ _ _ _).trans ?_)
    fin_cases a
    · rfl
    · rfl
  exact (congrArg P (eq_ix2 z)).trans ((hP _ _).trans (congrArg (fun ix : (⟨2, ![512, L]⟩ : Shape).Idx => G (ix 0) (ix 1)) e.symm))

/-- One entry of rows times a matrix transposed; -/
def tE {n l : ℕ} (b : Fin n → Fin 1024 → EReal) (w : FVec Ideal ⟨2, ![l, 1024]⟩ .bf16) (r : Fin n) (j : Fin l) : EReal :=
  ∑ k : Fin 1024, b r k * w (ix2 j k)
/-- of two such products side by side. -/
def catE {n : ℕ} (b : Fin n → Fin 1024 → EReal) (u : FVec Ideal ⟨2, ![1024, 1024]⟩ .bf16) (w : FVec Ideal ⟨2, ![512, 1024]⟩ .bf16) (r : Fin n) (j : Fin 1536) : EReal :=
  if h : j.val < 1024 then tE b u r ⟨j.val, h⟩ else tE b w r ⟨j.val - 1024, by omega⟩

theorem catE_left {n : ℕ} (b : Fin n → Fin 1024 → EReal) (u w) (r : Fin n) (q : Fin 1024) (h : 0 + q.val < 1536) : catE b u w r ⟨0 + q.val, h⟩ = tE b u r q := by
  unfold catE
  rw [dif_pos (by show 0 + q.val < 1024; omega)]
  exact congrArg (tE b u r) (Fin.ext (Nat.zero_add _))
theorem catE_right {n : ℕ} (b : Fin n → Fin 1024 → EReal) (u w) (r : Fin n) (q : Fin 512) (h : 1024 + q.val < 1536) : catE b u w r ⟨1024 + q.val, h⟩ = tE b w r q := by
  unfold catE
  rw [dif_neg (by show ¬1024 + q.val < 1024; omega)]
  exact congrArg (tE b w r) (Fin.ext (Nat.add_sub_cancel_left _ _))

section Sum
variable (A : FVec Ideal ⟨2, ![512, 4096]⟩ .bf16) (W : FVec Ideal ⟨3, ![8, 1024, 512]⟩ .bf16) (H : FVec Ideal ⟨2, ![512, 1024]⟩ .f32) (b : Fin 2) (p : Fin 256) (j : Fin 1024)

/-- A part's sum, when its factors are a run's. -/
theorem part_run (d : Fin 8) (x : FVec Ideal ⟨2, ![256, 512]⟩ .bf16) (w : FVec Ideal ⟨3, ![1, 1024, 512]⟩ .bf16)
    (hx : ∀ n, x (ix2 p n) = A (ix2 (half b p) (col d n))) (hw : ∀ n, w (ix3 0 j n) = W (ix3 d j n)) :
    part x w p j = ∑ n : Fin 512, A (ix2 (half b p) (col d n)) * W (ix3 (run (col d n)) j (inn (col d n))) := by
  unfold part
  refine Cols.sums fun n => ?_
  rw [hx, hw, run_col, inn_col]

/-- The eight parts, added one after the other to the skipped part, are the entry. -/
theorem dE_parts (S : Fin 8 → EReal) (hS : ∀ d, S d = ∑ n : Fin 512, A (ix2 (half b p) (col d n)) * W (ix3 (run (col d n)) j (inn (col d n)))) (h : EReal) (hh : h = H (ix2 (half b p) j)) :
    kA * h + S 0 + S 1 + S 2 + S 3 + S 4 + S 5 + S 6 + S 7 = dE A W H (half b p) j := by
  unfold dE
  rw [sum_runs, hh, ← Cols.sums fun d => hS d, Fin.sum_univ_eight]
  simp only [add_assoc]

end Sum

/-- The entry is real where its factors are. -/
theorem dE_real {n : ℕ} (A : FVec Ideal ⟨2, ![n, 4096]⟩ .bf16) (W : FVec Ideal ⟨3, ![8, 1024, 512]⟩ .bf16) (H : FVec Ideal ⟨2, ![n, 1024]⟩ .f32)
    (hA : ∀ i, ∃ y : ℝ, (A i : EReal) = y) (hW : ∀ i, ∃ y : ℝ, (W i : EReal) = y) (hH : ∀ i, ∃ y : ℝ, (H i : EReal) = y) (r : Fin n) (j : Fin 1024) :
    ∃ y : ℝ, dE A W H r j = y := by
  choose A' eA using hA
  choose W' eW using hW
  choose H' eH using hH
  obtain ⟨a, ea⟩ := kA_eq
  refine ⟨a * H' (ix2 r j) + ∑ k : Fin 4096, A' (ix2 r k) * W' (ix3 (run k) j (inn k)), ?_⟩
  unfold dE
  rw [ea, eH, EReal.coe_add, EReal.coe_mul, ← Soft.coe_sum]
  refine congrArg (fun b : EReal => (a : EReal) * (H' (ix2 r j) : EReal) + b) (Cols.sums fun k => ?_)
  rw [eA, eW, EReal.coe_mul]

/-- A tile's entry is the whole array's. -/
theorem dE_tile (A' : FVec Ideal ⟨2, ![512, 4096]⟩ .bf16) (W' : FVec Ideal ⟨3, ![8, 1024, 512]⟩ .bf16) (H' : FVec Ideal ⟨2, ![512, 1024]⟩ .f32)
    (A : FVec Ideal ⟨2, ![4096, 4096]⟩ .bf16) (W : FVec Ideal ⟨3, ![8, 1024, 512]⟩ .bf16) (H : FVec Ideal ⟨2, ![4096, 1024]⟩ .f32) (d : Fin 8)
    (hA : ∀ (r : Fin 512) (k : Fin 4096), A' (ix2 r k) = A (ix2 (col d r) k)) (hW : ∀ (e : Fin 8) (k : Fin 1024) (n : Fin 512), W' (ix3 e k n) = W (ix3 e k n))
    (hH : ∀ (r : Fin 512) (k : Fin 1024), H' (ix2 r k) = H (ix2 (col d r) k)) (p : Fin 512) : dE A' W' H' p = dE A W H (col d p) := by
  funext j
  unfold dE
  refine Cols.adds (congrArg (fun a : EReal => kA * a) (hH p j)) ?_
  exact Cols.sums fun k => Cols.muls (hA p k) (hW _ j _)

/-- A tile's sum over its rows, nought past the last tile; -/
def tileSum (f : Fin 4096 → EReal) (n : ℕ) : EReal := if h : n < 8 then ∑ p : Fin 512, f (col ⟨n, h⟩ p) else 0
/-- the sum over the tiles up to a point. -/
def upTo (f : Fin 4096 → EReal) (n : ℕ) : EReal := ∑ s ∈ Finset.range (n + 1), tileSum f s

theorem tileSum_lt (f : Fin 4096 → EReal) {n : ℕ} (h : n < 8) : tileSum f n = ∑ p : Fin 512, f (col ⟨n, h⟩ p) := dif_pos h
theorem upTo_zero (f : Fin 4096 → EReal) : upTo f 0 = tileSum f 0 := by
  unfold upTo; simp
theorem upTo_succ (f : Fin 4096 → EReal) (n : ℕ) : upTo f (n + 1) = upTo f n + tileSum f (n + 1) := Finset.sum_range_succ _ _
theorem upTo_last (f : Fin 4096 → EReal) : upTo f 7 = ∑ r, f r := by
  unfold upTo
  rw [sum_runs, Finset.sum_range]
  exact Cols.sums fun d => tileSum_lt f d.isLt

end Cert.Norm

end
-- ==== Proof.PreNorm.lean ====
/-
  The preconditions of the two gradients of a row's norm, read: where they hold, every entry the gradient is computed
  from is a real number.
-/
module

public import proofs.«01_k».proof.Defs
public import proofs.«01_k».proof.Proof.PreReal
public import Idealize.ShloMosaic.Lib.ReduceAll
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Pre_finite_norm

open Idealize.ShloMosaic Idealize.ShloMosaic.Tactic

namespace Gen
theorem facts : Cert.Pre_finite_norm.Facts where
  bitsLt_bf16_f32 := by decide
  bcast_S_S4096x4096 := by decide
  reducesTo_S4096x4096_S_d0_1 := by decide
  h_S_ := by decide
  bcast_S_S8x1024x512 := by decide
  reducesTo_S8x1024x512_S_d0_1_2 := by decide
  bcast_S_S4096x1024 := by decide
  reducesTo_S4096x1024_S_d0_1 := by decide
  slices_S2x1024_S1x1024_0_0 := by decide
  shapeCasts_S1x1024_S1024 := by decide
  bcast_S_S1024 := by decide
  reducesTo_S1024_S_d0 := by decide
end Gen

variable [Facts]
open Facts

instance : Subsingleton S_.Idx := ⟨fun a b => funext fun i => i.elim0⟩

/-- One argument's test. -/
theorem real_of_test {s : Shape} {axes : List (Fin s.rank)} (A : FVec Ideal s .f32)
    (hc : S_.BroadcastsInDim s (![] : Fin 0 → Fin s.rank)) (hr : s.ReducesTo axes S_) (hu : 0 < S_.numel) (j : S_.Idx)
    (e : Host.reduce IntOp.andi (cmpf (F := Ideal) (φ := .f32) .olt (Host.absf A) (broadcastInDim s ![] hc (constant S_ .f32 0x7F800000#32)))
      (constantI S_ 1 1#1) hr hu j = 1#1) (i : s.Idx) : ∃ y : ℝ, (A i : EReal) = y :=
  @Cert.Pre_finite.real_of_abs Cert.Pre_finite.Gen.facts (A i) (Host.reduce_andi_all _ _ hr hu j e i)

theorem first_at (g : FVec Ideal S2x1024 .f32) (j : Fin 1024) :
    (shapeCast S1024 (extractStridedSlice S1x1024 ![0, 0] g slices_S2x1024_S1x1024_0_0) shapeCasts_S1x1024_S1024 : FVec Ideal S1024 .f32) (ix1 j) = g (ix2 0 j) := by
  pointwise

theorem real_of_fn (A : FVec Ideal S4096x4096 .bf16) (W : FVec Ideal S8x1024x512 .bf16) (H Y : FVec Ideal S4096x1024 .f32) (G : FVec Ideal S2x1024 .f32)
    (h : fn (F := Ideal) A W H Y G = fun _ => 1#1) :
    (∀ i, ∃ y : ℝ, (A i : EReal) = y) ∧ (∀ i, ∃ y : ℝ, (W i : EReal) = y) ∧ (∀ i, ∃ y : ℝ, (H i : EReal) = y) ∧ (∀ i, ∃ y : ℝ, (Y i : EReal) = y)
      ∧ ∀ j : Fin 1024, ∃ y : ℝ, (G (ix2 0 j) : EReal) = y := by
  have h0 := congrFun h ix0
  unfold fn fn_part1 at h0
  obtain ⟨h1, hg⟩ := IntOp.andi_eq_one.1 h0
  obtain ⟨h2, hy⟩ := IntOp.andi_eq_one.1 h1
  obtain ⟨h3, hh⟩ := IntOp.andi_eq_one.1 h2
  obtain ⟨ha, hw⟩ := IntOp.andi_eq_one.1 h3
  refine ⟨real_of_test (extf .f32 A bitsLt_bf16_f32) _ _ _ _ ha, real_of_test (extf .f32 W bitsLt_bf16_f32) _ _ _ _ hw,
    real_of_test H _ _ _ _ hh, real_of_test Y _ _ _ _ hy, fun j => ?_⟩
  obtain ⟨y, e⟩ := real_of_test _ _ _ _ _ hg (ix1 j)
  exact ⟨y, (first_at G j).symm.trans e⟩

end Cert.Pre_finite_norm

namespace Cert.Pre_finite_norm_mix

open Idealize.ShloMosaic Idealize.ShloMosaic.Tactic

namespace Gen
theorem facts : Cert.Pre_finite_norm_mix.Facts where
  bitsLt_bf16_f32 := by decide
  bcast_S_S4096x4096 := by decide
  reducesTo_S4096x4096_S_d0_1 := by decide
  h_S_ := by decide
  bcast_S_S8x1024x512 := by decide
  reducesTo_S8x1024x512_S_d0_1_2 := by decide
  bcast_S_S4096x1024 := by decide
  reducesTo_S4096x1024_S_d0_1 := by decide
  slices_S2x1024_S1x1024_0_0 := by decide
  shapeCasts_S1x1024_S1024 := by decide
  bcast_S_S1024 := by decide
  reducesTo_S1024_S_d0 := by decide
end Gen

variable [Facts]
open Facts

instance : Subsingleton S_.Idx := ⟨fun a b => funext fun i => i.elim0⟩

/-- One argument's test. -/
theorem real_of_test {s : Shape} {axes : List (Fin s.rank)} (A : FVec Ideal s .f32)
    (hc : S_.BroadcastsInDim s (![] : Fin 0 → Fin s.rank)) (hr : s.ReducesTo axes S_) (hu : 0 < S_.numel) (j : S_.Idx)
    (e : Host.reduce IntOp.andi (cmpf (F := Ideal) (φ := .f32) .olt (Host.absf A) (broadcastInDim s ![] hc (constant S_ .f32 0x7F800000#32)))
      (constantI S_ 1 1#1) hr hu j = 1#1) (i : s.Idx) : ∃ y : ℝ, (A i : EReal) = y :=
  @Cert.Pre_finite.real_of_abs Cert.Pre_finite.Gen.facts (A i) (Host.reduce_andi_all _ _ hr hu j e i)

theorem first_at (g : FVec Ideal S2x1024 .f32) (j : Fin 1024) :
    (shapeCast S1024 (extractStridedSlice S1x1024 ![0, 0] g slices_S2x1024_S1x1024_0_0) shapeCasts_S1x1024_S1024 : FVec Ideal S1024 .f32) (ix1 j) = g (ix2 0 j) := by
  pointwise

theorem real_of_fn (A : FVec Ideal S4096x4096 .bf16) (W : FVec Ideal S8x1024x512 .bf16) (H Y : FVec Ideal S4096x1024 .f32) (G : FVec Ideal S2x1024 .f32) (P : FVec Ideal S1024x1024 .bf16) (Q : FVec Ideal S512x1024 .bf16)
    (h : fn (F := Ideal) A W H Y G P Q = fun _ => 1#1) :
    (∀ i, ∃ y : ℝ, (A i : EReal) = y) ∧ (∀ i, ∃ y : ℝ, (W i : EReal) = y) ∧ (∀ i, ∃ y : ℝ, (H i : EReal) = y) ∧ (∀ i, ∃ y : ℝ, (Y i : EReal) = y)
      ∧ ∀ j : Fin 1024, ∃ y : ℝ, (G (ix2 0 j) : EReal) = y := by
  have h0 := congrFun h ix0
  unfold fn fn_part1 at h0
  obtain ⟨h1, hg⟩ := IntOp.andi_eq_one.1 h0
  obtain ⟨h2, hy⟩ := IntOp.andi_eq_one.1 h1
  obtain ⟨h3, hh⟩ := IntOp.andi_eq_one.1 h2
  obtain ⟨ha, hw⟩ := IntOp.andi_eq_one.1 h3
  refine ⟨real_of_test (extf .f32 A bitsLt_bf16_f32) _ _ _ _ ha, real_of_test (extf .f32 W bitsLt_bf16_f32) _ _ _ _ hw,
    real_of_test H _ _ _ _ hh, real_of_test Y _ _ _ _ hy, fun j => ?_⟩
  obtain ⟨y, e⟩ := real_of_test _ _ _ _ _ hg (ix1 j)
  exact ⟨y, (first_at G j).symm.trans e⟩

end Cert.Pre_finite_norm_mix

namespace Cert.Pre_finite_norm_out

open Idealize.ShloMosaic Idealize.ShloMosaic.Tactic

namespace Gen
theorem facts : Cert.Pre_finite_norm_out.Facts where
  bitsLt_bf16_f32 := by decide
  bcast_S_S4096x4096 := by decide
  reducesTo_S4096x4096_S_d0_1 := by decide
  h_S_ := by decide
  bcast_S_S8x1024x512 := by decide
  reducesTo_S8x1024x512_S_d0_1_2 := by decide
  bcast_S_S4096x1024 := by decide
  reducesTo_S4096x1024_S_d0_1 := by decide
  slices_S2x1024_S1x1024_1_0 := by decide
  shapeCasts_S1x1024_S1024 := by decide
  bcast_S_S1024 := by decide
  reducesTo_S1024_S_d0 := by decide
end Gen

variable [Facts]
open Facts

instance : Subsingleton S_.Idx := ⟨fun a b => funext fun i => i.elim0⟩

/-- One argument's test. -/
theorem real_of_test {s : Shape} {axes : List (Fin s.rank)} (A : FVec Ideal s .f32)
    (hc : S_.BroadcastsInDim s (![] : Fin 0 → Fin s.rank)) (hr : s.ReducesTo axes S_) (hu : 0 < S_.numel) (j : S_.Idx)
    (e : Host.reduce IntOp.andi (cmpf (F := Ideal) (φ := .f32) .olt (Host.absf A) (broadcastInDim s ![] hc (constant S_ .f32 0x7F800000#32)))
      (constantI S_ 1 1#1) hr hu j = 1#1) (i : s.Idx) : ∃ y : ℝ, (A i : EReal) = y :=
  @Cert.Pre_finite.real_of_abs Cert.Pre_finite.Gen.facts (A i) (Host.reduce_andi_all _ _ hr hu j e i)

theorem second_at (g : FVec Ideal S2x1024 .f32) (j : Fin 1024) :
    (shapeCast S1024 (extractStridedSlice S1x1024 ![1, 0] g slices_S2x1024_S1x1024_1_0) shapeCasts_S1x1024_S1024 : FVec Ideal S1024 .f32) (ix1 j) = g (ix2 1 j) := by
  pointwise

theorem real_of_fn (A : FVec Ideal S4096x4096 .bf16) (W : FVec Ideal S8x1024x512 .bf16) (H Y : FVec Ideal S4096x1024 .f32) (G : FVec Ideal S2x1024 .f32)
    (O : FVec Ideal S1024x1024 .bf16) (h : fn (F := Ideal) A W H Y G O = fun _ => 1#1) :
    (∀ i, ∃ y : ℝ, (A i : EReal) = y) ∧ (∀ i, ∃ y : ℝ, (W i : EReal) = y) ∧ (∀ i, ∃ y : ℝ, (H i : EReal) = y) ∧ (∀ i, ∃ y : ℝ, (Y i : EReal) = y)
      ∧ ∀ j : Fin 1024, ∃ y : ℝ, (G (ix2 1 j) : EReal) = y := by
  have h0 := congrFun h ix0
  unfold fn fn_part1 at h0
  obtain ⟨h1, hg⟩ := IntOp.andi_eq_one.1 h0
  obtain ⟨h2, hy⟩ := IntOp.andi_eq_one.1 h1
  obtain ⟨h3, hh⟩ := IntOp.andi_eq_one.1 h2
  obtain ⟨ha, hw⟩ := IntOp.andi_eq_one.1 h3
  refine ⟨real_of_test (extf .f32 A bitsLt_bf16_f32) _ _ _ _ ha, real_of_test (extf .f32 W bitsLt_bf16_f32) _ _ _ _ hw,
    real_of_test H _ _ _ _ hh, real_of_test Y _ _ _ _ hy, fun j => ?_⟩
  obtain ⟨y, e⟩ := real_of_test _ _ _ _ _ hg (ix1 j)
  exact ⟨y, (second_at G j).symm.trans e⟩

end Cert.Pre_finite_norm_out

namespace Cert.Pre_finite_loss

open Idealize.ShloMosaic Idealize.ShloMosaic.Tactic

namespace Gen
theorem facts : Cert.Pre_finite_loss.Facts where
  bitsLt_bf16_f32 := by decide
  bcast_S_S4096x4096 := by decide
  reducesTo_S4096x4096_S_d0_1 := by decide
  h_S_ := by decide
  bcast_S_S4096x1024 := by decide
  reducesTo_S4096x1024_S_d0_1 := by decide
  slices_S2x1024_S1x1024_1_0 := by decide
  shapeCasts_S1x1024_S1024 := by decide
  bcast_S_S1024 := by decide
  reducesTo_S1024_S_d0 := by decide
end Gen

variable [Facts]
open Facts

instance : Subsingleton S_.Idx := ⟨fun a b => funext fun i => i.elim0⟩

/-- One argument's test. -/
theorem real_of_test {s : Shape} {axes : List (Fin s.rank)} (A : FVec Ideal s .f32)
    (hc : S_.BroadcastsInDim s (![] : Fin 0 → Fin s.rank)) (hr : s.ReducesTo axes S_) (hu : 0 < S_.numel) (j : S_.Idx)
    (e : Host.reduce IntOp.andi (cmpf (F := Ideal) (φ := .f32) .olt (Host.absf A) (broadcastInDim s ![] hc (constant S_ .f32 0x7F800000#32)))
      (constantI S_ 1 1#1) hr hu j = 1#1) (i : s.Idx) : ∃ y : ℝ, (A i : EReal) = y :=
  @Cert.Pre_finite.real_of_abs Cert.Pre_finite.Gen.facts (A i) (Host.reduce_andi_all _ _ hr hu j e i)

theorem second_at (g : FVec Ideal S2x1024 .f32) (j : Fin 1024) :
    (shapeCast S1024 (extractStridedSlice S1x1024 ![1, 0] g slices_S2x1024_S1x1024_1_0) shapeCasts_S1x1024_S1024 : FVec Ideal S1024 .f32) (ix1 j) = g (ix2 1 j) := by
  pointwise

theorem real_of_fn (A : FVec Ideal S4096x4096 .bf16) (W : FVec Ideal S4096x1024 .bf16) (H : FVec Ideal S4096x1024 .f32) (G B : FVec Ideal S2x1024 .f32)
    (Y : FVec Ideal S4096x1024 .f32) (h : fn (F := Ideal) A W H G B Y = fun _ => 1#1) :
    (∀ i, ∃ y : ℝ, (A i : EReal) = y) ∧ (∀ i, ∃ y : ℝ, (W i : EReal) = y) ∧ (∀ i, ∃ y : ℝ, (H i : EReal) = y)
      ∧ (∀ j : Fin 1024, ∃ y : ℝ, (G (ix2 1 j) : EReal) = y) ∧ (∀ j : Fin 1024, ∃ y : ℝ, (B (ix2 1 j) : EReal) = y) ∧ ∀ i, ∃ y : ℝ, (Y i : EReal) = y := by
  have h0 := congrFun h ix0
  unfold fn fn_part1 at h0
  obtain ⟨h1, hy⟩ := IntOp.andi_eq_one.1 h0
  obtain ⟨h2, hb⟩ := IntOp.andi_eq_one.1 h1
  obtain ⟨h3, hg⟩ := IntOp.andi_eq_one.1 h2
  obtain ⟨h4, hh⟩ := IntOp.andi_eq_one.1 h3
  obtain ⟨ha, hw⟩ := IntOp.andi_eq_one.1 h4
  refine ⟨real_of_test (extf .f32 A bitsLt_bf16_f32) _ _ _ _ ha, real_of_test (extf .f32 W bitsLt_bf16_f32) _ _ _ _ hw,
    real_of_test H _ _ _ _ hh, fun j => ?_, fun j => ?_, real_of_test Y _ _ _ _ hy⟩
  · obtain ⟨y, e⟩ := real_of_test _ _ _ _ _ hg (ix1 j)
    exact ⟨y, (second_at G j).symm.trans e⟩
  · obtain ⟨y, e⟩ := real_of_test _ _ _ _ _ hb (ix1 j)
    exact ⟨y, (second_at B j).symm.trans e⟩

end Cert.Pre_finite_loss

end
-- ==== Proof.FfDn.lean ====
/-
  The gradient at the second layer's hidden product taken back through the product, the branch that skips it and the norm
  before them (the call `l1_dh_ln2`): a tile of rows at a time, the gain's and the shift's gradients summed over the tiles.
-/
module

public import proofs.«01_k».proof.Proof.Gen.KernelDnIdeal.Frame
public import proofs.«01_k».proof.Proof.Gen.ReferenceDnIdeal.Run
public import proofs.«01_k».proof.Defs
public import proofs.«01_k».proof.Proof.FfCols
public import Idealize.ShloMosaic.Lib.Pipeline.ValueKit
public import proofs.«01_k».proof.Proof.NormTile
public import proofs.«01_k».proof.Proof.PreNorm
public import Idealize.ShloMosaic.Lib.VecWindow
public import Idealize.ShloMosaic.Lib.StableHlo.ReadAt

@[expose] public section

set_option maxRecDepth 16384

noncomputable section

namespace Cert.KernelDnIdeal.Val

open Cert.KernelDnIdeal Cert.KernelDnIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-! ## The tile's expressions, read at an index -/

section Pays

variable (p : Fin 256) (j : Fin 1024) (h D : Vec Ideal S256x1024 .f32) (a0 : Vec Ideal S256x512 .bf16) (b0 : Vec Ideal S1x1024x512 .bf16) (a1 : Vec Ideal S256x512 .bf16) (b1 : Vec Ideal S1x1024x512 .bf16) (a2 : Vec Ideal S256x512 .bf16) (b2 : Vec Ideal S1x1024x512 .bf16) (a3 : Vec Ideal S256x512 .bf16) (b3 : Vec Ideal S1x1024x512 .bf16)

theorem pay5_at : k0_pay5 (F := Ideal) h a0 b0 a1 b1 a2 b2 a3 b3 (ix2 p j) = kA * h (ix2 p j) + part a0 b0 p j + part a1 b1 p j + part a2 b2 p j + part a3 b3 p j := by
  unfold part; pointwise [k0_pay5]
theorem pay16_at : k0_pay16 (F := Ideal) h a0 b0 a1 b1 a2 b2 a3 b3 (ix2 p j) = kA * h (ix2 p j) + part a0 b0 p j + part a1 b1 p j + part a2 b2 p j + part a3 b3 p j := by
  unfold part; pointwise [k0_pay16]
theorem pay6_at : k0_pay6 (F := Ideal) D a0 b0 a1 b1 a2 b2 a3 b3 (ix2 p j) = D (ix2 p j) + part a0 b0 p j + part a1 b1 p j + part a2 b2 p j + part a3 b3 p j := by
  unfold part; pointwise [k0_pay6]
theorem pay17_at : k0_pay17 (F := Ideal) D a0 b0 a1 b1 a2 b2 a3 b3 (ix2 p j) = D (ix2 p j) + part a0 b0 p j + part a1 b1 p j + part a2 b2 p j + part a3 b3 p j := by
  unfold part; pointwise [k0_pay17]

variable (y : Vec Ideal S256x1024 .f32)

/-- Row `p` of a half tile. -/
abbrev rowOf (x : Vec Ideal S256x1024 .f32) (p : Fin 256) (j : Fin 1024) : EReal := x (ix2 p j)

theorem pay7_at : k0_pay7 (F := Ideal) y (ix2 p j) = cen (rowOf y p) j := by
  unfold cen mean; pointwise [k0_pay7]
theorem pay18_at : k0_pay18 (F := Ideal) y (ix2 p j) = cen (rowOf y p) j := by
  unfold cen mean; pointwise [k0_pay18]
theorem pay8_at : k0_pay8 (F := Ideal) y (ix2 p 0) = vr (rowOf y p) := by
  have e : cen (rowOf y p) = fun j => k0_pay7 y (ix2 p j) := funext fun j => (pay7_at p j y).symm
  unfold vr mean; rw [e]; pointwise [k0_pay8]
theorem pay19_at : Ideal.div (k0_pay19 (F := Ideal) y (ix2 p 0)) kN = vr (rowOf y p) := by
  have e : cen (rowOf y p) = fun j => k0_pay18 y (ix2 p j) := funext fun j => (pay18_at p j y).symm
  unfold vr mean; rw [e]; pointwise [k0_pay19]

/-- The inverse root's small number and the row's length, as the tile's text names them. -/
abbrev sE' : Ideal .f32 := Scalar.ofBits .f32 0x3727C5AC#32
abbrev sN' : Ideal .f32 := Scalar.ofBits .f32 0x44800000#32

theorem pay9_at : k0_pay9 (F := Ideal) (k0_pay8 (F := Ideal) y) sE' (ix2 p 0) = rs (rowOf y p) := by
  unfold rs; rw [← pay8_at]; pointwise [k0_pay9]
theorem pay20_at : k0_pay20 (F := Ideal) (k0_pay19 (F := Ideal) y) sN' (ix2 p 0) = rs (rowOf y p) := by
  unfold rs; rw [← pay19_at]; pointwise [k0_pay20]
theorem pay10_at : k0_pay10 (F := Ideal) (k0_pay7 (F := Ideal) y) (k0_pay8 (F := Ideal) y) sE' (ix2 p j) = hat (rowOf y p) j := by
  unfold hat; rw [← pay9_at, ← pay7_at]; pointwise [k0_pay10]
theorem pay21_at : k0_pay21 (F := Ideal) (k0_pay18 (F := Ideal) y) (k0_pay19 (F := Ideal) y) sN' (ix2 p j) = hat (rowOf y p) j := by
  unfold hat; rw [← pay20_at, ← pay18_at]; pointwise [k0_pay21]

variable (g acc : Vec Ideal S1x1024 .f32)

/-- The gain of one row. -/
abbrev gainOf (g : Vec Ideal S1x1024 .f32) (j : Fin 1024) : EReal := g (ix2 0 j)

theorem pay13_at : k0_pay13 (F := Ideal) D (k0_pay7 (F := Ideal) y) (k0_pay8 (F := Ideal) y) sE' g (ix2 p j) = back (rowOf y p) (rowOf D p) (gainOf g) j := by
  have e : hat (rowOf y p) = fun j => k0_pay10 (k0_pay7 y) (k0_pay8 y) sE' (ix2 p j) := funext fun j => (pay10_at p j y).symm
  unfold back mean; rw [← pay9_at, e]; pointwise [k0_pay13]
theorem pay24_at : k0_pay24 (F := Ideal) D (k0_pay18 (F := Ideal) y) (k0_pay19 (F := Ideal) y) sN' g (ix2 p j) = back (rowOf y p) (rowOf D p) (gainOf g) j := by
  have e : hat (rowOf y p) = fun j => k0_pay21 (k0_pay18 y) (k0_pay19 y) sN' (ix2 p j) := funext fun j => (pay21_at p j y).symm
  unfold back mean; rw [← pay20_at, e]; pointwise [k0_pay24]
theorem pay11_at : k0_pay11 (F := Ideal) D (k0_pay7 (F := Ideal) y) (k0_pay8 (F := Ideal) y) sE' acc (ix2 0 j)
    = acc (ix2 0 j) + ∑ p : Fin 256, D (ix2 p j) * hat (rowOf y p) j := by
  simp only [← pay10_at]; pointwise [k0_pay11]
theorem pay22_at : k0_pay22 (F := Ideal) D (k0_pay18 (F := Ideal) y) (k0_pay19 (F := Ideal) y) sN' acc (ix2 0 j)
    = acc (ix2 0 j) + ∑ p : Fin 256, D (ix2 p j) * hat (rowOf y p) j := by
  simp only [← pay21_at]; pointwise [k0_pay22]
theorem pay12_at : k0_pay12 (F := Ideal) D acc (ix2 0 j) = acc (ix2 0 j) + ∑ p : Fin 256, D (ix2 p j) := by
  pointwise [k0_pay12]
theorem pay23_at : k0_pay23 (F := Ideal) D acc (ix2 0 j) = acc (ix2 0 j) + ∑ p : Fin 256, D (ix2 p j) := by
  pointwise [k0_pay23]

theorem pay14_at : k0_pay14 (F := Ideal) D (ix2 p j) = D (ix2 p j) := by pointwise [k0_pay14]
theorem pay1_at : k0_pay1 (F := Ideal) D (ix2 p j) = D (ix2 p j) := by pointwise [k0_pay1]
theorem pay15_at : k0_pay15 (F := Ideal) D (ix2 p j) = D (ix2 p j) := by pointwise [k0_pay15]
theorem pay2_at : k0_pay2 (F := Ideal) D (ix2 p j) = D (ix2 p j) := by pointwise [k0_pay2]
theorem pay3_at : k0_pay3 (F := Ideal) (ix2 0 j) = 0 := by pointwise [k0_pay3]
theorem pay4_at : k0_pay4 (F := Ideal) (ix2 0 j) = 0 := by pointwise [k0_pay4]

end Pays

/-! ## What a tile stores -/

section Tile

variable (x0 : Vec Ideal S512x4096 .bf16) (x1 : Vec Ideal S512x1024 .f32) (x2 : Vec Ideal S512x1024 .f32) (x3 : Vec Ideal S8x1024x512 .bf16) (x4 : Vec Ideal S2x1024 .f32)

/-- The gradient at the norm's result, the first half's rows and the second's; -/
def D1 : Vec Ideal S256x1024 .f32 := k0_pay6 (k0_pay5 (View.ld (Val := Elt Ideal) (e' := .f32) x1 (Rect.unit (s := S512x1024) ![0, 0] S256x1024.size inb_S512x1024_S256x1024_0_0)) (View.ld (Val := Elt Ideal) (e' := .bf16) x0 (Rect.unit (s := S512x4096) ![0, 0] S256x512.size inb_S512x4096_S256x512_0_0)) (View.ld (Val := Elt Ideal) (e' := .bf16) x3 (Rect.unit (s := S8x1024x512) ![0, 0, 0] S1x1024x512.size inb_S8x1024x512_S1x1024x512_0_0_0)) (View.ld (Val := Elt Ideal) (e' := .bf16) x0 (Rect.unit (s := S512x4096) ![0, 512] S256x512.size inb_S512x4096_S256x512_0_512)) (View.ld (Val := Elt Ideal) (e' := .bf16) x3 (Rect.unit (s := S8x1024x512) ![1, 0, 0] S1x1024x512.size inb_S8x1024x512_S1x1024x512_1_0_0)) (View.ld (Val := Elt Ideal) (e' := .bf16) x0 (Rect.unit (s := S512x4096) ![0, 1024] S256x512.size inb_S512x4096_S256x512_0_1024)) (View.ld (Val := Elt Ideal) (e' := .bf16) x3 (Rect.unit (s := S8x1024x512) ![2, 0, 0] S1x1024x512.size inb_S8x1024x512_S1x1024x512_2_0_0)) (View.ld (Val := Elt Ideal) (e' := .bf16) x0 (Rect.unit (s := S512x4096) ![0, 1536] S256x512.size inb_S512x4096_S256x512_0_1536)) (View.ld (Val := Elt Ideal) (e' := .bf16) x3 (Rect.unit (s := S8x1024x512) ![3, 0, 0] S1x1024x512.size inb_S8x1024x512_S1x1024x512_3_0_0))) (View.ld (Val := Elt Ideal) (e' := .bf16) x0 (Rect.unit (s := S512x4096) ![0, 2048] S256x512.size inb_S512x4096_S256x512_0_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![0, 2560] S256x512.size inb_S512x4096_S256x512_0_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![0, 3072] S256x512.size inb_S512x4096_S256x512_0_3072)) (View.ld (Val := Elt Ideal) (e' := .bf16) x3 (Rect.unit (s := S8x1024x512) ![6, 0, 0] S1x1024x512.size inb_S8x1024x512_S1x1024x512_6_0_0)) (View.ld (Val := Elt Ideal) (e' := .bf16) x0 (Rect.unit (s := S512x4096) ![0, 3584] S256x512.size inb_S512x4096_S256x512_0_3584)) (View.ld (Val := Elt Ideal) (e' := .bf16) x3 (Rect.unit (s := S8x1024x512) ![7, 0, 0] S1x1024x512.size inb_S8x1024x512_S1x1024x512_7_0_0))
def D2 : Vec Ideal S256x1024 .f32 := k0_pay17 (k0_pay16 (View.ld (Val := Elt Ideal) (e' := .f32) x1 (Rect.unit (s := S512x1024) ![256, 0] S256x1024.size inb_S512x1024_S256x1024_256_0)) (View.ld (Val := Elt Ideal) (e' := .bf16) x0 (Rect.unit (s := S512x4096) ![256, 0] S256x512.size inb_S512x4096_S256x512_256_0)) (View.ld (Val := Elt Ideal) (e' := .bf16) x3 (Rect.unit (s := S8x1024x512) ![0, 0, 0] S1x1024x512.size inb_S8x1024x512_S1x1024x512_0_0_0)) (View.ld (Val := Elt Ideal) (e' := .bf16) x0 (Rect.unit (s := S512x4096) ![256, 512] S256x512.size inb_S512x4096_S256x512_256_512)) (View.ld (Val := Elt Ideal) (e' := .bf16) x3 (Rect.unit (s := S8x1024x512) ![1, 0, 0] S1x1024x512.size inb_S8x1024x512_S1x1024x512_1_0_0)) (View.ld (Val := Elt Ideal) (e' := .bf16) x0 (Rect.unit (s := S512x4096) ![256, 1024] S256x512.size inb_S512x4096_S256x512_256_1024)) (View.ld (Val := Elt Ideal) (e' := .bf16) x3 (Rect.unit (s := S8x1024x512) ![2, 0, 0] S1x1024x512.size inb_S8x1024x512_S1x1024x512_2_0_0)) (View.ld (Val := Elt Ideal) (e' := .bf16) x0 (Rect.unit (s := S512x4096) ![256, 1536] S256x512.size inb_S512x4096_S256x512_256_1536)) (View.ld (Val := Elt Ideal) (e' := .bf16) x3 (Rect.unit (s := S8x1024x512) ![3, 0, 0] S1x1024x512.size inb_S8x1024x512_S1x1024x512_3_0_0))) (View.ld (Val := Elt Ideal) (e' := .bf16) x0 (Rect.unit (s := S512x4096) ![256, 2048] S256x512.size inb_S512x4096_S256x512_256_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![256, 2560] S256x512.size inb_S512x4096_S256x512_256_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![256, 3072] S256x512.size inb_S512x4096_S256x512_256_3072)) (View.ld (Val := Elt Ideal) (e' := .bf16) x3 (Rect.unit (s := S8x1024x512) ![6, 0, 0] S1x1024x512.size inb_S8x1024x512_S1x1024x512_6_0_0)) (View.ld (Val := Elt Ideal) (e' := .bf16) x0 (Rect.unit (s := S512x4096) ![256, 3584] S256x512.size inb_S512x4096_S256x512_256_3584)) (View.ld (Val := Elt Ideal) (e' := .bf16) x3 (Rect.unit (s := S8x1024x512) ![7, 0, 0] S1x1024x512.size inb_S8x1024x512_S1x1024x512_7_0_0))
/-- the normed values, the halves; -/
def Y1 : Vec Ideal S256x1024 .f32 := (View.ld (Val := Elt Ideal) (e' := .f32) x2 (Rect.unit (s := S512x1024) ![0, 0] S256x1024.size inb_S512x1024_S256x1024_0_0))
def Y2 : Vec Ideal S256x1024 .f32 := (View.ld (Val := Elt Ideal) (e' := .f32) x2 (Rect.unit (s := S512x1024) ![256, 0] S256x1024.size inb_S512x1024_S256x1024_256_0))
/-- the gain; -/
def G0 : Vec Ideal S1x1024 .f32 := (View.ld (Val := Elt Ideal) (e' := .f32) x4 (Rect.unit (s := S2x1024) ![0, 0] S1x1024.size inb_S2x1024_S1x1024_0_0))
/-- the gradient before the norm; -/
def B1 : Vec Ideal S256x1024 .f32 := k0_pay13 (D1 x0 x1 x3) (k0_pay7 (Y1 x2)) (k0_pay8 (Y1 x2)) sE' (G0 x4)
def B2 : Vec Ideal S256x1024 .f32 := k0_pay24 (D2 x0 x1 x3) (k0_pay18 (Y2 x2)) (k0_pay19 (Y2 x2)) sN' (G0 x4)
/-- what is added to the gain's gradient and the shift's. -/
def P1 (acc : Vec Ideal S1x1024 .f32) : Vec Ideal S1x1024 .f32 := k0_pay11 (D1 x0 x1 x3) (k0_pay7 (Y1 x2)) (k0_pay8 (Y1 x2)) sE' acc
def P2 (acc : Vec Ideal S1x1024 .f32) : Vec Ideal S1x1024 .f32 := k0_pay22 (D2 x0 x1 x3) (k0_pay18 (Y2 x2)) (k0_pay19 (Y2 x2)) sN' acc
def Q1 (acc : Vec Ideal S1x1024 .f32) : Vec Ideal S1x1024 .f32 := k0_pay12 (D1 x0 x1 x3) acc
def Q2 (acc : Vec Ideal S1x1024 .f32) : Vec Ideal S1x1024 .f32 := k0_pay23 (D2 x0 x1 x3) acc

variable (p : Fin 256) (j : Fin 1024)

theorem D1_row : rowOf (D1 x0 x1 x3) p = dE x0 x3 x1 (half 0 p) := by
  funext j
  refine (pay6_at p j _ _ _ _ _ _ _ _ _).trans ?_
  rw [pay5_at]
  have e : ∀ (d : Fin 8) (off : Fin 2 → Nat) (h0 : off = ![((0 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 0 p) (col d n)) * x3 (ix3 (run (col d n)) j (inn (col d n)))) d :=
    fun d off h0 inb off' h0' inb' => part_run x0 x3 0 p j d _ _ (fun n => ld_sub x0 0 d off h0 inb p n) (fun n => ld_run x3 d off' h0' inb' j n)
  rw [e 0 ![0, 0] rfl _ ![0, 0, 0] rfl _, e 1 ![0, 512] rfl _ ![1, 0, 0] rfl _, e 2 ![0, 1024] rfl _ ![2, 0, 0] rfl _, e 3 ![0, 1536] rfl _ ![3, 0, 0] rfl _, e 4 ![0, 2048] rfl _ ![4, 0, 0] rfl _, e 5 ![0, 2560] rfl _ ![5, 0, 0] rfl _, e 6 ![0, 3072] rfl _ ![6, 0, 0] rfl _, e 7 ![0, 3584] rfl _ ![7, 0, 0] rfl _]
  exact dE_parts x0 x3 x1 0 p j _ (fun d => rfl) _ (ld_half x1 0 _ rfl _ p j)
theorem Y1_row : rowOf (Y1 x2) p = fun j => x2 (ix2 (half 0 p) j) := funext fun j => ld_half x2 0 _ rfl _ p j
theorem D2_row : rowOf (D2 x0 x1 x3) p = dE x0 x3 x1 (half 1 p) := by
  funext j
  refine (pay17_at p j _ _ _ _ _ _ _ _ _).trans ?_
  rw [pay16_at]
  have e : ∀ (d : Fin 8) (off : Fin 2 → Nat) (h0 : off = ![((1 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 1 p) (col d n)) * x3 (ix3 (run (col d n)) j (inn (col d n)))) d :=
    fun d off h0 inb off' h0' inb' => part_run x0 x3 1 p j d _ _ (fun n => ld_sub x0 1 d off h0 inb p n) (fun n => ld_run x3 d off' h0' inb' j n)
  rw [e 0 ![256, 0] rfl _ ![0, 0, 0] rfl _, e 1 ![256, 512] rfl _ ![1, 0, 0] rfl _, e 2 ![256, 1024] rfl _ ![2, 0, 0] rfl _, e 3 ![256, 1536] rfl _ ![3, 0, 0] rfl _, e 4 ![256, 2048] rfl _ ![4, 0, 0] rfl _, e 5 ![256, 2560] rfl _ ![5, 0, 0] rfl _, e 6 ![256, 3072] rfl _ ![6, 0, 0] rfl _, e 7 ![256, 3584] rfl _ ![7, 0, 0] rfl _]
  exact dE_parts x0 x3 x1 1 p j _ (fun d => rfl) _ (ld_half x1 1 _ rfl _ p j)
theorem Y2_row : rowOf (Y2 x2) p = fun j => x2 (ix2 (half 1 p) j) := funext fun j => ld_half x2 1 _ rfl _ p j
theorem G0_row : gainOf (G0 x4) = fun j => x4 (ix2 0 j) := funext fun j => ld_first x4 _ rfl _ j

/-- A tile's gradient before the norm, its row `r`. -/
def bT (r : Fin 512) (j : Fin 1024) : EReal := back (fun j => x2 (ix2 r j)) (dE x0 x3 x1 r) (fun j => x4 (ix2 0 j)) j

theorem B1_at : B1 x0 x1 x2 x3 x4 (ix2 p j) = bT x0 x1 x2 x3 x4 (half 0 p) j := by
  refine (pay13_at p j _ _ _).trans ?_
  rw [D1_row, Y1_row, G0_row]; rfl
theorem B2_at : B2 x0 x1 x2 x3 x4 (ix2 p j) = bT x0 x1 x2 x3 x4 (half 1 p) j := by
  refine (pay24_at p j _ _ _).trans ?_
  rw [D2_row, Y2_row, G0_row]; rfl

/-- What a tile adds to the gain's gradient. -/
def gT (j : Fin 1024) : EReal := ∑ r : Fin 512, dE x0 x3 x1 r j * hat (fun j => x2 (ix2 r j)) j
/-- What it adds to the shift's. -/
def sT (j : Fin 1024) : EReal := ∑ r : Fin 512, dE x0 x3 x1 r j

theorem P_at (acc : Vec Ideal S1x1024 .f32) : P2 x0 x1 x2 x3 (P1 x0 x1 x2 x3 acc) (ix2 0 j) = acc (ix2 0 j) + gT x0 x1 x2 x3 j := by
  refine (pay22_at j _ _ _).trans ?_
  refine (congrArg (fun a : EReal => a + _) (pay11_at j _ _ _)).trans ?_
  unfold gT
  rw [sum_halves, ← add_assoc]
  refine congrArg₂ (fun a b : EReal => acc (ix2 0 j) + a + b) ?_ ?_
  · exact Cols.sums fun q => Cols.muls (congrFun (D1_row x0 x1 x3 q) j) (congrArg (fun f => hat f j) (Y1_row x2 q))
  · exact Cols.sums fun q => Cols.muls (congrFun (D2_row x0 x1 x3 q) j) (congrArg (fun f => hat f j) (Y2_row x2 q))
theorem Q_at (acc : Vec Ideal S1x1024 .f32) : Q2 x0 x1 x3 (Q1 x0 x1 x3 acc) (ix2 0 j) = acc (ix2 0 j) + sT x0 x1 x3 j := by
  refine (pay23_at j _ _).trans ?_
  refine (congrArg (fun a : EReal => a + _) (pay12_at j _ _)).trans ?_
  unfold sT
  rw [sum_halves, ← add_assoc]
  refine congrArg₂ (fun a b : EReal => acc (ix2 0 j) + a + b) ?_ ?_
  · exact Cols.sums fun q => congrFun (D1_row x0 x1 x3 q) j
  · exact Cols.sums fun q => congrFun (D2_row x0 x1 x3 q) j

variable (i : grid0.Coords) (d1 : Memref sig .tc .vmem S512x4096 .bf16) (w1 : d1.IsWhole) (d2 : Memref sig .tc .vmem S512x1024 .f32) (w2 : d2.IsWhole) (d3 : Memref sig .tc .vmem S512x1024 .f32) (w3 : d3.IsWhole) (d4 : Memref sig .tc .vmem S8x1024x512 .bf16) (w4 : d4.IsWhole) (d5 : Memref sig .tc .vmem S2x1024 .f32) (w5 : d5.IsWhole) (d6 : Memref sig .tc .vmem S512x1024 .f32) (w6 : d6.IsWhole) (d7 : Memref sig .tc .vmem S512x1024 .bf16) (w7 : d7.IsWhole) (d8 : Memref sig .tc .vmem S1x1024 .f32) (w8 : d8.IsWhole) (d9 : Memref sig .tc .vmem S1x1024 .f32) (w9 : d9.IsWhole)
  (xo7 xo8 : Vec Ideal S1x1024 .f32)

theorem outA5 (hc0) : out0_A_5 c i d1 w1 d2 w2 d3 w3 d4 w4 d5 w5 d6 w6 d7 w7 d8 w8 d9 w9 hc0 x0 x1 x2 x3 x4 = fun ix : S512x1024.Idx => (bT x0 x1 x2 x3 x4 : Fin 512 → Fin 1024 → Elt Ideal .f32) (ix 0) (ix 1) := by
  unfold out0_A_5
  rw [View.read_writes_eq_canon _ _ _ (cover0_A_5 _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_A_5 _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w8.read_unread, w9.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (pay1_at p q (B2 x0 x1 x2 x3 x4)).trans (B2_at x0 x1 x2 x3 x4 p q)) z
  · exact piece_half (φ := .f32) (bT x0 x1 x2 x3 x4) 0 _ _ rfl inb_S512x1024_S256x1024_0_0 (fun p q => (pay14_at p q (B1 x0 x1 x2 x3 x4)).trans (B1_at x0 x1 x2 x3 x4 p q)) z
theorem outA6 (hc0) : out0_A_6 c i d1 w1 d2 w2 d3 w3 d4 w4 d5 w5 d6 w6 d7 w7 d8 w8 d9 w9 hc0 x0 x1 x2 x3 x4 = fun ix : S512x1024.Idx => (bT x0 x1 x2 x3 x4 : Fin 512 → Fin 1024 → Elt Ideal .bf16) (ix 0) (ix 1) := by
  unfold out0_A_6
  rw [View.read_writes_eq_canon _ _ _ (cover0_A_6 _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_A_6 _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w8.read_unread, w9.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (pay2_at p q (B2 x0 x1 x2 x3 x4)).trans (B2_at x0 x1 x2 x3 x4 p q)) z
  · exact piece_half (φ := .bf16) (bT x0 x1 x2 x3 x4) 0 _ _ rfl inb_S512x1024_S256x1024_0_0 (fun p q => (pay15_at p q (B1 x0 x1 x2 x3 x4)).trans (B1_at x0 x1 x2 x3 x4 p q)) z
theorem outA7 (hc0) : out0_A_7 c i d1 w1 d2 w2 d3 w3 d4 w4 d5 w5 d6 w6 d7 w7 d8 w8 d9 w9 hc0 x0 x1 x2 x3 x4 = P2 x0 x1 x2 x3 (P1 x0 x1 x2 x3 (k0_pay3 (F := Ideal))) := by
  unfold out0_A_7
  rw [View.read_writes_eq_canon _ _ _ (cover0_A_7 _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w8.read_unread, w9.read_unread]
  rw [View.canon_cons_unit_zero z2, View.readCov_full, View.readCov_full]
  rfl
theorem outA8 (hc0) : out0_A_8 c i d1 w1 d2 w2 d3 w3 d4 w4 d5 w5 d6 w6 d7 w7 d8 w8 d9 w9 hc0 x0 x1 x2 x3 x4 = Q2 x0 x1 x3 (Q1 x0 x1 x3 (k0_pay4 (F := Ideal))) := by
  unfold out0_A_8
  rw [View.read_writes_eq_canon _ _ _ (cover0_A_8 _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w8.read_unread, w9.read_unread]
  rw [View.canon_cons_unit_zero z2, View.readCov_full, View.readCov_full]
  rfl
theorem outB5 (hc0) : out0_B_5 c i d1 w1 d2 w2 d3 w3 d4 w4 d5 w5 d6 w6 d7 w7 d8 w8 d9 w9 hc0 x0 x1 x2 x3 x4 xo7 xo8 = fun ix : S512x1024.Idx => (bT x0 x1 x2 x3 x4 : Fin 512 → Fin 1024 → Elt Ideal .f32) (ix 0) (ix 1) := by
  unfold out0_B_5
  rw [View.read_writes_eq_canon _ _ _ (cover0_B_5 _ _ _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_B_5 _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w8.read_unread, w9.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (pay1_at p q (B2 x0 x1 x2 x3 x4)).trans (B2_at x0 x1 x2 x3 x4 p q)) z
  · exact piece_half (φ := .f32) (bT x0 x1 x2 x3 x4) 0 _ _ rfl inb_S512x1024_S256x1024_0_0 (fun p q => (pay14_at p q (B1 x0 x1 x2 x3 x4)).trans (B1_at x0 x1 x2 x3 x4 p q)) z
theorem outB6 (hc0) : out0_B_6 c i d1 w1 d2 w2 d3 w3 d4 w4 d5 w5 d6 w6 d7 w7 d8 w8 d9 w9 hc0 x0 x1 x2 x3 x4 xo7 xo8 = fun ix : S512x1024.Idx => (bT x0 x1 x2 x3 x4 : Fin 512 → Fin 1024 → Elt Ideal .bf16) (ix 0) (ix 1) := by
  unfold out0_B_6
  rw [View.read_writes_eq_canon _ _ _ (cover0_B_6 _ _ _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_B_6 _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w8.read_unread, w9.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (pay2_at p q (B2 x0 x1 x2 x3 x4)).trans (B2_at x0 x1 x2 x3 x4 p q)) z
  · exact piece_half (φ := .bf16) (bT x0 x1 x2 x3 x4) 0 _ _ rfl inb_S512x1024_S256x1024_0_0 (fun p q => (pay15_at p q (B1 x0 x1 x2 x3 x4)).trans (B1_at x0 x1 x2 x3 x4 p q)) z
theorem outB7 (hc0) : out0_B_7 c i d1 w1 d2 w2 d3 w3 d4 w4 d5 w5 d6 w6 d7 w7 d8 w8 d9 w9 hc0 x0 x1 x2 x3 x4 xo7 xo8 = P2 x0 x1 x2 x3 (P1 x0 x1 x2 x3 xo7) := by
  unfold out0_B_7
  rw [View.read_writes_eq_canon _ _ _ (cover0_B_7 _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w8.read_unread, w9.read_unread]
  rw [View.canon_cons_unit_zero z2, View.readCov_full, View.ld_unit_zero (S := S1x1024) z2]
  rfl
theorem outB8 (hc0) : out0_B_8 c i d1 w1 d2 w2 d3 w3 d4 w4 d5 w5 d6 w6 d7 w7 d8 w8 d9 w9 hc0 x0 x1 x2 x3 x4 xo7 xo8 = Q2 x0 x1 x3 (Q1 x0 x1 x3 xo8) := by
  unfold out0_B_8
  rw [View.read_writes_eq_canon _ _ _ (cover0_B_8 _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w8.read_unread, w9.read_unread]
  rw [View.canon_cons_unit_zero z2, View.readCov_full, View.ld_unit_zero (S := S1x1024) z2]
  rfl

end Tile

/-! ## The launch -/

/-- The hidden gradient, the matrix, the branch that skips, the sums that were normed, the gain. -/
abbrev aA : FVec Ideal S4096x4096 .bf16 := m ((c : Thread nD τ).loc main_arg0)
abbrev aW : FVec Ideal S8x1024x512 .bf16 := m ((c : Thread nD τ).loc main_arg1)
abbrev aH : FVec Ideal S4096x1024 .f32 := m ((c : Thread nD τ).loc main_arg2)
abbrev aY : FVec Ideal S4096x1024 .f32 := m ((c : Thread nD τ).loc main_arg3)
abbrev aG : FVec Ideal S2x1024 .f32 := m ((c : Thread nD τ).loc main_arg4)

theorem lt8 (t : Fin cfg0.N) : t.val < 8 := lt_of_lt_of_eq t.isLt N_0

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![t.val, 0]
    ∧ win0_7.index t = ![0, 0] ∧ win0_8.index t = ![0, 0] := by
  decide +kernel

theorem blkA (t : Fin cfg0.N) (r : Fin 512) (k : Fin 4096) : iblk m c 0 t (ix2 r k) = aA m c (ix2 (col ⟨t.val, lt8 t⟩ r) k) := by
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkY (t : Fin cfg0.N) (r : Fin 512) (k : Fin 1024) : iblk m c 2 t (ix2 r k) = aY m c (ix2 (col ⟨t.val, lt8 t⟩ r) k) := by
  unfold col
  blk_ext [iblk, idx t]
theorem blkW (t : Fin cfg0.N) (e : Fin 8) (k : Fin 1024) (n : Fin 512) : iblk m c 3 t (ix3 e k n) = aW m c (ix3 e k n) := by
  blk_ext [iblk, idx t]
theorem blkG (t : Fin cfg0.N) (k : Fin 2) (j : Fin 1024) : iblk m c 4 t (ix2 k j) = aG m c (ix2 k j) := by
  blk_ext [iblk, idx t]

/-- The gradient at the norm's result, a row of it; -/
def dW (r : Fin 4096) : Fin 1024 → EReal := dE (aA m c) (aW m c) (aH m c) r
/-- a normed row; -/
def yW (r : Fin 4096) (j : Fin 1024) : EReal := aY m c (ix2 r j)
/-- the gradient before the norm; -/
def bW (r : Fin 4096) (j : Fin 1024) : EReal := back (yW m c r) (dW m c r) (fun j => aG m c (ix2 0 j)) j
/-- what a row adds to the gain's gradient. -/
def gW (j : Fin 1024) (r : Fin 4096) : EReal := dW m c r j * hat (yW m c r) j

abbrev x0 (t : Fin cfg0.N) : Vec Ideal S512x4096 .bf16 := iblk m c 0 t
abbrev x1 (t : Fin cfg0.N) : Vec Ideal S512x1024 .f32 := iblk m c 1 t
abbrev x2 (t : Fin cfg0.N) : Vec Ideal S512x1024 .f32 := iblk m c 2 t
abbrev x3 (t : Fin cfg0.N) : Vec Ideal S8x1024x512 .bf16 := iblk m c 3 t
abbrev x4 (t : Fin cfg0.N) : Vec Ideal S2x1024 .f32 := iblk m c 4 t

theorem d_tile (t : Fin cfg0.N) (r : Fin 512) : dE (x0 m c t) (x3 m c t) (x1 m c t) r = dW m c (col ⟨t.val, lt8 t⟩ r) :=
  dE_tile _ _ _ _ _ _ ⟨t.val, lt8 t⟩ (blkA m c t) (blkW m c t) (blkH m c t) r
theorem y_tile (t : Fin cfg0.N) (r : Fin 512) : (fun j : Fin 1024 => x2 m c t (ix2 r j)) = yW m c (col ⟨t.val, lt8 t⟩ r) :=
  funext fun j => blkY m c t r j
theorem b_tile (t : Fin cfg0.N) (r : Fin 512) (j : Fin 1024) :
    bT (x0 m c t) (x1 m c t) (x2 m c t) (x3 m c t) (x4 m c t) r j = bW m c (col ⟨t.val, lt8 t⟩ r) j := by
  unfold bT bW
  rw [d_tile, y_tile]
  exact congrArg (fun g => back (yW m c (col ⟨t.val, lt8 t⟩ r)) (dW m c (col ⟨t.val, lt8 t⟩ r)) g j) (funext fun j => blkG m c t 0 j)
theorem g_tile (t : Fin cfg0.N) (j : Fin 1024) : gT (x0 m c t) (x1 m c t) (x2 m c t) (x3 m c t) j = tileSum (gW m c j) t.val := by
  unfold gT
  rw [tileSum_lt _ (lt8 t)]
  refine Cols.sums fun r => ?_
  rw [d_tile, y_tile]; rfl
theorem s_tile (t : Fin cfg0.N) (j : Fin 1024) : sT (x0 m c t) (x1 m c t) (x3 m c t) j = tileSum (fun r => dW m c r j) t.val := by
  unfold sT
  rw [tileSum_lt _ (lt8 t)]
  refine Cols.sums fun r => ?_
  rw [d_tile]

/-- After a point, the running sum over the rows so far. -/
theorem acc7 (j : Fin 1024) : ∀ (n : ℕ) (h : n < cfg0.N), (outsAt0 m c n h).2.2.1 (ix2 0 j) = upTo (gW m c j) n
  | 0, h => by
    refine (congrArg (fun z => z.2.2.1 (ix2 0 j)) (outsAt0_A m c ⟨0, h⟩ rfl)).trans ?_
    dsimp only
    rw [outA7, P_at, pay3_at, zero_add, upTo_zero]
    exact g_tile m c ⟨0, h⟩ j
  | n + 1, h => by
    have h8 : n + 1 < 8 := lt8 ⟨n + 1, h⟩
    refine (congrArg (fun z => z.2.2.1 (ix2 0 j)) (outsAt0_B m c ⟨n + 1, h⟩ (by show ¬(n + 1) % 8 = 0; omega))).trans ?_
    dsimp only
    rw [outB7, P_at, upTo_succ]
    exact Cols.adds (acc7 j n (Nat.lt_of_succ_lt h)) (g_tile m c ⟨n + 1, h⟩ j)

/-- After a point, the running sum over the rows so far. -/
theorem acc8 (j : Fin 1024) : ∀ (n : ℕ) (h : n < cfg0.N), (outsAt0 m c n h).2.2.2 (ix2 0 j) = upTo (fun r => dW m c r j) n
  | 0, h => by
    refine (congrArg (fun z => z.2.2.2 (ix2 0 j)) (outsAt0_A m c ⟨0, h⟩ rfl)).trans ?_
    dsimp only
    rw [outA8, Q_at, pay4_at, zero_add, upTo_zero]
    exact s_tile m c ⟨0, h⟩ j
  | n + 1, h => by
    have h8 : n + 1 < 8 := lt8 ⟨n + 1, h⟩
    refine (congrArg (fun z => z.2.2.2 (ix2 0 j)) (outsAt0_B m c ⟨n + 1, h⟩ (by show ¬(n + 1) % 8 = 0; omega))).trans ?_
    dsimp only
    rw [outB8, Q_at, upTo_succ]
    exact Cols.adds (acc8 j n (Nat.lt_of_succ_lt h)) (s_tile m c ⟨n + 1, h⟩ j)

theorem tile5 (t : Fin cfg0.N) : (outsAt0 m c t.val t.isLt).1 = fun ix : S512x1024.Idx =>
    (bT (x0 m c t) (x1 m c t) (x2 m c t) (x3 m c t) (x4 m c t) : Fin 512 → Fin 1024 → Elt Ideal .f32) (ix 0) (ix 1) := by
  by_cases h0 : t.val % 8 = 0
  · refine (congrArg (fun z => z.1) (outsAt0_A m c t h0)).trans ?_
    dsimp only
    rw [outA5]
  · refine (congrArg (fun z => z.1) (outsAt0_B m c t h0)).trans ?_
    dsimp only
    rw [outB5]

theorem tile6 (t : Fin cfg0.N) : (outsAt0 m c t.val t.isLt).2.1 = fun ix : S512x1024.Idx =>
    (bT (x0 m c t) (x1 m c t) (x2 m c t) (x3 m c t) (x4 m c t) : Fin 512 → Fin 1024 → Elt Ideal .bf16) (ix 0) (ix 1) := by
  by_cases h0 : t.val % 8 = 0
  · refine (congrArg (fun z => z.2.1) (outsAt0_A m c t h0)).trans ?_
    dsimp only
    rw [outA6]
  · refine (congrArg (fun z => z.2.1) (outsAt0_B m c t h0)).trans ?_
    dsimp only
    rw [outB6]

/-- The gradient before the norm, in full and shortened; the gain's gradient; the shift's. -/
def oY : FVec Ideal S4096x1024 .f32 := fun ix => bW m c (ix 0) (ix 1)
def oT : FVec Ideal S4096x1024 .bf16 := fun ix => bW m c (ix 0) (ix 1)
def oG : FVec Ideal S1x1024 .f32 := fun ix => ∑ r, gW m c (ix 1) r
def oS : FVec Ideal S1x1024 .f32 := fun ix => ∑ r, dW m c r (ix 1)

theorem final5 : (dats m 0 c).arrAt 5 cfg0.N = oY m c := by
  refine (dats m 0 c).arrAt_eq_of_covers 5 _ (by decide +kernel) fun t hf y => ?_
  blk_simp
  rw [after0_5]
  have ee : ((((cfg0.win 5).blk t).view.emb y) : S4096x1024.Idx) = ix2 (col ⟨t.val, lt8 t⟩ (y 0 : Fin 512)) (y 1 : Fin 1024) := by
    unfold col
    blk_ext [idx t]
  refine (congrFun (tile5 m c t) y).trans ((b_tile m c t (y 0) (y 1)).trans ?_)
  exact (congrArg (oY m c) ee).symm

theorem final6 : (dats m 0 c).arrAt 6 cfg0.N = oT m c := by
  refine (dats m 0 c).arrAt_eq_of_covers 6 _ (by decide +kernel) fun t hf y => ?_
  blk_simp
  rw [after0_6]
  have ee : ((((cfg0.win 6).blk t).view.emb y) : S4096x1024.Idx) = ix2 (col ⟨t.val, lt8 t⟩ (y 0 : Fin 512)) (y 1 : Fin 1024) := by
    unfold col
    blk_ext [idx t]
  refine (congrFun (tile6 m c t) y).trans ((b_tile m c t (y 0) (y 1)).trans ?_)
  exact (congrArg (oT m c) ee).symm

theorem final7 : (dats m 0 c).arrAt 7 cfg0.N = oG m c := by
  refine (dats m 0 c).arrAt_eq_of_covers 7 _ (by decide +kernel) fun t hf y => ?_
  have h7 : t.val = 7 := by have := (flush0_7 t).mp hf; have := lt8 t; omega
  blk_simp
  rw [after0_7]
  have ey : (y : S1x1024.Idx) = ix2 (0 : Fin 1) (y 1 : Fin 1024) := by
    funext a; fin_cases a
    · exact Subsingleton.elim (α := Fin 1) _ _
    · rfl
  have ee : ((((cfg0.win 7).blk t).view.emb y) : S1x1024.Idx) = ix2 (0 : Fin 1) (y 1 : Fin 1024) := by
    rw [ey]
    blk_ext [idx t]
  refine (congrArg (outsAt0 m c t.val t.isLt).2.2.1 ey).trans ((acc7 m c (y 1) t.val t.isLt).trans ?_)
  rw [h7, upTo_last]
  exact (congrArg (oG m c) ee).symm

theorem final8 : (dats m 0 c).arrAt 8 cfg0.N = oS m c := by
  refine (dats m 0 c).arrAt_eq_of_covers 8 _ (by decide +kernel) fun t hf y => ?_
  have h7 : t.val = 7 := by have := (flush0_8 t).mp hf; have := lt8 t; omega
  blk_simp
  rw [after0_8]
  have ey : (y : S1x1024.Idx) = ix2 (0 : Fin 1) (y 1 : Fin 1024) := by
    funext a; fin_cases a
    · exact Subsingleton.elim (α := Fin 1) _ _
    · rfl
  have ee : ((((cfg0.win 8).blk t).view.emb y) : S1x1024.Idx) = ix2 (0 : Fin 1) (y 1 : Fin 1024) := by
    rw [ey]
    blk_ext [idx t]
  refine (congrArg (outsAt0 m c t.val t.isLt).2.2.2 ey).trans ((acc8 m c (y 1) t.val t.isLt).trans ?_)
  rw [h7, upTo_last]
  exact (congrArg (oS m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = oY m c ∧ r.2.mem ((c.tc : Thread nD τ).loc main_v0_1) = oT m c
      ∧ r.2.mem ((c.tc : Thread nD τ).loc main_v0_2) = oG m c ∧ r.2.mem ((c.tc : Thread nD τ).loc main_v0_3) = oS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final5 m c), ((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelDnIdeal.Val

namespace Cert.ReferenceDnIdeal.Val

open Cert.ReferenceDnIdeal Cert.ReferenceDnIdeal.Gen Idealize.ShloMosaic Idealize.ShloMosaic.TcCoe Idealize.SL.Sem Idealize.ShloMosaic.StableHlo Cert.Cols Cert.Norm

/-- The matrix whose columns are kept in runs; -/
def whole (W : FVec Ideal S8x1024x512 .bf16) : FVec Ideal S1024x4096 .f32 :=
  shapeCast _ (transpose S1024x8x512 [1, 0, 2] (extf .f32 W bitsLt_bf16_f32) transposes_S8x1024x512_S1024x8x512_1_0_2) shapeCasts_S1024x8x512_S1024x4096
/-- the gradient at the norm's result. -/
def dM (A : FVec Ideal S4096x4096 .bf16) (W : FVec Ideal S8x1024x512 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x4096_S1024x4096_S4096x1024_1_1_0_0_n_n none (extf .f32 A bitsLt_bf16_f32) (whole W))

/-- A row's sum over its length; -/
def mid (y : FVec Ideal S4096x1024 .f32) : FVec Ideal S4096x1 .f32 :=
  Host.divf (broadcastInDim S4096x1 ![0] bcast_S4096_S4096x1_0 (Host.reduceAdd y (constant S_ .f32 0x00000000#32) reducesTo_S4096x1024_S4096_d1 h_S_))
    (broadcastInDim S4096x1 ![] bcast_S_S4096x1 (constant S_ .f32 0x44800000#32))
/-- the rows less their means, -/
def less (y : FVec Ideal S4096x1024 .f32) : FVec Ideal S4096x1024 .f32 := subf y (broadcastInDim S4096x1024 ![0, 1] bcast_S4096x1_S4096x1024_0_1 (mid y))
/-- the variance and the small number, -/
def vare (y : FVec Ideal S4096x1024 .f32) : FVec Ideal S4096x1 .f32 :=
  addf (mid (mulf (less y) (less y))) (broadcastInDim S4096x1 ![] bcast_S_S4096x1 (constant S_ .f32 0x3727C5AC#32))
/-- the inverse root, -/
def root (y : FVec Ideal S4096x1024 .f32) : FVec Ideal S4096x1 .f32 := Host.rsqrt (vare y)
/-- spread over the rows, -/
def wide (y : FVec Ideal S4096x1024 .f32) : FVec Ideal S4096x1024 .f32 := broadcastInDim S4096x1024 ![0, 1] bcast_S4096x1_S4096x1024_0_1 (root y)
/-- the first of two rows, spread over all rows. -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast _ (extractStridedSlice S1x1024 ![0, 0] g slices_S2x1024_S1x1024_0_0) shapeCasts_S1x1024_S1024))

section Chain
variable (D y : FVec Ideal S4096x1024 .f32) (g : FVec Ideal S2x1024 .f32)

/-- The gradient through the product with the inverse root; -/
def thru : FVec Ideal S4096x1024 .f32 := mulf (mulf D (spread g)) (wide y)
/-- a row's sum, kept as a column; -/
def rowSum (x : FVec Ideal S4096x1024 .f32) : FVec Ideal S4096x1 .f32 :=
  shapeCast _ (Host.reduceAdd x (constant S_ .f32 0x00000000#32) reducesTo_S4096x1024_S4096_d1 h_S_) shapeCasts_S4096_S4096x1
/-- a column over the row's length, spread over the rows; -/
def overN (x : FVec Ideal S4096x1 .f32) : FVec Ideal S4096x1024 .f32 :=
  broadcastInDim S4096x1024 ![0] bcast_S4096_S4096x1024_0 (Host.reduceAdd (Host.divf x (broadcastInDim S4096x1 ![] bcast_S_S4096x1 (constant S_ .f32 0x44800000#32)))
    (constant S_ .f32 0x00000000#32) reducesTo_S4096x1_S4096_d1 h_S_)
/-- the gradient of the variance; -/
def slope : FVec Ideal S4096x1 .f32 :=
  mulf (rowSum (mulf (less y) (mulf D (spread g))))
    (mulf (broadcastInDim S4096x1 ![] bcast_S_S4096x1 (constant S_ .f32 0xBF000000#32)) (Host.divf (root y) (vare y)))
/-- the gradient through the variance; -/
def lean : FVec Ideal S4096x1024 .f32 :=
  mulf (overN (slope D y g)) (mulf (broadcastInDim S4096x1024 ![] bcast_S_S4096x1024 (constant S_ .f32 0x40000000#32)) (less y))
/-- the whole gradient. -/
def dY : FVec Ideal S4096x1024 .f32 :=
  addf (addf (thru D y g) (lean D y g)) (overN (addf (rowSum (Host.negf (thru D y g))) (rowSum (Host.negf (lean D y g)))))
/-- A column's sum over all rows, as a row. -/
def down (x : FVec Ideal S4096x1024 .f32) : FVec Ideal S1x1024 .f32 :=
  shapeCast _ (Host.reduceAdd (shapeCast _ (Host.reduceAdd x (constant S_ .f32 0x00000000#32) reducesTo_S4096x1024_S1024_d0 h_S_) shapeCasts_S1024_S1x1024 : FVec Ideal S1x1024 .f32)
    (constant S_ .f32 0x00000000#32) reducesTo_S1x1024_S1024_d0 h_S_) shapeCasts_S1024_S1x1024

variable (r : Fin 4096) (j : Fin 1024)

/-- A row of a matrix. -/
abbrev row (x : FVec Ideal S4096x1024 .f32) (r : Fin 4096) (j : Fin 1024) : EReal := x (ix2 r j)

theorem whole_at (W : FVec Ideal S8x1024x512 .bf16) (k : Fin 4096) : whole W (ix2 j k) = W (ix3 (run k) j (inn k)) := by
  unfold run inn
  pointwise [whole]
theorem dM_at (A : FVec Ideal S4096x4096 .bf16) (W : FVec Ideal S8x1024x512 .bf16) (H : FVec Ideal S4096x1024 .f32) : dM A W H (ix2 r j) = dE A W H r j := by
  refine Eq.trans (b := kA * H (ix2 r j) + ∑ k : Fin 4096, A (ix2 r k) * whole W (ix2 j k)) ?_ ?_
  · pointwise [dM]
  · unfold dE
    exact congrArg (fun a : EReal => kA * H (ix2 r j) + a) (Cols.sums fun k => congrArg (fun b : EReal => A (ix2 r k) * b) (whole_at j W k))
theorem mid_at : mid y (ix2 r 0) = mean (row y r) := by
  unfold mean; pointwise [mid]
theorem less_at : less y (ix2 r j) = cen (row y r) j := by
  refine Eq.trans (b := y (ix2 r j) - mid y (ix2 r 0)) ?_ ?_
  · pointwise [less]
  · rw [mid_at]; rfl
theorem vare_at : vare y (ix2 r 0) = vr (row y r) + kE := by
  refine Eq.trans (b := mid (mulf (less y) (less y)) (ix2 r 0) + kE) ?_ ?_
  · pointwise [vare]
  · rw [mid_at]
    unfold vr
    refine congrArg (fun f : Fin 1024 → EReal => mean f + kE) (funext fun j => ?_)
    exact Cols.muls (less_at y r j) (less_at y r j)
theorem root_at : root y (ix2 r 0) = rs (row y r) := by
  refine Eq.trans (b := Ideal.rsqrt (vare y (ix2 r 0))) ?_ ?_
  · pointwise [root]
  · rw [vare_at]; rfl
theorem wide_at : wide y (ix2 r j) = rs (row y r) := by
  rw [← root_at]; pointwise [wide]
theorem spread_at : spread g (ix2 r j) = g (ix2 0 j) := by
  pointwise [spread]

/-- The gain. -/
abbrev gain (g : FVec Ideal S2x1024 .f32) (j : Fin 1024) : EReal := g (ix2 0 j)

theorem thru_at : thru D y g (ix2 r j) = cA (row y r) (row D r) (gain g) j := by
  refine Eq.trans (b := D (ix2 r j) * spread g (ix2 r j) * wide y (ix2 r j)) ?_ ?_
  · pointwise [thru]
  · rw [spread_at, wide_at]; rfl
theorem rowSum_at (x : FVec Ideal S4096x1024 .f32) : rowSum x (ix2 r 0) = ∑ j : Fin 1024, x (ix2 r j) := by
  pointwise [rowSum]
theorem overN_at (x : FVec Ideal S4096x1 .f32) : overN x (ix2 r j) = Ideal.div (x (ix2 r 0)) kN := by
  pointwise [overN]
  exact Fin.sum_univ_one _
theorem slope_at : slope D y g (ix2 r 0) = (∑ k : Fin 1024, cen (row y r) k * (row D r k * gain g k)) * (kH * Ideal.div (rs (row y r)) (vr (row y r) + kE)) := by
  refine Eq.trans (b := rowSum (mulf (less y) (mulf D (spread g))) (ix2 r 0) * (kH * Ideal.div (root y (ix2 r 0)) (vare y (ix2 r 0)))) ?_ ?_
  · pointwise [slope]
  · rw [rowSum_at, root_at, vare_at]
    refine congrArg (fun a : EReal => a * _) (Cols.sums fun k => ?_)
    exact congrArg₂ (fun a b : EReal => a * (D (ix2 r k) * b)) (less_at y r k) (spread_at g r k)
theorem lean_at : lean D y g (ix2 r j) = cB (row y r) (row D r) (gain g) j := by
  refine Eq.trans (b := overN (slope D y g) (ix2 r j) * (k2 * less y (ix2 r j))) ?_ ?_
  · pointwise [lean]
  · rw [overN_at, slope_at, less_at]; rfl
theorem dY_at : dY D y g (ix2 r j) = chain (row y r) (row D r) (gain g) j := by
  refine Eq.trans (b := thru D y g (ix2 r j) + lean D y g (ix2 r j)
    + overN (addf (rowSum (Host.negf (thru D y g))) (rowSum (Host.negf (lean D y g)))) (ix2 r j)) ?_ ?_
  · pointwise [dY]
  · rw [thru_at, lean_at, overN_at]
    refine congrArg (fun a : EReal => cA (row y r) (row D r) (gain g) j + cB (row y r) (row D r) (gain g) j + Ideal.div a kN) ?_
    refine Cols.adds ((rowSum_at r _).trans ?_) ((rowSum_at r _).trans ?_)
    · exact Cols.sums fun k => congrArg (fun a : EReal => -a) (thru_at D y g r k)
    · exact Cols.sums fun k => congrArg (fun a : EReal => -a) (lean_at D y g r k)
theorem down_at (x : FVec Ideal S4096x1024 .f32) : down x (ix2 0 j) = ∑ r : Fin 4096, x (ix2 r j) := by
  pointwise [down]
  exact Fin.sum_univ_one _
theorem gain_at : down (mulf (mulf (less y) (wide y)) D) (ix2 0 j) = ∑ r : Fin 4096, row D r j * hat (row y r) j := by
  rw [down_at]
  refine Cols.sums fun r => ?_
  refine (congrArg₂ (fun a b : EReal => a * b * D (ix2 r j)) (less_at y r j) (wide_at y r j)).trans ?_
  exact EReal.mul_comm _ _

end Chain

theorem out0_eq (m : (ℓ : Loc nD τ sig) → Buf (Elt Ideal) ℓ) (c : Dev nD) :
    Value.res_out0 m c = dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  unfold Value.res_out0 Value.res_main_v77; rfl
theorem out1_eq (m : (ℓ : Loc nD τ sig) → Buf (Elt Ideal) ℓ) (c : Dev nD) :
    Value.res_out1 m c = truncf .bf16 (dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) bitsLt_bf16_f32 := by
  unfold Value.res_out1 Value.res_main_v78; rfl

end Cert.ReferenceDnIdeal.Val

namespace Cert.Proof

open Idealize.ShloMosaic Idealize.SL.Sem

theorem values_Dn : Cert.algebraic_KernelDnIdeal_ReferenceDnIdeal_pre_finite_norm (hPre_finite_norm := Cert.Pre_finite_norm.Gen.facts) := by
  intro m g m' g' hpre hargs
  have hre := fun c => @Cert.Pre_finite_norm.real_of_fn Cert.Pre_finite_norm.Gen.facts _ _ _ _ _ (hpre c)
  have hD : ∀ (c : Dev Cert.KernelDnIdeal.nD) (r : Fin 4096), Cert.ReferenceDnIdeal.Val.row (Cert.ReferenceDnIdeal.Val.dM (Cert.KernelDnIdeal.Val.aA m c) (Cert.KernelDnIdeal.Val.aW m c) (Cert.KernelDnIdeal.Val.aH m c)) r = Cert.KernelDnIdeal.Val.dW m c r := fun c r =>
    funext fun j => Cert.ReferenceDnIdeal.Val.dM_at r j _ _ _
  have meet : ∀ (c : Dev Cert.KernelDnIdeal.nD) (ix : Cert.KernelDnIdeal.S4096x1024.Idx), Cert.ReferenceDnIdeal.Val.dY (Cert.ReferenceDnIdeal.Val.dM (Cert.KernelDnIdeal.Val.aA m c) (Cert.KernelDnIdeal.Val.aW m c) (Cert.KernelDnIdeal.Val.aH m c)) (Cert.KernelDnIdeal.Val.aY m c) (Cert.KernelDnIdeal.Val.aG m c) ix = Cert.KernelDnIdeal.Val.bW m c (ix 0) (ix 1) := fun c ix => by
    refine (congrArg _ (eq_ix2 ix)).trans ((Cert.ReferenceDnIdeal.Val.dY_at _ _ _ (ix 0) (ix 1)).trans ?_)
    rw [hD c (ix 0)]
    exact (Cert.Norm.back_eq _ _ _ (fun j => (hre c).2.2.2.1 _) (fun j => Cert.Norm.dE_real _ _ _ (hre c).1 (hre c).2.1 (hre c).2.2.1 _ j)
      (fun j => (hre c).2.2.2.2 j) (ix 1)).symm
  have row1 : ∀ ix : Cert.KernelDnIdeal.S1x1024.Idx, ix = ix2 (0 : Fin 1) (ix 1 : Fin 1024) := fun ix => by
    funext a; fin_cases a
    · exact Subsingleton.elim (α := Fin 1) _ _
    · rfl
  have meetG : ∀ (c : Dev Cert.KernelDnIdeal.nD), Cert.ReferenceDnIdeal.Val.down (mulf (mulf (Cert.ReferenceDnIdeal.Val.less (Cert.KernelDnIdeal.Val.aY m c)) (Cert.ReferenceDnIdeal.Val.wide (Cert.KernelDnIdeal.Val.aY m c))) (Cert.ReferenceDnIdeal.Val.dM (Cert.KernelDnIdeal.Val.aA m c) (Cert.KernelDnIdeal.Val.aW m c) (Cert.KernelDnIdeal.Val.aH m c))) = Cert.KernelDnIdeal.Val.oG m c := fun c => funext fun ix => by
    refine (congrArg _ (row1 ix)).trans ((Cert.ReferenceDnIdeal.Val.gain_at _ _ (ix 1)).trans ?_)
    refine Cols.sums fun r => ?_
    rw [hD c r]; rfl
  have meetS : ∀ (c : Dev Cert.KernelDnIdeal.nD), Cert.ReferenceDnIdeal.Val.down (Cert.ReferenceDnIdeal.Val.dM (Cert.KernelDnIdeal.Val.aA m c) (Cert.KernelDnIdeal.Val.aW m c) (Cert.KernelDnIdeal.Val.aH m c)) = Cert.KernelDnIdeal.Val.oS m c := fun c => funext fun ix => by
    refine (congrArg _ (row1 ix)).trans ((Cert.ReferenceDnIdeal.Val.down_at (ix 1) _).trans ?_)
    exact Cols.sums fun r => congrFun (hD c r) (ix 1)
  refine ⟨Cert.KernelDnIdeal.Val.oY m, Cert.KernelDnIdeal.Val.oT m, Cert.KernelDnIdeal.Val.oG m, Cert.KernelDnIdeal.Val.oS m,
    Cert.KernelDnIdeal.Val.run_eq m g,
    (θ_run Cert.ReferenceDnIdeal.defs _ _).mono
      (fun r h c => ⟨(h c).1.trans ?_, (h c).2.1.trans ?_, (h c).2.2.1.trans ?_, (h c).2.2.2.1.trans ?_, (h c).2.2.2.2⟩)
      (Cert.ReferenceDnIdeal.Value.run m' g')⟩
  · refine (Cert.ReferenceDnIdeal.Val.out0_eq m' c).trans ?_
    rw [(hargs c).1, (hargs c).2.1, (hargs c).2.2.1, (hargs c).2.2.2.1, (hargs c).2.2.2.2]
    exact funext (meet c)
  · refine (Cert.ReferenceDnIdeal.Val.out1_eq m' c).trans ?_
    rw [(hargs c).1, (hargs c).2.1, (hargs c).2.2.1, (hargs c).2.2.2.1, (hargs c).2.2.2.2]
    exact funext (meet c)
  · rw [(hargs c).1, (hargs c).2.1, (hargs c).2.2.1, (hargs c).2.2.2.1]
    exact meetG c
  · rw [(hargs c).1, (hargs c).2.1, (hargs c).2.2.1]
    exact meetS c

end Cert.Proof

end
-- ==== Proof.FfDq.lean ====
/-
  The gradient at the first layer's hidden values taken back through the product, the branch that skips it and the norm
  before them, and on through the mixing product's two matrices (the call `l0_dh_ln1`).
-/
module

public import proofs.«01_k».proof.Proof.Gen.KernelDqIdeal.Frame
public import proofs.«01_k».proof.Proof.Gen.ReferenceDqIdeal.Run
public import proofs.«01_k».proof.Defs
public import proofs.«01_k».proof.Proof.FfCols
public import Idealize.ShloMosaic.Lib.Pipeline.ValueKit
public import proofs.«01_k».proof.Proof.NormTile
public import proofs.«01_k».proof.Proof.PreNorm
public import Idealize.ShloMosaic.Lib.VecWindow
public import Idealize.ShloMosaic.Lib.StableHlo.ReadAt

@[expose] public section

set_option maxRecDepth 16384

noncomputable section

namespace Cert.KernelDqIdeal.Val

open Cert.KernelDqIdeal Cert.KernelDqIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-! ## The tile's expressions, read at an index -/

section Pays

variable (p : Fin 256) (j : Fin 1024) (h D : Vec Ideal S256x1024 .f32)

/-- A tile's gradient at the norm's result, from the parts read. -/
theorem tileD1_at (a0 : Vec Ideal S256x512 .bf16) (b0 : Vec Ideal S1x1024x512 .bf16) (a1 : Vec Ideal S256x512 .bf16) (b1 : Vec Ideal S1x1024x512 .bf16) (a2 : Vec Ideal S256x512 .bf16) (b2 : Vec Ideal S1x1024x512 .bf16) (a3 : Vec Ideal S256x512 .bf16) (b3 : Vec Ideal S1x1024x512 .bf16) (a4 : Vec Ideal S256x512 .bf16) (b4 : Vec Ideal S1x1024x512 .bf16) (a5 : Vec Ideal S256x512 .bf16) (b5 : Vec Ideal S1x1024x512 .bf16) (a6 : Vec Ideal S256x512 .bf16) (b6 : Vec Ideal S1x1024x512 .bf16) (a7 : Vec Ideal S256x512 .bf16) (b7 : Vec Ideal S1x1024x512 .bf16) : k0_pay4 (k0_pay3 h a0 b0 a1 b1 a2 b2 a3 b3) a4 b4 a5 b5 a6 b6 a7 b7 (ix2 p j)
    = kA * h (ix2 p j) + part a0 b0 p j + part a1 b1 p j + part a2 b2 p j + part a3 b3 p j + part a4 b4 p j + part a5 b5 p j + part a6 b6 p j + part a7 b7 p j := by
  have e : k0_pay3 h a0 b0 a1 b1 a2 b2 a3 b3 (ix2 p j) = kA * h (ix2 p j) + part a0 b0 p j + part a1 b1 p j + part a2 b2 p j + part a3 b3 p j := by
    unfold part; pointwise [k0_pay3]
  rw [← e]
  unfold part; pointwise [k0_pay4]
theorem tileD2_at (a0 : Vec Ideal S256x512 .bf16) (b0 : Vec Ideal S1x1024x512 .bf16) (a1 : Vec Ideal S256x512 .bf16) (b1 : Vec Ideal S1x1024x512 .bf16) (a2 : Vec Ideal S256x512 .bf16) (b2 : Vec Ideal S1x1024x512 .bf16) (a3 : Vec Ideal S256x512 .bf16) (b3 : Vec Ideal S1x1024x512 .bf16) (a4 : Vec Ideal S256x512 .bf16) (b4 : Vec Ideal S1x1024x512 .bf16) (a5 : Vec Ideal S256x512 .bf16) (b5 : Vec Ideal S1x1024x512 .bf16) (a6 : Vec Ideal S256x512 .bf16) (b6 : Vec Ideal S1x1024x512 .bf16) (a7 : Vec Ideal S256x512 .bf16) (b7 : Vec Ideal S1x1024x512 .bf16) : k0_pay20 (k0_pay19 (k0_pay17 h a0 b0) a1 (k0_pay18 b1) (constant S256x1024 .f32 0x00000000#32) a2 b2 a3 b3 a4 b4 a5 b5 a6 b6) a7 b7 (ix2 p j)
    = kA * h (ix2 p j) + part a0 b0 p j + part a1 b1 p j + part a2 b2 p j + part a3 b3 p j + part a4 b4 p j + part a5 b5 p j + part a6 b6 p j + part a7 b7 p j := by
  have e0 : k0_pay17 h a0 b0 (ix2 p j) = kA * h (ix2 p j) + part a0 b0 p j := by
    unfold part; pointwise [k0_pay17]
  have e1 : ∀ S : FVec Ideal S256x1024 .f32, k0_pay19 S a1 (k0_pay18 b1) (constant S256x1024 .f32 0x00000000#32) a2 b2 a3 b3 a4 b4 a5 b5 a6 b6 (ix2 p j)
      = S (ix2 p j) + part a1 b1 p j + part a2 b2 p j + part a3 b3 p j + part a4 b4 p j + part a5 b5 p j + part a6 b6 p j := fun S => by
    unfold part; pointwise [k0_pay19, k0_pay18]
  have e2 : ∀ S : FVec Ideal S256x1024 .f32, k0_pay20 S a7 b7 (ix2 p j) = S (ix2 p j) + part a7 b7 p j := fun S => by
    unfold part; pointwise [k0_pay20]
  rw [e2, e1, e0]

variable (y : Vec Ideal S256x1024 .f32)

/-- Row `p` of a half tile. -/
abbrev rowOf (x : Vec Ideal S256x1024 .f32) (p : Fin 256) (j : Fin 1024) : EReal := x (ix2 p j)

/-- The inverse root's small number, as the tile's text names it. -/
abbrev sE' : Ideal .f32 := Scalar.ofBits .f32 0x3727C5AC#32

variable (g acc : Vec Ideal S1x1024 .f32)

/-- The gain of one row. -/
abbrev gainOf (g : Vec Ideal S1x1024 .f32) (j : Fin 1024) : EReal := g (ix2 0 j)

theorem cen1_at : k0_pay5 y (ix2 p j) = cen (rowOf y p) j := by
  unfold cen mean; pointwise [k0_pay5]
theorem cen2_at : k0_pay21 y (ix2 p j) = cen (rowOf y p) j := by
  unfold cen mean; pointwise [k0_pay21]
theorem var1_at : k0_pay6 y (ix2 p 0) = vr (rowOf y p) := by
  have e : cen (rowOf y p) = fun j => k0_pay5 y (ix2 p j) := funext fun j => (cen1_at p j y).symm
  unfold vr mean; rw [e]; pointwise [k0_pay6]
theorem rs1_at : k0_pay7 (k0_pay6 y) sE' (ix2 p 0) = rs (rowOf y p) := by
  unfold rs; rw [← var1_at]; pointwise [k0_pay7]
theorem rs2_at : k0_pay22 y (ix2 p 0) = rs (rowOf y p) := by
  have e : cen (rowOf y p) = fun j => k0_pay21 y (ix2 p j) := funext fun j => (cen2_at p j y).symm
  unfold rs vr mean; rw [e]; pointwise [k0_pay22]
theorem hat1_at : k0_pay8 (k0_pay5 y) (k0_pay6 y) sE' (ix2 p j) = hat (rowOf y p) j := by
  unfold hat; rw [← rs1_at, ← cen1_at]; pointwise [k0_pay8]
theorem hat2_at : k0_pay23 y (ix2 p j) = hat (rowOf y p) j := by
  unfold hat; rw [← rs2_at, ← cen2_at]; pointwise [k0_pay23]
theorem back1_at : k0_pay11 D (k0_pay5 y) (k0_pay6 y) sE' g (ix2 p j) = back (rowOf y p) (rowOf D p) (gainOf g) j := by
  have e : hat (rowOf y p) = fun j => k0_pay8 (k0_pay5 y) (k0_pay6 y) sE' (ix2 p j) := funext fun j => (hat1_at p j y).symm
  unfold back mean; rw [← rs1_at, e]; pointwise [k0_pay11]
theorem back2_at : k0_pay27 D (k0_pay22 y) (k0_pay23 y) g (ix2 p j) = back (rowOf y p) (rowOf D p) (gainOf g) j := by
  have e : hat (rowOf y p) = fun j => k0_pay23 y (ix2 p j) := funext fun j => (hat2_at p j y).symm
  unfold back mean; rw [← rs2_at, e]; pointwise [k0_pay27]
theorem gain1_at : k0_pay9 D (k0_pay5 y) (k0_pay6 y) sE' acc (ix2 0 j)
    = acc (ix2 0 j) + ∑ p : Fin 256, D (ix2 p j) * hat (rowOf y p) j := by
  simp only [← hat1_at]; pointwise [k0_pay9]
theorem shift1_at : k0_pay10 D acc (ix2 0 j) = acc (ix2 0 j) + ∑ p : Fin 256, D (ix2 p j) := by
  pointwise [k0_pay10]
theorem st12_at : k0_pay12 (F := Ideal) D (ix2 p j) = D (ix2 p j) := by pointwise [k0_pay12]
theorem st14_at : k0_pay14 (F := Ideal) D (ix2 p j) = D (ix2 p j) := by pointwise [k0_pay14, k0_pay13]
theorem st15_at (w : Vec Ideal S1024x1024 .bf16) : k0_pay15 (F := Ideal) D w (ix2 p j) = ∑ k : Fin 1024, D (ix2 p k) * w (ix2 j k) := by
  pointwise [k0_pay15, k0_pay13]
theorem st16_at (w : Vec Ideal S512x1024 .bf16) (j : Fin 512) : k0_pay16 (F := Ideal) D w (ix2 p j) = ∑ k : Fin 1024, D (ix2 p k) * w (ix2 j k) := by
  pointwise [k0_pay16, k0_pay13]
section Second
variable (r : FVec Ideal S256x1 .f32) (x : FVec Ideal S256x1024 .f32)
theorem st28_at : k0_pay28 (F := Ideal) D r x g (ix2 p j) = k0_pay27 (F := Ideal) D r x g (ix2 p j) := by pointwise [k0_pay28]
theorem st30_at : k0_pay30 (F := Ideal) D r x g (ix2 p j) = k0_pay27 (F := Ideal) D r x g (ix2 p j) := by pointwise [k0_pay30, k0_pay29]
theorem st31_at (w : Vec Ideal S1024x1024 .bf16) : k0_pay31 (F := Ideal) D r x g w (ix2 p j) = ∑ k : Fin 1024, k0_pay27 (F := Ideal) D r x g (ix2 p k) * w (ix2 j k) := by
  pointwise [k0_pay31, k0_pay29]
theorem st32_at (w : Vec Ideal S512x1024 .bf16) (j : Fin 512) : k0_pay32 (F := Ideal) D r x g w (ix2 p j) = ∑ k : Fin 1024, k0_pay27 (F := Ideal) D r x g (ix2 p k) * w (ix2 j k) := by
  pointwise [k0_pay32, k0_pay29]
end Second
theorem zero1_at : k0_pay1 (F := Ideal) (ix2 0 j) = 0 := by pointwise [k0_pay1]
theorem zero2_at : k0_pay2 (F := Ideal) (ix2 0 j) = 0 := by pointwise [k0_pay2]

end Pays

/-! ## What a tile stores -/

section Tile

variable (x0 : Vec Ideal S512x4096 .bf16) (x1 : Vec Ideal S512x1024 .f32) (x2 : Vec Ideal S512x1024 .f32) (x3 : Vec Ideal S8x1024x512 .bf16) (x4 : Vec Ideal S2x1024 .f32) (x5 : Vec Ideal S1024x1024 .bf16) (x6 : Vec Ideal S512x1024 .bf16)

/-- The gradient at the norm's result, the first half's rows and the second's; -/
def D1 : Vec Ideal S256x1024 .f32 := k0_pay4 (k0_pay3 (View.ld (Val := Elt Ideal) (e' := .f32) x1 (Rect.unit (s := S512x1024) ![0, 0] S256x1024.size inb_S512x1024_S256x1024_0_0)) (View.ld (Val := Elt Ideal) (e' := .bf16) x0 (Rect.unit (s := S512x4096) ![0, 0] S256x512.size inb_S512x4096_S256x512_0_0)) (View.ld (Val := Elt Ideal) (e' := .bf16) x3 (Rect.unit (s := S8x1024x512) ![0, 0, 0] S1x1024x512.size inb_S8x1024x512_S1x1024x512_0_0_0)) (View.ld (Val := Elt Ideal) (e' := .bf16) x0 (Rect.unit (s := S512x4096) ![0, 512] S256x512.size inb_S512x4096_S256x512_0_512)) (View.ld (Val := Elt Ideal) (e' := .bf16) x3 (Rect.unit (s := S8x1024x512) ![1, 0, 0] S1x1024x512.size inb_S8x1024x512_S1x1024x512_1_0_0)) (View.ld (Val := Elt Ideal) (e' := .bf16) x0 (Rect.unit (s := S512x4096) ![0, 1024] S256x512.size inb_S512x4096_S256x512_0_1024)) (View.ld (Val := Elt Ideal) (e' := .bf16) x3 (Rect.unit (s := S8x1024x512) ![2, 0, 0] S1x1024x512.size inb_S8x1024x512_S1x1024x512_2_0_0)) (View.ld (Val := Elt Ideal) (e' := .bf16) x0 (Rect.unit (s := S512x4096) ![0, 1536] S256x512.size inb_S512x4096_S256x512_0_1536)) (View.ld (Val := Elt Ideal) (e' := .bf16) x3 (Rect.unit (s := S8x1024x512) ![3, 0, 0] S1x1024x512.size inb_S8x1024x512_S1x1024x512_3_0_0))) (View.ld (Val := Elt Ideal) (e' := .bf16) x0 (Rect.unit (s := S512x4096) ![0, 2048] S256x512.size inb_S512x4096_S256x512_0_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![0, 2560] S256x512.size inb_S512x4096_S256x512_0_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![0, 3072] S256x512.size inb_S512x4096_S256x512_0_3072)) (View.ld (Val := Elt Ideal) (e' := .bf16) x3 (Rect.unit (s := S8x1024x512) ![6, 0, 0] S1x1024x512.size inb_S8x1024x512_S1x1024x512_6_0_0)) (View.ld (Val := Elt Ideal) (e' := .bf16) x0 (Rect.unit (s := S512x4096) ![0, 3584] S256x512.size inb_S512x4096_S256x512_0_3584)) (View.ld (Val := Elt Ideal) (e' := .bf16) x3 (Rect.unit (s := S8x1024x512) ![7, 0, 0] S1x1024x512.size inb_S8x1024x512_S1x1024x512_7_0_0))
def S7 : FVec Ideal S256x1024 .f32 := (k0_pay19 (k0_pay17 (View.ld (Val := Elt Ideal) (e' := .f32) x1 (Rect.unit (s := S512x1024) ![256, 0] S256x1024.size inb_S512x1024_S256x1024_256_0)) (View.ld (Val := Elt Ideal) (e' := .bf16) x0 (Rect.unit (s := S512x4096) ![256, 0] S256x512.size inb_S512x4096_S256x512_256_0)) (View.ld (Val := Elt Ideal) (e' := .bf16) x3 (Rect.unit (s := S8x1024x512) ![0, 0, 0] S1x1024x512.size inb_S8x1024x512_S1x1024x512_0_0_0))) (View.ld (Val := Elt Ideal) (e' := .bf16) x0 (Rect.unit (s := S512x4096) ![256, 512] S256x512.size inb_S512x4096_S256x512_256_512)) (k0_pay18 (View.ld (Val := Elt Ideal) (e' := .bf16) x3 (Rect.unit (s := S8x1024x512) ![1, 0, 0] S1x1024x512.size inb_S8x1024x512_S1x1024x512_1_0_0))) (constant S256x1024 .f32 0x00000000#32) (View.ld (Val := Elt Ideal) (e' := .bf16) x0 (Rect.unit (s := S512x4096) ![256, 1024] S256x512.size inb_S512x4096_S256x512_256_1024)) (View.ld (Val := Elt Ideal) (e' := .bf16) x3 (Rect.unit (s := S8x1024x512) ![2, 0, 0] S1x1024x512.size inb_S8x1024x512_S1x1024x512_2_0_0)) (View.ld (Val := Elt Ideal) (e' := .bf16) x0 (Rect.unit (s := S512x4096) ![256, 1536] S256x512.size inb_S512x4096_S256x512_256_1536)) (View.ld (Val := Elt Ideal) (e' := .bf16) x3 (Rect.unit (s := S8x1024x512) ![3, 0, 0] S1x1024x512.size inb_S8x1024x512_S1x1024x512_3_0_0)) (View.ld (Val := Elt Ideal) (e' := .bf16) x0 (Rect.unit (s := S512x4096) ![256, 2048] S256x512.size inb_S512x4096_S256x512_256_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![256, 2560] S256x512.size inb_S512x4096_S256x512_256_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![256, 3072] S256x512.size inb_S512x4096_S256x512_256_3072)) (View.ld (Val := Elt Ideal) (e' := .bf16) x3 (Rect.unit (s := S8x1024x512) ![6, 0, 0] S1x1024x512.size inb_S8x1024x512_S1x1024x512_6_0_0)))
def L7 : Vec Ideal S256x512 .bf16 := (View.ld (Val := Elt Ideal) (e' := .bf16) x0 (Rect.unit (s := S512x4096) ![256, 3584] S256x512.size inb_S512x4096_S256x512_256_3584))
def M7 : Vec Ideal S1x1024x512 .bf16 := (View.ld (Val := Elt Ideal) (e' := .bf16) x3 (Rect.unit (s := S8x1024x512) ![7, 0, 0] S1x1024x512.size inb_S8x1024x512_S1x1024x512_7_0_0))
def D2 : Vec Ideal S256x1024 .f32 := k0_pay20 (S7 x0 x1 x3) (L7 x0) (M7 x3)
/-- the normed values, the halves; -/
def Y1 : Vec Ideal S256x1024 .f32 := (View.ld (Val := Elt Ideal) (e' := .f32) x2 (Rect.unit (s := S512x1024) ![0, 0] S256x1024.size inb_S512x1024_S256x1024_0_0))
def Y2 : Vec Ideal S256x1024 .f32 := (View.ld (Val := Elt Ideal) (e' := .f32) x2 (Rect.unit (s := S512x1024) ![256, 0] S256x1024.size inb_S512x1024_S256x1024_256_0))
/-- the gain; -/
def G0 : Vec Ideal S1x1024 .f32 := (View.ld (Val := Elt Ideal) (e' := .f32) x4 (Rect.unit (s := S2x1024) ![0, 0] S1x1024.size inb_S2x1024_S1x1024_0_0))
/-- the gradient before the norm; -/
def B1 : Vec Ideal S256x1024 .f32 := k0_pay11 (D1 x0 x1 x3) (k0_pay5 (Y1 x2)) (k0_pay6 (Y1 x2)) sE' (G0 x4)
def B2 : Vec Ideal S256x1024 .f32 := k0_pay27 (D2 x0 x1 x3) (k0_pay22 (Y2 x2)) (k0_pay23 (Y2 x2)) (G0 x4)
/-- what is added to the gain's gradient and the shift's. -/
def P1 (acc : Vec Ideal S1x1024 .f32) : Vec Ideal S1x1024 .f32 := k0_pay9 (D1 x0 x1 x3) (k0_pay5 (Y1 x2)) (k0_pay6 (Y1 x2)) sE' acc
def P2 (acc : Vec Ideal S1x1024 .f32) : Vec Ideal S1x1024 .f32 := k0_pay24 (S7 x0 x1 x3) (L7 x0) (M7 x3) (Y2 x2) acc
def Q1 (acc : Vec Ideal S1x1024 .f32) : Vec Ideal S1x1024 .f32 := k0_pay10 (D1 x0 x1 x3) acc
def Q2 (acc : Vec Ideal S1x1024 .f32) : Vec Ideal S1x1024 .f32 := k0_pay26 (k0_pay25 (S7 x0 x1 x3) (L7 x0) (M7 x3) acc)

variable (p : Fin 256) (j : Fin 1024)

theorem D1_row : rowOf (D1 x0 x1 x3) p = dE x0 x3 x1 (half 0 p) := by
  funext j
  refine (tileD1_at p j _ _ _ _ _ _ _ _ _ _ _ _ _ _ _ _ _).trans ?_
  have e : ∀ (d : Fin 8) (off : Fin 2 → Nat) (h0 : off = ![((0 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 0 p) (col d n)) * x3 (ix3 (run (col d n)) j (inn (col d n)))) d :=
    fun d off h0 inb off' h0' inb' => part_run x0 x3 0 p j d _ _ (fun n => ld_sub x0 0 d off h0 inb p n) (fun n => ld_run x3 d off' h0' inb' j n)
  rw [e 0 ![0, 0] rfl _ ![0, 0, 0] rfl _, e 1 ![0, 512] rfl _ ![1, 0, 0] rfl _, e 2 ![0, 1024] rfl _ ![2, 0, 0] rfl _, e 3 ![0, 1536] rfl _ ![3, 0, 0] rfl _, e 4 ![0, 2048] rfl _ ![4, 0, 0] rfl _, e 5 ![0, 2560] rfl _ ![5, 0, 0] rfl _, e 6 ![0, 3072] rfl _ ![6, 0, 0] rfl _, e 7 ![0, 3584] rfl _ ![7, 0, 0] rfl _]
  exact dE_parts x0 x3 x1 0 p j _ (fun d => rfl) _ (ld_half x1 0 _ rfl _ p j)
theorem Y1_row : rowOf (Y1 x2) p = fun j => x2 (ix2 (half 0 p) j) := funext fun j => ld_half x2 0 _ rfl _ p j
theorem D2_row : rowOf (D2 x0 x1 x3) p = dE x0 x3 x1 (half 1 p) := by
  funext j
  refine (tileD2_at p j _ _ _ _ _ _ _ _ _ _ _ _ _ _ _ _ _).trans ?_
  have e : ∀ (d : Fin 8) (off : Fin 2 → Nat) (h0 : off = ![((1 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 1 p) (col d n)) * x3 (ix3 (run (col d n)) j (inn (col d n)))) d :=
    fun d off h0 inb off' h0' inb' => part_run x0 x3 1 p j d _ _ (fun n => ld_sub x0 1 d off h0 inb p n) (fun n => ld_run x3 d off' h0' inb' j n)
  unfold L7 M7
  rw [e 0 ![256, 0] rfl _ ![0, 0, 0] rfl _, e 1 ![256, 512] rfl _ ![1, 0, 0] rfl _, e 2 ![256, 1024] rfl _ ![2, 0, 0] rfl _, e 3 ![256, 1536] rfl _ ![3, 0, 0] rfl _, e 4 ![256, 2048] rfl _ ![4, 0, 0] rfl _, e 5 ![256, 2560] rfl _ ![5, 0, 0] rfl _, e 6 ![256, 3072] rfl _ ![6, 0, 0] rfl _, e 7 ![256, 3584] rfl _ ![7, 0, 0] rfl _]
  exact dE_parts x0 x3 x1 1 p j _ (fun d => rfl) _ (ld_half x1 1 _ rfl _ p j)
theorem Y2_row : rowOf (Y2 x2) p = fun j => x2 (ix2 (half 1 p) j) := funext fun j => ld_half x2 1 _ rfl _ p j
theorem G0_row : gainOf (G0 x4) = fun j => x4 (ix2 0 j) := funext fun j => ld_first x4 _ rfl _ j

theorem gain2_at (y : Vec Ideal S256x1024 .f32) (acc : Vec Ideal S1x1024 .f32) : k0_pay24 (S7 x0 x1 x3) (L7 x0) (M7 x3) y acc (ix2 0 j)
    = acc (ix2 0 j) + ∑ p : Fin 256, D2 x0 x1 x3 (ix2 p j) * hat (rowOf y p) j := by
  simp only [← hat2_at]
  unfold D2
  pointwise [k0_pay24]
theorem shift2_at (acc : Vec Ideal S1x1024 .f32) : k0_pay26 (k0_pay25 (S7 x0 x1 x3) (L7 x0) (M7 x3) acc) (ix2 0 j)
    = acc (ix2 0 j) + ∑ p : Fin 256, D2 x0 x1 x3 (ix2 p j) := by
  unfold D2
  pointwise [k0_pay26, k0_pay25]

/-- A tile's gradient before the norm, its row `r`. -/
def bT (r : Fin 512) (j : Fin 1024) : EReal := back (fun j => x2 (ix2 r j)) (dE x0 x3 x1 r) (fun j => x4 (ix2 0 j)) j

theorem B1_at : B1 x0 x1 x2 x3 x4 (ix2 p j) = bT x0 x1 x2 x3 x4 (half 0 p) j := by
  refine (back1_at p j _ _ _).trans ?_
  rw [D1_row, Y1_row, G0_row]; rfl
theorem B2_at : B2 x0 x1 x2 x3 x4 (ix2 p j) = bT x0 x1 x2 x3 x4 (half 1 p) j := by
  refine (back2_at p j _ _ _).trans ?_
  rw [D2_row, Y2_row, G0_row]; rfl

/-- What a tile adds to the gain's gradient. -/
def gT (j : Fin 1024) : EReal := ∑ r : Fin 512, dE x0 x3 x1 r j * hat (fun j => x2 (ix2 r j)) j
/-- What it adds to the shift's. -/
def sT (j : Fin 1024) : EReal := ∑ r : Fin 512, dE x0 x3 x1 r j

theorem P_at (acc : Vec Ideal S1x1024 .f32) : P2 x0 x1 x2 x3 (P1 x0 x1 x2 x3 acc) (ix2 0 j) = acc (ix2 0 j) + gT x0 x1 x2 x3 j := by
  refine (gain2_at x0 x1 x3 j _ _).trans ?_
  refine (congrArg (fun a : EReal => a + _) (gain1_at j _ _ _)).trans ?_
  unfold gT
  rw [sum_halves, ← add_assoc]
  refine congrArg₂ (fun a b : EReal => acc (ix2 0 j) + a + b) ?_ ?_
  · exact Cols.sums fun q => Cols.muls (congrFun (D1_row x0 x1 x3 q) j) (congrArg (fun f => hat f j) (Y1_row x2 q))
  · exact Cols.sums fun q => Cols.muls (congrFun (D2_row x0 x1 x3 q) j) (congrArg (fun f => hat f j) (Y2_row x2 q))
theorem Q_at (acc : Vec Ideal S1x1024 .f32) : Q2 x0 x1 x3 (Q1 x0 x1 x3 acc) (ix2 0 j) = acc (ix2 0 j) + sT x0 x1 x3 j := by
  refine (shift2_at x0 x1 x3 j _).trans ?_
  refine (congrArg (fun a : EReal => a + _) (shift1_at j _ _)).trans ?_
  unfold sT
  rw [sum_halves, ← add_assoc]
  refine congrArg₂ (fun a b : EReal => acc (ix2 0 j) + a + b) ?_ ?_
  · exact Cols.sums fun q => congrFun (D1_row x0 x1 x3 q) j
  · exact Cols.sums fun q => congrFun (D2_row x0 x1 x3 q) j

theorem Pr1_at (q : Fin 1024) : k0_pay15 (F := Ideal) (B1 x0 x1 x2 x3 x4) (View.ld (Val := Elt Ideal) (e' := .bf16) x5 (Rect.unit (s := S1024x1024) ![0, 0] S1024x1024.size inb_S1024x1024_S1024x1024_0_0)) (ix2 p q)
    = catE (bT x0 x1 x2 x3 x4) x5 x6 (half 0 p) ⟨0 + q.val, by omega⟩ := by
  rw [View.ld_unit_zero z2, catE_left]
  refine (st15_at p q (B1 x0 x1 x2 x3 x4) _).trans ?_
  exact Cols.sums fun k => congrArg (fun a : EReal => a * x5 (ix2 q k)) (B1_at x0 x1 x2 x3 x4 p k)
theorem Qr1_at (q : Fin 512) : k0_pay16 (B1 x0 x1 x2 x3 x4) (View.ld (Val := Elt Ideal) (e' := .bf16) x6 (Rect.unit (s := S512x1024) ![0, 0] S512x1024.size inb_S512x1024_S512x1024_0_0)) (ix2 p q)
    = catE (bT x0 x1 x2 x3 x4) x5 x6 (half 0 p) ⟨1024 + q.val, by omega⟩ := by
  rw [View.ld_unit_zero z2, catE_right]
  refine (st16_at p (B1 x0 x1 x2 x3 x4) _ q).trans ?_
  exact Cols.sums fun k => congrArg (fun a : EReal => a * x6 (ix2 q k)) (B1_at x0 x1 x2 x3 x4 p k)
theorem Pr2_at (q : Fin 1024) : k0_pay31 (F := Ideal) (D2 x0 x1 x3) (k0_pay22 (F := Ideal) (Y2 x2)) (k0_pay23 (F := Ideal) (Y2 x2)) (G0 x4) (View.ld (Val := Elt Ideal) (e' := .bf16) x5 (Rect.unit (s := S1024x1024) ![0, 0] S1024x1024.size inb_S1024x1024_S1024x1024_0_0)) (ix2 p q)
    = catE (bT x0 x1 x2 x3 x4) x5 x6 (half 1 p) ⟨0 + q.val, by omega⟩ := by
  rw [View.ld_unit_zero z2, catE_left]
  refine (st31_at p q (D2 x0 x1 x3) (G0 x4) _ _ _).trans ?_
  exact Cols.sums fun k => congrArg (fun a : EReal => a * x5 (ix2 q k)) (B2_at x0 x1 x2 x3 x4 p k)
theorem Qr2_at (q : Fin 512) : k0_pay32 (D2 x0 x1 x3) (k0_pay22 (Y2 x2)) (k0_pay23 (Y2 x2)) (G0 x4) (View.ld (Val := Elt Ideal) (e' := .bf16) x6 (Rect.unit (s := S512x1024) ![0, 0] S512x1024.size inb_S512x1024_S512x1024_0_0)) (ix2 p q)
    = catE (bT x0 x1 x2 x3 x4) x5 x6 (half 1 p) ⟨1024 + q.val, by omega⟩ := by
  rw [View.ld_unit_zero z2, catE_right]
  refine (st32_at p (D2 x0 x1 x3) (G0 x4) _ _ _ q).trans ?_
  exact Cols.sums fun k => congrArg (fun a : EReal => a * x6 (ix2 q k)) (B2_at x0 x1 x2 x3 x4 p k)

variable (i : grid0.Coords) (d1 : Memref sig .tc .vmem S512x4096 .bf16) (w1 : d1.IsWhole) (d2 : Memref sig .tc .vmem S512x1024 .f32) (w2 : d2.IsWhole) (d3 : Memref sig .tc .vmem S512x1024 .f32) (w3 : d3.IsWhole) (d4 : Memref sig .tc .vmem S8x1024x512 .bf16) (w4 : d4.IsWhole) (d5 : Memref sig .tc .vmem S2x1024 .f32) (w5 : d5.IsWhole) (d6 : Memref sig .tc .vmem S1024x1024 .bf16) (w6 : d6.IsWhole) (d7 : Memref sig .tc .vmem S512x1024 .bf16) (w7 : d7.IsWhole) (d8 : Memref sig .tc .vmem S512x1024 .f32) (w8 : d8.IsWhole) (d9 : Memref sig .tc .vmem S512x1024 .bf16) (w9 : d9.IsWhole) (d10 : Memref sig .tc .vmem S512x1536 .bf16) (w10 : d10.IsWhole) (d11 : Memref sig .tc .vmem S1x1024 .f32) (w11 : d11.IsWhole) (d12 : Memref sig .tc .vmem S1x1024 .f32) (w12 : d12.IsWhole)
  (xo10 xo11 : Vec Ideal S1x1024 .f32)

theorem outA7 (hc0) : out0_A_7 c i d1 w1 d2 w2 d3 w3 d4 w4 d5 w5 d6 w6 d7 w7 d8 w8 d9 w9 d10 w10 d11 w11 d12 w12 hc0 x0 x1 x2 x3 x4 x5 x6 = fun ix : S512x1024.Idx => (bT x0 x1 x2 x3 x4 : Fin 512 → Fin 1024 → Elt Ideal .f32) (ix 0) (ix 1) := by
  unfold out0_A_7
  rw [View.read_writes_eq_canon _ _ _ (cover0_A_7 _ _ _ _ _ _ _ _ _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_A_7 _ _ _ _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (st28_at p q (D2 x0 x1 x3) (G0 x4) (k0_pay22 (Y2 x2)) (k0_pay23 (Y2 x2))).trans (B2_at x0 x1 x2 x3 x4 p q)) z
  · exact piece_half (φ := .f32) (bT x0 x1 x2 x3 x4) 0 _ _ rfl inb_S512x1024_S256x1024_0_0 (fun p q => (st12_at p q (B1 x0 x1 x2 x3 x4)).trans (B1_at x0 x1 x2 x3 x4 p q)) z
theorem outA8 (hc0) : out0_A_8 c i d1 w1 d2 w2 d3 w3 d4 w4 d5 w5 d6 w6 d7 w7 d8 w8 d9 w9 d10 w10 d11 w11 d12 w12 hc0 x0 x1 x2 x3 x4 x5 x6 = fun ix : S512x1024.Idx => (bT x0 x1 x2 x3 x4 : Fin 512 → Fin 1024 → Elt Ideal .bf16) (ix 0) (ix 1) := by
  unfold out0_A_8
  rw [View.read_writes_eq_canon _ _ _ (cover0_A_8 _ _ _ _ _ _ _ _ _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_A_8 _ _ _ _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (st30_at p q (D2 x0 x1 x3) (G0 x4) (k0_pay22 (Y2 x2)) (k0_pay23 (Y2 x2))).trans (B2_at x0 x1 x2 x3 x4 p q)) z
  · exact piece_half (φ := .bf16) (bT x0 x1 x2 x3 x4) 0 _ _ rfl inb_S512x1024_S256x1024_0_0 (fun p q => (st14_at p q (B1 x0 x1 x2 x3 x4)).trans (B1_at x0 x1 x2 x3 x4 p q)) z
theorem outA9 (hc0) : out0_A_9 c i d1 w1 d2 w2 d3 w3 d4 w4 d5 w5 d6 w6 d7 w7 d8 w8 d9 w9 d10 w10 d11 w11 d12 w12 hc0 x0 x1 x2 x3 x4 x5 x6 = fun ix : S512x1536.Idx => (catE (bT x0 x1 x2 x3 x4) x5 x6 : Fin 512 → Fin 1536 → Elt Ideal .bf16) (ix 0) (ix 1) := by
  unfold out0_A_9
  rw [View.read_writes_eq_canon _ _ _ (cover0_A_9 _ _ _ _ _ _ _ _ _ _ _ _ _ _ _ _ _ _ _ _ _ _ _ _ _ _ _ _ _ _ _ _ _ _)]
  funext y
  refine View.canon_apply_of_pieces (Val := Elt Ideal) (e := .bf16) (fun ix : S512x1536.Idx => (catE (bT x0 x1 x2 x3 x4) x5 x6 : Fin 512 → Fin 1536 → Elt Ideal .bf16) (ix 0) (ix 1)) _ ?_ y (cover0_A_9 _ _ _ _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h | h | h <;> subst h
  · exact piece_cols (φ := .bf16) (l := 512) (o := 1024) (by decide) (catE (bT x0 x1 x2 x3 x4) x5 x6) 1 _ _ rfl inb_S512x1536_S256x512_256_1024 (fun p q => Qr2_at x0 x1 x2 x3 x4 x5 x6 p q) z
  · exact piece_cols (φ := .bf16) (l := 1024) (o := 0) (by decide) (catE (bT x0 x1 x2 x3 x4) x5 x6) 1 _ _ rfl inb_S512x1536_S256x1024_256_0 (fun p q => Pr2_at x0 x1 x2 x3 x4 x5 x6 p q) z
  · exact piece_cols (φ := .bf16) (l := 512) (o := 1024) (by decide) (catE (bT x0 x1 x2 x3 x4) x5 x6) 0 _ _ rfl inb_S512x1536_S256x512_0_1024 (fun p q => Qr1_at x0 x1 x2 x3 x4 x5 x6 p q) z
  · exact piece_cols (φ := .bf16) (l := 1024) (o := 0) (by decide) (catE (bT x0 x1 x2 x3 x4) x5 x6) 0 _ _ rfl inb_S512x1536_S256x1024_0_0 (fun p q => Pr1_at x0 x1 x2 x3 x4 x5 x6 p q) z
theorem outA10 (hc0) : out0_A_10 c i d1 w1 d2 w2 d3 w3 d4 w4 d5 w5 d6 w6 d7 w7 d8 w8 d9 w9 d10 w10 d11 w11 d12 w12 hc0 x0 x1 x2 x3 x4 x5 x6 = P2 x0 x1 x2 x3 (P1 x0 x1 x2 x3 (k0_pay1 (F := Ideal))) := by
  unfold out0_A_10
  rw [View.read_writes_eq_canon _ _ _ (cover0_A_10 _ _ _ _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread, w7.read_unread, w11.read_unread, w12.read_unread]
  rw [View.canon_cons_unit_zero z2, View.readCov_full, View.readCov_full]
  rfl
theorem outA11 (hc0) : out0_A_11 c i d1 w1 d2 w2 d3 w3 d4 w4 d5 w5 d6 w6 d7 w7 d8 w8 d9 w9 d10 w10 d11 w11 d12 w12 hc0 x0 x1 x2 x3 x4 x5 x6 = Q2 x0 x1 x3 (Q1 x0 x1 x3 (k0_pay2 (F := Ideal))) := by
  unfold out0_A_11
  rw [View.read_writes_eq_canon _ _ _ (cover0_A_11 _ _ _ _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread, w7.read_unread, w11.read_unread, w12.read_unread]
  rw [View.canon_cons_unit_zero z2, View.readCov_full, View.readCov_full]
  rfl
theorem outB7 (hc0) : out0_B_7 c i d1 w1 d2 w2 d3 w3 d4 w4 d5 w5 d6 w6 d7 w7 d8 w8 d9 w9 d10 w10 d11 w11 d12 w12 hc0 x0 x1 x2 x3 x4 x5 x6 xo10 xo11 = fun ix : S512x1024.Idx => (bT x0 x1 x2 x3 x4 : Fin 512 → Fin 1024 → Elt Ideal .f32) (ix 0) (ix 1) := by
  unfold out0_B_7
  rw [View.read_writes_eq_canon _ _ _ (cover0_B_7 _ _ _ _ _ _ _ _ _ _ _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_B_7 _ _ _ _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (st28_at p q (D2 x0 x1 x3) (G0 x4) (k0_pay22 (Y2 x2)) (k0_pay23 (Y2 x2))).trans (B2_at x0 x1 x2 x3 x4 p q)) z
  · exact piece_half (φ := .f32) (bT x0 x1 x2 x3 x4) 0 _ _ rfl inb_S512x1024_S256x1024_0_0 (fun p q => (st12_at p q (B1 x0 x1 x2 x3 x4)).trans (B1_at x0 x1 x2 x3 x4 p q)) z
theorem outB8 (hc0) : out0_B_8 c i d1 w1 d2 w2 d3 w3 d4 w4 d5 w5 d6 w6 d7 w7 d8 w8 d9 w9 d10 w10 d11 w11 d12 w12 hc0 x0 x1 x2 x3 x4 x5 x6 xo10 xo11 = fun ix : S512x1024.Idx => (bT x0 x1 x2 x3 x4 : Fin 512 → Fin 1024 → Elt Ideal .bf16) (ix 0) (ix 1) := by
  unfold out0_B_8
  rw [View.read_writes_eq_canon _ _ _ (cover0_B_8 _ _ _ _ _ _ _ _ _ _ _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_B_8 _ _ _ _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (st30_at p q (D2 x0 x1 x3) (G0 x4) (k0_pay22 (Y2 x2)) (k0_pay23 (Y2 x2))).trans (B2_at x0 x1 x2 x3 x4 p q)) z
  · exact piece_half (φ := .bf16) (bT x0 x1 x2 x3 x4) 0 _ _ rfl inb_S512x1024_S256x1024_0_0 (fun p q => (st14_at p q (B1 x0 x1 x2 x3 x4)).trans (B1_at x0 x1 x2 x3 x4 p q)) z
theorem outB9 (hc0) : out0_B_9 c i d1 w1 d2 w2 d3 w3 d4 w4 d5 w5 d6 w6 d7 w7 d8 w8 d9 w9 d10 w10 d11 w11 d12 w12 hc0 x0 x1 x2 x3 x4 x5 x6 xo10 xo11 = fun ix : S512x1536.Idx => (catE (bT x0 x1 x2 x3 x4) x5 x6 : Fin 512 → Fin 1536 → Elt Ideal .bf16) (ix 0) (ix 1) := by
  unfold out0_B_9
  rw [View.read_writes_eq_canon _ _ _ (cover0_B_9 _ _ _ _ _ _ _ _ _ _ _ _ _ _ _ _ _ _ _ _ _ _ _ _ _ _ _ _ _ _ _ _ _ _ _ _)]
  funext y
  refine View.canon_apply_of_pieces (Val := Elt Ideal) (e := .bf16) (fun ix : S512x1536.Idx => (catE (bT x0 x1 x2 x3 x4) x5 x6 : Fin 512 → Fin 1536 → Elt Ideal .bf16) (ix 0) (ix 1)) _ ?_ y (cover0_B_9 _ _ _ _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w7.read_unread, w11.read_unread, w12.read_unread]
  intro P hP z
  simp only [List.mem_cons, List.not_mem_nil, or_false] at hP
  rcases hP with h | h | h | h <;> subst h
  · exact piece_cols (φ := .bf16) (l := 512) (o := 1024) (by decide) (catE (bT x0 x1 x2 x3 x4) x5 x6) 1 _ _ rfl inb_S512x1536_S256x512_256_1024 (fun p q => Qr2_at x0 x1 x2 x3 x4 x5 x6 p q) z
  · exact piece_cols (φ := .bf16) (l := 1024) (o := 0) (by decide) (catE (bT x0 x1 x2 x3 x4) x5 x6) 1 _ _ rfl inb_S512x1536_S256x1024_256_0 (fun p q => Pr2_at x0 x1 x2 x3 x4 x5 x6 p q) z
  · exact piece_cols (φ := .bf16) (l := 512) (o := 1024) (by decide) (catE (bT x0 x1 x2 x3 x4) x5 x6) 0 _ _ rfl inb_S512x1536_S256x512_0_1024 (fun p q => Qr1_at x0 x1 x2 x3 x4 x5 x6 p q) z
  · exact piece_cols (φ := .bf16) (l := 1024) (o := 0) (by decide) (catE (bT x0 x1 x2 x3 x4) x5 x6) 0 _ _ rfl inb_S512x1536_S256x1024_0_0 (fun p q => Pr1_at x0 x1 x2 x3 x4 x5 x6 p q) z
theorem outB10 (hc0) : out0_B_10 c i d1 w1 d2 w2 d3 w3 d4 w4 d5 w5 d6 w6 d7 w7 d8 w8 d9 w9 d10 w10 d11 w11 d12 w12 hc0 x0 x1 x2 x3 x4 x5 x6 xo10 xo11 = P2 x0 x1 x2 x3 (P1 x0 x1 x2 x3 xo10) := by
  unfold out0_B_10
  rw [View.read_writes_eq_canon _ _ _ (cover0_B_10 _ _ _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w7.read_unread, w11.read_unread, w12.read_unread]
  rw [View.canon_cons_unit_zero z2, View.readCov_full, View.ld_unit_zero (S := S1x1024) z2]
  rfl
theorem outB11 (hc0) : out0_B_11 c i d1 w1 d2 w2 d3 w3 d4 w4 d5 w5 d6 w6 d7 w7 d8 w8 d9 w9 d10 w10 d11 w11 d12 w12 hc0 x0 x1 x2 x3 x4 x5 x6 xo10 xo11 = Q2 x0 x1 x3 (Q1 x0 x1 x3 xo11) := by
  unfold out0_B_11
  rw [View.read_writes_eq_canon _ _ _ (cover0_B_11 _ _ _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w7.read_unread, w11.read_unread, w12.read_unread]
  rw [View.canon_cons_unit_zero z2, View.readCov_full, View.ld_unit_zero (S := S1x1024) z2]
  rfl

end Tile

/-! ## The launch -/

/-- The hidden gradient, the matrix, the branch that skips, the sums that were normed, the gain. -/
abbrev aA : FVec Ideal S4096x4096 .bf16 := m ((c : Thread nD τ).loc main_arg0)
abbrev aW : FVec Ideal S8x1024x512 .bf16 := m ((c : Thread nD τ).loc main_arg1)
abbrev aH : FVec Ideal S4096x1024 .f32 := m ((c : Thread nD τ).loc main_arg2)
abbrev aY : FVec Ideal S4096x1024 .f32 := m ((c : Thread nD τ).loc main_arg3)
abbrev aG : FVec Ideal S2x1024 .f32 := m ((c : Thread nD τ).loc main_arg4)

theorem lt8 (t : Fin cfg0.N) : t.val < 8 := lt_of_lt_of_eq t.isLt N_0

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_7.index t = ![t.val, 0] ∧ win0_8.index t = ![t.val, 0]
    ∧ win0_10.index t = ![0, 0] ∧ win0_11.index t = ![0, 0] ∧ win0_9.index t = ![t.val, 0] ∧ win0_5.index t = ![0, 0] ∧ win0_6.index t = ![0, 0] := by
  decide +kernel

theorem blkA (t : Fin cfg0.N) (r : Fin 512) (k : Fin 4096) : iblk m c 0 t (ix2 r k) = aA m c (ix2 (col ⟨t.val, lt8 t⟩ r) k) := by
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkY (t : Fin cfg0.N) (r : Fin 512) (k : Fin 1024) : iblk m c 2 t (ix2 r k) = aY m c (ix2 (col ⟨t.val, lt8 t⟩ r) k) := by
  unfold col
  blk_ext [iblk, idx t]
theorem blkW (t : Fin cfg0.N) (e : Fin 8) (k : Fin 1024) (n : Fin 512) : iblk m c 3 t (ix3 e k n) = aW m c (ix3 e k n) := by
  blk_ext [iblk, idx t]
theorem blkG (t : Fin cfg0.N) (k : Fin 2) (j : Fin 1024) : iblk m c 4 t (ix2 k j) = aG m c (ix2 k j) := by
  blk_ext [iblk, idx t]

/-- The gradient at the norm's result, a row of it; -/
def dW (r : Fin 4096) : Fin 1024 → EReal := dE (aA m c) (aW m c) (aH m c) r
/-- a normed row; -/
def yW (r : Fin 4096) (j : Fin 1024) : EReal := aY m c (ix2 r j)
/-- the gradient before the norm; -/
def bW (r : Fin 4096) (j : Fin 1024) : EReal := back (yW m c r) (dW m c r) (fun j => aG m c (ix2 0 j)) j
/-- what a row adds to the gain's gradient. -/
def gW (j : Fin 1024) (r : Fin 4096) : EReal := dW m c r j * hat (yW m c r) j

abbrev x0 (t : Fin cfg0.N) : Vec Ideal S512x4096 .bf16 := iblk m c 0 t
abbrev x1 (t : Fin cfg0.N) : Vec Ideal S512x1024 .f32 := iblk m c 1 t
abbrev x2 (t : Fin cfg0.N) : Vec Ideal S512x1024 .f32 := iblk m c 2 t
abbrev x3 (t : Fin cfg0.N) : Vec Ideal S8x1024x512 .bf16 := iblk m c 3 t
abbrev x4 (t : Fin cfg0.N) : Vec Ideal S2x1024 .f32 := iblk m c 4 t

theorem d_tile (t : Fin cfg0.N) (r : Fin 512) : dE (x0 m c t) (x3 m c t) (x1 m c t) r = dW m c (col ⟨t.val, lt8 t⟩ r) :=
  dE_tile _ _ _ _ _ _ ⟨t.val, lt8 t⟩ (blkA m c t) (blkW m c t) (blkH m c t) r
theorem y_tile (t : Fin cfg0.N) (r : Fin 512) : (fun j : Fin 1024 => x2 m c t (ix2 r j)) = yW m c (col ⟨t.val, lt8 t⟩ r) :=
  funext fun j => blkY m c t r j
theorem b_tile (t : Fin cfg0.N) (r : Fin 512) (j : Fin 1024) :
    bT (x0 m c t) (x1 m c t) (x2 m c t) (x3 m c t) (x4 m c t) r j = bW m c (col ⟨t.val, lt8 t⟩ r) j := by
  unfold bT bW
  rw [d_tile, y_tile]
  exact congrArg (fun g => back (yW m c (col ⟨t.val, lt8 t⟩ r)) (dW m c (col ⟨t.val, lt8 t⟩ r)) g j) (funext fun j => blkG m c t 0 j)
theorem g_tile (t : Fin cfg0.N) (j : Fin 1024) : gT (x0 m c t) (x1 m c t) (x2 m c t) (x3 m c t) j = tileSum (gW m c j) t.val := by
  unfold gT
  rw [tileSum_lt _ (lt8 t)]
  refine Cols.sums fun r => ?_
  rw [d_tile, y_tile]; rfl
theorem s_tile (t : Fin cfg0.N) (j : Fin 1024) : sT (x0 m c t) (x1 m c t) (x3 m c t) j = tileSum (fun r => dW m c r j) t.val := by
  unfold sT
  rw [tileSum_lt _ (lt8 t)]
  refine Cols.sums fun r => ?_
  rw [d_tile]

/-- After a point, the running sum over the rows so far. -/
theorem acc10 (j : Fin 1024) : ∀ (n : ℕ) (h : n < cfg0.N), (outsAt0 m c n h).2.2.2.1 (ix2 0 j) = upTo (gW m c j) n
  | 0, h => by
    refine (congrArg (fun z => z.2.2.2.1 (ix2 0 j)) (outsAt0_A m c ⟨0, h⟩ rfl)).trans ?_
    dsimp only
    rw [outA10, P_at, zero1_at, zero_add, upTo_zero]
    exact g_tile m c ⟨0, h⟩ j
  | n + 1, h => by
    have h8 : n + 1 < 8 := lt8 ⟨n + 1, h⟩
    refine (congrArg (fun z => z.2.2.2.1 (ix2 0 j)) (outsAt0_B m c ⟨n + 1, h⟩ (by show ¬(n + 1) % 8 = 0; omega))).trans ?_
    dsimp only
    rw [outB10, P_at, upTo_succ]
    exact Cols.adds (acc10 j n (Nat.lt_of_succ_lt h)) (g_tile m c ⟨n + 1, h⟩ j)

/-- After a point, the running sum over the rows so far. -/
theorem acc11 (j : Fin 1024) : ∀ (n : ℕ) (h : n < cfg0.N), (outsAt0 m c n h).2.2.2.2 (ix2 0 j) = upTo (fun r => dW m c r j) n
  | 0, h => by
    refine (congrArg (fun z => z.2.2.2.2 (ix2 0 j)) (outsAt0_A m c ⟨0, h⟩ rfl)).trans ?_
    dsimp only
    rw [outA11, Q_at, zero2_at, zero_add, upTo_zero]
    exact s_tile m c ⟨0, h⟩ j
  | n + 1, h => by
    have h8 : n + 1 < 8 := lt8 ⟨n + 1, h⟩
    refine (congrArg (fun z => z.2.2.2.2 (ix2 0 j)) (outsAt0_B m c ⟨n + 1, h⟩ (by show ¬(n + 1) % 8 = 0; omega))).trans ?_
    dsimp only
    rw [outB11, Q_at, upTo_succ]
    exact Cols.adds (acc11 j n (Nat.lt_of_succ_lt h)) (s_tile m c ⟨n + 1, h⟩ j)

theorem tile7 (t : Fin cfg0.N) : (outsAt0 m c t.val t.isLt).1 = fun ix : S512x1024.Idx =>
    (bT (x0 m c t) (x1 m c t) (x2 m c t) (x3 m c t) (x4 m c t) : Fin 512 → Fin 1024 → Elt Ideal .f32) (ix 0) (ix 1) := by
  by_cases h0 : t.val % 8 = 0
  · refine (congrArg (fun z => z.1) (outsAt0_A m c t h0)).trans ?_
    dsimp only
    rw [outA7]
  · refine (congrArg (fun z => z.1) (outsAt0_B m c t h0)).trans ?_
    dsimp only
    rw [outB7]

theorem tile8 (t : Fin cfg0.N) : (outsAt0 m c t.val t.isLt).2.1 = fun ix : S512x1024.Idx =>
    (bT (x0 m c t) (x1 m c t) (x2 m c t) (x3 m c t) (x4 m c t) : Fin 512 → Fin 1024 → Elt Ideal .bf16) (ix 0) (ix 1) := by
  by_cases h0 : t.val % 8 = 0
  · refine (congrArg (fun z => z.2.1) (outsAt0_A m c t h0)).trans ?_
    dsimp only
    rw [outA8]
  · refine (congrArg (fun z => z.2.1) (outsAt0_B m c t h0)).trans ?_
    dsimp only
    rw [outB8]

/-- The gradient before the norm, in full and shortened; the gain's gradient; the shift's. -/
def oY : FVec Ideal S4096x1024 .f32 := fun ix => bW m c (ix 0) (ix 1)
def oT : FVec Ideal S4096x1024 .bf16 := fun ix => bW m c (ix 0) (ix 1)
def oG : FVec Ideal S1x1024 .f32 := fun ix => ∑ r, gW m c (ix 1) r
def oS : FVec Ideal S1x1024 .f32 := fun ix => ∑ r, dW m c r (ix 1)

theorem final7 : (dats m 0 c).arrAt 7 cfg0.N = oY m c := by
  refine (dats m 0 c).arrAt_eq_of_covers 7 _ (by decide +kernel) fun t hf y => ?_
  blk_simp
  rw [after0_7]
  have ee : ((((cfg0.win 7).blk t).view.emb y) : S4096x1024.Idx) = ix2 (col ⟨t.val, lt8 t⟩ (y 0 : Fin 512)) (y 1 : Fin 1024) := by
    unfold col
    blk_ext [idx t]
  refine (congrFun (tile7 m c t) y).trans ((b_tile m c t (y 0) (y 1)).trans ?_)
  exact (congrArg (oY m c) ee).symm

theorem final8 : (dats m 0 c).arrAt 8 cfg0.N = oT m c := by
  refine (dats m 0 c).arrAt_eq_of_covers 8 _ (by decide +kernel) fun t hf y => ?_
  blk_simp
  rw [after0_8]
  have ee : ((((cfg0.win 8).blk t).view.emb y) : S4096x1024.Idx) = ix2 (col ⟨t.val, lt8 t⟩ (y 0 : Fin 512)) (y 1 : Fin 1024) := by
    unfold col
    blk_ext [idx t]
  refine (congrFun (tile8 m c t) y).trans ((b_tile m c t (y 0) (y 1)).trans ?_)
  exact (congrArg (oT m c) ee).symm

theorem final10 : (dats m 0 c).arrAt 10 cfg0.N = oG m c := by
  refine (dats m 0 c).arrAt_eq_of_covers 10 _ (by decide +kernel) fun t hf y => ?_
  have h7 : t.val = 7 := by have := (flush0_10 t).mp hf; have := lt8 t; omega
  blk_simp
  rw [after0_10]
  have ey : (y : S1x1024.Idx) = ix2 (0 : Fin 1) (y 1 : Fin 1024) := by
    funext a; fin_cases a
    · exact Subsingleton.elim (α := Fin 1) _ _
    · rfl
  have ee : ((((cfg0.win 10).blk t).view.emb y) : S1x1024.Idx) = ix2 (0 : Fin 1) (y 1 : Fin 1024) := by
    rw [ey]
    blk_ext [idx t]
  refine (congrArg (outsAt0 m c t.val t.isLt).2.2.2.1 ey).trans ((acc10 m c (y 1) t.val t.isLt).trans ?_)
  rw [h7, upTo_last]
  exact (congrArg (oG m c) ee).symm

theorem final11 : (dats m 0 c).arrAt 11 cfg0.N = oS m c := by
  refine (dats m 0 c).arrAt_eq_of_covers 11 _ (by decide +kernel) fun t hf y => ?_
  have h7 : t.val = 7 := by have := (flush0_11 t).mp hf; have := lt8 t; omega
  blk_simp
  rw [after0_11]
  have ey : (y : S1x1024.Idx) = ix2 (0 : Fin 1) (y 1 : Fin 1024) := by
    funext a; fin_cases a
    · exact Subsingleton.elim (α := Fin 1) _ _
    · rfl
  have ee : ((((cfg0.win 11).blk t).view.emb y) : S1x1024.Idx) = ix2 (0 : Fin 1) (y 1 : Fin 1024) := by
    rw [ey]
    blk_ext [idx t]
  refine (congrArg (outsAt0 m c t.val t.isLt).2.2.2.2 ey).trans ((acc11 m c (y 1) t.val t.isLt).trans ?_)
  rw [h7, upTo_last]
  exact (congrArg (oS m c) ee).symm

/-- The two mixing matrices. -/
abbrev aP : FVec Ideal S1024x1024 .bf16 := m ((c : Thread nD τ).loc main_arg5)
abbrev aQ : FVec Ideal S512x1024 .bf16 := m ((c : Thread nD τ).loc main_arg6)
theorem blkP (t : Fin cfg0.N) : (iblk m c 5 t : Vec Ideal S1024x1024 .bf16) = aP m c := by
  funext z
  refine (congrArg (iblk m c 5 t) (eq_ix2 z)).trans (Eq.trans (b := aP m c (ix2 (z 0) (z 1))) ?_ (congrArg (aP m c) (eq_ix2 z)).symm)
  blk_ext [iblk, idx t]
theorem blkQ (t : Fin cfg0.N) : (iblk m c 6 t : Vec Ideal S512x1024 .bf16) = aQ m c := by
  funext z
  refine (congrArg (iblk m c 6 t) (eq_ix2 z)).trans (Eq.trans (b := aQ m c (ix2 (z 0) (z 1))) ?_ (congrArg (aQ m c) (eq_ix2 z)).symm)
  blk_ext [iblk, idx t]

/-- The gradient, times the two matrices transposed. -/
def oX : FVec Ideal S4096x1536 .bf16 := fun ix => catE (bW m c) (aP m c) (aQ m c) (ix 0) (ix 1)

theorem tile9 (t : Fin cfg0.N) : (outsAt0 m c t.val t.isLt).2.2.1 = fun ix : S512x1536.Idx =>
    (catE (bT (x0 m c t) (x1 m c t) (x2 m c t) (x3 m c t) (x4 m c t)) (iblk m c 5 t) (iblk m c 6 t) : Fin 512 → Fin 1536 → Elt Ideal .bf16) (ix 0) (ix 1) := by
  by_cases h0 : t.val % 8 = 0
  · refine (congrArg (fun z => z.2.2.1) (outsAt0_A m c t h0)).trans ?_
    dsimp only
    rw [outA9]
  · refine (congrArg (fun z => z.2.2.1) (outsAt0_B m c t h0)).trans ?_
    dsimp only
    rw [outB9]

theorem x_tile (t : Fin cfg0.N) (p : Fin 512) (j : Fin 1536) :
    catE (bT (x0 m c t) (x1 m c t) (x2 m c t) (x3 m c t) (x4 m c t)) (iblk m c 5 t) (iblk m c 6 t) p j = catE (bW m c) (aP m c) (aQ m c) (col ⟨t.val, lt8 t⟩ p) j := by
  rw [blkP, blkQ]
  unfold catE tE
  split
  · exact Cols.sums fun k => congrArg (fun a : EReal => a * _) (b_tile m c t p k)
  · exact Cols.sums fun k => congrArg (fun a : EReal => a * _) (b_tile m c t p k)

theorem final9 : (dats m 0 c).arrAt 9 cfg0.N = oX m c := by
  refine (dats m 0 c).arrAt_eq_of_covers 9 _ (by decide +kernel) fun t hf y => ?_
  blk_simp
  rw [after0_9]
  have ee : ((((cfg0.win 9).blk t).view.emb y) : S4096x1536.Idx) = ix2 (col ⟨t.val, lt8 t⟩ (y 0 : Fin 512)) (y 1 : Fin 1536) := by
    unfold col
    blk_ext [idx t]
  refine (congrFun (tile9 m c t) y).trans ((x_tile m c t (y 0) (y 1)).trans ?_)
  exact (congrArg (oX m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = oY m c ∧ r.2.mem ((c.tc : Thread nD τ).loc main_v0_1) = oT m c
      ∧ r.2.mem ((c.tc : Thread nD τ).loc main_v0_2) = oX m c
      ∧ r.2.mem ((c.tc : Thread nD τ).loc main_v0_3) = oG m c ∧ r.2.mem ((c.tc : Thread nD τ).loc main_v0_4) = oS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1 7).trans (final7 m c), ((h c).1 8).trans (final8 m c), ((h c).1 9).trans (final9 m c), ((h c).1 10).trans (final10 m c), ((h c).1 11).trans (final11 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelDqIdeal.Val

namespace Cert.ReferenceDqIdeal.Val

open Cert.ReferenceDqIdeal Cert.ReferenceDqIdeal.Gen Idealize.ShloMosaic Idealize.ShloMosaic.TcCoe Idealize.SL.Sem Idealize.ShloMosaic.StableHlo Cert.Cols Cert.Norm

/-- The matrix whose columns are kept in runs; -/
def whole (W : FVec Ideal S8x1024x512 .bf16) : FVec Ideal S1024x4096 .f32 :=
  shapeCast _ (transpose S1024x8x512 [1, 0, 2] (extf .f32 W bitsLt_bf16_f32) transposes_S8x1024x512_S1024x8x512_1_0_2) shapeCasts_S1024x8x512_S1024x4096
/-- the gradient at the norm's result. -/
def dM (A : FVec Ideal S4096x4096 .bf16) (W : FVec Ideal S8x1024x512 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x4096_S1024x4096_S4096x1024_1_1_0_0_n_n none (extf .f32 A bitsLt_bf16_f32) (whole W))

/-- A row's sum over its length; -/
def mid (y : FVec Ideal S4096x1024 .f32) : FVec Ideal S4096x1 .f32 :=
  Host.divf (broadcastInDim S4096x1 ![0] bcast_S4096_S4096x1_0 (Host.reduceAdd y (constant S_ .f32 0x00000000#32) reducesTo_S4096x1024_S4096_d1 h_S_))
    (broadcastInDim S4096x1 ![] bcast_S_S4096x1 (constant S_ .f32 0x44800000#32))
/-- the rows less their means, -/
def less (y : FVec Ideal S4096x1024 .f32) : FVec Ideal S4096x1024 .f32 := subf y (broadcastInDim S4096x1024 ![0, 1] bcast_S4096x1_S4096x1024_0_1 (mid y))
/-- the variance and the small number, -/
def vare (y : FVec Ideal S4096x1024 .f32) : FVec Ideal S4096x1 .f32 :=
  addf (mid (mulf (less y) (less y))) (broadcastInDim S4096x1 ![] bcast_S_S4096x1 (constant S_ .f32 0x3727C5AC#32))
/-- the inverse root, -/
def root (y : FVec Ideal S4096x1024 .f32) : FVec Ideal S4096x1 .f32 := Host.rsqrt (vare y)
/-- spread over the rows, -/
def wide (y : FVec Ideal S4096x1024 .f32) : FVec Ideal S4096x1024 .f32 := broadcastInDim S4096x1024 ![0, 1] bcast_S4096x1_S4096x1024_0_1 (root y)
/-- the first of two rows, spread over all rows. -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast _ (extractStridedSlice S1x1024 ![0, 0] g slices_S2x1024_S1x1024_0_0) shapeCasts_S1x1024_S1024))

section Chain
variable (D y : FVec Ideal S4096x1024 .f32) (g : FVec Ideal S2x1024 .f32)

/-- The gradient through the product with the inverse root; -/
def thru : FVec Ideal S4096x1024 .f32 := mulf (mulf D (spread g)) (wide y)
/-- a row's sum, kept as a column; -/
def rowSum (x : FVec Ideal S4096x1024 .f32) : FVec Ideal S4096x1 .f32 :=
  shapeCast _ (Host.reduceAdd x (constant S_ .f32 0x00000000#32) reducesTo_S4096x1024_S4096_d1 h_S_) shapeCasts_S4096_S4096x1
/-- a column over the row's length, spread over the rows; -/
def overN (x : FVec Ideal S4096x1 .f32) : FVec Ideal S4096x1024 .f32 :=
  broadcastInDim S4096x1024 ![0] bcast_S4096_S4096x1024_0 (Host.reduceAdd (Host.divf x (broadcastInDim S4096x1 ![] bcast_S_S4096x1 (constant S_ .f32 0x44800000#32)))
    (constant S_ .f32 0x00000000#32) reducesTo_S4096x1_S4096_d1 h_S_)
/-- the gradient of the variance; -/
def slope : FVec Ideal S4096x1 .f32 :=
  mulf (rowSum (mulf (less y) (mulf D (spread g))))
    (mulf (broadcastInDim S4096x1 ![] bcast_S_S4096x1 (constant S_ .f32 0xBF000000#32)) (Host.divf (root y) (vare y)))
/-- the gradient through the variance; -/
def lean : FVec Ideal S4096x1024 .f32 :=
  mulf (overN (slope D y g)) (mulf (broadcastInDim S4096x1024 ![] bcast_S_S4096x1024 (constant S_ .f32 0x40000000#32)) (less y))
/-- the whole gradient. -/
def dY : FVec Ideal S4096x1024 .f32 :=
  addf (addf (thru D y g) (lean D y g)) (overN (addf (rowSum (Host.negf (thru D y g))) (rowSum (Host.negf (lean D y g)))))
/-- A column's sum over all rows, as a row. -/
def down (x : FVec Ideal S4096x1024 .f32) : FVec Ideal S1x1024 .f32 :=
  shapeCast _ (Host.reduceAdd (shapeCast _ (Host.reduceAdd x (constant S_ .f32 0x00000000#32) reducesTo_S4096x1024_S1024_d0 h_S_) shapeCasts_S1024_S1x1024 : FVec Ideal S1x1024 .f32)
    (constant S_ .f32 0x00000000#32) reducesTo_S1x1024_S1024_d0 h_S_) shapeCasts_S1024_S1x1024

variable (r : Fin 4096) (j : Fin 1024)

/-- A row of a matrix. -/
abbrev row (x : FVec Ideal S4096x1024 .f32) (r : Fin 4096) (j : Fin 1024) : EReal := x (ix2 r j)

theorem whole_at (W : FVec Ideal S8x1024x512 .bf16) (k : Fin 4096) : whole W (ix2 j k) = W (ix3 (run k) j (inn k)) := by
  unfold run inn
  pointwise [whole]
theorem dM_at (A : FVec Ideal S4096x4096 .bf16) (W : FVec Ideal S8x1024x512 .bf16) (H : FVec Ideal S4096x1024 .f32) : dM A W H (ix2 r j) = dE A W H r j := by
  refine Eq.trans (b := kA * H (ix2 r j) + ∑ k : Fin 4096, A (ix2 r k) * whole W (ix2 j k)) ?_ ?_
  · pointwise [dM]
  · unfold dE
    exact congrArg (fun a : EReal => kA * H (ix2 r j) + a) (Cols.sums fun k => congrArg (fun b : EReal => A (ix2 r k) * b) (whole_at j W k))
theorem mid_at : mid y (ix2 r 0) = mean (row y r) := by
  unfold mean; pointwise [mid]
theorem less_at : less y (ix2 r j) = cen (row y r) j := by
  refine Eq.trans (b := y (ix2 r j) - mid y (ix2 r 0)) ?_ ?_
  · pointwise [less]
  · rw [mid_at]; rfl
theorem vare_at : vare y (ix2 r 0) = vr (row y r) + kE := by
  refine Eq.trans (b := mid (mulf (less y) (less y)) (ix2 r 0) + kE) ?_ ?_
  · pointwise [vare]
  · rw [mid_at]
    unfold vr
    refine congrArg (fun f : Fin 1024 → EReal => mean f + kE) (funext fun j => ?_)
    exact Cols.muls (less_at y r j) (less_at y r j)
theorem root_at : root y (ix2 r 0) = rs (row y r) := by
  refine Eq.trans (b := Ideal.rsqrt (vare y (ix2 r 0))) ?_ ?_
  · pointwise [root]
  · rw [vare_at]; rfl
theorem wide_at : wide y (ix2 r j) = rs (row y r) := by
  rw [← root_at]; pointwise [wide]
theorem spread_at : spread g (ix2 r j) = g (ix2 0 j) := by
  pointwise [spread]

/-- The gain. -/
abbrev gain (g : FVec Ideal S2x1024 .f32) (j : Fin 1024) : EReal := g (ix2 0 j)

theorem thru_at : thru D y g (ix2 r j) = cA (row y r) (row D r) (gain g) j := by
  refine Eq.trans (b := D (ix2 r j) * spread g (ix2 r j) * wide y (ix2 r j)) ?_ ?_
  · pointwise [thru]
  · rw [spread_at, wide_at]; rfl
theorem rowSum_at (x : FVec Ideal S4096x1024 .f32) : rowSum x (ix2 r 0) = ∑ j : Fin 1024, x (ix2 r j) := by
  pointwise [rowSum]
theorem overN_at (x : FVec Ideal S4096x1 .f32) : overN x (ix2 r j) = Ideal.div (x (ix2 r 0)) kN := by
  pointwise [overN]
  exact Fin.sum_univ_one _
theorem slope_at : slope D y g (ix2 r 0) = (∑ k : Fin 1024, cen (row y r) k * (row D r k * gain g k)) * (kH * Ideal.div (rs (row y r)) (vr (row y r) + kE)) := by
  refine Eq.trans (b := rowSum (mulf (less y) (mulf D (spread g))) (ix2 r 0) * (kH * Ideal.div (root y (ix2 r 0)) (vare y (ix2 r 0)))) ?_ ?_
  · pointwise [slope]
  · rw [rowSum_at, root_at, vare_at]
    refine congrArg (fun a : EReal => a * _) (Cols.sums fun k => ?_)
    exact congrArg₂ (fun a b : EReal => a * (D (ix2 r k) * b)) (less_at y r k) (spread_at g r k)
theorem lean_at : lean D y g (ix2 r j) = cB (row y r) (row D r) (gain g) j := by
  refine Eq.trans (b := overN (slope D y g) (ix2 r j) * (k2 * less y (ix2 r j))) ?_ ?_
  · pointwise [lean]
  · rw [overN_at, slope_at, less_at]; rfl
theorem dY_at : dY D y g (ix2 r j) = chain (row y r) (row D r) (gain g) j := by
  refine Eq.trans (b := thru D y g (ix2 r j) + lean D y g (ix2 r j)
    + overN (addf (rowSum (Host.negf (thru D y g))) (rowSum (Host.negf (lean D y g)))) (ix2 r j)) ?_ ?_
  · pointwise [dY]
  · rw [thru_at, lean_at, overN_at]
    refine congrArg (fun a : EReal => cA (row y r) (row D r) (gain g) j + cB (row y r) (row D r) (gain g) j + Ideal.div a kN) ?_
    refine Cols.adds ((rowSum_at r _).trans ?_) ((rowSum_at r _).trans ?_)
    · exact Cols.sums fun k => congrArg (fun a : EReal => -a) (thru_at D y g r k)
    · exact Cols.sums fun k => congrArg (fun a : EReal => -a) (lean_at D y g r k)
theorem down_at (x : FVec Ideal S4096x1024 .f32) : down x (ix2 0 j) = ∑ r : Fin 4096, x (ix2 r j) := by
  pointwise [down]
  exact Fin.sum_univ_one _
theorem gain_at : down (mulf (mulf (less y) (wide y)) D) (ix2 0 j) = ∑ r : Fin 4096, row D r j * hat (row y r) j := by
  rw [down_at]
  refine Cols.sums fun r => ?_
  refine (congrArg₂ (fun a b : EReal => a * b * D (ix2 r j)) (less_at y r j) (wide_at y r j)).trans ?_
  exact EReal.mul_comm _ _

end Chain

/-- The gradient times the two mixing matrices transposed, side by side. -/
def xM (Y : FVec Ideal S4096x1024 .f32) (P : FVec Ideal S1024x1024 .bf16) (Q : FVec Ideal S512x1024 .bf16) : FVec Ideal S4096x1536 .bf16 :=
  truncf .bf16 (concatenate S4096x1536 1 [⟨S4096x1024, (Host.dotGeneral dot_S4096x1024_S1024x1024_S4096x1024_1_1_0_0_n_n none Y (extf .f32 P bitsLt_bf16_f32) : FVec Ideal S4096x1024 .f32)⟩,
    ⟨S4096x512, (Host.dotGeneral dot_S4096x1024_S512x1024_S4096x512_1_1_0_0_n_n none Y (extf .f32 Q bitsLt_bf16_f32) : FVec Ideal S4096x512 .f32)⟩] concatenates_S4096x1024_S4096x512_S4096x1536_d1) bitsLt_bf16_f32

theorem xM_at (Y : FVec Ideal S4096x1024 .f32) (P : FVec Ideal S1024x1024 .bf16) (Q : FVec Ideal S512x1024 .bf16) (r : Fin 4096) (j : Fin 1536) :
    xM Y P Q (ix2 r j) = catE (fun r j => Y (ix2 r j)) P Q r j := by
  unfold catE tE
  pointwise [xM]

theorem out0_eq (m : (ℓ : Loc nD τ sig) → Buf (Elt Ideal) ℓ) (c : Dev nD) :
    Value.res_out0 m c = dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  unfold Value.res_out0 Value.res_main_v77; rfl
theorem out1_eq (m : (ℓ : Loc nD τ sig) → Buf (Elt Ideal) ℓ) (c : Dev nD) :
    Value.res_out1 m c = truncf .bf16 (dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) bitsLt_bf16_f32 := by
  unfold Value.res_out1 Value.res_main_v78; rfl
theorem out2_eq (m : (ℓ : Loc nD τ sig) → Buf (Elt Ideal) ℓ) (c : Dev nD) :
    Value.res_out2 m c = xM (dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5)) (m ((c.tc : Thread nD τ).loc main_arg6)) := by
  unfold Value.res_out2 Value.res_main_v91; rfl

end Cert.ReferenceDqIdeal.Val

namespace Cert.Proof

open Idealize.ShloMosaic Idealize.SL.Sem

theorem values_Dq : Cert.algebraic_KernelDqIdeal_ReferenceDqIdeal_pre_finite_norm_mix (hPre_finite_norm_mix := Cert.Pre_finite_norm_mix.Gen.facts) := by
  intro m g m' g' hpre hargs
  have hre := fun c => @Cert.Pre_finite_norm_mix.real_of_fn Cert.Pre_finite_norm_mix.Gen.facts _ _ _ _ _ _ _ (hpre c)
  have hD : ∀ (c : Dev Cert.KernelDqIdeal.nD) (r : Fin 4096), Cert.ReferenceDqIdeal.Val.row (Cert.ReferenceDqIdeal.Val.dM (Cert.KernelDqIdeal.Val.aA m c) (Cert.KernelDqIdeal.Val.aW m c) (Cert.KernelDqIdeal.Val.aH m c)) r = Cert.KernelDqIdeal.Val.dW m c r := fun c r =>
    funext fun j => Cert.ReferenceDqIdeal.Val.dM_at r j _ _ _
  have meetE : ∀ (c : Dev Cert.KernelDqIdeal.nD) (r : Fin 4096) (j : Fin 1024), Cert.ReferenceDqIdeal.Val.dY (Cert.ReferenceDqIdeal.Val.dM (Cert.KernelDqIdeal.Val.aA m c) (Cert.KernelDqIdeal.Val.aW m c) (Cert.KernelDqIdeal.Val.aH m c)) (Cert.KernelDqIdeal.Val.aY m c) (Cert.KernelDqIdeal.Val.aG m c) (ix2 r j) = Cert.KernelDqIdeal.Val.bW m c r j := fun c r j => by
    refine (Cert.ReferenceDqIdeal.Val.dY_at _ _ _ r j).trans ?_
    rw [hD c r]
    exact (Cert.Norm.back_eq _ _ _ (fun j => (hre c).2.2.2.1 _) (fun j => Cert.Norm.dE_real _ _ _ (hre c).1 (hre c).2.1 (hre c).2.2.1 _ j)
      (fun j => (hre c).2.2.2.2 j) j).symm
  have meet : ∀ (c : Dev Cert.KernelDqIdeal.nD) (ix : Cert.KernelDqIdeal.S4096x1024.Idx), Cert.ReferenceDqIdeal.Val.dY (Cert.ReferenceDqIdeal.Val.dM (Cert.KernelDqIdeal.Val.aA m c) (Cert.KernelDqIdeal.Val.aW m c) (Cert.KernelDqIdeal.Val.aH m c)) (Cert.KernelDqIdeal.Val.aY m c) (Cert.KernelDqIdeal.Val.aG m c) ix = Cert.KernelDqIdeal.Val.bW m c (ix 0) (ix 1) := fun c ix =>
    (congrArg _ (eq_ix2 ix)).trans (meetE c (ix 0) (ix 1))
  have row1 : ∀ ix : Cert.KernelDqIdeal.S1x1024.Idx, ix = ix2 (0 : Fin 1) (ix 1 : Fin 1024) := fun ix => by
    funext a; fin_cases a
    · exact Subsingleton.elim (α := Fin 1) _ _
    · rfl
  have meetX : ∀ (c : Dev Cert.KernelDqIdeal.nD), Cert.ReferenceDqIdeal.Val.xM (Cert.ReferenceDqIdeal.Val.dY (Cert.ReferenceDqIdeal.Val.dM (Cert.KernelDqIdeal.Val.aA m c) (Cert.KernelDqIdeal.Val.aW m c) (Cert.KernelDqIdeal.Val.aH m c)) (Cert.KernelDqIdeal.Val.aY m c) (Cert.KernelDqIdeal.Val.aG m c)) (Cert.KernelDqIdeal.Val.aP m c) (Cert.KernelDqIdeal.Val.aQ m c) = Cert.KernelDqIdeal.Val.oX m c := fun c => funext fun ix => by
    refine (congrArg _ (eq_ix2 ix)).trans ((Cert.ReferenceDqIdeal.Val.xM_at _ _ _ (ix 0) (ix 1)).trans ?_)
    exact congrArg (fun b => Cert.Norm.catE b (Cert.KernelDqIdeal.Val.aP m c) (Cert.KernelDqIdeal.Val.aQ m c) (ix 0) (ix 1)) (funext fun r => funext fun j => meetE c r j)
  have meetG : ∀ (c : Dev Cert.KernelDqIdeal.nD), Cert.ReferenceDqIdeal.Val.down (mulf (mulf (Cert.ReferenceDqIdeal.Val.less (Cert.KernelDqIdeal.Val.aY m c)) (Cert.ReferenceDqIdeal.Val.wide (Cert.KernelDqIdeal.Val.aY m c))) (Cert.ReferenceDqIdeal.Val.dM (Cert.KernelDqIdeal.Val.aA m c) (Cert.KernelDqIdeal.Val.aW m c) (Cert.KernelDqIdeal.Val.aH m c))) = Cert.KernelDqIdeal.Val.oG m c := fun c => funext fun ix => by
    refine (congrArg _ (row1 ix)).trans ((Cert.ReferenceDqIdeal.Val.gain_at _ _ (ix 1)).trans ?_)
    refine Cols.sums fun r => ?_
    rw [hD c r]; rfl
  have meetS : ∀ (c : Dev Cert.KernelDqIdeal.nD), Cert.ReferenceDqIdeal.Val.down (Cert.ReferenceDqIdeal.Val.dM (Cert.KernelDqIdeal.Val.aA m c) (Cert.KernelDqIdeal.Val.aW m c) (Cert.KernelDqIdeal.Val.aH m c)) = Cert.KernelDqIdeal.Val.oS m c := fun c => funext fun ix => by
    refine (congrArg _ (row1 ix)).trans ((Cert.ReferenceDqIdeal.Val.down_at (ix 1) _).trans ?_)
    exact Cols.sums fun r => congrFun (hD c r) (ix 1)
  refine ⟨Cert.KernelDqIdeal.Val.oY m, Cert.KernelDqIdeal.Val.oT m, Cert.KernelDqIdeal.Val.oX m, Cert.KernelDqIdeal.Val.oG m, Cert.KernelDqIdeal.Val.oS m,
    Cert.KernelDqIdeal.Val.run_eq m g,
    (θ_run Cert.ReferenceDqIdeal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.ReferenceDqIdeal.Value.run m' g')⟩
  · refine (Cert.ReferenceDqIdeal.Val.out0_eq m' c).trans ?_
    rw [(hargs c).1, (hargs c).2.1, (hargs c).2.2.1, (hargs c).2.2.2.1, (hargs c).2.2.2.2.1]
    exact funext (meet c)
  · refine (Cert.ReferenceDqIdeal.Val.out1_eq m' c).trans ?_
    rw [(hargs c).1, (hargs c).2.1, (hargs c).2.2.1, (hargs c).2.2.2.1, (hargs c).2.2.2.2.1]
    exact funext (meet c)
  · refine (Cert.ReferenceDqIdeal.Val.out2_eq m' c).trans ?_
    rw [(hargs c).1, (hargs c).2.1, (hargs c).2.2.1, (hargs c).2.2.2.1, (hargs c).2.2.2.2.1, (hargs c).2.2.2.2.2.1, (hargs c).2.2.2.2.2.2]
    exact meetX c
  · rw [(hargs c).1, (hargs c).2.1, (hargs c).2.2.1, (hargs c).2.2.2.1]
    exact meetG c
  · rw [(hargs c).1, (hargs c).2.1, (hargs c).2.2.1]
    exact meetS c

end Cert.Proof

end
-- ==== Proof.FfDp.lean ====
/-
  The gradient at the second layer's hidden values taken back through the product, the branch that skips it and the norm
  before them, and on through the layer's output matrix (the call `l1_dh_ln1`).
-/
module

public import proofs.«01_k».proof.Proof.Gen.KernelDpIdeal.Frame
public import proofs.«01_k».proof.Proof.Gen.ReferenceDpIdeal.Run
public import proofs.«01_k».proof.Defs
public import proofs.«01_k».proof.Proof.FfCols
public import Idealize.ShloMosaic.Lib.Pipeline.ValueKit
public import proofs.«01_k».proof.Proof.NormTile
public import proofs.«01_k».proof.Proof.PreNorm
public import Idealize.ShloMosaic.Lib.VecWindow
public import Idealize.ShloMosaic.Lib.StableHlo.ReadAt

@[expose] public section

set_option maxRecDepth 16384

noncomputable section

namespace Cert.KernelDpIdeal.Val

open Cert.KernelDpIdeal Cert.KernelDpIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-! ## The tile's expressions, read at an index -/

section Pays

variable (p : Fin 256) (j : Fin 1024) (h D : Vec Ideal S256x1024 .f32)

/-- A tile's gradient at the norm's result, from the parts read. -/
theorem tileD1_at (a0 : Vec Ideal S256x512 .bf16) (b0 : Vec Ideal S1x1024x512 .bf16) (a1 : Vec Ideal S256x512 .bf16) (b1 : Vec Ideal S1x1024x512 .bf16) (a2 : Vec Ideal S256x512 .bf16) (b2 : Vec Ideal S1x1024x512 .bf16) (a3 : Vec Ideal S256x512 .bf16) (b3 : Vec Ideal S1x1024x512 .bf16) (a4 : Vec Ideal S256x512 .bf16) (b4 : Vec Ideal S1x1024x512 .bf16) (a5 : Vec Ideal S256x512 .bf16) (b5 : Vec Ideal S1x1024x512 .bf16) (a6 : Vec Ideal S256x512 .bf16) (b6 : Vec Ideal S1x1024x512 .bf16) (a7 : Vec Ideal S256x512 .bf16) (b7 : Vec Ideal S1x1024x512 .bf16) : k0_pay9 (k0_pay8 h a0 b0 a1 b1 a2 b2 a3 b3) a4 b4 a5 b5 a6 b6 a7 b7 (ix2 p j)
    = kA * h (ix2 p j) + part a0 b0 p j + part a1 b1 p j + part a2 b2 p j + part a3 b3 p j + part a4 b4 p j + part a5 b5 p j + part a6 b6 p j + part a7 b7 p j := by
  have e : k0_pay8 h a0 b0 a1 b1 a2 b2 a3 b3 (ix2 p j) = kA * h (ix2 p j) + part a0 b0 p j + part a1 b1 p j + part a2 b2 p j + part a3 b3 p j := by
    unfold part; pointwise [k0_pay8]
  rw [← e]
  unfold part; pointwise [k0_pay9]
theorem tileD2_at (a0 : Vec Ideal S256x512 .bf16) (b0 : Vec Ideal S1x1024x512 .bf16) (a1 : Vec Ideal S256x512 .bf16) (b1 : Vec Ideal S1x1024x512 .bf16) (a2 : Vec Ideal S256x512 .bf16) (b2 : Vec Ideal S1x1024x512 .bf16) (a3 : Vec Ideal S256x512 .bf16) (b3 : Vec Ideal S1x1024x512 .bf16) (a4 : Vec Ideal S256x512 .bf16) (b4 : Vec Ideal S1x1024x512 .bf16) (a5 : Vec Ideal S256x512 .bf16) (b5 : Vec Ideal S1x1024x512 .bf16) (a6 : Vec Ideal S256x512 .bf16) (b6 : Vec Ideal S1x1024x512 .bf16) (a7 : Vec Ideal S256x512 .bf16) (b7 : Vec Ideal S1x1024x512 .bf16) : k0_pay23 (k0_pay21 h a0 b0 a1 b1) (k0_pay22 a2 b2) a3 b3 a4 b4 a5 b5 a6 b6 a7 b7 (ix2 p j)
    = kA * h (ix2 p j) + part a0 b0 p j + part a1 b1 p j + part a2 b2 p j + part a3 b3 p j + part a4 b4 p j + part a5 b5 p j + part a6 b6 p j + part a7 b7 p j := by
  have e0 : k0_pay21 h a0 b0 a1 b1 (ix2 p j) = kA * h (ix2 p j) + part a0 b0 p j + part a1 b1 p j := by
    unfold part; pointwise [k0_pay21]
  have e1 : ∀ S : FVec Ideal S256x1024 .f32, k0_pay23 S (k0_pay22 a2 b2) a3 b3 a4 b4 a5 b5 a6 b6 a7 b7 (ix2 p j)
      = S (ix2 p j) + part a2 b2 p j + part a3 b3 p j + part a4 b4 p j + part a5 b5 p j + part a6 b6 p j + part a7 b7 p j := fun S => by
    unfold part; pointwise [k0_pay23, k0_pay22]
  rw [e1, e0]

variable (y : Vec Ideal S256x1024 .f32)

/-- Row `p` of a half tile. -/
abbrev rowOf (x : Vec Ideal S256x1024 .f32) (p : Fin 256) (j : Fin 1024) : EReal := x (ix2 p j)

/-- The inverse root's small number, as the tile's text names it. -/
abbrev sE' : Ideal .f32 := Scalar.ofBits .f32 0x3727C5AC#32

variable (g acc : Vec Ideal S1x1024 .f32)

/-- The gain of one row. -/
abbrev gainOf (g : Vec Ideal S1x1024 .f32) (j : Fin 1024) : EReal := g (ix2 0 j)

theorem cen1_at : k0_pay10 y (ix2 p j) = cen (rowOf y p) j := by
  unfold cen mean; pointwise [k0_pay10]
theorem cen2_at : k0_pay24 y (ix2 p j) = cen (rowOf y p) j := by
  unfold cen mean; pointwise [k0_pay24]
theorem var1_at : k0_pay11 y (ix2 p 0) = vr (rowOf y p) := by
  have e : cen (rowOf y p) = fun j => k0_pay10 y (ix2 p j) := funext fun j => (cen1_at p j y).symm
  unfold vr mean; rw [e]; pointwise [k0_pay11]
theorem rs1_at : k0_pay12 (k0_pay11 y) sE' (ix2 p 0) = rs (rowOf y p) := by
  unfold rs; rw [← var1_at]; pointwise [k0_pay12]
theorem rs2_at : k0_pay25 y (ix2 p 0) = rs (rowOf y p) := by
  have e : cen (rowOf y p) = fun j => k0_pay24 y (ix2 p j) := funext fun j => (cen2_at p j y).symm
  unfold rs vr mean; rw [e]; pointwise [k0_pay25]
theorem hat1_at : k0_pay13 (k0_pay10 y) (k0_pay11 y) sE' (ix2 p j) = hat (rowOf y p) j := by
  unfold hat; rw [← rs1_at, ← cen1_at]; pointwise [k0_pay13]
theorem hat2_at : k0_pay26 y (ix2 p j) = hat (rowOf y p) j := by
  unfold hat; rw [← rs2_at, ← cen2_at]; pointwise [k0_pay26]
theorem back1_at : k0_pay16 D (k0_pay10 y) (k0_pay11 y) sE' g (ix2 p j) = back (rowOf y p) (rowOf D p) (gainOf g) j := by
  have e : hat (rowOf y p) = fun j => k0_pay13 (k0_pay10 y) (k0_pay11 y) sE' (ix2 p j) := funext fun j => (hat1_at p j y).symm
  unfold back mean; rw [← rs1_at, e]; pointwise [k0_pay16]
theorem back2_at : k0_pay1 (k0_pay25 y) (k0_pay26 y) (k0_pay29 D g) (k0_pay30 D g) (ix2 p j) = back (rowOf y p) (rowOf D p) (gainOf g) j := by
  have e : hat (rowOf y p) = fun j => k0_pay26 y (ix2 p j) := funext fun j => (hat2_at p j y).symm
  unfold back mean; rw [← rs2_at, e]; pointwise [k0_pay1, k0_pay30, k0_pay29]
theorem gain1_at : k0_pay14 D (k0_pay10 y) (k0_pay11 y) sE' acc (ix2 0 j)
    = acc (ix2 0 j) + ∑ p : Fin 256, D (ix2 p j) * hat (rowOf y p) j := by
  simp only [← hat1_at]; pointwise [k0_pay14]
theorem shift1_at : k0_pay15 D acc (ix2 0 j) = acc (ix2 0 j) + ∑ p : Fin 256, D (ix2 p j) := by
  pointwise [k0_pay15]
theorem st17_at : k0_pay17 (F := Ideal) D (ix2 p j) = D (ix2 p j) := by pointwise [k0_pay17]
theorem st19_at : k0_pay19 (F := Ideal) D (ix2 p j) = D (ix2 p j) := by pointwise [k0_pay19, k0_pay18]
theorem st20_at (w : Vec Ideal S1024x1024 .bf16) : k0_pay20 (F := Ideal) D w (ix2 p j) = ∑ k : Fin 1024, D (ix2 p k) * w (ix2 j k) := by
  pointwise [k0_pay20, k0_pay18]
section Second
variable (r : FVec Ideal S256x1 .f32) (x u v : FVec Ideal S256x1024 .f32)
theorem st2_at : k0_pay2 (F := Ideal) r x u v (ix2 p j) = k0_pay1 (F := Ideal) r x u v (ix2 p j) := by pointwise [k0_pay2]
theorem st4_at : k0_pay4 (F := Ideal) r x u v (ix2 p j) = k0_pay1 (F := Ideal) r x u v (ix2 p j) := by pointwise [k0_pay4, k0_pay3]
theorem st5_at (w : Vec Ideal S1024x1024 .bf16) : k0_pay5 (F := Ideal) r x u v w (ix2 p j) = ∑ k : Fin 1024, k0_pay1 (F := Ideal) r x u v (ix2 p k) * w (ix2 j k) := by
  pointwise [k0_pay5, k0_pay3]
end Second
theorem zero1_at : k0_pay6 (F := Ideal) (ix2 0 j) = 0 := by pointwise [k0_pay6]
theorem zero2_at : k0_pay7 (F := Ideal) (ix2 0 j) = 0 := by pointwise [k0_pay7]

end Pays

/-! ## What a tile stores -/

section Tile

variable (x0 : Vec Ideal S512x4096 .bf16) (x1 : Vec Ideal S512x1024 .f32) (x2 : Vec Ideal S512x1024 .f32) (x3 : Vec Ideal S8x1024x512 .bf16) (x4 : Vec Ideal S2x1024 .f32) (x5 : Vec Ideal S1024x1024 .bf16)

/-- The gradient at the norm's result, the first half's rows and the second's; -/
def D1 : Vec Ideal S256x1024 .f32 := k0_pay9 (k0_pay8 (View.ld (Val := Elt Ideal) (e' := .f32) x1 (Rect.unit (s := S512x1024) ![0, 0] S256x1024.size inb_S512x1024_S256x1024_0_0)) (View.ld (Val := Elt Ideal) (e' := .bf16) x0 (Rect.unit (s := S512x4096) ![0, 0] S256x512.size inb_S512x4096_S256x512_0_0)) (View.ld (Val := Elt Ideal) (e' := .bf16) x3 (Rect.unit (s := S8x1024x512) ![0, 0, 0] S1x1024x512.size inb_S8x1024x512_S1x1024x512_0_0_0)) (View.ld (Val := Elt Ideal) (e' := .bf16) x0 (Rect.unit (s := S512x4096) ![0, 512] S256x512.size inb_S512x4096_S256x512_0_512)) (View.ld (Val := Elt Ideal) (e' := .bf16) x3 (Rect.unit (s := S8x1024x512) ![1, 0, 0] S1x1024x512.size inb_S8x1024x512_S1x1024x512_1_0_0)) (View.ld (Val := Elt Ideal) (e' := .bf16) x0 (Rect.unit (s := S512x4096) ![0, 1024] S256x512.size inb_S512x4096_S256x512_0_1024)) (View.ld (Val := Elt Ideal) (e' := .bf16) x3 (Rect.unit (s := S8x1024x512) ![2, 0, 0] S1x1024x512.size inb_S8x1024x512_S1x1024x512_2_0_0)) (View.ld (Val := Elt Ideal) (e' := .bf16) x0 (Rect.unit (s := S512x4096) ![0, 1536] S256x512.size inb_S512x4096_S256x512_0_1536)) (View.ld (Val := Elt Ideal) (e' := .bf16) x3 (Rect.unit (s := S8x1024x512) ![3, 0, 0] S1x1024x512.size inb_S8x1024x512_S1x1024x512_3_0_0))) (View.ld (Val := Elt Ideal) (e' := .bf16) x0 (Rect.unit (s := S512x4096) ![0, 2048] S256x512.size inb_S512x4096_S256x512_0_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![0, 2560] S256x512.size inb_S512x4096_S256x512_0_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![0, 3072] S256x512.size inb_S512x4096_S256x512_0_3072)) (View.ld (Val := Elt Ideal) (e' := .bf16) x3 (Rect.unit (s := S8x1024x512) ![6, 0, 0] S1x1024x512.size inb_S8x1024x512_S1x1024x512_6_0_0)) (View.ld (Val := Elt Ideal) (e' := .bf16) x0 (Rect.unit (s := S512x4096) ![0, 3584] S256x512.size inb_S512x4096_S256x512_0_3584)) (View.ld (Val := Elt Ideal) (e' := .bf16) x3 (Rect.unit (s := S8x1024x512) ![7, 0, 0] S1x1024x512.size inb_S8x1024x512_S1x1024x512_7_0_0))
def D2 : Vec Ideal S256x1024 .f32 := k0_pay23 (k0_pay21 (View.ld (Val := Elt Ideal) (e' := .f32) x1 (Rect.unit (s := S512x1024) ![256, 0] S256x1024.size inb_S512x1024_S256x1024_256_0)) (View.ld (Val := Elt Ideal) (e' := .bf16) x0 (Rect.unit (s := S512x4096) ![256, 0] S256x512.size inb_S512x4096_S256x512_256_0)) (View.ld (Val := Elt Ideal) (e' := .bf16) x3 (Rect.unit (s := S8x1024x512) ![0, 0, 0] S1x1024x512.size inb_S8x1024x512_S1x1024x512_0_0_0)) (View.ld (Val := Elt Ideal) (e' := .bf16) x0 (Rect.unit (s := S512x4096) ![256, 512] S256x512.size inb_S512x4096_S256x512_256_512)) (View.ld (Val := Elt Ideal) (e' := .bf16) x3 (Rect.unit (s := S8x1024x512) ![1, 0, 0] S1x1024x512.size inb_S8x1024x512_S1x1024x512_1_0_0))) (k0_pay22 (View.ld (Val := Elt Ideal) (e' := .bf16) x0 (Rect.unit (s := S512x4096) ![256, 1024] S256x512.size inb_S512x4096_S256x512_256_1024)) (View.ld (Val := Elt Ideal) (e' := .bf16) x3 (Rect.unit (s := S8x1024x512) ![2, 0, 0] S1x1024x512.size inb_S8x1024x512_S1x1024x512_2_0_0))) (View.ld (Val := Elt Ideal) (e' := .bf16) x0 (Rect.unit (s := S512x4096) ![256, 1536] S256x512.size inb_S512x4096_S256x512_256_1536)) (View.ld (Val := Elt Ideal) (e' := .bf16) x3 (Rect.unit (s := S8x1024x512) ![3, 0, 0] S1x1024x512.size inb_S8x1024x512_S1x1024x512_3_0_0)) (View.ld (Val := Elt Ideal) (e' := .bf16) x0 (Rect.unit (s := S512x4096) ![256, 2048] S256x512.size inb_S512x4096_S256x512_256_2048)) (View.ld (Val := Elt Ideal) (e' := .bf16) x3 (Rect.unit (s := S8x1024x512) ![4, 0, 0] S1x1024x512.size inb_S8x1024x512_S1x1024x512_4_0_0)) (View.ld (Val := Elt Ideal) (e' := .bf16) x0 (Rect.unit (s := S512x4096) ![256, 2560] S256x512.size inb_S512x4096_S256x512_256_2560)) (View.ld (Val := Elt Ideal) (e' := .bf16) x3 (Rect.unit (s := S8x1024x512) ![5, 0, 0] S1x1024x512.size inb_S8x1024x512_S1x1024x512_5_0_0)) (View.ld (Val := Elt Ideal) (e' := .bf16) x0 (Rect.unit (s := S512x4096) ![256, 3072] S256x512.size inb_S512x4096_S256x512_256_3072)) (View.ld (Val := Elt Ideal) (e' := .bf16) x3 (Rect.unit (s := S8x1024x512) ![6, 0, 0] S1x1024x512.size inb_S8x1024x512_S1x1024x512_6_0_0)) (View.ld (Val := Elt Ideal) (e' := .bf16) x0 (Rect.unit (s := S512x4096) ![256, 3584] S256x512.size inb_S512x4096_S256x512_256_3584)) (View.ld (Val := Elt Ideal) (e' := .bf16) x3 (Rect.unit (s := S8x1024x512) ![7, 0, 0] S1x1024x512.size inb_S8x1024x512_S1x1024x512_7_0_0))
/-- the normed values, the halves; -/
def Y1 : Vec Ideal S256x1024 .f32 := (View.ld (Val := Elt Ideal) (e' := .f32) x2 (Rect.unit (s := S512x1024) ![0, 0] S256x1024.size inb_S512x1024_S256x1024_0_0))
def Y2 : Vec Ideal S256x1024 .f32 := (View.ld (Val := Elt Ideal) (e' := .f32) x2 (Rect.unit (s := S512x1024) ![256, 0] S256x1024.size inb_S512x1024_S256x1024_256_0))
/-- the gain; -/
def G0 : Vec Ideal S1x1024 .f32 := (View.ld (Val := Elt Ideal) (e' := .f32) x4 (Rect.unit (s := S2x1024) ![1, 0] S1x1024.size inb_S2x1024_S1x1024_1_0))
/-- the gradient before the norm; -/
def B1 : Vec Ideal S256x1024 .f32 := k0_pay16 (D1 x0 x1 x3) (k0_pay10 (Y1 x2)) (k0_pay11 (Y1 x2)) sE' (G0 x4)
def B2 : Vec Ideal S256x1024 .f32 := k0_pay1 (k0_pay25 (Y2 x2)) (k0_pay26 (Y2 x2)) (k0_pay29 (D2 x0 x1 x3) (G0 x4)) (k0_pay30 (D2 x0 x1 x3) (G0 x4))
/-- what is added to the gain's gradient and the shift's. -/
def P1 (acc : Vec Ideal S1x1024 .f32) : Vec Ideal S1x1024 .f32 := k0_pay14 (D1 x0 x1 x3) (k0_pay10 (Y1 x2)) (k0_pay11 (Y1 x2)) sE' acc
def P2 (acc : Vec Ideal S1x1024 .f32) : Vec Ideal S1x1024 .f32 := k0_pay27 (D2 x0 x1 x3) (Y2 x2) acc
def Q1 (acc : Vec Ideal S1x1024 .f32) : Vec Ideal S1x1024 .f32 := k0_pay15 (D1 x0 x1 x3) acc
def Q2 (acc : Vec Ideal S1x1024 .f32) : Vec Ideal S1x1024 .f32 := k0_pay28 (D2 x0 x1 x3) acc

variable (p : Fin 256) (j : Fin 1024)

theorem D1_row : rowOf (D1 x0 x1 x3) p = dE x0 x3 x1 (half 0 p) := by
  funext j
  refine (tileD1_at p j _ _ _ _ _ _ _ _ _ _ _ _ _ _ _ _ _).trans ?_
  have e : ∀ (d : Fin 8) (off : Fin 2 → Nat) (h0 : off = ![((0 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 0 p) (col d n)) * x3 (ix3 (run (col d n)) j (inn (col d n)))) d :=
    fun d off h0 inb off' h0' inb' => part_run x0 x3 0 p j d _ _ (fun n => ld_sub x0 0 d off h0 inb p n) (fun n => ld_run x3 d off' h0' inb' j n)
  rw [e 0 ![0, 0] rfl _ ![0, 0, 0] rfl _, e 1 ![0, 512] rfl _ ![1, 0, 0] rfl _, e 2 ![0, 1024] rfl _ ![2, 0, 0] rfl _, e 3 ![0, 1536] rfl _ ![3, 0, 0] rfl _, e 4 ![0, 2048] rfl _ ![4, 0, 0] rfl _, e 5 ![0, 2560] rfl _ ![5, 0, 0] rfl _, e 6 ![0, 3072] rfl _ ![6, 0, 0] rfl _, e 7 ![0, 3584] rfl _ ![7, 0, 0] rfl _]
  exact dE_parts x0 x3 x1 0 p j _ (fun d => rfl) _ (ld_half x1 0 _ rfl _ p j)
theorem Y1_row : rowOf (Y1 x2) p = fun j => x2 (ix2 (half 0 p) j) := funext fun j => ld_half x2 0 _ rfl _ p j
theorem D2_row : rowOf (D2 x0 x1 x3) p = dE x0 x3 x1 (half 1 p) := by
  funext j
  refine (tileD2_at p j _ _ _ _ _ _ _ _ _ _ _ _ _ _ _ _ _).trans ?_
  have e : ∀ (d : Fin 8) (off : Fin 2 → Nat) (h0 : off = ![((1 : Fin 2).val) * 256, d.val * 512]) (inb) (off' : Fin 3 → Nat) (h0' : off' = ![d.val, 0, 0]) (inb'),
      part (View.ld (Val := Elt Ideal) (e' := .bf16) x0 (Rect.unit (s := S512x4096) off S256x512.size inb)) (View.ld (Val := Elt Ideal) (e' := .bf16) x3 (Rect.unit (s := S8x1024x512) off' S1x1024x512.size inb')) p j
        = (fun d => ∑ n : Fin 512, x0 (ix2 (half 1 p) (col d n)) * x3 (ix3 (run (col d n)) j (inn (col d n)))) d :=
    fun d off h0 inb off' h0' inb' => part_run x0 x3 1 p j d _ _ (fun n => ld_sub x0 1 d off h0 inb p n) (fun n => ld_run x3 d off' h0' inb' j n)
  rw [e 0 ![256, 0] rfl _ ![0, 0, 0] rfl _, e 1 ![256, 512] rfl _ ![1, 0, 0] rfl _, e 2 ![256, 1024] rfl _ ![2, 0, 0] rfl _, e 3 ![256, 1536] rfl _ ![3, 0, 0] rfl _, e 4 ![256, 2048] rfl _ ![4, 0, 0] rfl _, e 5 ![256, 2560] rfl _ ![5, 0, 0] rfl _, e 6 ![256, 3072] rfl _ ![6, 0, 0] rfl _, e 7 ![256, 3584] rfl _ ![7, 0, 0] rfl _]
  exact dE_parts x0 x3 x1 1 p j _ (fun d => rfl) _ (ld_half x1 1 _ rfl _ p j)
theorem Y2_row : rowOf (Y2 x2) p = fun j => x2 (ix2 (half 1 p) j) := funext fun j => ld_half x2 1 _ rfl _ p j
theorem G0_row : gainOf (G0 x4) = fun j => x4 (ix2 1 j) := funext fun j => ld_second x4 _ rfl _ j

theorem gain2_at (y : Vec Ideal S256x1024 .f32) (acc : Vec Ideal S1x1024 .f32) : k0_pay27 (D2 x0 x1 x3) y acc (ix2 0 j)
    = acc (ix2 0 j) + ∑ p : Fin 256, D2 x0 x1 x3 (ix2 p j) * hat (rowOf y p) j := by
  simp only [← hat2_at]
  pointwise [k0_pay27]
theorem shift2_at (acc : Vec Ideal S1x1024 .f32) : k0_pay28 (D2 x0 x1 x3) acc (ix2 0 j)
    = acc (ix2 0 j) + ∑ p : Fin 256, D2 x0 x1 x3 (ix2 p j) := by
  pointwise [k0_pay28]

/-- A tile's gradient before the norm, its row `r`. -/
def bT (r : Fin 512) (j : Fin 1024) : EReal := back (fun j => x2 (ix2 r j)) (dE x0 x3 x1 r) (fun j => x4 (ix2 1 j)) j

theorem B1_at : B1 x0 x1 x2 x3 x4 (ix2 p j) = bT x0 x1 x2 x3 x4 (half 0 p) j := by
  refine (back1_at p j _ _ _).trans ?_
  rw [D1_row, Y1_row, G0_row]; rfl
theorem B2_at : B2 x0 x1 x2 x3 x4 (ix2 p j) = bT x0 x1 x2 x3 x4 (half 1 p) j := by
  refine (back2_at p j _ _ _).trans ?_
  rw [D2_row, Y2_row, G0_row]; rfl

/-- What a tile adds to the gain's gradient. -/
def gT (j : Fin 1024) : EReal := ∑ r : Fin 512, dE x0 x3 x1 r j * hat (fun j => x2 (ix2 r j)) j
/-- What it adds to the shift's. -/
def sT (j : Fin 1024) : EReal := ∑ r : Fin 512, dE x0 x3 x1 r j

theorem P_at (acc : Vec Ideal S1x1024 .f32) : P2 x0 x1 x2 x3 (P1 x0 x1 x2 x3 acc) (ix2 0 j) = acc (ix2 0 j) + gT x0 x1 x2 x3 j := by
  refine (gain2_at x0 x1 x3 j _ _).trans ?_
  refine (congrArg (fun a : EReal => a + _) (gain1_at j _ _ _)).trans ?_
  unfold gT
  rw [sum_halves, ← add_assoc]
  refine congrArg₂ (fun a b : EReal => acc (ix2 0 j) + a + b) ?_ ?_
  · exact Cols.sums fun q => Cols.muls (congrFun (D1_row x0 x1 x3 q) j) (congrArg (fun f => hat f j) (Y1_row x2 q))
  · exact Cols.sums fun q => Cols.muls (congrFun (D2_row x0 x1 x3 q) j) (congrArg (fun f => hat f j) (Y2_row x2 q))
theorem Q_at (acc : Vec Ideal S1x1024 .f32) : Q2 x0 x1 x3 (Q1 x0 x1 x3 acc) (ix2 0 j) = acc (ix2 0 j) + sT x0 x1 x3 j := by
  refine (shift2_at x0 x1 x3 j _).trans ?_
  refine (congrArg (fun a : EReal => a + _) (shift1_at j _ _)).trans ?_
  unfold sT
  rw [sum_halves, ← add_assoc]
  refine congrArg₂ (fun a b : EReal => acc (ix2 0 j) + a + b) ?_ ?_
  · exact Cols.sums fun q => congrFun (D1_row x0 x1 x3 q) j
  · exact Cols.sums fun q => congrFun (D2_row x0 x1 x3 q) j

theorem Pr1_at (q : Fin 1024) : k0_pay20 (F := Ideal) (B1 x0 x1 x2 x3 x4) (View.ld (Val := Elt Ideal) (e' := .bf16) x5 (Rect.unit (s := S1024x1024) ![0, 0] S1024x1024.size inb_S1024x1024_S1024x1024_0_0)) (ix2 p q)
    = tE (bT x0 x1 x2 x3 x4) x5 (half 0 p) q := by
  rw [View.ld_unit_zero z2]
  refine (st20_at p q (B1 x0 x1 x2 x3 x4) _).trans ?_
  exact Cols.sums fun k => congrArg (fun a : EReal => a * x5 (ix2 q k)) (B1_at x0 x1 x2 x3 x4 p k)
theorem Pr2_at (q : Fin 1024) : k0_pay5 (F := Ideal) (k0_pay25 (F := Ideal) (Y2 x2)) (k0_pay26 (F := Ideal) (Y2 x2)) (k0_pay29 (F := Ideal) (D2 x0 x1 x3) (G0 x4)) (k0_pay30 (F := Ideal) (D2 x0 x1 x3) (G0 x4)) (View.ld (Val := Elt Ideal) (e' := .bf16) x5 (Rect.unit (s := S1024x1024) ![0, 0] S1024x1024.size inb_S1024x1024_S1024x1024_0_0)) (ix2 p q)
    = tE (bT x0 x1 x2 x3 x4) x5 (half 1 p) q := by
  rw [View.ld_unit_zero z2]
  refine (st5_at p q (k0_pay25 (Y2 x2)) (k0_pay26 (Y2 x2)) (k0_pay29 (D2 x0 x1 x3) (G0 x4)) (k0_pay30 (D2 x0 x1 x3) (G0 x4)) _).trans ?_
  exact Cols.sums fun k => congrArg (fun a : EReal => a * x5 (ix2 q k)) (B2_at x0 x1 x2 x3 x4 p k)

variable (i : grid0.Coords) (d1 : Memref sig .tc .vmem S512x4096 .bf16) (w1 : d1.IsWhole) (d2 : Memref sig .tc .vmem S512x1024 .f32) (w2 : d2.IsWhole) (d3 : Memref sig .tc .vmem S512x1024 .f32) (w3 : d3.IsWhole) (d4 : Memref sig .tc .vmem S8x1024x512 .bf16) (w4 : d4.IsWhole) (d5 : Memref sig .tc .vmem S2x1024 .f32) (w5 : d5.IsWhole) (d6 : Memref sig .tc .vmem S1024x1024 .bf16) (w6 : d6.IsWhole) (d7 : Memref sig .tc .vmem S512x1024 .f32) (w7 : d7.IsWhole) (d8 : Memref sig .tc .vmem S512x1024 .bf16) (w8 : d8.IsWhole) (d9 : Memref sig .tc .vmem S512x1024 .bf16) (w9 : d9.IsWhole) (d10 : Memref sig .tc .vmem S1x1024 .f32) (w10 : d10.IsWhole) (d11 : Memref sig .tc .vmem S1x1024 .f32) (w11 : d11.IsWhole)
  (xo9 xo10 : Vec Ideal S1x1024 .f32)

theorem outA6 (hc0) : out0_A_6 c i d1 w1 d2 w2 d3 w3 d4 w4 d5 w5 d6 w6 d7 w7 d8 w8 d9 w9 d10 w10 d11 w11 hc0 x0 x1 x2 x3 x4 x5 = fun ix : S512x1024.Idx => (bT x0 x1 x2 x3 x4 : Fin 512 → Fin 1024 → Elt Ideal .f32) (ix 0) (ix 1) := by
  unfold out0_A_6
  rw [View.read_writes_eq_canon _ _ _ (cover0_A_6 _ _ _ _ _ _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_A_6 _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (st2_at p q (k0_pay25 (Y2 x2)) (k0_pay26 (Y2 x2)) (k0_pay29 (D2 x0 x1 x3) (G0 x4)) (k0_pay30 (D2 x0 x1 x3) (G0 x4))).trans (B2_at x0 x1 x2 x3 x4 p q)) z
  · exact piece_half (φ := .f32) (bT x0 x1 x2 x3 x4) 0 _ _ rfl inb_S512x1024_S256x1024_0_0 (fun p q => (st17_at p q (B1 x0 x1 x2 x3 x4)).trans (B1_at x0 x1 x2 x3 x4 p q)) z
theorem outA7 (hc0) : out0_A_7 c i d1 w1 d2 w2 d3 w3 d4 w4 d5 w5 d6 w6 d7 w7 d8 w8 d9 w9 d10 w10 d11 w11 hc0 x0 x1 x2 x3 x4 x5 = fun ix : S512x1024.Idx => (bT x0 x1 x2 x3 x4 : Fin 512 → Fin 1024 → Elt Ideal .bf16) (ix 0) (ix 1) := by
  unfold out0_A_7
  rw [View.read_writes_eq_canon _ _ _ (cover0_A_7 _ _ _ _ _ _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_A_7 _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (st4_at p q (k0_pay25 (Y2 x2)) (k0_pay26 (Y2 x2)) (k0_pay29 (D2 x0 x1 x3) (G0 x4)) (k0_pay30 (D2 x0 x1 x3) (G0 x4))).trans (B2_at x0 x1 x2 x3 x4 p q)) z
  · exact piece_half (φ := .bf16) (bT x0 x1 x2 x3 x4) 0 _ _ rfl inb_S512x1024_S256x1024_0_0 (fun p q => (st19_at p q (B1 x0 x1 x2 x3 x4)).trans (B1_at x0 x1 x2 x3 x4 p q)) z
theorem outA8 (hc0) : out0_A_8 c i d1 w1 d2 w2 d3 w3 d4 w4 d5 w5 d6 w6 d7 w7 d8 w8 d9 w9 d10 w10 d11 w11 hc0 x0 x1 x2 x3 x4 x5 = fun ix : S512x1024.Idx => ((tE (bT x0 x1 x2 x3 x4) x5) : Fin 512 → Fin 1024 → Elt Ideal .bf16) (ix 0) (ix 1) := by
  unfold out0_A_8
  rw [View.read_writes_eq_canon _ _ _ (cover0_A_8 _ _ _ _ _ _ _ _ _ _ _ _ _ _ _ _ _ _ _ _ _ _ _ _ _ _ _ _ _ _ _)]
  funext y
  refine View.canon_apply_of_pieces (Val := Elt Ideal) (e := .bf16) (fun ix : S512x1024.Idx => ((tE (bT x0 x1 x2 x3 x4) x5) : Fin 512 → Fin 1024 → Elt Ideal .bf16) (ix 0) (ix 1)) _ ?_ y (cover0_A_8 _ _ _ _ _ _ _ _ _ _ _ _ _ _ _ _ _ _ _ _ _ _ _ _ _ _ _ _ _ _ _ _)
  unfold kernelRun0_A
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .bf16) (tE (bT x0 x1 x2 x3 x4) x5) 1 _ _ rfl inb_S512x1024_S256x1024_256_0 (fun p q => Pr2_at x0 x1 x2 x3 x4 x5 p q) z
  · exact piece_half (φ := .bf16) (tE (bT x0 x1 x2 x3 x4) x5) 0 _ _ rfl inb_S512x1024_S256x1024_0_0 (fun p q => Pr1_at x0 x1 x2 x3 x4 x5 p q) z
theorem outA9 (hc0) : out0_A_9 c i d1 w1 d2 w2 d3 w3 d4 w4 d5 w5 d6 w6 d7 w7 d8 w8 d9 w9 d10 w10 d11 w11 hc0 x0 x1 x2 x3 x4 x5 = P2 x0 x1 x2 x3 (P1 x0 x1 x2 x3 (k0_pay6 (F := Ideal))) := by
  unfold out0_A_9
  rw [View.read_writes_eq_canon _ _ _ (cover0_A_9 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread, w10.read_unread, w11.read_unread]
  rw [View.canon_cons_unit_zero z2, View.readCov_full, View.readCov_full]
  rfl
theorem outA10 (hc0) : out0_A_10 c i d1 w1 d2 w2 d3 w3 d4 w4 d5 w5 d6 w6 d7 w7 d8 w8 d9 w9 d10 w10 d11 w11 hc0 x0 x1 x2 x3 x4 x5 = Q2 x0 x1 x3 (Q1 x0 x1 x3 (k0_pay7 (F := Ideal))) := by
  unfold out0_A_10
  rw [View.read_writes_eq_canon _ _ _ (cover0_A_10 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread, w10.read_unread, w11.read_unread]
  rw [View.canon_cons_unit_zero z2, View.readCov_full, View.readCov_full]
  rfl
theorem outB6 (hc0) : out0_B_6 c i d1 w1 d2 w2 d3 w3 d4 w4 d5 w5 d6 w6 d7 w7 d8 w8 d9 w9 d10 w10 d11 w11 hc0 x0 x1 x2 x3 x4 x5 xo9 xo10 = fun ix : S512x1024.Idx => (bT x0 x1 x2 x3 x4 : Fin 512 → Fin 1024 → Elt Ideal .f32) (ix 0) (ix 1) := by
  unfold out0_B_6
  rw [View.read_writes_eq_canon _ _ _ (cover0_B_6 _ _ _ _ _ _ _ _ _ _ _ _ _ _ _ _ _ _ _ _ _ _ _ _ _ _ _ _ _ _ _ _ _)]
  funext y
  refine View.canon_apply_of_pieces (Val := Elt Ideal) (e := .f32) (fun ix : S512x1024.Idx => (bT x0 x1 x2 x3 x4 : Fin 512 → Fin 1024 → Elt Ideal .f32) (ix 0) (ix 1)) _ ?_ y (cover0_B_6 _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .f32) (bT x0 x1 x2 x3 x4) 1 _ _ rfl inb_S512x1024_S256x1024_256_0 (fun p q => (st2_at p q (k0_pay25 (Y2 x2)) (k0_pay26 (Y2 x2)) (k0_pay29 (D2 x0 x1 x3) (G0 x4)) (k0_pay30 (D2 x0 x1 x3) (G0 x4))).trans (B2_at x0 x1 x2 x3 x4 p q)) z
  · exact piece_half (φ := .f32) (bT x0 x1 x2 x3 x4) 0 _ _ rfl inb_S512x1024_S256x1024_0_0 (fun p q => (st17_at p q (B1 x0 x1 x2 x3 x4)).trans (B1_at x0 x1 x2 x3 x4 p q)) z
theorem outB7 (hc0) : out0_B_7 c i d1 w1 d2 w2 d3 w3 d4 w4 d5 w5 d6 w6 d7 w7 d8 w8 d9 w9 d10 w10 d11 w11 hc0 x0 x1 x2 x3 x4 x5 xo9 xo10 = fun ix : S512x1024.Idx => (bT x0 x1 x2 x3 x4 : Fin 512 → Fin 1024 → Elt Ideal .bf16) (ix 0) (ix 1) := by
  unfold out0_B_7
  rw [View.read_writes_eq_canon _ _ _ (cover0_B_7 _ _ _ _ _ _ _ _ _ _ _ _ _ _ _ _ _ _ _ _ _ _ _ _ _ _ _ _ _ _ _ _ _)]
  funext y
  refine View.canon_apply_of_pieces (Val := Elt Ideal) (e := .bf16) (fun ix : S512x1024.Idx => (bT x0 x1 x2 x3 x4 : Fin 512 → Fin 1024 → Elt Ideal .bf16) (ix 0) (ix 1)) _ ?_ y (cover0_B_7 _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .bf16) (bT x0 x1 x2 x3 x4) 1 _ _ rfl inb_S512x1024_S256x1024_256_0 (fun p q => (st4_at p q (k0_pay25 (Y2 x2)) (k0_pay26 (Y2 x2)) (k0_pay29 (D2 x0 x1 x3) (G0 x4)) (k0_pay30 (D2 x0 x1 x3) (G0 x4))).trans (B2_at x0 x1 x2 x3 x4 p q)) z
  · exact piece_half (φ := .bf16) (bT x0 x1 x2 x3 x4) 0 _ _ rfl inb_S512x1024_S256x1024_0_0 (fun p q => (st19_at p q (B1 x0 x1 x2 x3 x4)).trans (B1_at x0 x1 x2 x3 x4 p q)) z
theorem outB8 (hc0) : out0_B_8 c i d1 w1 d2 w2 d3 w3 d4 w4 d5 w5 d6 w6 d7 w7 d8 w8 d9 w9 d10 w10 d11 w11 hc0 x0 x1 x2 x3 x4 x5 xo9 xo10 = fun ix : S512x1024.Idx => ((tE (bT x0 x1 x2 x3 x4) x5) : Fin 512 → Fin 1024 → Elt Ideal .bf16) (ix 0) (ix 1) := by
  unfold out0_B_8
  rw [View.read_writes_eq_canon _ _ _ (cover0_B_8 _ _ _ _ _ _ _ _ _ _ _ _ _ _ _ _ _ _ _ _ _ _ _ _ _ _ _ _ _ _ _ _ _)]
  funext y
  refine View.canon_apply_of_pieces (Val := Elt Ideal) (e := .bf16) (fun ix : S512x1024.Idx => ((tE (bT x0 x1 x2 x3 x4) x5) : Fin 512 → Fin 1024 → Elt Ideal .bf16) (ix 0) (ix 1)) _ ?_ y (cover0_B_8 _ _ _ _ _ _ _ _ _ _ _ _ _ _ _ _ _ _ _ _ _ _ _ _ _ _ _ _ _ _ _ _ _ _)
  unfold kernelRun0_B
  dsimp only
  sl_unfold_words
  simp only [View.readAt_eq_ld, w1.read_unread, w2.read_unread, w3.read_unread, w4.read_unread, w5.read_unread, w6.read_unread, w10.read_unread, w11.read_unread]
  intro P hP z
  simp only [List.mem_cons, List.not_mem_nil, or_false] at hP
  rcases hP with h | h <;> subst h
  · exact piece_half (φ := .bf16) (tE (bT x0 x1 x2 x3 x4) x5) 1 _ _ rfl inb_S512x1024_S256x1024_256_0 (fun p q => Pr2_at x0 x1 x2 x3 x4 x5 p q) z
  · exact piece_half (φ := .bf16) (tE (bT x0 x1 x2 x3 x4) x5) 0 _ _ rfl inb_S512x1024_S256x1024_0_0 (fun p q => Pr1_at x0 x1 x2 x3 x4 x5 p q) z
theorem outB9 (hc0) : out0_B_9 c i d1 w1 d2 w2 d3 w3 d4 w4 d5 w5 d6 w6 d7 w7 d8 w8 d9 w9 d10 w10 d11 w11 hc0 x0 x1 x2 x3 x4 x5 xo9 xo10 = P2 x0 x1 x2 x3 (P1 x0 x1 x2 x3 xo9) := by
  unfold out0_B_9
  rw [View.read_writes_eq_canon _ _ _ (cover0_B_9 _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w10.read_unread, w11.read_unread]
  rw [View.canon_cons_unit_zero z2, View.readCov_full, View.ld_unit_zero (S := S1x1024) z2]
  rfl
theorem outB10 (hc0) : out0_B_10 c i d1 w1 d2 w2 d3 w3 d4 w4 d5 w5 d6 w6 d7 w7 d8 w8 d9 w9 d10 w10 d11 w11 hc0 x0 x1 x2 x3 x4 x5 xo9 xo10 = Q2 x0 x1 x3 (Q1 x0 x1 x3 xo10) := by
  unfold out0_B_10
  rw [View.read_writes_eq_canon _ _ _ (cover0_B_10 _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w10.read_unread, w11.read_unread]
  rw [View.canon_cons_unit_zero z2, View.readCov_full, View.ld_unit_zero (S := S1x1024) z2]
  rfl

end Tile

/-! ## The launch -/

/-- The hidden gradient, the matrix, the branch that skips, the sums that were normed, the gain. -/
abbrev aA : FVec Ideal S4096x4096 .bf16 := m ((c : Thread nD τ).loc main_arg0)
abbrev aW : FVec Ideal S8x1024x512 .bf16 := m ((c : Thread nD τ).loc main_arg1)
abbrev aH : FVec Ideal S4096x1024 .f32 := m ((c : Thread nD τ).loc main_arg2)
abbrev aY : FVec Ideal S4096x1024 .f32 := m ((c : Thread nD τ).loc main_arg3)
abbrev aG : FVec Ideal S2x1024 .f32 := m ((c : Thread nD τ).loc main_arg4)

theorem lt8 (t : Fin cfg0.N) : t.val < 8 := lt_of_lt_of_eq t.isLt N_0

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_6.index t = ![t.val, 0] ∧ win0_7.index t = ![t.val, 0]
    ∧ win0_9.index t = ![0, 0] ∧ win0_10.index t = ![0, 0] ∧ win0_8.index t = ![t.val, 0] ∧ win0_5.index t = ![0, 0] := by
  decide +kernel

theorem blkA (t : Fin cfg0.N) (r : Fin 512) (k : Fin 4096) : iblk m c 0 t (ix2 r k) = aA m c (ix2 (col ⟨t.val, lt8 t⟩ r) k) := by
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkY (t : Fin cfg0.N) (r : Fin 512) (k : Fin 1024) : iblk m c 2 t (ix2 r k) = aY m c (ix2 (col ⟨t.val, lt8 t⟩ r) k) := by
  unfold col
  blk_ext [iblk, idx t]
theorem blkW (t : Fin cfg0.N) (e : Fin 8) (k : Fin 1024) (n : Fin 512) : iblk m c 3 t (ix3 e k n) = aW m c (ix3 e k n) := by
  blk_ext [iblk, idx t]
theorem blkG (t : Fin cfg0.N) (k : Fin 2) (j : Fin 1024) : iblk m c 4 t (ix2 k j) = aG m c (ix2 k j) := by
  blk_ext [iblk, idx t]

/-- The gradient at the norm's result, a row of it; -/
def dW (r : Fin 4096) : Fin 1024 → EReal := dE (aA m c) (aW m c) (aH m c) r
/-- a normed row; -/
def yW (r : Fin 4096) (j : Fin 1024) : EReal := aY m c (ix2 r j)
/-- the gradient before the norm; -/
def bW (r : Fin 4096) (j : Fin 1024) : EReal := back (yW m c r) (dW m c r) (fun j => aG m c (ix2 1 j)) j
/-- what a row adds to the gain's gradient. -/
def gW (j : Fin 1024) (r : Fin 4096) : EReal := dW m c r j * hat (yW m c r) j

abbrev x0 (t : Fin cfg0.N) : Vec Ideal S512x4096 .bf16 := iblk m c 0 t
abbrev x1 (t : Fin cfg0.N) : Vec Ideal S512x1024 .f32 := iblk m c 1 t
abbrev x2 (t : Fin cfg0.N) : Vec Ideal S512x1024 .f32 := iblk m c 2 t
abbrev x3 (t : Fin cfg0.N) : Vec Ideal S8x1024x512 .bf16 := iblk m c 3 t
abbrev x4 (t : Fin cfg0.N) : Vec Ideal S2x1024 .f32 := iblk m c 4 t

theorem d_tile (t : Fin cfg0.N) (r : Fin 512) : dE (x0 m c t) (x3 m c t) (x1 m c t) r = dW m c (col ⟨t.val, lt8 t⟩ r) :=
  dE_tile _ _ _ _ _ _ ⟨t.val, lt8 t⟩ (blkA m c t) (blkW m c t) (blkH m c t) r
theorem y_tile (t : Fin cfg0.N) (r : Fin 512) : (fun j : Fin 1024 => x2 m c t (ix2 r j)) = yW m c (col ⟨t.val, lt8 t⟩ r) :=
  funext fun j => blkY m c t r j
theorem b_tile (t : Fin cfg0.N) (r : Fin 512) (j : Fin 1024) :
    bT (x0 m c t) (x1 m c t) (x2 m c t) (x3 m c t) (x4 m c t) r j = bW m c (col ⟨t.val, lt8 t⟩ r) j := by
  unfold bT bW
  rw [d_tile, y_tile]
  exact congrArg (fun g => back (yW m c (col ⟨t.val, lt8 t⟩ r)) (dW m c (col ⟨t.val, lt8 t⟩ r)) g j) (funext fun j => blkG m c t 1 j)
theorem g_tile (t : Fin cfg0.N) (j : Fin 1024) : gT (x0 m c t) (x1 m c t) (x2 m c t) (x3 m c t) j = tileSum (gW m c j) t.val := by
  unfold gT
  rw [tileSum_lt _ (lt8 t)]
  refine Cols.sums fun r => ?_
  rw [d_tile, y_tile]; rfl
theorem s_tile (t : Fin cfg0.N) (j : Fin 1024) : sT (x0 m c t) (x1 m c t) (x3 m c t) j = tileSum (fun r => dW m c r j) t.val := by
  unfold sT
  rw [tileSum_lt _ (lt8 t)]
  refine Cols.sums fun r => ?_
  rw [d_tile]

/-- After a point, the running sum over the rows so far. -/
theorem acc9 (j : Fin 1024) : ∀ (n : ℕ) (h : n < cfg0.N), (outsAt0 m c n h).2.2.2.1 (ix2 0 j) = upTo (gW m c j) n
  | 0, h => by
    refine (congrArg (fun z => z.2.2.2.1 (ix2 0 j)) (outsAt0_A m c ⟨0, h⟩ rfl)).trans ?_
    dsimp only
    rw [outA9, P_at, zero1_at, zero_add, upTo_zero]
    exact g_tile m c ⟨0, h⟩ j
  | n + 1, h => by
    have h8 : n + 1 < 8 := lt8 ⟨n + 1, h⟩
    refine (congrArg (fun z => z.2.2.2.1 (ix2 0 j)) (outsAt0_B m c ⟨n + 1, h⟩ (by show ¬(n + 1) % 8 = 0; omega))).trans ?_
    dsimp only
    rw [outB9, P_at, upTo_succ]
    exact Cols.adds (acc9 j n (Nat.lt_of_succ_lt h)) (g_tile m c ⟨n + 1, h⟩ j)

/-- After a point, the running sum over the rows so far. -/
theorem acc10 (j : Fin 1024) : ∀ (n : ℕ) (h : n < cfg0.N), (outsAt0 m c n h).2.2.2.2 (ix2 0 j) = upTo (fun r => dW m c r j) n
  | 0, h => by
    refine (congrArg (fun z => z.2.2.2.2 (ix2 0 j)) (outsAt0_A m c ⟨0, h⟩ rfl)).trans ?_
    dsimp only
    rw [outA10, Q_at, zero2_at, zero_add, upTo_zero]
    exact s_tile m c ⟨0, h⟩ j
  | n + 1, h => by
    have h8 : n + 1 < 8 := lt8 ⟨n + 1, h⟩
    refine (congrArg (fun z => z.2.2.2.2 (ix2 0 j)) (outsAt0_B m c ⟨n + 1, h⟩ (by show ¬(n + 1) % 8 = 0; omega))).trans ?_
    dsimp only
    rw [outB10, Q_at, upTo_succ]
    exact Cols.adds (acc10 j n (Nat.lt_of_succ_lt h)) (s_tile m c ⟨n + 1, h⟩ j)

theorem tile6 (t : Fin cfg0.N) : (outsAt0 m c t.val t.isLt).1 = fun ix : S512x1024.Idx =>
    (bT (x0 m c t) (x1 m c t) (x2 m c t) (x3 m c t) (x4 m c t) : Fin 512 → Fin 1024 → Elt Ideal .f32) (ix 0) (ix 1) := by
  by_cases h0 : t.val % 8 = 0
  · refine (congrArg (fun z => z.1) (outsAt0_A m c t h0)).trans ?_
    dsimp only
    rw [outA6]
  · refine (congrArg (fun z => z.1) (outsAt0_B m c t h0)).trans ?_
    dsimp only
    rw [outB6]

theorem tile7 (t : Fin cfg0.N) : (outsAt0 m c t.val t.isLt).2.1 = fun ix : S512x1024.Idx =>
    (bT (x0 m c t) (x1 m c t) (x2 m c t) (x3 m c t) (x4 m c t) : Fin 512 → Fin 1024 → Elt Ideal .bf16) (ix 0) (ix 1) := by
  by_cases h0 : t.val % 8 = 0
  · refine (congrArg (fun z => z.2.1) (outsAt0_A m c t h0)).trans ?_
    dsimp only
    rw [outA7]
  · refine (congrArg (fun z => z.2.1) (outsAt0_B m c t h0)).trans ?_
    dsimp only
    rw [outB7]

/-- The gradient before the norm, in full and shortened; the gain's gradient; the shift's. -/
def oY : FVec Ideal S4096x1024 .f32 := fun ix => bW m c (ix 0) (ix 1)
def oT : FVec Ideal S4096x1024 .bf16 := fun ix => bW m c (ix 0) (ix 1)
def oG : FVec Ideal S1x1024 .f32 := fun ix => ∑ r, gW m c (ix 1) r
def oS : FVec Ideal S1x1024 .f32 := fun ix => ∑ r, dW m c r (ix 1)

theorem final6 : (dats m 0 c).arrAt 6 cfg0.N = oY m c := by
  refine (dats m 0 c).arrAt_eq_of_covers 6 _ (by decide +kernel) fun t hf y => ?_
  blk_simp
  rw [after0_6]
  have ee : ((((cfg0.win 6).blk t).view.emb y) : S4096x1024.Idx) = ix2 (col ⟨t.val, lt8 t⟩ (y 0 : Fin 512)) (y 1 : Fin 1024) := by
    unfold col
    blk_ext [idx t]
  refine (congrFun (tile6 m c t) y).trans ((b_tile m c t (y 0) (y 1)).trans ?_)
  exact (congrArg (oY m c) ee).symm

theorem final7 : (dats m 0 c).arrAt 7 cfg0.N = oT m c := by
  refine (dats m 0 c).arrAt_eq_of_covers 7 _ (by decide +kernel) fun t hf y => ?_
  blk_simp
  rw [after0_7]
  have ee : ((((cfg0.win 7).blk t).view.emb y) : S4096x1024.Idx) = ix2 (col ⟨t.val, lt8 t⟩ (y 0 : Fin 512)) (y 1 : Fin 1024) := by
    unfold col
    blk_ext [idx t]
  refine (congrFun (tile7 m c t) y).trans ((b_tile m c t (y 0) (y 1)).trans ?_)
  exact (congrArg (oT m c) ee).symm

theorem final9 : (dats m 0 c).arrAt 9 cfg0.N = oG m c := by
  refine (dats m 0 c).arrAt_eq_of_covers 9 _ (by decide +kernel) fun t hf y => ?_
  have h7 : t.val = 7 := by have := (flush0_9 t).mp hf; have := lt8 t; omega
  blk_simp
  rw [after0_9]
  have ey : (y : S1x1024.Idx) = ix2 (0 : Fin 1) (y 1 : Fin 1024) := by
    funext a; fin_cases a
    · exact Subsingleton.elim (α := Fin 1) _ _
    · rfl
  have ee : ((((cfg0.win 9).blk t).view.emb y) : S1x1024.Idx) = ix2 (0 : Fin 1) (y 1 : Fin 1024) := by
    rw [ey]
    blk_ext [idx t]
  refine (congrArg (outsAt0 m c t.val t.isLt).2.2.2.1 ey).trans ((acc9 m c (y 1) t.val t.isLt).trans ?_)
  rw [h7, upTo_last]
  exact (congrArg (oG m c) ee).symm

theorem final10 : (dats m 0 c).arrAt 10 cfg0.N = oS m c := by
  refine (dats m 0 c).arrAt_eq_of_covers 10 _ (by decide +kernel) fun t hf y => ?_
  have h7 : t.val = 7 := by have := (flush0_10 t).mp hf; have := lt8 t; omega
  blk_simp
  rw [after0_10]
  have ey : (y : S1x1024.Idx) = ix2 (0 : Fin 1) (y 1 : Fin 1024) := by
    funext a; fin_cases a
    · exact Subsingleton.elim (α := Fin 1) _ _
    · rfl
  have ee : ((((cfg0.win 10).blk t).view.emb y) : S1x1024.Idx) = ix2 (0 : Fin 1) (y 1 : Fin 1024) := by
    rw [ey]
    blk_ext [idx t]
  refine (congrArg (outsAt0 m c t.val t.isLt).2.2.2.2 ey).trans ((acc10 m c (y 1) t.val t.isLt).trans ?_)
  rw [h7, upTo_last]
  exact (congrArg (oS m c) ee).symm

/-- The output matrix. -/
abbrev aP : FVec Ideal S1024x1024 .bf16 := m ((c : Thread nD τ).loc main_arg5)
theorem blkP (t : Fin cfg0.N) : (iblk m c 5 t : Vec Ideal S1024x1024 .bf16) = aP m c := by
  funext z
  refine (congrArg (iblk m c 5 t) (eq_ix2 z)).trans (Eq.trans (b := aP m c (ix2 (z 0) (z 1))) ?_ (congrArg (aP m c) (eq_ix2 z)).symm)
  blk_ext [iblk, idx t]

/-- The gradient, times the matrix transposed. -/
def oX : FVec Ideal S4096x1024 .bf16 := fun ix => tE (bW m c) (aP m c) (ix 0) (ix 1)

theorem tile8 (t : Fin cfg0.N) : (outsAt0 m c t.val t.isLt).2.2.1 = fun ix : S512x1024.Idx =>
    (tE (bT (x0 m c t) (x1 m c t) (x2 m c t) (x3 m c t) (x4 m c t)) (iblk m c 5 t) : Fin 512 → Fin 1024 → Elt Ideal .bf16) (ix 0) (ix 1) := by
  by_cases h0 : t.val % 8 = 0
  · refine (congrArg (fun z => z.2.2.1) (outsAt0_A m c t h0)).trans ?_
    dsimp only
    rw [outA8]
  · refine (congrArg (fun z => z.2.2.1) (outsAt0_B m c t h0)).trans ?_
    dsimp only
    rw [outB8]

theorem x_tile (t : Fin cfg0.N) (p : Fin 512) (j : Fin 1024) :
    tE (bT (x0 m c t) (x1 m c t) (x2 m c t) (x3 m c t) (x4 m c t)) (iblk m c 5 t) p j = tE (bW m c) (aP m c) (col ⟨t.val, lt8 t⟩ p) j := by
  rw [blkP]
  unfold tE
  exact Cols.sums fun k => congrArg (fun a : EReal => a * _) (b_tile m c t p k)

theorem final8 : (dats m 0 c).arrAt 8 cfg0.N = oX m c := by
  refine (dats m 0 c).arrAt_eq_of_covers 8 _ (by decide +kernel) fun t hf y => ?_
  blk_simp
  rw [after0_8]
  have ee : ((((cfg0.win 8).blk t).view.emb y) : S4096x1024.Idx) = ix2 (col ⟨t.val, lt8 t⟩ (y 0 : Fin 512)) (y 1 : Fin 1024) := by
    unfold col
    blk_ext [idx t]
  refine (congrFun (tile8 m c t) y).trans ((x_tile m c t (y 0) (y 1)).trans ?_)
  exact (congrArg (oX m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = oY m c ∧ r.2.mem ((c.tc : Thread nD τ).loc main_v0_1) = oT m c
      ∧ r.2.mem ((c.tc : Thread nD τ).loc main_v0_2) = oX m c
      ∧ r.2.mem ((c.tc : Thread nD τ).loc main_v0_3) = oG m c ∧ r.2.mem ((c.tc : Thread nD τ).loc main_v0_4) = oS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans (final6 m c), ((h c).1 7).trans (final7 m c), ((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelDpIdeal.Val

namespace Cert.ReferenceDpIdeal.Val

open Cert.ReferenceDpIdeal Cert.ReferenceDpIdeal.Gen Idealize.ShloMosaic Idealize.ShloMosaic.TcCoe Idealize.SL.Sem Idealize.ShloMosaic.StableHlo Cert.Cols Cert.Norm

/-- The matrix whose columns are kept in runs; -/
def whole (W : FVec Ideal S8x1024x512 .bf16) : FVec Ideal S1024x4096 .f32 :=
  shapeCast _ (transpose S1024x8x512 [1, 0, 2] (extf .f32 W bitsLt_bf16_f32) transposes_S8x1024x512_S1024x8x512_1_0_2) shapeCasts_S1024x8x512_S1024x4096
/-- the gradient at the norm's result. -/
def dM (A : FVec Ideal S4096x4096 .bf16) (W : FVec Ideal S8x1024x512 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x4096_S1024x4096_S4096x1024_1_1_0_0_n_n none (extf .f32 A bitsLt_bf16_f32) (whole W))

/-- A row's sum over its length; -/
def mid (y : FVec Ideal S4096x1024 .f32) : FVec Ideal S4096x1 .f32 :=
  Host.divf (broadcastInDim S4096x1 ![0] bcast_S4096_S4096x1_0 (Host.reduceAdd y (constant S_ .f32 0x00000000#32) reducesTo_S4096x1024_S4096_d1 h_S_))
    (broadcastInDim S4096x1 ![] bcast_S_S4096x1 (constant S_ .f32 0x44800000#32))
/-- the rows less their means, -/
def less (y : FVec Ideal S4096x1024 .f32) : FVec Ideal S4096x1024 .f32 := subf y (broadcastInDim S4096x1024 ![0, 1] bcast_S4096x1_S4096x1024_0_1 (mid y))
/-- the variance and the small number, -/
def vare (y : FVec Ideal S4096x1024 .f32) : FVec Ideal S4096x1 .f32 :=
  addf (mid (mulf (less y) (less y))) (broadcastInDim S4096x1 ![] bcast_S_S4096x1 (constant S_ .f32 0x3727C5AC#32))
/-- the inverse root, -/
def root (y : FVec Ideal S4096x1024 .f32) : FVec Ideal S4096x1 .f32 := Host.rsqrt (vare y)
/-- spread over the rows, -/
def wide (y : FVec Ideal S4096x1024 .f32) : FVec Ideal S4096x1024 .f32 := broadcastInDim S4096x1024 ![0, 1] bcast_S4096x1_S4096x1024_0_1 (root y)
/-- the second of two rows, spread over all rows. -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast _ (extractStridedSlice S1x1024 ![1, 0] g slices_S2x1024_S1x1024_1_0) shapeCasts_S1x1024_S1024))

section Chain
variable (D y : FVec Ideal S4096x1024 .f32) (g : FVec Ideal S2x1024 .f32)

/-- The gradient through the product with the inverse root; -/
def thru : FVec Ideal S4096x1024 .f32 := mulf (mulf D (spread g)) (wide y)
/-- a row's sum, kept as a column; -/
def rowSum (x : FVec Ideal S4096x1024 .f32) : FVec Ideal S4096x1 .f32 :=
  shapeCast _ (Host.reduceAdd x (constant S_ .f32 0x00000000#32) reducesTo_S4096x1024_S4096_d1 h_S_) shapeCasts_S4096_S4096x1
/-- a column over the row's length, spread over the rows; -/
def overN (x : FVec Ideal S4096x1 .f32) : FVec Ideal S4096x1024 .f32 :=
  broadcastInDim S4096x1024 ![0] bcast_S4096_S4096x1024_0 (Host.reduceAdd (Host.divf x (broadcastInDim S4096x1 ![] bcast_S_S4096x1 (constant S_ .f32 0x44800000#32)))
    (constant S_ .f32 0x00000000#32) reducesTo_S4096x1_S4096_d1 h_S_)
/-- the gradient of the variance; -/
def slope : FVec Ideal S4096x1 .f32 :=
  mulf (rowSum (mulf (less y) (mulf D (spread g))))
    (mulf (broadcastInDim S4096x1 ![] bcast_S_S4096x1 (constant S_ .f32 0xBF000000#32)) (Host.divf (root y) (vare y)))
/-- the gradient through the variance; -/
def lean : FVec Ideal S4096x1024 .f32 :=
  mulf (overN (slope D y g)) (mulf (broadcastInDim S4096x1024 ![] bcast_S_S4096x1024 (constant S_ .f32 0x40000000#32)) (less y))
/-- the whole gradient. -/
def dY : FVec Ideal S4096x1024 .f32 :=
  addf (addf (thru D y g) (lean D y g)) (overN (addf (rowSum (Host.negf (thru D y g))) (rowSum (Host.negf (lean D y g)))))
/-- A column's sum over all rows, as a row. -/
def down (x : FVec Ideal S4096x1024 .f32) : FVec Ideal S1x1024 .f32 :=
  shapeCast _ (Host.reduceAdd (shapeCast _ (Host.reduceAdd x (constant S_ .f32 0x00000000#32) reducesTo_S4096x1024_S1024_d0 h_S_) shapeCasts_S1024_S1x1024 : FVec Ideal S1x1024 .f32)
    (constant S_ .f32 0x00000000#32) reducesTo_S1x1024_S1024_d0 h_S_) shapeCasts_S1024_S1x1024

variable (r : Fin 4096) (j : Fin 1024)

/-- A row of a matrix. -/
abbrev row (x : FVec Ideal S4096x1024 .f32) (r : Fin 4096) (j : Fin 1024) : EReal := x (ix2 r j)

theorem whole_at (W : FVec Ideal S8x1024x512 .bf16) (k : Fin 4096) : whole W (ix2 j k) = W (ix3 (run k) j (inn k)) := by
  unfold run inn
  pointwise [whole]
theorem dM_at (A : FVec Ideal S4096x4096 .bf16) (W : FVec Ideal S8x1024x512 .bf16) (H : FVec Ideal S4096x1024 .f32) : dM A W H (ix2 r j) = dE A W H r j := by
  refine Eq.trans (b := kA * H (ix2 r j) + ∑ k : Fin 4096, A (ix2 r k) * whole W (ix2 j k)) ?_ ?_
  · pointwise [dM]
  · unfold dE
    exact congrArg (fun a : EReal => kA * H (ix2 r j) + a) (Cols.sums fun k => congrArg (fun b : EReal => A (ix2 r k) * b) (whole_at j W k))
theorem mid_at : mid y (ix2 r 0) = mean (row y r) := by
  unfold mean; pointwise [mid]
theorem less_at : less y (ix2 r j) = cen (row y r) j := by
  refine Eq.trans (b := y (ix2 r j) - mid y (ix2 r 0)) ?_ ?_
  · pointwise [less]
  · rw [mid_at]; rfl
theorem vare_at : vare y (ix2 r 0) = vr (row y r) + kE := by
  refine Eq.trans (b := mid (mulf (less y) (less y)) (ix2 r 0) + kE) ?_ ?_
  · pointwise [vare]
  · rw [mid_at]
    unfold vr
    refine congrArg (fun f : Fin 1024 → EReal => mean f + kE) (funext fun j => ?_)
    exact Cols.muls (less_at y r j) (less_at y r j)
theorem root_at : root y (ix2 r 0) = rs (row y r) := by
  refine Eq.trans (b := Ideal.rsqrt (vare y (ix2 r 0))) ?_ ?_
  · pointwise [root]
  · rw [vare_at]; rfl
theorem wide_at : wide y (ix2 r j) = rs (row y r) := by
  rw [← root_at]; pointwise [wide]
theorem spread_at : spread g (ix2 r j) = g (ix2 1 j) := by
  pointwise [spread]

/-- The gain. -/
abbrev gain (g : FVec Ideal S2x1024 .f32) (j : Fin 1024) : EReal := g (ix2 1 j)

theorem thru_at : thru D y g (ix2 r j) = cA (row y r) (row D r) (gain g) j := by
  refine Eq.trans (b := D (ix2 r j) * spread g (ix2 r j) * wide y (ix2 r j)) ?_ ?_
  · pointwise [thru]
  · rw [spread_at, wide_at]; rfl
theorem rowSum_at (x : FVec Ideal S4096x1024 .f32) : rowSum x (ix2 r 0) = ∑ j : Fin 1024, x (ix2 r j) := by
  pointwise [rowSum]
theorem overN_at (x : FVec Ideal S4096x1 .f32) : overN x (ix2 r j) = Ideal.div (x (ix2 r 0)) kN := by
  pointwise [overN]
  exact Fin.sum_univ_one _
theorem slope_at : slope D y g (ix2 r 0) = (∑ k : Fin 1024, cen (row y r) k * (row D r k * gain g k)) * (kH * Ideal.div (rs (row y r)) (vr (row y r) + kE)) := by
  refine Eq.trans (b := rowSum (mulf (less y) (mulf D (spread g))) (ix2 r 0) * (kH * Ideal.div (root y (ix2 r 0)) (vare y (ix2 r 0)))) ?_ ?_
  · pointwise [slope]
  · rw [rowSum_at, root_at, vare_at]
    refine congrArg (fun a : EReal => a * _) (Cols.sums fun k => ?_)
    exact congrArg₂ (fun a b : EReal => a * (D (ix2 r k) * b)) (less_at y r k) (spread_at g r k)
theorem lean_at : lean D y g (ix2 r j) = cB (row y r) (row D r) (gain g) j := by
  refine Eq.trans (b := overN (slope D y g) (ix2 r j) * (k2 * less y (ix2 r j))) ?_ ?_
  · pointwise [lean]
  · rw [overN_at, slope_at, less_at]; rfl
theorem dY_at : dY D y g (ix2 r j) = chain (row y r) (row D r) (gain g) j := by
  refine Eq.trans (b := thru D y g (ix2 r j) + lean D y g (ix2 r j)
    + overN (addf (rowSum (Host.negf (thru D y g))) (rowSum (Host.negf (lean D y g)))) (ix2 r j)) ?_ ?_
  · pointwise [dY]
  · rw [thru_at, lean_at, overN_at]
    refine congrArg (fun a : EReal => cA (row y r) (row D r) (gain g) j + cB (row y r) (row D r) (gain g) j + Ideal.div a kN) ?_
    refine Cols.adds ((rowSum_at r _).trans ?_) ((rowSum_at r _).trans ?_)
    · exact Cols.sums fun k => congrArg (fun a : EReal => -a) (thru_at D y g r k)
    · exact Cols.sums fun k => congrArg (fun a : EReal => -a) (lean_at D y g r k)
theorem down_at (x : FVec Ideal S4096x1024 .f32) : down x (ix2 0 j) = ∑ r : Fin 4096, x (ix2 r j) := by
  pointwise [down]
  exact Fin.sum_univ_one _
theorem gain_at : down (mulf (mulf (less y) (wide y)) D) (ix2 0 j) = ∑ r : Fin 4096, row D r j * hat (row y r) j := by
  rw [down_at]
  refine Cols.sums fun r => ?_
  refine (congrArg₂ (fun a b : EReal => a * b * D (ix2 r j)) (less_at y r j) (wide_at y r j)).trans ?_
  exact EReal.mul_comm _ _

end Chain

/-- The gradient times the output matrix transposed. -/
def xM (Y : FVec Ideal S4096x1024 .f32) (P : FVec Ideal S1024x1024 .bf16) : FVec Ideal S4096x1024 .bf16 :=
  truncf .bf16 (Host.dotGeneral dot_S4096x1024_S1024x1024_S4096x1024_1_1_0_0_n_n none Y (extf .f32 P bitsLt_bf16_f32) : FVec Ideal S4096x1024 .f32) bitsLt_bf16_f32

theorem xM_at (Y : FVec Ideal S4096x1024 .f32) (P : FVec Ideal S1024x1024 .bf16) (r : Fin 4096) (j : Fin 1024) :
    xM Y P (ix2 r j) = tE (fun r j => Y (ix2 r j)) P r j := by
  unfold tE
  pointwise [xM]

theorem out0_eq (m : (ℓ : Loc nD τ sig) → Buf (Elt Ideal) ℓ) (c : Dev nD) :
    Value.res_out0 m c = dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  unfold Value.res_out0 Value.res_main_v77; rfl
theorem out1_eq (m : (ℓ : Loc nD τ sig) → Buf (Elt Ideal) ℓ) (c : Dev nD) :
    Value.res_out1 m c = truncf .bf16 (dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) bitsLt_bf16_f32 := by
  unfold Value.res_out1 Value.res_main_v78; rfl
theorem out2_eq (m : (ℓ : Loc nD τ sig) → Buf (Elt Ideal) ℓ) (c : Dev nD) :
    Value.res_out2 m c = xM (dY (dM (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5)) := by
  unfold Value.res_out2 Value.res_main_v85; rfl

end Cert.ReferenceDpIdeal.Val

namespace Cert.Proof

open Idealize.ShloMosaic Idealize.SL.Sem

theorem values_Dp : Cert.algebraic_KernelDpIdeal_ReferenceDpIdeal_pre_finite_norm_out (hPre_finite_norm_out := Cert.Pre_finite_norm_out.Gen.facts) := by
  intro m g m' g' hpre hargs
  have hre := fun c => @Cert.Pre_finite_norm_out.real_of_fn Cert.Pre_finite_norm_out.Gen.facts _ _ _ _ _ _ (hpre c)
  have hD : ∀ (c : Dev Cert.KernelDpIdeal.nD) (r : Fin 4096), Cert.ReferenceDpIdeal.Val.row (Cert.ReferenceDpIdeal.Val.dM (Cert.KernelDpIdeal.Val.aA m c) (Cert.KernelDpIdeal.Val.aW m c) (Cert.KernelDpIdeal.Val.aH m c)) r = Cert.KernelDpIdeal.Val.dW m c r := fun c r =>
    funext fun j => Cert.ReferenceDpIdeal.Val.dM_at r j _ _ _
  have meetE : ∀ (c : Dev Cert.KernelDpIdeal.nD) (r : Fin 4096) (j : Fin 1024), Cert.ReferenceDpIdeal.Val.dY (Cert.ReferenceDpIdeal.Val.dM (Cert.KernelDpIdeal.Val.aA m c) (Cert.KernelDpIdeal.Val.aW m c) (Cert.KernelDpIdeal.Val.aH m c)) (Cert.KernelDpIdeal.Val.aY m c) (Cert.KernelDpIdeal.Val.aG m c) (ix2 r j) = Cert.KernelDpIdeal.Val.bW m c r j := fun c r j => by
    refine (Cert.ReferenceDpIdeal.Val.dY_at _ _ _ r j).trans ?_
    rw [hD c r]
    exact (Cert.Norm.back_eq _ _ _ (fun j => (hre c).2.2.2.1 _) (fun j => Cert.Norm.dE_real _ _ _ (hre c).1 (hre c).2.1 (hre c).2.2.1 _ j)
      (fun j => (hre c).2.2.2.2 j) j).symm
  have meet : ∀ (c : Dev Cert.KernelDpIdeal.nD) (ix : Cert.KernelDpIdeal.S4096x1024.Idx), Cert.ReferenceDpIdeal.Val.dY (Cert.ReferenceDpIdeal.Val.dM (Cert.KernelDpIdeal.Val.aA m c) (Cert.KernelDpIdeal.Val.aW m c) (Cert.KernelDpIdeal.Val.aH m c)) (Cert.KernelDpIdeal.Val.aY m c) (Cert.KernelDpIdeal.Val.aG m c) ix = Cert.KernelDpIdeal.Val.bW m c (ix 0) (ix 1) := fun c ix =>
    (congrArg _ (eq_ix2 ix)).trans (meetE c (ix 0) (ix 1))
  have row1 : ∀ ix : Cert.KernelDpIdeal.S1x1024.Idx, ix = ix2 (0 : Fin 1) (ix 1 : Fin 1024) := fun ix => by
    funext a; fin_cases a
    · exact Subsingleton.elim (α := Fin 1) _ _
    · rfl
  have meetX : ∀ (c : Dev Cert.KernelDpIdeal.nD), Cert.ReferenceDpIdeal.Val.xM (Cert.ReferenceDpIdeal.Val.dY (Cert.ReferenceDpIdeal.Val.dM (Cert.KernelDpIdeal.Val.aA m c) (Cert.KernelDpIdeal.Val.aW m c) (Cert.KernelDpIdeal.Val.aH m c)) (Cert.KernelDpIdeal.Val.aY m c) (Cert.KernelDpIdeal.Val.aG m c)) (Cert.KernelDpIdeal.Val.aP m c) = Cert.KernelDpIdeal.Val.oX m c := fun c => funext fun ix => by
    refine (congrArg _ (eq_ix2 ix)).trans ((Cert.ReferenceDpIdeal.Val.xM_at _ _ (ix 0) (ix 1)).trans ?_)
    exact congrArg (fun b => Cert.Norm.tE b (Cert.KernelDpIdeal.Val.aP m c) (ix 0) (ix 1)) (funext fun r => funext fun j => meetE c r j)
  have meetG : ∀ (c : Dev Cert.KernelDpIdeal.nD), Cert.ReferenceDpIdeal.Val.down (mulf (mulf (Cert.ReferenceDpIdeal.Val.less (Cert.KernelDpIdeal.Val.aY m c)) (Cert.ReferenceDpIdeal.Val.wide (Cert.KernelDpIdeal.Val.aY m c))) (Cert.ReferenceDpIdeal.Val.dM (Cert.KernelDpIdeal.Val.aA m c) (Cert.KernelDpIdeal.Val.aW m c) (Cert.KernelDpIdeal.Val.aH m c))) = Cert.KernelDpIdeal.Val.oG m c := fun c => funext fun ix => by
    refine (congrArg _ (row1 ix)).trans ((Cert.ReferenceDpIdeal.Val.gain_at _ _ (ix 1)).trans ?_)
    refine Cols.sums fun r => ?_
    rw [hD c r]; rfl
  have meetS : ∀ (c : Dev Cert.KernelDpIdeal.nD), Cert.ReferenceDpIdeal.Val.down (Cert.ReferenceDpIdeal.Val.dM (Cert.KernelDpIdeal.Val.aA m c) (Cert.KernelDpIdeal.Val.aW m c) (Cert.KernelDpIdeal.Val.aH m c)) = Cert.KernelDpIdeal.Val.oS m c := fun c => funext fun ix => by
    refine (congrArg _ (row1 ix)).trans ((Cert.ReferenceDpIdeal.Val.down_at (ix 1) _).trans ?_)
    exact Cols.sums fun r => congrFun (hD c r) (ix 1)
  refine ⟨Cert.KernelDpIdeal.Val.oY m, Cert.KernelDpIdeal.Val.oT m, Cert.KernelDpIdeal.Val.oX m, Cert.KernelDpIdeal.Val.oG m, Cert.KernelDpIdeal.Val.oS m,
    Cert.KernelDpIdeal.Val.run_eq m g,
    (θ_run Cert.ReferenceDpIdeal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.ReferenceDpIdeal.Value.run m' g')⟩
  · refine (Cert.ReferenceDpIdeal.Val.out0_eq m' c).trans ?_
    rw [(hargs c).1, (hargs c).2.1, (hargs c).2.2.1, (hargs c).2.2.2.1, (hargs c).2.2.2.2.1]
    exact funext (meet c)
  · refine (Cert.ReferenceDpIdeal.Val.out1_eq m' c).trans ?_
    rw [(hargs c).1, (hargs c).2.1, (hargs c).2.2.1, (hargs c).2.2.2.1, (hargs c).2.2.2.2.1]
    exact funext (meet c)
  · refine (Cert.ReferenceDpIdeal.Val.out2_eq m' c).trans ?_
    rw [(hargs c).1, (hargs c).2.1, (hargs c).2.2.1, (hargs c).2.2.2.1, (hargs c).2.2.2.2.1, (hargs c).2.2.2.2.2]
    exact meetX c
  · rw [(hargs c).1, (hargs c).2.1, (hargs c).2.2.1, (hargs c).2.2.2.1]
    exact meetG c
  · rw [(hargs c).1, (hargs c).2.1, (hargs c).2.2.1]
    exact meetS c

end Cert.Proof

end
-- ==== Proof.FfLn.lean ====
/-
  The feed-forward's second product, the branch that skips it, and the norm of their sum (the call `l0_ff2_ln2`): a
  tile of rows at a time.
-/
module

public import proofs.«01_k».proof.Proof.Gen.KernelLnIdeal.Frame
public import proofs.«01_k».proof.Proof.Gen.ReferenceLnIdeal.Run
public import proofs.«01_k».proof.Defs
public import proofs.«01_k».proof.Proof.FfCols
public import Idealize.ShloMosaic.Lib.Pipeline.ValueKit
public import proofs.«01_k».proof.Proof.NormMath
public import Idealize.ShloMosaic.Lib.StableHlo.ReadAt

@[expose] public section

set_option maxRecDepth 16384

noncomputable section

namespace Cert.Norm

open Idealize.ShloMosaic Idealize.ShloMosaic.TcCoe Idealize.ShloMosaic.Tactic

/-- The square of a number's positive part. -/
def psq (a : EReal) : EReal := max a 0 * max a 0

/-- One entry of the sum: the branch that skips, and the product of the hidden values' row with a column. -/
def yE {n : ℕ} (x : Fin n → Fin 4096 → EReal) (w : FVec Ideal ⟨2, ![4096, 1024]⟩ .bf16) (h : FVec Ideal ⟨2, ![n, 1024]⟩ .f32) (r : Fin n) (j : Fin 1024) : EReal :=
  kA * h (ix2 r j) + ∑ k : Fin 4096, x r k * w (ix2 k j)

/-- One entry of its norm, with gain and shift. -/
def oE {n : ℕ} (x : Fin n → Fin 4096 → EReal) (w : FVec Ideal ⟨2, ![4096, 1024]⟩ .bf16) (h : FVec Ideal ⟨2, ![n, 1024]⟩ .f32)
    (g b : FVec Ideal ⟨2, ![2, 1024]⟩ .f32) (r : Fin n) (j : Fin 1024) : EReal :=
  hat (yE x w h r) j * g (ix2 0 j) + b (ix2 0 j)

end Cert.Norm

namespace Cert.KernelLnIdeal.Val

open Cert.KernelLnIdeal Cert.KernelLnIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-- The first product, the matrix, the rows that skip, gain and shift. -/
abbrev aA : FVec Ideal S4096x4096 .bf16 := m ((c : Thread nD τ).loc main_arg0)
abbrev aW : FVec Ideal S4096x1024 .bf16 := m ((c : Thread nD τ).loc main_arg1)
abbrev aH : FVec Ideal S4096x1024 .f32 := m ((c : Thread nD τ).loc main_arg2)
abbrev aG : FVec Ideal S2x1024 .f32 := m ((c : Thread nD τ).loc main_arg3)
abbrev aB : FVec Ideal S2x1024 .f32 := m ((c : Thread nD τ).loc main_arg4)

/-- The host's positive part of the first product. -/
def pos : FVec Ideal S4096x4096 .f32 :=
  maximumf (extf .f32 (aA m c) bitsLt_bf16_f32) (broadcastInDim S4096x4096 ![] bcast_S_S4096x4096 (constant S_ .f32 0x00000000#32))
/-- Its square, which the launch is given. -/
def act : FVec Ideal S4096x4096 .bf16 := truncf .bf16 (mulf (pos m c) (pos m c)) bitsLt_bf16_f32

theorem act_at (r j : Fin 4096) : act m c (ix2 r j) = psq (aA m c (ix2 r j)) := by
  unfold psq
  pointwise [act, pos]

theorem v3_eq : (V m c main_v3 : FVec Ideal S4096x4096 .bf16) = act m c := by
  unfold V
  after_reads_simp
  all_goals try simp -implicitDefEqProofs only [StableHlo.TRef.toBuf, StableHlo.TRef.ofBuf, cast_cast, cast_eq]
  rfl

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] := by
  decide +kernel

theorem lt8 (t : Fin cfg0.N) : t.val < 8 := lt_of_lt_of_eq t.isLt N_0

/-! ## A tile's stores -/

section Stores

variable (x : Vec Ideal S512x4096 .bf16) (w : Vec Ideal S4096x1024 .bf16) (h : Vec Ideal S512x1024 .f32) (p : Fin 512) (j : Fin 1024)

theorem pay2_at : k0_pay2 (F := Ideal) x w h (ix2 p j) = yE (fun p k => x (ix2 p k)) w h p j := by
  unfold yE; pointwise [k0_pay2]
theorem pay4_at : k0_pay4 (F := Ideal) x w h (ix2 p j) = yE (fun p k => x (ix2 p k)) w h p j := by
  rw [← pay2_at]; pointwise [k0_pay4]
theorem pay3_at (g b : Vec Ideal S1x1024 .f32) : k0_pay3 (F := Ideal) x w h g b (ix2 p j)
    = hat (yE (fun p k => x (ix2 p k)) w h p) j * g (ix2 0 j) + b (ix2 0 j) := by
  have e : yE (fun p k => x (ix2 p k)) w h p = fun j => k0_pay2 (F := Ideal) x w h (ix2 p j) := funext fun j => (pay2_at x w h p j).symm
  rw [e]
  unfold hat rs vr cen mean
  pointwise [k0_pay3]
theorem pay5_at (g b : Vec Ideal S1x1024 .f32) : k0_pay5 (F := Ideal) x w h g b (ix2 p j)
    = hat (yE (fun p k => x (ix2 p k)) w h p) j * g (ix2 0 j) + b (ix2 0 j) := by
  rw [← pay3_at]; pointwise [k0_pay5]
theorem pay1_at (g b : Vec Ideal S1x1024 .f32) : k0_pay1 (F := Ideal) (k0_pay3 (F := Ideal) x w h g b) (ix2 p j)
    = hat (yE (fun p k => x (ix2 p k)) w h p) j * g (ix2 0 j) + b (ix2 0 j) := by
  rw [← pay3_at]; pointwise [k0_pay1]

/-- A loaded first row is the array's. -/
theorem row0 (g : Vec Ideal S2x1024 .f32) (j : Fin 1024) : View.ld (Val := Elt Ideal) g r0_3 (ix2 0 j) = g (ix2 0 j) :=
  View.ld_unit_apply_of _ _ _ _ _ _ fun a => by fin_cases a <;> exact (Nat.zero_add _).symm

variable (g b : Vec Ideal S2x1024 .f32)

theorem out5_at : out0_5 x h w g b (ix2 p j) = yE (fun p k => x (ix2 p k)) w h p j := by
  unfold out0_5
  rw [View.canon_unit_zero z2, View.ld_unit_zero z2, View.ld_unit_zero z2, View.ld_unit_zero z2]
  exact pay4_at x w h p j
theorem out6_at : out0_6 x h w g b (ix2 p j) = oE (fun p k => x (ix2 p k)) w h g b p j := by
  unfold out0_6 oE
  rw [View.canon_unit_zero z2, View.ld_unit_zero z2, View.ld_unit_zero z2, View.ld_unit_zero z2, pay5_at, row0, row0]
theorem out7_at : out0_7 x h w g b (ix2 p j) = oE (fun p k => x (ix2 p k)) w h g b p j := by
  unfold out0_7 oE
  rw [View.canon_unit_zero z2, View.ld_unit_zero z2, View.ld_unit_zero z2, View.ld_unit_zero z2, pay1_at, row0, row0]

end Stores

/-! ## The launch -/

theorem blkX (t : Fin cfg0.N) (r : Fin 512) (k : Fin 4096) :
    iblk m c 0 t (ix2 r k) = psq (aA m c (ix2 (col ⟨t.val, lt8 t⟩ r) k)) := by
  refine Eq.trans (b := act m c (ix2 (col ⟨t.val, lt8 t⟩ r) k)) ?_ (act_at m c _ _)
  rw [← v3_eq]
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkW (t : Fin cfg0.N) (k : Fin 4096) (j : Fin 1024) : iblk m c 2 t (ix2 k j) = aW m c (ix2 k j) := by
  blk_ext [iblk, idx t]
theorem blkG (t : Fin cfg0.N) (k : Fin 2) (j : Fin 1024) : iblk m c 3 t (ix2 k j) = aG m c (ix2 k j) := by
  blk_ext [iblk, idx t]
theorem blkB (t : Fin cfg0.N) (k : Fin 2) (j : Fin 1024) : iblk m c 4 t (ix2 k j) = aB m c (ix2 k j) := by
  blk_ext [iblk, idx t]

/-- The hidden values. -/
def hid (r k : Fin 4096) : EReal := psq (aA m c (ix2 r k))

/-- The sum, and its norm. -/
def gY : FVec Ideal S4096x1024 .f32 := fun ix => yE (hid m c) (aW m c) (aH m c) (ix 0) (ix 1)
def gO : FVec Ideal S4096x1024 .f32 := fun ix => oE (hid m c) (aW m c) (aH m c) (aG m c) (aB m c) (ix 0) (ix 1)
def gT : FVec Ideal S4096x1024 .bf16 := fun ix => oE (hid m c) (aW m c) (aH m c) (aG m c) (aB m c) (ix 0) (ix 1)

theorem y_tile (t : Fin cfg0.N) (p : Fin 512) (j : Fin 1024) :
    yE (fun p k => iblk m c 0 t (ix2 p k)) (iblk m c 2 t) (iblk m c 1 t) p j = yE (hid m c) (aW m c) (aH m c) (col ⟨t.val, lt8 t⟩ p) j := by
  unfold yE hid
  refine Cols.adds (congrArg (fun a : EReal => kA * a) (blkH m c t p j)) ?_
  exact Cols.sums fun k => Cols.muls (blkX m c t p k) (blkW m c t k j)

theorem o_tile (t : Fin cfg0.N) (p : Fin 512) (j : Fin 1024) :
    oE (fun p k => iblk m c 0 t (ix2 p k)) (iblk m c 2 t) (iblk m c 1 t) (iblk m c 3 t) (iblk m c 4 t) p j
      = oE (hid m c) (aW m c) (aH m c) (aG m c) (aB m c) (col ⟨t.val, lt8 t⟩ p) j := by
  unfold oE
  rw [show yE (fun p k => iblk m c 0 t (ix2 p k)) (iblk m c 2 t) (iblk m c 1 t) p = yE (hid m c) (aW m c) (aH m c) (col ⟨t.val, lt8 t⟩ p) from
    funext fun j => y_tile m c t p j, blkG, blkB]

theorem final5 : (dats m 0 c).arrAt 5 cfg0.N = gY m c := by
  refine (dats m 0 c).arrAt_eq_of_covers 5 _ (by decide +kernel) fun t hf y => ?_
  blk_simp
  rw [after0_5]
  have ey : (y : S512x1024.Idx) = ix2 (y 0 : Fin 512) (y 1 : Fin 1024) := by
    funext a; fin_cases a <;> rfl
  have ee : ((((cfg0.win 5).blk t).view.emb y) : S4096x1024.Idx) = ix2 (col ⟨t.val, lt8 t⟩ (y 0 : Fin 512)) (y 1 : Fin 1024) := by
    unfold col
    blk_ext [idx t]
  refine (congrArg (out0_5 (iblk m c 0 t) (iblk m c 1 t) (iblk m c 2 t) (iblk m c 3 t) (iblk m c 4 t)) ey).trans
    ((out5_at _ _ _ (y 0) (y 1) _ _).trans ((y_tile m c t (y 0) (y 1)).trans ?_))
  exact (congrArg (gY m c) ee).symm

theorem final6 : (dats m 0 c).arrAt 6 cfg0.N = gO m c := by
  refine (dats m 0 c).arrAt_eq_of_covers 6 _ (by decide +kernel) fun t hf y => ?_
  blk_simp
  rw [after0_6]
  have ey : (y : S512x1024.Idx) = ix2 (y 0 : Fin 512) (y 1 : Fin 1024) := by
    funext a; fin_cases a <;> rfl
  have ee : ((((cfg0.win 6).blk t).view.emb y) : S4096x1024.Idx) = ix2 (col ⟨t.val, lt8 t⟩ (y 0 : Fin 512)) (y 1 : Fin 1024) := by
    unfold col
    blk_ext [idx t]
  refine (congrArg (out0_6 (iblk m c 0 t) (iblk m c 1 t) (iblk m c 2 t) (iblk m c 3 t) (iblk m c 4 t)) ey).trans
    ((out6_at _ _ _ (y 0) (y 1) _ _).trans ((o_tile m c t (y 0) (y 1)).trans ?_))
  exact (congrArg (gO m c) ee).symm

theorem final7 : (dats m 0 c).arrAt 7 cfg0.N = gT m c := by
  refine (dats m 0 c).arrAt_eq_of_covers 7 _ (by decide +kernel) fun t hf y => ?_
  blk_simp
  rw [after0_7]
  have ey : (y : S512x1024.Idx) = ix2 (y 0 : Fin 512) (y 1 : Fin 1024) := by
    funext a; fin_cases a <;> rfl
  have ee : ((((cfg0.win 7).blk t).view.emb y) : S4096x1024.Idx) = ix2 (col ⟨t.val, lt8 t⟩ (y 0 : Fin 512)) (y 1 : Fin 1024) := by
    unfold col
    blk_ext [idx t]
  refine (congrArg (out0_7 (iblk m c 0 t) (iblk m c 1 t) (iblk m c 2 t) (iblk m c 3 t) (iblk m c 4 t)) ey).trans
    ((out7_at _ _ _ (y 0) (y 1) _ _).trans ((o_tile m c t (y 0) (y 1)).trans ?_))
  exact (congrArg (gT m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v4_0) = gY m c ∧ r.2.mem ((c.tc : Thread nD τ).loc main_v4_1) = gO m c
      ∧ r.2.mem ((c.tc : Thread nD τ).loc main_v4_2) = gT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelLnIdeal.Val

namespace Cert.ReferenceLnIdeal.Val

open Cert.ReferenceLnIdeal Cert.ReferenceLnIdeal.Gen Idealize.ShloMosaic Idealize.ShloMosaic.TcCoe Idealize.SL.Sem Idealize.ShloMosaic.StableHlo Cert.Norm

/-- The reference's positive part, hidden values and sum. -/
def pos (A : FVec Ideal S4096x4096 .bf16) : FVec Ideal S4096x4096 .f32 :=
  maximumf (extf .f32 A bitsLt_bf16_f32) (broadcastInDim S4096x4096 ![] bcast_S_S4096x4096 (constant S_ .f32 0x00000000#32))
def hid (A : FVec Ideal S4096x4096 .bf16) : FVec Ideal S4096x4096 .f32 := mulf (pos A) (pos A)
def ySum (A : FVec Ideal S4096x4096 .bf16) (W : FVec Ideal S4096x1024 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x4096_S4096x1024_S4096x1024_1_0_0_1_n_n none (hid A) (extf .f32 W bitsLt_bf16_f32))

/-- A row's sum over its length, spread over the row; -/
def mid (y : FVec Ideal S4096x1024 .f32) : FVec Ideal S4096x1 .f32 :=
  Host.divf (broadcastInDim S4096x1 ![0] bcast_S4096_S4096x1_0 (Host.reduceAdd y (constant S_ .f32 0x00000000#32) reducesTo_S4096x1024_S4096_d1 h_S_))
    (broadcastInDim S4096x1 ![] bcast_S_S4096x1 (constant S_ .f32 0x44800000#32))
/-- the rows less their means, -/
def less (y : FVec Ideal S4096x1024 .f32) : FVec Ideal S4096x1024 .f32 := subf y (broadcastInDim S4096x1024 ![0, 1] bcast_S4096x1_S4096x1024_0_1 (mid y))
/-- the inverse root of the variance, -/
def root (y : FVec Ideal S4096x1024 .f32) : FVec Ideal S4096x1 .f32 :=
  Host.rsqrt (addf (mid (mulf (less y) (less y))) (broadcastInDim S4096x1 ![] bcast_S_S4096x1 (constant S_ .f32 0x3727C5AC#32)))
/-- the first of two rows, -/
def first (g : FVec Ideal S2x1024 .f32) : FVec Ideal S1024 .f32 := shapeCast _ (extractStridedSlice S1x1024 ![0, 0] g slices_S2x1024_S1x1024_0_0) shapeCasts_S1x1024_S1024
/-- spread over all rows. -/
def spread (g : FVec Ideal S2x1024 .f32) : FVec Ideal S4096x1024 .f32 :=
  broadcastInDim S4096x1024 ![0, 1] bcast_S1x1024_S4096x1024_0_1 (broadcastInDim S1x1024 ![1] bcast_S1024_S1x1024_1 (first g))
def norm (y : FVec Ideal S4096x1024 .f32) (g b : FVec Ideal S2x1024 .f32) : FVec Ideal S4096x1024 .f32 :=
  addf (mulf (mulf (less y) (broadcastInDim S4096x1024 ![0, 1] bcast_S4096x1_S4096x1024_0_1 (root y))) (spread g)) (spread b)

theorem hid_at (A : FVec Ideal S4096x4096 .bf16) (r k : Fin 4096) : hid A (ix2 r k) = psq (A (ix2 r k)) := by
  unfold psq; pointwise [hid, pos]

theorem ySum_at (A : FVec Ideal S4096x4096 .bf16) (W : FVec Ideal S4096x1024 .bf16) (H : FVec Ideal S4096x1024 .f32) (r : Fin 4096) (j : Fin 1024) :
    ySum A W H (ix2 r j) = yE (fun r k => psq (A (ix2 r k))) W H r j := by
  refine Eq.trans (b := kA * H (ix2 r j) + ∑ k : Fin 4096, hid A (ix2 r k) * W (ix2 k j)) ?_ ?_
  · pointwise [ySum]
  · unfold yE
    exact congrArg (fun a : EReal => kA * H (ix2 r j) + a) (Cols.sums fun k => congrArg (fun a : EReal => a * W (ix2 k j)) (hid_at A r k))

theorem mid_at (y : FVec Ideal S4096x1024 .f32) (r : Fin 4096) : mid y (ix2 r 0) = mean fun j : Fin 1024 => y (ix2 r j) := by
  unfold mean; pointwise [mid]
theorem less_at (y : FVec Ideal S4096x1024 .f32) (r : Fin 4096) (j : Fin 1024) : less y (ix2 r j) = cen (fun j : Fin 1024 => y (ix2 r j)) j := by
  refine Eq.trans (b := y (ix2 r j) - mid y (ix2 r 0)) ?_ ?_
  · pointwise [less]
  · rw [mid_at]; rfl
theorem root_at (y : FVec Ideal S4096x1024 .f32) (r : Fin 4096) : root y (ix2 r 0) = rs fun j : Fin 1024 => y (ix2 r j) := by
  refine Eq.trans (b := Ideal.rsqrt (mid (mulf (less y) (less y)) (ix2 r 0) + kE)) ?_ ?_
  · pointwise [root]
  · rw [mid_at]
    unfold rs vr
    refine congrArg (fun f : Fin 1024 → EReal => Ideal.rsqrt (mean f + kE)) (funext fun j => ?_)
    exact Cols.muls (less_at y r j) (less_at y r j)
theorem spread_at (g : FVec Ideal S2x1024 .f32) (r : Fin 4096) (j : Fin 1024) : spread g (ix2 r j) = g (ix2 0 j) := by
  pointwise [spread, first]

theorem norm_at (y : FVec Ideal S4096x1024 .f32) (g b : FVec Ideal S2x1024 .f32) (r : Fin 4096) (j : Fin 1024) :
    norm y g b (ix2 r j) = hat (fun j : Fin 1024 => y (ix2 r j)) j * g (ix2 0 j) + b (ix2 0 j) := by
  refine Eq.trans (b := less y (ix2 r j) * root y (ix2 r 0) * spread g (ix2 r j) + spread b (ix2 r j)) ?_ ?_
  · pointwise [norm]
  · rw [less_at, root_at, spread_at, spread_at]; rfl

theorem res_at (A : FVec Ideal S4096x4096 .bf16) (W : FVec Ideal S4096x1024 .bf16) (H : FVec Ideal S4096x1024 .f32) (g b : FVec Ideal S2x1024 .f32) (r : Fin 4096) (j : Fin 1024) :
    norm (ySum A W H) g b (ix2 r j) = oE (fun r k => psq (A (ix2 r k))) W H g b r j := by
  rw [norm_at]
  unfold oE
  exact congrArg (fun f : Fin 1024 → EReal => hat f j * g (ix2 0 j) + b (ix2 0 j)) (funext fun j => ySum_at A W H r j)

theorem out1_eq (m : (ℓ : Loc nD τ sig) → Buf (Elt Ideal) ℓ) (c : Dev nD) :
    Value.res_out1 m c = norm (ySum (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := by
  unfold Value.res_out1 Value.res_main_v35; rfl
theorem out2_eq (m : (ℓ : Loc nD τ sig) → Buf (Elt Ideal) ℓ) (c : Dev nD) :
    Value.res_out2 m c = truncf .bf16 (norm (ySum (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))) bitsLt_bf16_f32 := by
  unfold Value.res_out2 Value.res_main_v36; rfl

end Cert.ReferenceLnIdeal.Val

namespace Cert.Proof

open Idealize.ShloMosaic Idealize.SL.Sem

theorem values_Ln : Cert.algebraic_KernelLnIdeal_ReferenceLnIdeal := by
  intro m g m' g' _ hargs
  have meet : ∀ c : Dev Cert.KernelLnIdeal.nD, ∀ ix, _ = Cert.KernelLnIdeal.Val.gY m c ix := fun c ix =>
    (congrArg _ (eq_ix2 ix)).trans (Cert.ReferenceLnIdeal.Val.ySum_at (Cert.KernelLnIdeal.Val.aA m c) (Cert.KernelLnIdeal.Val.aW m c) (Cert.KernelLnIdeal.Val.aH m c) (ix 0) (ix 1))
  have meet1 : ∀ c : Dev Cert.KernelLnIdeal.nD, ∀ ix, _ = Cert.KernelLnIdeal.Val.gO m c ix := fun c ix =>
    (congrArg _ (eq_ix2 ix)).trans (Cert.ReferenceLnIdeal.Val.res_at (Cert.KernelLnIdeal.Val.aA m c) (Cert.KernelLnIdeal.Val.aW m c) (Cert.KernelLnIdeal.Val.aH m c)
      (Cert.KernelLnIdeal.Val.aG m c) (Cert.KernelLnIdeal.Val.aB m c) (ix 0) (ix 1))
  refine ⟨Cert.KernelLnIdeal.Val.gY m, Cert.KernelLnIdeal.Val.gO m, Cert.KernelLnIdeal.Val.gT m,
    Cert.KernelLnIdeal.Val.run_eq m g,
    (θ_run Cert.ReferenceLnIdeal.defs _ _).mono
      (fun r h c => ⟨(h c).1.trans ?_, (h c).2.1.trans ?_, (h c).2.2.1.trans ?_, (h c).2.2.2⟩)
      (Cert.ReferenceLnIdeal.Value.run m' g')⟩
  · rw [(hargs c).1, (hargs c).2.1, (hargs c).2.2.1]
    exact funext (meet c)
  · refine (Cert.ReferenceLnIdeal.Val.out1_eq m' c).trans ?_
    rw [(hargs c).1, (hargs c).2.1, (hargs c).2.2.1, (hargs c).2.2.2.1, (hargs c).2.2.2.2]
    exact funext (meet1 c)
  · refine (Cert.ReferenceLnIdeal.Val.out2_eq m' c).trans ?_
    rw [(hargs c).1, (hargs c).2.1, (hargs c).2.2.1, (hargs c).2.2.2.1, (hargs c).2.2.2.2]
    exact funext (meet1 c)

end Cert.Proof

end
-- ==== Proof.FfLs.lean ====
/-
  The last layer's second product, the branch that skips it, the norm of their sum and the loss, with the loss's gradient taken
  back through the norm (the call `l1_ff2_loss`).
-/
module

public import proofs.«01_k».proof.Proof.Gen.KernelLsIdeal.Frame
public import proofs.«01_k».proof.Proof.Gen.ReferenceLsIdeal.Run
public import proofs.«01_k».proof.Defs
public import proofs.«01_k».proof.Proof.FfCols
public import Idealize.ShloMosaic.Lib.Pipeline.ValueKit
public import proofs.«01_k».proof.Proof.NormTile
public import proofs.«01_k».proof.Proof.PreNorm
public import proofs.«01_k».proof.Proof.FfLn
public import Idealize.ShloMosaic.Lib.VecWindow
public import Idealize.ShloMosaic.Lib.StableHlo.ReadAt

@[expose] public section

set_option maxRecDepth 16384

noncomputable section

namespace Cert.Norm

open Idealize.ShloMosaic Idealize.ShloMosaic.TcCoe Idealize.ShloMosaic.Tactic Cert.Cols

/-- One over a row's length. -/
abbrev kI : EReal := Ideal.ofBits .f32 0x3A800000#32

/-- How far one entry of the normed sum, with gain and shift, lies from its target. -/
def errE {n : ℕ} (x : Fin n → Fin 4096 → EReal) (w : FVec Ideal ⟨2, ![4096, 1024]⟩ .bf16) (h : FVec Ideal ⟨2, ![n, 1024]⟩ .f32)
    (g b : FVec Ideal ⟨2, ![2, 1024]⟩ .f32) (t : FVec Ideal ⟨2, ![n, 1024]⟩ .f32) (r : Fin n) (j : Fin 1024) : EReal :=
  hat (yE x w h r) j * g (ix2 1 j) + b (ix2 1 j) - t (ix2 r j)

/-- The loss's gradient there. -/
def lE {n : ℕ} (x : Fin n → Fin 4096 → EReal) (w : FVec Ideal ⟨2, ![4096, 1024]⟩ .bf16) (h : FVec Ideal ⟨2, ![n, 1024]⟩ .f32)
    (g b : FVec Ideal ⟨2, ![2, 1024]⟩ .f32) (t : FVec Ideal ⟨2, ![n, 1024]⟩ .f32) (r : Fin n) (j : Fin 1024) : EReal :=
  errE x w h g b t r j * kI

theorem kI_eq : kI = ((1 / 1024 : ℝ) : EReal) := by
  unfold kI
  simp [Ideal.ofBits, Ideal.ieee, -EReal.coe_mul]; norm_num

/-- Half, over the length, times two: one over the length. -/
theorem loss_scale (e : EReal) :
    Ideal.div (Ideal.ofBits .f32 0x3F000000#32 * Ideal.ofBits .f32 0x3F800000#32) kN * (k2 * e) = e * kI := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  rw [h1, h2, kN_eq, k2_eq, kI_eq, ← EReal.coe_mul, Soft.div_coe _ (by norm_num), ← mul_assoc, ← EReal.coe_mul, mul_comm e]
  refine congrArg (fun a : ℝ => (a : EReal) * e) ?_
  norm_num

theorem psq_real {a : EReal} (h : ∃ x : ℝ, a = x) : ∃ x : ℝ, psq a = x := by
  obtain ⟨x, rfl⟩ := h
  unfold psq
  rcases max_choice (x : EReal) 0 with e | e
  · rw [e]; exact ⟨x * x, (EReal.coe_mul _ _).symm⟩
  · rw [e]; exact ⟨0, mul_zero _⟩

theorem yE_real {n : ℕ} (x : Fin n → Fin 4096 → EReal) (w : FVec Ideal ⟨2, ![4096, 1024]⟩ .bf16) (h : FVec Ideal ⟨2, ![n, 1024]⟩ .f32)
    (hx : ∀ r k, ∃ y : ℝ, x r k = y) (hw : ∀ i, ∃ y : ℝ, (w i : EReal) = y) (hh : ∀ i, ∃ y : ℝ, (h i : EReal) = y) (r : Fin n) (j : Fin 1024) :
    ∃ y : ℝ, yE x w h r j = y := by
  choose x' ex using hx
  choose w' ew using hw
  choose h' eh using hh
  obtain ⟨a, ea⟩ := kA_eq
  refine ⟨a * h' (ix2 r j) + ∑ k : Fin 4096, x' r k * w' (ix2 k j), ?_⟩
  unfold yE
  rw [ea, eh, EReal.coe_add, EReal.coe_mul, ← Soft.coe_sum]
  refine congrArg (fun b : EReal => (a : EReal) * (h' (ix2 r j) : EReal) + b) (Cols.sums fun k => ?_)
  rw [ex, ew, EReal.coe_mul]

theorem lE_real {n : ℕ} (x : Fin n → Fin 4096 → EReal) (w : FVec Ideal ⟨2, ![4096, 1024]⟩ .bf16) (h : FVec Ideal ⟨2, ![n, 1024]⟩ .f32)
    (g b : FVec Ideal ⟨2, ![2, 1024]⟩ .f32) (t : FVec Ideal ⟨2, ![n, 1024]⟩ .f32) (hy : ∀ r j, ∃ y : ℝ, yE x w h r j = y)
    (hg : ∀ j : Fin 1024, ∃ y : ℝ, (g (ix2 1 j) : EReal) = y) (hb : ∀ j : Fin 1024, ∃ y : ℝ, (b (ix2 1 j) : EReal) = y)
    (ht : ∀ i, ∃ y : ℝ, (t i : EReal) = y) (r : Fin n) (j : Fin 1024) : ∃ y : ℝ, lE x w h g b t r j = y := by
  obtain ⟨u, eu⟩ := hat_real (yE x w h r) (hy r) j
  obtain ⟨g', eg⟩ := hg j
  obtain ⟨b', eb⟩ := hb j
  obtain ⟨t', et⟩ := ht (ix2 r j)
  refine ⟨(u * g' + b' - t') * (1 / 1024), ?_⟩
  unfold lE errE
  rw [eu, eg, eb, et, kI_eq, ← EReal.coe_mul, ← EReal.coe_add, ← EReal.coe_sub, ← EReal.coe_mul]

theorem errE_tile (x' : Fin 512 → Fin 4096 → EReal) (w' : FVec Ideal ⟨2, ![4096, 1024]⟩ .bf16) (h' : FVec Ideal ⟨2, ![512, 1024]⟩ .f32)
    (g' b' : FVec Ideal ⟨2, ![2, 1024]⟩ .f32) (t' : FVec Ideal ⟨2, ![512, 1024]⟩ .f32)
    (x : Fin 4096 → Fin 4096 → EReal) (w : FVec Ideal ⟨2, ![4096, 1024]⟩ .bf16) (h : FVec Ideal ⟨2, ![4096, 1024]⟩ .f32)
    (g b : FVec Ideal ⟨2, ![2, 1024]⟩ .f32) (t : FVec Ideal ⟨2, ![4096, 1024]⟩ .f32) (p : Fin 512) (q : Fin 4096)
    (hy : yE x' w' h' p = yE x w h q) (hg : ∀ j : Fin 1024, g' (ix2 1 j) = g (ix2 1 j)) (hb : ∀ j : Fin 1024, b' (ix2 1 j) = b (ix2 1 j))
    (ht : ∀ j : Fin 1024, t' (ix2 p j) = t (ix2 q j)) : errE x' w' h' g' b' t' p = errE x w h g b t q := by
  funext j
  unfold errE
  rw [hy, hg, hb, ht]

end Cert.Norm

namespace Cert.KernelLsIdeal.Val

open Cert.KernelLsIdeal Cert.KernelLsIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-! ## The tile's expressions, read at an index -/

section Pays

variable (h : Vec Ideal S512x1024 .f32) (x : Vec Ideal S512x4096 .bf16) (w : Vec Ideal S4096x1024 .bf16) (g b acc : Vec Ideal S1x1024 .f32)
  (t e : Vec Ideal S512x1024 .f32) (p : Fin 512) (j : Fin 1024)

/-- A row of the tile's sum. -/
abbrev yP (p : Fin 512) : Fin 1024 → EReal := yE (fun p k => x (ix2 p k)) w h p

theorem cen_at : k0_pay7 h x w (ix2 p j) = cen (yP h x w p) j := by
  unfold cen mean yP yE; pointwise [k0_pay7]
theorem rs_at : k0_pay8 h x w (ix2 p 0) = rs (yP h x w p) := by
  have e : cen (yP h x w p) = fun j => k0_pay7 h x w (ix2 p j) := funext fun j => (cen_at h x w p j).symm
  unfold rs vr mean; rw [e]; pointwise [k0_pay8]
theorem hat_at : k0_pay9 h x w (ix2 p j) = hat (yP h x w p) j := by
  unfold hat; rw [← rs_at, ← cen_at]; pointwise [k0_pay9]
theorem err_at : k0_pay10 h x w g b t (ix2 p j) = hat (yP h x w p) j * g (ix2 0 j) + b (ix2 0 j) - t (ix2 p j) := by
  rw [← hat_at]; pointwise [k0_pay10]
theorem sq_at : k0_pay11 e acc (ix2 0 j) = acc (ix2 0 j) + ∑ p : Fin 512, e (ix2 p j) * e (ix2 p j) := by
  pointwise [k0_pay11]
theorem gain_at (n : Vec Ideal S512x1024 .f32) : k0_pay13 n e acc (ix2 0 j) = acc (ix2 0 j) + ∑ p : Fin 512, e (ix2 p j) * kI * n (ix2 p j) := by
  pointwise [k0_pay13, k0_pay12]
theorem shift_at : k0_pay14 e acc (ix2 0 j) = acc (ix2 0 j) + ∑ p : Fin 512, e (ix2 p j) * kI := by
  pointwise [k0_pay14, k0_pay12]
theorem back_at : k0_pay1 (k0_pay8 h x w) (k0_pay9 h x w) (k0_pay16 g e) (k0_pay17 (k0_pay9 h x w) g e) (ix2 p j)
    = back (yP h x w p) (fun j => e (ix2 p j) * kI) (fun j => g (ix2 0 j)) j := by
  have e' : hat (yP h x w p) = fun j => k0_pay9 h x w (ix2 p j) := funext fun j => (hat_at h x w p j).symm
  unfold back mean; rw [← rs_at, e']; pointwise [k0_pay1, k0_pay16, k0_pay17, k0_pay15, k0_pay12]
section Store
variable (r : FVec Ideal S512x1 .f32) (n u v : FVec Ideal S512x1024 .f32)
theorem st2_at : k0_pay2 (F := Ideal) r n u v (ix2 p j) = k0_pay1 (F := Ideal) r n u v (ix2 p j) := by pointwise [k0_pay2]
theorem st3_at : k0_pay3 (F := Ideal) r n u v (ix2 p j) = k0_pay1 (F := Ideal) r n u v (ix2 p j) := by pointwise [k0_pay3]
end Store
theorem zero8_at : k0_pay4 (F := Ideal) (ix2 0 j) = 0 := by pointwise [k0_pay4]
theorem zero9_at : k0_pay5 (F := Ideal) (ix2 0 j) = 0 := by pointwise [k0_pay5]
theorem zero10_at : k0_pay6 (F := Ideal) (ix2 0 j) = 0 := by pointwise [k0_pay6]

end Pays

/-! ## What a tile stores -/

section Tile

variable (x0 : Vec Ideal S512x4096 .bf16) (x1 : Vec Ideal S512x1024 .f32) (x2 : Vec Ideal S512x1024 .f32) (x3 : Vec Ideal S4096x1024 .bf16) (x4 x5 : Vec Ideal S2x1024 .f32)

/-- The hidden values, the branch that skips, the matrix, the target, gain and shift, as read. -/
def X0 : Vec Ideal S512x4096 .bf16 := View.ld (Val := Elt Ideal) (e' := .bf16) x0 (Rect.unit (s := S512x4096) ![0, 0] S512x4096.size inb_S512x4096_S512x4096_0_0)
def H0 : Vec Ideal S512x1024 .f32 := View.ld (Val := Elt Ideal) (e' := .f32) x1 (Rect.unit (s := S512x1024) ![0, 0] S512x1024.size inb_S512x1024_S512x1024_0_0)
def T0 : Vec Ideal S512x1024 .f32 := View.ld (Val := Elt Ideal) (e' := .f32) x2 (Rect.unit (s := S512x1024) ![0, 0] S512x1024.size inb_S512x1024_S512x1024_0_0)
def W0 : Vec Ideal S4096x1024 .bf16 := View.ld (Val := Elt Ideal) (e' := .bf16) x3 (Rect.unit (s := S4096x1024) ![0, 0] S4096x1024.size inb_S4096x1024_S4096x1024_0_0)
def G0 : Vec Ideal S1x1024 .f32 := View.ld (Val := Elt Ideal) (e' := .f32) x4 (Rect.unit (s := S2x1024) ![1, 0] S1x1024.size inb_S2x1024_S1x1024_1_0)
def B0 : Vec Ideal S1x1024 .f32 := View.ld (Val := Elt Ideal) (e' := .f32) x5 (Rect.unit (s := S2x1024) ![1, 0] S1x1024.size inb_S2x1024_S1x1024_1_0)
/-- The inverse roots, the normed rows, their distance from the target. -/
def R0 : FVec Ideal S512x1 .f32 := k0_pay8 (H0 x1) (X0 x0) (W0 x3)
def N0 : FVec Ideal S512x1024 .f32 := k0_pay9 (H0 x1) (X0 x0) (W0 x3)
def E0 : FVec Ideal S512x1024 .f32 := k0_pay10 (H0 x1) (X0 x0) (W0 x3) (G0 x4) (B0 x5) (T0 x2)

theorem X0_eq : X0 x0 = x0 := by
  unfold X0; rw [View.ld_unit_zero z2]
theorem H0_eq : H0 x1 = x1 := by
  unfold H0; rw [View.ld_unit_zero z2]
theorem T0_eq : T0 x2 = x2 := by
  unfold T0; rw [View.ld_unit_zero z2]
theorem W0_eq : W0 x3 = x3 := by
  unfold W0; rw [View.ld_unit_zero z2]
theorem G0_at (j : Fin 1024) : G0 x4 (ix2 0 j) = x4 (ix2 1 j) := ld_second x4 _ rfl _ j
theorem B0_at (j : Fin 1024) : B0 x5 (ix2 0 j) = x5 (ix2 1 j) := ld_second x5 _ rfl _ j

/-- A tile's sum, its distance from the target, the loss's gradient, and that gradient before the norm. -/
def yT : Fin 512 → Fin 1024 → EReal := yE (fun p k => x0 (ix2 p k)) x3 x1
def eT : Fin 512 → Fin 1024 → EReal := errE (fun p k => x0 (ix2 p k)) x3 x1 x4 x5 x2
def dT : Fin 512 → Fin 1024 → EReal := lE (fun p k => x0 (ix2 p k)) x3 x1 x4 x5 x2
def bT (r : Fin 512) (j : Fin 1024) : EReal := back (yT x0 x1 x3 r) (dT x0 x1 x2 x3 x4 x5 r) (fun j => x4 (ix2 1 j)) j

variable (p : Fin 512) (j : Fin 1024)

theorem yP_eq : yP (H0 x1) (X0 x0) (W0 x3) p = yT x0 x1 x3 p := by
  rw [H0_eq, X0_eq, W0_eq]; rfl
theorem N0_at : N0 x0 x1 x3 (ix2 p j) = hat (yT x0 x1 x3 p) j := by
  refine (hat_at _ _ _ p j).trans ?_
  rw [yP_eq]
theorem E0_at : E0 x0 x1 x2 x3 x4 x5 (ix2 p j) = eT x0 x1 x2 x3 x4 x5 p j := by
  refine (err_at _ _ _ _ _ _ p j).trans ?_
  rw [yP_eq, G0_at, B0_at, T0_eq]; rfl

/-- The gradient before the norm, as the tile computes it. -/
def A0 : FVec Ideal S512x1024 .f32 := k0_pay1 (R0 x0 x1 x3) (N0 x0 x1 x3) (k0_pay16 (G0 x4) (E0 x0 x1 x2 x3 x4 x5))
  (k0_pay17 (N0 x0 x1 x3) (G0 x4) (E0 x0 x1 x2 x3 x4 x5))
theorem A0_at : A0 x0 x1 x2 x3 x4 x5 (ix2 p j) = bT x0 x1 x2 x3 x4 x5 p j := by
  refine (back_at _ _ _ _ _ p j).trans ?_
  unfold bT
  rw [yP_eq]
  exact congrArg₂ (fun d g => back (yT x0 x1 x3 p) d g j) (funext fun j => congrArg (fun a : EReal => a * kI) (E0_at x0 x1 x2 x3 x4 x5 p j)) (funext fun j => G0_at x4 j)

/-- What a tile adds to the sum of squares, to the gain's gradient, to the shift's. -/
def qT (j : Fin 1024) : EReal := ∑ r : Fin 512, eT x0 x1 x2 x3 x4 x5 r j * eT x0 x1 x2 x3 x4 x5 r j
def gT (j : Fin 1024) : EReal := ∑ r : Fin 512, dT x0 x1 x2 x3 x4 x5 r j * hat (yT x0 x1 x3 r) j
def sT (j : Fin 1024) : EReal := ∑ r : Fin 512, dT x0 x1 x2 x3 x4 x5 r j

def P8 (acc : Vec Ideal S1x1024 .f32) : Vec Ideal S1x1024 .f32 := k0_pay11 (E0 x0 x1 x2 x3 x4 x5) acc
def P9 (acc : Vec Ideal S1x1024 .f32) : Vec Ideal S1x1024 .f32 := k0_pay13 (N0 x0 x1 x3) (E0 x0 x1 x2 x3 x4 x5) acc
def P10 (acc : Vec Ideal S1x1024 .f32) : Vec Ideal S1x1024 .f32 := k0_pay14 (E0 x0 x1 x2 x3 x4 x5) acc

theorem P8_at (acc : Vec Ideal S1x1024 .f32) : P8 x0 x1 x2 x3 x4 x5 acc (ix2 0 j) = acc (ix2 0 j) + qT x0 x1 x2 x3 x4 x5 j := by
  refine (sq_at _ _ j).trans (congrArg (fun a : EReal => acc (ix2 0 j) + a) ?_)
  exact Cols.sums fun r => Cols.muls (E0_at x0 x1 x2 x3 x4 x5 r j) (E0_at x0 x1 x2 x3 x4 x5 r j)
theorem P9_at (acc : Vec Ideal S1x1024 .f32) : P9 x0 x1 x2 x3 x4 x5 acc (ix2 0 j) = acc (ix2 0 j) + gT x0 x1 x2 x3 x4 x5 j := by
  refine (gain_at _ _ j _).trans (congrArg (fun a : EReal => acc (ix2 0 j) + a) ?_)
  exact Cols.sums fun r => congrArg₂ (fun a b : EReal => a * kI * b) (E0_at x0 x1 x2 x3 x4 x5 r j) (N0_at x0 x1 x3 r j)
theorem P10_at (acc : Vec Ideal S1x1024 .f32) : P10 x0 x1 x2 x3 x4 x5 acc (ix2 0 j) = acc (ix2 0 j) + sT x0 x1 x2 x3 x4 x5 j := by
  refine (shift_at _ _ j).trans (congrArg (fun a : EReal => acc (ix2 0 j) + a) ?_)
  exact Cols.sums fun r => congrArg (fun a : EReal => a * kI) (E0_at x0 x1 x2 x3 x4 x5 r j)

variable (i : grid0.Coords) (a1 : Memref sig .tc .vmem S512x4096 .bf16) (w1 : a1.IsWhole) (a2 : Memref sig .tc .vmem S512x1024 .f32) (w2 : a2.IsWhole) (a3 : Memref sig .tc .vmem S512x1024 .f32) (w3 : a3.IsWhole) (a4 : Memref sig .tc .vmem S4096x1024 .bf16) (w4 : a4.IsWhole) (a5 : Memref sig .tc .vmem S2x1024 .f32) (w5 : a5.IsWhole) (a6 : Memref sig .tc .vmem S2x1024 .f32) (w6 : a6.IsWhole) (a7 : Memref sig .tc .vmem S512x1024 .f32) (w7 : a7.IsWhole) (a8 : Memref sig .tc .vmem S512x1024 .bf16) (w8 : a8.IsWhole) (a9 : Memref sig .tc .vmem S1x1024 .f32) (w9 : a9.IsWhole) (a10 : Memref sig .tc .vmem S1x1024 .f32) (w10 : a10.IsWhole) (a11 : Memref sig .tc .vmem S1x1024 .f32) (w11 : a11.IsWhole)
  (xo8 xo9 xo10 : Vec Ideal S1x1024 .f32)
theorem outA6 (hc0) : out0_A_6 c i a1 w1 a2 w2 a3 w3 a4 w4 a5 w5 a6 w6 a7 w7 a8 w8 a9 w9 a10 w10 a11 w11 hc0 x0 x1 x2 x3 x4 x5 = fun ix : S512x1024.Idx => (bT x0 x1 x2 x3 x4 x5 : Fin 512 → Fin 1024 → Elt Ideal .f32) (ix 0) (ix 1) := by
  unfold out0_A_6
  rw [View.read_writes_eq_canon _ _ _ (cover0_A_6 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread]
  rw [View.canon_cons_unit_zero z2]
  funext ix
  refine Eq.trans (b := k0_pay2 (R0 x0 x1 x3) (N0 x0 x1 x3) (k0_pay16 (G0 x4) (E0 x0 x1 x2 x3 x4 x5)) (k0_pay17 (N0 x0 x1 x3) (G0 x4) (E0 x0 x1 x2 x3 x4 x5)) (ix2 (ix 0) (ix 1)))
    (congrArg (k0_pay2 (R0 x0 x1 x3) (N0 x0 x1 x3) (k0_pay16 (G0 x4) (E0 x0 x1 x2 x3 x4 x5)) (k0_pay17 (N0 x0 x1 x3) (G0 x4) (E0 x0 x1 x2 x3 x4 x5))) (eq_ix2 ix)) ?_
  exact (st2_at (ix 0) (ix 1) (R0 x0 x1 x3) (N0 x0 x1 x3) (k0_pay16 (G0 x4) (E0 x0 x1 x2 x3 x4 x5)) (k0_pay17 (N0 x0 x1 x3) (G0 x4) (E0 x0 x1 x2 x3 x4 x5))).trans (A0_at x0 x1 x2 x3 x4 x5 (ix 0) (ix 1))
theorem outA7 (hc0) : out0_A_7 c i a1 w1 a2 w2 a3 w3 a4 w4 a5 w5 a6 w6 a7 w7 a8 w8 a9 w9 a10 w10 a11 w11 hc0 x0 x1 x2 x3 x4 x5 = fun ix : S512x1024.Idx => (bT x0 x1 x2 x3 x4 x5 : Fin 512 → Fin 1024 → Elt Ideal .bf16) (ix 0) (ix 1) := by
  unfold out0_A_7
  rw [View.read_writes_eq_canon _ _ _ (cover0_A_7 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread]
  rw [View.canon_cons_unit_zero z2]
  funext ix
  refine Eq.trans (b := k0_pay3 (R0 x0 x1 x3) (N0 x0 x1 x3) (k0_pay16 (G0 x4) (E0 x0 x1 x2 x3 x4 x5)) (k0_pay17 (N0 x0 x1 x3) (G0 x4) (E0 x0 x1 x2 x3 x4 x5)) (ix2 (ix 0) (ix 1)))
    (congrArg (k0_pay3 (R0 x0 x1 x3) (N0 x0 x1 x3) (k0_pay16 (G0 x4) (E0 x0 x1 x2 x3 x4 x5)) (k0_pay17 (N0 x0 x1 x3) (G0 x4) (E0 x0 x1 x2 x3 x4 x5))) (eq_ix2 ix)) ?_
  exact (st3_at (ix 0) (ix 1) (R0 x0 x1 x3) (N0 x0 x1 x3) (k0_pay16 (G0 x4) (E0 x0 x1 x2 x3 x4 x5)) (k0_pay17 (N0 x0 x1 x3) (G0 x4) (E0 x0 x1 x2 x3 x4 x5))).trans (A0_at x0 x1 x2 x3 x4 x5 (ix 0) (ix 1))
theorem outA8 (hc0) : out0_A_8 c i a1 w1 a2 w2 a3 w3 a4 w4 a5 w5 a6 w6 a7 w7 a8 w8 a9 w9 a10 w10 a11 w11 hc0 x0 x1 x2 x3 x4 x5 = P8 x0 x1 x2 x3 x4 x5 (k0_pay4 (F := Ideal)) := by
  unfold out0_A_8
  rw [View.read_writes_eq_canon _ _ _ (cover0_A_8 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread]
  rw [View.canon_cons_unit_zero z2, View.readCov_full]
  rfl
theorem outA9 (hc0) : out0_A_9 c i a1 w1 a2 w2 a3 w3 a4 w4 a5 w5 a6 w6 a7 w7 a8 w8 a9 w9 a10 w10 a11 w11 hc0 x0 x1 x2 x3 x4 x5 = P9 x0 x1 x2 x3 x4 x5 (k0_pay5 (F := Ideal)) := by
  unfold out0_A_9
  rw [View.read_writes_eq_canon _ _ _ (cover0_A_9 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread]
  rw [View.canon_cons_unit_zero z2, View.readCov_full]
  rfl
theorem outA10 (hc0) : out0_A_10 c i a1 w1 a2 w2 a3 w3 a4 w4 a5 w5 a6 w6 a7 w7 a8 w8 a9 w9 a10 w10 a11 w11 hc0 x0 x1 x2 x3 x4 x5 = P10 x0 x1 x2 x3 x4 x5 (k0_pay6 (F := Ideal)) := by
  unfold out0_A_10
  rw [View.read_writes_eq_canon _ _ _ (cover0_A_10 _ _ _ _ _ _ _ _ _ _ _ _ _ _ _ _ _ _ _ _ _ _ _ _ _ _ _ _ _ _ _)]
  unfold kernelRun0_A
  dsimp only
  sl_unfold_words
  simp only [View.readAt_eq_ld, w1.read_unread, w2.read_unread, w3.read_unread, w4.read_unread, w5.read_unread, w6.read_unread]
  rw [View.canon_cons_unit_zero z2, View.readCov_full]
  rfl
theorem outB6 (hc0) : out0_B_6 c i a1 w1 a2 w2 a3 w3 a4 w4 a5 w5 a6 w6 a7 w7 a8 w8 a9 w9 a10 w10 a11 w11 hc0 x0 x1 x2 x3 x4 x5 xo8 xo9 xo10 = fun ix : S512x1024.Idx => (bT x0 x1 x2 x3 x4 x5 : Fin 512 → Fin 1024 → Elt Ideal .f32) (ix 0) (ix 1) := by
  unfold out0_B_6
  rw [View.read_writes_eq_canon _ _ _ (cover0_B_6 _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w9.read_unread, w10.read_unread, w11.read_unread]
  rw [View.canon_cons_unit_zero z2]
  funext ix
  refine Eq.trans (b := k0_pay2 (R0 x0 x1 x3) (N0 x0 x1 x3) (k0_pay16 (G0 x4) (E0 x0 x1 x2 x3 x4 x5)) (k0_pay17 (N0 x0 x1 x3) (G0 x4) (E0 x0 x1 x2 x3 x4 x5)) (ix2 (ix 0) (ix 1)))
    (congrArg (k0_pay2 (R0 x0 x1 x3) (N0 x0 x1 x3) (k0_pay16 (G0 x4) (E0 x0 x1 x2 x3 x4 x5)) (k0_pay17 (N0 x0 x1 x3) (G0 x4) (E0 x0 x1 x2 x3 x4 x5))) (eq_ix2 ix)) ?_
  exact (st2_at (ix 0) (ix 1) (R0 x0 x1 x3) (N0 x0 x1 x3) (k0_pay16 (G0 x4) (E0 x0 x1 x2 x3 x4 x5)) (k0_pay17 (N0 x0 x1 x3) (G0 x4) (E0 x0 x1 x2 x3 x4 x5))).trans (A0_at x0 x1 x2 x3 x4 x5 (ix 0) (ix 1))
theorem outB7 (hc0) : out0_B_7 c i a1 w1 a2 w2 a3 w3 a4 w4 a5 w5 a6 w6 a7 w7 a8 w8 a9 w9 a10 w10 a11 w11 hc0 x0 x1 x2 x3 x4 x5 xo8 xo9 xo10 = fun ix : S512x1024.Idx => (bT x0 x1 x2 x3 x4 x5 : Fin 512 → Fin 1024 → Elt Ideal .bf16) (ix 0) (ix 1) := by
  unfold out0_B_7
  rw [View.read_writes_eq_canon _ _ _ (cover0_B_7 _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w9.read_unread, w10.read_unread, w11.read_unread]
  rw [View.canon_cons_unit_zero z2]
  funext ix
  refine Eq.trans (b := k0_pay3 (R0 x0 x1 x3) (N0 x0 x1 x3) (k0_pay16 (G0 x4) (E0 x0 x1 x2 x3 x4 x5)) (k0_pay17 (N0 x0 x1 x3) (G0 x4) (E0 x0 x1 x2 x3 x4 x5)) (ix2 (ix 0) (ix 1)))
    (congrArg (k0_pay3 (R0 x0 x1 x3) (N0 x0 x1 x3) (k0_pay16 (G0 x4) (E0 x0 x1 x2 x3 x4 x5)) (k0_pay17 (N0 x0 x1 x3) (G0 x4) (E0 x0 x1 x2 x3 x4 x5))) (eq_ix2 ix)) ?_
  exact (st3_at (ix 0) (ix 1) (R0 x0 x1 x3) (N0 x0 x1 x3) (k0_pay16 (G0 x4) (E0 x0 x1 x2 x3 x4 x5)) (k0_pay17 (N0 x0 x1 x3) (G0 x4) (E0 x0 x1 x2 x3 x4 x5))).trans (A0_at x0 x1 x2 x3 x4 x5 (ix 0) (ix 1))
theorem outB8 (hc0) : out0_B_8 c i a1 w1 a2 w2 a3 w3 a4 w4 a5 w5 a6 w6 a7 w7 a8 w8 a9 w9 a10 w10 a11 w11 hc0 x0 x1 x2 x3 x4 x5 xo8 xo9 xo10 = P8 x0 x1 x2 x3 x4 x5 xo8 := by
  unfold out0_B_8
  rw [View.read_writes_eq_canon _ _ _ (cover0_B_8 _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w9.read_unread, w10.read_unread, w11.read_unread]
  rw [View.canon_cons_unit_zero z2, View.ld_unit_zero (S := S1x1024) z2]
  rfl
theorem outB9 (hc0) : out0_B_9 c i a1 w1 a2 w2 a3 w3 a4 w4 a5 w5 a6 w6 a7 w7 a8 w8 a9 w9 a10 w10 a11 w11 hc0 x0 x1 x2 x3 x4 x5 xo8 xo9 xo10 = P9 x0 x1 x2 x3 x4 x5 xo9 := by
  unfold out0_B_9
  rw [View.read_writes_eq_canon _ _ _ (cover0_B_9 _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w9.read_unread, w10.read_unread, w11.read_unread]
  rw [View.canon_cons_unit_zero z2, View.ld_unit_zero (S := S1x1024) z2]
  rfl
theorem outB10 (hc0) : out0_B_10 c i a1 w1 a2 w2 a3 w3 a4 w4 a5 w5 a6 w6 a7 w7 a8 w8 a9 w9 a10 w10 a11 w11 hc0 x0 x1 x2 x3 x4 x5 xo8 xo9 xo10 = P10 x0 x1 x2 x3 x4 x5 xo10 := by
  unfold out0_B_10
  rw [View.read_writes_eq_canon _ _ _ (cover0_B_10 _ _ _ _ _ _ _ _ _ _ _ _ _ _ _ _ _ _ _ _ _ _ _ _ _ _ _ _ _ _ _ _ _ _)]
  unfold kernelRun0_B
  dsimp only
  sl_unfold_words
  simp only [View.readAt_eq_ld, w1.read_unread, w2.read_unread, w3.read_unread, w4.read_unread, w5.read_unread, w6.read_unread, w9.read_unread, w10.read_unread, w11.read_unread]
  rw [View.canon_cons_unit_zero z2, View.ld_unit_zero (S := S1x1024) z2]
  rfl

end Tile

/-! ## The launch -/

/-- The first product, the matrix, the branch that skips, gain, shift, target. -/
abbrev aA : FVec Ideal S4096x4096 .bf16 := m ((c : Thread nD τ).loc main_arg0)
abbrev aW : FVec Ideal S4096x1024 .bf16 := m ((c : Thread nD τ).loc main_arg1)
abbrev aH : FVec Ideal S4096x1024 .f32 := m ((c : Thread nD τ).loc main_arg2)
abbrev aG : FVec Ideal S2x1024 .f32 := m ((c : Thread nD τ).loc main_arg3)
abbrev aB : FVec Ideal S2x1024 .f32 := m ((c : Thread nD τ).loc main_arg4)
abbrev aT : FVec Ideal S4096x1024 .f32 := m ((c : Thread nD τ).loc main_arg5)

/-- The host's positive part of the first product. -/
def pos : FVec Ideal S4096x4096 .f32 :=
  maximumf (extf .f32 (aA m c) bitsLt_bf16_f32) (broadcastInDim S4096x4096 ![] bcast_S_S4096x4096 (constant S_ .f32 0x00000000#32))
/-- Its square, which the launch is given. -/
def act : FVec Ideal S4096x4096 .bf16 := truncf .bf16 (mulf (pos m c) (pos m c)) bitsLt_bf16_f32

theorem act_at (r j : Fin 4096) : act m c (ix2 r j) = psq (aA m c (ix2 r j)) := by
  unfold psq
  pointwise [act, pos]

theorem v3_eq : (V m c main_v3 : FVec Ideal S4096x4096 .bf16) = act m c := by
  unfold V
  after_reads_simp
  all_goals try simp -implicitDefEqProofs only [StableHlo.TRef.toBuf, StableHlo.TRef.ofBuf, cast_cast, cast_eq]
  rfl

theorem lt8 (t : Fin cfg0.N) : t.val < 8 := lt_of_lt_of_eq t.isLt N_0

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] := by
  decide +kernel

theorem blkX (t : Fin cfg0.N) (r : Fin 512) (k : Fin 4096) :
    iblk m c 0 t (ix2 r k) = psq (aA m c (ix2 (col ⟨t.val, lt8 t⟩ r) k)) := by
  refine Eq.trans (b := act m c (ix2 (col ⟨t.val, lt8 t⟩ r) k)) ?_ (act_at m c _ _)
  rw [← v3_eq]
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkT (t : Fin cfg0.N) (r : Fin 512) (k : Fin 1024) : iblk m c 2 t (ix2 r k) = aT m c (ix2 (col ⟨t.val, lt8 t⟩ r) k) := by
  unfold col
  blk_ext [iblk, idx t]
theorem blkW (t : Fin cfg0.N) (k : Fin 4096) (j : Fin 1024) : iblk m c 3 t (ix2 k j) = aW m c (ix2 k j) := by
  blk_ext [iblk, idx t]
theorem blkG (t : Fin cfg0.N) (k : Fin 2) (j : Fin 1024) : iblk m c 4 t (ix2 k j) = aG m c (ix2 k j) := by
  blk_ext [iblk, idx t]
theorem blkB (t : Fin cfg0.N) (k : Fin 2) (j : Fin 1024) : iblk m c 5 t (ix2 k j) = aB m c (ix2 k j) := by
  blk_ext [iblk, idx t]

/-- The hidden values; -/
def hid (r k : Fin 4096) : EReal := psq (aA m c (ix2 r k))
/-- a row of the sum; -/
def yW : Fin 4096 → Fin 1024 → EReal := yE (hid m c) (aW m c) (aH m c)
/-- its distance from the target; -/
def eW : Fin 4096 → Fin 1024 → EReal := errE (hid m c) (aW m c) (aH m c) (aG m c) (aB m c) (aT m c)
/-- the loss's gradient; -/
def dW : Fin 4096 → Fin 1024 → EReal := lE (hid m c) (aW m c) (aH m c) (aG m c) (aB m c) (aT m c)
/-- the gradient before the norm; -/
def bW (r : Fin 4096) (j : Fin 1024) : EReal := back (yW m c r) (dW m c r) (fun j => aG m c (ix2 1 j)) j
/-- what a row adds to the sum of squares, and to the gain's gradient. -/
def qW (j : Fin 1024) (r : Fin 4096) : EReal := eW m c r j * eW m c r j
def gW (j : Fin 1024) (r : Fin 4096) : EReal := dW m c r j * hat (yW m c r) j

abbrev x0 (t : Fin cfg0.N) : Vec Ideal S512x4096 .bf16 := iblk m c 0 t
abbrev x1 (t : Fin cfg0.N) : Vec Ideal S512x1024 .f32 := iblk m c 1 t
abbrev x2 (t : Fin cfg0.N) : Vec Ideal S512x1024 .f32 := iblk m c 2 t
abbrev x3 (t : Fin cfg0.N) : Vec Ideal S4096x1024 .bf16 := iblk m c 3 t
abbrev x4 (t : Fin cfg0.N) : Vec Ideal S2x1024 .f32 := iblk m c 4 t
abbrev x5 (t : Fin cfg0.N) : Vec Ideal S2x1024 .f32 := iblk m c 5 t

theorem y_tile (t : Fin cfg0.N) (p : Fin 512) : yT (x0 m c t) (x1 m c t) (x3 m c t) p = yW m c (col ⟨t.val, lt8 t⟩ p) := by
  funext j
  unfold yT yW yE hid
  refine Cols.adds (congrArg (fun a : EReal => kA * a) (blkH m c t p j)) ?_
  exact Cols.sums fun k => Cols.muls (blkX m c t p k) (blkW m c t k j)
theorem e_tile (t : Fin cfg0.N) (p : Fin 512) : eT (x0 m c t) (x1 m c t) (x2 m c t) (x3 m c t) (x4 m c t) (x5 m c t) p = eW m c (col ⟨t.val, lt8 t⟩ p) :=
  errE_tile _ _ _ _ _ _ _ _ _ _ _ _ p _ (y_tile m c t p) (fun j => blkG m c t 1 j) (fun j => blkB m c t 1 j) (fun j => blkT m c t p j)
theorem d_tile (t : Fin cfg0.N) (p : Fin 512) : dT (x0 m c t) (x1 m c t) (x2 m c t) (x3 m c t) (x4 m c t) (x5 m c t) p = dW m c (col ⟨t.val, lt8 t⟩ p) :=
  funext fun j => congrArg (fun a : EReal => a * kI) (congrFun (e_tile m c t p) j)
theorem b_tile (t : Fin cfg0.N) (r : Fin 512) (j : Fin 1024) :
    bT (x0 m c t) (x1 m c t) (x2 m c t) (x3 m c t) (x4 m c t) (x5 m c t) r j = bW m c (col ⟨t.val, lt8 t⟩ r) j := by
  unfold bT bW
  rw [d_tile, y_tile]
  exact congrArg (fun g => back (yW m c (col ⟨t.val, lt8 t⟩ r)) (dW m c (col ⟨t.val, lt8 t⟩ r)) g j) (funext fun j => blkG m c t 1 j)
theorem q_tile (t : Fin cfg0.N) (j : Fin 1024) : qT (x0 m c t) (x1 m c t) (x2 m c t) (x3 m c t) (x4 m c t) (x5 m c t) j = tileSum (qW m c j) t.val := by
  unfold qT
  rw [tileSum_lt _ (lt8 t)]
  refine Cols.sums fun r => ?_
  rw [e_tile]; rfl
theorem g_tile (t : Fin cfg0.N) (j : Fin 1024) : gT (x0 m c t) (x1 m c t) (x2 m c t) (x3 m c t) (x4 m c t) (x5 m c t) j = tileSum (gW m c j) t.val := by
  unfold gT
  rw [tileSum_lt _ (lt8 t)]
  refine Cols.sums fun r => ?_
  rw [d_tile, y_tile]; rfl
theorem s_tile (t : Fin cfg0.N) (j : Fin 1024) : sT (x0 m c t) (x1 m c t) (x2 m c t) (x3 m c t) (x4 m c t) (x5 m c t) j = tileSum (fun r => dW m c r j) t.val := by
  unfold sT
  rw [tileSum_lt _ (lt8 t)]
  refine Cols.sums fun r => ?_
  rw [d_tile]

/-- After a point, the running sum over the rows so far. -/
theorem acc8 (j : Fin 1024) : ∀ (n : ℕ) (h : n < cfg0.N), (outsAt0 m c n h).2.2.1 (ix2 0 j) = upTo (qW m c j) n
  | 0, h => by
    refine (congrArg (fun z => z.2.2.1 (ix2 0 j)) (outsAt0_A m c ⟨0, h⟩ rfl)).trans ?_
    dsimp only
    rw [outA8, P8_at, zero8_at, zero_add, upTo_zero]
    exact q_tile m c ⟨0, h⟩ j
  | n + 1, h => by
    have h8 : n + 1 < 8 := lt8 ⟨n + 1, h⟩
    refine (congrArg (fun z => z.2.2.1 (ix2 0 j)) (outsAt0_B m c ⟨n + 1, h⟩ (by show ¬(n + 1) % 8 = 0; omega))).trans ?_
    dsimp only
    rw [outB8, P8_at, upTo_succ]
    exact Cols.adds (acc8 j n (Nat.lt_of_succ_lt h)) (q_tile m c ⟨n + 1, h⟩ j)

/-- After a point, the running sum over the rows so far. -/
theorem acc9 (j : Fin 1024) : ∀ (n : ℕ) (h : n < cfg0.N), (outsAt0 m c n h).2.2.2.1 (ix2 0 j) = upTo (gW m c j) n
  | 0, h => by
    refine (congrArg (fun z => z.2.2.2.1 (ix2 0 j)) (outsAt0_A m c ⟨0, h⟩ rfl)).trans ?_
    dsimp only
    rw [outA9, P9_at, zero9_at, zero_add, upTo_zero]
    exact g_tile m c ⟨0, h⟩ j
  | n + 1, h => by
    have h8 : n + 1 < 8 := lt8 ⟨n + 1, h⟩
    refine (congrArg (fun z => z.2.2.2.1 (ix2 0 j)) (outsAt0_B m c ⟨n + 1, h⟩ (by show ¬(n + 1) % 8 = 0; omega))).trans ?_
    dsimp only
    rw [outB9, P9_at, upTo_succ]
    exact Cols.adds (acc9 j n (Nat.lt_of_succ_lt h)) (g_tile m c ⟨n + 1, h⟩ j)

/-- After a point, the running sum over the rows so far. -/
theorem acc10 (j : Fin 1024) : ∀ (n : ℕ) (h : n < cfg0.N), (outsAt0 m c n h).2.2.2.2 (ix2 0 j) = upTo (fun r => dW m c r j) n
  | 0, h => by
    refine (congrArg (fun z => z.2.2.2.2 (ix2 0 j)) (outsAt0_A m c ⟨0, h⟩ rfl)).trans ?_
    dsimp only
    rw [outA10, P10_at, zero10_at, zero_add, upTo_zero]
    exact s_tile m c ⟨0, h⟩ j
  | n + 1, h => by
    have h8 : n + 1 < 8 := lt8 ⟨n + 1, h⟩
    refine (congrArg (fun z => z.2.2.2.2 (ix2 0 j)) (outsAt0_B m c ⟨n + 1, h⟩ (by show ¬(n + 1) % 8 = 0; omega))).trans ?_
    dsimp only
    rw [outB10, P10_at, upTo_succ]
    exact Cols.adds (acc10 j n (Nat.lt_of_succ_lt h)) (s_tile m c ⟨n + 1, h⟩ j)

theorem tile6 (t : Fin cfg0.N) : (outsAt0 m c t.val t.isLt).1 = fun ix : S512x1024.Idx =>
    (bT (x0 m c t) (x1 m c t) (x2 m c t) (x3 m c t) (x4 m c t) (x5 m c t) : Fin 512 → Fin 1024 → Elt Ideal .f32) (ix 0) (ix 1) := by
  by_cases h0 : t.val % 8 = 0
  · refine (congrArg (fun z => z.1) (outsAt0_A m c t h0)).trans ?_
    dsimp only
    rw [outA6]
  · refine (congrArg (fun z => z.1) (outsAt0_B m c t h0)).trans ?_
    dsimp only
    rw [outB6]

theorem tile7 (t : Fin cfg0.N) : (outsAt0 m c t.val t.isLt).2.1 = fun ix : S512x1024.Idx =>
    (bT (x0 m c t) (x1 m c t) (x2 m c t) (x3 m c t) (x4 m c t) (x5 m c t) : Fin 512 → Fin 1024 → Elt Ideal .bf16) (ix 0) (ix 1) := by
  by_cases h0 : t.val % 8 = 0
  · refine (congrArg (fun z => z.2.1) (outsAt0_A m c t h0)).trans ?_
    dsimp only
    rw [outA7]
  · refine (congrArg (fun z => z.2.1) (outsAt0_B m c t h0)).trans ?_
    dsimp only
    rw [outB7]

/-- The gradient before the norm, in full and shortened; the sums of squares; the gain's gradient; the shift's. -/
def oY : FVec Ideal S4096x1024 .f32 := fun ix => bW m c (ix 0) (ix 1)
def oT : FVec Ideal S4096x1024 .bf16 := fun ix => bW m c (ix 0) (ix 1)
def oQ : FVec Ideal S1x1024 .f32 := fun ix => ∑ r, qW m c (ix 1) r
def oG : FVec Ideal S1x1024 .f32 := fun ix => ∑ r, gW m c (ix 1) r
def oS : FVec Ideal S1x1024 .f32 := fun ix => ∑ r, dW m c r (ix 1)

theorem final6 : (dats m 0 c).arrAt 6 cfg0.N = oY m c := by
  refine (dats m 0 c).arrAt_eq_of_covers 6 _ (by decide +kernel) fun t hf y => ?_
  blk_simp
  rw [after0_6]
  have ee : ((((cfg0.win 6).blk t).view.emb y) : S4096x1024.Idx) = ix2 (col ⟨t.val, lt8 t⟩ (y 0 : Fin 512)) (y 1 : Fin 1024) := by
    unfold col
    blk_ext [idx t]
  refine (congrFun (tile6 m c t) y).trans ((b_tile m c t (y 0) (y 1)).trans ?_)
  exact (congrArg (oY m c) ee).symm

theorem final7 : (dats m 0 c).arrAt 7 cfg0.N = oT m c := by
  refine (dats m 0 c).arrAt_eq_of_covers 7 _ (by decide +kernel) fun t hf y => ?_
  blk_simp
  rw [after0_7]
  have ee : ((((cfg0.win 7).blk t).view.emb y) : S4096x1024.Idx) = ix2 (col ⟨t.val, lt8 t⟩ (y 0 : Fin 512)) (y 1 : Fin 1024) := by
    unfold col
    blk_ext [idx t]
  refine (congrFun (tile7 m c t) y).trans ((b_tile m c t (y 0) (y 1)).trans ?_)
  exact (congrArg (oT m c) ee).symm

theorem final8 : (dats m 0 c).arrAt 8 cfg0.N = oQ m c := by
  refine (dats m 0 c).arrAt_eq_of_covers 8 _ (by decide +kernel) fun t hf y => ?_
  have h7 : t.val = 7 := by have := (flush0_8 t).mp hf; have := lt8 t; omega
  blk_simp
  rw [after0_8]
  have ey : (y : S1x1024.Idx) = ix2 (0 : Fin 1) (y 1 : Fin 1024) := by
    funext a; fin_cases a
    · exact Subsingleton.elim (α := Fin 1) _ _
    · rfl
  have ee : ((((cfg0.win 8).blk t).view.emb y) : S1x1024.Idx) = ix2 (0 : Fin 1) (y 1 : Fin 1024) := by
    rw [ey]
    blk_ext [idx t]
  refine (congrArg (outsAt0 m c t.val t.isLt).2.2.1 ey).trans ((acc8 m c (y 1) t.val t.isLt).trans ?_)
  rw [h7, upTo_last]
  exact (congrArg (oQ m c) ee).symm

theorem final9 : (dats m 0 c).arrAt 9 cfg0.N = oG m c := by
  refine (dats m 0 c).arrAt_eq_of_covers 9 _ (by decide +kernel) fun t hf y => ?_
  have h7 : t.val = 7 := by have := (flush0_9 t).mp hf; have := lt8 t; omega
  blk_simp
  rw [after0_9]
  have ey : (y : S1x1024.Idx) = ix2 (0 : Fin 1) (y 1 : Fin 1024) := by
    funext a; fin_cases a
    · exact Subsingleton.elim (α := Fin 1) _ _
    · rfl
  have ee : ((((cfg0.win 9).blk t).view.emb y) : S1x1024.Idx) = ix2 (0 : Fin 1) (y 1 : Fin 1024) := by
    rw [ey]
    blk_ext [idx t]
  refine (congrArg (outsAt0 m c t.val t.isLt).2.2.2.1 ey).trans ((acc9 m c (y 1) t.val t.isLt).trans ?_)
  rw [h7, upTo_last]
  exact (congrArg (oG m c) ee).symm

theorem final10 : (dats m 0 c).arrAt 10 cfg0.N = oS m c := by
  refine (dats m 0 c).arrAt_eq_of_covers 10 _ (by decide +kernel) fun t hf y => ?_
  have h7 : t.val = 7 := by have := (flush0_10 t).mp hf; have := lt8 t; omega
  blk_simp
  rw [after0_10]
  have ey : (y : S1x1024.Idx) = ix2 (0 : Fin 1) (y 1 : Fin 1024) := by
    funext a; fin_cases a
    · exact Subsingleton.elim (α := Fin 1) _ _
    · rfl
  have ee : ((((cfg0.win 10).blk t).view.emb y) : S1x1024.Idx) = ix2 (0 : Fin 1) (y 1 : Fin 1024) := by
    rw [ey]
    blk_ext [idx t]
  refine (congrArg (outsAt0 m c t.val t.isLt).2.2.2.2 ey).trans ((acc10 m c (y 1) t.val t.isLt).trans ?_)
  rw [h7, upTo_last]
  exact (congrArg (oS m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v4_0) = oY m c ∧ r.2.mem ((c.tc : Thread nD τ).loc main_v4_1) = oT m c
      ∧ r.2.mem ((c.tc : Thread nD τ).loc main_v4_2) = oQ m c
      ∧ r.2.mem ((c.tc : Thread nD τ).loc main_v4_3) = oG m c ∧ r.2.mem ((c.tc : Thread nD τ).loc main_v4_4) = oS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans (final6 m c), ((h c).1 7).trans (final7 m c), ((h c).1 8).trans (final8 m c), ((h c).1 9).trans (final9 m c), ((h c).1 10).trans (final10 m c),
      ((h c).2 main_arg0 (Pipeline.mem_restRefs_of main_arg0 (by decide) (by decide))).trans (V_main_arg0 m c),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩)
    (run_main m ρ)

end Cert.KernelLsIdeal.Val

namespace Cert.ReferenceLsIdeal.Val

open Cert.ReferenceLsIdeal Cert.ReferenceLsIdeal.Gen Idealize.ShloMosaic Idealize.ShloMosaic.TcCoe Idealize.SL.Sem Idealize.ShloMosaic.StableHlo Cert.Cols Cert.Norm

/-- The reference's positive part, hidden values and sum. -/
def pos (A : FVec Ideal S4096x4096 .bf16) : FVec Ideal S4096x4096 .f32 :=
  maximumf (extf .f32 A bitsLt_bf16_f32) (broadcastInDim S4096x4096 ![] bcast_S_S4096x4096 (constant S_ .f32 0x00000000#32))
def hid (A : FVec Ideal S4096x4096 .bf16) : FVec Ideal S4096x4096 .f32 := mulf (pos A) (pos A)
def ySum (A : FVec Ideal S4096x4096 .bf16) (W : FVec Ideal S4096x1024 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x4096_S4096x1024_S4096x1024_1_0_0_1_n_n none (hid A) (extf .f32 W bitsLt_bf16_f32))

/-- A row's sum over its length; -/
def mid (y : FVec Ideal S4096x1024 .f32) : FVec Ideal S4096x1 .f32 :=
  Host.divf (broadcastInDim S4096x1 ![0] bcast_S4096_S4096x1_0 (Host.reduceAdd y (constant S_ .f32 0x00000000#32) reducesTo_S4096x1024_S4096_d1 h_S_))
    (broadcastInDim S4096x1 ![] bcast_S_S4096x1 (constant S_ .f32 0x44800000#32))
/-- the rows less their means, -/
def less (y : FVec Ideal S4096x1024 .f32) : FVec Ideal S4096x1024 .f32 := subf y (broadcastInDim S4096x1024 ![0, 1] bcast_S4096x1_S4096x1024_0_1 (mid y))
/-- the variance and the small number, -/
def vare (y : FVec Ideal S4096x1024 .f32) : FVec Ideal S4096x1 .f32 :=
  addf (mid (mulf (less y) (less y))) (broadcastInDim S4096x1 ![] bcast_S_S4096x1 (constant S_ .f32 0x3727C5AC#32))
/-- the inverse root, -/
def root (y : FVec Ideal S4096x1024 .f32) : FVec Ideal S4096x1 .f32 := Host.rsqrt (vare y)
/-- spread over the rows, -/
def wide (y : FVec Ideal S4096x1024 .f32) : FVec Ideal S4096x1024 .f32 := broadcastInDim S4096x1024 ![0, 1] bcast_S4096x1_S4096x1024_0_1 (root y)
/-- the second of two rows, spread over all rows. -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast _ (extractStridedSlice S1x1024 ![1, 0] g slices_S2x1024_S1x1024_1_0) shapeCasts_S1x1024_S1024))

section Chain
variable (D y : FVec Ideal S4096x1024 .f32) (g : FVec Ideal S2x1024 .f32)

/-- The gradient through the product with the inverse root; -/
def thru : FVec Ideal S4096x1024 .f32 := mulf (mulf D (spread g)) (wide y)
/-- a row's sum, kept as a column; -/
def rowSum (x : FVec Ideal S4096x1024 .f32) : FVec Ideal S4096x1 .f32 :=
  shapeCast _ (Host.reduceAdd x (constant S_ .f32 0x00000000#32) reducesTo_S4096x1024_S4096_d1 h_S_) shapeCasts_S4096_S4096x1
/-- a column over the row's length, spread over the rows; -/
def overN (x : FVec Ideal S4096x1 .f32) : FVec Ideal S4096x1024 .f32 :=
  broadcastInDim S4096x1024 ![0] bcast_S4096_S4096x1024_0 (Host.reduceAdd (Host.divf x (broadcastInDim S4096x1 ![] bcast_S_S4096x1 (constant S_ .f32 0x44800000#32)))
    (constant S_ .f32 0x00000000#32) reducesTo_S4096x1_S4096_d1 h_S_)
/-- the gradient of the variance; -/
def slope : FVec Ideal S4096x1 .f32 :=
  mulf (rowSum (mulf (less y) (mulf D (spread g))))
    (mulf (broadcastInDim S4096x1 ![] bcast_S_S4096x1 (constant S_ .f32 0xBF000000#32)) (Host.divf (root y) (vare y)))
/-- the gradient through the variance; -/
def lean : FVec Ideal S4096x1024 .f32 :=
  mulf (overN (slope D y g)) (mulf (broadcastInDim S4096x1024 ![] bcast_S_S4096x1024 (constant S_ .f32 0x40000000#32)) (less y))
/-- the whole gradient. -/
def dY : FVec Ideal S4096x1024 .f32 :=
  addf (addf (thru D y g) (lean D y g)) (overN (addf (rowSum (Host.negf (thru D y g))) (rowSum (Host.negf (lean D y g)))))
/-- A column's sum over all rows, as a row. -/
def down (x : FVec Ideal S4096x1024 .f32) : FVec Ideal S1x1024 .f32 :=
  shapeCast _ (Host.reduceAdd (shapeCast _ (Host.reduceAdd x (constant S_ .f32 0x00000000#32) reducesTo_S4096x1024_S1024_d0 h_S_) shapeCasts_S1024_S1x1024 : FVec Ideal S1x1024 .f32)
    (constant S_ .f32 0x00000000#32) reducesTo_S1x1024_S1024_d0 h_S_) shapeCasts_S1024_S1x1024

variable (r : Fin 4096) (j : Fin 1024)

/-- A row of a matrix. -/
abbrev row (x : FVec Ideal S4096x1024 .f32) (r : Fin 4096) (j : Fin 1024) : EReal := x (ix2 r j)

theorem mid_at : mid y (ix2 r 0) = mean (row y r) := by
  unfold mean; pointwise [mid]
theorem less_at : less y (ix2 r j) = cen (row y r) j := by
  refine Eq.trans (b := y (ix2 r j) - mid y (ix2 r 0)) ?_ ?_
  · pointwise [less]
  · rw [mid_at]; rfl
theorem vare_at : vare y (ix2 r 0) = vr (row y r) + kE := by
  refine Eq.trans (b := mid (mulf (less y) (less y)) (ix2 r 0) + kE) ?_ ?_
  · pointwise [vare]
  · rw [mid_at]
    unfold vr
    refine congrArg (fun f : Fin 1024 → EReal => mean f + kE) (funext fun j => ?_)
    exact Cols.muls (less_at y r j) (less_at y r j)
theorem root_at : root y (ix2 r 0) = rs (row y r) := by
  refine Eq.trans (b := Ideal.rsqrt (vare y (ix2 r 0))) ?_ ?_
  · pointwise [root]
  · rw [vare_at]; rfl
theorem wide_at : wide y (ix2 r j) = rs (row y r) := by
  rw [← root_at]; pointwise [wide]
theorem spread_at : spread g (ix2 r j) = g (ix2 1 j) := by
  pointwise [spread]

/-- The gain. -/
abbrev gain (g : FVec Ideal S2x1024 .f32) (j : Fin 1024) : EReal := g (ix2 1 j)

theorem thru_at : thru D y g (ix2 r j) = cA (row y r) (row D r) (gain g) j := by
  refine Eq.trans (b := D (ix2 r j) * spread g (ix2 r j) * wide y (ix2 r j)) ?_ ?_
  · pointwise [thru]
  · rw [spread_at, wide_at]; rfl
theorem rowSum_at (x : FVec Ideal S4096x1024 .f32) : rowSum x (ix2 r 0) = ∑ j : Fin 1024, x (ix2 r j) := by
  pointwise [rowSum]
theorem overN_at (x : FVec Ideal S4096x1 .f32) : overN x (ix2 r j) = Ideal.div (x (ix2 r 0)) kN := by
  pointwise [overN]
  exact Fin.sum_univ_one _
theorem slope_at : slope D y g (ix2 r 0) = (∑ k : Fin 1024, cen (row y r) k * (row D r k * gain g k)) * (kH * Ideal.div (rs (row y r)) (vr (row y r) + kE)) := by
  refine Eq.trans (b := rowSum (mulf (less y) (mulf D (spread g))) (ix2 r 0) * (kH * Ideal.div (root y (ix2 r 0)) (vare y (ix2 r 0)))) ?_ ?_
  · pointwise [slope]
  · rw [rowSum_at, root_at, vare_at]
    refine congrArg (fun a : EReal => a * _) (Cols.sums fun k => ?_)
    exact congrArg₂ (fun a b : EReal => a * (D (ix2 r k) * b)) (less_at y r k) (spread_at g r k)
theorem lean_at : lean D y g (ix2 r j) = cB (row y r) (row D r) (gain g) j := by
  refine Eq.trans (b := overN (slope D y g) (ix2 r j) * (k2 * less y (ix2 r j))) ?_ ?_
  · pointwise [lean]
  · rw [overN_at, slope_at, less_at]; rfl
theorem dY_at : dY D y g (ix2 r j) = chain (row y r) (row D r) (gain g) j := by
  refine Eq.trans (b := thru D y g (ix2 r j) + lean D y g (ix2 r j)
    + overN (addf (rowSum (Host.negf (thru D y g))) (rowSum (Host.negf (lean D y g)))) (ix2 r j)) ?_ ?_
  · pointwise [dY]
  · rw [thru_at, lean_at, overN_at]
    refine congrArg (fun a : EReal => cA (row y r) (row D r) (gain g) j + cB (row y r) (row D r) (gain g) j + Ideal.div a kN) ?_
    refine Cols.adds ((rowSum_at r _).trans ?_) ((rowSum_at r _).trans ?_)
    · exact Cols.sums fun k => congrArg (fun a : EReal => -a) (thru_at D y g r k)
    · exact Cols.sums fun k => congrArg (fun a : EReal => -a) (lean_at D y g r k)
theorem down_at (x : FVec Ideal S4096x1024 .f32) : down x (ix2 0 j) = ∑ r : Fin 4096, x (ix2 r j) := by
  pointwise [down]
  exact Fin.sum_univ_one _
theorem gain_at : down (mulf (mulf (less y) (wide y)) D) (ix2 0 j) = ∑ r : Fin 4096, row D r j * hat (row y r) j := by
  rw [down_at]
  refine Cols.sums fun r => ?_
  refine (congrArg₂ (fun a b : EReal => a * b * D (ix2 r j)) (less_at y r j) (wide_at y r j)).trans ?_
  exact EReal.mul_comm _ _

end Chain

theorem hid_at (A : FVec Ideal S4096x4096 .bf16) (r k : Fin 4096) : hid A (ix2 r k) = psq (A (ix2 r k)) := by
  unfold psq; pointwise [hid, pos]

theorem ySum_at (A : FVec Ideal S4096x4096 .bf16) (W : FVec Ideal S4096x1024 .bf16) (H : FVec Ideal S4096x1024 .f32) (r : Fin 4096) (j : Fin 1024) :
    ySum A W H (ix2 r j) = yE (fun r k => psq (A (ix2 r k))) W H r j := by
  refine Eq.trans (b := kA * H (ix2 r j) + ∑ k : Fin 4096, hid A (ix2 r k) * W (ix2 k j)) ?_ ?_
  · pointwise [ySum]
  · unfold yE
    exact congrArg (fun a : EReal => kA * H (ix2 r j) + a) (Cols.sums fun k => congrArg (fun a : EReal => a * W (ix2 k j)) (hid_at A r k))

/-- The normed sum with gain and shift, less the target; -/
def errM (y : FVec Ideal S4096x1024 .f32) (g b : FVec Ideal S2x1024 .f32) (t : FVec Ideal S4096x1024 .f32) : FVec Ideal S4096x1024 .f32 :=
  subf (addf (mulf (mulf (less y) (wide y)) (spread g)) (spread b)) t
/-- the loss's gradient: half over a row's length, times twice the distance. -/
def dM (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) e)
/-- Each column's sum of squares. -/
def sqM (e : FVec Ideal S4096x1024 .f32) : FVec Ideal S1x1024 .f32 :=
  shapeCast _ (Host.reduceAdd (mulf e e) (constant S_ .f32 0x00000000#32) reducesTo_S4096x1024_S1024_d0 h_S_) shapeCasts_S1024_S1x1024

section Loss
variable (y e : FVec Ideal S4096x1024 .f32) (g b : FVec Ideal S2x1024 .f32) (t : FVec Ideal S4096x1024 .f32) (r : Fin 4096) (j : Fin 1024)

theorem errM_at : errM y g b t (ix2 r j) = hat (row y r) j * g (ix2 1 j) + b (ix2 1 j) - t (ix2 r j) := by
  refine Eq.trans (b := less y (ix2 r j) * wide y (ix2 r j) * spread g (ix2 r j) + spread b (ix2 r j) - t (ix2 r j)) ?_ ?_
  · pointwise [errM]
  · rw [less_at, wide_at, spread_at, spread_at]; rfl
theorem dM_at : dM e (ix2 r j) = e (ix2 r j) * kI := by
  rw [← loss_scale]; pointwise [dM]
theorem sqM_at : sqM e (ix2 0 j) = ∑ r : Fin 4096, e (ix2 r j) * e (ix2 r j) := by
  pointwise [sqM]
end Loss

section All
variable (A : FVec Ideal S4096x4096 .bf16) (W : FVec Ideal S4096x1024 .bf16) (H : FVec Ideal S4096x1024 .f32) (g b : FVec Ideal S2x1024 .f32) (t : FVec Ideal S4096x1024 .f32)

abbrev errA : FVec Ideal S4096x1024 .f32 := errM (ySum A W H) g b t
abbrev dA : FVec Ideal S4096x1024 .f32 := dM (errA A W H g b t)

theorem yRow (r : Fin 4096) : row (ySum A W H) r = yE (fun r k => psq (A (ix2 r k))) W H r := funext fun j => ySum_at A W H r j
theorem errA_at (r : Fin 4096) (j : Fin 1024) : errA A W H g b t (ix2 r j) = errE (fun r k => psq (A (ix2 r k))) W H g b t r j := by
  refine (errM_at _ g b t r j).trans ?_
  rw [yRow]; rfl
theorem dRow (r : Fin 4096) : row (dA A W H g b t) r = lE (fun r k => psq (A (ix2 r k))) W H g b t r :=
  funext fun j => (dM_at _ r j).trans (congrArg (fun a : EReal => a * kI) (errA_at A W H g b t r j))
end All

theorem out0_eq (m : (ℓ : Loc nD τ sig) → Buf (Elt Ideal) ℓ) (c : Dev nD) :
    Value.res_out0 m c = dY (dA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (ySum (m ((c.tc : Thread nD τ).loc main_arg0)) (m ((c.tc : Thread nD τ).loc main_arg1)) (m ((c.tc : Thread nD τ).loc main_arg2))) (m ((c.tc : Thread nD τ).loc main_arg3)) := by
  unfold Value.res_out0 Value.res_main_v88; rfl
theorem out1_eq (m : (ℓ : Loc nD τ sig) → Buf (Elt Ideal) ℓ) (c : Dev nD) :
    Value.res_out1 m c = truncf .bf16 (dY (dA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (ySum (m ((c.tc : Thread nD τ).loc main_arg0)) (m ((c.tc : Thread nD τ).loc main_arg1)) (m ((c.tc : Thread nD τ).loc main_arg2))) (m ((c.tc : Thread nD τ).loc main_arg3))) bitsLt_bf16_f32 := by
  unfold Value.res_out1 Value.res_main_v120; rfl
theorem out2_eq (m : (ℓ : Loc nD τ sig) → Buf (Elt Ideal) ℓ) (c : Dev nD) :
    Value.res_out2 m c = sqM (errA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Value.res_out2 Value.res_main_v121; rfl
theorem out3_eq (m : (ℓ : Loc nD τ sig) → Buf (Elt Ideal) ℓ) (c : Dev nD) :
    Value.res_out3 m c = down (mulf (mulf (less (ySum (m ((c.tc : Thread nD τ).loc main_arg0)) (m ((c.tc : Thread nD τ).loc main_arg1)) (m ((c.tc : Thread nD τ).loc main_arg2)))) (wide (ySum (m ((c.tc : Thread nD τ).loc main_arg0)) (m ((c.tc : Thread nD τ).loc main_arg1)) (m ((c.tc : Thread nD τ).loc main_arg2))))) (dA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) := by
  unfold Value.res_out3 Value.res_main_v122; rfl
theorem out4_eq (m : (ℓ : Loc nD τ sig) → Buf (Elt Ideal) ℓ) (c : Dev nD) :
    Value.res_out4 m c = down (dA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Value.res_out4 Value.res_main_v123; rfl

end Cert.ReferenceLsIdeal.Val

namespace Cert.Proof

open Idealize.ShloMosaic Idealize.SL.Sem

theorem values_Ls : Cert.algebraic_KernelLsIdeal_ReferenceLsIdeal_pre_finite_loss (hPre_finite_loss := Cert.Pre_finite_loss.Gen.facts) := by
  intro m g m' g' hpre hargs
  have hre := fun c => @Cert.Pre_finite_loss.real_of_fn Cert.Pre_finite_loss.Gen.facts _ _ _ _ _ _ (hpre c)
  have hY : ∀ (c : Dev Cert.KernelLsIdeal.nD) (r : Fin 4096), Cert.ReferenceLsIdeal.Val.row (Cert.ReferenceLsIdeal.Val.ySum (Cert.KernelLsIdeal.Val.aA m c) (Cert.KernelLsIdeal.Val.aW m c) (Cert.KernelLsIdeal.Val.aH m c)) r = Cert.KernelLsIdeal.Val.yW m c r := fun c r => Cert.ReferenceLsIdeal.Val.yRow _ _ _ r
  have hD : ∀ (c : Dev Cert.KernelLsIdeal.nD) (r : Fin 4096), Cert.ReferenceLsIdeal.Val.row (Cert.ReferenceLsIdeal.Val.dA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c)) r = Cert.KernelLsIdeal.Val.dW m c r := fun c r => Cert.ReferenceLsIdeal.Val.dRow _ _ _ _ _ _ r
  have hy : ∀ (c : Dev Cert.KernelLsIdeal.nD) (r : Fin 4096) (j : Fin 1024), ∃ x : ℝ, Cert.KernelLsIdeal.Val.yW m c r j = x := fun c =>
    Cert.Norm.yE_real _ _ _ (fun r k => Cert.Norm.psq_real ((hre c).1 _)) (hre c).2.1 (hre c).2.2.1
  have meetE : ∀ (c : Dev Cert.KernelLsIdeal.nD) (r : Fin 4096) (j : Fin 1024), Cert.ReferenceLsIdeal.Val.dY (Cert.ReferenceLsIdeal.Val.dA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c)) (Cert.ReferenceLsIdeal.Val.ySum (Cert.KernelLsIdeal.Val.aA m c) (Cert.KernelLsIdeal.Val.aW m c) (Cert.KernelLsIdeal.Val.aH m c)) (Cert.KernelLsIdeal.Val.aG m c) (ix2 r j) = Cert.KernelLsIdeal.Val.bW m c r j := fun c r j => by
    refine (Cert.ReferenceLsIdeal.Val.dY_at _ _ _ r j).trans ?_
    rw [hD c r, hY c r]
    exact (Cert.Norm.back_eq _ _ _ (hy c r) (fun j => Cert.Norm.lE_real _ _ _ _ _ _ (hy c) (hre c).2.2.2.1 (hre c).2.2.2.2.1 (hre c).2.2.2.2.2 r j)
      (hre c).2.2.2.1 j).symm
  have meet : ∀ (c : Dev Cert.KernelLsIdeal.nD) (ix : Cert.KernelLsIdeal.S4096x1024.Idx), Cert.ReferenceLsIdeal.Val.dY (Cert.ReferenceLsIdeal.Val.dA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c)) (Cert.ReferenceLsIdeal.Val.ySum (Cert.KernelLsIdeal.Val.aA m c) (Cert.KernelLsIdeal.Val.aW m c) (Cert.KernelLsIdeal.Val.aH m c)) (Cert.KernelLsIdeal.Val.aG m c) ix = Cert.KernelLsIdeal.Val.bW m c (ix 0) (ix 1) := fun c ix =>
    (congrArg _ (eq_ix2 ix)).trans (meetE c (ix 0) (ix 1))
  have row1 : ∀ ix : Cert.KernelLsIdeal.S1x1024.Idx, ix = ix2 (0 : Fin 1) (ix 1 : Fin 1024) := fun ix => by
    funext a; fin_cases a
    · exact Subsingleton.elim (α := Fin 1) _ _
    · rfl
  have meetQ : ∀ (c : Dev Cert.KernelLsIdeal.nD), Cert.ReferenceLsIdeal.Val.sqM (Cert.ReferenceLsIdeal.Val.errA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c)) = Cert.KernelLsIdeal.Val.oQ m c := fun c => funext fun ix => by
    refine (congrArg _ (row1 ix)).trans ((Cert.ReferenceLsIdeal.Val.sqM_at _ (ix 1)).trans ?_)
    exact Cols.sums fun r => Cols.muls (Cert.ReferenceLsIdeal.Val.errA_at _ _ _ _ _ _ r (ix 1)) (Cert.ReferenceLsIdeal.Val.errA_at _ _ _ _ _ _ r (ix 1))
  have meetG : ∀ (c : Dev Cert.KernelLsIdeal.nD), Cert.ReferenceLsIdeal.Val.down (mulf (mulf (Cert.ReferenceLsIdeal.Val.less (Cert.ReferenceLsIdeal.Val.ySum (Cert.KernelLsIdeal.Val.aA m c) (Cert.KernelLsIdeal.Val.aW m c) (Cert.KernelLsIdeal.Val.aH m c))) (Cert.ReferenceLsIdeal.Val.wide (Cert.ReferenceLsIdeal.Val.ySum (Cert.KernelLsIdeal.Val.aA m c) (Cert.KernelLsIdeal.Val.aW m c) (Cert.KernelLsIdeal.Val.aH m c)))) (Cert.ReferenceLsIdeal.Val.dA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c))) = Cert.KernelLsIdeal.Val.oG m c := fun c => funext fun ix => by
    refine (congrArg _ (row1 ix)).trans ((Cert.ReferenceLsIdeal.Val.gain_at _ _ (ix 1)).trans ?_)
    refine Cols.sums fun r => ?_
    rw [hD c r, hY c r]; rfl
  have meetS : ∀ (c : Dev Cert.KernelLsIdeal.nD), Cert.ReferenceLsIdeal.Val.down (Cert.ReferenceLsIdeal.Val.dA (Cert.KernelLsIdeal.Val.aA m c) (Cert.KernelLsIdeal.Val.aW m c) (Cert.KernelLsIdeal.Val.aH m c) (Cert.KernelLsIdeal.Val.aG m c) (Cert.KernelLsIdeal.Val.aB m c) (Cert.KernelLsIdeal.Val.aT m c)) = Cert.KernelLsIdeal.Val.oS m c := fun c => funext fun ix => by
    refine (congrArg _ (row1 ix)).trans ((Cert.ReferenceLsIdeal.Val.down_at (ix 1) _).trans ?_)
    exact Cols.sums fun r => congrFun (hD c r) (ix 1)
  refine ⟨Cert.KernelLsIdeal.Val.oY m, Cert.KernelLsIdeal.Val.oT m, Cert.KernelLsIdeal.Val.oQ m, Cert.KernelLsIdeal.Val.oG m, Cert.KernelLsIdeal.Val.oS m,
    Cert.KernelLsIdeal.Val.run_eq m g,
    (θ_run Cert.ReferenceLsIdeal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.ReferenceLsIdeal.Value.run m' g')⟩
  · refine (Cert.ReferenceLsIdeal.Val.out0_eq m' c).trans ?_
    rw [(hargs c).1, (hargs c).2.1, (hargs c).2.2.1, (hargs c).2.2.2.1, (hargs c).2.2.2.2.1, (hargs c).2.2.2.2.2]
    exact funext (meet c)
  · refine (Cert.ReferenceLsIdeal.Val.out1_eq m' c).trans ?_
    rw [(hargs c).1, (hargs c).2.1, (hargs c).2.2.1, (hargs c).2.2.2.1, (hargs c).2.2.2.2.1, (hargs c).2.2.2.2.2]
    exact funext (meet c)
  · refine (Cert.ReferenceLsIdeal.Val.out2_eq m' c).trans ?_
    rw [(hargs c).1, (hargs c).2.1, (hargs c).2.2.1, (hargs c).2.2.2.1, (hargs c).2.2.2.2.1, (hargs c).2.2.2.2.2]
    exact meetQ c
  · refine (Cert.ReferenceLsIdeal.Val.out3_eq m' c).trans ?_
    rw [(hargs c).1, (hargs c).2.1, (hargs c).2.2.1, (hargs c).2.2.2.1, (hargs c).2.2.2.2.1, (hargs c).2.2.2.2.2]
    exact meetG c
  · refine (Cert.ReferenceLsIdeal.Val.out4_eq m' c).trans ?_
    rw [(hargs c).1, (hargs c).2.1, (hargs c).2.2.1, (hargs c).2.2.2.1, (hargs c).2.2.2.2.1, (hargs c).2.2.2.2.2]
    exact meetS c

end Cert.Proof

end
-- ==== Proof.FfLm.lean ====
/-
  The recurrence's output product, the branch that skips it, and the norm of their sum (the call `l1_out_ln1`): a tile of
  rows at a time, with the second row of gain and shift.
-/
module

public import proofs.«01_k».proof.Proof.Gen.KernelLmIdeal.Frame
public import proofs.«01_k».proof.Proof.Gen.ReferenceLmIdeal.Run
public import proofs.«01_k».proof.Defs
public import proofs.«01_k».proof.Proof.FfLn

@[expose] public section

set_option maxRecDepth 16384

noncomputable section

namespace Cert.Norm

open Idealize.ShloMosaic Idealize.ShloMosaic.TcCoe Idealize.ShloMosaic.Tactic

/-- One entry of rows times a matrix; -/
def pE {n l : ℕ} (x : Fin n → Fin l → EReal) (w : FVec Ideal ⟨2, ![l, 1024]⟩ .bf16) (r : Fin n) (j : Fin 1024) : EReal :=
  ∑ k : Fin l, x r k * w (ix2 k j)
/-- of its sum with the branch that skips; -/
def yG {n : ℕ} (h : FVec Ideal ⟨2, ![n, 1024]⟩ .f32) (P : Fin n → Fin 1024 → EReal) (r : Fin n) (j : Fin 1024) : EReal := kA * h (ix2 r j) + P r j
/-- of the sum's norm, with one of two rows of gain and shift. -/
def oG {n : ℕ} (i : Fin 2) (h : FVec Ideal ⟨2, ![n, 1024]⟩ .f32) (P : Fin n → Fin 1024 → EReal) (g b : FVec Ideal ⟨2, ![2, 1024]⟩ .f32)
    (r : Fin n) (j : Fin 1024) : EReal :=
  hat (yG h P r) j * g (ix2 i j) + b (ix2 i j)

end Cert.Norm

namespace Cert.KernelLmIdeal.Val

open Cert.KernelLmIdeal Cert.KernelLmIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-- The rows that are multiplied, the matrices, the rows that skip, gain and shift. -/
abbrev aA : FVec Ideal S4096x1024 .bf16 := m ((c : Thread nD τ).loc main_arg0)
abbrev aW : FVec Ideal S1024x1024 .bf16 := m ((c : Thread nD τ).loc main_arg1)
abbrev aH : FVec Ideal S4096x1024 .f32 := m ((c : Thread nD τ).loc main_arg2)
abbrev aG : FVec Ideal S2x1024 .f32 := m ((c : Thread nD τ).loc main_arg3)
abbrev aS : FVec Ideal S2x1024 .f32 := m ((c : Thread nD τ).loc main_arg4)

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] := by
  decide +kernel

theorem lt8 (t : Fin cfg0.N) : t.val < 8 := lt_of_lt_of_eq t.isLt N_0

/-! ## A tile's stores -/

section Stores

variable (x : Vec Ideal S512x1024 .bf16) (w : Vec Ideal S1024x1024 .bf16) (h : Vec Ideal S512x1024 .f32) (p : Fin 512) (j : Fin 1024)

/-- The tile's products. -/
def tP (p : Fin 512) (j : Fin 1024) : EReal := pE (fun p k => x (ix2 p k)) w p j

theorem sum_at : k0_pay2 (F := Ideal) x w h (ix2 p j) = yG h (tP x w) p j := by
  unfold yG tP pE; pointwise [k0_pay2]
theorem norm_at (g b : Vec Ideal S1x1024 .f32) : k0_pay3 (F := Ideal) x w h g b (ix2 p j)
    = hat (yG h (tP x w) p) j * g (ix2 0 j) + b (ix2 0 j) := by
  have e : yG h (tP x w) p = fun j => k0_pay2 (F := Ideal) x w h (ix2 p j) := funext fun j => (sum_at x w h p j).symm
  rw [e]
  unfold hat rs vr cen mean
  pointwise [k0_pay3]

/-- A loaded row is the array's. -/
theorem rowL (g : Vec Ideal S2x1024 .f32) (j : Fin 1024) : View.ld (Val := Elt Ideal) g r0_2 (ix2 0 j) = g (ix2 1 j) :=
  View.ld_unit_apply_of _ _ _ _ _ _ fun a => by
    fin_cases a
    · rfl
    · exact (Nat.zero_add _).symm

variable (g b : Vec Ideal S2x1024 .f32)

theorem out5_at : out0_5 x h w g b (ix2 p j) = yG h (tP x w) p j := by
  unfold out0_5
  rw [View.canon_unit_zero z2, View.ld_unit_zero z2, View.ld_unit_zero z2, View.ld_unit_zero z2, ← sum_at]
  pointwise [k0_pay4]
theorem out6_at : out0_6 x h w g b (ix2 p j) = oG 1 h (tP x w) g b p j := by
  unfold out0_6 oG
  rw [View.canon_unit_zero z2, View.ld_unit_zero z2, View.ld_unit_zero z2, View.ld_unit_zero z2, ← rowL g, ← rowL b, ← norm_at]
  pointwise [k0_pay5]
theorem out7_at : out0_7 x h w g b (ix2 p j) = oG 1 h (tP x w) g b p j := by
  unfold out0_7 oG
  rw [View.canon_unit_zero z2, View.ld_unit_zero z2, View.ld_unit_zero z2, View.ld_unit_zero z2, ← rowL g, ← rowL b, ← norm_at]
  pointwise [k0_pay1, k0_pay6]

end Stores

/-! ## The launch -/

theorem blkA (t : Fin cfg0.N) (r : Fin 512) (k : Fin 1024) : iblk m c 0 t (ix2 r k) = aA m c (ix2 (col ⟨t.val, lt8 t⟩ r) k) := by
  unfold col
  blk_ext [iblk, idx t]
theorem blkH (t : Fin cfg0.N) (r : Fin 512) (k : Fin 1024) : iblk m c 1 t (ix2 r k) = aH m c (ix2 (col ⟨t.val, lt8 t⟩ r) k) := by
  unfold col
  blk_ext [iblk, idx t]
theorem blkW (t : Fin cfg0.N) (k : Fin 1024) (j : Fin 1024) : iblk m c 2 t (ix2 k j) = aW m c (ix2 k j) := by
  blk_ext [iblk, idx t]
theorem blkG (t : Fin cfg0.N) (k : Fin 2) (j : Fin 1024) : iblk m c 3 t (ix2 k j) = aG m c (ix2 k j) := by
  blk_ext [iblk, idx t]
theorem blkS (t : Fin cfg0.N) (k : Fin 2) (j : Fin 1024) : iblk m c 4 t (ix2 k j) = aS m c (ix2 k j) := by
  blk_ext [iblk, idx t]

/-- The products of the whole rows. -/
def wP (A : FVec Ideal ⟨2, ![4096, 1024]⟩ .bf16) (W : FVec Ideal ⟨2, ![1024, 1024]⟩ .bf16) (r : Fin 4096) (j : Fin 1024) : EReal :=
  pE (fun r k => A (ix2 r k)) W r j

/-- The sum, and its norm. -/
def gY : FVec Ideal S4096x1024 .f32 := fun ix => yG (aH m c) (wP (aA m c) (aW m c)) (ix 0) (ix 1)
def gO : FVec Ideal S4096x1024 .f32 := fun ix => oG 1 (aH m c) (wP (aA m c) (aW m c)) (aG m c) (aS m c) (ix 0) (ix 1)
def gT : FVec Ideal S4096x1024 .bf16 := fun ix => oG 1 (aH m c) (wP (aA m c) (aW m c)) (aG m c) (aS m c) (ix 0) (ix 1)

theorem y_tile (t : Fin cfg0.N) (p : Fin 512) (j : Fin 1024) :
    yG (iblk m c 1 t) (tP (iblk m c 0 t) (iblk m c 2 t)) p j = yG (aH m c) (wP (aA m c) (aW m c)) (col ⟨t.val, lt8 t⟩ p) j := by
  unfold yG tP wP pE
  exact Cols.adds (congrArg (fun a : EReal => kA * a) (blkH m c t p j)) (Cols.sums fun k => Cols.muls (blkA m c t p k) (blkW m c t k j))

theorem o_tile (t : Fin cfg0.N) (p : Fin 512) (j : Fin 1024) :
    oG 1 (iblk m c 1 t) (tP (iblk m c 0 t) (iblk m c 2 t)) (iblk m c 3 t) (iblk m c 4 t) p j
      = oG 1 (aH m c) (wP (aA m c) (aW m c)) (aG m c) (aS m c) (col ⟨t.val, lt8 t⟩ p) j := by
  unfold oG
  rw [show yG (iblk m c 1 t) (tP (iblk m c 0 t) (iblk m c 2 t)) p = yG (aH m c) (wP (aA m c) (aW m c)) (col ⟨t.val, lt8 t⟩ p) from
    funext fun j => y_tile m c t p j, blkG, blkS]

theorem final5 : (dats m 0 c).arrAt 5 cfg0.N = gY m c := by
  refine (dats m 0 c).arrAt_eq_of_covers 5 _ (by decide +kernel) fun t hf y => ?_
  blk_simp
  rw [after0_5]
  have ey : (y : S512x1024.Idx) = ix2 (y 0 : Fin 512) (y 1 : Fin 1024) := by
    funext a; fin_cases a <;> rfl
  have ee : ((((cfg0.win 5).blk t).view.emb y) : S4096x1024.Idx) = ix2 (col ⟨t.val, lt8 t⟩ (y 0 : Fin 512)) (y 1 : Fin 1024) := by
    unfold col
    blk_ext [idx t]
  refine (congrArg (out0_5 (iblk m c 0 t) (iblk m c 1 t) (iblk m c 2 t) (iblk m c 3 t) (iblk m c 4 t)) ey).trans
    ((out5_at _ _ _ (y 0) (y 1) _ _).trans ((y_tile m c t (y 0) (y 1)).trans ?_))
  exact (congrArg (gY m c) ee).symm

theorem final6 : (dats m 0 c).arrAt 6 cfg0.N = gO m c := by
  refine (dats m 0 c).arrAt_eq_of_covers 6 _ (by decide +kernel) fun t hf y => ?_
  blk_simp
  rw [after0_6]
  have ey : (y : S512x1024.Idx) = ix2 (y 0 : Fin 512) (y 1 : Fin 1024) := by
    funext a; fin_cases a <;> rfl
  have ee : ((((cfg0.win 6).blk t).view.emb y) : S4096x1024.Idx) = ix2 (col ⟨t.val, lt8 t⟩ (y 0 : Fin 512)) (y 1 : Fin 1024) := by
    unfold col
    blk_ext [idx t]
  refine (congrArg (out0_6 (iblk m c 0 t) (iblk m c 1 t) (iblk m c 2 t) (iblk m c 3 t) (iblk m c 4 t)) ey).trans
    ((out6_at _ _ _ (y 0) (y 1) _ _).trans ((o_tile m c t (y 0) (y 1)).trans ?_))
  exact (congrArg (gO m c) ee).symm

theorem final7 : (dats m 0 c).arrAt 7 cfg0.N = gT m c := by
  refine (dats m 0 c).arrAt_eq_of_covers 7 _ (by decide +kernel) fun t hf y => ?_
  blk_simp
  rw [after0_7]
  have ey : (y : S512x1024.Idx) = ix2 (y 0 : Fin 512) (y 1 : Fin 1024) := by
    funext a; fin_cases a <;> rfl
  have ee : ((((cfg0.win 7).blk t).view.emb y) : S4096x1024.Idx) = ix2 (col ⟨t.val, lt8 t⟩ (y 0 : Fin 512)) (y 1 : Fin 1024) := by
    unfold col
    blk_ext [idx t]
  refine (congrArg (out0_7 (iblk m c 0 t) (iblk m c 1 t) (iblk m c 2 t) (iblk m c 3 t) (iblk m c 4 t)) ey).trans
    ((out7_at _ _ _ (y 0) (y 1) _ _).trans ((o_tile m c t (y 0) (y 1)).trans ?_))
  exact (congrArg (gT m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gY m c ∧ r.2.mem ((c.tc : Thread nD τ).loc main_v0_1) = gO m c
      ∧ r.2.mem ((c.tc : Thread nD τ).loc main_v0_2) = gT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final5 m c), ((h c).1 6).trans (final6 m c), ((h c).1 7).trans (final7 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelLmIdeal.Val

namespace Cert.ReferenceLmIdeal.Val

open Cert.ReferenceLmIdeal Cert.ReferenceLmIdeal.Gen Idealize.ShloMosaic Idealize.ShloMosaic.TcCoe Idealize.SL.Sem Idealize.ShloMosaic.StableHlo Cert.Norm
open Cert.ReferenceLnIdeal.Val (less root less_at root_at)
open Cert.KernelLmIdeal.Val (wP)

/-- The reference's sum; -/
def ySum (A : FVec Ideal S4096x1024 .bf16) (W : FVec Ideal S1024x1024 .bf16) (H : FVec Ideal S4096x1024 .f32) : FVec Ideal S4096x1024 .f32 :=
  addf (mulf (broadcastInDim S4096x1024 ![] bcast_S_S4096x1024 (constant S_ .f32 0x3FB504F3#32)) H)
    (Host.dotGeneral dot_S4096x1024_S1024x1024_S4096x1024_1_0_0_1_n_n none (extf .f32 A bitsLt_bf16_f32) (extf .f32 W bitsLt_bf16_f32))
/-- one of two rows, spread over all rows; -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![1, 0] g slices_S2x1024_S1x1024_1_0) shapeCasts_S1x1024_S1024))
/-- the norm. -/
def norm (y : FVec Ideal S4096x1024 .f32) (g b : FVec Ideal S2x1024 .f32) : FVec Ideal S4096x1024 .f32 :=
  addf (mulf (mulf (less y) (broadcastInDim S4096x1024 ![0, 1] bcast_S4096x1_S4096x1024_0_1 (root y))) (spread g)) (spread b)

theorem ySum_at (A : FVec Ideal S4096x1024 .bf16) (W : FVec Ideal S1024x1024 .bf16) (H : FVec Ideal S4096x1024 .f32) (r : Fin 4096) (j : Fin 1024) :
    ySum A W H (ix2 r j) = yG H (wP A W) r j := by
  unfold yG wP pE; pointwise [ySum]

theorem spread_at (g : FVec Ideal S2x1024 .f32) (r : Fin 4096) (j : Fin 1024) : spread g (ix2 r j) = g (ix2 1 j) := by
  pointwise [spread]

theorem norm_at (y : FVec Ideal S4096x1024 .f32) (g b : FVec Ideal S2x1024 .f32) (r : Fin 4096) (j : Fin 1024) :
    norm y g b (ix2 r j) = hat (fun j : Fin 1024 => y (ix2 r j)) j * g (ix2 1 j) + b (ix2 1 j) := by
  refine Eq.trans (b := less y (ix2 r j) * root y (ix2 r 0) * spread g (ix2 r j) + spread b (ix2 r j)) ?_ ?_
  · pointwise [norm]
  · rw [less_at, root_at, spread_at, spread_at]; rfl

theorem res_at (A : FVec Ideal S4096x1024 .bf16) (W : FVec Ideal S1024x1024 .bf16) (H : FVec Ideal S4096x1024 .f32) (g b : FVec Ideal S2x1024 .f32) (r : Fin 4096) (j : Fin 1024) :
    norm (ySum A W H) g b (ix2 r j) = oG 1 H (wP A W) g b r j := by
  rw [norm_at]
  unfold oG
  exact congrArg (fun f : Fin 1024 → EReal => hat f j * g (ix2 1 j) + b (ix2 1 j)) (funext fun j => ySum_at A W H r j)

end Cert.ReferenceLmIdeal.Val

namespace Cert.Proof

open Idealize.ShloMosaic Idealize.SL.Sem

theorem values_Lm : Cert.algebraic_KernelLmIdeal_ReferenceLmIdeal := by
  intro m g m' g' _ hargs
  have meet : ∀ c : Dev Cert.KernelLmIdeal.nD, ∀ ix, _ = Cert.KernelLmIdeal.Val.gY m c ix := fun c ix =>
    (congrArg _ (eq_ix2 ix)).trans (Cert.ReferenceLmIdeal.Val.ySum_at (Cert.KernelLmIdeal.Val.aA m c) (Cert.KernelLmIdeal.Val.aW m c) (Cert.KernelLmIdeal.Val.aH m c) (ix 0) (ix 1))
  have meet1 : ∀ c : Dev Cert.KernelLmIdeal.nD, ∀ ix, _ = Cert.KernelLmIdeal.Val.gO m c ix := fun c ix =>
    (congrArg _ (eq_ix2 ix)).trans (Cert.ReferenceLmIdeal.Val.res_at (Cert.KernelLmIdeal.Val.aA m c) (Cert.KernelLmIdeal.Val.aW m c) (Cert.KernelLmIdeal.Val.aH m c)
      (Cert.KernelLmIdeal.Val.aG m c) (Cert.KernelLmIdeal.Val.aS m c) (ix 0) (ix 1))
  refine ⟨Cert.KernelLmIdeal.Val.gY m, Cert.KernelLmIdeal.Val.gO m, Cert.KernelLmIdeal.Val.gT m,
    Cert.KernelLmIdeal.Val.run_eq m g,
    (θ_run Cert.ReferenceLmIdeal.defs _ _).mono
      (fun r h c => ⟨(h c).1.trans ?_, (h c).2.1.trans ?_, (h c).2.2.1.trans ?_, (h c).2.2.2⟩)
      (Cert.ReferenceLmIdeal.Value.run m' g')⟩
  · rw [(hargs c).1, (hargs c).2.1, (hargs c).2.2.1]
    exact funext (meet c)
  · rw [(hargs c).1, (hargs c).2.1, (hargs c).2.2.1, (hargs c).2.2.2.1, (hargs c).2.2.2.2]
    exact funext (meet1 c)
  · rw [(hargs c).1, (hargs c).2.1, (hargs c).2.2.1, (hargs c).2.2.2.1, (hargs c).2.2.2.2]
    exact funext (meet1 c)

end Cert.Proof

end
-- ==== Proof.FfLp.lean ====
/-
  The first layer's mixing product, the branch that skips it, and the norm of their sum (the call `l0_out_ln1`): a tile of
  rows at a time, the attention's rows and the spatial gate's each with a matrix of their own.
-/
module

public import proofs.«01_k».proof.Proof.Gen.KernelLpIdeal.Frame
public import proofs.«01_k».proof.Proof.Gen.ReferenceLpIdeal.Run
public import proofs.«01_k».proof.Defs
public import proofs.«01_k».proof.Proof.FfLn
public import proofs.«01_k».proof.Proof.FfLm

@[expose] public section

set_option maxRecDepth 16384

noncomputable section

namespace Cert.KernelLpIdeal.Val

open Cert.KernelLpIdeal Cert.KernelLpIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-- The rows that are multiplied, the matrices, the rows that skip, gain and shift. -/
abbrev aA : FVec Ideal S4096x1024 .f32 := m ((c : Thread nD τ).loc main_arg0)
abbrev aB : FVec Ideal S4096x512 .bf16 := m ((c : Thread nD τ).loc main_arg1)
abbrev aW : FVec Ideal S1024x1024 .bf16 := m ((c : Thread nD τ).loc main_arg2)
abbrev aZ : FVec Ideal S512x1024 .bf16 := m ((c : Thread nD τ).loc main_arg3)
abbrev aH : FVec Ideal S4096x1024 .f32 := m ((c : Thread nD τ).loc main_arg4)
abbrev aG : FVec Ideal S2x1024 .f32 := m ((c : Thread nD τ).loc main_arg5)
abbrev aS : FVec Ideal S2x1024 .f32 := m ((c : Thread nD τ).loc main_arg6)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] := by
  decide +kernel

theorem lt8 (t : Fin cfg0.N) : t.val < 8 := lt_of_lt_of_eq t.isLt N_0

/-! ## A tile's stores -/

section Stores

variable (x : Vec Ideal S512x1024 .f32) (w : Vec Ideal S1024x1024 .bf16) (u : Vec Ideal S512x512 .bf16) (v : Vec Ideal S512x1024 .bf16) (h : Vec Ideal S512x1024 .f32) (p : Fin 512) (j : Fin 1024)

/-- The tile's products. -/
def tP (p : Fin 512) (j : Fin 1024) : EReal := pE (fun p k => x (ix2 p k)) w p j + pE (fun p k => u (ix2 p k)) v p j

theorem sum_at : k0_pay4 (F := Ideal) x w u v h (ix2 p j) = yG h (tP x w u v) p j := by
  unfold yG tP pE; pointwise [k0_pay4]
theorem norm_at (g b : Vec Ideal S1x1024 .f32) : k0_pay5 (F := Ideal) x w u v h g b (ix2 p j)
    = hat (yG h (tP x w u v) p) j * g (ix2 0 j) + b (ix2 0 j) := by
  have e : yG h (tP x w u v) p = fun j => k0_pay4 (F := Ideal) x w u v h (ix2 p j) := funext fun j => (sum_at x w u v h p j).symm
  rw [e]
  unfold hat rs vr cen mean
  pointwise [k0_pay5]

/-- A loaded row is the array's. -/
theorem rowL (g : Vec Ideal S2x1024 .f32) (j : Fin 1024) : View.ld (Val := Elt Ideal) g r0_3 (ix2 0 j) = g (ix2 0 j) :=
  View.ld_unit_apply_of _ _ _ _ _ _ fun a => by
    fin_cases a
    · rfl
    · exact (Nat.zero_add _).symm

variable (g b : Vec Ideal S2x1024 .f32)

theorem out7_at : out0_7 x u h w v g b (ix2 p j) = yG h (tP x w u v) p j := by
  unfold out0_7
  rw [View.canon_unit_zero z2, View.ld_unit_zero z2, View.ld_unit_zero z2, View.ld_unit_zero z2, View.ld_unit_zero z2, View.ld_unit_zero z2, ← sum_at]
  pointwise [k0_pay1]
theorem out8_at : out0_8 x u h w v g b (ix2 p j) = oG 0 h (tP x w u v) g b p j := by
  unfold out0_8 k0_pay6 oG
  rw [View.canon_unit_zero z2, View.ld_unit_zero z2, View.ld_unit_zero z2, View.ld_unit_zero z2, View.ld_unit_zero z2, View.ld_unit_zero z2, ← rowL g, ← rowL b, ← norm_at]
  pointwise [k0_pay2]
theorem out9_at : out0_9 x u h w v g b (ix2 p j) = oG 0 h (tP x w u v) g b p j := by
  unfold out0_9 k0_pay6 oG
  rw [View.canon_unit_zero z2, View.ld_unit_zero z2, View.ld_unit_zero z2, View.ld_unit_zero z2, View.ld_unit_zero z2, View.ld_unit_zero z2, ← rowL g, ← rowL b, ← norm_at]
  pointwise [k0_pay3]

end Stores

/-! ## The launch -/

theorem blkA (t : Fin cfg0.N) (r : Fin 512) (k : Fin 1024) : iblk m c 0 t (ix2 r k) = aA m c (ix2 (col ⟨t.val, lt8 t⟩ r) k) := by
  unfold col
  blk_ext [iblk, idx t]
theorem blkB (t : Fin cfg0.N) (r : Fin 512) (k : Fin 512) : iblk m c 1 t (ix2 r k) = aB m c (ix2 (col ⟨t.val, lt8 t⟩ r) k) := by
  unfold col
  blk_ext [iblk, idx t]
theorem blkH (t : Fin cfg0.N) (r : Fin 512) (k : Fin 1024) : iblk m c 2 t (ix2 r k) = aH m c (ix2 (col ⟨t.val, lt8 t⟩ r) k) := by
  unfold col
  blk_ext [iblk, idx t]
theorem blkW (t : Fin cfg0.N) (k : Fin 1024) (j : Fin 1024) : iblk m c 3 t (ix2 k j) = aW m c (ix2 k j) := by
  blk_ext [iblk, idx t]
theorem blkZ (t : Fin cfg0.N) (k : Fin 512) (j : Fin 1024) : iblk m c 4 t (ix2 k j) = aZ m c (ix2 k j) := by
  blk_ext [iblk, idx t]
theorem blkG (t : Fin cfg0.N) (k : Fin 2) (j : Fin 1024) : iblk m c 5 t (ix2 k j) = aG m c (ix2 k j) := by
  blk_ext [iblk, idx t]
theorem blkS (t : Fin cfg0.N) (k : Fin 2) (j : Fin 1024) : iblk m c 6 t (ix2 k j) = aS m c (ix2 k j) := by
  blk_ext [iblk, idx t]

/-- The products of the whole rows. -/
def wP (A : FVec Ideal ⟨2, ![4096, 1024]⟩ .f32) (W : FVec Ideal ⟨2, ![1024, 1024]⟩ .bf16) (B : FVec Ideal ⟨2, ![4096, 512]⟩ .bf16) (Z : FVec Ideal ⟨2, ![512, 1024]⟩ .bf16) (r : Fin 4096) (j : Fin 1024) : EReal :=
  pE (fun r k => A (ix2 r k)) W r j + pE (fun r k => B (ix2 r k)) Z r j

/-- The sum, and its norm. -/
def gY : FVec Ideal S4096x1024 .f32 := fun ix => yG (aH m c) (wP (aA m c) (aW m c) (aB m c) (aZ m c)) (ix 0) (ix 1)
def gO : FVec Ideal S4096x1024 .f32 := fun ix => oG 0 (aH m c) (wP (aA m c) (aW m c) (aB m c) (aZ m c)) (aG m c) (aS m c) (ix 0) (ix 1)
def gT : FVec Ideal S4096x1024 .bf16 := fun ix => oG 0 (aH m c) (wP (aA m c) (aW m c) (aB m c) (aZ m c)) (aG m c) (aS m c) (ix 0) (ix 1)

theorem y_tile (t : Fin cfg0.N) (p : Fin 512) (j : Fin 1024) :
    yG (iblk m c 2 t) (tP (iblk m c 0 t) (iblk m c 3 t) (iblk m c 1 t) (iblk m c 4 t)) p j = yG (aH m c) (wP (aA m c) (aW m c) (aB m c) (aZ m c)) (col ⟨t.val, lt8 t⟩ p) j := by
  unfold yG tP wP pE
  exact Cols.adds (congrArg (fun a : EReal => kA * a) (blkH m c t p j)) (Cols.adds (Cols.sums fun k => Cols.muls (blkA m c t p k) (blkW m c t k j))
    (Cols.sums fun k => Cols.muls (blkB m c t p k) (blkZ m c t k j)))

theorem o_tile (t : Fin cfg0.N) (p : Fin 512) (j : Fin 1024) :
    oG 0 (iblk m c 2 t) (tP (iblk m c 0 t) (iblk m c 3 t) (iblk m c 1 t) (iblk m c 4 t)) (iblk m c 5 t) (iblk m c 6 t) p j
      = oG 0 (aH m c) (wP (aA m c) (aW m c) (aB m c) (aZ m c)) (aG m c) (aS m c) (col ⟨t.val, lt8 t⟩ p) j := by
  unfold oG
  rw [show yG (iblk m c 2 t) (tP (iblk m c 0 t) (iblk m c 3 t) (iblk m c 1 t) (iblk m c 4 t)) p = yG (aH m c) (wP (aA m c) (aW m c) (aB m c) (aZ m c)) (col ⟨t.val, lt8 t⟩ p) from
    funext fun j => y_tile m c t p j, blkG, blkS]

theorem final7 : (dats m 0 c).arrAt 7 cfg0.N = gY m c := by
  refine (dats m 0 c).arrAt_eq_of_covers 7 _ (by decide +kernel) fun t hf y => ?_
  blk_simp
  rw [after0_7]
  have ey : (y : S512x1024.Idx) = ix2 (y 0 : Fin 512) (y 1 : Fin 1024) := by
    funext a; fin_cases a <;> rfl
  have ee : ((((cfg0.win 7).blk t).view.emb y) : S4096x1024.Idx) = ix2 (col ⟨t.val, lt8 t⟩ (y 0 : Fin 512)) (y 1 : Fin 1024) := by
    unfold col
    blk_ext [idx t]
  refine (congrArg (out0_7 (iblk m c 0 t) (iblk m c 1 t) (iblk m c 2 t) (iblk m c 3 t) (iblk m c 4 t) (iblk m c 5 t) (iblk m c 6 t)) ey).trans
    ((out7_at _ _ _ _ _ (y 0) (y 1) _ _).trans ((y_tile m c t (y 0) (y 1)).trans ?_))
  exact (congrArg (gY m c) ee).symm

theorem final8 : (dats m 0 c).arrAt 8 cfg0.N = gO m c := by
  refine (dats m 0 c).arrAt_eq_of_covers 8 _ (by decide +kernel) fun t hf y => ?_
  blk_simp
  rw [after0_8]
  have ey : (y : S512x1024.Idx) = ix2 (y 0 : Fin 512) (y 1 : Fin 1024) := by
    funext a; fin_cases a <;> rfl
  have ee : ((((cfg0.win 8).blk t).view.emb y) : S4096x1024.Idx) = ix2 (col ⟨t.val, lt8 t⟩ (y 0 : Fin 512)) (y 1 : Fin 1024) := by
    unfold col
    blk_ext [idx t]
  refine (congrArg (out0_8 (iblk m c 0 t) (iblk m c 1 t) (iblk m c 2 t) (iblk m c 3 t) (iblk m c 4 t) (iblk m c 5 t) (iblk m c 6 t)) ey).trans
    ((out8_at _ _ _ _ _ (y 0) (y 1) _ _).trans ((o_tile m c t (y 0) (y 1)).trans ?_))
  exact (congrArg (gO m c) ee).symm

theorem final9 : (dats m 0 c).arrAt 9 cfg0.N = gT m c := by
  refine (dats m 0 c).arrAt_eq_of_covers 9 _ (by decide +kernel) fun t hf y => ?_
  blk_simp
  rw [after0_9]
  have ey : (y : S512x1024.Idx) = ix2 (y 0 : Fin 512) (y 1 : Fin 1024) := by
    funext a; fin_cases a <;> rfl
  have ee : ((((cfg0.win 9).blk t).view.emb y) : S4096x1024.Idx) = ix2 (col ⟨t.val, lt8 t⟩ (y 0 : Fin 512)) (y 1 : Fin 1024) := by
    unfold col
    blk_ext [idx t]
  refine (congrArg (out0_9 (iblk m c 0 t) (iblk m c 1 t) (iblk m c 2 t) (iblk m c 3 t) (iblk m c 4 t) (iblk m c 5 t) (iblk m c 6 t)) ey).trans
    ((out9_at _ _ _ _ _ (y 0) (y 1) _ _).trans ((o_tile m c t (y 0) (y 1)).trans ?_))
  exact (congrArg (gT m c) ee).symm

/-- The launch, read: the results, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gY m c ∧ r.2.mem ((c.tc : Thread nD τ).loc main_v0_1) = gO m c
      ∧ r.2.mem ((c.tc : Thread nD τ).loc main_v0_2) = gT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 2).trans (((dats m 0 c).arrAt_in 2 rfl _).trans ((A_eq m c 2).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelLpIdeal.Val

namespace Cert.ReferenceLpIdeal.Val

open Cert.ReferenceLpIdeal Cert.ReferenceLpIdeal.Gen Idealize.ShloMosaic Idealize.ShloMosaic.TcCoe Idealize.SL.Sem Idealize.ShloMosaic.StableHlo Cert.Norm
open Cert.ReferenceLnIdeal.Val (less root less_at root_at)
open Cert.KernelLpIdeal.Val (wP)

/-- The reference's sum; -/
def ySum (A : FVec Ideal S4096x1024 .f32) (W : FVec Ideal S1024x1024 .bf16) (B : FVec Ideal S4096x512 .bf16) (Z : FVec Ideal S512x1024 .bf16) (H : FVec Ideal S4096x1024 .f32) : FVec Ideal S4096x1024 .f32 :=
  addf (mulf (broadcastInDim S4096x1024 ![] bcast_S_S4096x1024 (constant S_ .f32 0x3FB504F3#32)) H)
    (addf (Host.dotGeneral dot_S4096x1024_S1024x1024_S4096x1024_1_0_0_1_n_n none A (extf .f32 W bitsLt_bf16_f32))
      (Host.dotGeneral dot_S4096x512_S512x1024_S4096x1024_1_0_0_1_n_n none (extf .f32 B bitsLt_bf16_f32) (extf .f32 Z bitsLt_bf16_f32)))
/-- one of two rows, spread over all rows; -/
def spread (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![0, 0] g slices_S2x1024_S1x1024_0_0) shapeCasts_S1x1024_S1024))
/-- the norm. -/
def norm (y : FVec Ideal S4096x1024 .f32) (g b : FVec Ideal S2x1024 .f32) : FVec Ideal S4096x1024 .f32 :=
  addf (mulf (mulf (less y) (broadcastInDim S4096x1024 ![0, 1] bcast_S4096x1_S4096x1024_0_1 (root y))) (spread g)) (spread b)

theorem ySum_at (A : FVec Ideal S4096x1024 .f32) (W : FVec Ideal S1024x1024 .bf16) (B : FVec Ideal S4096x512 .bf16) (Z : FVec Ideal S512x1024 .bf16) (H : FVec Ideal S4096x1024 .f32) (r : Fin 4096) (j : Fin 1024) :
    ySum A W B Z H (ix2 r j) = yG H (wP A W B Z) r j := by
  unfold yG wP pE; pointwise [ySum]

theorem spread_at (g : FVec Ideal S2x1024 .f32) (r : Fin 4096) (j : Fin 1024) : spread g (ix2 r j) = g (ix2 0 j) := by
  pointwise [spread]

theorem norm_at (y : FVec Ideal S4096x1024 .f32) (g b : FVec Ideal S2x1024 .f32) (r : Fin 4096) (j : Fin 1024) :
    norm y g b (ix2 r j) = hat (fun j : Fin 1024 => y (ix2 r j)) j * g (ix2 0 j) + b (ix2 0 j) := by
  refine Eq.trans (b := less y (ix2 r j) * root y (ix2 r 0) * spread g (ix2 r j) + spread b (ix2 r j)) ?_ ?_
  · pointwise [norm]
  · rw [less_at, root_at, spread_at, spread_at]; rfl

theorem res_at (A : FVec Ideal S4096x1024 .f32) (W : FVec Ideal S1024x1024 .bf16) (B : FVec Ideal S4096x512 .bf16) (Z : FVec Ideal S512x1024 .bf16) (H : FVec Ideal S4096x1024 .f32) (g b : FVec Ideal S2x1024 .f32) (r : Fin 4096) (j : Fin 1024) :
    norm (ySum A W B Z H) g b (ix2 r j) = oG 0 H (wP A W B Z) g b r j := by
  rw [norm_at]
  unfold oG
  exact congrArg (fun f : Fin 1024 → EReal => hat f j * g (ix2 0 j) + b (ix2 0 j)) (funext fun j => ySum_at A W B Z H r j)

theorem out1_eq (m : (ℓ : Loc nD τ sig) → Buf (Elt Ideal) ℓ) (c : Dev nD) :
    Value.res_main_v36 m c = norm (ySum (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)))
      (m ((c.tc : Thread nD τ).loc main_arg5)) (m ((c.tc : Thread nD τ).loc main_arg6)) := by
  unfold Value.res_main_v36; rfl
theorem out2_eq (m : (ℓ : Loc nD τ sig) → Buf (Elt Ideal) ℓ) (c : Dev nD) :
    Value.res_main_v37 m c = truncf .bf16 (norm (ySum (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)))
      (m ((c.tc : Thread nD τ).loc main_arg5)) (m ((c.tc : Thread nD τ).loc main_arg6))) bitsLt_bf16_f32 := by
  unfold Value.res_main_v37; rfl

end Cert.ReferenceLpIdeal.Val

namespace Cert.Proof

open Idealize.ShloMosaic Idealize.SL.Sem

theorem values_Lp : Cert.algebraic_KernelLpIdeal_ReferenceLpIdeal := by
  intro m g m' g' _ hargs
  have meet : ∀ c : Dev Cert.KernelLpIdeal.nD, ∀ ix, _ = Cert.KernelLpIdeal.Val.gY m c ix := fun c ix =>
    (congrArg _ (eq_ix2 ix)).trans (Cert.ReferenceLpIdeal.Val.ySum_at (Cert.KernelLpIdeal.Val.aA m c) (Cert.KernelLpIdeal.Val.aW m c) (Cert.KernelLpIdeal.Val.aB m c) (Cert.KernelLpIdeal.Val.aZ m c) (Cert.KernelLpIdeal.Val.aH m c) (ix 0) (ix 1))
  have meet1 : ∀ c : Dev Cert.KernelLpIdeal.nD, ∀ ix, _ = Cert.KernelLpIdeal.Val.gO m c ix := fun c ix =>
    (congrArg _ (eq_ix2 ix)).trans (Cert.ReferenceLpIdeal.Val.res_at (Cert.KernelLpIdeal.Val.aA m c) (Cert.KernelLpIdeal.Val.aW m c) (Cert.KernelLpIdeal.Val.aB m c) (Cert.KernelLpIdeal.Val.aZ m c) (Cert.KernelLpIdeal.Val.aH m c)
      (Cert.KernelLpIdeal.Val.aG m c) (Cert.KernelLpIdeal.Val.aS m c) (ix 0) (ix 1))
  refine ⟨Cert.KernelLpIdeal.Val.gY m, Cert.KernelLpIdeal.Val.gO m, Cert.KernelLpIdeal.Val.gT m,
    Cert.KernelLpIdeal.Val.run_eq m g,
    (θ_run Cert.ReferenceLpIdeal.defs _ _).mono
      (fun r h c => ⟨(h c).1.trans ?_, (h c).2.1.trans ?_, (h c).2.2.1.trans ?_, (h c).2.2.2⟩)
      (Cert.ReferenceLpIdeal.Value.run m' g')⟩
  · rw [(hargs c).1, (hargs c).2.1, (hargs c).2.2.1, (hargs c).2.2.2.1, (hargs c).2.2.2.2.1]
    exact funext (meet c)
  · refine (Cert.ReferenceLpIdeal.Val.out1_eq m' c).trans ?_
    rw [(hargs c).1, (hargs c).2.1, (hargs c).2.2.1, (hargs c).2.2.2.1, (hargs c).2.2.2.2.1, (hargs c).2.2.2.2.2.1, (hargs c).2.2.2.2.2.2]
    exact funext (meet1 c)
  · refine (Cert.ReferenceLpIdeal.Val.out2_eq m' c).trans ?_
    rw [(hargs c).1, (hargs c).2.1, (hargs c).2.2.1, (hargs c).2.2.2.1, (hargs c).2.2.2.2.1, (hargs c).2.2.2.2.2.1, (hargs c).2.2.2.2.2.2]
    exact funext (meet1 c)

end Cert.Proof

end
-- ==== Proof.FfDo.lean ====
/-
  The gradient of the recurrence's output matrix (the call `l1_dwout`): every quarter is the product of a transposed run of
  columns with a run of the gradient's columns.
-/
module

public import proofs.«01_k».proof.Proof.Gen.KernelDoIdeal.Frame
public import proofs.«01_k».proof.Proof.Gen.ReferenceDoIdeal.Run
public import Idealize.ShloMosaic.Lib.StableHlo.ReadAt
public import proofs.«01_k».proof.Defs
public import proofs.«01_k».proof.Proof.FfCols
public import Idealize.ShloMosaic.Lib.Pipeline.ValueKit

@[expose] public section

set_option maxRecDepth 16384

noncomputable section

namespace Cert.KernelDoIdeal.Val

open Cert.KernelDoIdeal Cert.KernelDoIdeal.Gen
open Idealize.ShloMosaic Idealize.ShloMosaic.TcCoe Idealize.ShloMosaic.Tactic
open Idealize.SL.Sem Cert.Cols
open Idealize.ShloMosaic.Pipeline (Dat Cfg Window)

variable (m : (ℓ : Loc nD τ sig) → Buf (Elt Ideal) ℓ) (c : Dev nD)

/-- The rows that were multiplied and their product's gradient. -/
abbrev aA : FVec Ideal S4096x1024 .bf16 := m ((c : Thread nD τ).loc main_arg0)
abbrev aD : FVec Ideal S4096x1024 .bf16 := m ((c : Thread nD τ).loc main_arg1)

/-- Column `n` of one of two runs. -/
def side (d : Fin 2) (n : Fin 512) : Fin 1024 := ⟨d.val * 512 + n.val, by omega⟩

theorem lt4 (t : Fin cfg0.N) : t.val < 4 := lt_of_lt_of_eq t.isLt N_0
/-- The runs a point multiplies. -/
def ra (t : Fin cfg0.N) : Fin 2 := ⟨t.val % 2, Nat.mod_lt _ (by decide)⟩
def rb (t : Fin cfg0.N) : Fin 2 := ⟨t.val / 2, by have := lt4 t; omega⟩

theorem idx : ∀ t : Fin cfg0.N, win0_0.index t = ![0, t.val % 2] ∧ win0_1.index t = ![0, t.val / 2] ∧ win0_2.index t = ![t.val % 2, t.val / 2]
    ∧ win0_3.index t = ![t.val % 2, t.val / 2] := by decide +kernel

theorem pay2_at (x y : Vec Ideal S4096x512 .bf16) (n k : Fin 512) :
    k0_pay2 (F := Ideal) x y (ix2 n k) = ∑ r : Fin 4096, x (ix2 r n) * y (ix2 r k) := by
  pointwise [k0_pay2, k0_pay1]
theorem pay3_at (x y : Vec Ideal S4096x512 .bf16) (n k : Fin 512) :
    k0_pay3 (F := Ideal) x y (ix2 n k) = ∑ r : Fin 4096, x (ix2 r n) * y (ix2 r k) := by
  pointwise [k0_pay3, k0_pay1]

theorem blkA (t : Fin cfg0.N) (r : Fin 4096) (n : Fin 512) : iblk m c 0 t (ix2 r n) = aA m c (ix2 r (side (ra t) n)) := by
  unfold side ra
  blk_ext [iblk, idx t]
theorem blkD (t : Fin cfg0.N) (r : Fin 4096) (k : Fin 512) : iblk m c 1 t (ix2 r k) = aD m c (ix2 r (side (rb t) k)) := by
  unfold side rb
  blk_ext [iblk, idx t]

/-- A point's arguments. -/
abbrev tA (t : Fin cfg0.N) : Vec Ideal S4096x512 .bf16 := iblk m c 0 t
abbrev tD (t : Fin cfg0.N) : Vec Ideal S4096x512 .bf16 := iblk m c 1 t

/-- One entry of the gradient. -/
def gE (A D : FVec Ideal S4096x1024 .bf16) (j k : Fin 1024) : EReal := ∑ r : Fin 4096, A (ix2 r j) * D (ix2 r k)

/-- The gradient. -/
def gW : FVec Ideal S1024x1024 .f32 := fun ix => gE (aA m c) (aD m c) (ix 0) (ix 1)

theorem sum_eq (t : Fin cfg0.N) (n k : Fin 512) :
    ∑ r : Fin 4096, tA m c t (ix2 r n) * tD m c t (ix2 r k) = gW m c (ix2 (side (ra t) n) (side (rb t) k)) := by
  refine Eq.trans (b := gE (aA m c) (aD m c) (side (ra t) n) (side (rb t) k)) ?_ rfl
  unfold gE
  exact Cols.sums fun r => Cols.muls (blkA m c t r n) (blkD m c t r k)

theorem out2_at (t : Fin cfg0.N) (n k : Fin 512) :
    out0_2 (iblk m c 0 t) (iblk m c 1 t) (ix2 n k) = gW m c (ix2 (side (ra t) n) (side (rb t) k)) := by
  unfold out0_2
  rw [View.canon_unit_zero z2, View.ld_unit_zero z2, View.ld_unit_zero z2, pay2_at]
  exact sum_eq m c t n k

theorem final2 : (dats m 0 c).arrAt 2 cfg0.N = gW m c := by
  refine (dats m 0 c).arrAt_eq_of_covers 2 _ (by decide +kernel) fun t hf y => ?_
  blk_simp
  rw [after0_2]
  have ey : (y : S512x512.Idx) = ix2 (y 0 : Fin 512) (y 1 : Fin 512) := by
    funext a; fin_cases a <;> rfl
  have ee : ((((cfg0.win 2).blk t).view.emb y) : S1024x1024.Idx) = ix2 (side (ra t) (y 0 : Fin 512)) (side (rb t) (y 1 : Fin 512)) := by
    unfold side ra rb
    blk_ext [idx t]
  refine (congrArg (out0_2 (iblk m c 0 t) (iblk m c 1 t)) ey).trans ((out2_at m c t (y 0) (y 1)).trans ?_)
  exact (congrArg (gW m c) ee).symm

theorem out3_at (t : Fin cfg0.N) (n k : Fin 512) :
    out0_3 (iblk m c 0 t) (iblk m c 1 t) (ix2 n k) = gW m c (ix2 (side (ra t) n) (side (rb t) k)) := by
  unfold out0_3
  rw [View.canon_unit_zero z2, View.ld_unit_zero z2, View.ld_unit_zero z2, pay3_at]
  exact sum_eq m c t n k

theorem final3 : (dats m 0 c).arrAt 3 cfg0.N = gW m c := by
  refine (dats m 0 c).arrAt_eq_of_covers 3 _ (by decide +kernel) fun t hf y => ?_
  blk_simp
  rw [after0_3]
  have ey : (y : S512x512.Idx) = ix2 (y 0 : Fin 512) (y 1 : Fin 512) := by
    funext a; fin_cases a <;> rfl
  have ee : ((((cfg0.win 3).blk t).view.emb y) : S1024x1024.Idx) = ix2 (side (ra t) (y 0 : Fin 512)) (side (rb t) (y 1 : Fin 512)) := by
    unfold side ra rb
    blk_ext [idx t]
  refine (congrArg (out0_3 (iblk m c 0 t) (iblk m c 1 t)) ey).trans ((out3_at m c t (y 0) (y 1)).trans ?_)
  exact (congrArg (gW m c) ee).symm

/-- The launch, read: both copies of the gradient, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gW m c ∧ r.2.mem ((c.tc : Thread nD τ).loc main_v0_1) = gW m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelDoIdeal.Val

namespace Cert.ReferenceDoIdeal.Val

open Cert.ReferenceDoIdeal Cert.ReferenceDoIdeal.Gen Idealize.ShloMosaic Idealize.ShloMosaic.TcCoe Idealize.SL.Sem Idealize.ShloMosaic.StableHlo
open Cert.KernelDoIdeal.Val (gE)

/-- The reference's result. -/
def res (A D : FVec Ideal S4096x1024 .bf16) : FVec Ideal S1024x1024 .f32 :=
  transpose S1024x1024 [1, 0] (Host.dotGeneral dot_S4096x1024_S4096x1024_S1024x1024_0_0_1_1_n_n none (extf .f32 D bitsLt_bf16_f32) (extf .f32 A bitsLt_bf16_f32))
    transposes_S1024x1024_S1024x1024_1_0

theorem res_at (A D : FVec Ideal S4096x1024 .bf16) (j k : Fin 1024) : res A D (ix2 j k) = gE A D j k := by
  refine Eq.trans (b := ∑ r : Fin 4096, D (ix2 r k) * A (ix2 r j)) ?_ ?_
  · unfold res; pointwise
  · exact Cols.sums fun r => mul_comm (G := EReal) _ _

end Cert.ReferenceDoIdeal.Val

namespace Cert.Proof

open Idealize.ShloMosaic Idealize.SL.Sem

theorem values_Do : Cert.algebraic_KernelDoIdeal_ReferenceDoIdeal := by
  intro m g m' g' _ hargs
  have meet : ∀ c : Dev Cert.KernelDoIdeal.nD, ∀ ix, Cert.ReferenceDoIdeal.Val.res (Cert.KernelDoIdeal.Val.aA m c) (Cert.KernelDoIdeal.Val.aD m c) ix
      = Cert.KernelDoIdeal.Val.gW m c ix := fun c ix =>
    (congrArg _ (eq_ix2 ix)).trans (Cert.ReferenceDoIdeal.Val.res_at (Cert.KernelDoIdeal.Val.aA m c) (Cert.KernelDoIdeal.Val.aD m c) (ix 0) (ix 1))
  refine ⟨Cert.KernelDoIdeal.Val.gW m, Cert.KernelDoIdeal.Val.gW m,
    Cert.KernelDoIdeal.Val.run_eq m g,
    (θ_run Cert.ReferenceDoIdeal.defs _ _).mono
      (fun r h c => ⟨(h c).1.trans ?_, (h c).2.1.trans ?_, (h c).2.2⟩)
      (Cert.ReferenceDoIdeal.Value.run m' g')⟩
  · rw [(hargs c).1, (hargs c).2]
    exact funext (meet c)
  · rw [(hargs c).1, (hargs c).2]
    exact funext (meet c)

end Cert.Proof

end
-- ==== Proof.FfDm.lean ====
/-
  The gradients of the two mixing matrices (the call `l0_dw_out`): sums over all rows, a tile of rows at a time.
-/
module

public import proofs.«01_k».proof.Proof.Gen.KernelDmIdeal.Frame
public import proofs.«01_k».proof.Proof.Gen.ReferenceDmIdeal.Run
public import Idealize.ShloMosaic.Lib.StableHlo.ReadAt
public import proofs.«01_k».proof.Defs
public import proofs.«01_k».proof.Proof.NormTile
public import Idealize.ShloMosaic.Lib.VecWindow
public import Idealize.ShloMosaic.Lib.Pipeline.ValueKit

@[expose] public section

set_option maxRecDepth 16384

noncomputable section

namespace Cert.KernelDmIdeal.Val

open Cert.KernelDmIdeal Cert.KernelDmIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-- The attention's rows, the spatial gate's, and the gradient of their product. -/
abbrev aA : FVec Ideal S4096x1024 .f32 := m ((c : Thread nD τ).loc main_arg0)
abbrev aB : FVec Ideal S4096x512 .bf16 := m ((c : Thread nD τ).loc main_arg1)
abbrev aD : FVec Ideal S4096x1024 .bf16 := m ((c : Thread nD τ).loc main_arg2)

theorem idx : ∀ t : Fin cfg0.N, win0_0.index t = ![t.val, 0] ∧ win0_1.index t = ![t.val, 0] ∧ win0_2.index t = ![t.val, 0] ∧ win0_3.index t = ![0, 0]
    ∧ win0_4.index t = ![0, 0] := by decide +kernel

theorem lt8 (t : Fin cfg0.N) : t.val < 8 := lt_of_lt_of_eq t.isLt N_0

/-! ## A tile's stores -/

theorem zero3_at (n j : Fin 1024) : k0_pay1 (F := Ideal) (ix2 n j) = 0 := by pointwise [k0_pay1]
theorem zero4_at (n : Fin 512) (j : Fin 1024) : k0_pay2 (F := Ideal) (ix2 n j) = 0 := by pointwise [k0_pay2]

section Tile

variable (x0 : Vec Ideal S512x1024 .f32) (x1 : Vec Ideal S512x512 .bf16) (x2 : Vec Ideal S512x1024 .bf16)

theorem P3_at (acc : Vec Ideal S1024x1024 .f32) (n j : Fin 1024) :
    k0_pay3 (F := Ideal) x2 acc x0 (ix2 n j) = acc (ix2 n j) + ∑ r : Fin 512, x0 (ix2 r n) * x2 (ix2 r j) := by pointwise [k0_pay3]
theorem P4_at (acc : Vec Ideal S512x1024 .f32) (n : Fin 512) (j : Fin 1024) :
    k0_pay4 (F := Ideal) x2 acc x1 (ix2 n j) = acc (ix2 n j) + ∑ r : Fin 512, x1 (ix2 r n) * x2 (ix2 r j) := by pointwise [k0_pay4]

variable (i : grid0.Coords) (a1 : Memref sig .tc .vmem S512x1024 .f32) (w1 : a1.IsWhole) (a2 : Memref sig .tc .vmem S512x512 .bf16) (w2 : a2.IsWhole)
  (a3 : Memref sig .tc .vmem S512x1024 .bf16) (w3 : a3.IsWhole) (a4 : Memref sig .tc .vmem S1024x1024 .f32) (w4 : a4.IsWhole)
  (a5 : Memref sig .tc .vmem S512x1024 .f32) (w5 : a5.IsWhole)

theorem outA3 (hc0) : out0_A_3 c i a1 w1 a2 w2 a3 w3 a4 w4 a5 w5 hc0 x0 x1 x2 = k0_pay3 (F := Ideal) x2 (k0_pay1 (F := Ideal)) x0 := by
  unfold out0_A_3
  rw [View.read_writes_eq_canon _ _ _ (cover0_A_3 _ _ _ _ _ _ _ _ _ _ _ _ _ _ _ _)]
  unfold kernelRun0_A
  dsimp only
  sl_unfold_words
  simp only [View.readAt_eq_ld, w1.read_unread, w2.read_unread, w3.read_unread]
  rw [View.canon_cons_unit_zero z2, View.readCov_full]
  rw [View.ld_unit_zero z2, View.ld_unit_zero z2]
theorem outA4 (hc0) : out0_A_4 c i a1 w1 a2 w2 a3 w3 a4 w4 a5 w5 hc0 x0 x1 x2 = k0_pay4 (F := Ideal) x2 (k0_pay2 (F := Ideal)) x1 := by
  unfold out0_A_4
  rw [View.read_writes_eq_canon _ _ _ (cover0_A_4 _ _ _ _ _ _ _ _ _ _ _ _ _ _ _ _)]
  unfold kernelRun0_A
  dsimp only
  sl_unfold_words
  simp only [View.readAt_eq_ld, w1.read_unread, w2.read_unread, w3.read_unread]
  rw [View.canon_cons_unit_zero z2, View.readCov_full]
  rw [View.ld_unit_zero z2, View.ld_unit_zero z2]
theorem outB3 (xo3 : Vec Ideal S1024x1024 .f32) (xo4 : Vec Ideal S512x1024 .f32) (hc0) : out0_B_3 c i a1 w1 a2 w2 a3 w3 a4 w4 a5 w5 hc0 x0 x1 x2 xo3 xo4 = k0_pay3 (F := Ideal) x2 xo3 x0 := by
  unfold out0_B_3
  rw [View.read_writes_eq_canon _ _ _ (cover0_B_3 _ _ _ _ _ _ _ _ _ _ _ _ _ _ _ _ _ _)]
  unfold kernelRun0_B
  dsimp only
  sl_unfold_words
  simp only [View.readAt_eq_ld, w1.read_unread, w2.read_unread, w3.read_unread, w4.read_unread, w5.read_unread]
  rw [View.canon_unit_zero z2]
  rw [View.ld_unit_zero z2, View.ld_unit_zero z2, View.ld_unit_zero z2]
theorem outB4 (xo3 : Vec Ideal S1024x1024 .f32) (xo4 : Vec Ideal S512x1024 .f32) (hc0) : out0_B_4 c i a1 w1 a2 w2 a3 w3 a4 w4 a5 w5 hc0 x0 x1 x2 xo3 xo4 = k0_pay4 (F := Ideal) x2 xo4 x1 := by
  unfold out0_B_4
  rw [View.read_writes_eq_canon _ _ _ (cover0_B_4 _ _ _ _ _ _ _ _ _ _ _ _ _ _ _ _ _ _)]
  unfold kernelRun0_B
  dsimp only
  sl_unfold_words
  simp only [View.readAt_eq_ld, w1.read_unread, w2.read_unread, w3.read_unread, w4.read_unread, w5.read_unread]
  rw [View.canon_unit_zero z2]
  rw [View.ld_unit_zero z2, View.ld_unit_zero z2, View.ld_unit_zero z2]

end Tile

/-! ## The launch -/

theorem blkA (t : Fin cfg0.N) (r : Fin 512) (k : Fin 1024) : iblk m c 0 t (ix2 r k) = aA m c (ix2 (col ⟨t.val, lt8 t⟩ r) k) := by
  unfold col
  blk_ext [iblk, idx t]
theorem blkB (t : Fin cfg0.N) (r : Fin 512) (k : Fin 512) : iblk m c 1 t (ix2 r k) = aB m c (ix2 (col ⟨t.val, lt8 t⟩ r) k) := by
  unfold col
  blk_ext [iblk, idx t]
theorem blkD (t : Fin cfg0.N) (r : Fin 512) (k : Fin 1024) : iblk m c 2 t (ix2 r k) = aD m c (ix2 (col ⟨t.val, lt8 t⟩ r) k) := by
  unfold col
  blk_ext [iblk, idx t]

/-- A tile's arguments. -/
abbrev tA (t : Fin cfg0.N) : Vec Ideal S512x1024 .f32 := iblk m c 0 t
abbrev tB (t : Fin cfg0.N) : Vec Ideal S512x512 .bf16 := iblk m c 1 t
abbrev tD (t : Fin cfg0.N) : Vec Ideal S512x1024 .bf16 := iblk m c 2 t

/-- A row's part of an entry of either gradient. -/
def pA (A : FVec Ideal S4096x1024 .f32) (D : FVec Ideal S4096x1024 .bf16) (n j : Fin 1024) (r : Fin 4096) : EReal := A (ix2 r n) * D (ix2 r j)
def pB (B : FVec Ideal S4096x512 .bf16) (D : FVec Ideal S4096x1024 .bf16) (n : Fin 512) (j : Fin 1024) (r : Fin 4096) : EReal := B (ix2 r n) * D (ix2 r j)

/-- The gradients. -/
def gA : FVec Ideal S1024x1024 .f32 := fun ix => ∑ r, pA (aA m c) (aD m c) (ix 0) (ix 1) r
def gB : FVec Ideal S512x1024 .f32 := fun ix => ∑ r, pB (aB m c) (aD m c) (ix 0) (ix 1) r

theorem A_tile (t : Fin cfg0.N) (n j : Fin 1024) :
    ∑ r : Fin 512, tA m c t (ix2 r n) * tD m c t (ix2 r j) = tileSum (pA (aA m c) (aD m c) n j) t.val := by
  rw [tileSum_lt _ (lt8 t)]
  exact Cols.sums fun r => Cols.muls (blkA m c t r n) (blkD m c t r j)

/-- After a point, the running sum over the rows so far. -/
theorem acc3 (n j : Fin 1024) : ∀ (q : ℕ) (h : q < cfg0.N), (outsAt0 m c q h).1 (ix2 n j) = upTo (pA (aA m c) (aD m c) n j) q
  | 0, h => by
    refine (congrArg (fun z => z.1 (ix2 n j)) (outsAt0_A m c ⟨0, h⟩ rfl)).trans ?_
    dsimp only
    rw [outA3, P3_at, zero3_at, zero_add, upTo_zero]
    exact A_tile m c ⟨0, h⟩ n j
  | q + 1, h => by
    have h8 : q + 1 < 8 := lt8 ⟨q + 1, h⟩
    refine (congrArg (fun z => z.1 (ix2 n j)) (outsAt0_B m c ⟨q + 1, h⟩ (by show ¬(q + 1) % 8 = 0; omega))).trans ?_
    dsimp only
    rw [outB3, P3_at, upTo_succ]
    exact Cols.adds (acc3 n j q (Nat.lt_of_succ_lt h)) (A_tile m c ⟨q + 1, h⟩ n j)

theorem B_tile (t : Fin cfg0.N) (n : Fin 512) (j : Fin 1024) :
    ∑ r : Fin 512, tB m c t (ix2 r n) * tD m c t (ix2 r j) = tileSum (pB (aB m c) (aD m c) n j) t.val := by
  rw [tileSum_lt _ (lt8 t)]
  exact Cols.sums fun r => Cols.muls (blkB m c t r n) (blkD m c t r j)

/-- After a point, the running sum over the rows so far. -/
theorem acc4 (n : Fin 512) (j : Fin 1024) : ∀ (q : ℕ) (h : q < cfg0.N), (outsAt0 m c q h).2 (ix2 n j) = upTo (pB (aB m c) (aD m c) n j) q
  | 0, h => by
    refine (congrArg (fun z => z.2 (ix2 n j)) (outsAt0_A m c ⟨0, h⟩ rfl)).trans ?_
    dsimp only
    rw [outA4, P4_at, zero4_at, zero_add, upTo_zero]
    exact B_tile m c ⟨0, h⟩ n j
  | q + 1, h => by
    have h8 : q + 1 < 8 := lt8 ⟨q + 1, h⟩
    refine (congrArg (fun z => z.2 (ix2 n j)) (outsAt0_B m c ⟨q + 1, h⟩ (by show ¬(q + 1) % 8 = 0; omega))).trans ?_
    dsimp only
    rw [outB4, P4_at, upTo_succ]
    exact Cols.adds (acc4 n j q (Nat.lt_of_succ_lt h)) (B_tile m c ⟨q + 1, h⟩ n j)

theorem final3 : (dats m 0 c).arrAt 3 cfg0.N = gA m c := by
  refine (dats m 0 c).arrAt_eq_of_covers 3 _ (by decide +kernel) fun t hf y => ?_
  have h7 : t.val = 7 := by have := (flush0_3 t).mp hf; have := lt8 t; omega
  blk_simp
  rw [after0_3]
  have ey : (y : S1024x1024.Idx) = ix2 (y 0 : Fin 1024) (y 1 : Fin 1024) := by
    funext a; fin_cases a <;> rfl
  have ee : ((((cfg0.win 3).blk t).view.emb y) : S1024x1024.Idx) = ix2 (y 0 : Fin 1024) (y 1 : Fin 1024) := by
    blk_ext [idx t]
  refine (congrArg (outsAt0 m c t.val t.isLt).1 ey).trans ((acc3 m c (y 0) (y 1) t.val t.isLt).trans ?_)
  rw [h7, upTo_last]
  exact (congrArg (gA m c) ee).symm

theorem final4 : (dats m 0 c).arrAt 4 cfg0.N = gB m c := by
  refine (dats m 0 c).arrAt_eq_of_covers 4 _ (by decide +kernel) fun t hf y => ?_
  have h7 : t.val = 7 := by have := (flush0_4 t).mp hf; have := lt8 t; omega
  blk_simp
  rw [after0_4]
  have ey : (y : S512x1024.Idx) = ix2 (y 0 : Fin 512) (y 1 : Fin 1024) := by
    funext a; fin_cases a <;> rfl
  have ee : ((((cfg0.win 4).blk t).view.emb y) : S512x1024.Idx) = ix2 (y 0 : Fin 512) (y 1 : Fin 1024) := by
    blk_ext [idx t]
  refine (congrArg (outsAt0 m c t.val t.isLt).2 ey).trans ((acc4 m c (y 0) (y 1) t.val t.isLt).trans ?_)
  rw [h7, upTo_last]
  exact (congrArg (gB m c) ee).symm

/-- The launch, read: both gradients, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gA m c ∧ r.2.mem ((c.tc : Thread nD τ).loc main_v0_1) = gB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelDmIdeal.Val

namespace Cert.ReferenceDmIdeal.Val

open Cert.ReferenceDmIdeal Cert.ReferenceDmIdeal.Gen Idealize.ShloMosaic Idealize.ShloMosaic.TcCoe Idealize.SL.Sem Idealize.ShloMosaic.StableHlo
open Cert.KernelDmIdeal.Val (pA pB)

/-- The reference's results. -/
def resA (A : FVec Ideal S4096x1024 .f32) (D : FVec Ideal S4096x1024 .bf16) : FVec Ideal S1024x1024 .f32 :=
  transpose S1024x1024 [1, 0] (Host.dotGeneral dot_S4096x1024_S4096x1024_S1024x1024_0_0_1_1_n_n none (extf .f32 D bitsLt_bf16_f32) A)
    transposes_S1024x1024_S1024x1024_1_0
def resB (B : FVec Ideal S4096x512 .bf16) (D : FVec Ideal S4096x1024 .bf16) : FVec Ideal S512x1024 .f32 :=
  transpose S512x1024 [1, 0] (Host.dotGeneral dot_S4096x1024_S4096x512_S1024x512_0_0_1_1_n_n none (extf .f32 D bitsLt_bf16_f32) (extf .f32 B bitsLt_bf16_f32))
    transposes_S1024x512_S512x1024_1_0

theorem resA_at (A : FVec Ideal S4096x1024 .f32) (D : FVec Ideal S4096x1024 .bf16) (j k : Fin 1024) : resA A D (ix2 j k) = ∑ r, pA A D j k r := by
  refine Eq.trans (b := ∑ r : Fin 4096, D (ix2 r k) * A (ix2 r j)) ?_ ?_
  · unfold resA; pointwise
  · exact Cols.sums fun r => mul_comm (G := EReal) _ _
theorem resB_at (B : FVec Ideal S4096x512 .bf16) (D : FVec Ideal S4096x1024 .bf16) (j : Fin 512) (k : Fin 1024) : resB B D (ix2 j k) = ∑ r, pB B D j k r := by
  refine Eq.trans (b := ∑ r : Fin 4096, D (ix2 r k) * B (ix2 r j)) ?_ ?_
  · unfold resB; pointwise
  · exact Cols.sums fun r => mul_comm (G := EReal) _ _

end Cert.ReferenceDmIdeal.Val

namespace Cert.Proof

open Idealize.ShloMosaic Idealize.SL.Sem

theorem values_Dm : Cert.algebraic_KernelDmIdeal_ReferenceDmIdeal := by
  intro m g m' g' _ hargs
  have meet : ∀ c : Dev Cert.KernelDmIdeal.nD, ∀ ix, _ = Cert.KernelDmIdeal.Val.gA m c ix := fun c ix =>
    (congrArg _ (eq_ix2 ix)).trans (Cert.ReferenceDmIdeal.Val.resA_at (Cert.KernelDmIdeal.Val.aA m c) (Cert.KernelDmIdeal.Val.aD m c) (ix 0) (ix 1))
  have meet1 : ∀ c : Dev Cert.KernelDmIdeal.nD, ∀ ix, _ = Cert.KernelDmIdeal.Val.gB m c ix := fun c ix =>
    (congrArg _ (eq_ix2 ix)).trans (Cert.ReferenceDmIdeal.Val.resB_at (Cert.KernelDmIdeal.Val.aB m c) (Cert.KernelDmIdeal.Val.aD m c) (ix 0) (ix 1))
  refine ⟨Cert.KernelDmIdeal.Val.gA m, Cert.KernelDmIdeal.Val.gB m,
    Cert.KernelDmIdeal.Val.run_eq m g,
    (θ_run Cert.ReferenceDmIdeal.defs _ _).mono
      (fun r h c => ⟨(h c).1.trans ?_, (h c).2.1.trans ?_, (h c).2.2⟩)
      (Cert.ReferenceDmIdeal.Value.run m' g')⟩
  · rw [(hargs c).1, (hargs c).2.2]
    exact funext (meet c)
  · rw [(hargs c).2.1, (hargs c).2.2]
    exact funext (meet1 c)

end Cert.Proof

end
-- ==== Proof.FfIb.lean ====
/-
  The backward pass of the first layer's input product (the call `l0_in_back`). The matrix's 1568 rows are three groups: 512 of the spatial
  gate's second half, 32 of the rotated keys, 1024 of the first half; the gradient at its result comes as two arrays.
-/
module

public import proofs.«01_k».proof.Proof.Gen.KernelIbIdeal.Frame
public import proofs.«01_k».proof.Proof.Gen.ReferenceIbIdeal.Run
public import Idealize.ShloMosaic.Lib.StableHlo.ReadAt
public import proofs.«01_k».proof.Defs
public import proofs.«01_k».proof.Proof.NormTile
public import Idealize.ShloMosaic.Lib.VecWindow
public import Idealize.ShloMosaic.Lib.Pipeline.ReadBack
public import Idealize.ShloMosaic.Lib.Pipeline.ValueKit

@[expose] public section

set_option maxRecDepth 16384

noncomputable section

namespace Cert.KernelIbIdeal.Val

open Cert.KernelIbIdeal Cert.KernelIbIdeal.Gen
open Idealize.ShloMosaic Idealize.ShloMosaic.TcCoe Idealize.ShloMosaic.Tactic
open Idealize.SL.Sem Cert.Cols Cert.Norm
open Idealize.ShloMosaic.Pipeline (Dat Cfg Window)

variable (m : (ℓ : Loc nD τ sig) → Buf (Elt Ideal) ℓ) (c : Dev nD)

/-- A row of the matrix from its place in one of the three groups. -/
def g0 (n : Fin 512) : Fin 1568 := ⟨n.val, by omega⟩
def g1 (n : Fin 32) : Fin 1568 := ⟨512 + n.val, by omega⟩
def g2 (n : Fin 1024) : Fin 1568 := ⟨544 + n.val, by omega⟩
/-- Where the first two groups lie in the first array. -/
def h0 (n : Fin 512) : Fin 640 := ⟨n.val, by omega⟩
def h1 (n : Fin 32) : Fin 640 := ⟨576 + n.val, by omega⟩

theorem groups (P : Fin 1568 → Prop) (p0 : ∀ n, P (g0 n)) (p1 : ∀ n, P (g1 n)) (p2 : ∀ n, P (g2 n)) (k : Fin 1568) : P k := by
  by_cases a : k.val < 512
  · exact p0 ⟨k.val, a⟩
  by_cases b : k.val < 544
  · exact (show g1 ⟨k.val - 512, by omega⟩ = k from Fin.ext (by simp only [g1]; omega)) ▸ p1 ⟨k.val - 512, by omega⟩
  · exact (show g2 ⟨k.val - 544, by omega⟩ = k from Fin.ext (by simp only [g2]; omega)) ▸ p2 ⟨k.val - 544, by omega⟩

theorem sum_groups (f : Fin 1568 → EReal) : ∑ k, f k = ∑ n, f (g0 n) + ∑ n, f (g1 n) + ∑ n, f (g2 n) :=
  (Fin.sum_univ_add (a := 544) (b := 1024) f).trans
    (congrArg (fun z : EReal => z + ∑ n, f (g2 n)) (Fin.sum_univ_add (a := 512) (b := 32) fun k => f (Fin.castAdd 1024 k)))

/-- A sum over 128 whose first 64 and last 32 terms are zero. -/
theorem sum_mid (f : Fin 128 → EReal) (hf : ∀ k : Fin 128, k.val < 64 ∨ 96 ≤ k.val → f k = 0) : ∑ k, f k = ∑ n : Fin 32, f ⟨64 + n.val, by omega⟩ := by
  refine (Fin.sum_univ_add (a := 96) (b := 32) f).trans ?_
  rw [Finset.sum_eq_zero (M := EReal) fun (n : Fin 32) _ => hf (Fin.natAdd 96 n) (.inr (Nat.le_add_right _ _)), add_zero]
  refine (Fin.sum_univ_add (a := 64) (b := 32) fun k => f (Fin.castAdd 32 k)).trans ?_
  rw [Finset.sum_eq_zero (M := EReal) fun (n : Fin 64) _ => hf (Fin.castAdd 32 (Fin.castAdd 32 n)) (.inl n.isLt), zero_add]
  rfl

/-- The gradient at the product's result, the two arrays as one. -/
def zE {n : ℕ} (M : FVec Ideal ⟨2, ![n, 640]⟩ .bf16) (S : FVec Ideal ⟨2, ![n, 1024]⟩ .bf16) (r : Fin n) (k : Fin 1568) : EReal :=
  if a : k.val < 512 then M (ix2 r (h0 ⟨k.val, a⟩))
  else if b : k.val < 544 then M (ix2 r (h1 ⟨k.val - 512, by omega⟩)) else S (ix2 r ⟨k.val - 544, by omega⟩)

section
variable {n : ℕ} (M : FVec Ideal ⟨2, ![n, 640]⟩ .bf16) (S : FVec Ideal ⟨2, ![n, 1024]⟩ .bf16) (r : Fin n)
theorem zE0 (k : Fin 512) : zE M S r (g0 k) = M (ix2 r (h0 k)) := dif_pos k.isLt
theorem zE1 (k : Fin 32) : zE M S r (g1 k) = M (ix2 r (h1 k)) :=
  (dif_neg (by simp only [g1]; omega)).trans ((dif_pos (by simp only [g1]; omega)).trans (congrArg (fun q => M (ix2 r q)) (Fin.ext (by simp only [g1, h1]; omega))))
theorem zE2 (k : Fin 1024) : zE M S r (g2 k) = S (ix2 r k) :=
  (dif_neg (by simp only [g2]; omega)).trans ((dif_neg (by simp only [g2]; omega)).trans (congrArg (fun q => S (ix2 r q)) (Fin.ext (by simp only [g2]; omega))))

/-- One entry of the gradient at the product's argument: through the branch that skips, and through the product. -/
def xE (H : FVec Ideal ⟨2, ![n, 1024]⟩ .f32) (W : FVec Ideal S1568x1024 .bf16) (j : Fin 1024) : EReal := kA * H (ix2 r j) + ∑ k, zE M S r k * W (ix2 k j)
end

/-! ## A tile's stores -/

/-- Rows of an array of 1568 read from row `o`. -/
theorem ld_rows {φ : EltTy} {k : ℕ} (x : S1568x1024.Idx → Elt Ideal φ) (o : ℕ) (inb) (p : Fin k) (q : Fin 1024) (e : Fin 1568) (he : e.val = o + p.val) :
    View.ld (Val := Elt Ideal) (e' := φ) x (Rect.unit (s := S1568x1024) ![o, 0] (⟨2, ![k, 1024]⟩ : Shape).size inb) (ix2 p q) = x (ix2 e q) := by
  refine View.ld_unit_apply_of _ _ _ _ _ _ fun a => ?_
  fin_cases a
  · exact he
  · exact (Nat.zero_add _).symm

/-- A piece whose entries are rows of an array from row `o` is the array read at the piece's place. -/
theorem piece_rows {k : ℕ} (G : Fin 1568 → Fin 1024 → Elt Ideal .f32) (e : Fin k → Fin 1568) (P : (⟨2, ![k, 1024]⟩ : Shape).Idx → Elt Ideal .f32) (o : ℕ)
    (he : ∀ p, (e p).val = o + p.val) (inb) (hP : ∀ p q, P (ix2 p q) = G (e p) q) (z : (⟨2, ![k, 1024]⟩ : Shape).Idx) :
    P z = (fun ix : S1568x1024.Idx => G (ix 0) (ix 1)) ((Rect.unit (s := S1568x1024) ![o, 0] (⟨2, ![k, 1024]⟩ : Shape).size inb).emb z) := by
  have ee : (Rect.unit (s := S1568x1024) ![o, 0] (⟨2, ![k, 1024]⟩ : Shape).size inb).emb z = (ix2 (e (z 0)) (z 1 : Fin 1024) : S1568x1024.Idx) := by
    funext a
    refine Fin.ext ((ValueKit.rect_emb_unit_val _ _ _ _ _).trans ?_)
    fin_cases a
    · exact (he _).symm
    · exact Nat.zero_add _
  exact (congrArg P (eq_ix2 z)).trans ((hP _ _).trans (congrArg (fun ix : S1568x1024.Idx => G (ix 0) (ix 1)) ee).symm)

theorem zero_eq : k0_pay4 (F := Ideal) = fun _ => (0 : EReal) := by
  funext ix; exact (congrArg _ (eq_ix2 ix)).trans (by pointwise [k0_pay4])

section Tile

variable (x0 : Vec Ideal S512x1024 .f32) (x1 : Vec Ideal S512x640 .bf16) (x2 : Vec Ideal S512x1024 .bf16) (x3 : Vec Ideal S512x1024 .f32) (x4 : Vec Ideal S1568x1024 .bf16)

theorem P1_at (acc : Vec Ideal S512x1024 .f32) (n : Fin 512) (j : Fin 1024) :
    k0_pay1 (F := Ideal) acc (k0_pay8 (F := Ideal) x1 x0) (ix2 n j) = acc (ix2 n j) + ∑ r : Fin 512, x1 (ix2 r (h0 n)) * x0 (ix2 r j) := by
  unfold h0
  pointwise [k0_pay1, k0_pay8, k0_pay7, k0_pay6]
theorem P2_at (acc : Vec Ideal S32x1024 .f32) (n : Fin 32) (j : Fin 1024) :
    k0_pay2 (F := Ideal) (k0_pay7 (F := Ideal) x1 x0) acc (ix2 n j) = acc (ix2 n j) + ∑ r : Fin 512, x1 (ix2 r (h1 n)) * x0 (ix2 r j) := by
  unfold h1
  pointwise [k0_pay2, k0_pay7, k0_pay6]
theorem P3_at (acc : Vec Ideal S1024x1024 .f32) (n : Fin 1024) (j : Fin 1024) :
    k0_pay3 (F := Ideal) x2 (k0_pay6 (F := Ideal) x0) acc (ix2 n j) = acc (ix2 n j) + ∑ r : Fin 512, x2 (ix2 r n) * x0 (ix2 r j) := by
  pointwise [k0_pay3, k0_pay6]

theorem P5_at (w0 : Vec Ideal S512x1024 .bf16) (w1 : Vec Ideal S32x1024 .bf16) (w2 : Vec Ideal S1024x1024 .bf16) (p : Fin 512) (j : Fin 1024) :
    k0_pay5 (F := Ideal) x1 x2 w0 w1 w2 x3 (ix2 p j) = (∑ k : Fin 512, x1 (ix2 p (h0 k)) * w0 (ix2 k j)) + (∑ k : Fin 32, x1 (ix2 p (h1 k)) * w1 (ix2 k j))
      + (∑ k : Fin 1024, x2 (ix2 p k) * w2 (ix2 k j)) + kA * x3 (ix2 p j) := by
  refine Eq.trans (b := (∑ k : Fin 512, x1 (ix2 p (h0 k)) * w0 (ix2 k j))
      + (∑ k : Fin 128, x1 (ix2 p ⟨512 + k.val, by omega⟩) * (if h : k.val < 64 then (0 : EReal) else if h : k.val - 64 < 32 then w1 (ix2 ⟨k.val - 64, h⟩ j) else 0))
      + (∑ k : Fin 1024, x2 (ix2 p k) * w2 (ix2 k j)) + kA * x3 (ix2 p j)) ?_ ?_
  · unfold h0
    pointwise [k0_pay5]
  · rw [sum_mid _ fun k hk => by
      rcases hk with hk | hk
      · rw [dif_pos hk, mul_zero]
      · rw [dif_neg (by omega), dif_neg (by omega), mul_zero]]
    refine congrArg (fun z : EReal => _ + z + _ + _) (Cols.sums fun k => ?_)
    rw [dif_neg (by simp), dif_pos (by simp [k.isLt])]
    exact Cols.muls (congrArg (fun q => x1 (ix2 p q)) (Fin.ext (by simp only [h1]; omega)))
      (congrArg (fun q => w1 (ix2 q j)) (Fin.ext (by simp)))

/-- A tile's rows added to the running sums. -/
def upd (acc : Vec Ideal S1568x1024 .f32) (n : Fin 1568) (j : Fin 1024) : Elt Ideal .f32 := acc (ix2 n j) + ∑ r : Fin 512, zE x1 x2 r n * x0 (ix2 r j)

/-- The three stores together, whatever was stored before. -/
theorem stores (acc : Vec Ideal S1568x1024 .f32) (L : List (View.Piece (Elt Ideal) S1568x1024 .f32)) :
    View.canon ([⟨Rect.unit (s := S1568x1024) ![544, 0] S1024x1024.size inb_S1568x1024_S1024x1024_544_0,
        k0_pay3 (F := Ideal) x2 (k0_pay6 (F := Ideal) x0) (View.ld acc (Rect.unit (s := S1568x1024) ![544, 0] S1024x1024.size inb_S1568x1024_S1024x1024_544_0))⟩,
      ⟨Rect.unit (s := S1568x1024) ![512, 0] S32x1024.size inb_S1568x1024_S32x1024_512_0,
        k0_pay2 (F := Ideal) (k0_pay7 (F := Ideal) x1 x0) (View.ld acc (Rect.unit (s := S1568x1024) ![512, 0] S32x1024.size inb_S1568x1024_S32x1024_512_0))⟩,
      ⟨Rect.unit (s := S1568x1024) ![0, 0] S512x1024.size inb_S1568x1024_S512x1024_0_0,
        k0_pay1 (F := Ideal) (View.ld acc (Rect.unit (s := S1568x1024) ![0, 0] S512x1024.size inb_S1568x1024_S512x1024_0_0)) (k0_pay8 (F := Ideal) x1 x0)⟩] ++ L)
      = fun ix => upd x0 x1 x2 acc (ix 0) (ix 1) := by
  funext y
  refine View.canon_append_of_piecesOf (fun ix : S1568x1024.Idx => upd x0 x1 x2 acc (ix 0) (ix 1)) L _ ?_ y
    (View.cover_of_tiledBy _ ![32, 1024] (by sl_kernel_rfl) y)
  refine ⟨fun z => ?_, fun z => ?_, fun z => ?_, trivial⟩
  · refine piece_rows (upd x0 x1 x2 acc) g2 _ 544 (fun p => rfl) inb_S1568x1024_S1024x1024_544_0 (fun p q => (P3_at x0 x2 _ p q).trans ?_) z
    rw [ld_rows acc 544 _ p q (g2 p) rfl]
    exact congrArg (fun w : EReal => acc (ix2 (g2 p) q) + w) (Cols.sums fun r => congrArg (fun a : EReal => a * x0 (ix2 r q)) (zE2 x1 x2 r p).symm)
  · refine piece_rows (upd x0 x1 x2 acc) g1 _ 512 (fun p => rfl) inb_S1568x1024_S32x1024_512_0 (fun p q => (P2_at x0 x1 _ p q).trans ?_) z
    rw [ld_rows acc 512 _ p q (g1 p) rfl]
    exact congrArg (fun w : EReal => acc (ix2 (g1 p) q) + w) (Cols.sums fun r => congrArg (fun a : EReal => a * x0 (ix2 r q)) (zE1 x1 x2 r p).symm)
  · refine piece_rows (upd x0 x1 x2 acc) g0 _ 0 (fun p => (Nat.zero_add _).symm) inb_S1568x1024_S512x1024_0_0 (fun p q => (P1_at x0 x1 _ p q).trans ?_) z
    rw [ld_rows acc 0 _ p q (g0 p) (Nat.zero_add _).symm]
    exact congrArg (fun w : EReal => acc (ix2 (g0 p) q) + w) (Cols.sums fun r => congrArg (fun a : EReal => a * x0 (ix2 r q)) (zE0 x1 x2 r p).symm)

variable (i : grid0.Coords) (a1 : Memref sig .tc .vmem S512x1024 .f32) (e1 : a1.IsWhole) (a2 : Memref sig .tc .vmem S512x640 .bf16) (e2 : a2.IsWhole)
  (a3 : Memref sig .tc .vmem S512x1024 .bf16) (e3 : a3.IsWhole) (a4 : Memref sig .tc .vmem S512x1024 .f32) (e4 : a4.IsWhole)
  (a5 : Memref sig .tc .vmem S1568x1024 .bf16) (e5 : a5.IsWhole) (a6 : Memref sig .tc .vmem S512x1024 .f32) (e6 : a6.IsWhole)
  (a7 : Memref sig .tc .vmem S1568x1024 .f32) (e7 : a7.IsWhole)

/-- The matrix's three groups of rows. -/
abbrev ldA : Vec Ideal S512x1024 .bf16 := View.ld x4 (Rect.unit (s := S1568x1024) ![0, 0] S512x1024.size inb_S1568x1024_S512x1024_0_0)
abbrev ldB : Vec Ideal S32x1024 .bf16 := View.ld x4 (Rect.unit (s := S1568x1024) ![512, 0] S32x1024.size inb_S1568x1024_S32x1024_512_0)
abbrev ldC : Vec Ideal S1024x1024 .bf16 := View.ld x4 (Rect.unit (s := S1568x1024) ![544, 0] S1024x1024.size inb_S1568x1024_S1024x1024_544_0)

theorem dx_at (p : Fin 512) (j : Fin 1024) : k0_pay5 (F := Ideal) x1 x2 (ldA x4) (ldB x4) (ldC x4) x3 (ix2 p j) = xE x1 x2 p x3 x4 j := by
  refine (P5_at x1 x2 x3 _ _ _ p j).trans ((add_comm (G := EReal) _ _).trans (congrArg (fun w : EReal => kA * x3 (ix2 p j) + w) ((sum_groups _).trans ?_).symm))
  refine Cols.adds (Cols.adds ?_ ?_) ?_ <;> refine Cols.sums fun k => ?_
  · exact Cols.muls (zE0 x1 x2 p k) (ld_rows x4 0 _ k j (g0 k) (Nat.zero_add _).symm).symm
  · exact Cols.muls (zE1 x1 x2 p k) (ld_rows x4 512 _ k j (g1 k) rfl).symm
  · exact Cols.muls (zE2 x1 x2 p k) (ld_rows x4 544 _ k j (g2 k) rfl).symm

theorem outA5 (hc0) : out0_A_5 c i a1 e1 a2 e2 a3 e3 a4 e4 a5 e5 a6 e6 a7 e7 hc0 x0 x1 x2 x3 x4 = k0_pay5 (F := Ideal) x1 x2 (ldA x4) (ldB x4) (ldC x4) x3 := by
  unfold out0_A_5
  rw [View.read_writes_eq_canon _ _ _ (cover0_A_5 _ _ _ _ _ _ _ _ _ _ _ _ _ _ _ _ _ _ _ _ _ _)]
  unfold kernelRun0_A
  dsimp only
  sl_unfold_words
  simp only [View.readAt_eq_ld, e1.read_unread, e2.read_unread, e3.read_unread, e4.read_unread, e5.read_unread]
  rw [View.canon_unit_zero z2, View.ld_unit_zero z2, View.ld_unit_zero z2, View.ld_unit_zero z2]
theorem outA6 (hc0) : out0_A_6 c i a1 e1 a2 e2 a3 e3 a4 e4 a5 e5 a6 e6 a7 e7 hc0 x0 x1 x2 x3 x4 = fun ix => upd x0 x1 x2 (k0_pay4 (F := Ideal)) (ix 0) (ix 1) := by
  unfold out0_A_6
  rw [View.read_writes_eq_canon _ _ _ (cover0_A_6 _ _ _ _ _ _ _ _ _ _ _ _ _ _ _ _ _ _ _ _ _ _)]
  unfold kernelRun0_A
  dsimp only
  sl_unfold_words
  simp only [View.readAt_eq_ld, e1.read_unread, e2.read_unread, e3.read_unread, e4.read_unread, e5.read_unread]
  simp (disch := decide) only [↓View.readCov_skip]
  rw [View.readCov_fill _ _ _ _ _ (by decide), View.readCov_fill _ _ _ _ _ (by decide), View.readCov_fill _ _ _ _ _ (by decide),
    View.ld_unit_zero z2, View.ld_unit_zero z2, View.ld_unit_zero z2]
  exact stores x0 x1 x2 (k0_pay4 (F := Ideal)) _
theorem outB5 (xo6 : Vec Ideal S1568x1024 .f32) (hc0) : out0_B_5 c i a1 e1 a2 e2 a3 e3 a4 e4 a5 e5 a6 e6 a7 e7 hc0 x0 x1 x2 x3 x4 xo6 = k0_pay5 (F := Ideal) x1 x2 (ldA x4) (ldB x4) (ldC x4) x3 := by
  unfold out0_B_5
  rw [View.read_writes_eq_canon _ _ _ (cover0_B_5 _ _ _ _ _ _ _ _ _ _ _ _ _ _ _ _ _ _ _ _ _ _ _)]
  unfold kernelRun0_B
  dsimp only
  sl_unfold_words
  simp only [View.readAt_eq_ld, e1.read_unread, e2.read_unread, e3.read_unread, e4.read_unread, e5.read_unread, e7.read_unread]
  rw [View.canon_unit_zero z2, View.ld_unit_zero z2, View.ld_unit_zero z2, View.ld_unit_zero z2]
theorem outB6 (xo6 : Vec Ideal S1568x1024 .f32) (hc0) : out0_B_6 c i a1 e1 a2 e2 a3 e3 a4 e4 a5 e5 a6 e6 a7 e7 hc0 x0 x1 x2 x3 x4 xo6 = fun ix => upd x0 x1 x2 xo6 (ix 0) (ix 1) := by
  unfold out0_B_6
  rw [View.read_writes_eq_canon _ _ _ (cover0_B_6 _ _ _ _ _ _ _ _ _ _ _ _ _ _ _ _ _ _ _ _ _ _ _)]
  unfold kernelRun0_B
  dsimp only
  sl_unfold_words
  simp only [View.readAt_eq_ld, e1.read_unread, e2.read_unread, e3.read_unread, e4.read_unread, e5.read_unread, e7.read_unread]
  rw [View.ld_unit_zero z2, View.ld_unit_zero z2, View.ld_unit_zero z2]
  exact stores x0 x1 x2 xo6 []

end Tile

/-! ## The launch -/

/-- The rows, the gradient's two arrays, the gradient of the branch that skips, and the matrix. -/
abbrev aX : FVec Ideal S4096x1024 .f32 := m ((c : Thread nD τ).loc main_arg0)
abbrev aM : FVec Ideal S4096x640 .bf16 := m ((c : Thread nD τ).loc main_arg1)
abbrev aS : FVec Ideal S4096x1024 .bf16 := m ((c : Thread nD τ).loc main_arg2)
abbrev aH : FVec Ideal S4096x1024 .f32 := m ((c : Thread nD τ).loc main_arg3)
abbrev aW : FVec Ideal S1568x1024 .bf16 := m ((c : Thread nD τ).loc main_arg4)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] := by decide +kernel

theorem lt8 (t : Fin cfg0.N) : t.val < 8 := lt_of_lt_of_eq t.isLt N_0

/-- A tile's arguments. -/
abbrev tX (t : Fin cfg0.N) : Vec Ideal S512x1024 .f32 := iblk m c 0 t
abbrev tM (t : Fin cfg0.N) : Vec Ideal S512x640 .bf16 := iblk m c 1 t
abbrev tS (t : Fin cfg0.N) : Vec Ideal S512x1024 .bf16 := iblk m c 2 t
abbrev tH (t : Fin cfg0.N) : Vec Ideal S512x1024 .f32 := iblk m c 3 t
abbrev tW (t : Fin cfg0.N) : Vec Ideal S1568x1024 .bf16 := iblk m c 4 t

theorem blkX (t : Fin cfg0.N) (r : Fin 512) (k : Fin 1024) : tX m c t (ix2 r k) = aX m c (ix2 (col ⟨t.val, lt8 t⟩ r) k) := by
  unfold col
  blk_ext [iblk, idx t]
theorem blkM (t : Fin cfg0.N) (r : Fin 512) (k : Fin 640) : tM m c t (ix2 r k) = aM m c (ix2 (col ⟨t.val, lt8 t⟩ r) k) := by
  unfold col
  blk_ext [iblk, idx t]
theorem blkS (t : Fin cfg0.N) (r : Fin 512) (k : Fin 1024) : tS m c t (ix2 r k) = aS m c (ix2 (col ⟨t.val, lt8 t⟩ r) k) := by
  unfold col
  blk_ext [iblk, idx t]
theorem blkH (t : Fin cfg0.N) (r : Fin 512) (k : Fin 1024) : tH m c t (ix2 r k) = aH m c (ix2 (col ⟨t.val, lt8 t⟩ r) k) := by
  unfold col
  blk_ext [iblk, idx t]
theorem blkW (t : Fin cfg0.N) (k : Fin 1568) (j : Fin 1024) : tW m c t (ix2 k j) = aW m c (ix2 k j) := by blk_ext [iblk, idx t]

theorem zE_tile (t : Fin cfg0.N) (r : Fin 512) (k : Fin 1568) : zE (tM m c t) (tS m c t) r k = zE (aM m c) (aS m c) (col ⟨t.val, lt8 t⟩ r) k :=
  groups (fun k => zE (tM m c t) (tS m c t) r k = zE (aM m c) (aS m c) (col ⟨t.val, lt8 t⟩ r) k)
    (fun n => (zE0 _ _ _ _).trans ((blkM m c t r _).trans (zE0 _ _ _ _).symm)) (fun n => (zE1 _ _ _ _).trans ((blkM m c t r _).trans (zE1 _ _ _ _).symm))
    (fun n => (zE2 _ _ _ _).trans ((blkS m c t r _).trans (zE2 _ _ _ _).symm)) k

theorem xE_tile (t : Fin cfg0.N) (r : Fin 512) (j : Fin 1024) :
    xE (tM m c t) (tS m c t) r (tH m c t) (tW m c t) j = xE (aM m c) (aS m c) (col ⟨t.val, lt8 t⟩ r) (aH m c) (aW m c) j :=
  congrArg₂ (fun a b : EReal => kA * a + b) (blkH m c t r j)
    (Cols.sums fun k => Cols.muls (zE_tile m c t r k) (blkW m c t k j))

/-- A row's part of an entry of the matrix's gradient. -/
def pW (X : FVec Ideal S4096x1024 .f32) (M : FVec Ideal S4096x640 .bf16) (S : FVec Ideal S4096x1024 .bf16) (n : Fin 1568) (j : Fin 1024) (r : Fin 4096) : EReal :=
  zE M S r n * X (ix2 r j)

/-- The gradients at the argument and at the matrix. -/
def gX : FVec Ideal S4096x1024 .f32 := fun ix => xE (aM m c) (aS m c) (ix 0) (aH m c) (aW m c) (ix 1)
def gW : FVec Ideal S1568x1024 .f32 := fun ix => ∑ r, pW (aX m c) (aM m c) (aS m c) (ix 0) (ix 1) r

theorem tile (t : Fin cfg0.N) (n : Fin 1568) (j : Fin 1024) :
    ∑ r : Fin 512, zE (tM m c t) (tS m c t) r n * tX m c t (ix2 r j) = tileSum (pW (aX m c) (aM m c) (aS m c) n j) t.val := by
  rw [tileSum_lt _ (lt8 t)]
  exact Cols.sums fun r => Cols.muls (zE_tile m c t r n) (blkX m c t r j)

/-- After a point, the running sum over the rows so far. -/
theorem acc6 (n : Fin 1568) (j : Fin 1024) : ∀ (q : ℕ) (h : q < cfg0.N), (outsAt0 m c q h).2 (ix2 n j) = upTo (pW (aX m c) (aM m c) (aS m c) n j) q
  | 0, h => by
    refine (congrArg (fun z => z.2 (ix2 n j)) (outsAt0_A m c ⟨0, h⟩ rfl)).trans ?_
    dsimp only
    rw [outA6, upTo_zero]
    refine Eq.trans ?_ (tile m c ⟨0, h⟩ n j)
    refine (congrArg (fun a : EReal => a + ∑ r : Fin 512, zE (tM m c ⟨0, h⟩) (tS m c ⟨0, h⟩) r n * tX m c ⟨0, h⟩ (ix2 r j)) (congrFun zero_eq (ix2 n j))).trans (zero_add (M := EReal) _)
  | q + 1, h => by
    have h8 : q + 1 < 8 := lt8 ⟨q + 1, h⟩
    refine (congrArg (fun z => z.2 (ix2 n j)) (outsAt0_B m c ⟨q + 1, h⟩ (by show ¬(q + 1) % 8 = 0; omega))).trans ?_
    dsimp only
    rw [outB6, upTo_succ]
    exact Cols.adds (acc6 n j q (Nat.lt_of_succ_lt h)) (tile m c ⟨q + 1, h⟩ n j)

theorem out5_at (t : Fin cfg0.N) (r : Fin 512) (j : Fin 1024) : (outsAt0 m c t.val t.isLt).1 (ix2 r j) = gX m c (ix2 (col ⟨t.val, lt8 t⟩ r) j) := by
  by_cases h0 : t.val % 8 = 0
  · refine (congrArg (fun z => z.1 (ix2 r j)) (outsAt0_A m c t h0)).trans ?_
    dsimp only
    rw [outA5]
    exact (dx_at _ _ _ _ r j).trans (xE_tile m c t r j)
  · refine (congrArg (fun z => z.1 (ix2 r j)) (outsAt0_B m c t h0)).trans ?_
    dsimp only
    rw [outB5]
    exact (dx_at _ _ _ _ r j).trans (xE_tile m c t r j)

theorem final5 : (dats m 0 c).arrAt 5 cfg0.N = gX m c := by
  refine (dats m 0 c).arrAt_eq_of_covers 5 _ (by decide +kernel) fun t hf y => ?_
  blk_simp
  rw [after0_5]
  have ey : (y : S512x1024.Idx) = ix2 (y 0 : Fin 512) (y 1 : Fin 1024) := by
    funext a; fin_cases a <;> rfl
  have ee : ((((cfg0.win 5).blk t).view.emb y) : S4096x1024.Idx) = ix2 (col ⟨t.val, lt8 t⟩ (y 0)) (y 1 : Fin 1024) := by
    unfold col
    blk_ext [idx t]
  refine (congrArg (outsAt0 m c t.val t.isLt).1 ey).trans ((out5_at m c t (y 0) (y 1)).trans ?_)
  exact (congrArg (gX m c) ee).symm

theorem final6 : (dats m 0 c).arrAt 6 cfg0.N = gW m c := by
  refine (dats m 0 c).arrAt_eq_of_covers 6 _ (by decide +kernel) fun t hf y => ?_
  have h7 : t.val = 7 := by have := (flush0_6 t).mp hf; have := lt8 t; omega
  blk_simp
  rw [after0_6]
  have ey : (y : S1568x1024.Idx) = ix2 (y 0 : Fin 1568) (y 1 : Fin 1024) := by
    funext a; fin_cases a <;> rfl
  have ee : ((((cfg0.win 6).blk t).view.emb y) : S1568x1024.Idx) = ix2 (y 0 : Fin 1568) (y 1 : Fin 1024) := by
    blk_ext [idx t]
  refine (congrArg (outsAt0 m c t.val t.isLt).2 ey).trans ((acc6 m c (y 0) (y 1) t.val t.isLt).trans ?_)
  rw [h7, upTo_last]
  exact (congrArg (gW m c) ee).symm

/-- The launch, read: both gradients, the arguments unchanged. -/
theorem run_eq (ρ : Dev nD → PrngReg) :
    θ_run defs (onTc (τ := τ) (main (F := Ideal))) ⟨m, fun _ => 0, ρ⟩ fun r => ∀ c : Dev nD,
      r.2.mem ((c.tc : Thread nD τ).loc main_v0_0) = gX m c ∧ r.2.mem ((c.tc : Thread nD τ).loc main_v0_1) = gW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIbIdeal.Val

namespace Cert.ReferenceIbIdeal.Val

open Cert.ReferenceIbIdeal Cert.ReferenceIbIdeal.Gen Idealize.ShloMosaic Idealize.ShloMosaic.TcCoe Idealize.SL.Sem Idealize.ShloMosaic.StableHlo
open Cert.KernelIbIdeal.Val (zE zE0 zE1 zE2 g0 g1 g2 h0 h1 groups xE pW)
open Cert.Norm (kA)

section
variable (X : FVec Ideal S4096x1024 .f32) (M : FVec Ideal S4096x640 .bf16) (S : FVec Ideal S4096x1024 .bf16) (H : FVec Ideal S4096x1024 .f32) (W : FVec Ideal S1568x1024 .bf16)

/-- The gradient at the product's result, put together. -/
def cat : FVec Ideal S4096x1568 .bf16 :=
  concatenate S4096x1568 1 [⟨S4096x512, (extractStridedSlice S4096x512 ![0, 0] M slices_S4096x640_S4096x512_0_0 : FVec Ideal S4096x512 .bf16)⟩,
    ⟨S4096x32, (extractStridedSlice S4096x32 ![0, 576] M slices_S4096x640_S4096x32_0_576 : FVec Ideal S4096x32 .bf16)⟩, ⟨S4096x1024, S⟩]
    concatenates_S4096x512_S4096x32_S4096x1024_S4096x1568_d1

theorem cat_at (r : Fin 4096) (k : Fin 1568) : cat M S (ix2 r k) = zE M S r k := by
  refine groups (fun k => cat M S (ix2 r k) = zE M S r k) (fun n => ?_) (fun n => ?_) (fun n => ?_) k
  · refine Eq.trans ?_ (zE0 M S r n).symm
    unfold cat g0 h0; pointwise
  · refine Eq.trans ?_ (zE1 M S r n).symm
    unfold cat g1 h1; pointwise
  · refine Eq.trans ?_ (zE2 M S r n).symm
    unfold cat g2; pointwise
    rw [dif_neg (by omega), dif_neg (by omega)]
    exact congrArg (fun q => S (ix2 r q)) (Fin.ext (by simp only; omega))

/-- The reference's results. -/
def resX : FVec Ideal S4096x1024 .f32 :=
  addf (mulf (broadcastInDim S4096x1024 ![] bcast_S_S4096x1024 (constant S_ .f32 0x3FB504F3#32)) H)
    (Host.dotGeneral dot_S4096x1568_S1024x1568_S4096x1024_1_1_0_0_n_n none (extf .f32 (cat M S) bitsLt_bf16_f32)
      (transpose S1024x1568 [1, 0] (extf .f32 W bitsLt_bf16_f32) transposes_S1568x1024_S1024x1568_1_0))
def resW : FVec Ideal S1568x1024 .f32 :=
  transpose S1568x1024 [1, 0] (transpose S1024x1568 [1, 0] (Host.dotGeneral dot_S4096x1568_S4096x1024_S1568x1024_0_0_1_1_n_n none (extf .f32 (cat M S) bitsLt_bf16_f32) X)
    transposes_S1568x1024_S1024x1568_1_0) transposes_S1024x1568_S1568x1024_1_0

theorem resX_at (r : Fin 4096) (j : Fin 1024) : resX M S H W (ix2 r j) = xE M S r H W j := by
  refine Eq.trans (b := kA * H (ix2 r j) + ∑ k : Fin 1568, cat M S (ix2 r k) * W (ix2 k j)) ?_ ?_
  · unfold resX; pointwise
  · exact congrArg (fun a : EReal => kA * H (ix2 r j) + a) (Cols.sums fun k => congrArg (fun a : EReal => a * W (ix2 k j)) (cat_at M S r k))
theorem resW_at (n : Fin 1568) (j : Fin 1024) : resW X M S (ix2 n j) = ∑ r, pW X M S n j r := by
  refine Eq.trans (b := ∑ r : Fin 4096, cat M S (ix2 r n) * X (ix2 r j)) ?_ ?_
  · unfold resW; pointwise
  · exact Cols.sums fun r => congrArg (fun a : EReal => a * X (ix2 r j)) (cat_at M S r n)

end

end Cert.ReferenceIbIdeal.Val

namespace Cert.Proof

open Idealize.ShloMosaic Idealize.SL.Sem Cert.KernelIbIdeal.Val Cert.ReferenceIbIdeal.Val

theorem values_Ib : Cert.algebraic_KernelIbIdeal_ReferenceIbIdeal := by
  intro m g m' g' _ hargs
  have meet : ∀ c : Dev Cert.KernelIbIdeal.nD, ∀ ix, _ = gX m c ix := fun c ix =>
    (congrArg _ (eq_ix2 ix)).trans (resX_at (aM m c) (aS m c) (aH m c) (aW m c) (ix 0) (ix 1))
  have meet1 : ∀ c : Dev Cert.KernelIbIdeal.nD, ∀ ix, _ = gW m c ix := fun c ix =>
    (congrArg _ (eq_ix2 ix)).trans (resW_at (aX m c) (aM m c) (aS m c) (ix 0) (ix 1))
  refine ⟨gX m, gW m, run_eq m g,
    (θ_run Cert.ReferenceIbIdeal.defs _ _).mono
      (fun r h c => ⟨(h c).1.trans ?_, (h c).2.1.trans ?_, (h c).2.2⟩)
      (Cert.ReferenceIbIdeal.Value.run m' g')⟩
  · rw [(hargs c).2.1, (hargs c).2.2.1, (hargs c).2.2.2.1, (hargs c).2.2.2.2]
    exact funext (meet c)
  · rw [(hargs c).1, (hargs c).2.1, (hargs c).2.2.1]
    exact funext (meet1 c)

end Cert.Proof

end
-- ==== Proof.lean ====
/-
  The proof of this directory's claims: the frames of the attention gradient (the kernel as compiled, and the same
  kernel over the ideal numbers), the frame of the reference, that the two kernels are one text, and that over the
  extended reals kernel and reference leave equal gradients of the queries, the keys and the values; and the same
  claims of the calls of the feed-forward layers, of both layers' products with their gradients, and of the calls that
  multiply and apply a row's norm or take a gradient back through it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttnFrame
public import proofs.«01_k».proof.Proof.SameText
public import proofs.«01_k».proof.Proof.PreReal
public import proofs.«01_k».proof.Proof.AttnMeet
public import proofs.«01_k».proof.Proof.Gen.KernelDw.Frame
public import proofs.«01_k».proof.Proof.FfDw
public import proofs.«01_k».proof.Proof.Gen.KernelDv.Frame
public import proofs.«01_k».proof.Proof.FfDv
public import proofs.«01_k».proof.Proof.Gen.KernelDa.Frame
public import proofs.«01_k».proof.Proof.FfDa
public import proofs.«01_k».proof.Proof.Gen.KernelUp.Frame
public import proofs.«01_k».proof.Proof.FfUp
public import proofs.«01_k».proof.Proof.Gen.KernelIn.Frame
public import proofs.«01_k».proof.Proof.FfIn
public import proofs.«01_k».proof.Proof.Gen.KernelDn.Frame
public import proofs.«01_k».proof.Proof.FfDn
public import proofs.«01_k».proof.Proof.Gen.KernelDq.Frame
public import proofs.«01_k».proof.Proof.FfDq
public import proofs.«01_k».proof.Proof.Gen.KernelDp.Frame
public import proofs.«01_k».proof.Proof.FfDp
public import proofs.«01_k».proof.Proof.Gen.KernelLn.Frame
public import proofs.«01_k».proof.Proof.FfLn
public import proofs.«01_k».proof.Proof.Gen.KernelLs.Frame
public import proofs.«01_k».proof.Proof.FfLs
public import proofs.«01_k».proof.Proof.Gen.KernelLp.Frame
public import proofs.«01_k».proof.Proof.FfLp
public import proofs.«01_k».proof.Proof.Gen.KernelLm.Frame
public import proofs.«01_k».proof.Proof.FfLm
public import proofs.«01_k».proof.Proof.Gen.KernelDo.Frame
public import proofs.«01_k».proof.Proof.FfDo
public import proofs.«01_k».proof.Proof.Gen.KernelDm.Frame
public import proofs.«01_k».proof.Proof.FfDm
public import proofs.«01_k».proof.Proof.Gen.KernelIb.Frame
public import proofs.«01_k».proof.Proof.FfIb

@[expose] public section

noncomputable section

namespace Cert.Proof

open Idealize.ShloMosaic Idealize.SL.Sem

set_option maxHeartbeats 4000000 in
set_option maxRecDepth 16384 in
/-- The compiled kernel's frame: it is the ideal kernel's text, run at the bits. -/
theorem frame_kernel : Cert.quiescent_Kernel := by
  intro m ρ _
  rw [defs_same]
  exact Cert.KernelIdeal.Attn.frame (F := Bits) m ρ

/-- The ideal kernel's frame. -/
theorem frame_ideal : Cert.quiescent_KernelIdeal := fun m ρ _ => Cert.KernelIdeal.Attn.frame m ρ

/-- The reference's frame. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run m ρ)

set_option maxHeartbeats 1000000 in
/-- The value claim: both runs leave the three gradients that `Cert.Soft` writes. -/
theorem values : Cert.algebraic_KernelIdeal_ReferenceIdeal_pre_finite (hPre_finite := Cert.Pre_finite.Gen.facts) := by
  intro m g m' g' hpre hargs
  have hre := fun c => @Cert.Pre_finite.real_of_fn Cert.Pre_finite.Gen.facts _ _ _ _ (hpre c)
  refine ⟨Cert.KernelIdeal.Attn.gQ m, Cert.KernelIdeal.Attn.gK m, Cert.KernelIdeal.Attn.gV m,
    (θ_run Cert.KernelIdeal.defs _ _).mono
      (fun r h c => ⟨(h c).1.1, (h c).1.2.1, (h c).1.2.2, (h c).2⟩)
      (Cert.KernelIdeal.Attn.run m g (fun c _ _ => (hre c).1 _) (fun c _ _ => (hre c).2.1 _) (fun c _ _ => (hre c).2.2.1 _)
        (fun c _ _ => (hre c).2.2.2 _)),
    (θ_run Cert.ReferenceIdeal.defs _ _).mono
      (fun r h c => ⟨(h c).1.trans (Cert.Meet.meet_Q m m' c (hargs c).1 (hargs c).2.1 (hargs c).2.2.1 (hargs c).2.2.2),
        (h c).2.1.trans (Cert.Meet.meet_K m m' c (hargs c).1 (hargs c).2.1 (hargs c).2.2.1 (hargs c).2.2.2),
        (h c).2.2.1.trans (Cert.Meet.meet_V m m' c (hargs c).1 (hargs c).2.1 (hargs c).2.2.2), (h c).2.2.2⟩)
      (Cert.ReferenceIdeal.Value.run m' g')⟩

/-- The frame of the reference of `KernelDw`. -/
theorem frame_reference_Dw : Cert.quiescent_ReferenceDwIdeal := fun m ρ _ =>
  (θ_run Cert.ReferenceDwIdeal.defs _ _).mono
    (fun r h => ⟨fun c => (h c).2.2, sem_eq_zero_of_no_sems (by decide) r.2⟩)
    (Cert.ReferenceDwIdeal.Value.run m ρ)

/-- The frame of the reference of `KernelDv`. -/
theorem frame_reference_Dv : Cert.quiescent_ReferenceDvIdeal := fun m ρ _ =>
  (θ_run Cert.ReferenceDvIdeal.defs _ _).mono
    (fun r h => ⟨fun c => (h c).2.2, sem_eq_zero_of_no_sems (by decide) r.2⟩)
    (Cert.ReferenceDvIdeal.Value.run m ρ)

/-- The frame of the reference of `KernelDa`. -/
theorem frame_reference_Da : Cert.quiescent_ReferenceDaIdeal := fun m ρ _ =>
  (θ_run Cert.ReferenceDaIdeal.defs _ _).mono
    (fun r h => ⟨fun c => (h c).2, sem_eq_zero_of_no_sems (by decide) r.2⟩)
    (Cert.ReferenceDaIdeal.Value.run m ρ)

/-- The frame of the reference of `KernelUp`. -/
theorem frame_reference_Up : Cert.quiescent_ReferenceUpIdeal := fun m ρ _ =>
  (θ_run Cert.ReferenceUpIdeal.defs _ _).mono
    (fun r h => ⟨fun c => (h c).2.2, sem_eq_zero_of_no_sems (by decide) r.2⟩)
    (Cert.ReferenceUpIdeal.Value.run m ρ)

/-- The frame of the reference of `KernelIn`. -/
theorem frame_reference_In : Cert.quiescent_ReferenceInIdeal := fun m ρ _ =>
  (θ_run Cert.ReferenceInIdeal.defs _ _).mono
    (fun r h => ⟨fun c => (h c).2, sem_eq_zero_of_no_sems (by decide) r.2⟩)
    (Cert.ReferenceInIdeal.Value.run m ρ)

/-- The frame of the reference of `KernelDn`. -/
theorem frame_reference_Dn : Cert.quiescent_ReferenceDnIdeal := fun m ρ _ =>
  (θ_run Cert.ReferenceDnIdeal.defs _ _).mono
    (fun r h => ⟨fun c => (h c).2.2.2.2, sem_eq_zero_of_no_sems (by decide) r.2⟩)
    (Cert.ReferenceDnIdeal.Value.run m ρ)

/-- The frame of the reference of `KernelDq`. -/
theorem frame_reference_Dq : Cert.quiescent_ReferenceDqIdeal := fun m ρ _ =>
  (θ_run Cert.ReferenceDqIdeal.defs _ _).mono
    (fun r h => ⟨fun c => (h c).2.2.2.2.2, sem_eq_zero_of_no_sems (by decide) r.2⟩)
    (Cert.ReferenceDqIdeal.Value.run m ρ)

/-- The frame of the reference of `KernelDp`. -/
theorem frame_reference_Dp : Cert.quiescent_ReferenceDpIdeal := fun m ρ _ =>
  (θ_run Cert.ReferenceDpIdeal.defs _ _).mono
    (fun r h => ⟨fun c => (h c).2.2.2.2.2, sem_eq_zero_of_no_sems (by decide) r.2⟩)
    (Cert.ReferenceDpIdeal.Value.run m ρ)

/-- The frame of the reference of `KernelLn`. -/
theorem frame_reference_Ln : Cert.quiescent_ReferenceLnIdeal := fun m ρ _ =>
  (θ_run Cert.ReferenceLnIdeal.defs _ _).mono
    (fun r h => ⟨fun c => (h c).2.2.2, sem_eq_zero_of_no_sems (by decide) r.2⟩)
    (Cert.ReferenceLnIdeal.Value.run m ρ)

/-- The frame of the reference of `KernelLs`. -/
theorem frame_reference_Ls : Cert.quiescent_ReferenceLsIdeal := fun m ρ _ =>
  (θ_run Cert.ReferenceLsIdeal.defs _ _).mono
    (fun r h => ⟨fun c => (h c).2.2.2.2.2, sem_eq_zero_of_no_sems (by decide) r.2⟩)
    (Cert.ReferenceLsIdeal.Value.run m ρ)

/-- The frame of the reference of `KernelLp`. -/
theorem frame_reference_Lp : Cert.quiescent_ReferenceLpIdeal := fun m ρ _ =>
  (θ_run Cert.ReferenceLpIdeal.defs _ _).mono
    (fun r h => ⟨fun c => (h c).2.2.2, sem_eq_zero_of_no_sems (by decide) r.2⟩)
    (Cert.ReferenceLpIdeal.Value.run m ρ)

/-- The frame of the reference of `KernelLm`. -/
theorem frame_reference_Lm : Cert.quiescent_ReferenceLmIdeal := fun m ρ _ =>
  (θ_run Cert.ReferenceLmIdeal.defs _ _).mono
    (fun r h => ⟨fun c => (h c).2.2.2, sem_eq_zero_of_no_sems (by decide) r.2⟩)
    (Cert.ReferenceLmIdeal.Value.run m ρ)

/-- The frame of the reference of `KernelDo`. -/
theorem frame_reference_Do : Cert.quiescent_ReferenceDoIdeal := fun m ρ _ =>
  (θ_run Cert.ReferenceDoIdeal.defs _ _).mono
    (fun r h => ⟨fun c => (h c).2.2, sem_eq_zero_of_no_sems (by decide) r.2⟩)
    (Cert.ReferenceDoIdeal.Value.run m ρ)

/-- The frame of the reference of `KernelDm`. -/
theorem frame_reference_Dm : Cert.quiescent_ReferenceDmIdeal := fun m ρ _ =>
  (θ_run Cert.ReferenceDmIdeal.defs _ _).mono
    (fun r h => ⟨fun c => (h c).2.2, sem_eq_zero_of_no_sems (by decide) r.2⟩)
    (Cert.ReferenceDmIdeal.Value.run m ρ)

/-- The frame of the reference of `KernelIb`. -/
theorem frame_reference_Ib : Cert.quiescent_ReferenceIbIdeal := fun m ρ _ =>
  (θ_run Cert.ReferenceIbIdeal.defs _ _).mono
    (fun r h => ⟨fun c => (h c).2.2, sem_eq_zero_of_no_sems (by decide) r.2⟩)
    (Cert.ReferenceIbIdeal.Value.run m ρ)

theorem claim : Cert.Claim := ⟨Cert.Kernel.Gen.facts, Cert.KernelIdeal.Gen.facts, Cert.ReferenceIdeal.Gen.facts,
  Cert.KernelDw.Gen.facts, Cert.KernelDwIdeal.Gen.facts, Cert.ReferenceDwIdeal.Gen.facts,
  Cert.KernelDv.Gen.facts, Cert.KernelDvIdeal.Gen.facts, Cert.ReferenceDvIdeal.Gen.facts,
  Cert.KernelDa.Gen.facts, Cert.KernelDaIdeal.Gen.facts, Cert.ReferenceDaIdeal.Gen.facts,
  Cert.KernelUp.Gen.facts, Cert.KernelUpIdeal.Gen.facts, Cert.ReferenceUpIdeal.Gen.facts,
  Cert.KernelIn.Gen.facts, Cert.KernelInIdeal.Gen.facts, Cert.ReferenceInIdeal.Gen.facts,
  Cert.KernelDn.Gen.facts, Cert.KernelDnIdeal.Gen.facts, Cert.ReferenceDnIdeal.Gen.facts,
  Cert.KernelDq.Gen.facts, Cert.KernelDqIdeal.Gen.facts, Cert.ReferenceDqIdeal.Gen.facts,
  Cert.KernelDp.Gen.facts, Cert.KernelDpIdeal.Gen.facts, Cert.ReferenceDpIdeal.Gen.facts,
  Cert.KernelLn.Gen.facts, Cert.KernelLnIdeal.Gen.facts, Cert.ReferenceLnIdeal.Gen.facts,
  Cert.KernelLs.Gen.facts, Cert.KernelLsIdeal.Gen.facts, Cert.ReferenceLsIdeal.Gen.facts,
  Cert.KernelLp.Gen.facts, Cert.KernelLpIdeal.Gen.facts, Cert.ReferenceLpIdeal.Gen.facts,
  Cert.KernelLm.Gen.facts, Cert.KernelLmIdeal.Gen.facts, Cert.ReferenceLmIdeal.Gen.facts,
  Cert.KernelDo.Gen.facts, Cert.KernelDoIdeal.Gen.facts, Cert.ReferenceDoIdeal.Gen.facts,
  Cert.KernelDm.Gen.facts, Cert.KernelDmIdeal.Gen.facts, Cert.ReferenceDmIdeal.Gen.facts,
  Cert.KernelIb.Gen.facts, Cert.KernelIbIdeal.Gen.facts, Cert.ReferenceIbIdeal.Gen.facts,
  Cert.Pre_finite.Gen.facts, Cert.Pre_finite_norm.Gen.facts, Cert.Pre_finite_norm_mix.Gen.facts, Cert.Pre_finite_norm_out.Gen.facts, Cert.Pre_finite_loss.Gen.facts, frame_kernel, frame_ideal, fun m ρ _ => frame_ideal m ρ trivial, frame_reference,
  fun m ρ _ => frame_reference m ρ trivial,
  fun m ρ _ => Cert.KernelDw.Gen.frame m ρ, fun m ρ _ => Cert.KernelDwIdeal.Gen.frame m ρ, frame_reference_Dw,
  fun m ρ _ => Cert.KernelDv.Gen.frame m ρ, fun m ρ _ => Cert.KernelDvIdeal.Gen.frame m ρ, frame_reference_Dv,
  fun m ρ _ => Cert.KernelDa.Gen.frame m ρ, fun m ρ _ => Cert.KernelDaIdeal.Gen.frame m ρ, frame_reference_Da,
  fun m ρ _ => Cert.KernelUp.Gen.frame m ρ, fun m ρ _ => Cert.KernelUpIdeal.Gen.frame m ρ, frame_reference_Up,
  fun m ρ _ => Cert.KernelIn.Gen.frame m ρ, fun m ρ _ => Cert.KernelInIdeal.Gen.frame m ρ, frame_reference_In,
  fun m ρ _ => Cert.KernelDn.Gen.frame m ρ, fun m ρ _ => Cert.KernelDnIdeal.Gen.frame m ρ, fun m ρ _ => Cert.KernelDnIdeal.Gen.frame m ρ, frame_reference_Dn,
  fun m ρ _ => frame_reference_Dn m ρ trivial,
  fun m ρ _ => Cert.KernelDq.Gen.frame m ρ, fun m ρ _ => Cert.KernelDqIdeal.Gen.frame m ρ, fun m ρ _ => Cert.KernelDqIdeal.Gen.frame m ρ, frame_reference_Dq,
  fun m ρ _ => frame_reference_Dq m ρ trivial,
  fun m ρ _ => Cert.KernelDp.Gen.frame m ρ, fun m ρ _ => Cert.KernelDpIdeal.Gen.frame m ρ, fun m ρ _ => Cert.KernelDpIdeal.Gen.frame m ρ, frame_reference_Dp,
  fun m ρ _ => frame_reference_Dp m ρ trivial,
  fun m ρ _ => Cert.KernelLn.Gen.frame m ρ, fun m ρ _ => Cert.KernelLnIdeal.Gen.frame m ρ, frame_reference_Ln,
  fun m ρ _ => Cert.KernelLs.Gen.frame m ρ, fun m ρ _ => Cert.KernelLsIdeal.Gen.frame m ρ, fun m ρ _ => Cert.KernelLsIdeal.Gen.frame m ρ, frame_reference_Ls,
  fun m ρ _ => frame_reference_Ls m ρ trivial,
  fun m ρ _ => Cert.KernelLp.Gen.frame m ρ, fun m ρ _ => Cert.KernelLpIdeal.Gen.frame m ρ, frame_reference_Lp,
  fun m ρ _ => Cert.KernelLm.Gen.frame m ρ, fun m ρ _ => Cert.KernelLmIdeal.Gen.frame m ρ, frame_reference_Lm,
  fun m ρ _ => Cert.KernelDo.Gen.frame m ρ, fun m ρ _ => Cert.KernelDoIdeal.Gen.frame m ρ, frame_reference_Do,
  fun m ρ _ => Cert.KernelDm.Gen.frame m ρ, fun m ρ _ => Cert.KernelDmIdeal.Gen.frame m ρ, frame_reference_Dm,
  fun m ρ _ => Cert.KernelIb.Gen.frame m ρ, fun m ρ _ => Cert.KernelIbIdeal.Gen.frame m ρ, frame_reference_Ib,
  trivial, values, trivial, values_Dw, trivial, values_Dv, trivial, values_Da, trivial, values_Up, trivial, values_In,
  trivial, values_Dn, trivial, values_Dq, trivial, values_Dp, trivial, values_Ln, trivial, values_Ls, trivial, values_Lp, trivial, values_Lm, trivial, values_Do, trivial, values_Dm, trivial, values_Ib⟩

end Cert.Proof

end
